-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_KernelDwin (m : (ℓ : Loc Cert.KernelDwin.nD Cert.KernelDwin.τ Cert.KernelDwin.sig) → Buf (Elt Bits) ℓ) : Prop :=
  True

def Pre_KernelDwinIdeal (m : (ℓ : Loc Cert.KernelDwinIdeal.nD Cert.KernelDwinIdeal.τ Cert.KernelDwinIdeal.sig) → Buf (Elt Ideal) ℓ) : Prop :=
  True

def Pre_ReferenceDwinIdeal (m : (ℓ : Loc Cert.ReferenceDwinIdeal.nD Cert.ReferenceDwinIdeal.τ Cert.ReferenceDwinIdeal.sig) → Buf (Elt Ideal) ℓ) : Prop :=
  True

def Pre_KernelDwout (m : (ℓ : Loc Cert.KernelDwout.nD Cert.KernelDwout.τ Cert.KernelDwout.sig) → Buf (Elt Bits) ℓ) : Prop :=
  True

def Pre_KernelDwoutIdeal (m : (ℓ : Loc Cert.KernelDwoutIdeal.nD Cert.KernelDwoutIdeal.τ Cert.KernelDwoutIdeal.sig) → Buf (Elt Ideal) ℓ) : Prop :=
  True

def Pre_ReferenceDwoutIdeal (m : (ℓ : Loc Cert.ReferenceDwoutIdeal.nD Cert.ReferenceDwoutIdeal.τ Cert.ReferenceDwoutIdeal.sig) → Buf (Elt Ideal) ℓ) : Prop :=
  True

def Pre_KernelZ (m : (ℓ : Loc Cert.KernelZ.nD Cert.KernelZ.τ Cert.KernelZ.sig) → Buf (Elt Bits) ℓ) : Prop :=
  True

def Pre_KernelZIdeal (m : (ℓ : Loc Cert.KernelZIdeal.nD Cert.KernelZIdeal.τ Cert.KernelZIdeal.sig) → Buf (Elt Ideal) ℓ) : Prop :=
  True

def Pre_ReferenceZIdeal (m : (ℓ : Loc Cert.ReferenceZIdeal.nD Cert.ReferenceZIdeal.τ Cert.ReferenceZIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelDout (m : (ℓ : Loc Cert.KernelDout.nD Cert.KernelDout.τ Cert.KernelDout.sig) → Buf (Elt Bits) ℓ) : Prop :=
  True

def Pre_KernelDoutIdeal (m : (ℓ : Loc Cert.KernelDoutIdeal.nD Cert.KernelDoutIdeal.τ Cert.KernelDoutIdeal.sig) → Buf (Elt Ideal) ℓ) : Prop :=
  True

def Pre_KernelDoutIdeal_finite_branch [hPre_finite_branch : Cert.Pre_finite_branch.Facts] (m : (ℓ : Loc Cert.KernelDoutIdeal.nD Cert.KernelDoutIdeal.τ Cert.KernelDoutIdeal.sig) → Buf (Elt Ideal) ℓ) : Prop :=
  ∀ c : Dev Cert.KernelDoutIdeal.nD,
    (Cert.Pre_finite_branch.fn (F := Ideal) (m ((c.tc : Thread Cert.KernelDoutIdeal.nD Cert.KernelDoutIdeal.τ).loc Cert.KernelDoutIdeal.main_arg0)) (m ((c.tc : Thread Cert.KernelDoutIdeal.nD Cert.KernelDoutIdeal.τ).loc Cert.KernelDoutIdeal.main_arg1)) (m ((c.tc : Thread Cert.KernelDoutIdeal.nD Cert.KernelDoutIdeal.τ).loc Cert.KernelDoutIdeal.main_arg2)) (m ((c.tc : Thread Cert.KernelDoutIdeal.nD Cert.KernelDoutIdeal.τ).loc Cert.KernelDoutIdeal.main_arg3)) (m ((c.tc : Thread Cert.KernelDoutIdeal.nD Cert.KernelDoutIdeal.τ).loc Cert.KernelDoutIdeal.main_arg4)) (m ((c.tc : Thread Cert.KernelDoutIdeal.nD Cert.KernelDoutIdeal.τ).loc Cert.KernelDoutIdeal.main_arg5))).1 = (fun _ => 1#1)
    ∧ (Cert.Pre_finite_branch.fn (F := Ideal) (m ((c.tc : Thread Cert.KernelDoutIdeal.nD Cert.KernelDoutIdeal.τ).loc Cert.KernelDoutIdeal.main_arg0)) (m ((c.tc : Thread Cert.KernelDoutIdeal.nD Cert.KernelDoutIdeal.τ).loc Cert.KernelDoutIdeal.main_arg1)) (m ((c.tc : Thread Cert.KernelDoutIdeal.nD Cert.KernelDoutIdeal.τ).loc Cert.KernelDoutIdeal.main_arg2)) (m ((c.tc : Thread Cert.KernelDoutIdeal.nD Cert.KernelDoutIdeal.τ).loc Cert.KernelDoutIdeal.main_arg3)) (m ((c.tc : Thread Cert.KernelDoutIdeal.nD Cert.KernelDoutIdeal.τ).loc Cert.KernelDoutIdeal.main_arg4)) (m ((c.tc : Thread Cert.KernelDoutIdeal.nD Cert.KernelDoutIdeal.τ).loc Cert.KernelDoutIdeal.main_arg5))).2.1 = (fun _ => 1#1)
    ∧ (Cert.Pre_finite_branch.fn (F := Ideal) (m ((c.tc : Thread Cert.KernelDoutIdeal.nD Cert.KernelDoutIdeal.τ).loc Cert.KernelDoutIdeal.main_arg0)) (m ((c.tc : Thread Cert.KernelDoutIdeal.nD Cert.KernelDoutIdeal.τ).loc Cert.KernelDoutIdeal.main_arg1)) (m ((c.tc : Thread Cert.KernelDoutIdeal.nD Cert.KernelDoutIdeal.τ).loc Cert.KernelDoutIdeal.main_arg2)) (m ((c.tc : Thread Cert.KernelDoutIdeal.nD Cert.KernelDoutIdeal.τ).loc Cert.KernelDoutIdeal.main_arg3)) (m ((c.tc : Thread Cert.KernelDoutIdeal.nD Cert.KernelDoutIdeal.τ).loc Cert.KernelDoutIdeal.main_arg4)) (m ((c.tc : Thread Cert.KernelDoutIdeal.nD Cert.KernelDoutIdeal.τ).loc Cert.KernelDoutIdeal.main_arg5))).2.2.1 = (fun _ => 1#1)
    ∧ (Cert.Pre_finite_branch.fn (F := Ideal) (m ((c.tc : Thread Cert.KernelDoutIdeal.nD Cert.KernelDoutIdeal.τ).loc Cert.KernelDoutIdeal.main_arg0)) (m ((c.tc : Thread Cert.KernelDoutIdeal.nD Cert.KernelDoutIdeal.τ).loc Cert.KernelDoutIdeal.main_arg1)) (m ((c.tc : Thread Cert.KernelDoutIdeal.nD Cert.KernelDoutIdeal.τ).loc Cert.KernelDoutIdeal.main_arg2)) (m ((c.tc : Thread Cert.KernelDoutIdeal.nD Cert.KernelDoutIdeal.τ).loc Cert.KernelDoutIdeal.main_arg3)) (m ((c.tc : Thread Cert.KernelDoutIdeal.nD Cert.KernelDoutIdeal.τ).loc Cert.KernelDoutIdeal.main_arg4)) (m ((c.tc : Thread Cert.KernelDoutIdeal.nD Cert.KernelDoutIdeal.τ).loc Cert.KernelDoutIdeal.main_arg5))).2.2.2 = (fun _ => 1#1)

def Pre_ReferenceDoutIdeal (m : (ℓ : Loc Cert.ReferenceDoutIdeal.nD Cert.ReferenceDoutIdeal.τ Cert.ReferenceDoutIdeal.sig) → Buf (Elt Ideal) ℓ) : Prop :=
  True

def Pre_ReferenceDoutIdeal_finite_branch [hPre_finite_branch : Cert.Pre_finite_branch.Facts] (m : (ℓ : Loc Cert.ReferenceDoutIdeal.nD Cert.ReferenceDoutIdeal.τ Cert.ReferenceDoutIdeal.sig) → Buf (Elt Ideal) ℓ) : Prop :=
  ∀ c : Dev Cert.ReferenceDoutIdeal.nD,
    (Cert.Pre_finite_branch.fn (F := Ideal) (m ((c.tc : Thread Cert.ReferenceDoutIdeal.nD Cert.ReferenceDoutIdeal.τ).loc Cert.ReferenceDoutIdeal.main_arg0)) (m ((c.tc : Thread Cert.ReferenceDoutIdeal.nD Cert.ReferenceDoutIdeal.τ).loc Cert.ReferenceDoutIdeal.main_arg1)) (m ((c.tc : Thread Cert.ReferenceDoutIdeal.nD Cert.ReferenceDoutIdeal.τ).loc Cert.ReferenceDoutIdeal.main_arg2)) (m ((c.tc : Thread Cert.ReferenceDoutIdeal.nD Cert.ReferenceDoutIdeal.τ).loc Cert.ReferenceDoutIdeal.main_arg3)) (m ((c.tc : Thread Cert.ReferenceDoutIdeal.nD Cert.ReferenceDoutIdeal.τ).loc Cert.ReferenceDoutIdeal.main_arg4)) (m ((c.tc : Thread Cert.ReferenceDoutIdeal.nD Cert.ReferenceDoutIdeal.τ).loc Cert.ReferenceDoutIdeal.main_arg5))).1 = (fun _ => 1#1)
    ∧ (Cert.Pre_finite_branch.fn (F := Ideal) (m ((c.tc : Thread Cert.ReferenceDoutIdeal.nD Cert.ReferenceDoutIdeal.τ).loc Cert.ReferenceDoutIdeal.main_arg0)) (m ((c.tc : Thread Cert.ReferenceDoutIdeal.nD Cert.ReferenceDoutIdeal.τ).loc Cert.ReferenceDoutIdeal.main_arg1)) (m ((c.tc : Thread Cert.ReferenceDoutIdeal.nD Cert.ReferenceDoutIdeal.τ).loc Cert.ReferenceDoutIdeal.main_arg2)) (m ((c.tc : Thread Cert.ReferenceDoutIdeal.nD Cert.ReferenceDoutIdeal.τ).loc Cert.ReferenceDoutIdeal.main_arg3)) (m ((c.tc : Thread Cert.ReferenceDoutIdeal.nD Cert.ReferenceDoutIdeal.τ).loc Cert.ReferenceDoutIdeal.main_arg4)) (m ((c.tc : Thread Cert.ReferenceDoutIdeal.nD Cert.ReferenceDoutIdeal.τ).loc Cert.ReferenceDoutIdeal.main_arg5))).2.1 = (fun _ => 1#1)
    ∧ (Cert.Pre_finite_branch.fn (F := Ideal) (m ((c.tc : Thread Cert.ReferenceDoutIdeal.nD Cert.ReferenceDoutIdeal.τ).loc Cert.ReferenceDoutIdeal.main_arg0)) (m ((c.tc : Thread Cert.ReferenceDoutIdeal.nD Cert.ReferenceDoutIdeal.τ).loc Cert.ReferenceDoutIdeal.main_arg1)) (m ((c.tc : Thread Cert.ReferenceDoutIdeal.nD Cert.ReferenceDoutIdeal.τ).loc Cert.ReferenceDoutIdeal.main_arg2)) (m ((c.tc : Thread Cert.ReferenceDoutIdeal.nD Cert.ReferenceDoutIdeal.τ).loc Cert.ReferenceDoutIdeal.main_arg3)) (m ((c.tc : Thread Cert.ReferenceDoutIdeal.nD Cert.ReferenceDoutIdeal.τ).loc Cert.ReferenceDoutIdeal.main_arg4)) (m ((c.tc : Thread Cert.ReferenceDoutIdeal.nD Cert.ReferenceDoutIdeal.τ).loc Cert.ReferenceDoutIdeal.main_arg5))).2.2.1 = (fun _ => 1#1)
    ∧ (Cert.Pre_finite_branch.fn (F := Ideal) (m ((c.tc : Thread Cert.ReferenceDoutIdeal.nD Cert.ReferenceDoutIdeal.τ).loc Cert.ReferenceDoutIdeal.main_arg0)) (m ((c.tc : Thread Cert.ReferenceDoutIdeal.nD Cert.ReferenceDoutIdeal.τ).loc Cert.ReferenceDoutIdeal.main_arg1)) (m ((c.tc : Thread Cert.ReferenceDoutIdeal.nD Cert.ReferenceDoutIdeal.τ).loc Cert.ReferenceDoutIdeal.main_arg2)) (m ((c.tc : Thread Cert.ReferenceDoutIdeal.nD Cert.ReferenceDoutIdeal.τ).loc Cert.ReferenceDoutIdeal.main_arg3)) (m ((c.tc : Thread Cert.ReferenceDoutIdeal.nD Cert.ReferenceDoutIdeal.τ).loc Cert.ReferenceDoutIdeal.main_arg4)) (m ((c.tc : Thread Cert.ReferenceDoutIdeal.nD Cert.ReferenceDoutIdeal.τ).loc Cert.ReferenceDoutIdeal.main_arg5))).2.2.2 = (fun _ => 1#1)

def Pre_KernelFoxOut (m : (ℓ : Loc Cert.KernelFoxOut.nD Cert.KernelFoxOut.τ Cert.KernelFoxOut.sig) → Buf (Elt Bits) ℓ) : Prop :=
  True

def Pre_KernelFoxOutIdeal (m : (ℓ : Loc Cert.KernelFoxOutIdeal.nD Cert.KernelFoxOutIdeal.τ Cert.KernelFoxOutIdeal.sig) → Buf (Elt Ideal) ℓ) : Prop :=
  True

def Pre_ReferenceFoxOutIdeal (m : (ℓ : Loc Cert.ReferenceFoxOutIdeal.nD Cert.ReferenceFoxOutIdeal.τ Cert.ReferenceFoxOutIdeal.sig) → Buf (Elt Ideal) ℓ) : Prop :=
  True

def Pre_KernelFoxDout (m : (ℓ : Loc Cert.KernelFoxDout.nD Cert.KernelFoxDout.τ Cert.KernelFoxDout.sig) → Buf (Elt Bits) ℓ) : Prop :=
  True

def Pre_KernelFoxDoutIdeal (m : (ℓ : Loc Cert.KernelFoxDoutIdeal.nD Cert.KernelFoxDoutIdeal.τ Cert.KernelFoxDoutIdeal.sig) → Buf (Elt Ideal) ℓ) : Prop :=
  True

def Pre_KernelFoxDoutIdeal_finite_fox_branch [hPre_finite_fox_branch : Cert.Pre_finite_fox_branch.Facts] (m : (ℓ : Loc Cert.KernelFoxDoutIdeal.nD Cert.KernelFoxDoutIdeal.τ Cert.KernelFoxDoutIdeal.sig) → Buf (Elt Ideal) ℓ) : Prop :=
  ∀ c : Dev Cert.KernelFoxDoutIdeal.nD,
    (Cert.Pre_finite_fox_branch.fn (F := Ideal) (m ((c.tc : Thread Cert.KernelFoxDoutIdeal.nD Cert.KernelFoxDoutIdeal.τ).loc Cert.KernelFoxDoutIdeal.main_arg0)) (m ((c.tc : Thread Cert.KernelFoxDoutIdeal.nD Cert.KernelFoxDoutIdeal.τ).loc Cert.KernelFoxDoutIdeal.main_arg1)) (m ((c.tc : Thread Cert.KernelFoxDoutIdeal.nD Cert.KernelFoxDoutIdeal.τ).loc Cert.KernelFoxDoutIdeal.main_arg2)) (m ((c.tc : Thread Cert.KernelFoxDoutIdeal.nD Cert.KernelFoxDoutIdeal.τ).loc Cert.KernelFoxDoutIdeal.main_arg3)) (m ((c.tc : Thread Cert.KernelFoxDoutIdeal.nD Cert.KernelFoxDoutIdeal.τ).loc Cert.KernelFoxDoutIdeal.main_arg4)) (m ((c.tc : Thread Cert.KernelFoxDoutIdeal.nD Cert.KernelFoxDoutIdeal.τ).loc Cert.KernelFoxDoutIdeal.main_arg5))).1 = (fun _ => 1#1)
    ∧ (Cert.Pre_finite_fox_branch.fn (F := Ideal) (m ((c.tc : Thread Cert.KernelFoxDoutIdeal.nD Cert.KernelFoxDoutIdeal.τ).loc Cert.KernelFoxDoutIdeal.main_arg0)) (m ((c.tc : Thread Cert.KernelFoxDoutIdeal.nD Cert.KernelFoxDoutIdeal.τ).loc Cert.KernelFoxDoutIdeal.main_arg1)) (m ((c.tc : Thread Cert.KernelFoxDoutIdeal.nD Cert.KernelFoxDoutIdeal.τ).loc Cert.KernelFoxDoutIdeal.main_arg2)) (m ((c.tc : Thread Cert.KernelFoxDoutIdeal.nD Cert.KernelFoxDoutIdeal.τ).loc Cert.KernelFoxDoutIdeal.main_arg3)) (m ((c.tc : Thread Cert.KernelFoxDoutIdeal.nD Cert.KernelFoxDoutIdeal.τ).loc Cert.KernelFoxDoutIdeal.main_arg4)) (m ((c.tc : Thread Cert.KernelFoxDoutIdeal.nD Cert.KernelFoxDoutIdeal.τ).loc Cert.KernelFoxDoutIdeal.main_arg5))).2.1 = (fun _ => 1#1)
    ∧ (Cert.Pre_finite_fox_branch.fn (F := Ideal) (m ((c.tc : Thread Cert.KernelFoxDoutIdeal.nD Cert.KernelFoxDoutIdeal.τ).loc Cert.KernelFoxDoutIdeal.main_arg0)) (m ((c.tc : Thread Cert.KernelFoxDoutIdeal.nD Cert.KernelFoxDoutIdeal.τ).loc Cert.KernelFoxDoutIdeal.main_arg1)) (m ((c.tc : Thread Cert.KernelFoxDoutIdeal.nD Cert.KernelFoxDoutIdeal.τ).loc Cert.KernelFoxDoutIdeal.main_arg2)) (m ((c.tc : Thread Cert.KernelFoxDoutIdeal.nD Cert.KernelFoxDoutIdeal.τ).loc Cert.KernelFoxDoutIdeal.main_arg3)) (m ((c.tc : Thread Cert.KernelFoxDoutIdeal.nD Cert.KernelFoxDoutIdeal.τ).loc Cert.KernelFoxDoutIdeal.main_arg4)) (m ((c.tc : Thread Cert.KernelFoxDoutIdeal.nD Cert.KernelFoxDoutIdeal.τ).loc Cert.KernelFoxDoutIdeal.main_arg5))).2.2.1 = (fun _ => 1#1)
    ∧ (Cert.Pre_finite_fox_branch.fn (F := Ideal) (m ((c.tc : Thread Cert.KernelFoxDoutIdeal.nD Cert.KernelFoxDoutIdeal.τ).loc Cert.KernelFoxDoutIdeal.main_arg0)) (m ((c.tc : Thread Cert.KernelFoxDoutIdeal.nD Cert.KernelFoxDoutIdeal.τ).loc Cert.KernelFoxDoutIdeal.main_arg1)) (m ((c.tc : Thread Cert.KernelFoxDoutIdeal.nD Cert.KernelFoxDoutIdeal.τ).loc Cert.KernelFoxDoutIdeal.main_arg2)) (m ((c.tc : Thread Cert.KernelFoxDoutIdeal.nD Cert.KernelFoxDoutIdeal.τ).loc Cert.KernelFoxDoutIdeal.main_arg3)) (m ((c.tc : Thread Cert.KernelFoxDoutIdeal.nD Cert.KernelFoxDoutIdeal.τ).loc Cert.KernelFoxDoutIdeal.main_arg4)) (m ((c.tc : Thread Cert.KernelFoxDoutIdeal.nD Cert.KernelFoxDoutIdeal.τ).loc Cert.KernelFoxDoutIdeal.main_arg5))).2.2.2 = (fun _ => 1#1)

def Pre_ReferenceFoxDoutIdeal (m : (ℓ : Loc Cert.ReferenceFoxDoutIdeal.nD Cert.ReferenceFoxDoutIdeal.τ Cert.ReferenceFoxDoutIdeal.sig) → Buf (Elt Ideal) ℓ) : Prop :=
  True

def Pre_ReferenceFoxDoutIdeal_finite_fox_branch [hPre_finite_fox_branch : Cert.Pre_finite_fox_branch.Facts] (m : (ℓ : Loc Cert.ReferenceFoxDoutIdeal.nD Cert.ReferenceFoxDoutIdeal.τ Cert.ReferenceFoxDoutIdeal.sig) → Buf (Elt Ideal) ℓ) : Prop :=
  ∀ c : Dev Cert.ReferenceFoxDoutIdeal.nD,
    (Cert.Pre_finite_fox_branch.fn (F := Ideal) (m ((c.tc : Thread Cert.ReferenceFoxDoutIdeal.nD Cert.ReferenceFoxDoutIdeal.τ).loc Cert.ReferenceFoxDoutIdeal.main_arg0)) (m ((c.tc : Thread Cert.ReferenceFoxDoutIdeal.nD Cert.ReferenceFoxDoutIdeal.τ).loc Cert.ReferenceFoxDoutIdeal.main_arg1)) (m ((c.tc : Thread Cert.ReferenceFoxDoutIdeal.nD Cert.ReferenceFoxDoutIdeal.τ).loc Cert.ReferenceFoxDoutIdeal.main_arg2)) (m ((c.tc : Thread Cert.ReferenceFoxDoutIdeal.nD Cert.ReferenceFoxDoutIdeal.τ).loc Cert.ReferenceFoxDoutIdeal.main_arg3)) (m ((c.tc : Thread Cert.ReferenceFoxDoutIdeal.nD Cert.ReferenceFoxDoutIdeal.τ).loc Cert.ReferenceFoxDoutIdeal.main_arg4)) (m ((c.tc : Thread Cert.ReferenceFoxDoutIdeal.nD Cert.ReferenceFoxDoutIdeal.τ).loc Cert.ReferenceFoxDoutIdeal.main_arg5))).1 = (fun _ => 1#1)
    ∧ (Cert.Pre_finite_fox_branch.fn (F := Ideal) (m ((c.tc : Thread Cert.ReferenceFoxDoutIdeal.nD Cert.ReferenceFoxDoutIdeal.τ).loc Cert.ReferenceFoxDoutIdeal.main_arg0)) (m ((c.tc : Thread Cert.ReferenceFoxDoutIdeal.nD Cert.ReferenceFoxDoutIdeal.τ).loc Cert.ReferenceFoxDoutIdeal.main_arg1)) (m ((c.tc : Thread Cert.ReferenceFoxDoutIdeal.nD Cert.ReferenceFoxDoutIdeal.τ).loc Cert.ReferenceFoxDoutIdeal.main_arg2)) (m ((c.tc : Thread Cert.ReferenceFoxDoutIdeal.nD Cert.ReferenceFoxDoutIdeal.τ).loc Cert.ReferenceFoxDoutIdeal.main_arg3)) (m ((c.tc : Thread Cert.ReferenceFoxDoutIdeal.nD Cert.ReferenceFoxDoutIdeal.τ).loc Cert.ReferenceFoxDoutIdeal.main_arg4)) (m ((c.tc : Thread Cert.ReferenceFoxDoutIdeal.nD Cert.ReferenceFoxDoutIdeal.τ).loc Cert.ReferenceFoxDoutIdeal.main_arg5))).2.1 = (fun _ => 1#1)
    ∧ (Cert.Pre_finite_fox_branch.fn (F := Ideal) (m ((c.tc : Thread Cert.ReferenceFoxDoutIdeal.nD Cert.ReferenceFoxDoutIdeal.τ).loc Cert.ReferenceFoxDoutIdeal.main_arg0)) (m ((c.tc : Thread Cert.ReferenceFoxDoutIdeal.nD Cert.ReferenceFoxDoutIdeal.τ).loc Cert.ReferenceFoxDoutIdeal.main_arg1)) (m ((c.tc : Thread Cert.ReferenceFoxDoutIdeal.nD Cert.ReferenceFoxDoutIdeal.τ).loc Cert.ReferenceFoxDoutIdeal.main_arg2)) (m ((c.tc : Thread Cert.ReferenceFoxDoutIdeal.nD Cert.ReferenceFoxDoutIdeal.τ).loc Cert.ReferenceFoxDoutIdeal.main_arg3)) (m ((c.tc : Thread Cert.ReferenceFoxDoutIdeal.nD Cert.ReferenceFoxDoutIdeal.τ).loc Cert.ReferenceFoxDoutIdeal.main_arg4)) (m ((c.tc : Thread Cert.ReferenceFoxDoutIdeal.nD Cert.ReferenceFoxDoutIdeal.τ).loc Cert.ReferenceFoxDoutIdeal.main_arg5))).2.2.1 = (fun _ => 1#1)
    ∧ (Cert.Pre_finite_fox_branch.fn (F := Ideal) (m ((c.tc : Thread Cert.ReferenceFoxDoutIdeal.nD Cert.ReferenceFoxDoutIdeal.τ).loc Cert.ReferenceFoxDoutIdeal.main_arg0)) (m ((c.tc : Thread Cert.ReferenceFoxDoutIdeal.nD Cert.ReferenceFoxDoutIdeal.τ).loc Cert.ReferenceFoxDoutIdeal.main_arg1)) (m ((c.tc : Thread Cert.ReferenceFoxDoutIdeal.nD Cert.ReferenceFoxDoutIdeal.τ).loc Cert.ReferenceFoxDoutIdeal.main_arg2)) (m ((c.tc : Thread Cert.ReferenceFoxDoutIdeal.nD Cert.ReferenceFoxDoutIdeal.τ).loc Cert.ReferenceFoxDoutIdeal.main_arg3)) (m ((c.tc : Thread Cert.ReferenceFoxDoutIdeal.nD Cert.ReferenceFoxDoutIdeal.τ).loc Cert.ReferenceFoxDoutIdeal.main_arg4)) (m ((c.tc : Thread Cert.ReferenceFoxDoutIdeal.nD Cert.ReferenceFoxDoutIdeal.τ).loc Cert.ReferenceFoxDoutIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelDwin [hKernelDwin : Cert.KernelDwin.Facts] : Prop :=
  ∀ (m : (ℓ : Loc Cert.KernelDwin.nD Cert.KernelDwin.τ Cert.KernelDwin.sig) → Buf (Elt Bits) ℓ) (g : Dev Cert.KernelDwin.nD → PrngReg), Pre_KernelDwin m →
    θ_run (Cert.KernelDwin.defs (F := Bits)) (onTc (τ := Cert.KernelDwin.τ) (Cert.KernelDwin.main (F := Bits))) ⟨m, fun _ => 0, g⟩ (fun r => (∀ c : Dev Cert.KernelDwin.nD,
      r.2.mem ((c.tc : Thread Cert.KernelDwin.nD Cert.KernelDwin.τ).loc Cert.KernelDwin.main_arg0) = m ((c.tc : Thread Cert.KernelDwin.nD Cert.KernelDwin.τ).loc Cert.KernelDwin.main_arg0)
      ∧ r.2.mem ((c.tc : Thread Cert.KernelDwin.nD Cert.KernelDwin.τ).loc Cert.KernelDwin.main_arg1) = m ((c.tc : Thread Cert.KernelDwin.nD Cert.KernelDwin.τ).loc Cert.KernelDwin.main_arg1))
      ∧ r.2.sem = fun _ => 0)

def quiescent_KernelDwinIdeal [hKernelDwinIdeal : Cert.KernelDwinIdeal.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg), Pre_KernelDwinIdeal m →
    θ_run (Cert.KernelDwinIdeal.defs (F := Ideal)) (onTc (τ := Cert.KernelDwinIdeal.τ) (Cert.KernelDwinIdeal.main (F := Ideal))) ⟨m, fun _ => 0, g⟩ (fun r => (∀ c : Dev Cert.KernelDwinIdeal.nD,
      r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
      ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1))
      ∧ r.2.sem = fun _ => 0)

def quiescent_ReferenceDwinIdeal [hReferenceDwinIdeal : Cert.ReferenceDwinIdeal.Facts] : Prop :=
  ∀ (m : (ℓ : Loc Cert.ReferenceDwinIdeal.nD Cert.ReferenceDwinIdeal.τ Cert.ReferenceDwinIdeal.sig) → Buf (Elt Ideal) ℓ) (g : Dev Cert.ReferenceDwinIdeal.nD → PrngReg), Pre_ReferenceDwinIdeal m →
    θ_run (Cert.ReferenceDwinIdeal.defs (F := Ideal)) (onTc (τ := Cert.ReferenceDwinIdeal.τ) (Cert.ReferenceDwinIdeal.main (F := Ideal))) ⟨m, fun _ => 0, g⟩ (fun r => (∀ c : Dev Cert.ReferenceDwinIdeal.nD,
      r.2.mem ((c.tc : Thread Cert.ReferenceDwinIdeal.nD Cert.ReferenceDwinIdeal.τ).loc Cert.ReferenceDwinIdeal.main_arg0) = m ((c.tc : Thread Cert.ReferenceDwinIdeal.nD Cert.ReferenceDwinIdeal.τ).loc Cert.ReferenceDwinIdeal.main_arg0)
      ∧ r.2.mem ((c.tc : Thread Cert.ReferenceDwinIdeal.nD Cert.ReferenceDwinIdeal.τ).loc Cert.ReferenceDwinIdeal.main_arg1) = m ((c.tc : Thread Cert.ReferenceDwinIdeal.nD Cert.ReferenceDwinIdeal.τ).loc Cert.ReferenceDwinIdeal.main_arg1))
      ∧ r.2.sem = fun _ => 0)

def quiescent_KernelDwout [hKernelDwout : Cert.KernelDwout.Facts] : Prop :=
  ∀ (m : (ℓ : Loc Cert.KernelDwout.nD Cert.KernelDwout.τ Cert.KernelDwout.sig) → Buf (Elt Bits) ℓ) (g : Dev Cert.KernelDwout.nD → PrngReg), Pre_KernelDwout m →
    θ_run (Cert.KernelDwout.defs (F := Bits)) (onTc (τ := Cert.KernelDwout.τ) (Cert.KernelDwout.main (F := Bits))) ⟨m, fun _ => 0, g⟩ (fun r => (∀ c : Dev Cert.KernelDwout.nD,
      r.2.mem ((c.tc : Thread Cert.KernelDwout.nD Cert.KernelDwout.τ).loc Cert.KernelDwout.main_arg0) = m ((c.tc : Thread Cert.KernelDwout.nD Cert.KernelDwout.τ).loc Cert.KernelDwout.main_arg0)
      ∧ r.2.mem ((c.tc : Thread Cert.KernelDwout.nD Cert.KernelDwout.τ).loc Cert.KernelDwout.main_arg1) = m ((c.tc : Thread Cert.KernelDwout.nD Cert.KernelDwout.τ).loc Cert.KernelDwout.main_arg1))
      ∧ r.2.sem = fun _ => 0)

def quiescent_KernelDwoutIdeal [hKernelDwoutIdeal : Cert.KernelDwoutIdeal.Facts] : Prop :=
  ∀ (m : (ℓ : Loc Cert.KernelDwoutIdeal.nD Cert.KernelDwoutIdeal.τ Cert.KernelDwoutIdeal.sig) → Buf (Elt Ideal) ℓ) (g : Dev Cert.KernelDwoutIdeal.nD → PrngReg), Pre_KernelDwoutIdeal m →
    θ_run (Cert.KernelDwoutIdeal.defs (F := Ideal)) (onTc (τ := Cert.KernelDwoutIdeal.τ) (Cert.KernelDwoutIdeal.main (F := Ideal))) ⟨m, fun _ => 0, g⟩ (fun r => (∀ c : Dev Cert.KernelDwoutIdeal.nD,
      r.2.mem ((c.tc : Thread Cert.KernelDwoutIdeal.nD Cert.KernelDwoutIdeal.τ).loc Cert.KernelDwoutIdeal.main_arg0) = m ((c.tc : Thread Cert.KernelDwoutIdeal.nD Cert.KernelDwoutIdeal.τ).loc Cert.KernelDwoutIdeal.main_arg0)
      ∧ r.2.mem ((c.tc : Thread Cert.KernelDwoutIdeal.nD Cert.KernelDwoutIdeal.τ).loc Cert.KernelDwoutIdeal.main_arg1) = m ((c.tc : Thread Cert.KernelDwoutIdeal.nD Cert.KernelDwoutIdeal.τ).loc Cert.KernelDwoutIdeal.main_arg1))
      ∧ r.2.sem = fun _ => 0)

def quiescent_ReferenceDwoutIdeal [hReferenceDwoutIdeal : Cert.ReferenceDwoutIdeal.Facts] : Prop :=
  ∀ (m : (ℓ : Loc Cert.ReferenceDwoutIdeal.nD Cert.ReferenceDwoutIdeal.τ Cert.ReferenceDwoutIdeal.sig) → Buf (Elt Ideal) ℓ) (g : Dev Cert.ReferenceDwoutIdeal.nD → PrngReg), Pre_ReferenceDwoutIdeal m →
    θ_run (Cert.ReferenceDwoutIdeal.defs (F := Ideal)) (onTc (τ := Cert.ReferenceDwoutIdeal.τ) (Cert.ReferenceDwoutIdeal.main (F := Ideal))) ⟨m, fun _ => 0, g⟩ (fun r => (∀ c : Dev Cert.ReferenceDwoutIdeal.nD,
      r.2.mem ((c.tc : Thread Cert.ReferenceDwoutIdeal.nD Cert.ReferenceDwoutIdeal.τ).loc Cert.ReferenceDwoutIdeal.main_arg0) = m ((c.tc : Thread Cert.ReferenceDwoutIdeal.nD Cert.ReferenceDwoutIdeal.τ).loc Cert.ReferenceDwoutIdeal.main_arg0)
      ∧ r.2.mem ((c.tc : Thread Cert.ReferenceDwoutIdeal.nD Cert.ReferenceDwoutIdeal.τ).loc Cert.ReferenceDwoutIdeal.main_arg1) = m ((c.tc : Thread Cert.ReferenceDwoutIdeal.nD Cert.ReferenceDwoutIdeal.τ).loc Cert.ReferenceDwoutIdeal.main_arg1))
      ∧ r.2.sem = fun _ => 0)

def quiescent_KernelZ [hKernelZ : Cert.KernelZ.Facts] : Prop :=
  ∀ (m : (ℓ : Loc Cert.KernelZ.nD Cert.KernelZ.τ Cert.KernelZ.sig) → Buf (Elt Bits) ℓ) (g : Dev Cert.KernelZ.nD → PrngReg), Pre_KernelZ m →
    θ_run (Cert.KernelZ.defs (F := Bits)) (onTc (τ := Cert.KernelZ.τ) (Cert.KernelZ.main (F := Bits))) ⟨m, fun _ => 0, g⟩ (fun r => (∀ c : Dev Cert.KernelZ.nD,
      r.2.mem ((c.tc : Thread Cert.KernelZ.nD Cert.KernelZ.τ).loc Cert.KernelZ.main_arg0) = m ((c.tc : Thread Cert.KernelZ.nD Cert.KernelZ.τ).loc Cert.KernelZ.main_arg0)
      ∧ r.2.mem ((c.tc : Thread Cert.KernelZ.nD Cert.KernelZ.τ).loc Cert.KernelZ.main_arg1) = m ((c.tc : Thread Cert.KernelZ.nD Cert.KernelZ.τ).loc Cert.KernelZ.main_arg1)
      ∧ r.2.mem ((c.tc : Thread Cert.KernelZ.nD Cert.KernelZ.τ).loc Cert.KernelZ.main_arg2) = m ((c.tc : Thread Cert.KernelZ.nD Cert.KernelZ.τ).loc Cert.KernelZ.main_arg2)
      ∧ r.2.mem ((c.tc : Thread Cert.KernelZ.nD Cert.KernelZ.τ).loc Cert.KernelZ.main_arg3) = m ((c.tc : Thread Cert.KernelZ.nD Cert.KernelZ.τ).loc Cert.KernelZ.main_arg3)
      ∧ r.2.mem ((c.tc : Thread Cert.KernelZ.nD Cert.KernelZ.τ).loc Cert.KernelZ.main_arg4) = m ((c.tc : Thread Cert.KernelZ.nD Cert.KernelZ.τ).loc Cert.KernelZ.main_arg4))
      ∧ r.2.sem = fun _ => 0)

def quiescent_KernelZIdeal [hKernelZIdeal : Cert.KernelZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg), Pre_KernelZIdeal m →
    θ_run (Cert.KernelZIdeal.defs (F := Ideal)) (onTc (τ := Cert.KernelZIdeal.τ) (Cert.KernelZIdeal.main (F := Ideal))) ⟨m, fun _ => 0, g⟩ (fun r => (∀ c : Dev Cert.KernelZIdeal.nD,
      r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
      ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1)
      ∧ r.2.mem ((c.tc : Thread Cert.KernelZIdeal.nD Cert.KernelZIdeal.τ).loc Cert.KernelZIdeal.main_arg2) = m ((c.tc : Thread Cert.KernelZIdeal.nD Cert.KernelZIdeal.τ).loc Cert.KernelZIdeal.main_arg2)
      ∧ r.2.mem ((c.tc : Thread Cert.KernelZIdeal.nD Cert.KernelZIdeal.τ).loc Cert.KernelZIdeal.main_arg3) = m ((c.tc : Thread Cert.KernelZIdeal.nD Cert.KernelZIdeal.τ).loc Cert.KernelZIdeal.main_arg3)
      ∧ r.2.mem ((c.tc : Thread Cert.KernelZIdeal.nD Cert.KernelZIdeal.τ).loc Cert.KernelZIdeal.main_arg4) = m ((c.tc : Thread Cert.KernelZIdeal.nD Cert.KernelZIdeal.τ).loc Cert.KernelZIdeal.main_arg4))
      ∧ r.2.sem = fun _ => 0)

def quiescent_ReferenceZIdeal [hReferenceZIdeal : Cert.ReferenceZIdeal.Facts] : Prop :=
  ∀ (m : (ℓ : Loc Cert.ReferenceZIdeal.nD Cert.ReferenceZIdeal.τ Cert.ReferenceZIdeal.sig) → Buf (Elt Ideal) ℓ) (g : Dev Cert.ReferenceZIdeal.nD → PrngReg), Pre_ReferenceZIdeal m →
    θ_run (Cert.ReferenceZIdeal.defs (F := Ideal)) (onTc (τ := Cert.ReferenceZIdeal.τ) (Cert.ReferenceZIdeal.main (F := Ideal))) ⟨m, fun _ => 0, g⟩ (fun r => (∀ c : Dev Cert.ReferenceZIdeal.nD,
      r.2.mem ((c.tc : Thread Cert.ReferenceZIdeal.nD Cert.ReferenceZIdeal.τ).loc Cert.ReferenceZIdeal.main_arg0) = m ((c.tc : Thread Cert.ReferenceZIdeal.nD Cert.ReferenceZIdeal.τ).loc Cert.ReferenceZIdeal.main_arg0)
      ∧ r.2.mem ((c.tc : Thread Cert.ReferenceZIdeal.nD Cert.ReferenceZIdeal.τ).loc Cert.ReferenceZIdeal.main_arg1) = m ((c.tc : Thread Cert.ReferenceZIdeal.nD Cert.ReferenceZIdeal.τ).loc Cert.ReferenceZIdeal.main_arg1)
      ∧ r.2.mem ((c.tc : Thread Cert.ReferenceZIdeal.nD Cert.ReferenceZIdeal.τ).loc Cert.ReferenceZIdeal.main_arg2) = m ((c.tc : Thread Cert.ReferenceZIdeal.nD Cert.ReferenceZIdeal.τ).loc Cert.ReferenceZIdeal.main_arg2)
      ∧ r.2.mem ((c.tc : Thread Cert.ReferenceZIdeal.nD Cert.ReferenceZIdeal.τ).loc Cert.ReferenceZIdeal.main_arg3) = m ((c.tc : Thread Cert.ReferenceZIdeal.nD Cert.ReferenceZIdeal.τ).loc Cert.ReferenceZIdeal.main_arg3)
      ∧ r.2.mem ((c.tc : Thread Cert.ReferenceZIdeal.nD Cert.ReferenceZIdeal.τ).loc Cert.ReferenceZIdeal.main_arg4) = m ((c.tc : Thread Cert.ReferenceZIdeal.nD Cert.ReferenceZIdeal.τ).loc Cert.ReferenceZIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1)
      ∧ r.2.mem ((c.tc : Thread Cert.KernelDh.nD Cert.KernelDh.τ).loc Cert.KernelDh.main_arg2) = m ((c.tc : Thread Cert.KernelDh.nD Cert.KernelDh.τ).loc Cert.KernelDh.main_arg2)
      ∧ r.2.mem ((c.tc : Thread Cert.KernelDh.nD Cert.KernelDh.τ).loc Cert.KernelDh.main_arg3) = m ((c.tc : Thread Cert.KernelDh.nD Cert.KernelDh.τ).loc Cert.KernelDh.main_arg3)
      ∧ r.2.mem ((c.tc : Thread Cert.KernelDh.nD Cert.KernelDh.τ).loc Cert.KernelDh.main_arg4) = m ((c.tc : Thread Cert.KernelDh.nD Cert.KernelDh.τ).loc Cert.KernelDh.main_arg4)
      ∧ r.2.mem ((c.tc : Thread Cert.KernelDh.nD Cert.KernelDh.τ).loc Cert.KernelDh.main_arg5) = m ((c.tc : Thread Cert.KernelDh.nD Cert.KernelDh.τ).loc Cert.KernelDh.main_arg5)
      ∧ r.2.mem ((c.tc : Thread Cert.KernelDh.nD Cert.KernelDh.τ).loc Cert.KernelDh.main_arg6) = m ((c.tc : Thread Cert.KernelDh.nD Cert.KernelDh.τ).loc Cert.KernelDh.main_arg6)
      ∧ r.2.mem ((c.tc : Thread Cert.KernelDh.nD Cert.KernelDh.τ).loc Cert.KernelDh.main_arg7) = m ((c.tc : Thread Cert.KernelDh.nD Cert.KernelDh.τ).loc Cert.KernelDh.main_arg7)
      ∧ r.2.mem ((c.tc : Thread Cert.KernelDh.nD Cert.KernelDh.τ).loc Cert.KernelDh.main_arg8) = m ((c.tc : Thread Cert.KernelDh.nD Cert.KernelDh.τ).loc Cert.KernelDh.main_arg8))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
      ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
      ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4)
      ∧ r.2.mem ((c.tc : Thread Cert.KernelDhIdeal.nD Cert.KernelDhIdeal.τ).loc Cert.KernelDhIdeal.main_arg5) = m ((c.tc : Thread Cert.KernelDhIdeal.nD Cert.KernelDhIdeal.τ).loc Cert.KernelDhIdeal.main_arg5)
      ∧ r.2.mem ((c.tc : Thread Cert.KernelDhIdeal.nD Cert.KernelDhIdeal.τ).loc Cert.KernelDhIdeal.main_arg6) = m ((c.tc : Thread Cert.KernelDhIdeal.nD Cert.KernelDhIdeal.τ).loc Cert.KernelDhIdeal.main_arg6)
      ∧ r.2.mem ((c.tc : Thread Cert.KernelDhIdeal.nD Cert.KernelDhIdeal.τ).loc Cert.KernelDhIdeal.main_arg7) = m ((c.tc : Thread Cert.KernelDhIdeal.nD Cert.KernelDhIdeal.τ).loc Cert.KernelDhIdeal.main_arg7)
      ∧ r.2.mem ((c.tc : Thread Cert.KernelDhIdeal.nD Cert.KernelDhIdeal.τ).loc Cert.KernelDhIdeal.main_arg8) = m ((c.tc : Thread Cert.KernelDhIdeal.nD Cert.KernelDhIdeal.τ).loc Cert.KernelDhIdeal.main_arg8))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2)
      ∧ r.2.mem ((c.tc : Thread Cert.ReferenceDhIdeal.nD Cert.ReferenceDhIdeal.τ).loc Cert.ReferenceDhIdeal.main_arg3) = m ((c.tc : Thread Cert.ReferenceDhIdeal.nD Cert.ReferenceDhIdeal.τ).loc Cert.ReferenceDhIdeal.main_arg3)
      ∧ r.2.mem ((c.tc : Thread Cert.ReferenceDhIdeal.nD Cert.ReferenceDhIdeal.τ).loc Cert.ReferenceDhIdeal.main_arg4) = m ((c.tc : Thread Cert.ReferenceDhIdeal.nD Cert.ReferenceDhIdeal.τ).loc Cert.ReferenceDhIdeal.main_arg4)
      ∧ r.2.mem ((c.tc : Thread Cert.ReferenceDhIdeal.nD Cert.ReferenceDhIdeal.τ).loc Cert.ReferenceDhIdeal.main_arg5) = m ((c.tc : Thread Cert.ReferenceDhIdeal.nD Cert.ReferenceDhIdeal.τ).loc Cert.ReferenceDhIdeal.main_arg5)
      ∧ r.2.mem ((c.tc : Thread Cert.ReferenceDhIdeal.nD Cert.ReferenceDhIdeal.τ).loc Cert.ReferenceDhIdeal.main_arg6) = m ((c.tc : Thread Cert.ReferenceDhIdeal.nD Cert.ReferenceDhIdeal.τ).loc Cert.ReferenceDhIdeal.main_arg6)
      ∧ r.2.mem ((c.tc : Thread Cert.ReferenceDhIdeal.nD Cert.ReferenceDhIdeal.τ).loc Cert.ReferenceDhIdeal.main_arg7) = m ((c.tc : Thread Cert.ReferenceDhIdeal.nD Cert.ReferenceDhIdeal.τ).loc Cert.ReferenceDhIdeal.main_arg7)
      ∧ r.2.mem ((c.tc : Thread Cert.ReferenceDhIdeal.nD Cert.ReferenceDhIdeal.τ).loc Cert.ReferenceDhIdeal.main_arg8) = m ((c.tc : Thread Cert.ReferenceDhIdeal.nD Cert.ReferenceDhIdeal.τ).loc Cert.ReferenceDhIdeal.main_arg8))
      ∧ r.2.sem = fun _ => 0)

def quiescent_KernelDout [hKernelDout : Cert.KernelDout.Facts] : Prop :=
  ∀ (m : (ℓ : Loc Cert.KernelDout.nD Cert.KernelDout.τ Cert.KernelDout.sig) → Buf (Elt Bits) ℓ) (g : Dev Cert.KernelDout.nD → PrngReg), Pre_KernelDout m →
    θ_run (Cert.KernelDout.defs (F := Bits)) (onTc (τ := Cert.KernelDout.τ) (Cert.KernelDout.main (F := Bits))) ⟨m, fun _ => 0, g⟩ (fun r => (∀ c : Dev Cert.KernelDout.nD,
      r.2.mem ((c.tc : Thread Cert.KernelDout.nD Cert.KernelDout.τ).loc Cert.KernelDout.main_arg0) = m ((c.tc : Thread Cert.KernelDout.nD Cert.KernelDout.τ).loc Cert.KernelDout.main_arg0)
      ∧ r.2.mem ((c.tc : Thread Cert.KernelDout.nD Cert.KernelDout.τ).loc Cert.KernelDout.main_arg1) = m ((c.tc : Thread Cert.KernelDout.nD Cert.KernelDout.τ).loc Cert.KernelDout.main_arg1)
      ∧ r.2.mem ((c.tc : Thread Cert.KernelDout.nD Cert.KernelDout.τ).loc Cert.KernelDout.main_arg2) = m ((c.tc : Thread Cert.KernelDout.nD Cert.KernelDout.τ).loc Cert.KernelDout.main_arg2)
      ∧ r.2.mem ((c.tc : Thread Cert.KernelDout.nD Cert.KernelDout.τ).loc Cert.KernelDout.main_arg3) = m ((c.tc : Thread Cert.KernelDout.nD Cert.KernelDout.τ).loc Cert.KernelDout.main_arg3)
      ∧ r.2.mem ((c.tc : Thread Cert.KernelDout.nD Cert.KernelDout.τ).loc Cert.KernelDout.main_arg4) = m ((c.tc : Thread Cert.KernelDout.nD Cert.KernelDout.τ).loc Cert.KernelDout.main_arg4)
      ∧ r.2.mem ((c.tc : Thread Cert.KernelDout.nD Cert.KernelDout.τ).loc Cert.KernelDout.main_arg5) = m ((c.tc : Thread Cert.KernelDout.nD Cert.KernelDout.τ).loc Cert.KernelDout.main_arg5))
      ∧ r.2.sem = fun _ => 0)

def quiescent_KernelDoutIdeal [hKernelDoutIdeal : Cert.KernelDoutIdeal.Facts] : Prop :=
  ∀ (m : (ℓ : Loc Cert.KernelDoutIdeal.nD Cert.KernelDoutIdeal.τ Cert.KernelDoutIdeal.sig) → Buf (Elt Ideal) ℓ) (g : Dev Cert.KernelDoutIdeal.nD → PrngReg), Pre_KernelDoutIdeal m →
    θ_run (Cert.KernelDoutIdeal.defs (F := Ideal)) (onTc (τ := Cert.KernelDoutIdeal.τ) (Cert.KernelDoutIdeal.main (F := Ideal))) ⟨m, fun _ => 0, g⟩ (fun r => (∀ c : Dev Cert.KernelDoutIdeal.nD,
      r.2.mem ((c.tc : Thread Cert.KernelDoutIdeal.nD Cert.KernelDoutIdeal.τ).loc Cert.KernelDoutIdeal.main_arg0) = m ((c.tc : Thread Cert.KernelDoutIdeal.nD Cert.KernelDoutIdeal.τ).loc Cert.KernelDoutIdeal.main_arg0)
      ∧ r.2.mem ((c.tc : Thread Cert.KernelDoutIdeal.nD Cert.KernelDoutIdeal.τ).loc Cert.KernelDoutIdeal.main_arg1) = m ((c.tc : Thread Cert.KernelDoutIdeal.nD Cert.KernelDoutIdeal.τ).loc Cert.KernelDoutIdeal.main_arg1)
      ∧ r.2.mem ((c.tc : Thread Cert.KernelDoutIdeal.nD Cert.KernelDoutIdeal.τ).loc Cert.KernelDoutIdeal.main_arg2) = m ((c.tc : Thread Cert.KernelDoutIdeal.nD Cert.KernelDoutIdeal.τ).loc Cert.KernelDoutIdeal.main_arg2)
      ∧ r.2.mem ((c.tc : Thread Cert.KernelDoutIdeal.nD Cert.KernelDoutIdeal.τ).loc Cert.KernelDoutIdeal.main_arg3) = m ((c.tc : Thread Cert.KernelDoutIdeal.nD Cert.KernelDoutIdeal.τ).loc Cert.KernelDoutIdeal.main_arg3)
      ∧ r.2.mem ((c.tc : Thread Cert.KernelDoutIdeal.nD Cert.KernelDoutIdeal.τ).loc Cert.KernelDoutIdeal.main_arg4) = m ((c.tc : Thread Cert.KernelDoutIdeal.nD Cert.KernelDoutIdeal.τ).loc Cert.KernelDoutIdeal.main_arg4)
      ∧ r.2.mem ((c.tc : Thread Cert.KernelDoutIdeal.nD Cert.KernelDoutIdeal.τ).loc Cert.KernelDoutIdeal.main_arg5) = m ((c.tc : Thread Cert.KernelDoutIdeal.nD Cert.KernelDoutIdeal.τ).loc Cert.KernelDoutIdeal.main_arg5))
      ∧ r.2.sem = fun _ => 0)

def quiescent_KernelDoutIdeal_pre_finite_branch [hKernelDoutIdeal : Cert.KernelDoutIdeal.Facts] [hPre_finite_branch : Cert.Pre_finite_branch.Facts] : Prop :=
  ∀ (m : (ℓ : Loc Cert.KernelDoutIdeal.nD Cert.KernelDoutIdeal.τ Cert.KernelDoutIdeal.sig) → Buf (Elt Ideal) ℓ) (g : Dev Cert.KernelDoutIdeal.nD → PrngReg), Pre_KernelDoutIdeal_finite_branch m →
    θ_run (Cert.KernelDoutIdeal.defs (F := Ideal)) (onTc (τ := Cert.KernelDoutIdeal.τ) (Cert.KernelDoutIdeal.main (F := Ideal))) ⟨m, fun _ => 0, g⟩ (fun r => (∀ c : Dev Cert.KernelDoutIdeal.nD,
      r.2.mem ((c.tc : Thread Cert.KernelDoutIdeal.nD Cert.KernelDoutIdeal.τ).loc Cert.KernelDoutIdeal.main_arg0) = m ((c.tc : Thread Cert.KernelDoutIdeal.nD Cert.KernelDoutIdeal.τ).loc Cert.KernelDoutIdeal.main_arg0)
      ∧ r.2.mem ((c.tc : Thread Cert.KernelDoutIdeal.nD Cert.KernelDoutIdeal.τ).loc Cert.KernelDoutIdeal.main_arg1) = m ((c.tc : Thread Cert.KernelDoutIdeal.nD Cert.KernelDoutIdeal.τ).loc Cert.KernelDoutIdeal.main_arg1)
      ∧ r.2.mem ((c.tc : Thread Cert.KernelDoutIdeal.nD Cert.KernelDoutIdeal.τ).loc Cert.KernelDoutIdeal.main_arg2) = m ((c.tc : Thread Cert.KernelDoutIdeal.nD Cert.KernelDoutIdeal.τ).loc Cert.KernelDoutIdeal.main_arg2)
      ∧ r.2.mem ((c.tc : Thread Cert.KernelDoutIdeal.nD Cert.KernelDoutIdeal.τ).loc Cert.KernelDoutIdeal.main_arg3) = m ((c.tc : Thread Cert.KernelDoutIdeal.nD Cert.KernelDoutIdeal.τ).loc Cert.KernelDoutIdeal.main_arg3)
      ∧ r.2.mem ((c.tc : Thread Cert.KernelDoutIdeal.nD Cert.KernelDoutIdeal.τ).loc Cert.KernelDoutIdeal.main_arg4) = m ((c.tc : Thread Cert.KernelDoutIdeal.nD Cert.KernelDoutIdeal.τ).loc Cert.KernelDoutIdeal.main_arg4)
      ∧ r.2.mem ((c.tc : Thread Cert.KernelDoutIdeal.nD Cert.KernelDoutIdeal.τ).loc Cert.KernelDoutIdeal.main_arg5) = m ((c.tc : Thread Cert.KernelDoutIdeal.nD Cert.KernelDoutIdeal.τ).loc Cert.KernelDoutIdeal.main_arg5))
      ∧ r.2.sem = fun _ => 0)

def quiescent_ReferenceDoutIdeal [hReferenceDoutIdeal : Cert.ReferenceDoutIdeal.Facts] : Prop :=
  ∀ (m : (ℓ : Loc Cert.ReferenceDoutIdeal.nD Cert.ReferenceDoutIdeal.τ Cert.ReferenceDoutIdeal.sig) → Buf (Elt Ideal) ℓ) (g : Dev Cert.ReferenceDoutIdeal.nD → PrngReg), Pre_ReferenceDoutIdeal m →
    θ_run (Cert.ReferenceDoutIdeal.defs (F := Ideal)) (onTc (τ := Cert.ReferenceDoutIdeal.τ) (Cert.ReferenceDoutIdeal.main (F := Ideal))) ⟨m, fun _ => 0, g⟩ (fun r => (∀ c : Dev Cert.ReferenceDoutIdeal.nD,
      r.2.mem ((c.tc : Thread Cert.ReferenceDoutIdeal.nD Cert.ReferenceDoutIdeal.τ).loc Cert.ReferenceDoutIdeal.main_arg0) = m ((c.tc : Thread Cert.ReferenceDoutIdeal.nD Cert.ReferenceDoutIdeal.τ).loc Cert.ReferenceDoutIdeal.main_arg0)
      ∧ r.2.mem ((c.tc : Thread Cert.ReferenceDoutIdeal.nD Cert.ReferenceDoutIdeal.τ).loc Cert.ReferenceDoutIdeal.main_arg1) = m ((c.tc : Thread Cert.ReferenceDoutIdeal.nD Cert.ReferenceDoutIdeal.τ).loc Cert.ReferenceDoutIdeal.main_arg1)
      ∧ r.2.mem ((c.tc : Thread Cert.ReferenceDoutIdeal.nD Cert.ReferenceDoutIdeal.τ).loc Cert.ReferenceDoutIdeal.main_arg2) = m ((c.tc : Thread Cert.ReferenceDoutIdeal.nD Cert.ReferenceDoutIdeal.τ).loc Cert.ReferenceDoutIdeal.main_arg2)
      ∧ r.2.mem ((c.tc : Thread Cert.ReferenceDoutIdeal.nD Cert.ReferenceDoutIdeal.τ).loc Cert.ReferenceDoutIdeal.main_arg3) = m ((c.tc : Thread Cert.ReferenceDoutIdeal.nD Cert.ReferenceDoutIdeal.τ).loc Cert.ReferenceDoutIdeal.main_arg3)
      ∧ r.2.mem ((c.tc : Thread Cert.ReferenceDoutIdeal.nD Cert.ReferenceDoutIdeal.τ).loc Cert.ReferenceDoutIdeal.main_arg4) = m ((c.tc : Thread Cert.ReferenceDoutIdeal.nD Cert.ReferenceDoutIdeal.τ).loc Cert.ReferenceDoutIdeal.main_arg4)
      ∧ r.2.mem ((c.tc : Thread Cert.ReferenceDoutIdeal.nD Cert.ReferenceDoutIdeal.τ).loc Cert.ReferenceDoutIdeal.main_arg5) = m ((c.tc : Thread Cert.ReferenceDoutIdeal.nD Cert.ReferenceDoutIdeal.τ).loc Cert.ReferenceDoutIdeal.main_arg5))
      ∧ r.2.sem = fun _ => 0)

def quiescent_ReferenceDoutIdeal_pre_finite_branch [hReferenceDoutIdeal : Cert.ReferenceDoutIdeal.Facts] [hPre_finite_branch : Cert.Pre_finite_branch.Facts] : Prop :=
  ∀ (m : (ℓ : Loc Cert.ReferenceDoutIdeal.nD Cert.ReferenceDoutIdeal.τ Cert.ReferenceDoutIdeal.sig) → Buf (Elt Ideal) ℓ) (g : Dev Cert.ReferenceDoutIdeal.nD → PrngReg), Pre_ReferenceDoutIdeal_finite_branch m →
    θ_run (Cert.ReferenceDoutIdeal.defs (F := Ideal)) (onTc (τ := Cert.ReferenceDoutIdeal.τ) (Cert.ReferenceDoutIdeal.main (F := Ideal))) ⟨m, fun _ => 0, g⟩ (fun r => (∀ c : Dev Cert.ReferenceDoutIdeal.nD,
      r.2.mem ((c.tc : Thread Cert.ReferenceDoutIdeal.nD Cert.ReferenceDoutIdeal.τ).loc Cert.ReferenceDoutIdeal.main_arg0) = m ((c.tc : Thread Cert.ReferenceDoutIdeal.nD Cert.ReferenceDoutIdeal.τ).loc Cert.ReferenceDoutIdeal.main_arg0)
      ∧ r.2.mem ((c.tc : Thread Cert.ReferenceDoutIdeal.nD Cert.ReferenceDoutIdeal.τ).loc Cert.ReferenceDoutIdeal.main_arg1) = m ((c.tc : Thread Cert.ReferenceDoutIdeal.nD Cert.ReferenceDoutIdeal.τ).loc Cert.ReferenceDoutIdeal.main_arg1)
      ∧ r.2.mem ((c.tc : Thread Cert.ReferenceDoutIdeal.nD Cert.ReferenceDoutIdeal.τ).loc Cert.ReferenceDoutIdeal.main_arg2) = m ((c.tc : Thread Cert.ReferenceDoutIdeal.nD Cert.ReferenceDoutIdeal.τ).loc Cert.ReferenceDoutIdeal.main_arg2)
      ∧ r.2.mem ((c.tc : Thread Cert.ReferenceDoutIdeal.nD Cert.ReferenceDoutIdeal.τ).loc Cert.ReferenceDoutIdeal.main_arg3) = m ((c.tc : Thread Cert.ReferenceDoutIdeal.nD Cert.ReferenceDoutIdeal.τ).loc Cert.ReferenceDoutIdeal.main_arg3)
      ∧ r.2.mem ((c.tc : Thread Cert.ReferenceDoutIdeal.nD Cert.ReferenceDoutIdeal.τ).loc Cert.ReferenceDoutIdeal.main_arg4) = m ((c.tc : Thread Cert.ReferenceDoutIdeal.nD Cert.ReferenceDoutIdeal.τ).loc Cert.ReferenceDoutIdeal.main_arg4)
      ∧ r.2.mem ((c.tc : Thread Cert.ReferenceDoutIdeal.nD Cert.ReferenceDoutIdeal.τ).loc Cert.ReferenceDoutIdeal.main_arg5) = m ((c.tc : Thread Cert.ReferenceDoutIdeal.nD Cert.ReferenceDoutIdeal.τ).loc Cert.ReferenceDoutIdeal.main_arg5))
      ∧ r.2.sem = fun _ => 0)

def quiescent_KernelFoxOut [hKernelFoxOut : Cert.KernelFoxOut.Facts] : Prop :=
  ∀ (m : (ℓ : Loc Cert.KernelFoxOut.nD Cert.KernelFoxOut.τ Cert.KernelFoxOut.sig) → Buf (Elt Bits) ℓ) (g : Dev Cert.KernelFoxOut.nD → PrngReg), Pre_KernelFoxOut m →
    θ_run (Cert.KernelFoxOut.defs (F := Bits)) (onTc (τ := Cert.KernelFoxOut.τ) (Cert.KernelFoxOut.main (F := Bits))) ⟨m, fun _ => 0, g⟩ (fun r => (∀ c : Dev Cert.KernelFoxOut.nD,
      r.2.mem ((c.tc : Thread Cert.KernelFoxOut.nD Cert.KernelFoxOut.τ).loc Cert.KernelFoxOut.main_arg0) = m ((c.tc : Thread Cert.KernelFoxOut.nD Cert.KernelFoxOut.τ).loc Cert.KernelFoxOut.main_arg0)
      ∧ r.2.mem ((c.tc : Thread Cert.KernelFoxOut.nD Cert.KernelFoxOut.τ).loc Cert.KernelFoxOut.main_arg1) = m ((c.tc : Thread Cert.KernelFoxOut.nD Cert.KernelFoxOut.τ).loc Cert.KernelFoxOut.main_arg1)
      ∧ r.2.mem ((c.tc : Thread Cert.KernelFoxOut.nD Cert.KernelFoxOut.τ).loc Cert.KernelFoxOut.main_arg2) = m ((c.tc : Thread Cert.KernelFoxOut.nD Cert.KernelFoxOut.τ).loc Cert.KernelFoxOut.main_arg2)
      ∧ r.2.mem ((c.tc : Thread Cert.KernelFoxOut.nD Cert.KernelFoxOut.τ).loc Cert.KernelFoxOut.main_arg3) = m ((c.tc : Thread Cert.KernelFoxOut.nD Cert.KernelFoxOut.τ).loc Cert.KernelFoxOut.main_arg3)
      ∧ r.2.mem ((c.tc : Thread Cert.KernelFoxOut.nD Cert.KernelFoxOut.τ).loc Cert.KernelFoxOut.main_arg4) = m ((c.tc : Thread Cert.KernelFoxOut.nD Cert.KernelFoxOut.τ).loc Cert.KernelFoxOut.main_arg4))
      ∧ r.2.sem = fun _ => 0)

def quiescent_KernelFoxOutIdeal [hKernelFoxOutIdeal : Cert.KernelFoxOutIdeal.Facts] : Prop :=
  ∀ (m : (ℓ : Loc Cert.KernelFoxOutIdeal.nD Cert.KernelFoxOutIdeal.τ Cert.KernelFoxOutIdeal.sig) → Buf (Elt Ideal) ℓ) (g : Dev Cert.KernelFoxOutIdeal.nD → PrngReg), Pre_KernelFoxOutIdeal m →
    θ_run (Cert.KernelFoxOutIdeal.defs (F := Ideal)) (onTc (τ := Cert.KernelFoxOutIdeal.τ) (Cert.KernelFoxOutIdeal.main (F := Ideal))) ⟨m, fun _ => 0, g⟩ (fun r => (∀ c : Dev Cert.KernelFoxOutIdeal.nD,
      r.2.mem ((c.tc : Thread Cert.KernelFoxOutIdeal.nD Cert.KernelFoxOutIdeal.τ).loc Cert.KernelFoxOutIdeal.main_arg0) = m ((c.tc : Thread Cert.KernelFoxOutIdeal.nD Cert.KernelFoxOutIdeal.τ).loc Cert.KernelFoxOutIdeal.main_arg0)
      ∧ r.2.mem ((c.tc : Thread Cert.KernelFoxOutIdeal.nD Cert.KernelFoxOutIdeal.τ).loc Cert.KernelFoxOutIdeal.main_arg1) = m ((c.tc : Thread Cert.KernelFoxOutIdeal.nD Cert.KernelFoxOutIdeal.τ).loc Cert.KernelFoxOutIdeal.main_arg1)
      ∧ r.2.mem ((c.tc : Thread Cert.KernelFoxOutIdeal.nD Cert.KernelFoxOutIdeal.τ).loc Cert.KernelFoxOutIdeal.main_arg2) = m ((c.tc : Thread Cert.KernelFoxOutIdeal.nD Cert.KernelFoxOutIdeal.τ).loc Cert.KernelFoxOutIdeal.main_arg2)
      ∧ r.2.mem ((c.tc : Thread Cert.KernelFoxOutIdeal.nD Cert.KernelFoxOutIdeal.τ).loc Cert.KernelFoxOutIdeal.main_arg3) = m ((c.tc : Thread Cert.KernelFoxOutIdeal.nD Cert.KernelFoxOutIdeal.τ).loc Cert.KernelFoxOutIdeal.main_arg3)
      ∧ r.2.mem ((c.tc : Thread Cert.KernelFoxOutIdeal.nD Cert.KernelFoxOutIdeal.τ).loc Cert.KernelFoxOutIdeal.main_arg4) = m ((c.tc : Thread Cert.KernelFoxOutIdeal.nD Cert.KernelFoxOutIdeal.τ).loc Cert.KernelFoxOutIdeal.main_arg4))
      ∧ r.2.sem = fun _ => 0)

def quiescent_ReferenceFoxOutIdeal [hReferenceFoxOutIdeal : Cert.ReferenceFoxOutIdeal.Facts] : Prop :=
  ∀ (m : (ℓ : Loc Cert.ReferenceFoxOutIdeal.nD Cert.ReferenceFoxOutIdeal.τ Cert.ReferenceFoxOutIdeal.sig) → Buf (Elt Ideal) ℓ) (g : Dev Cert.ReferenceFoxOutIdeal.nD → PrngReg), Pre_ReferenceFoxOutIdeal m →
    θ_run (Cert.ReferenceFoxOutIdeal.defs (F := Ideal)) (onTc (τ := Cert.ReferenceFoxOutIdeal.τ) (Cert.ReferenceFoxOutIdeal.main (F := Ideal))) ⟨m, fun _ => 0, g⟩ (fun r => (∀ c : Dev Cert.ReferenceFoxOutIdeal.nD,
      r.2.mem ((c.tc : Thread Cert.ReferenceFoxOutIdeal.nD Cert.ReferenceFoxOutIdeal.τ).loc Cert.ReferenceFoxOutIdeal.main_arg0) = m ((c.tc : Thread Cert.ReferenceFoxOutIdeal.nD Cert.ReferenceFoxOutIdeal.τ).loc Cert.ReferenceFoxOutIdeal.main_arg0)
      ∧ r.2.mem ((c.tc : Thread Cert.ReferenceFoxOutIdeal.nD Cert.ReferenceFoxOutIdeal.τ).loc Cert.ReferenceFoxOutIdeal.main_arg1) = m ((c.tc : Thread Cert.ReferenceFoxOutIdeal.nD Cert.ReferenceFoxOutIdeal.τ).loc Cert.ReferenceFoxOutIdeal.main_arg1)
      ∧ r.2.mem ((c.tc : Thread Cert.ReferenceFoxOutIdeal.nD Cert.ReferenceFoxOutIdeal.τ).loc Cert.ReferenceFoxOutIdeal.main_arg2) = m ((c.tc : Thread Cert.ReferenceFoxOutIdeal.nD Cert.ReferenceFoxOutIdeal.τ).loc Cert.ReferenceFoxOutIdeal.main_arg2)
      ∧ r.2.mem ((c.tc : Thread Cert.ReferenceFoxOutIdeal.nD Cert.ReferenceFoxOutIdeal.τ).loc Cert.ReferenceFoxOutIdeal.main_arg3) = m ((c.tc : Thread Cert.ReferenceFoxOutIdeal.nD Cert.ReferenceFoxOutIdeal.τ).loc Cert.ReferenceFoxOutIdeal.main_arg3)
      ∧ r.2.mem ((c.tc : Thread Cert.ReferenceFoxOutIdeal.nD Cert.ReferenceFoxOutIdeal.τ).loc Cert.ReferenceFoxOutIdeal.main_arg4) = m ((c.tc : Thread Cert.ReferenceFoxOutIdeal.nD Cert.ReferenceFoxOutIdeal.τ).loc Cert.ReferenceFoxOutIdeal.main_arg4))
      ∧ r.2.sem = fun _ => 0)

def quiescent_KernelFoxDout [hKernelFoxDout : Cert.KernelFoxDout.Facts] : Prop :=
  ∀ (m : (ℓ : Loc Cert.KernelFoxDout.nD Cert.KernelFoxDout.τ Cert.KernelFoxDout.sig) → Buf (Elt Bits) ℓ) (g : Dev Cert.KernelFoxDout.nD → PrngReg), Pre_KernelFoxDout m →
    θ_run (Cert.KernelFoxDout.defs (F := Bits)) (onTc (τ := Cert.KernelFoxDout.τ) (Cert.KernelFoxDout.main (F := Bits))) ⟨m, fun _ => 0, g⟩ (fun r => (∀ c : Dev Cert.KernelFoxDout.nD,
      r.2.mem ((c.tc : Thread Cert.KernelFoxDout.nD Cert.KernelFoxDout.τ).loc Cert.KernelFoxDout.main_arg0) = m ((c.tc : Thread Cert.KernelFoxDout.nD Cert.KernelFoxDout.τ).loc Cert.KernelFoxDout.main_arg0)
      ∧ r.2.mem ((c.tc : Thread Cert.KernelFoxDout.nD Cert.KernelFoxDout.τ).loc Cert.KernelFoxDout.main_arg1) = m ((c.tc : Thread Cert.KernelFoxDout.nD Cert.KernelFoxDout.τ).loc Cert.KernelFoxDout.main_arg1)
      ∧ r.2.mem ((c.tc : Thread Cert.KernelFoxDout.nD Cert.KernelFoxDout.τ).loc Cert.KernelFoxDout.main_arg2) = m ((c.tc : Thread Cert.KernelFoxDout.nD Cert.KernelFoxDout.τ).loc Cert.KernelFoxDout.main_arg2)
      ∧ r.2.mem ((c.tc : Thread Cert.KernelFoxDout.nD Cert.KernelFoxDout.τ).loc Cert.KernelFoxDout.main_arg3) = m ((c.tc : Thread Cert.KernelFoxDout.nD Cert.KernelFoxDout.τ).loc Cert.KernelFoxDout.main_arg3)
      ∧ r.2.mem ((c.tc : Thread Cert.KernelFoxDout.nD Cert.KernelFoxDout.τ).loc Cert.KernelFoxDout.main_arg4) = m ((c.tc : Thread Cert.KernelFoxDout.nD Cert.KernelFoxDout.τ).loc Cert.KernelFoxDout.main_arg4)
      ∧ r.2.mem ((c.tc : Thread Cert.KernelFoxDout.nD Cert.KernelFoxDout.τ).loc Cert.KernelFoxDout.main_arg5) = m ((c.tc : Thread Cert.KernelFoxDout.nD Cert.KernelFoxDout.τ).loc Cert.KernelFoxDout.main_arg5))
      ∧ r.2.sem = fun _ => 0)

def quiescent_KernelFoxDoutIdeal [hKernelFoxDoutIdeal : Cert.KernelFoxDoutIdeal.Facts] : Prop :=
  ∀ (m : (ℓ : Loc Cert.KernelFoxDoutIdeal.nD Cert.KernelFoxDoutIdeal.τ Cert.KernelFoxDoutIdeal.sig) → Buf (Elt Ideal) ℓ) (g : Dev Cert.KernelFoxDoutIdeal.nD → PrngReg), Pre_KernelFoxDoutIdeal m →
    θ_run (Cert.KernelFoxDoutIdeal.defs (F := Ideal)) (onTc (τ := Cert.KernelFoxDoutIdeal.τ) (Cert.KernelFoxDoutIdeal.main (F := Ideal))) ⟨m, fun _ => 0, g⟩ (fun r => (∀ c : Dev Cert.KernelFoxDoutIdeal.nD,
      r.2.mem ((c.tc : Thread Cert.KernelFoxDoutIdeal.nD Cert.KernelFoxDoutIdeal.τ).loc Cert.KernelFoxDoutIdeal.main_arg0) = m ((c.tc : Thread Cert.KernelFoxDoutIdeal.nD Cert.KernelFoxDoutIdeal.τ).loc Cert.KernelFoxDoutIdeal.main_arg0)
      ∧ r.2.mem ((c.tc : Thread Cert.KernelFoxDoutIdeal.nD Cert.KernelFoxDoutIdeal.τ).loc Cert.KernelFoxDoutIdeal.main_arg1) = m ((c.tc : Thread Cert.KernelFoxDoutIdeal.nD Cert.KernelFoxDoutIdeal.τ).loc Cert.KernelFoxDoutIdeal.main_arg1)
      ∧ r.2.mem ((c.tc : Thread Cert.KernelFoxDoutIdeal.nD Cert.KernelFoxDoutIdeal.τ).loc Cert.KernelFoxDoutIdeal.main_arg2) = m ((c.tc : Thread Cert.KernelFoxDoutIdeal.nD Cert.KernelFoxDoutIdeal.τ).loc Cert.KernelFoxDoutIdeal.main_arg2)
      ∧ r.2.mem ((c.tc : Thread Cert.KernelFoxDoutIdeal.nD Cert.KernelFoxDoutIdeal.τ).loc Cert.KernelFoxDoutIdeal.main_arg3) = m ((c.tc : Thread Cert.KernelFoxDoutIdeal.nD Cert.KernelFoxDoutIdeal.τ).loc Cert.KernelFoxDoutIdeal.main_arg3)
      ∧ r.2.mem ((c.tc : Thread Cert.KernelFoxDoutIdeal.nD Cert.KernelFoxDoutIdeal.τ).loc Cert.KernelFoxDoutIdeal.main_arg4) = m ((c.tc : Thread Cert.KernelFoxDoutIdeal.nD Cert.KernelFoxDoutIdeal.τ).loc Cert.KernelFoxDoutIdeal.main_arg4)
      ∧ r.2.mem ((c.tc : Thread Cert.KernelFoxDoutIdeal.nD Cert.KernelFoxDoutIdeal.τ).loc Cert.KernelFoxDoutIdeal.main_arg5) = m ((c.tc : Thread Cert.KernelFoxDoutIdeal.nD Cert.KernelFoxDoutIdeal.τ).loc Cert.KernelFoxDoutIdeal.main_arg5))
      ∧ r.2.sem = fun _ => 0)

def quiescent_KernelFoxDoutIdeal_pre_finite_fox_branch [hKernelFoxDoutIdeal : Cert.KernelFoxDoutIdeal.Facts] [hPre_finite_fox_branch : Cert.Pre_finite_fox_branch.Facts] : Prop :=
  ∀ (m : (ℓ : Loc Cert.KernelFoxDoutIdeal.nD Cert.KernelFoxDoutIdeal.τ Cert.KernelFoxDoutIdeal.sig) → Buf (Elt Ideal) ℓ) (g : Dev Cert.KernelFoxDoutIdeal.nD → PrngReg), Pre_KernelFoxDoutIdeal_finite_fox_branch m →
    θ_run (Cert.KernelFoxDoutIdeal.defs (F := Ideal)) (onTc (τ := Cert.KernelFoxDoutIdeal.τ) (Cert.KernelFoxDoutIdeal.main (F := Ideal))) ⟨m, fun _ => 0, g⟩ (fun r => (∀ c : Dev Cert.KernelFoxDoutIdeal.nD,
      r.2.mem ((c.tc : Thread Cert.KernelFoxDoutIdeal.nD Cert.KernelFoxDoutIdeal.τ).loc Cert.KernelFoxDoutIdeal.main_arg0) = m ((c.tc : Thread Cert.KernelFoxDoutIdeal.nD Cert.KernelFoxDoutIdeal.τ).loc Cert.KernelFoxDoutIdeal.main_arg0)
      ∧ r.2.mem ((c.tc : Thread Cert.KernelFoxDoutIdeal.nD Cert.KernelFoxDoutIdeal.τ).loc Cert.KernelFoxDoutIdeal.main_arg1) = m ((c.tc : Thread Cert.KernelFoxDoutIdeal.nD Cert.KernelFoxDoutIdeal.τ).loc Cert.KernelFoxDoutIdeal.main_arg1)
      ∧ r.2.mem ((c.tc : Thread Cert.KernelFoxDoutIdeal.nD Cert.KernelFoxDoutIdeal.τ).loc Cert.KernelFoxDoutIdeal.main_arg2) = m ((c.tc : Thread Cert.KernelFoxDoutIdeal.nD Cert.KernelFoxDoutIdeal.τ).loc Cert.KernelFoxDoutIdeal.main_arg2)
      ∧ r.2.mem ((c.tc : Thread Cert.KernelFoxDoutIdeal.nD Cert.KernelFoxDoutIdeal.τ).loc Cert.KernelFoxDoutIdeal.main_arg3) = m ((c.tc : Thread Cert.KernelFoxDoutIdeal.nD Cert.KernelFoxDoutIdeal.τ).loc Cert.KernelFoxDoutIdeal.main_arg3)
      ∧ r.2.mem ((c.tc : Thread Cert.KernelFoxDoutIdeal.nD Cert.KernelFoxDoutIdeal.τ).loc Cert.KernelFoxDoutIdeal.main_arg4) = m ((c.tc : Thread Cert.KernelFoxDoutIdeal.nD Cert.KernelFoxDoutIdeal.τ).loc Cert.KernelFoxDoutIdeal.main_arg4)
      ∧ r.2.mem ((c.tc : Thread Cert.KernelFoxDoutIdeal.nD Cert.KernelFoxDoutIdeal.τ).loc Cert.KernelFoxDoutIdeal.main_arg5) = m ((c.tc : Thread Cert.KernelFoxDoutIdeal.nD Cert.KernelFoxDoutIdeal.τ).loc Cert.KernelFoxDoutIdeal.main_arg5))
      ∧ r.2.sem = fun _ => 0)

def quiescent_ReferenceFoxDoutIdeal [hReferenceFoxDoutIdeal : Cert.ReferenceFoxDoutIdeal.Facts] : Prop :=
  ∀ (m : (ℓ : Loc Cert.ReferenceFoxDoutIdeal.nD Cert.ReferenceFoxDoutIdeal.τ Cert.ReferenceFoxDoutIdeal.sig) → Buf (Elt Ideal) ℓ) (g : Dev Cert.ReferenceFoxDoutIdeal.nD → PrngReg), Pre_ReferenceFoxDoutIdeal m →
    θ_run (Cert.ReferenceFoxDoutIdeal.defs (F := Ideal)) (onTc (τ := Cert.ReferenceFoxDoutIdeal.τ) (Cert.ReferenceFoxDoutIdeal.main (F := Ideal))) ⟨m, fun _ => 0, g⟩ (fun r => (∀ c : Dev Cert.ReferenceFoxDoutIdeal.nD,
      r.2.mem ((c.tc : Thread Cert.ReferenceFoxDoutIdeal.nD Cert.ReferenceFoxDoutIdeal.τ).loc Cert.ReferenceFoxDoutIdeal.main_arg0) = m ((c.tc : Thread Cert.ReferenceFoxDoutIdeal.nD Cert.ReferenceFoxDoutIdeal.τ).loc Cert.ReferenceFoxDoutIdeal.main_arg0)
      ∧ r.2.mem ((c.tc : Thread Cert.ReferenceFoxDoutIdeal.nD Cert.ReferenceFoxDoutIdeal.τ).loc Cert.ReferenceFoxDoutIdeal.main_arg1) = m ((c.tc : Thread Cert.ReferenceFoxDoutIdeal.nD Cert.ReferenceFoxDoutIdeal.τ).loc Cert.ReferenceFoxDoutIdeal.main_arg1)
      ∧ r.2.mem ((c.tc : Thread Cert.ReferenceFoxDoutIdeal.nD Cert.ReferenceFoxDoutIdeal.τ).loc Cert.ReferenceFoxDoutIdeal.main_arg2) = m ((c.tc : Thread Cert.ReferenceFoxDoutIdeal.nD Cert.ReferenceFoxDoutIdeal.τ).loc Cert.ReferenceFoxDoutIdeal.main_arg2)
      ∧ r.2.mem ((c.tc : Thread Cert.ReferenceFoxDoutIdeal.nD Cert.ReferenceFoxDoutIdeal.τ).loc Cert.ReferenceFoxDoutIdeal.main_arg3) = m ((c.tc : Thread Cert.ReferenceFoxDoutIdeal.nD Cert.ReferenceFoxDoutIdeal.τ).loc Cert.ReferenceFoxDoutIdeal.main_arg3)
      ∧ r.2.mem ((c.tc : Thread Cert.ReferenceFoxDoutIdeal.nD Cert.ReferenceFoxDoutIdeal.τ).loc Cert.ReferenceFoxDoutIdeal.main_arg4) = m ((c.tc : Thread Cert.ReferenceFoxDoutIdeal.nD Cert.ReferenceFoxDoutIdeal.τ).loc Cert.ReferenceFoxDoutIdeal.main_arg4)
      ∧ r.2.mem ((c.tc : Thread Cert.ReferenceFoxDoutIdeal.nD Cert.ReferenceFoxDoutIdeal.τ).loc Cert.ReferenceFoxDoutIdeal.main_arg5) = m ((c.tc : Thread Cert.ReferenceFoxDoutIdeal.nD Cert.ReferenceFoxDoutIdeal.τ).loc Cert.ReferenceFoxDoutIdeal.main_arg5))
      ∧ r.2.sem = fun _ => 0)

def quiescent_ReferenceFoxDoutIdeal_pre_finite_fox_branch [hReferenceFoxDoutIdeal : Cert.ReferenceFoxDoutIdeal.Facts] [hPre_finite_fox_branch : Cert.Pre_finite_fox_branch.Facts] : Prop :=
  ∀ (m : (ℓ : Loc Cert.ReferenceFoxDoutIdeal.nD Cert.ReferenceFoxDoutIdeal.τ Cert.ReferenceFoxDoutIdeal.sig) → Buf (Elt Ideal) ℓ) (g : Dev Cert.ReferenceFoxDoutIdeal.nD → PrngReg), Pre_ReferenceFoxDoutIdeal_finite_fox_branch m →
    θ_run (Cert.ReferenceFoxDoutIdeal.defs (F := Ideal)) (onTc (τ := Cert.ReferenceFoxDoutIdeal.τ) (Cert.ReferenceFoxDoutIdeal.main (F := Ideal))) ⟨m, fun _ => 0, g⟩ (fun r => (∀ c : Dev Cert.ReferenceFoxDoutIdeal.nD,
      r.2.mem ((c.tc : Thread Cert.ReferenceFoxDoutIdeal.nD Cert.ReferenceFoxDoutIdeal.τ).loc Cert.ReferenceFoxDoutIdeal.main_arg0) = m ((c.tc : Thread Cert.ReferenceFoxDoutIdeal.nD Cert.ReferenceFoxDoutIdeal.τ).loc Cert.ReferenceFoxDoutIdeal.main_arg0)
      ∧ r.2.mem ((c.tc : Thread Cert.ReferenceFoxDoutIdeal.nD Cert.ReferenceFoxDoutIdeal.τ).loc Cert.ReferenceFoxDoutIdeal.main_arg1) = m ((c.tc : Thread Cert.ReferenceFoxDoutIdeal.nD Cert.ReferenceFoxDoutIdeal.τ).loc Cert.ReferenceFoxDoutIdeal.main_arg1)
      ∧ r.2.mem ((c.tc : Thread Cert.ReferenceFoxDoutIdeal.nD Cert.ReferenceFoxDoutIdeal.τ).loc Cert.ReferenceFoxDoutIdeal.main_arg2) = m ((c.tc : Thread Cert.ReferenceFoxDoutIdeal.nD Cert.ReferenceFoxDoutIdeal.τ).loc Cert.ReferenceFoxDoutIdeal.main_arg2)
      ∧ r.2.mem ((c.tc : Thread Cert.ReferenceFoxDoutIdeal.nD Cert.ReferenceFoxDoutIdeal.τ).loc Cert.ReferenceFoxDoutIdeal.main_arg3) = m ((c.tc : Thread Cert.ReferenceFoxDoutIdeal.nD Cert.ReferenceFoxDoutIdeal.τ).loc Cert.ReferenceFoxDoutIdeal.main_arg3)
      ∧ r.2.mem ((c.tc : Thread Cert.ReferenceFoxDoutIdeal.nD Cert.ReferenceFoxDoutIdeal.τ).loc Cert.ReferenceFoxDoutIdeal.main_arg4) = m ((c.tc : Thread Cert.ReferenceFoxDoutIdeal.nD Cert.ReferenceFoxDoutIdeal.τ).loc Cert.ReferenceFoxDoutIdeal.main_arg4)
      ∧ r.2.mem ((c.tc : Thread Cert.ReferenceFoxDoutIdeal.nD Cert.ReferenceFoxDoutIdeal.τ).loc Cert.ReferenceFoxDoutIdeal.main_arg5) = m ((c.tc : Thread Cert.ReferenceFoxDoutIdeal.nD Cert.ReferenceFoxDoutIdeal.τ).loc Cert.ReferenceFoxDoutIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelDwin_KernelDwinIdeal : Prop :=
  True

def algebraic_KernelDwinIdeal_ReferenceDwinIdeal [hKernelDwinIdeal : Cert.KernelDwinIdeal.Facts] [hReferenceDwinIdeal : Cert.ReferenceDwinIdeal.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg)
    (m' : (ℓ : Loc Cert.ReferenceDwinIdeal.nD Cert.ReferenceDwinIdeal.τ Cert.ReferenceDwinIdeal.sig) → Buf (Elt Ideal) ℓ) (g' : Dev Cert.ReferenceDwinIdeal.nD → PrngReg), Pre_KernelDwinIdeal m →
    (∀ c : Dev Cert.KernelDwinIdeal.nD,
      m' ((c.tc : Thread Cert.ReferenceDwinIdeal.nD Cert.ReferenceDwinIdeal.τ).loc Cert.ReferenceDwinIdeal.main_arg0) = m ((c.tc : Thread Cert.KernelDwinIdeal.nD Cert.KernelDwinIdeal.τ).loc Cert.KernelDwinIdeal.main_arg0)
      ∧ m' ((c.tc : Thread Cert.ReferenceDwinIdeal.nD Cert.ReferenceDwinIdeal.τ).loc Cert.ReferenceDwinIdeal.main_arg1) = m ((c.tc : Thread Cert.KernelDwinIdeal.nD Cert.KernelDwinIdeal.τ).loc Cert.KernelDwinIdeal.main_arg1)) →
    ∃ (v0 : (c : Dev Cert.KernelDwinIdeal.nD) → Buf (Elt Ideal) ((c.tc : Thread Cert.KernelDwinIdeal.nD Cert.KernelDwinIdeal.τ).loc Cert.KernelDwinIdeal.main_v0)),
      θ_run (Cert.KernelDwinIdeal.defs (F := Ideal)) (onTc (τ := Cert.KernelDwinIdeal.τ) (Cert.KernelDwinIdeal.main (F := Ideal))) ⟨m, fun _ => 0, g⟩ (fun r => ∀ c : Dev Cert.KernelDwinIdeal.nD,
          r.2.mem ((c.tc : Thread Cert.KernelDwinIdeal.nD Cert.KernelDwinIdeal.τ).loc Cert.KernelDwinIdeal.main_v0) = v0 c
          ∧ r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
          ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1))
      ∧ θ_run (Cert.ReferenceDwinIdeal.defs (F := Ideal)) (onTc (τ := Cert.ReferenceDwinIdeal.τ) (Cert.ReferenceDwinIdeal.main (F := Ideal))) ⟨m', fun _ => 0, g'⟩ (fun r => ∀ c : Dev Cert.ReferenceDwinIdeal.nD,
          r.2.mem ((c.tc : Thread Cert.ReferenceDwinIdeal.nD Cert.ReferenceDwinIdeal.τ).loc Cert.ReferenceDwinIdeal.main_v6) = v0 c
          ∧ r.2.mem ((c.tc : Thread Cert.ReferenceDwinIdeal.nD Cert.ReferenceDwinIdeal.τ).loc Cert.ReferenceDwinIdeal.main_arg0) = m' ((c.tc : Thread Cert.ReferenceDwinIdeal.nD Cert.ReferenceDwinIdeal.τ).loc Cert.ReferenceDwinIdeal.main_arg0)
          ∧ r.2.mem ((c.tc : Thread Cert.ReferenceDwinIdeal.nD Cert.ReferenceDwinIdeal.τ).loc Cert.ReferenceDwinIdeal.main_arg1) = m' ((c.tc : Thread Cert.ReferenceDwinIdeal.nD Cert.ReferenceDwinIdeal.τ).loc Cert.ReferenceDwinIdeal.main_arg1))

def preserves_KernelDwout_KernelDwoutIdeal : Prop :=
  True

def algebraic_KernelDwoutIdeal_ReferenceDwoutIdeal [hKernelDwoutIdeal : Cert.KernelDwoutIdeal.Facts] [hReferenceDwoutIdeal : Cert.ReferenceDwoutIdeal.Facts] : Prop :=
  ∀ (m : (ℓ : Loc Cert.KernelDwoutIdeal.nD Cert.KernelDwoutIdeal.τ Cert.KernelDwoutIdeal.sig) → Buf (Elt Ideal) ℓ) (g : Dev Cert.KernelDwoutIdeal.nD → PrngReg)
    (m' : (ℓ : Loc Cert.ReferenceDwoutIdeal.nD Cert.ReferenceDwoutIdeal.τ Cert.ReferenceDwoutIdeal.sig) → Buf (Elt Ideal) ℓ) (g' : Dev Cert.ReferenceDwoutIdeal.nD → PrngReg), Pre_KernelDwoutIdeal m →
    (∀ c : Dev Cert.KernelDwoutIdeal.nD,
      m' ((c.tc : Thread Cert.ReferenceDwoutIdeal.nD Cert.ReferenceDwoutIdeal.τ).loc Cert.ReferenceDwoutIdeal.main_arg0) = m ((c.tc : Thread Cert.KernelDwoutIdeal.nD Cert.KernelDwoutIdeal.τ).loc Cert.KernelDwoutIdeal.main_arg0)
      ∧ m' ((c.tc : Thread Cert.ReferenceDwoutIdeal.nD Cert.ReferenceDwoutIdeal.τ).loc Cert.ReferenceDwoutIdeal.main_arg1) = m ((c.tc : Thread Cert.KernelDwoutIdeal.nD Cert.KernelDwoutIdeal.τ).loc Cert.KernelDwoutIdeal.main_arg1)) →
    ∃ (v0 : (c : Dev Cert.KernelDwoutIdeal.nD) → Buf (Elt Ideal) ((c.tc : Thread Cert.KernelDwoutIdeal.nD Cert.KernelDwoutIdeal.τ).loc Cert.KernelDwoutIdeal.main_v0)),
      θ_run (Cert.KernelDwoutIdeal.defs (F := Ideal)) (onTc (τ := Cert.KernelDwoutIdeal.τ) (Cert.KernelDwoutIdeal.main (F := Ideal))) ⟨m, fun _ => 0, g⟩ (fun r => ∀ c : Dev Cert.KernelDwoutIdeal.nD,
          r.2.mem ((c.tc : Thread Cert.KernelDwoutIdeal.nD Cert.KernelDwoutIdeal.τ).loc Cert.KernelDwoutIdeal.main_v0) = v0 c
          ∧ r.2.mem ((c.tc : Thread Cert.KernelDwoutIdeal.nD Cert.KernelDwoutIdeal.τ).loc Cert.KernelDwoutIdeal.main_arg0) = m ((c.tc : Thread Cert.KernelDwoutIdeal.nD Cert.KernelDwoutIdeal.τ).loc Cert.KernelDwoutIdeal.main_arg0)
          ∧ r.2.mem ((c.tc : Thread Cert.KernelDwoutIdeal.nD Cert.KernelDwoutIdeal.τ).loc Cert.KernelDwoutIdeal.main_arg1) = m ((c.tc : Thread Cert.KernelDwoutIdeal.nD Cert.KernelDwoutIdeal.τ).loc Cert.KernelDwoutIdeal.main_arg1))
      ∧ θ_run (Cert.ReferenceDwoutIdeal.defs (F := Ideal)) (onTc (τ := Cert.ReferenceDwoutIdeal.τ) (Cert.ReferenceDwoutIdeal.main (F := Ideal))) ⟨m', fun _ => 0, g'⟩ (fun r => ∀ c : Dev Cert.ReferenceDwoutIdeal.nD,
          r.2.mem ((c.tc : Thread Cert.ReferenceDwoutIdeal.nD Cert.ReferenceDwoutIdeal.τ).loc Cert.ReferenceDwoutIdeal.main_v6) = v0 c
          ∧ r.2.mem ((c.tc : Thread Cert.ReferenceDwoutIdeal.nD Cert.ReferenceDwoutIdeal.τ).loc Cert.ReferenceDwoutIdeal.main_arg0) = m' ((c.tc : Thread Cert.ReferenceDwoutIdeal.nD Cert.ReferenceDwoutIdeal.τ).loc Cert.ReferenceDwoutIdeal.main_arg0)
          ∧ r.2.mem ((c.tc : Thread Cert.ReferenceDwoutIdeal.nD Cert.ReferenceDwoutIdeal.τ).loc Cert.ReferenceDwoutIdeal.main_arg1) = m' ((c.tc : Thread Cert.ReferenceDwoutIdeal.nD Cert.ReferenceDwoutIdeal.τ).loc Cert.ReferenceDwoutIdeal.main_arg1))

def preserves_KernelZ_KernelZIdeal : Prop :=
  True

def algebraic_KernelZIdeal_ReferenceZIdeal [hKernelZIdeal : Cert.KernelZIdeal.Facts] [hReferenceZIdeal : Cert.ReferenceZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg)
    (m' : (ℓ : Loc Cert.ReferenceZIdeal.nD Cert.ReferenceZIdeal.τ Cert.ReferenceZIdeal.sig) → Buf (Elt Ideal) ℓ) (g' : Dev Cert.ReferenceZIdeal.nD → PrngReg), Pre_KernelZIdeal m →
    (∀ c : Dev Cert.KernelZIdeal.nD,
      m' ((c.tc : Thread Cert.ReferenceZIdeal.nD Cert.ReferenceZIdeal.τ).loc Cert.ReferenceZIdeal.main_arg0) = m ((c.tc : Thread Cert.KernelZIdeal.nD Cert.KernelZIdeal.τ).loc Cert.KernelZIdeal.main_arg0)
      ∧ m' ((c.tc : Thread Cert.ReferenceZIdeal.nD Cert.ReferenceZIdeal.τ).loc Cert.ReferenceZIdeal.main_arg1) = m ((c.tc : Thread Cert.KernelZIdeal.nD Cert.KernelZIdeal.τ).loc Cert.KernelZIdeal.main_arg1)
      ∧ m' ((c.tc : Thread Cert.ReferenceZIdeal.nD Cert.ReferenceZIdeal.τ).loc Cert.ReferenceZIdeal.main_arg2) = m ((c.tc : Thread Cert.KernelZIdeal.nD Cert.KernelZIdeal.τ).loc Cert.KernelZIdeal.main_arg2)
      ∧ m' ((c.tc : Thread Cert.ReferenceZIdeal.nD Cert.ReferenceZIdeal.τ).loc Cert.ReferenceZIdeal.main_arg3) = m ((c.tc : Thread Cert.KernelZIdeal.nD Cert.KernelZIdeal.τ).loc Cert.KernelZIdeal.main_arg3)
      ∧ m' ((c.tc : Thread Cert.ReferenceZIdeal.nD Cert.ReferenceZIdeal.τ).loc Cert.ReferenceZIdeal.main_arg4) = m ((c.tc : Thread Cert.KernelZIdeal.nD Cert.KernelZIdeal.τ).loc Cert.KernelZIdeal.main_arg4)) →
    ∃ (v0 : (c : Dev Cert.KernelZIdeal.nD) → Buf (Elt Ideal) ((c.tc : Thread Cert.KernelZIdeal.nD Cert.KernelZIdeal.τ).loc Cert.KernelZIdeal.main_v0)),
      θ_run (Cert.KernelZIdeal.defs (F := Ideal)) (onTc (τ := Cert.KernelZIdeal.τ) (Cert.KernelZIdeal.main (F := Ideal))) ⟨m, fun _ => 0, g⟩ (fun r => ∀ c : Dev Cert.KernelZIdeal.nD,
          r.2.mem ((c.tc : Thread Cert.KernelZIdeal.nD Cert.KernelZIdeal.τ).loc Cert.KernelZIdeal.main_v0) = v0 c
          ∧ r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
          ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1)
          ∧ r.2.mem ((c.tc : Thread Cert.KernelZIdeal.nD Cert.KernelZIdeal.τ).loc Cert.KernelZIdeal.main_arg2) = m ((c.tc : Thread Cert.KernelZIdeal.nD Cert.KernelZIdeal.τ).loc Cert.KernelZIdeal.main_arg2)
          ∧ r.2.mem ((c.tc : Thread Cert.KernelZIdeal.nD Cert.KernelZIdeal.τ).loc Cert.KernelZIdeal.main_arg3) = m ((c.tc : Thread Cert.KernelZIdeal.nD Cert.KernelZIdeal.τ).loc Cert.KernelZIdeal.main_arg3)
          ∧ r.2.mem ((c.tc : Thread Cert.KernelZIdeal.nD Cert.KernelZIdeal.τ).loc Cert.KernelZIdeal.main_arg4) = m ((c.tc : Thread Cert.KernelZIdeal.nD Cert.KernelZIdeal.τ).loc Cert.KernelZIdeal.main_arg4))
      ∧ θ_run (Cert.ReferenceZIdeal.defs (F := Ideal)) (onTc (τ := Cert.ReferenceZIdeal.τ) (Cert.ReferenceZIdeal.main (F := Ideal))) ⟨m', fun _ => 0, g'⟩ (fun r => ∀ c : Dev Cert.ReferenceZIdeal.nD,
          r.2.mem ((c.tc : Thread Cert.ReferenceZIdeal.nD Cert.ReferenceZIdeal.τ).loc Cert.ReferenceZIdeal.main_v24) = v0 c
          ∧ r.2.mem ((c.tc : Thread Cert.ReferenceZIdeal.nD Cert.ReferenceZIdeal.τ).loc Cert.ReferenceZIdeal.main_arg0) = m' ((c.tc : Thread Cert.ReferenceZIdeal.nD Cert.ReferenceZIdeal.τ).loc Cert.ReferenceZIdeal.main_arg0)
          ∧ r.2.mem ((c.tc : Thread Cert.ReferenceZIdeal.nD Cert.ReferenceZIdeal.τ).loc Cert.ReferenceZIdeal.main_arg1) = m' ((c.tc : Thread Cert.ReferenceZIdeal.nD Cert.ReferenceZIdeal.τ).loc Cert.ReferenceZIdeal.main_arg1)
          ∧ r.2.mem ((c.tc : Thread Cert.ReferenceZIdeal.nD Cert.ReferenceZIdeal.τ).loc Cert.ReferenceZIdeal.main_arg2) = m' ((c.tc : Thread Cert.ReferenceZIdeal.nD Cert.ReferenceZIdeal.τ).loc Cert.ReferenceZIdeal.main_arg2)
          ∧ r.2.mem ((c.tc : Thread Cert.ReferenceZIdeal.nD Cert.ReferenceZIdeal.τ).loc Cert.ReferenceZIdeal.main_arg3) = m' ((c.tc : Thread Cert.ReferenceZIdeal.nD Cert.ReferenceZIdeal.τ).loc Cert.ReferenceZIdeal.main_arg3)
          ∧ r.2.mem ((c.tc : Thread Cert.ReferenceZIdeal.nD Cert.ReferenceZIdeal.τ).loc Cert.ReferenceZIdeal.main_arg4) = m' ((c.tc : Thread Cert.ReferenceZIdeal.nD Cert.ReferenceZIdeal.τ).loc Cert.ReferenceZIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v0_0)) (v1 : (c : Dev Cert.KernelOutIdeal.nD) → Buf (Elt Ideal) ((c.tc : Thread Cert.KernelOutIdeal.nD Cert.KernelOutIdeal.τ).loc Cert.KernelOutIdeal.main_v0_1)) (v2 : (c : Dev Cert.KernelOutIdeal.nD) → Buf (Elt Ideal) ((c.tc : Thread Cert.KernelOutIdeal.nD Cert.KernelOutIdeal.τ).loc Cert.KernelOutIdeal.main_v0_2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0_0) = v0 c
          ∧ r.2.mem ((c.tc : Thread Cert.KernelOutIdeal.nD Cert.KernelOutIdeal.τ).loc Cert.KernelOutIdeal.main_v0_1) = v1 c
          ∧ r.2.mem ((c.tc : Thread Cert.KernelOutIdeal.nD Cert.KernelOutIdeal.τ).loc Cert.KernelOutIdeal.main_v0_2) = v2 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v9) = v0 c
          ∧ r.2.mem ((c.tc : Thread Cert.ReferenceOutIdeal.nD Cert.ReferenceOutIdeal.τ).loc Cert.ReferenceOutIdeal.main_v3) = v1 c
          ∧ r.2.mem ((c.tc : Thread Cert.ReferenceOutIdeal.nD Cert.ReferenceOutIdeal.τ).loc Cert.ReferenceOutIdeal.main_v10) = v2 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)
      ∧ m' ((c.tc : Thread Cert.ReferenceDhIdeal.nD Cert.ReferenceDhIdeal.τ).loc Cert.ReferenceDhIdeal.main_arg2) = m ((c.tc : Thread Cert.KernelDhIdeal.nD Cert.KernelDhIdeal.τ).loc Cert.KernelDhIdeal.main_arg2)
      ∧ m' ((c.tc : Thread Cert.ReferenceDhIdeal.nD Cert.ReferenceDhIdeal.τ).loc Cert.ReferenceDhIdeal.main_arg3) = m ((c.tc : Thread Cert.KernelDhIdeal.nD Cert.KernelDhIdeal.τ).loc Cert.KernelDhIdeal.main_arg3)
      ∧ m' ((c.tc : Thread Cert.ReferenceDhIdeal.nD Cert.ReferenceDhIdeal.τ).loc Cert.ReferenceDhIdeal.main_arg4) = m ((c.tc : Thread Cert.KernelDhIdeal.nD Cert.KernelDhIdeal.τ).loc Cert.KernelDhIdeal.main_arg4)
      ∧ m' ((c.tc : Thread Cert.ReferenceDhIdeal.nD Cert.ReferenceDhIdeal.τ).loc Cert.ReferenceDhIdeal.main_arg5) = m ((c.tc : Thread Cert.KernelDhIdeal.nD Cert.KernelDhIdeal.τ).loc Cert.KernelDhIdeal.main_arg5)
      ∧ m' ((c.tc : Thread Cert.ReferenceDhIdeal.nD Cert.ReferenceDhIdeal.τ).loc Cert.ReferenceDhIdeal.main_arg6) = m ((c.tc : Thread Cert.KernelDhIdeal.nD Cert.KernelDhIdeal.τ).loc Cert.KernelDhIdeal.main_arg6)
      ∧ m' ((c.tc : Thread Cert.ReferenceDhIdeal.nD Cert.ReferenceDhIdeal.τ).loc Cert.ReferenceDhIdeal.main_arg7) = m ((c.tc : Thread Cert.KernelDhIdeal.nD Cert.KernelDhIdeal.τ).loc Cert.KernelDhIdeal.main_arg7)
      ∧ m' ((c.tc : Thread Cert.ReferenceDhIdeal.nD Cert.ReferenceDhIdeal.τ).loc Cert.ReferenceDhIdeal.main_arg8) = m ((c.tc : Thread Cert.KernelDhIdeal.nD Cert.KernelDhIdeal.τ).loc Cert.KernelDhIdeal.main_arg8)) →
    ∃ (v0 : (c : Dev Cert.KernelDhIdeal.nD) → Buf (Elt Ideal) ((c.tc : Thread Cert.KernelDhIdeal.nD Cert.KernelDhIdeal.τ).loc Cert.KernelDhIdeal.main_v1_0)) (v1 : (c : Dev Cert.KernelDhIdeal.nD) → Buf (Elt Ideal) ((c.tc : Thread Cert.KernelDhIdeal.nD Cert.KernelDhIdeal.τ).loc Cert.KernelDhIdeal.main_v1_1)) (v2 : (c : Dev Cert.KernelDhIdeal.nD) → Buf (Elt Ideal) ((c.tc : Thread Cert.KernelDhIdeal.nD Cert.KernelDhIdeal.τ).loc Cert.KernelDhIdeal.main_v1_2)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v1_0) = v0 c
          ∧ r.2.mem ((c.tc : Thread Cert.KernelDhIdeal.nD Cert.KernelDhIdeal.τ).loc Cert.KernelDhIdeal.main_v1_1) = v1 c
          ∧ r.2.mem ((c.tc : Thread Cert.KernelDhIdeal.nD Cert.KernelDhIdeal.τ).loc Cert.KernelDhIdeal.main_v1_2) = v2 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
          ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
          ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
          ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4)
          ∧ r.2.mem ((c.tc : Thread Cert.KernelDhIdeal.nD Cert.KernelDhIdeal.τ).loc Cert.KernelDhIdeal.main_arg5) = m ((c.tc : Thread Cert.KernelDhIdeal.nD Cert.KernelDhIdeal.τ).loc Cert.KernelDhIdeal.main_arg5)
          ∧ r.2.mem ((c.tc : Thread Cert.KernelDhIdeal.nD Cert.KernelDhIdeal.τ).loc Cert.KernelDhIdeal.main_arg6) = m ((c.tc : Thread Cert.KernelDhIdeal.nD Cert.KernelDhIdeal.τ).loc Cert.KernelDhIdeal.main_arg6)
          ∧ r.2.mem ((c.tc : Thread Cert.KernelDhIdeal.nD Cert.KernelDhIdeal.τ).loc Cert.KernelDhIdeal.main_arg7) = m ((c.tc : Thread Cert.KernelDhIdeal.nD Cert.KernelDhIdeal.τ).loc Cert.KernelDhIdeal.main_arg7)
          ∧ r.2.mem ((c.tc : Thread Cert.KernelDhIdeal.nD Cert.KernelDhIdeal.τ).loc Cert.KernelDhIdeal.main_arg8) = m ((c.tc : Thread Cert.KernelDhIdeal.nD Cert.KernelDhIdeal.τ).loc Cert.KernelDhIdeal.main_arg8))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v53) = v0 c
          ∧ r.2.mem ((c.tc : Thread Cert.ReferenceDhIdeal.nD Cert.ReferenceDhIdeal.τ).loc Cert.ReferenceDhIdeal.main_v35) = v1 c
          ∧ r.2.mem ((c.tc : Thread Cert.ReferenceDhIdeal.nD Cert.ReferenceDhIdeal.τ).loc Cert.ReferenceDhIdeal.main_v32) = v2 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2)
          ∧ r.2.mem ((c.tc : Thread Cert.ReferenceDhIdeal.nD Cert.ReferenceDhIdeal.τ).loc Cert.ReferenceDhIdeal.main_arg3) = m' ((c.tc : Thread Cert.ReferenceDhIdeal.nD Cert.ReferenceDhIdeal.τ).loc Cert.ReferenceDhIdeal.main_arg3)
          ∧ r.2.mem ((c.tc : Thread Cert.ReferenceDhIdeal.nD Cert.ReferenceDhIdeal.τ).loc Cert.ReferenceDhIdeal.main_arg4) = m' ((c.tc : Thread Cert.ReferenceDhIdeal.nD Cert.ReferenceDhIdeal.τ).loc Cert.ReferenceDhIdeal.main_arg4)
          ∧ r.2.mem ((c.tc : Thread Cert.ReferenceDhIdeal.nD Cert.ReferenceDhIdeal.τ).loc Cert.ReferenceDhIdeal.main_arg5) = m' ((c.tc : Thread Cert.ReferenceDhIdeal.nD Cert.ReferenceDhIdeal.τ).loc Cert.ReferenceDhIdeal.main_arg5)
          ∧ r.2.mem ((c.tc : Thread Cert.ReferenceDhIdeal.nD Cert.ReferenceDhIdeal.τ).loc Cert.ReferenceDhIdeal.main_arg6) = m' ((c.tc : Thread Cert.ReferenceDhIdeal.nD Cert.ReferenceDhIdeal.τ).loc Cert.ReferenceDhIdeal.main_arg6)
          ∧ r.2.mem ((c.tc : Thread Cert.ReferenceDhIdeal.nD Cert.ReferenceDhIdeal.τ).loc Cert.ReferenceDhIdeal.main_arg7) = m' ((c.tc : Thread Cert.ReferenceDhIdeal.nD Cert.ReferenceDhIdeal.τ).loc Cert.ReferenceDhIdeal.main_arg7)
          ∧ r.2.mem ((c.tc : Thread Cert.ReferenceDhIdeal.nD Cert.ReferenceDhIdeal.τ).loc Cert.ReferenceDhIdeal.main_arg8) = m' ((c.tc : Thread Cert.ReferenceDhIdeal.nD Cert.ReferenceDhIdeal.τ).loc Cert.ReferenceDhIdeal.main_arg8))

def preserves_KernelDout_KernelDoutIdeal : Prop :=
  True

def algebraic_KernelDoutIdeal_ReferenceDoutIdeal_pre_finite_branch [hKernelDoutIdeal : Cert.KernelDoutIdeal.Facts] [hReferenceDoutIdeal : Cert.ReferenceDoutIdeal.Facts] [hPre_finite_branch : Cert.Pre_finite_branch.Facts] : Prop :=
  ∀ (m : (ℓ : Loc Cert.KernelDoutIdeal.nD Cert.KernelDoutIdeal.τ Cert.KernelDoutIdeal.sig) → Buf (Elt Ideal) ℓ) (g : Dev Cert.KernelDoutIdeal.nD → PrngReg)
    (m' : (ℓ : Loc Cert.ReferenceDoutIdeal.nD Cert.ReferenceDoutIdeal.τ Cert.ReferenceDoutIdeal.sig) → Buf (Elt Ideal) ℓ) (g' : Dev Cert.ReferenceDoutIdeal.nD → PrngReg), Pre_KernelDoutIdeal_finite_branch m →
    (∀ c : Dev Cert.KernelDoutIdeal.nD,
      m' ((c.tc : Thread Cert.ReferenceDoutIdeal.nD Cert.ReferenceDoutIdeal.τ).loc Cert.ReferenceDoutIdeal.main_arg0) = m ((c.tc : Thread Cert.KernelDoutIdeal.nD Cert.KernelDoutIdeal.τ).loc Cert.KernelDoutIdeal.main_arg0)
      ∧ m' ((c.tc : Thread Cert.ReferenceDoutIdeal.nD Cert.ReferenceDoutIdeal.τ).loc Cert.ReferenceDoutIdeal.main_arg1) = m ((c.tc : Thread Cert.KernelDoutIdeal.nD Cert.KernelDoutIdeal.τ).loc Cert.KernelDoutIdeal.main_arg1)
      ∧ m' ((c.tc : Thread Cert.ReferenceDoutIdeal.nD Cert.ReferenceDoutIdeal.τ).loc Cert.ReferenceDoutIdeal.main_arg2) = m ((c.tc : Thread Cert.KernelDoutIdeal.nD Cert.KernelDoutIdeal.τ).loc Cert.KernelDoutIdeal.main_arg2)
      ∧ m' ((c.tc : Thread Cert.ReferenceDoutIdeal.nD Cert.ReferenceDoutIdeal.τ).loc Cert.ReferenceDoutIdeal.main_arg3) = m ((c.tc : Thread Cert.KernelDoutIdeal.nD Cert.KernelDoutIdeal.τ).loc Cert.KernelDoutIdeal.main_arg3)
      ∧ m' ((c.tc : Thread Cert.ReferenceDoutIdeal.nD Cert.ReferenceDoutIdeal.τ).loc Cert.ReferenceDoutIdeal.main_arg4) = m ((c.tc : Thread Cert.KernelDoutIdeal.nD Cert.KernelDoutIdeal.τ).loc Cert.KernelDoutIdeal.main_arg4)
      ∧ m' ((c.tc : Thread Cert.ReferenceDoutIdeal.nD Cert.ReferenceDoutIdeal.τ).loc Cert.ReferenceDoutIdeal.main_arg5) = m ((c.tc : Thread Cert.KernelDoutIdeal.nD Cert.KernelDoutIdeal.τ).loc Cert.KernelDoutIdeal.main_arg5)) →
    ∃ (v0 : (c : Dev Cert.KernelDoutIdeal.nD) → Buf (Elt Ideal) ((c.tc : Thread Cert.KernelDoutIdeal.nD Cert.KernelDoutIdeal.τ).loc Cert.KernelDoutIdeal.main_v0_0)) (v1 : (c : Dev Cert.KernelDoutIdeal.nD) → Buf (Elt Ideal) ((c.tc : Thread Cert.KernelDoutIdeal.nD Cert.KernelDoutIdeal.τ).loc Cert.KernelDoutIdeal.main_v0_1)) (v2 : (c : Dev Cert.KernelDoutIdeal.nD) → Buf (Elt Ideal) ((c.tc : Thread Cert.KernelDoutIdeal.nD Cert.KernelDoutIdeal.τ).loc Cert.KernelDoutIdeal.main_v0_2)) (v3 : (c : Dev Cert.KernelDoutIdeal.nD) → Buf (Elt Ideal) ((c.tc : Thread Cert.KernelDoutIdeal.nD Cert.KernelDoutIdeal.τ).loc Cert.KernelDoutIdeal.main_v0_3)),
      θ_run (Cert.KernelDoutIdeal.defs (F := Ideal)) (onTc (τ := Cert.KernelDoutIdeal.τ) (Cert.KernelDoutIdeal.main (F := Ideal))) ⟨m, fun _ => 0, g⟩ (fun r => ∀ c : Dev Cert.KernelDoutIdeal.nD,
          r.2.mem ((c.tc : Thread Cert.KernelDoutIdeal.nD Cert.KernelDoutIdeal.τ).loc Cert.KernelDoutIdeal.main_v0_0) = v0 c
          ∧ r.2.mem ((c.tc : Thread Cert.KernelDoutIdeal.nD Cert.KernelDoutIdeal.τ).loc Cert.KernelDoutIdeal.main_v0_1) = v1 c
          ∧ r.2.mem ((c.tc : Thread Cert.KernelDoutIdeal.nD Cert.KernelDoutIdeal.τ).loc Cert.KernelDoutIdeal.main_v0_2) = v2 c
          ∧ r.2.mem ((c.tc : Thread Cert.KernelDoutIdeal.nD Cert.KernelDoutIdeal.τ).loc Cert.KernelDoutIdeal.main_v0_3) = v3 c
          ∧ r.2.mem ((c.tc : Thread Cert.KernelDoutIdeal.nD Cert.KernelDoutIdeal.τ).loc Cert.KernelDoutIdeal.main_arg0) = m ((c.tc : Thread Cert.KernelDoutIdeal.nD Cert.KernelDoutIdeal.τ).loc Cert.KernelDoutIdeal.main_arg0)
          ∧ r.2.mem ((c.tc : Thread Cert.KernelDoutIdeal.nD Cert.KernelDoutIdeal.τ).loc Cert.KernelDoutIdeal.main_arg1) = m ((c.tc : Thread Cert.KernelDoutIdeal.nD Cert.KernelDoutIdeal.τ).loc Cert.KernelDoutIdeal.main_arg1)
          ∧ r.2.mem ((c.tc : Thread Cert.KernelDoutIdeal.nD Cert.KernelDoutIdeal.τ).loc Cert.KernelDoutIdeal.main_arg2) = m ((c.tc : Thread Cert.KernelDoutIdeal.nD Cert.KernelDoutIdeal.τ).loc Cert.KernelDoutIdeal.main_arg2)
          ∧ r.2.mem ((c.tc : Thread Cert.KernelDoutIdeal.nD Cert.KernelDoutIdeal.τ).loc Cert.KernelDoutIdeal.main_arg3) = m ((c.tc : Thread Cert.KernelDoutIdeal.nD Cert.KernelDoutIdeal.τ).loc Cert.KernelDoutIdeal.main_arg3)
          ∧ r.2.mem ((c.tc : Thread Cert.KernelDoutIdeal.nD Cert.KernelDoutIdeal.τ).loc Cert.KernelDoutIdeal.main_arg4) = m ((c.tc : Thread Cert.KernelDoutIdeal.nD Cert.KernelDoutIdeal.τ).loc Cert.KernelDoutIdeal.main_arg4)
          ∧ r.2.mem ((c.tc : Thread Cert.KernelDoutIdeal.nD Cert.KernelDoutIdeal.τ).loc Cert.KernelDoutIdeal.main_arg5) = m ((c.tc : Thread Cert.KernelDoutIdeal.nD Cert.KernelDoutIdeal.τ).loc Cert.KernelDoutIdeal.main_arg5))
      ∧ θ_run (Cert.ReferenceDoutIdeal.defs (F := Ideal)) (onTc (τ := Cert.ReferenceDoutIdeal.τ) (Cert.ReferenceDoutIdeal.main (F := Ideal))) ⟨m', fun _ => 0, g'⟩ (fun r => ∀ c : Dev Cert.ReferenceDoutIdeal.nD,
          r.2.mem ((c.tc : Thread Cert.ReferenceDoutIdeal.nD Cert.ReferenceDoutIdeal.τ).loc Cert.ReferenceDoutIdeal.main_v19) = v0 c
          ∧ r.2.mem ((c.tc : Thread Cert.ReferenceDoutIdeal.nD Cert.ReferenceDoutIdeal.τ).loc Cert.ReferenceDoutIdeal.main_v20) = v1 c
          ∧ r.2.mem ((c.tc : Thread Cert.ReferenceDoutIdeal.nD Cert.ReferenceDoutIdeal.τ).loc Cert.ReferenceDoutIdeal.main_v21) = v2 c
          ∧ r.2.mem ((c.tc : Thread Cert.ReferenceDoutIdeal.nD Cert.ReferenceDoutIdeal.τ).loc Cert.ReferenceDoutIdeal.main_v9) = v3 c
          ∧ r.2.mem ((c.tc : Thread Cert.ReferenceDoutIdeal.nD Cert.ReferenceDoutIdeal.τ).loc Cert.ReferenceDoutIdeal.main_arg0) = m' ((c.tc : Thread Cert.ReferenceDoutIdeal.nD Cert.ReferenceDoutIdeal.τ).loc Cert.ReferenceDoutIdeal.main_arg0)
          ∧ r.2.mem ((c.tc : Thread Cert.ReferenceDoutIdeal.nD Cert.ReferenceDoutIdeal.τ).loc Cert.ReferenceDoutIdeal.main_arg1) = m' ((c.tc : Thread Cert.ReferenceDoutIdeal.nD Cert.ReferenceDoutIdeal.τ).loc Cert.ReferenceDoutIdeal.main_arg1)
          ∧ r.2.mem ((c.tc : Thread Cert.ReferenceDoutIdeal.nD Cert.ReferenceDoutIdeal.τ).loc Cert.ReferenceDoutIdeal.main_arg2) = m' ((c.tc : Thread Cert.ReferenceDoutIdeal.nD Cert.ReferenceDoutIdeal.τ).loc Cert.ReferenceDoutIdeal.main_arg2)
          ∧ r.2.mem ((c.tc : Thread Cert.ReferenceDoutIdeal.nD Cert.ReferenceDoutIdeal.τ).loc Cert.ReferenceDoutIdeal.main_arg3) = m' ((c.tc : Thread Cert.ReferenceDoutIdeal.nD Cert.ReferenceDoutIdeal.τ).loc Cert.ReferenceDoutIdeal.main_arg3)
          ∧ r.2.mem ((c.tc : Thread Cert.ReferenceDoutIdeal.nD Cert.ReferenceDoutIdeal.τ).loc Cert.ReferenceDoutIdeal.main_arg4) = m' ((c.tc : Thread Cert.ReferenceDoutIdeal.nD Cert.ReferenceDoutIdeal.τ).loc Cert.ReferenceDoutIdeal.main_arg4)
          ∧ r.2.mem ((c.tc : Thread Cert.ReferenceDoutIdeal.nD Cert.ReferenceDoutIdeal.τ).loc Cert.ReferenceDoutIdeal.main_arg5) = m' ((c.tc : Thread Cert.ReferenceDoutIdeal.nD Cert.ReferenceDoutIdeal.τ).loc Cert.ReferenceDoutIdeal.main_arg5))

def preserves_KernelFoxOut_KernelFoxOutIdeal : Prop :=
  True

def algebraic_KernelFoxOutIdeal_ReferenceFoxOutIdeal [hKernelFoxOutIdeal : Cert.KernelFoxOutIdeal.Facts] [hReferenceFoxOutIdeal : Cert.ReferenceFoxOutIdeal.Facts] : Prop :=
  ∀ (m : (ℓ : Loc Cert.KernelFoxOutIdeal.nD Cert.KernelFoxOutIdeal.τ Cert.KernelFoxOutIdeal.sig) → Buf (Elt Ideal) ℓ) (g : Dev Cert.KernelFoxOutIdeal.nD → PrngReg)
    (m' : (ℓ : Loc Cert.ReferenceFoxOutIdeal.nD Cert.ReferenceFoxOutIdeal.τ Cert.ReferenceFoxOutIdeal.sig) → Buf (Elt Ideal) ℓ) (g' : Dev Cert.ReferenceFoxOutIdeal.nD → PrngReg), Pre_KernelFoxOutIdeal m →
    (∀ c : Dev Cert.KernelFoxOutIdeal.nD,
      m' ((c.tc : Thread Cert.ReferenceFoxOutIdeal.nD Cert.ReferenceFoxOutIdeal.τ).loc Cert.ReferenceFoxOutIdeal.main_arg0) = m ((c.tc : Thread Cert.KernelFoxOutIdeal.nD Cert.KernelFoxOutIdeal.τ).loc Cert.KernelFoxOutIdeal.main_arg0)
      ∧ m' ((c.tc : Thread Cert.ReferenceFoxOutIdeal.nD Cert.ReferenceFoxOutIdeal.τ).loc Cert.ReferenceFoxOutIdeal.main_arg1) = m ((c.tc : Thread Cert.KernelFoxOutIdeal.nD Cert.KernelFoxOutIdeal.τ).loc Cert.KernelFoxOutIdeal.main_arg1)
      ∧ m' ((c.tc : Thread Cert.ReferenceFoxOutIdeal.nD Cert.ReferenceFoxOutIdeal.τ).loc Cert.ReferenceFoxOutIdeal.main_arg2) = m ((c.tc : Thread Cert.KernelFoxOutIdeal.nD Cert.KernelFoxOutIdeal.τ).loc Cert.KernelFoxOutIdeal.main_arg2)
      ∧ m' ((c.tc : Thread Cert.ReferenceFoxOutIdeal.nD Cert.ReferenceFoxOutIdeal.τ).loc Cert.ReferenceFoxOutIdeal.main_arg3) = m ((c.tc : Thread Cert.KernelFoxOutIdeal.nD Cert.KernelFoxOutIdeal.τ).loc Cert.KernelFoxOutIdeal.main_arg3)
      ∧ m' ((c.tc : Thread Cert.ReferenceFoxOutIdeal.nD Cert.ReferenceFoxOutIdeal.τ).loc Cert.ReferenceFoxOutIdeal.main_arg4) = m ((c.tc : Thread Cert.KernelFoxOutIdeal.nD Cert.KernelFoxOutIdeal.τ).loc Cert.KernelFoxOutIdeal.main_arg4)) →
    ∃ (v0 : (c : Dev Cert.KernelFoxOutIdeal.nD) → Buf (Elt Ideal) ((c.tc : Thread Cert.KernelFoxOutIdeal.nD Cert.KernelFoxOutIdeal.τ).loc Cert.KernelFoxOutIdeal.main_v0_0)) (v1 : (c : Dev Cert.KernelFoxOutIdeal.nD) → Buf (Elt Ideal) ((c.tc : Thread Cert.KernelFoxOutIdeal.nD Cert.KernelFoxOutIdeal.τ).loc Cert.KernelFoxOutIdeal.main_v0_1)) (v2 : (c : Dev Cert.KernelFoxOutIdeal.nD) → Buf (Elt Ideal) ((c.tc : Thread Cert.KernelFoxOutIdeal.nD Cert.KernelFoxOutIdeal.τ).loc Cert.KernelFoxOutIdeal.main_v0_2)),
      θ_run (Cert.KernelFoxOutIdeal.defs (F := Ideal)) (onTc (τ := Cert.KernelFoxOutIdeal.τ) (Cert.KernelFoxOutIdeal.main (F := Ideal))) ⟨m, fun _ => 0, g⟩ (fun r => ∀ c : Dev Cert.KernelFoxOutIdeal.nD,
          r.2.mem ((c.tc : Thread Cert.KernelFoxOutIdeal.nD Cert.KernelFoxOutIdeal.τ).loc Cert.KernelFoxOutIdeal.main_v0_0) = v0 c
          ∧ r.2.mem ((c.tc : Thread Cert.KernelFoxOutIdeal.nD Cert.KernelFoxOutIdeal.τ).loc Cert.KernelFoxOutIdeal.main_v0_1) = v1 c
          ∧ r.2.mem ((c.tc : Thread Cert.KernelFoxOutIdeal.nD Cert.KernelFoxOutIdeal.τ).loc Cert.KernelFoxOutIdeal.main_v0_2) = v2 c
          ∧ r.2.mem ((c.tc : Thread Cert.KernelFoxOutIdeal.nD Cert.KernelFoxOutIdeal.τ).loc Cert.KernelFoxOutIdeal.main_arg0) = m ((c.tc : Thread Cert.KernelFoxOutIdeal.nD Cert.KernelFoxOutIdeal.τ).loc Cert.KernelFoxOutIdeal.main_arg0)
          ∧ r.2.mem ((c.tc : Thread Cert.KernelFoxOutIdeal.nD Cert.KernelFoxOutIdeal.τ).loc Cert.KernelFoxOutIdeal.main_arg1) = m ((c.tc : Thread Cert.KernelFoxOutIdeal.nD Cert.KernelFoxOutIdeal.τ).loc Cert.KernelFoxOutIdeal.main_arg1)
          ∧ r.2.mem ((c.tc : Thread Cert.KernelFoxOutIdeal.nD Cert.KernelFoxOutIdeal.τ).loc Cert.KernelFoxOutIdeal.main_arg2) = m ((c.tc : Thread Cert.KernelFoxOutIdeal.nD Cert.KernelFoxOutIdeal.τ).loc Cert.KernelFoxOutIdeal.main_arg2)
          ∧ r.2.mem ((c.tc : Thread Cert.KernelFoxOutIdeal.nD Cert.KernelFoxOutIdeal.τ).loc Cert.KernelFoxOutIdeal.main_arg3) = m ((c.tc : Thread Cert.KernelFoxOutIdeal.nD Cert.KernelFoxOutIdeal.τ).loc Cert.KernelFoxOutIdeal.main_arg3)
          ∧ r.2.mem ((c.tc : Thread Cert.KernelFoxOutIdeal.nD Cert.KernelFoxOutIdeal.τ).loc Cert.KernelFoxOutIdeal.main_arg4) = m ((c.tc : Thread Cert.KernelFoxOutIdeal.nD Cert.KernelFoxOutIdeal.τ).loc Cert.KernelFoxOutIdeal.main_arg4))
      ∧ θ_run (Cert.ReferenceFoxOutIdeal.defs (F := Ideal)) (onTc (τ := Cert.ReferenceFoxOutIdeal.τ) (Cert.ReferenceFoxOutIdeal.main (F := Ideal))) ⟨m', fun _ => 0, g'⟩ (fun r => ∀ c : Dev Cert.ReferenceFoxOutIdeal.nD,
          r.2.mem ((c.tc : Thread Cert.ReferenceFoxOutIdeal.nD Cert.ReferenceFoxOutIdeal.τ).loc Cert.ReferenceFoxOutIdeal.main_v10) = v0 c
          ∧ r.2.mem ((c.tc : Thread Cert.ReferenceFoxOutIdeal.nD Cert.ReferenceFoxOutIdeal.τ).loc Cert.ReferenceFoxOutIdeal.main_v4) = v1 c
          ∧ r.2.mem ((c.tc : Thread Cert.ReferenceFoxOutIdeal.nD Cert.ReferenceFoxOutIdeal.τ).loc Cert.ReferenceFoxOutIdeal.main_v11) = v2 c
          ∧ r.2.mem ((c.tc : Thread Cert.ReferenceFoxOutIdeal.nD Cert.ReferenceFoxOutIdeal.τ).loc Cert.ReferenceFoxOutIdeal.main_arg0) = m' ((c.tc : Thread Cert.ReferenceFoxOutIdeal.nD Cert.ReferenceFoxOutIdeal.τ).loc Cert.ReferenceFoxOutIdeal.main_arg0)
          ∧ r.2.mem ((c.tc : Thread Cert.ReferenceFoxOutIdeal.nD Cert.ReferenceFoxOutIdeal.τ).loc Cert.ReferenceFoxOutIdeal.main_arg1) = m' ((c.tc : Thread Cert.ReferenceFoxOutIdeal.nD Cert.ReferenceFoxOutIdeal.τ).loc Cert.ReferenceFoxOutIdeal.main_arg1)
          ∧ r.2.mem ((c.tc : Thread Cert.ReferenceFoxOutIdeal.nD Cert.ReferenceFoxOutIdeal.τ).loc Cert.ReferenceFoxOutIdeal.main_arg2) = m' ((c.tc : Thread Cert.ReferenceFoxOutIdeal.nD Cert.ReferenceFoxOutIdeal.τ).loc Cert.ReferenceFoxOutIdeal.main_arg2)
          ∧ r.2.mem ((c.tc : Thread Cert.ReferenceFoxOutIdeal.nD Cert.ReferenceFoxOutIdeal.τ).loc Cert.ReferenceFoxOutIdeal.main_arg3) = m' ((c.tc : Thread Cert.ReferenceFoxOutIdeal.nD Cert.ReferenceFoxOutIdeal.τ).loc Cert.ReferenceFoxOutIdeal.main_arg3)
          ∧ r.2.mem ((c.tc : Thread Cert.ReferenceFoxOutIdeal.nD Cert.ReferenceFoxOutIdeal.τ).loc Cert.ReferenceFoxOutIdeal.main_arg4) = m' ((c.tc : Thread Cert.ReferenceFoxOutIdeal.nD Cert.ReferenceFoxOutIdeal.τ).loc Cert.ReferenceFoxOutIdeal.main_arg4))

def preserves_KernelFoxDout_KernelFoxDoutIdeal : Prop :=
  True

def algebraic_KernelFoxDoutIdeal_ReferenceFoxDoutIdeal_pre_finite_fox_branch [hKernelFoxDoutIdeal : Cert.KernelFoxDoutIdeal.Facts] [hReferenceFoxDoutIdeal : Cert.ReferenceFoxDoutIdeal.Facts] [hPre_finite_fox_branch : Cert.Pre_finite_fox_branch.Facts] : Prop :=
  ∀ (m : (ℓ : Loc Cert.KernelFoxDoutIdeal.nD Cert.KernelFoxDoutIdeal.τ Cert.KernelFoxDoutIdeal.sig) → Buf (Elt Ideal) ℓ) (g : Dev Cert.KernelFoxDoutIdeal.nD → PrngReg)
    (m' : (ℓ : Loc Cert.ReferenceFoxDoutIdeal.nD Cert.ReferenceFoxDoutIdeal.τ Cert.ReferenceFoxDoutIdeal.sig) → Buf (Elt Ideal) ℓ) (g' : Dev Cert.ReferenceFoxDoutIdeal.nD → PrngReg), Pre_KernelFoxDoutIdeal_finite_fox_branch m →
    (∀ c : Dev Cert.KernelFoxDoutIdeal.nD,
      m' ((c.tc : Thread Cert.ReferenceFoxDoutIdeal.nD Cert.ReferenceFoxDoutIdeal.τ).loc Cert.ReferenceFoxDoutIdeal.main_arg0) = m ((c.tc : Thread Cert.KernelFoxDoutIdeal.nD Cert.KernelFoxDoutIdeal.τ).loc Cert.KernelFoxDoutIdeal.main_arg0)
      ∧ m' ((c.tc : Thread Cert.ReferenceFoxDoutIdeal.nD Cert.ReferenceFoxDoutIdeal.τ).loc Cert.ReferenceFoxDoutIdeal.main_arg1) = m ((c.tc : Thread Cert.KernelFoxDoutIdeal.nD Cert.KernelFoxDoutIdeal.τ).loc Cert.KernelFoxDoutIdeal.main_arg1)
      ∧ m' ((c.tc : Thread Cert.ReferenceFoxDoutIdeal.nD Cert.ReferenceFoxDoutIdeal.τ).loc Cert.ReferenceFoxDoutIdeal.main_arg2) = m ((c.tc : Thread Cert.KernelFoxDoutIdeal.nD Cert.KernelFoxDoutIdeal.τ).loc Cert.KernelFoxDoutIdeal.main_arg2)
      ∧ m' ((c.tc : Thread Cert.ReferenceFoxDoutIdeal.nD Cert.ReferenceFoxDoutIdeal.τ).loc Cert.ReferenceFoxDoutIdeal.main_arg3) = m ((c.tc : Thread Cert.KernelFoxDoutIdeal.nD Cert.KernelFoxDoutIdeal.τ).loc Cert.KernelFoxDoutIdeal.main_arg3)
      ∧ m' ((c.tc : Thread Cert.ReferenceFoxDoutIdeal.nD Cert.ReferenceFoxDoutIdeal.τ).loc Cert.ReferenceFoxDoutIdeal.main_arg4) = m ((c.tc : Thread Cert.KernelFoxDoutIdeal.nD Cert.KernelFoxDoutIdeal.τ).loc Cert.KernelFoxDoutIdeal.main_arg4)
      ∧ m' ((c.tc : Thread Cert.ReferenceFoxDoutIdeal.nD Cert.ReferenceFoxDoutIdeal.τ).loc Cert.ReferenceFoxDoutIdeal.main_arg5) = m ((c.tc : Thread Cert.KernelFoxDoutIdeal.nD Cert.KernelFoxDoutIdeal.τ).loc Cert.KernelFoxDoutIdeal.main_arg5)) →
    ∃ (v0 : (c : Dev Cert.KernelFoxDoutIdeal.nD) → Buf (Elt Ideal) ((c.tc : Thread Cert.KernelFoxDoutIdeal.nD Cert.KernelFoxDoutIdeal.τ).loc Cert.KernelFoxDoutIdeal.main_v0_0)) (v1 : (c : Dev Cert.KernelFoxDoutIdeal.nD) → Buf (Elt Ideal) ((c.tc : Thread Cert.KernelFoxDoutIdeal.nD Cert.KernelFoxDoutIdeal.τ).loc Cert.KernelFoxDoutIdeal.main_v0_1)) (v2 : (c : Dev Cert.KernelFoxDoutIdeal.nD) → Buf (Elt Ideal) ((c.tc : Thread Cert.KernelFoxDoutIdeal.nD Cert.KernelFoxDoutIdeal.τ).loc Cert.KernelFoxDoutIdeal.main_v0_2)) (v3 : (c : Dev Cert.KernelFoxDoutIdeal.nD) → Buf (Elt Ideal) ((c.tc : Thread Cert.KernelFoxDoutIdeal.nD Cert.KernelFoxDoutIdeal.τ).loc Cert.KernelFoxDoutIdeal.main_v0_3)),
      θ_run (Cert.KernelFoxDoutIdeal.defs (F := Ideal)) (onTc (τ := Cert.KernelFoxDoutIdeal.τ) (Cert.KernelFoxDoutIdeal.main (F := Ideal))) ⟨m, fun _ => 0, g⟩ (fun r => ∀ c : Dev Cert.KernelFoxDoutIdeal.nD,
          r.2.mem ((c.tc : Thread Cert.KernelFoxDoutIdeal.nD Cert.KernelFoxDoutIdeal.τ).loc Cert.KernelFoxDoutIdeal.main_v0_0) = v0 c
          ∧ r.2.mem ((c.tc : Thread Cert.KernelFoxDoutIdeal.nD Cert.KernelFoxDoutIdeal.τ).loc Cert.KernelFoxDoutIdeal.main_v0_1) = v1 c
          ∧ r.2.mem ((c.tc : Thread Cert.KernelFoxDoutIdeal.nD Cert.KernelFoxDoutIdeal.τ).loc Cert.KernelFoxDoutIdeal.main_v0_2) = v2 c
          ∧ r.2.mem ((c.tc : Thread Cert.KernelFoxDoutIdeal.nD Cert.KernelFoxDoutIdeal.τ).loc Cert.KernelFoxDoutIdeal.main_v0_3) = v3 c
          ∧ r.2.mem ((c.tc : Thread Cert.KernelFoxDoutIdeal.nD Cert.KernelFoxDoutIdeal.τ).loc Cert.KernelFoxDoutIdeal.main_arg0) = m ((c.tc : Thread Cert.KernelFoxDoutIdeal.nD Cert.KernelFoxDoutIdeal.τ).loc Cert.KernelFoxDoutIdeal.main_arg0)
          ∧ r.2.mem ((c.tc : Thread Cert.KernelFoxDoutIdeal.nD Cert.KernelFoxDoutIdeal.τ).loc Cert.KernelFoxDoutIdeal.main_arg1) = m ((c.tc : Thread Cert.KernelFoxDoutIdeal.nD Cert.KernelFoxDoutIdeal.τ).loc Cert.KernelFoxDoutIdeal.main_arg1)
          ∧ r.2.mem ((c.tc : Thread Cert.KernelFoxDoutIdeal.nD Cert.KernelFoxDoutIdeal.τ).loc Cert.KernelFoxDoutIdeal.main_arg2) = m ((c.tc : Thread Cert.KernelFoxDoutIdeal.nD Cert.KernelFoxDoutIdeal.τ).loc Cert.KernelFoxDoutIdeal.main_arg2)
          ∧ r.2.mem ((c.tc : Thread Cert.KernelFoxDoutIdeal.nD Cert.KernelFoxDoutIdeal.τ).loc Cert.KernelFoxDoutIdeal.main_arg3) = m ((c.tc : Thread Cert.KernelFoxDoutIdeal.nD Cert.KernelFoxDoutIdeal.τ).loc Cert.KernelFoxDoutIdeal.main_arg3)
          ∧ r.2.mem ((c.tc : Thread Cert.KernelFoxDoutIdeal.nD Cert.KernelFoxDoutIdeal.τ).loc Cert.KernelFoxDoutIdeal.main_arg4) = m ((c.tc : Thread Cert.KernelFoxDoutIdeal.nD Cert.KernelFoxDoutIdeal.τ).loc Cert.KernelFoxDoutIdeal.main_arg4)
          ∧ r.2.mem ((c.tc : Thread Cert.KernelFoxDoutIdeal.nD Cert.KernelFoxDoutIdeal.τ).loc Cert.KernelFoxDoutIdeal.main_arg5) = m ((c.tc : Thread Cert.KernelFoxDoutIdeal.nD Cert.KernelFoxDoutIdeal.τ).loc Cert.KernelFoxDoutIdeal.main_arg5))
      ∧ θ_run (Cert.ReferenceFoxDoutIdeal.defs (F := Ideal)) (onTc (τ := Cert.ReferenceFoxDoutIdeal.τ) (Cert.ReferenceFoxDoutIdeal.main (F := Ideal))) ⟨m', fun _ => 0, g'⟩ (fun r => ∀ c : Dev Cert.ReferenceFoxDoutIdeal.nD,
          r.2.mem ((c.tc : Thread Cert.ReferenceFoxDoutIdeal.nD Cert.ReferenceFoxDoutIdeal.τ).loc Cert.ReferenceFoxDoutIdeal.main_v20) = v0 c
          ∧ r.2.mem ((c.tc : Thread Cert.ReferenceFoxDoutIdeal.nD Cert.ReferenceFoxDoutIdeal.τ).loc Cert.ReferenceFoxDoutIdeal.main_v21) = v1 c
          ∧ r.2.mem ((c.tc : Thread Cert.ReferenceFoxDoutIdeal.nD Cert.ReferenceFoxDoutIdeal.τ).loc Cert.ReferenceFoxDoutIdeal.main_v22) = v2 c
          ∧ r.2.mem ((c.tc : Thread Cert.ReferenceFoxDoutIdeal.nD Cert.ReferenceFoxDoutIdeal.τ).loc Cert.ReferenceFoxDoutIdeal.main_v10) = v3 c
          ∧ r.2.mem ((c.tc : Thread Cert.ReferenceFoxDoutIdeal.nD Cert.ReferenceFoxDoutIdeal.τ).loc Cert.ReferenceFoxDoutIdeal.main_arg0) = m' ((c.tc : Thread Cert.ReferenceFoxDoutIdeal.nD Cert.ReferenceFoxDoutIdeal.τ).loc Cert.ReferenceFoxDoutIdeal.main_arg0)
          ∧ r.2.mem ((c.tc : Thread Cert.ReferenceFoxDoutIdeal.nD Cert.ReferenceFoxDoutIdeal.τ).loc Cert.ReferenceFoxDoutIdeal.main_arg1) = m' ((c.tc : Thread Cert.ReferenceFoxDoutIdeal.nD Cert.ReferenceFoxDoutIdeal.τ).loc Cert.ReferenceFoxDoutIdeal.main_arg1)
          ∧ r.2.mem ((c.tc : Thread Cert.ReferenceFoxDoutIdeal.nD Cert.ReferenceFoxDoutIdeal.τ).loc Cert.ReferenceFoxDoutIdeal.main_arg2) = m' ((c.tc : Thread Cert.ReferenceFoxDoutIdeal.nD Cert.ReferenceFoxDoutIdeal.τ).loc Cert.ReferenceFoxDoutIdeal.main_arg2)
          ∧ r.2.mem ((c.tc : Thread Cert.ReferenceFoxDoutIdeal.nD Cert.ReferenceFoxDoutIdeal.τ).loc Cert.ReferenceFoxDoutIdeal.main_arg3) = m' ((c.tc : Thread Cert.ReferenceFoxDoutIdeal.nD Cert.ReferenceFoxDoutIdeal.τ).loc Cert.ReferenceFoxDoutIdeal.main_arg3)
          ∧ r.2.mem ((c.tc : Thread Cert.ReferenceFoxDoutIdeal.nD Cert.ReferenceFoxDoutIdeal.τ).loc Cert.ReferenceFoxDoutIdeal.main_arg4) = m' ((c.tc : Thread Cert.ReferenceFoxDoutIdeal.nD Cert.ReferenceFoxDoutIdeal.τ).loc Cert.ReferenceFoxDoutIdeal.main_arg4)
          ∧ r.2.mem ((c.tc : Thread Cert.ReferenceFoxDoutIdeal.nD Cert.ReferenceFoxDoutIdeal.τ).loc Cert.ReferenceFoxDoutIdeal.main_arg5) = m' ((c.tc : Thread Cert.ReferenceFoxDoutIdeal.nD Cert.ReferenceFoxDoutIdeal.τ).loc Cert.ReferenceFoxDoutIdeal.main_arg5))

def Claim : Prop :=
  ∃ (hKernel : Cert.Kernel.Facts) (hKernelIdeal : Cert.KernelIdeal.Facts) (hReferenceIdeal : Cert.ReferenceIdeal.Facts) (hKernelDwin : Cert.KernelDwin.Facts) (hKernelDwinIdeal : Cert.KernelDwinIdeal.Facts) (hReferenceDwinIdeal : Cert.ReferenceDwinIdeal.Facts) (hKernelDwout : Cert.KernelDwout.Facts) (hKernelDwoutIdeal : Cert.KernelDwoutIdeal.Facts) (hReferenceDwoutIdeal : Cert.ReferenceDwoutIdeal.Facts) (hKernelZ : Cert.KernelZ.Facts) (hKernelZIdeal : Cert.KernelZIdeal.Facts) (hReferenceZIdeal : Cert.ReferenceZIdeal.Facts) (hKernelOut : Cert.KernelOut.Facts) (hKernelOutIdeal : Cert.KernelOutIdeal.Facts) (hReferenceOutIdeal : Cert.ReferenceOutIdeal.Facts) (hKernelDh : Cert.KernelDh.Facts) (hKernelDhIdeal : Cert.KernelDhIdeal.Facts) (hReferenceDhIdeal : Cert.ReferenceDhIdeal.Facts) (hKernelDout : Cert.KernelDout.Facts) (hKernelDoutIdeal : Cert.KernelDoutIdeal.Facts) (hReferenceDoutIdeal : Cert.ReferenceDoutIdeal.Facts) (hKernelFoxOut : Cert.KernelFoxOut.Facts) (hKernelFoxOutIdeal : Cert.KernelFoxOutIdeal.Facts) (hReferenceFoxOutIdeal : Cert.ReferenceFoxOutIdeal.Facts) (hKernelFoxDout : Cert.KernelFoxDout.Facts) (hKernelFoxDoutIdeal : Cert.KernelFoxDoutIdeal.Facts) (hReferenceFoxDoutIdeal : Cert.ReferenceFoxDoutIdeal.Facts) (hPre_finite : Cert.Pre_finite.Facts) (hPre_finite_branch : Cert.Pre_finite_branch.Facts) (hPre_finite_fox_branch : Cert.Pre_finite_fox_branch.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDwin (hKernelDwin := hKernelDwin)
    ∧ quiescent_KernelDwinIdeal (hKernelDwinIdeal := hKernelDwinIdeal)
    ∧ quiescent_ReferenceDwinIdeal (hReferenceDwinIdeal := hReferenceDwinIdeal)
    ∧ quiescent_KernelDwout (hKernelDwout := hKernelDwout)
    ∧ quiescent_KernelDwoutIdeal (hKernelDwoutIdeal := hKernelDwoutIdeal)
    ∧ quiescent_ReferenceDwoutIdeal (hReferenceDwoutIdeal := hReferenceDwoutIdeal)
    ∧ quiescent_KernelZ (hKernelZ := hKernelZ)
    ∧ quiescent_KernelZIdeal (hKernelZIdeal := hKernelZIdeal)
    ∧ quiescent_ReferenceZIdeal (hReferenceZIdeal := hReferenceZIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelDout (hKernelDout := hKernelDout)
    ∧ quiescent_KernelDoutIdeal (hKernelDoutIdeal := hKernelDoutIdeal)
    ∧ quiescent_KernelDoutIdeal_pre_finite_branch (hKernelDoutIdeal := hKernelDoutIdeal) (hPre_finite_branch := hPre_finite_branch)
    ∧ quiescent_ReferenceDoutIdeal (hReferenceDoutIdeal := hReferenceDoutIdeal)
    ∧ quiescent_ReferenceDoutIdeal_pre_finite_branch (hReferenceDoutIdeal := hReferenceDoutIdeal) (hPre_finite_branch := hPre_finite_branch)
    ∧ quiescent_KernelFoxOut (hKernelFoxOut := hKernelFoxOut)
    ∧ quiescent_KernelFoxOutIdeal (hKernelFoxOutIdeal := hKernelFoxOutIdeal)
    ∧ quiescent_ReferenceFoxOutIdeal (hReferenceFoxOutIdeal := hReferenceFoxOutIdeal)
    ∧ quiescent_KernelFoxDout (hKernelFoxDout := hKernelFoxDout)
    ∧ quiescent_KernelFoxDoutIdeal (hKernelFoxDoutIdeal := hKernelFoxDoutIdeal)
    ∧ quiescent_KernelFoxDoutIdeal_pre_finite_fox_branch (hKernelFoxDoutIdeal := hKernelFoxDoutIdeal) (hPre_finite_fox_branch := hPre_finite_fox_branch)
    ∧ quiescent_ReferenceFoxDoutIdeal (hReferenceFoxDoutIdeal := hReferenceFoxDoutIdeal)
    ∧ quiescent_ReferenceFoxDoutIdeal_pre_finite_fox_branch (hReferenceFoxDoutIdeal := hReferenceFoxDoutIdeal) (hPre_finite_fox_branch := hPre_finite_fox_branch)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDwin_KernelDwinIdeal
    ∧ algebraic_KernelDwinIdeal_ReferenceDwinIdeal (hKernelDwinIdeal := hKernelDwinIdeal) (hReferenceDwinIdeal := hReferenceDwinIdeal)
    ∧ preserves_KernelDwout_KernelDwoutIdeal
    ∧ algebraic_KernelDwoutIdeal_ReferenceDwoutIdeal (hKernelDwoutIdeal := hKernelDwoutIdeal) (hReferenceDwoutIdeal := hReferenceDwoutIdeal)
    ∧ preserves_KernelZ_KernelZIdeal
    ∧ algebraic_KernelZIdeal_ReferenceZIdeal (hKernelZIdeal := hKernelZIdeal) (hReferenceZIdeal := hReferenceZIdeal)
    ∧ preserves_KernelOut_KernelOutIdeal
    ∧ algebraic_KernelOutIdeal_ReferenceOutIdeal (hKernelOutIdeal := hKernelOutIdeal) (hReferenceOutIdeal := hReferenceOutIdeal)
    ∧ preserves_KernelDh_KernelDhIdeal
    ∧ algebraic_KernelDhIdeal_ReferenceDhIdeal (hKernelDhIdeal := hKernelDhIdeal) (hReferenceDhIdeal := hReferenceDhIdeal)
    ∧ preserves_KernelDout_KernelDoutIdeal
    ∧ algebraic_KernelDoutIdeal_ReferenceDoutIdeal_pre_finite_branch (hKernelDoutIdeal := hKernelDoutIdeal) (hReferenceDoutIdeal := hReferenceDoutIdeal) (hPre_finite_branch := hPre_finite_branch)
    ∧ preserves_KernelFoxOut_KernelFoxOutIdeal
    ∧ algebraic_KernelFoxOutIdeal_ReferenceFoxOutIdeal (hKernelFoxOutIdeal := hKernelFoxOutIdeal) (hReferenceFoxOutIdeal := hReferenceFoxOutIdeal)
    ∧ preserves_KernelFoxDout_KernelFoxDoutIdeal
    ∧ algebraic_KernelFoxDoutIdeal_ReferenceFoxDoutIdeal_pre_finite_fox_branch (hKernelFoxDoutIdeal := hKernelFoxDoutIdeal) (hReferenceFoxDoutIdeal := hReferenceFoxDoutIdeal) (hPre_finite_fox_branch := hPre_finite_fox_branch)
-- ==== Pre_finite.lean ====
abbrev S8192x6144 : Shape := ⟨2, ![8192, 6144]⟩
abbrev S8192x2048 : Shape := ⟨2, ![8192, 2048]⟩
abbrev S_ : Shape := ⟨0, ![]⟩

class Facts : Prop where
  bcast_S_S8192x6144 : S_.BroadcastsInDim S8192x6144 (![] : Fin 0 → Fin S8192x6144.rank)
  bcast_S_S8192x2048 : S_.BroadcastsInDim S8192x2048 (![] : Fin 0 → Fin S8192x2048.rank)

variable [Facts]

def fn {F : FTy → Type} [FloatOps F] (main_arg0 : FVec F S8192x6144 .bf16) (main_arg1 : FVec F S8192x2048 .bf16) : IVec S8192x6144 1 × IVec S8192x2048 1 :=
  let main_v0 : FVec F S8192x6144 .bf16 := Host.absf main_arg0
  let main_cst : FVec F S_ .bf16 := constant S_ .bf16 0x7F80#16
  let main_v1 : FVec F S8192x6144 .bf16 := broadcastInDim S8192x6144 ![] bcast_S_S8192x6144 main_cst
  let main_v2 : IVec S8192x6144 1 := cmpf .olt main_v0 main_v1
  let main_v3 : FVec F S8192x2048 .bf16 := Host.absf main_arg1
  let main_cst_0 : FVec F S_ .bf16 := constant S_ .bf16 0x7F80#16
  let main_v4 : FVec F S8192x2048 .bf16 := broadcastInDim S8192x2048 ![] bcast_S_S8192x2048 main_cst_0
  let main_v5 : IVec S8192x2048 1 := cmpf .olt main_v3 main_v4
  (main_v2, main_v5)
-- ==== Pre_finite_branch.lean ====
abbrev S8192x1024 : Shape := ⟨2, ![8192, 1024]⟩
abbrev S4x1x1024 : Shape := ⟨3, ![4, 1, 1024]⟩
abbrev S2048x1024 : Shape := ⟨2, ![2048, 1024]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  bcast_S_S4x1x1024 : S_.BroadcastsInDim S4x1x1024 (![] : Fin 0 → Fin S4x1x1024.rank)
  bcast_S_S2048x1024 : S_.BroadcastsInDim S2048x1024 (![] : Fin 0 → Fin S2048x1024.rank)
  bcast_S_S8192x2048 : S_.BroadcastsInDim S8192x2048 (![] : Fin 0 → Fin S8192x2048.rank)

variable [Facts]

def fn {F : FTy → Type} [FloatOps F] (main_arg0 : FVec F S8192x1024 .f32) (main_arg1 : FVec F S8192x1024 .f32) (main_arg2 : FVec F S4x1x1024 .f32) (main_arg3 : FVec F S2048x1024 .bf16) (main_arg4 : FVec F S8192x2048 .f32) (main_arg5 : FVec F S8192x2048 .f32) : IVec S8192x1024 1 × IVec S4x1x1024 1 × IVec S2048x1024 1 × IVec S8192x2048 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S4x1x1024 .f32 := Host.absf main_arg2
  let main_cst_0 : FVec F S_ .f32 := constant S_ .f32 0x7F800000#32
  let main_v4 : FVec F S4x1x1024 .f32 := broadcastInDim S4x1x1024 ![] bcast_S_S4x1x1024 main_cst_0
  let main_v5 : IVec S4x1x1024 1 := cmpf .olt main_v3 main_v4
  let main_v6 : FVec F S2048x1024 .bf16 := Host.absf main_arg3
  let main_cst_1 : FVec F S_ .bf16 := constant S_ .bf16 0x7F80#16
  let main_v7 : FVec F S2048x1024 .bf16 := broadcastInDim S2048x1024 ![] bcast_S_S2048x1024 main_cst_1
  let main_v8 : IVec S2048x1024 1 := cmpf .olt main_v6 main_v7
  let main_v9 : FVec F S8192x2048 .f32 := Host.absf main_arg4
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  (main_v2, main_v5, main_v8, main_v11)
-- ==== Pre_finite_fox_branch.lean ====
abbrev S8192x1024 : Shape := ⟨2, ![8192, 1024]⟩
abbrev S4x1x1024 : Shape := ⟨3, ![4, 1, 1024]⟩
abbrev S2048x1024 : Shape := ⟨2, ![2048, 1024]⟩
abbrev S8192x2048 : Shape := ⟨2, ![8192, 2048]⟩
abbrev S8192x2176 : Shape := ⟨2, ![8192, 2176]⟩
abbrev S_ : Shape := ⟨0, ![]⟩

class Facts : Prop where
  bcast_S_S8192x1024 : S_.BroadcastsInDim S8192x1024 (![] : Fin 0 → Fin S8192x1024.rank)
  bcast_S_S4x1x1024 : S_.BroadcastsInDim S4x1x1024 (![] : Fin 0 → Fin S4x1x1024.rank)
  bcast_S_S2048x1024 : S_.BroadcastsInDim S2048x1024 (![] : Fin 0 → Fin S2048x1024.rank)
  bcast_S_S8192x2048 : S_.BroadcastsInDim S8192x2048 (![] : Fin 0 → Fin S8192x2048.rank)

variable [Facts]

def fn {F : FTy → Type} [FloatOps F] (main_arg0 : FVec F S8192x1024 .f32) (main_arg1 : FVec F S8192x1024 .f32) (main_arg2 : FVec F S4x1x1024 .f32) (main_arg3 : FVec F S2048x1024 .bf16) (main_arg4 : FVec F S8192x2048 .f32) (main_arg5 : FVec F S8192x2176 .f32) : IVec S8192x1024 1 × IVec S4x1x1024 1 × IVec S2048x1024 1 × IVec S8192x2048 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S4x1x1024 .f32 := Host.absf main_arg2
  let main_cst_0 : FVec F S_ .f32 := constant S_ .f32 0x7F800000#32
  let main_v4 : FVec F S4x1x1024 .f32 := broadcastInDim S4x1x1024 ![] bcast_S_S4x1x1024 main_cst_0
  let main_v5 : IVec S4x1x1024 1 := cmpf .olt main_v3 main_v4
  let main_v6 : FVec F S2048x1024 .bf16 := Host.absf main_arg3
  let main_cst_1 : FVec F S_ .bf16 := constant S_ .bf16 0x7F80#16
  let main_v7 : FVec F S2048x1024 .bf16 := broadcastInDim S2048x1024 ![] bcast_S_S2048x1024 main_cst_1
  let main_v8 : IVec S2048x1024 1 := cmpf .olt main_v6 main_v7
  let main_v9 : FVec F S8192x2048 .f32 := Host.absf main_arg4
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  (main_v2, main_v5, main_v8, main_v11)
-- ==== Kernel.lean ====
abbrev S8192x6144 : Shape := ⟨2, ![8192, 6144]⟩
abbrev S8192x2048 : Shape := ⟨2, ![8192, 2048]⟩
abbrev S4x2048x32x64 : Shape := ⟨4, ![4, 2048, 32, 64]⟩
abbrev S4x32x2048x64 : Shape := ⟨4, ![4, 32, 2048, 64]⟩
abbrev S4x32x2048x2048 : Shape := ⟨4, ![4, 32, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x32x2048 : Shape := ⟨3, ![4, 32, 2048]⟩
abbrev S4x16x2x2048 : Shape := ⟨4, ![4, 16, 2, 2048]⟩
abbrev S4x16x2048x2 : Shape := ⟨4, ![4, 16, 2048, 2]⟩
abbrev S4x16x2048x1 : Shape := ⟨4, ![4, 16, 2048, 1]⟩
abbrev S4x16x2048x3 : Shape := ⟨4, ![4, 16, 2048, 3]⟩
abbrev S512x128 : Shape := ⟨2, ![512, 128]⟩
abbrev S2048x128 : Shape := ⟨2, ![2048, 128]⟩
abbrev S1x1x512x3 : Shape := ⟨4, ![1, 1, 512, 3]⟩
abbrev S8x128x256 : Shape := ⟨3, ![8, 128, 256]⟩
abbrev S512x256 : Shape := ⟨2, ![512, 256]⟩
abbrev S256x256 : Shape := ⟨2, ![256, 256]⟩
abbrev S128x512 : Shape := ⟨2, ![128, 512]⟩
abbrev S512x64 : Shape := ⟨2, ![512, 64]⟩
abbrev S1x1x512x1 : Shape := ⟨4, ![1, 1, 512, 1]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S256x64 : Shape := ⟨2, ![256, 64]⟩
abbrev S512 : Shape := ⟨1, ![512]⟩
abbrev S64x512 : Shape := ⟨2, ![64, 512]⟩
abbrev S64x256 : Shape := ⟨2, ![64, 256]⟩
abbrev S1x64x256 : Shape := ⟨3, ![1, 64, 256]⟩
abbrev S256x1 : Shape := ⟨2, ![256, 1]⟩
abbrev S256 : Shape := ⟨1, ![256]⟩
abbrev S1x128x256 : Shape := ⟨3, ![1, 128, 256]⟩
abbrev S128x256 : Shape := ⟨2, ![128, 256]⟩
abbrev S256x128 : Shape := ⟨2, ![256, 128]⟩

abbrev nBuf : Space → Nat
  | .hbm => 53
  | .vmem => 18
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S8192x2048, .bf16⟩
  | .hbm, ⟨3, _⟩ => ⟨S8192x2048, .f32⟩
  | .hbm, ⟨4, _⟩ => ⟨S4x2048x32x64, .f32⟩
  | .hbm, ⟨5, _⟩ => ⟨S4x32x2048x64, .f32⟩
  | .hbm, ⟨6, _⟩ => ⟨S8192x2048, .bf16⟩
  | .hbm, ⟨7, _⟩ => ⟨S8192x2048, .f32⟩
  | .hbm, ⟨8, _⟩ => ⟨S4x2048x32x64, .f32⟩
  | .hbm, ⟨9, _⟩ => ⟨S4x32x2048x64, .f32⟩
  | .hbm, ⟨10, _⟩ => ⟨S4x32x2048x2048, .f32⟩
  | .hbm, ⟨11, _⟩ => ⟨S_, .f32⟩
  | .hbm, ⟨12, _⟩ => ⟨S4x32x2048x2048, .f32⟩
  | .hbm, ⟨13, _⟩ => ⟨S4x32x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S4x32x2048x2048, .f32⟩
  | .hbm, ⟨22, _⟩ => ⟨S4x32x2048x2048, .f32⟩
  | .hbm, ⟨23, _⟩ => ⟨S_, .f32⟩
  | .hbm, ⟨24, _⟩ => ⟨S4x32x2048x2048, .f32⟩
  | .hbm, ⟨25, _⟩ => ⟨S4x32x2048x2048, .f32⟩
  | .hbm, ⟨26, _⟩ => ⟨S4x32x2048x2048, .f32⟩
  | .hbm, ⟨27, _⟩ => ⟨S4x32x2048x2048, .f32⟩
  | .hbm, ⟨28, _⟩ => ⟨S4x32x2048x2048, .i1⟩
  | .hbm, ⟨29, _⟩ => ⟨S4x32x2048x2048, .f32⟩
  | .hbm, ⟨30, _⟩ => ⟨S4x32x2048x2048, .f32⟩
  | .hbm, ⟨31, _⟩ => ⟨S4x32x2048x2048, .f32⟩
  | .hbm, ⟨32, _⟩ => ⟨S4x32x2048x2048, .f32⟩
  | .hbm, ⟨33, _⟩ => ⟨S4x32x2048x2048, .f32⟩
  | .hbm, ⟨34, _⟩ => ⟨S4x32x2048x2048, .f32⟩
  | .hbm, ⟨35, _⟩ => ⟨S4x32x2048x2048, .f32⟩
  | .hbm, ⟨36, _⟩ => ⟨S4x32x2048x2048, .f32⟩
  | .hbm, ⟨37, _⟩ => ⟨S4x32x2048x2048, .f32⟩
  | .hbm, ⟨38, _⟩ => ⟨S_, .f32⟩
  | .hbm, ⟨39, _⟩ => ⟨S_, .f32⟩
  | .hbm, ⟨40, _⟩ => ⟨S4x32x2048x2048, .i1⟩
  | .hbm, ⟨41, _⟩ => ⟨S4x32x2048x2048, .f32⟩
  | .hbm, ⟨42, _⟩ => ⟨S4x32x2048x2048, .f32⟩
  | .hbm, ⟨43, _⟩ => ⟨S_, .f32⟩
  | .hbm, ⟨44, _⟩ => ⟨S4x32x2048, .f32⟩
  | .hbm, ⟨45, _⟩ => ⟨S4x16x2x2048, .f32⟩
  | .hbm, ⟨46, _⟩ => ⟨S4x16x2048x2, .f32⟩
  | .hbm, ⟨47, _⟩ => ⟨S_, .f32⟩
  | .hbm, ⟨48, _⟩ => ⟨S4x16x2048x1, .f32⟩
  | .hbm, ⟨49, _⟩ => ⟨S4x16x2048x3, .f32⟩
  | .hbm, ⟨50, _⟩ => ⟨S8192x2048, .bf16⟩
  | .hbm, ⟨51, _⟩ => ⟨S8192x2048, .bf16⟩
  | .hbm, ⟨52, _⟩ => ⟨S8192x2048, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .bf16⟩
  | .local _ .vmem, ⟨7, _⟩ => ⟨S512x128, .bf16⟩
  | .local _ .vmem, ⟨8, _⟩ => ⟨S1x1x512x3, .f32⟩
  | .local _ .vmem, ⟨9, _⟩ => ⟨S1x1x512x3, .f32⟩
  | .local _ .vmem, ⟨10, _⟩ => ⟨S512x128, .bf16⟩
  | .local _ .vmem, ⟨11, _⟩ => ⟨S512x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S8x128x256, .f32⟩
  | .local _ .vmem, ⟨17, _⟩ => ⟨S8x128x256, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v19 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_v26_0 : Ref sig .tc := ⟨.hbm, 50, rfl⟩
abbrev main_v26_1 : Ref sig .tc := ⟨.hbm, 51, rfl⟩
abbrev main_v26_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 16, 4], ![false, false, false]⟩

@[reducible] def k0_t1_loop (i : grid0.Coords) (v48 : BitVec 32) : Scf.Loop 32 :=
  let c0_i32_20 : BitVec 32 := 0#32
  let c2_i32 : BitVec 32 := 2#32
  let arg2 : BitVec 32 := BitVec.ofNat 32 (i 2).val
  let v49 : BitVec 32 := Scalar.muli c2_i32 arg2
  let c0_i32_17 : BitVec 32 := 0#32
  let v50 : BitVec 32 := Scalar.maxsi c0_i32_17 v48
  let v51 : BitVec 32 := Scalar.minsi v49 v50
  let v55 : BitVec 32 := Scalar.subi v51 c0_i32_20
  let c1_i32 : BitVec 32 := 1#32
  let v57 : BitVec 32 := Scalar.divsi v55 c1_i32
  let v58 : BitVec 32 := Scalar.muli v57 c1_i32
  let v59 : BitVec 32 := Scalar.addi c0_i32_20 v58
  let c1_i32_21 : BitVec 32 := 1#32
  ⟨c0_i32_20, v59, c1_i32_21⟩

def k0_mult1 (i : grid0.Coords) (v48 : BitVec 32) (k0_t1 : Fin (k0_t1_loop i v48).trips) : BitVec 32 :=
  let c2_i32_18 : BitVec 32 := 2#32
  let arg2 : BitVec 32 := BitVec.ofNat 32 (i 2).val
  let v52 : BitVec 32 := Scalar.muli c2_i32_18 arg2
  let c2_i32 : BitVec 32 := 2#32
  let v49 : BitVec 32 := Scalar.muli c2_i32 arg2
  let c0_i32_17 : BitVec 32 := 0#32
  let v50 : BitVec 32 := Scalar.maxsi c0_i32_17 v48
  let v51 : BitVec 32 := Scalar.minsi v49 v50
  let v53 : BitVec 32 := Scalar.subi v52 v51
  let c0_i32_20 : BitVec 32 := 0#32
  let c1_i32_21 : BitVec 32 := 1#32
  let arg13 : BitVec 32 := Scf.iv c0_i32_20 c1_i32_21 k0_t1
  let v377 : BitVec 32 := Scalar.addi v53 arg13
  let c256_i32_139 : BitVec 32 := 256#32
  let v378 : BitVec 32 := Scalar.muli v377 c256_i32_139
  v378
def k0_off1 (i : grid0.Coords) (v48 : BitVec 32) (k0_t1 : Fin (k0_t1_loop i v48).trips) : Fin 2 → Nat :=
  let c2_i32_18 : BitVec 32 := 2#32
  let arg2 : BitVec 32 := BitVec.ofNat 32 (i 2).val
  let v52 : BitVec 32 := Scalar.muli c2_i32_18 arg2
  let c2_i32 : BitVec 32 := 2#32
  let v49 : BitVec 32 := Scalar.muli c2_i32 arg2
  let c0_i32_17 : BitVec 32 := 0#32
  let v50 : BitVec 32 := Scalar.maxsi c0_i32_17 v48
  let v51 : BitVec 32 := Scalar.minsi v49 v50
  let v53 : BitVec 32 := Scalar.subi v52 v51
  let c0_i32_20 : BitVec 32 := 0#32
  let c1_i32_21 : BitVec 32 := 1#32
  let arg13 : BitVec 32 := Scf.iv c0_i32_20 c1_i32_21 k0_t1
  let v377 : BitVec 32 := Scalar.addi v53 arg13
  let c256_i32_139 : BitVec 32 := 256#32
  let v378 : BitVec 32 := Scalar.muli v377 c256_i32_139
  let v379 : BitVec 32 := v378
  let v380 : Index := Scalar.indexCast v379
  let c0_140 : Index := 0#32
  ![v380.toNat, 0]
def k0_off2 (i : grid0.Coords) (v48 : BitVec 32) (k0_t1 : Fin (k0_t1_loop i v48).trips) : Fin 3 → Nat :=
  let c2_i32_18 : BitVec 32 := 2#32
  let arg2 : BitVec 32 := BitVec.ofNat 32 (i 2).val
  let v52 : BitVec 32 := Scalar.muli c2_i32_18 arg2
  let c2_i32 : BitVec 32 := 2#32
  let v49 : BitVec 32 := Scalar.muli c2_i32 arg2
  let c0_i32_17 : BitVec 32 := 0#32
  let v50 : BitVec 32 := Scalar.maxsi c0_i32_17 v48
  let v51 : BitVec 32 := Scalar.minsi v49 v50
  let v53 : BitVec 32 := Scalar.subi v52 v51
  let c0_i32_20 : BitVec 32 := 0#32
  let c1_i32_21 : BitVec 32 := 1#32
  let arg13 : BitVec 32 := Scf.iv c0_i32_20 c1_i32_21 k0_t1
  let v377 : BitVec 32 := Scalar.addi v53 arg13
  let v419 : Index := Scalar.indexCast v377
  let c0_151 : Index := 0#32
  let c0_152 : Index := 0#32
  ![v419.toNat, 0, 0]
def k0_mult2 (i : grid0.Coords) (v48 : BitVec 32) (k0_t1 : Fin (k0_t1_loop i v48).trips) : BitVec 32 :=
  let c2_i32_18 : BitVec 32 := 2#32
  let arg2 : BitVec 32 := BitVec.ofNat 32 (i 2).val
  let v52 : BitVec 32 := Scalar.muli c2_i32_18 arg2
  let c2_i32 : BitVec 32 := 2#32
  let v49 : BitVec 32 := Scalar.muli c2_i32 arg2
  let c0_i32_17 : BitVec 32 := 0#32
  let v50 : BitVec 32 := Scalar.maxsi c0_i32_17 v48
  let v51 : BitVec 32 := Scalar.minsi v49 v50
  let v53 : BitVec 32 := Scalar.subi v52 v51
  let c0_i32_20 : BitVec 32 := 0#32
  let c1_i32_21 : BitVec 32 := 1#32
  let arg13 : BitVec 32 := Scf.iv c0_i32_20 c1_i32_21 k0_t1
  let v443 : BitVec 32 := Scalar.addi v53 arg13
  let c256_i32_162 : BitVec 32 := 256#32
  let v444 : BitVec 32 := Scalar.muli v443 c256_i32_162
  v444
def k0_off3 (i : grid0.Coords) (v48 : BitVec 32) (k0_t1 : Fin (k0_t1_loop i v48).trips) : Fin 2 → Nat :=
  let c2_i32_18 : BitVec 32 := 2#32
  let arg2 : BitVec 32 := BitVec.ofNat 32 (i 2).val
  let v52 : BitVec 32 := Scalar.muli c2_i32_18 arg2
  let c2_i32 : BitVec 32 := 2#32
  let v49 : BitVec 32 := Scalar.muli c2_i32 arg2
  let c0_i32_17 : BitVec 32 := 0#32
  let v50 : BitVec 32 := Scalar.maxsi c0_i32_17 v48
  let v51 : BitVec 32 := Scalar.minsi v49 v50
  let v53 : BitVec 32 := Scalar.subi v52 v51
  let c0_i32_20 : BitVec 32 := 0#32
  let c1_i32_21 : BitVec 32 := 1#32
  let arg13 : BitVec 32 := Scf.iv c0_i32_20 c1_i32_21 k0_t1
  let v443 : BitVec 32 := Scalar.addi v53 arg13
  let c256_i32_162 : BitVec 32 := 256#32
  let v444 : BitVec 32 := Scalar.muli v443 c256_i32_162
  let v445 : BitVec 32 := v444
  let v446 : Index := Scalar.indexCast v445
  let c64_163 : Index := 64#32
  ![v446.toNat, 64]
def k0_off4 (i : grid0.Coords) (v48 : BitVec 32) (k0_t1 : Fin (k0_t1_loop i v48).trips) : Fin 3 → Nat :=
  let c2_i32_18 : BitVec 32 := 2#32
  let arg2 : BitVec 32 := BitVec.ofNat 32 (i 2).val
  let v52 : BitVec 32 := Scalar.muli c2_i32_18 arg2
  let c2_i32 : BitVec 32 := 2#32
  let v49 : BitVec 32 := Scalar.muli c2_i32 arg2
  let c0_i32_17 : BitVec 32 := 0#32
  let v50 : BitVec 32 := Scalar.maxsi c0_i32_17 v48
  let v51 : BitVec 32 := Scalar.minsi v49 v50
  let v53 : BitVec 32 := Scalar.subi v52 v51
  let c0_i32_20 : BitVec 32 := 0#32
  let c1_i32_21 : BitVec 32 := 1#32
  let arg13 : BitVec 32 := Scf.iv c0_i32_20 c1_i32_21 k0_t1
  let v443 : BitVec 32 := Scalar.addi v53 arg13
  let v485 : Index := Scalar.indexCast v443
  let c64_174 : Index := 64#32
  let c0_175 : Index := 0#32
  ![v485.toNat, 64, 0]
@[reducible] def k0_t2_loop (i : grid0.Coords) (v48 : BitVec 32) : Scf.Loop 32 :=
  let c0_i32_20 : BitVec 32 := 0#32
  let c2_i32 : BitVec 32 := 2#32
  let arg2 : BitVec 32 := BitVec.ofNat 32 (i 2).val
  let v49 : BitVec 32 := Scalar.muli c2_i32 arg2
  let c0_i32_17 : BitVec 32 := 0#32
  let v50 : BitVec 32 := Scalar.maxsi c0_i32_17 v48
  let v51 : BitVec 32 := Scalar.minsi v49 v50
  let v55 : BitVec 32 := Scalar.subi v51 c0_i32_20
  let c1_i32 : BitVec 32 := 1#32
  let v57 : BitVec 32 := Scalar.divsi v55 c1_i32
  let v58 : BitVec 32 := Scalar.muli v57 c1_i32
  let v59 : BitVec 32 := Scalar.addi c0_i32_20 v58
  let v56 : BitVec 32 := Scalar.addi c0_i32_20 v55
  let c1_i32_22 : BitVec 32 := 1#32
  ⟨v59, v56, c1_i32_22⟩
def k0_mult3 (i : grid0.Coords) (v48 : BitVec 32) (k0_t2 : Fin (k0_t2_loop i v48).trips) : BitVec 32 :=
  let c2_i32_18 : BitVec 32 := 2#32
  let arg2 : BitVec 32 := BitVec.ofNat 32 (i 2).val
  let v52 : BitVec 32 := Scalar.muli c2_i32_18 arg2
  let c2_i32 : BitVec 32 := 2#32
  let v49 : BitVec 32 := Scalar.muli c2_i32 arg2
  let c0_i32_17 : BitVec 32 := 0#32
  let v50 : BitVec 32 := Scalar.maxsi c0_i32_17 v48
  let v51 : BitVec 32 := Scalar.minsi v49 v50
  let v53 : BitVec 32 := Scalar.subi v52 v51
  let c0_i32_20 : BitVec 32 := 0#32
  let v55 : BitVec 32 := Scalar.subi v51 c0_i32_20
  let c1_i32 : BitVec 32 := 1#32
  let v57 : BitVec 32 := Scalar.divsi v55 c1_i32
  let v58 : BitVec 32 := Scalar.muli v57 c1_i32
  let v59 : BitVec 32 := Scalar.addi c0_i32_20 v58
  let c1_i32_22 : BitVec 32 := 1#32
  let arg13 : BitVec 32 := Scf.iv v59 c1_i32_22 k0_t2
  let v377 : BitVec 32 := Scalar.addi v53 arg13
  let c256_i32_139 : BitVec 32 := 256#32
  let v378 : BitVec 32 := Scalar.muli v377 c256_i32_139
  v378
def k0_off5 (i : grid0.Coords) (v48 : BitVec 32) (k0_t2 : Fin (k0_t2_loop i v48).trips) : Fin 2 → Nat :=
  let c2_i32_18 : BitVec 32 := 2#32
  let arg2 : BitVec 32 := BitVec.ofNat 32 (i 2).val
  let v52 : BitVec 32 := Scalar.muli c2_i32_18 arg2
  let c2_i32 : BitVec 32 := 2#32
  let v49 : BitVec 32 := Scalar.muli c2_i32 arg2
  let c0_i32_17 : BitVec 32 := 0#32
  let v50 : BitVec 32 := Scalar.maxsi c0_i32_17 v48
  let v51 : BitVec 32 := Scalar.minsi v49 v50
  let v53 : BitVec 32 := Scalar.subi v52 v51
  let c0_i32_20 : BitVec 32 := 0#32
  let v55 : BitVec 32 := Scalar.subi v51 c0_i32_20
  let c1_i32 : BitVec 32 := 1#32
  let v57 : BitVec 32 := Scalar.divsi v55 c1_i32
  let v58 : BitVec 32 := Scalar.muli v57 c1_i32
  let v59 : BitVec 32 := Scalar.addi c0_i32_20 v58
  let c1_i32_22 : BitVec 32 := 1#32
  let arg13 : BitVec 32 := Scf.iv v59 c1_i32_22 k0_t2
  let v377 : BitVec 32 := Scalar.addi v53 arg13
  let c256_i32_139 : BitVec 32 := 256#32
  let v378 : BitVec 32 := Scalar.muli v377 c256_i32_139
  let v379 : BitVec 32 := v378
  let v380 : Index := Scalar.indexCast v379
  let c0_140 : Index := 0#32
  ![v380.toNat, 0]
def k0_off6 (i : grid0.Coords) (v48 : BitVec 32) (k0_t2 : Fin (k0_t2_loop i v48).trips) : Fin 3 → Nat :=
  let c2_i32_18 : BitVec 32 := 2#32
  let arg2 : BitVec 32 := BitVec.ofNat 32 (i 2).val
  let v52 : BitVec 32 := Scalar.muli c2_i32_18 arg2
  let c2_i32 : BitVec 32 := 2#32
  let v49 : BitVec 32 := Scalar.muli c2_i32 arg2
  let c0_i32_17 : BitVec 32 := 0#32
  let v50 : BitVec 32 := Scalar.maxsi c0_i32_17 v48
  let v51 : BitVec 32 := Scalar.minsi v49 v50
  let v53 : BitVec 32 := Scalar.subi v52 v51
  let c0_i32_20 : BitVec 32 := 0#32
  let v55 : BitVec 32 := Scalar.subi v51 c0_i32_20
  let c1_i32 : BitVec 32 := 1#32
  let v57 : BitVec 32 := Scalar.divsi v55 c1_i32
  let v58 : BitVec 32 := Scalar.muli v57 c1_i32
  let v59 : BitVec 32 := Scalar.addi c0_i32_20 v58
  let c1_i32_22 : BitVec 32 := 1#32
  let arg13 : BitVec 32 := Scf.iv v59 c1_i32_22 k0_t2
  let v377 : BitVec 32 := Scalar.addi v53 arg13
  let v419 : Index := Scalar.indexCast v377
  let c0_151 : Index := 0#32
  let c0_152 : Index := 0#32
  ![v419.toNat, 0, 0]
def k0_mult4 (i : grid0.Coords) (v48 : BitVec 32) (k0_t2 : Fin (k0_t2_loop i v48).trips) : BitVec 32 :=
  let c2_i32_18 : BitVec 32 := 2#32
  let arg2 : BitVec 32 := BitVec.ofNat 32 (i 2).val
  let v52 : BitVec 32 := Scalar.muli c2_i32_18 arg2
  let c2_i32 : BitVec 32 := 2#32
  let v49 : BitVec 32 := Scalar.muli c2_i32 arg2
  let c0_i32_17 : BitVec 32 := 0#32
  let v50 : BitVec 32 := Scalar.maxsi c0_i32_17 v48
  let v51 : BitVec 32 := Scalar.minsi v49 v50
  let v53 : BitVec 32 := Scalar.subi v52 v51
  let c0_i32_20 : BitVec 32 := 0#32
  let v55 : BitVec 32 := Scalar.subi v51 c0_i32_20
  let c1_i32 : BitVec 32 := 1#32
  let v57 : BitVec 32 := Scalar.divsi v55 c1_i32
  let v58 : BitVec 32 := Scalar.muli v57 c1_i32
  let v59 : BitVec 32 := Scalar.addi c0_i32_20 v58
  let c1_i32_22 : BitVec 32 := 1#32
  let arg13 : BitVec 32 := Scf.iv v59 c1_i32_22 k0_t2
  let v443 : BitVec 32 := Scalar.addi v53 arg13
  let c256_i32_162 : BitVec 32 := 256#32
  let v444 : BitVec 32 := Scalar.muli v443 c256_i32_162
  v444
def k0_off7 (i : grid0.Coords) (v48 : BitVec 32) (k0_t2 : Fin (k0_t2_loop i v48).trips) : Fin 2 → Nat :=
  let c2_i32_18 : BitVec 32 := 2#32
  let arg2 : BitVec 32 := BitVec.ofNat 32 (i 2).val
  let v52 : BitVec 32 := Scalar.muli c2_i32_18 arg2
  let c2_i32 : BitVec 32 := 2#32
  let v49 : BitVec 32 := Scalar.muli c2_i32 arg2
  let c0_i32_17 : BitVec 32 := 0#32
  let v50 : BitVec 32 := Scalar.maxsi c0_i32_17 v48
  let v51 : BitVec 32 := Scalar.minsi v49 v50
  let v53 : BitVec 32 := Scalar.subi v52 v51
  let c0_i32_20 : BitVec 32 := 0#32
  let v55 : BitVec 32 := Scalar.subi v51 c0_i32_20
  let c1_i32 : BitVec 32 := 1#32
  let v57 : BitVec 32 := Scalar.divsi v55 c1_i32
  let v58 : BitVec 32 := Scalar.muli v57 c1_i32
  let v59 : BitVec 32 := Scalar.addi c0_i32_20 v58
  let c1_i32_22 : BitVec 32 := 1#32
  let arg13 : BitVec 32 := Scf.iv v59 c1_i32_22 k0_t2
  let v443 : BitVec 32 := Scalar.addi v53 arg13
  let c256_i32_162 : BitVec 32 := 256#32
  let v444 : BitVec 32 := Scalar.muli v443 c256_i32_162
  let v445 : BitVec 32 := v444
  let v446 : Index := Scalar.indexCast v445
  let c64_163 : Index := 64#32
  ![v446.toNat, 64]
def k0_off8 (i : grid0.Coords) (v48 : BitVec 32) (k0_t2 : Fin (k0_t2_loop i v48).trips) : Fin 3 → Nat :=
  let c2_i32_18 : BitVec 32 := 2#32
  let arg2 : BitVec 32 := BitVec.ofNat 32 (i 2).val
  let v52 : BitVec 32 := Scalar.muli c2_i32_18 arg2
  let c2_i32 : BitVec 32 := 2#32
  let v49 : BitVec 32 := Scalar.muli c2_i32 arg2
  let c0_i32_17 : BitVec 32 := 0#32
  let v50 : BitVec 32 := Scalar.maxsi c0_i32_17 v48
  let v51 : BitVec 32 := Scalar.minsi v49 v50
  let v53 : BitVec 32 := Scalar.subi v52 v51
  let c0_i32_20 : BitVec 32 := 0#32
  let v55 : BitVec 32 := Scalar.subi v51 c0_i32_20
  let c1_i32 : BitVec 32 := 1#32
  let v57 : BitVec 32 := Scalar.divsi v55 c1_i32
  let v58 : BitVec 32 := Scalar.muli v57 c1_i32
  let v59 : BitVec 32 := Scalar.addi c0_i32_20 v58
  let c1_i32_22 : BitVec 32 := 1#32
  let arg13 : BitVec 32 := Scf.iv v59 c1_i32_22 k0_t2
  let v443 : BitVec 32 := Scalar.addi v53 arg13
  let v485 : Index := Scalar.indexCast v443
  let c64_174 : Index := 64#32
  let c0_175 : Index := 0#32
  ![v485.toNat, 64, 0]

def k0_chk1 (i : grid0.Coords) (v48 : BitVec 32) : Prop :=
  ((k0_t1_loop i v48).OK) ∧
  (∀ k0_t1 : Fin (k0_t1_loop i v48).trips, 256 ∣ (k0_mult1 i v48 k0_t1).toNat) ∧
  (∀ k0_t1 : Fin (k0_t1_loop i v48).trips, ∀ a, (k0_off1 i v48 k0_t1) a + S256x64.size a ≤ S2048x128.size a) ∧
  (∀ k0_t1 : Fin (k0_t1_loop i v48).trips, ∀ a, (k0_off2 i v48 k0_t1) a + S1x64x256.size a ≤ S8x128x256.size a) ∧
  (∀ k0_t1 : Fin (k0_t1_loop i v48).trips, 256 ∣ (k0_mult2 i v48 k0_t1).toNat) ∧
  (∀ k0_t1 : Fin (k0_t1_loop i v48).trips, ∀ a, (k0_off3 i v48 k0_t1) a + S256x64.size a ≤ S2048x128.size a) ∧
  (∀ k0_t1 : Fin (k0_t1_loop i v48).trips, ∀ a, (k0_off4 i v48 k0_t1) a + S1x64x256.size a ≤ S8x128x256.size a) ∧
  ((k0_t2_loop i v48).OK) ∧
  (∀ k0_t2 : Fin (k0_t2_loop i v48).trips, 256 ∣ (k0_mult3 i v48 k0_t2).toNat) ∧
  (∀ k0_t2 : Fin (k0_t2_loop i v48).trips, ∀ a, (k0_off5 i v48 k0_t2) a + S256x64.size a ≤ S2048x128.size a) ∧
  (∀ k0_t2 : Fin (k0_t2_loop i v48).trips, ∀ a, (k0_off6 i v48 k0_t2) a + S1x64x256.size a ≤ S8x128x256.size a) ∧
  (∀ k0_t2 : Fin (k0_t2_loop i v48).trips, 256 ∣ (k0_mult4 i v48 k0_t2).toNat) ∧
  (∀ k0_t2 : Fin (k0_t2_loop i v48).trips, ∀ a, (k0_off7 i v48 k0_t2) a + S256x64.size a ≤ S2048x128.size a) ∧
  (∀ k0_t2 : Fin (k0_t2_loop i v48).trips, ∀ a, (k0_off8 i v48 k0_t2) a + S1x64x256.size a ≤ S8x128x256.size a)
theorem k0_t1_ok : ∀ (i : grid0.Coords) (v48 : BitVec 32) (k0_hw1 : k0_chk1 i v48), (k0_t1_loop i v48).OK := fun i v48 k0_hw1 => k0_hw1.1
theorem k0_mult1_dvd : ∀ (i : grid0.Coords) (v48 : BitVec 32) (k0_hw1 : k0_chk1 i v48) (k0_t1 : Fin (k0_t1_loop i v48).trips), 256 ∣ (k0_mult1 i v48 k0_t1).toNat := fun i v48 k0_hw1 k0_t1 => k0_hw1.2.1 k0_t1
theorem k0_off1_inb : ∀ (i : grid0.Coords) (v48 : BitVec 32) (k0_hw1 : k0_chk1 i v48) (k0_t1 : Fin (k0_t1_loop i v48).trips), ∀ a, (k0_off1 i v48 k0_t1) a + S256x64.size a ≤ S2048x128.size a := fun i v48 k0_hw1 k0_t1 => k0_hw1.2.2.1 k0_t1
theorem k0_off2_inb : ∀ (i : grid0.Coords) (v48 : BitVec 32) (k0_hw1 : k0_chk1 i v48) (k0_t1 : Fin (k0_t1_loop i v48).trips), ∀ a, (k0_off2 i v48 k0_t1) a + S1x64x256.size a ≤ S8x128x256.size a := fun i v48 k0_hw1 k0_t1 => k0_hw1.2.2.2.1 k0_t1
theorem k0_mult2_dvd : ∀ (i : grid0.Coords) (v48 : BitVec 32) (k0_hw1 : k0_chk1 i v48) (k0_t1 : Fin (k0_t1_loop i v48).trips), 256 ∣ (k0_mult2 i v48 k0_t1).toNat := fun i v48 k0_hw1 k0_t1 => k0_hw1.2.2.2.2.1 k0_t1
theorem k0_off3_inb : ∀ (i : grid0.Coords) (v48 : BitVec 32) (k0_hw1 : k0_chk1 i v48) (k0_t1 : Fin (k0_t1_loop i v48).trips), ∀ a, (k0_off3 i v48 k0_t1) a + S256x64.size a ≤ S2048x128.size a := fun i v48 k0_hw1 k0_t1 => k0_hw1.2.2.2.2.2.1 k0_t1
theorem k0_off4_inb : ∀ (i : grid0.Coords) (v48 : BitVec 32) (k0_hw1 : k0_chk1 i v48) (k0_t1 : Fin (k0_t1_loop i v48).trips), ∀ a, (k0_off4 i v48 k0_t1) a + S1x64x256.size a ≤ S8x128x256.size a := fun i v48 k0_hw1 k0_t1 => k0_hw1.2.2.2.2.2.2.1 k0_t1
theorem k0_t2_ok : ∀ (i : grid0.Coords) (v48 : BitVec 32) (k0_hw1 : k0_chk1 i v48), (k0_t2_loop i v48).OK := fun i v48 k0_hw1 => k0_hw1.2.2.2.2.2.2.2.1
theorem k0_mult3_dvd : ∀ (i : grid0.Coords) (v48 : BitVec 32) (k0_hw1 : k0_chk1 i v48) (k0_t2 : Fin (k0_t2_loop i v48).trips), 256 ∣ (k0_mult3 i v48 k0_t2).toNat := fun i v48 k0_hw1 k0_t2 => k0_hw1.2.2.2.2.2.2.2.2.1 k0_t2
theorem k0_off5_inb : ∀ (i : grid0.Coords) (v48 : BitVec 32) (k0_hw1 : k0_chk1 i v48) (k0_t2 : Fin (k0_t2_loop i v48).trips), ∀ a, (k0_off5 i v48 k0_t2) a + S256x64.size a ≤ S2048x128.size a := fun i v48 k0_hw1 k0_t2 => k0_hw1.2.2.2.2.2.2.2.2.2.1 k0_t2
theorem k0_off6_inb : ∀ (i : grid0.Coords) (v48 : BitVec 32) (k0_hw1 : k0_chk1 i v48) (k0_t2 : Fin (k0_t2_loop i v48).trips), ∀ a, (k0_off6 i v48 k0_t2) a + S1x64x256.size a ≤ S8x128x256.size a := fun i v48 k0_hw1 k0_t2 => k0_hw1.2.2.2.2.2.2.2.2.2.2.1 k0_t2
theorem k0_mult4_dvd : ∀ (i : grid0.Coords) (v48 : BitVec 32) (k0_hw1 : k0_chk1 i v48) (k0_t2 : Fin (k0_t2_loop i v48).trips), 256 ∣ (k0_mult4 i v48 k0_t2).toNat := fun i v48 k0_hw1 k0_t2 => k0_hw1.2.2.2.2.2.2.2.2.2.2.2.1 k0_t2
theorem k0_off7_inb : ∀ (i : grid0.Coords) (v48 : BitVec 32) (k0_hw1 : k0_chk1 i v48) (k0_t2 : Fin (k0_t2_loop i v48).trips), ∀ a, (k0_off7 i v48 k0_t2) a + S256x64.size a ≤ S2048x128.size a := fun i v48 k0_hw1 k0_t2 => k0_hw1.2.2.2.2.2.2.2.2.2.2.2.2.1 k0_t2
theorem k0_off8_inb : ∀ (i : grid0.Coords) (v48 : BitVec 32) (k0_hw1 : k0_chk1 i v48) (k0_t2 : Fin (k0_t2_loop i v48).trips), ∀ a, (k0_off8 i v48 k0_t2) a + S1x64x256.size a ≤ S8x128x256.size a := fun i v48 k0_hw1 k0_t2 => k0_hw1.2.2.2.2.2.2.2.2.2.2.2.2.2 k0_t2

def k0_mult5 (i : grid0.Coords) : BitVec 32 :=
  let c2_i32_23 : BitVec 32 := 2#32
  let arg2 : BitVec 32 := BitVec.ofNat 32 (i 2).val
  let v62 : BitVec 32 := Scalar.muli c2_i32_23 arg2
  let c0_i32_24 : BitVec 32 := 0#32
  let v63 : BitVec 32 := Scalar.addi v62 c0_i32_24
  let c256_i32_25 : BitVec 32 := 256#32
  let v64 : BitVec 32 := Scalar.muli v63 c256_i32_25
  v64
def k0_off9 (i : grid0.Coords) (c0_i32_24 : BitVec 32) : Fin 2 → Nat :=
  let c2_i32_23 : BitVec 32 := 2#32
  let arg2 : BitVec 32 := BitVec.ofNat 32 (i 2).val
  let v62 : BitVec 32 := Scalar.muli c2_i32_23 arg2
  let v63 : BitVec 32 := Scalar.addi v62 c0_i32_24
  let c256_i32_25 : BitVec 32 := 256#32
  let v64 : BitVec 32 := Scalar.muli v63 c256_i32_25
  let v65 : BitVec 32 := v64
  let v66 : Index := Scalar.indexCast v65
  let c0_26 : Index := 0#32
  ![v66.toNat, 0]
def k0_off10 (i : grid0.Coords) (c0_i32_24 : BitVec 32) : Fin 3 → Nat :=
  let c2_i32_23 : BitVec 32 := 2#32
  let arg2 : BitVec 32 := BitVec.ofNat 32 (i 2).val
  let v62 : BitVec 32 := Scalar.muli c2_i32_23 arg2
  let v63 : BitVec 32 := Scalar.addi v62 c0_i32_24
  let v111 : Index := Scalar.indexCast v63
  let c0_40 : Index := 0#32
  let c0_41 : Index := 0#32
  ![v111.toNat, 0, 0]
def k0_mult6 (i : grid0.Coords) : BitVec 32 :=
  let c2_i32_51 : BitVec 32 := 2#32
  let arg2 : BitVec 32 := BitVec.ofNat 32 (i 2).val
  let v135 : BitVec 32 := Scalar.muli c2_i32_51 arg2
  let c0_i32_52 : BitVec 32 := 0#32
  let v136 : BitVec 32 := Scalar.addi v135 c0_i32_52
  let c256_i32_53 : BitVec 32 := 256#32
  let v137 : BitVec 32 := Scalar.muli v136 c256_i32_53
  v137
def k0_off11 (i : grid0.Coords) (c0_i32_52 : BitVec 32) : Fin 2 → Nat :=
  let c2_i32_51 : BitVec 32 := 2#32
  let arg2 : BitVec 32 := BitVec.ofNat 32 (i 2).val
  let v135 : BitVec 32 := Scalar.muli c2_i32_51 arg2
  let v136 : BitVec 32 := Scalar.addi v135 c0_i32_52
  let c256_i32_53 : BitVec 32 := 256#32
  let v137 : BitVec 32 := Scalar.muli v136 c256_i32_53
  let v138 : BitVec 32 := v137
  let v139 : Index := Scalar.indexCast v138
  let c64 : Index := 64#32
  ![v139.toNat, 64]
def k0_off12 (i : grid0.Coords) (c0_i32_52 : BitVec 32) : Fin 3 → Nat :=
  let c2_i32_51 : BitVec 32 := 2#32
  let arg2 : BitVec 32 := BitVec.ofNat 32 (i 2).val
  let v135 : BitVec 32 := Scalar.muli c2_i32_51 arg2
  let v136 : BitVec 32 := Scalar.addi v135 c0_i32_52
  let v184 : Index := Scalar.indexCast v136
  let c64_67 : Index := 64#32
  let c0_68 : Index := 0#32
  ![v184.toNat, 64, 0]
def k0_mult7 (i : grid0.Coords) : BitVec 32 :=
  let c2_i32_78 : BitVec 32 := 2#32
  let arg2 : BitVec 32 := BitVec.ofNat 32 (i 2).val
  let v208 : BitVec 32 := Scalar.muli c2_i32_78 arg2
  let c1_i32_79 : BitVec 32 := 1#32
  let v209 : BitVec 32 := Scalar.addi v208 c1_i32_79
  let c256_i32_80 : BitVec 32 := 256#32
  let v213 : BitVec 32 := Scalar.muli v209 c256_i32_80
  v213
def k0_mult8 (i : grid0.Coords) : BitVec 32 :=
  let c2_i32_105 : BitVec 32 := 2#32
  let arg2 : BitVec 32 := BitVec.ofNat 32 (i 2).val
  let v287 : BitVec 32 := Scalar.muli c2_i32_105 arg2
  let c1_i32_106 : BitVec 32 := 1#32
  let v288 : BitVec 32 := Scalar.addi v287 c1_i32_106
  let c256_i32_107 : BitVec 32 := 256#32
  let v292 : BitVec 32 := Scalar.muli v288 c256_i32_107
  v292
def k0_cond2 (i : grid0.Coords) : BitVec 1 :=
  let arg2 : BitVec 32 := BitVec.ofNat 32 (i 2).val
  let c3_i32 : BitVec 32 := 3#32
  let v374 : BitVec 1 := Scalar.cmpi .eq arg2 c3_i32
  let v375 : BitVec 32 := Scalar.extui v374
  let c0_i32_138 : BitVec 32 := 0#32
  let v376 : BitVec 1 := Scalar.cmpi .ne v375 c0_i32_138
  v376

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceIdeal.lean ====
abbrev S8192x6144 : Shape := ⟨2, ![8192, 6144]⟩
abbrev S8192x2048 : Shape := ⟨2, ![8192, 2048]⟩
abbrev S4x2048x32x64 : Shape := ⟨4, ![4, 2048, 32, 64]⟩
abbrev S4x32x2048x64 : Shape := ⟨4, ![4, 32, 2048, 64]⟩
abbrev S4x32x2048x2048 : Shape := ⟨4, ![4, 32, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x32x64x2048 : Shape := ⟨4, ![4, 32, 64, 2048]⟩

abbrev nBuf : Space → Nat
  | .hbm => 185
  | .vmem => 0
  | .smem => 0
  | _ => 0

abbrev hbmTy0_0 (i : Nat) : BufTy := match i % 128 with
  | 0 => ⟨S8192x6144, .bf16⟩
  | 1 => ⟨S8192x2048, .bf16⟩
  | 2 => ⟨S8192x2048, .bf16⟩
  | 3 => ⟨S8192x2048, .f32⟩
  | 4 => ⟨S8192x2048, .bf16⟩
  | 5 => ⟨S8192x2048, .f32⟩
  | 6 => ⟨S8192x2048, .bf16⟩
  | 7 => ⟨S8192x2048, .f32⟩
  | 8 => ⟨S4x2048x32x64, .f32⟩
  | 9 => ⟨S4x32x2048x64, .f32⟩
  | 10 => ⟨S4x2048x32x64, .f32⟩
  | 11 => ⟨S4x32x2048x64, .f32⟩
  | 12 => ⟨S4x2048x32x64, .f32⟩
  | 13 => ⟨S4x32x2048x64, .f32⟩
  | 14 => ⟨S4x32x2048x2048, .f32⟩
  | 15 => ⟨S_, .f32⟩
  | 16 => ⟨S4x32x2048x2048, .f32⟩
  | 17 => ⟨S4x32x2048x2048, .f32⟩
  | 18 => ⟨S2048, .i32⟩
  | 19 => ⟨S1x2048, .i32⟩
  | 20 => ⟨S2048, .i32⟩
  | 21 => ⟨S2048x1, .i32⟩
  | 22 => ⟨S2048x2048, .i32⟩
  | 23 => ⟨S2048x2048, .i32⟩
  | 24 => ⟨S2048x2048, .i1⟩
  | 25 => ⟨S4x32x2048x2048, .f32⟩
  | 26 => ⟨S_, .f32⟩
  | 27 => ⟨S4x32x2048x2048, .f32⟩
  | 28 => ⟨S4x32x2048x2048, .f32⟩
  | 29 => ⟨S4x32x2048x2048, .f32⟩
  | 30 => ⟨S4x32x2048x2048, .f32⟩
  | 31 => ⟨S4x32x2048x2048, .i1⟩
  | 32 => ⟨S4x32x2048x2048, .f32⟩
  | 33 => ⟨S4x32x2048x2048, .f32⟩
  | 34 => ⟨S4x32x2048x2048, .f32⟩
  | 35 => ⟨S4x32x2048x2048, .f32⟩
  | 36 => ⟨S4x32x2048x2048, .f32⟩
  | 37 => ⟨S4x32x2048x2048, .f32⟩
  | 38 => ⟨S4x32x2048x2048, .f32⟩
  | 39 => ⟨S4x32x2048x2048, .f32⟩
  | 40 => ⟨S_, .f32⟩
  | 41 => ⟨S4x32x2048x2048, .f32⟩
  | 42 => ⟨S4x32x2048x2048, .i1⟩
  | 43 => ⟨S_, .f32⟩
  | 44 => ⟨S4x32x2048x2048, .f32⟩
  | 45 => ⟨S4x32x2048x2048, .f32⟩
  | 46 => ⟨S_, .f32⟩
  | 47 => ⟨S4x32x2048x2048, .f32⟩
  | 48 => ⟨S4x32x2048x2048, .i1⟩
  | 49 => ⟨S_, .f32⟩
  | 50 => ⟨S4x32x2048x2048, .f32⟩
  | 51 => ⟨S4x32x2048x2048, .f32⟩
  | 52 => ⟨S4x32x2048x2048, .f32⟩
  | 53 => ⟨S4x32x2048x2048, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S4x32x2048x2048, .f32⟩
  | 62 => ⟨S4x32x2048x2048, .i1⟩
  | 63 => ⟨S_, .f32⟩
  | 64 => ⟨S4x32x2048x2048, .f32⟩
  | 65 => ⟨S4x32x2048x2048, .f32⟩
  | 66 => ⟨S4x32x2048x2048, .f32⟩
  | 67 => ⟨S4x32x2048x2048, .f32⟩
  | 68 => ⟨S4x32x2048x2048, .f32⟩
  | 69 => ⟨S_, .f32⟩
  | 70 => ⟨S4x32x2048x2048, .f32⟩
  | 71 => ⟨S4x32x2048x2048, .f32⟩
  | 72 => ⟨S4x32x2048x2048, .f32⟩
  | 73 => ⟨S4x32x2048x2048, .f32⟩
  | 74 => ⟨S4x32x2048x2048, .f32⟩
  | 75 => ⟨S_, .f32⟩
  | 76 => ⟨S4x32x2048x2048, .f32⟩
  | 77 => ⟨S4x32x2048x2048, .f32⟩
  | 78 => ⟨S4x32x2048x2048, .f32⟩
  | 79 => ⟨S4x32x2048x2048, .f32⟩
  | 80 => ⟨S4x32x2048x2048, .i1⟩
  | 81 => ⟨S4x32x2048x2048, .f32⟩
  | 82 => ⟨S4x32x2048x2048, .f32⟩
  | 83 => ⟨S4x32x2048x2048, .f32⟩
  | 84 => ⟨S4x32x2048x2048, .f32⟩
  | 85 => ⟨S4x32x2048x2048, .f32⟩
  | 86 => ⟨S4x32x2048x2048, .f32⟩
  | 87 => ⟨S4x32x2048x2048, .f32⟩
  | 88 => ⟨S4x32x2048x2048, .f32⟩
  | 89 => ⟨S_, .f32⟩
  | 90 => ⟨S4x32x2048x2048, .f32⟩
  | 91 => ⟨S4x32x2048x2048, .i1⟩
  | 92 => ⟨S_, .f32⟩
  | 93 => ⟨S4x32x2048x2048, .f32⟩
  | 94 => ⟨S4x32x2048x2048, .f32⟩
  | 95 => ⟨S_, .f32⟩
  | 96 => ⟨S4x32x2048x2048, .f32⟩
  | 97 => ⟨S4x32x2048x2048, .i1⟩
  | 98 => ⟨S_, .f32⟩
  | 99 => ⟨S4x32x2048x2048, .f32⟩
  | 100 => ⟨S4x32x2048x2048, .f32⟩
  | 101 => ⟨S4x32x2048x2048, .f32⟩
  | 102 => ⟨S4x32x2048x2048, .f32⟩
  | 103 => ⟨S_, .f32⟩
  | 104 => ⟨S_, .f32⟩
  | 105 => ⟨S_, .i1⟩
  | 106 => ⟨S_, .f32⟩
  | 107 => ⟨S_, .f32⟩
  | 108 => ⟨S_, .f32⟩
  | 109 => ⟨S_, .f32⟩
  | 110 => ⟨S4x32x2048x2048, .f32⟩
  | 111 => ⟨S4x32x2048x2048, .i1⟩
  | 112 => ⟨S_, .f32⟩
  | 113 => ⟨S4x32x2048x2048, .f32⟩
  | 114 => ⟨S4x32x2048x2048, .f32⟩
  | 115 => ⟨S4x32x2048x2048, .f32⟩
  | 116 => ⟨S4x32x2048x2048, .f32⟩
  | 117 => ⟨S4x32x2048x2048, .f32⟩
  | 118 => ⟨S_, .f32⟩
  | 119 => ⟨S4x32x2048x2048, .f32⟩
  | 120 => ⟨S4x32x2048x2048, .f32⟩
  | 121 => ⟨S4x32x2048x2048, .f32⟩
  | 122 => ⟨S_, .f32⟩
  | 123 => ⟨S_, .f32⟩
  | 124 => ⟨S4x32x2048x2048, .i1⟩
  | 125 => ⟨S4x32x2048x2048, .f32⟩
  | 126 => ⟨S4x32x2048x2048, .f32⟩
  | 127 => ⟨S_, .f32⟩
  | _ => ⟨S8192x6144, .bf16⟩

abbrev hbmTy0_1 (i : Nat) : BufTy := match i % 128 with
  | 0 => ⟨S4x32x2048x2048, .f32⟩
  | 1 => ⟨S_, .f32⟩
  | 2 => ⟨S_, .f32⟩
  | 3 => ⟨S4x32x2048x2048, .f32⟩
  | 4 => ⟨S4x32x2048x2048, .f32⟩
  | 5 => ⟨S4x32x2048x2048, .f32⟩
  | 6 => ⟨S4x32x2048x2048, .f32⟩
  | 7 => ⟨S_, .f32⟩
  | 8 => ⟨S_, .f32⟩
  | 9 => ⟨S4x32x2048x2048, .i1⟩
  | 10 => ⟨S4x32x2048x2048, .f32⟩
  | 11 => ⟨S4x32x2048x2048, .f32⟩
  | 12 => ⟨S_, .f32⟩
  | 13 => ⟨S4x32x2048x2048, .f32⟩
  | 14 => ⟨S4x32x2048x64, .f32⟩
  | 15 => ⟨S4x2048x32x64, .f32⟩
  | 16 => ⟨S8192x2048, .f32⟩
  | 17 => ⟨S8192x2048, .f32⟩
  | 18 => ⟨S4x2048x32x64, .f32⟩
  | 19 => ⟨S4x32x2048x64, .f32⟩
  | 20 => ⟨S4x32x64x2048, .f32⟩
  | 21 => ⟨S4x32x2048x64, .f32⟩
  | 22 => ⟨S4x32x2048x2048, .f32⟩
  | 23 => ⟨S_, .f32⟩
  | 24 => ⟨S4x32x2048x2048, .f32⟩
  | 25 => ⟨S4x32x2048x2048, .f32⟩
  | 26 => ⟨S4x32x2048x2048, .f32⟩
  | 27 => ⟨S4x32x2048x2048, .f32⟩
  | 28 => ⟨S_, .f32⟩
  | 29 => ⟨S_, .f32⟩
  | 30 => ⟨S4x32x2048x2048, .f32⟩
  | 31 => ⟨S4x32x2048x2048, .f32⟩
  | 32 => ⟨S_, .f32⟩
  | 33 => ⟨S4x32x2048x2048, .f32⟩
  | 34 => ⟨S4x32x2048x2048, .f32⟩
  | 35 => ⟨S4x32x2048x2048, .f32⟩
  | 36 => ⟨S4x32x2048x2048, .f32⟩
  | 37 => ⟨S4x32x2048x2048, .f32⟩
  | 38 => ⟨S4x32x2048x2048, .f32⟩
  | 39 => ⟨S4x32x2048x2048, .f32⟩
  | 40 => ⟨S4x32x2048x2048, .f32⟩
  | 41 => ⟨S4x32x2048x2048, .f32⟩
  | 42 => ⟨S4x32x2048x2048, .f32⟩
  | 43 => ⟨S_, .f32⟩
  | 44 => ⟨S4x32x2048x2048, .f32⟩
  | 45 => ⟨S4x32x2048x2048, .f32⟩
  | 46 => ⟨S4x32x2048x64, .f32⟩
  | 47 => ⟨S4x32x2048x64, .f32⟩
  | 48 => ⟨S4x2048x32x64, .f32⟩
  | 49 => ⟨S8192x2048, .f32⟩
  | 50 => ⟨S4x2048x32x64, .f32⟩
  | 51 => ⟨S8192x2048, .f32⟩
  | 52 => ⟨S4x2048x32x64, .f32⟩
  | 53 => ⟨S8192x2048, .f32⟩
  | 54 => ⟨S8192x2048, .bf16⟩
  | 55 => ⟨S8192x2048, .bf16⟩
  | 56 => ⟨S8192x2048, .bf16⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1_0 : Ref sig .tc := ⟨.hbm, 39, rfl⟩
abbrev main_call0_call0_cst_0 : Ref sig .tc := ⟨.hbm, 40, rfl⟩
abbrev main_call0_call0_v13 : Ref sig .tc := ⟨.hbm, 41, rfl⟩
abbrev main_call0_call0_v14 : Ref sig .tc := ⟨.hbm, 42, rfl⟩
abbrev main_call0_call0_cst_1 : Ref sig .tc := ⟨.hbm, 43, rfl⟩
abbrev main_call0_call0_v15 : Ref sig .tc := ⟨.hbm, 44, rfl⟩
abbrev main_call0_call0_v16 : Ref sig .tc := ⟨.hbm, 45, rfl⟩
abbrev main_call0_call0_cst_2 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_cst_3 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_v21 : Ref sig .tc := ⟨.hbm, 52, rfl⟩
abbrev main_v22_1 : Ref sig .tc := ⟨.hbm, 53, rfl⟩
abbrev main_call0_call0_cst_4 : Ref sig .tc := ⟨.hbm, 54, rfl⟩
abbrev main_call0_call0_cst_5 : Ref sig .tc := ⟨.hbm, 55, rfl⟩
abbrev main_call0_call0_v23 : Ref sig .tc := ⟨.hbm, 56, rfl⟩
abbrev main_call0_call0_cst_6 : Ref sig .tc := ⟨.hbm, 57, rfl⟩
abbrev main_call0_call0_cst_7 : Ref sig .tc := ⟨.hbm, 58, rfl⟩
abbrev main_call0_call0_v24 : Ref sig .tc := ⟨.hbm, 59, rfl⟩
abbrev main_call0_call0_cst_8 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_cst_9 : Ref sig .tc := ⟨.hbm, 63, rfl⟩
abbrev main_call0_call0_v27 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_cst_10 : Ref sig .tc := ⟨.hbm, 69, rfl⟩
abbrev main_call0_call0_v32 : Ref sig .tc := ⟨.hbm, 70, rfl⟩
abbrev main_v22_2 : Ref sig .tc := ⟨.hbm, 71, rfl⟩
abbrev main_v22_0 : Ref sig .tc := ⟨.hbm, 72, rfl⟩
abbrev main_v23 : Ref sig .tc := ⟨.hbm, 73, rfl⟩
abbrev main_call1_v0 : Ref sig .tc := ⟨.hbm, 74, rfl⟩
abbrev main_call1_call0_cst : Ref sig .tc := ⟨.hbm, 75, rfl⟩
abbrev main_call1_call0_v0 : Ref sig .tc := ⟨.hbm, 76, rfl⟩
abbrev main_call1_call0_v1 : Ref sig .tc := ⟨.hbm, 77, rfl⟩
abbrev main_call1_call0_v2 : Ref sig .tc := ⟨.hbm, 78, rfl⟩
abbrev main_call1_call0_v3 : Ref sig .tc := ⟨.hbm, 79, rfl⟩
abbrev main_call1_call0_v4 : Ref sig .tc := ⟨.hbm, 80, rfl⟩
abbrev main_call1_call0_v5 : Ref sig .tc := ⟨.hbm, 81, rfl⟩
abbrev main_call1_call0_v6 : Ref sig .tc := ⟨.hbm, 82, rfl⟩
abbrev main_call1_call0_v7 : Ref sig .tc := ⟨.hbm, 83, rfl⟩
abbrev main_call1_call0_v8 : Ref sig .tc := ⟨.hbm, 84, rfl⟩
abbrev main_call1_call0_v9 : Ref sig .tc := ⟨.hbm, 85, rfl⟩
abbrev main_call1_call0_v10 : Ref sig .tc := ⟨.hbm, 86, rfl⟩
abbrev main_call1_call0_v11 : Ref sig .tc := ⟨.hbm, 87, rfl⟩
abbrev main_call1_v1_0 : Ref sig .tc := ⟨.hbm, 88, rfl⟩
abbrev main_call1_call0_cst_0 : Ref sig .tc := ⟨.hbm, 89, rfl⟩
abbrev main_call1_call0_v13 : Ref sig .tc := ⟨.hbm, 90, rfl⟩
abbrev main_call1_call0_v14 : Ref sig .tc := ⟨.hbm, 91, rfl⟩
abbrev main_call1_call0_cst_1 : Ref sig .tc := ⟨.hbm, 92, rfl⟩
abbrev main_call1_call0_v15 : Ref sig .tc := ⟨.hbm, 93, rfl⟩
abbrev main_call1_call0_v16 : Ref sig .tc := ⟨.hbm, 94, rfl⟩
abbrev main_call1_call0_cst_2 : Ref sig .tc := ⟨.hbm, 95, rfl⟩
abbrev main_call1_call0_v17 : Ref sig .tc := ⟨.hbm, 96, rfl⟩
abbrev main_call1_call0_v18 : Ref sig .tc := ⟨.hbm, 97, rfl⟩
abbrev main_call1_call0_cst_3 : Ref sig .tc := ⟨.hbm, 98, rfl⟩
abbrev main_call1_call0_v19 : Ref sig .tc := ⟨.hbm, 99, rfl⟩
abbrev main_call1_call0_v20 : Ref sig .tc := ⟨.hbm, 100, rfl⟩
abbrev main_call1_call0_v21 : Ref sig .tc := ⟨.hbm, 101, rfl⟩
abbrev main_v24_1 : Ref sig .tc := ⟨.hbm, 102, rfl⟩
abbrev main_call1_call0_cst_4 : Ref sig .tc := ⟨.hbm, 103, rfl⟩
abbrev main_call1_call0_cst_5 : Ref sig .tc := ⟨.hbm, 104, rfl⟩
abbrev main_call1_call0_v23 : Ref sig .tc := ⟨.hbm, 105, rfl⟩
abbrev main_call1_call0_cst_6 : Ref sig .tc := ⟨.hbm, 106, rfl⟩
abbrev main_call1_call0_cst_7 : Ref sig .tc := ⟨.hbm, 107, rfl⟩
abbrev main_call1_call0_v24 : Ref sig .tc := ⟨.hbm, 108, rfl⟩
abbrev main_call1_call0_cst_8 : Ref sig .tc := ⟨.hbm, 109, rfl⟩
abbrev main_call1_call0_v25 : Ref sig .tc := ⟨.hbm, 110, rfl⟩
abbrev main_call1_call0_v26 : Ref sig .tc := ⟨.hbm, 111, rfl⟩
abbrev main_call1_call0_cst_9 : Ref sig .tc := ⟨.hbm, 112, rfl⟩
abbrev main_call1_call0_v27 : Ref sig .tc := ⟨.hbm, 113, rfl⟩
abbrev main_call1_call0_v28 : Ref sig .tc := ⟨.hbm, 114, rfl⟩
abbrev main_call1_call0_v29 : Ref sig .tc := ⟨.hbm, 115, rfl⟩
abbrev main_call1_call0_v30 : Ref sig .tc := ⟨.hbm, 116, rfl⟩
abbrev main_call1_call0_v31 : Ref sig .tc := ⟨.hbm, 117, rfl⟩
abbrev main_call1_call0_cst_10 : Ref sig .tc := ⟨.hbm, 118, rfl⟩
abbrev main_call1_call0_v32 : Ref sig .tc := ⟨.hbm, 119, rfl⟩
abbrev main_v24_2 : Ref sig .tc := ⟨.hbm, 120, rfl⟩
abbrev main_v24_0 : Ref sig .tc := ⟨.hbm, 121, rfl⟩
abbrev main_cst_0 : Ref sig .tc := ⟨.hbm, 122, rfl⟩
abbrev main_call2_v0 : Ref sig .tc := ⟨.hbm, 123, rfl⟩
abbrev main_v25_1 : Ref sig .tc := ⟨.hbm, 124, rfl⟩
abbrev main_call2_v2 : Ref sig .tc := ⟨.hbm, 125, rfl⟩
abbrev main_v25_0 : Ref sig .tc := ⟨.hbm, 126, rfl⟩
abbrev main_call2_cst : Ref sig .tc := ⟨.hbm, 127, rfl⟩
abbrev main_v25_2 : Ref sig .tc := ⟨.hbm, 128, rfl⟩
abbrev main_call3_cst : Ref sig .tc := ⟨.hbm, 129, rfl⟩
abbrev main_call3_v0 : Ref sig .tc := ⟨.hbm, 130, rfl⟩
abbrev main_v26 : Ref sig .tc := ⟨.hbm, 131, rfl⟩
abbrev main_v27 : Ref sig .tc := ⟨.hbm, 132, rfl⟩
abbrev main_v28 : Ref sig .tc := ⟨.hbm, 133, rfl⟩
abbrev main_v29 : Ref sig .tc := ⟨.hbm, 134, rfl⟩
abbrev main_cst_1 : Ref sig .tc := ⟨.hbm, 135, rfl⟩
abbrev main_call4_v0 : Ref sig .tc := ⟨.hbm, 136, rfl⟩
abbrev main_v30_1 : Ref sig .tc := ⟨.hbm, 137, rfl⟩
abbrev main_call4_v2 : Ref sig .tc := ⟨.hbm, 138, rfl⟩
abbrev main_v30_0 : Ref sig .tc := ⟨.hbm, 139, rfl⟩
abbrev main_call4_cst : Ref sig .tc := ⟨.hbm, 140, rfl⟩
abbrev main_v30_2 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_call5_cst : Ref sig .tc := ⟨.hbm, 151, rfl⟩
abbrev main_call5_v0 : Ref sig .tc := ⟨.hbm, 152, rfl⟩
abbrev main_v40 : Ref sig .tc := ⟨.hbm, 153, rfl⟩
abbrev main_v41 : Ref sig .tc := ⟨.hbm, 154, rfl⟩
abbrev main_v42 : Ref sig .tc := ⟨.hbm, 155, rfl⟩
abbrev main_call6_cst : Ref sig .tc := ⟨.hbm, 156, rfl⟩
abbrev main_call6_v0 : Ref sig .tc := ⟨.hbm, 157, rfl⟩
abbrev main_v43 : Ref sig .tc := ⟨.hbm, 158, rfl⟩
abbrev main_v44 : Ref sig .tc := ⟨.hbm, 159, rfl⟩
abbrev main_call7_cst : Ref sig .tc := ⟨.hbm, 160, rfl⟩
abbrev main_call7_v0 : Ref sig .tc := ⟨.hbm, 161, rfl⟩
abbrev main_v45 : Ref sig .tc := ⟨.hbm, 162, rfl⟩
abbrev main_call8_v0 : Ref sig .tc := ⟨.hbm, 163, rfl⟩
abbrev main_call8_v1 : Ref sig .tc := ⟨.hbm, 164, rfl⟩
abbrev main_v46 : Ref sig .tc := ⟨.hbm, 165, rfl⟩
abbrev main_v47 : Ref sig .tc := ⟨.hbm, 166, rfl⟩
abbrev main_call9_v0 : Ref sig .tc := ⟨.hbm, 167, rfl⟩
abbrev main_call9_v1 : Ref sig .tc := ⟨.hbm, 168, rfl⟩
abbrev main_v48 : Ref sig .tc := ⟨.hbm, 169, rfl⟩
abbrev main_v49 : Ref sig .tc := ⟨.hbm, 170, rfl⟩
abbrev main_cst_2 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩

abbrev nD : Nat := 1
abbrev τ : Topo := Topo.v7x

variable {F : FTy → Type} [FloatOps F]
-- ==== KernelDwin.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDwinIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwout.lean ====
abbrev S8192x2048 : Shape := ⟨2, ![8192, 2048]⟩
abbrev S8192x1024 : Shape := ⟨2, ![8192, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceDwoutIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelZ.lean ====
abbrev S8192x1024 : Shape := ⟨2, ![8192, 1024]⟩
abbrev S1x1024 : Shape := ⟨2, ![1, 1024]⟩
abbrev S4x1x1024 : Shape := ⟨3, ![4, 1, 1024]⟩
abbrev S1024x8192 : Shape := ⟨2, ![1024, 8192]⟩
abbrev S8192x2048 : Shape := ⟨2, ![8192, 2048]⟩
abbrev S512x1024 : Shape := ⟨2, ![512, 1024]⟩
abbrev S1x1x1024 : Shape := ⟨3, ![1, 1, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S1024x8192, .bf16⟩
  | .hbm, ⟨5, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceZIdeal.lean ====
abbrev S8192x1024 : Shape := ⟨2, ![8192, 1024]⟩
abbrev S1x1024 : Shape := ⟨2, ![1, 1024]⟩
abbrev S4x1x1024 : Shape := ⟨3, ![4, 1, 1024]⟩
abbrev S1024x8192 : Shape := ⟨2, ![1024, 8192]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x8192 : Shape := ⟨2, ![8192, 8192]⟩
abbrev S8192x2048 : Shape := ⟨2, ![8192, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S1024x8192, .bf16⟩
  | .hbm, ⟨5, _⟩ => ⟨S4x2048x1024, .f32⟩
  | .hbm, ⟨6, _⟩ => ⟨S1024, .f32⟩
  | .hbm, ⟨7, _⟩ => ⟨S4x2048x1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S8192x1024, .f32⟩
  | .hbm, ⟨31, _⟩ => ⟨S1024x8192, .f32⟩
  | .hbm, ⟨32, _⟩ => ⟨S8192x8192, .f32⟩
  | .hbm, ⟨33, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== KernelOut.lean ====
abbrev S8192x2048 : Shape := ⟨2, ![8192, 2048]⟩
abbrev S2048x1024 : Shape := ⟨2, ![2048, 1024]⟩
abbrev S8192x1024 : Shape := ⟨2, ![8192, 1024]⟩
abbrev S4x1x1024 : Shape := ⟨3, ![4, 1, 1024]⟩
abbrev S256x2048 : Shape := ⟨2, ![256, 2048]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 8
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x1024, .bf16⟩
  | .hbm, ⟨3, _⟩ => ⟨S8192x1024, .f32⟩
  | .hbm, ⟨4, _⟩ => ⟨S4x1x1024, .f32⟩
  | .hbm, ⟨5, _⟩ => ⟨S8192x1024, .f32⟩
  | .hbm, ⟨6, _⟩ => ⟨S8192x1024, .f32⟩
  | .hbm, ⟨7, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x1024, .bf16⟩
  | .local _ .vmem, ⟨5, _⟩ => ⟨S256x1024, .f32⟩
  | .local _ .vmem, ⟨6, _⟩ => ⟨S256x1024, .f32⟩
  | .local _ .vmem, ⟨7, _⟩ => ⟨S1x1x1024, .f32⟩
  | .local _ .vmem, ⟨8, _⟩ => ⟨S1x1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x2048, .bf16⟩
  | .local _ .vmem, ⟨14, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceOutIdeal.lean ====
abbrev S8192x2048 : Shape := ⟨2, ![8192, 2048]⟩
abbrev S2048x1024 : Shape := ⟨2, ![2048, 1024]⟩
abbrev S8192x1024 : Shape := ⟨2, ![8192, 1024]⟩
abbrev S4x1x1024 : Shape := ⟨3, ![4, 1, 1024]⟩
abbrev S_ : Shape := ⟨0, ![]⟩
abbrev S4x2048x1024 : Shape := ⟨3, ![4, 2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x1024, .bf16⟩
  | .hbm, ⟨3, _⟩ => ⟨S8192x1024, .f32⟩
  | .hbm, ⟨4, _⟩ => ⟨S4x1x1024, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S2048x1024, .f32⟩
  | .hbm, ⟨16, _⟩ => ⟨S8192x1024, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S8192x1024, .f32⟩
  | .hbm, ⟨23, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]
-- ==== KernelDh.lean ====
abbrev S8192x2048 : Shape := ⟨2, ![8192, 2048]⟩
abbrev S1024x8192 : Shape := ⟨2, ![1024, 8192]⟩
abbrev S8192x1024 : Shape := ⟨2, ![8192, 1024]⟩
abbrev S1x1024 : Shape := ⟨2, ![1, 1024]⟩
abbrev S4x1x1024 : Shape := ⟨3, ![4, 1, 1024]⟩
abbrev S512x2048 : Shape := ⟨2, ![512, 2048]⟩
abbrev S512x1024 : Shape := ⟨2, ![512, 1024]⟩
abbrev S1x1x1024 : Shape := ⟨3, ![1, 1, 1024]⟩
abbrev S2048x1024 : Shape := ⟨2, ![2048, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 22
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S1024x8192, .bf16⟩
  | .hbm, ⟨5, _⟩ => ⟨S8192x1024, .f32⟩
  | .hbm, ⟨6, _⟩ => ⟨S1x1024, .f32⟩
  | .hbm, ⟨7, _⟩ => ⟨S4x1x1024, .f32⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S4x1x1024, .f32⟩
  | .hbm, ⟨12, _⟩ => ⟨S4x1x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S8192x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c4_i32 : BitVec 32 := 4#32
  let c0_i32 : BitVec 32 := 0#32
  let v56 : BitVec 1 := Scalar.cmpi .eq c4_i32 c0_i32
  let c1_i32 : BitVec 32 := 1#32
  let v57 : BitVec 32 := Scalar.select v56 c1_i32 c4_i32
  let v58 : BitVec 32 := Scalar.remsi arg0 v57
  let c0_i32_35 : BitVec 32 := 0#32
  let v60 : BitVec 1 := Scalar.cmpi .slt v58 c0_i32_35
  let c0_i32_36 : BitVec 32 := 0#32
  let v61 : BitVec 1 := Scalar.cmpi .slt v57 c0_i32_36
  let v62 : BitVec 1 := Scalar.xori v60 v61
  let c0_i32_34 : BitVec 32 := 0#32
  let v59 : BitVec 1 := Scalar.cmpi .ne v58 c0_i32_34
  let v63 : BitVec 1 := Scalar.andi v62 v59
  let v64 : BitVec 32 := Scalar.addi v58 v57
  let v65 : BitVec 32 := Scalar.select v63 v64 v58
  let c0_i32_37 : BitVec 32 := 0#32
  let v66 : BitVec 1 := Scalar.cmpi .eq v65 c0_i32_37
  let v67 : BitVec 32 := Scalar.extui v66
  let c0_i32_38 : BitVec 32 := 0#32
  let v68 : BitVec 1 := Scalar.cmpi .ne v67 c0_i32_38
  v68

def k0_cond2 (i : grid0.Coords) : BitVec 1 :=
  let arg0 : BitVec 32 := BitVec.ofNat 32 (i 0).val
  let c4_i32_39 : BitVec 32 := 4#32
  let c0_i32_40 : BitVec 32 := 0#32
  let v69 : BitVec 1 := Scalar.cmpi .eq c4_i32_39 c0_i32_40
  let c1_i32_41 : BitVec 32 := 1#32
  let v70 : BitVec 32 := Scalar.select v69 c1_i32_41 c4_i32_39
  let v71 : BitVec 32 := Scalar.remsi arg0 v70
  let c0_i32_43 : BitVec 32 := 0#32
  let v73 : BitVec 1 := Scalar.cmpi .slt v71 c0_i32_43
  let c0_i32_44 : BitVec 32 := 0#32
  let v74 : BitVec 1 := Scalar.cmpi .slt v70 c0_i32_44
  let v75 : BitVec 1 := Scalar.xori v73 v74
  let c0_i32_42 : BitVec 32 := 0#32
  let v72 : BitVec 1 := Scalar.cmpi .ne v71 c0_i32_42
  let v76 : BitVec 1 := Scalar.andi v75 v72
  let v77 : BitVec 32 := Scalar.addi v71 v70
  let v78 : BitVec 32 := Scalar.select v76 v77 v71
  let c0_i32_45 : BitVec 32 := 0#32
  let v79 : BitVec 1 := Scalar.cmpi .ne v78 c0_i32_45
  let v80 : BitVec 32 := Scalar.extui v79
  let c0_i32_46 : BitVec 32 := 0#32
  let v81 : BitVec 1 := Scalar.cmpi .ne v80 c0_i32_46
  v81

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8192x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceDhIdeal.lean ====
abbrev S8192x2048 : Shape := ⟨2, ![8192, 2048]⟩
abbrev S1024x8192 : Shape := ⟨2, ![1024, 8192]⟩
abbrev S8192x1024 : Shape := ⟨2, ![8192, 1024]⟩
abbrev S1x1024 : Shape := ⟨2, ![1, 1024]⟩
abbrev S4x1x1024 : Shape := ⟨3, ![4, 1, 1024]⟩
abbrev S8192x8192 : Shape := ⟨2, ![8192, 8192]⟩
abbrev S_ : Shape := ⟨0, ![]⟩
abbrev S1x1x1024 : Shape := ⟨3, ![1, 1, 1024]⟩
abbrev S4x2048x1024 : Shape := ⟨3, ![4, 2048, 1024]⟩
abbrev S4x2048 : Shape := ⟨2, ![4, 2048]⟩
abbrev S4x2048x1 : Shape := ⟨3, ![4, 2048, 1]⟩
abbrev S4x1024 : Shape := ⟨2, ![4, 1024]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S1024x8192, .bf16⟩
  | .hbm, ⟨5, _⟩ => ⟨S8192x1024, .f32⟩
  | .hbm, ⟨6, _⟩ => ⟨S1x1024, .f32⟩
  | .hbm, ⟨7, _⟩ => ⟨S4x1x1024, .f32⟩
  | .hbm, ⟨8, _⟩ => ⟨S8192x1024, .f32⟩
  | .hbm, ⟨9, _⟩ => ⟨S8192x8192, .bf16⟩
  | .hbm, ⟨10, _⟩ => ⟨S8192x8192, .f32⟩
  | .hbm, ⟨11, _⟩ => ⟨S_, .f32⟩
  | .hbm, ⟨12, _⟩ => ⟨S4x1x1024, .f32⟩
  | .hbm, ⟨13, _⟩ => ⟨S4x1x1024, .f32⟩
  | .hbm, ⟨14, _⟩ => ⟨S1x1x1024, .f32⟩
  | .hbm, ⟨15, _⟩ => ⟨S4x1x1024, .f32⟩
  | .hbm, ⟨16, _⟩ => ⟨S4x1x1024, .f32⟩
  | .hbm, ⟨17, _⟩ => ⟨S_, .f32⟩
  | .hbm, ⟨18, _⟩ => ⟨S4x1x1024, .f32⟩
  | .hbm, ⟨19, _⟩ => ⟨S1024x8192, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x1, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S8192x1024, .f32⟩
  | .hbm, ⟨43, _⟩ => ⟨S8192x8192, .f32⟩
  | .hbm, ⟨44, _⟩ => ⟨S8192x1024, .f32⟩
  | .hbm, ⟨45, _⟩ => ⟨S4x2048x1024, .f32⟩
  | .hbm, ⟨46, _⟩ => ⟨S_, .f32⟩
  | .hbm, ⟨47, _⟩ => ⟨S4x1024, .f32⟩
  | .hbm, ⟨48, _⟩ => ⟨S4x1x1024, .f32⟩
  | .hbm, ⟨49, _⟩ => ⟨S4x2048x1024, .f32⟩
  | .hbm, ⟨50, _⟩ => ⟨S_, .f32⟩
  | .hbm, ⟨51, _⟩ => ⟨S4x1024, .f32⟩
  | .hbm, ⟨52, _⟩ => ⟨S4x1x1024, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S_, .f32⟩
  | .hbm, ⟨57, _⟩ => ⟨S4x2048, .f32⟩
  | .hbm, ⟨58, _⟩ => ⟨S4x2048x1, .f32⟩
  | .hbm, ⟨59, _⟩ => ⟨S4x2048x1024, .f32⟩
  | .hbm, ⟨60, _⟩ => ⟨S4x2048x1024, .f32⟩
  | .hbm, ⟨61, _⟩ => ⟨S4x2048x1, .f32⟩
  | .hbm, ⟨62, _⟩ => ⟨S_, .f32⟩
  | .hbm, ⟨63, _⟩ => ⟨S4x2048x1, .f32⟩
  | .hbm, ⟨64, _⟩ => ⟨S4x2048x1, .f32⟩
  | .hbm, ⟨65, _⟩ => ⟨S_, .f32⟩
  | .hbm, ⟨66, _⟩ => ⟨S4x2048, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S4x2048x1024, .f32⟩
  | .hbm, ⟨71, _⟩ => ⟨S4x2048x1024, .f32⟩
  | .hbm, ⟨72, _⟩ => ⟨S8192x1024, .f32⟩
  | .hbm, ⟨73, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== KernelDout.lean ====
abbrev S8192x1024 : Shape := ⟨2, ![8192, 1024]⟩
abbrev S4x1x1024 : Shape := ⟨3, ![4, 1, 1024]⟩
abbrev S2048x1024 : Shape := ⟨2, ![2048, 1024]⟩
abbrev S8192x2048 : Shape := ⟨2, ![8192, 2048]⟩
abbrev S256x1024 : Shape := ⟨2, ![256, 1024]⟩
abbrev S1x1x1024 : Shape := ⟨3, ![1, 1, 1024]⟩
abbrev S256x2048 : Shape := ⟨2, ![256, 2048]⟩
abbrev S1024 : Shape := ⟨1, ![1024]⟩
abbrev S1x1024 : Shape := ⟨2, ![1, 1024]⟩

abbrev nBuf : Space → Nat
  | .hbm => 10
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x1x1024, .f32⟩
  | .hbm, ⟨3, _⟩ => ⟨S2048x1024, .bf16⟩
  | .hbm, ⟨4, _⟩ => ⟨S8192x2048, .f32⟩
  | .hbm, ⟨5, _⟩ => ⟨S8192x2048, .f32⟩
  | .hbm, ⟨6, _⟩ => ⟨S8192x2048, .bf16⟩
  | .hbm, ⟨7, _⟩ => ⟨S8192x2048, .bf16⟩
  | .hbm, ⟨8, _⟩ => ⟨S8192x1024, .bf16⟩
  | .hbm, ⟨9, _⟩ => ⟨S4x1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x1024, .f32⟩
  | .local _ .vmem, ⟨5, _⟩ => ⟨S1x1x1024, .f32⟩
  | .local _ .vmem, ⟨6, _⟩ => ⟨S2048x1024, .bf16⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x1024, .bf16⟩
  | .local _ .vmem, ⟨16, _⟩ => ⟨S256x1024, .bf16⟩
  | .local _ .vmem, ⟨17, _⟩ => ⟨S1x1x1024, .f32⟩
  | .local _ .vmem, ⟨18, _⟩ => ⟨S1x1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c8_i32 : BitVec 32 := 8#32
  let c0_i32 : BitVec 32 := 0#32
  let v5 : BitVec 1 := Scalar.cmpi .eq c8_i32 c0_i32
  let c1_i32 : BitVec 32 := 1#32
  let v6 : BitVec 32 := Scalar.select v5 c1_i32 c8_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let v16 : BitVec 32 := Scalar.extui v15
  let c0_i32_7 : BitVec 32 := 0#32
  let v17 : BitVec 1 := Scalar.cmpi .ne v16 c0_i32_7
  v17

def k0_cond2 (i : grid0.Coords) : BitVec 1 :=
  let arg0 : BitVec 32 := BitVec.ofNat 32 (i 0).val
  let c8_i32_8 : BitVec 32 := 8#32
  let c0_i32_9 : BitVec 32 := 0#32
  let v18 : BitVec 1 := Scalar.cmpi .eq c8_i32_8 c0_i32_9
  let c1_i32_10 : BitVec 32 := 1#32
  let v19 : BitVec 32 := Scalar.select v18 c1_i32_10 c8_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c0_i32_14 : BitVec 32 := 0#32
  let v28 : BitVec 1 := Scalar.cmpi .ne v27 c0_i32_14
  let v29 : BitVec 32 := Scalar.extui v28
  let c0_i32_15 : BitVec 32 := 0#32
  let v30 : BitVec 1 := Scalar.cmpi .ne v29 c0_i32_15
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceDoutIdeal.lean ====
abbrev S8192x1024 : Shape := ⟨2, ![8192, 1024]⟩
abbrev S4x1x1024 : Shape := ⟨3, ![4, 1, 1024]⟩
abbrev S2048x1024 : Shape := ⟨2, ![2048, 1024]⟩
abbrev S8192x2048 : Shape := ⟨2, ![8192, 2048]⟩
abbrev S4x2048x1024 : Shape := ⟨3, ![4, 2048, 1024]⟩
abbrev S_ : Shape := ⟨0, ![]⟩
abbrev S4x1024 : Shape := ⟨2, ![4, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x1x1024, .f32⟩
  | .hbm, ⟨3, _⟩ => ⟨S2048x1024, .bf16⟩
  | .hbm, ⟨4, _⟩ => ⟨S8192x2048, .f32⟩
  | .hbm, ⟨5, _⟩ => ⟨S8192x2048, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S8192x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S_, .f32⟩
  | .hbm, ⟨15, _⟩ => ⟨S4x1024, .f32⟩
  | .hbm, ⟨16, _⟩ => ⟨S4x1x1024, .f32⟩
  | .hbm, ⟨17, _⟩ => ⟨S8192x1024, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S2048x1024, .f32⟩
  | .hbm, ⟨33, _⟩ => ⟨S8192x1024, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .bf16⟩
  | .hbm, ⟨42, _⟩ => ⟨S8192x2048, .bf16⟩
  | .hbm, ⟨43, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_v11_2 : Ref sig .tc := ⟨.hbm, 25, rfl⟩
abbrev main_call0_cst_1 : Ref sig .tc := ⟨.hbm, 26, rfl⟩
abbrev main_call0_v6 : Ref sig .tc := ⟨.hbm, 27, rfl⟩
abbrev main_call0_v7 : Ref sig .tc := ⟨.hbm, 28, rfl⟩
abbrev main_v11_1 : Ref sig .tc := ⟨.hbm, 29, rfl⟩
abbrev main_v11_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩

abbrev nD : Nat := 1
abbrev τ : Topo := Topo.v7x

variable {F : FTy → Type} [FloatOps F]
-- ==== KernelFoxOut.lean ====
abbrev S8192x2048 : Shape := ⟨2, ![8192, 2048]⟩
abbrev S8192x2176 : Shape := ⟨2, ![8192, 2176]⟩
abbrev S2048x1024 : Shape := ⟨2, ![2048, 1024]⟩
abbrev S8192x1024 : Shape := ⟨2, ![8192, 1024]⟩
abbrev S4x1x1024 : Shape := ⟨3, ![4, 1, 1024]⟩
abbrev S256x2048 : Shape := ⟨2, ![256, 2048]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 8
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x2176, .f32⟩
  | .hbm, ⟨2, _⟩ => ⟨S2048x1024, .bf16⟩
  | .hbm, ⟨3, _⟩ => ⟨S8192x1024, .f32⟩
  | .hbm, ⟨4, _⟩ => ⟨S4x1x1024, .f32⟩
  | .hbm, ⟨5, _⟩ => ⟨S8192x1024, .f32⟩
  | .hbm, ⟨6, _⟩ => ⟨S8192x1024, .f32⟩
  | .hbm, ⟨7, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x1024, .bf16⟩
  | .local _ .vmem, ⟨5, _⟩ => ⟨S256x1024, .f32⟩
  | .local _ .vmem, ⟨6, _⟩ => ⟨S256x1024, .f32⟩
  | .local _ .vmem, ⟨7, _⟩ => ⟨S1x1x1024, .f32⟩
  | .local _ .vmem, ⟨8, _⟩ => ⟨S1x1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x2048, .bf16⟩
  | .local _ .vmem, ⟨14, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceFoxOutIdeal.lean ====
abbrev S8192x2048 : Shape := ⟨2, ![8192, 2048]⟩
abbrev S8192x2176 : Shape := ⟨2, ![8192, 2176]⟩
abbrev S2048x1024 : Shape := ⟨2, ![2048, 1024]⟩
abbrev S8192x1024 : Shape := ⟨2, ![8192, 1024]⟩
abbrev S4x1x1024 : Shape := ⟨3, ![4, 1, 1024]⟩
abbrev S_ : Shape := ⟨0, ![]⟩
abbrev S4x2048x1024 : Shape := ⟨3, ![4, 2048, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2176, .f32⟩
  | .hbm, ⟨2, _⟩ => ⟨S2048x1024, .bf16⟩
  | .hbm, ⟨3, _⟩ => ⟨S8192x1024, .f32⟩
  | .hbm, ⟨4, _⟩ => ⟨S4x1x1024, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S2048x1024, .f32⟩
  | .hbm, ⟨17, _⟩ => ⟨S8192x1024, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S8192x1024, .f32⟩
  | .hbm, ⟨24, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== KernelFoxDout.lean ====
abbrev S8192x1024 : Shape := ⟨2, ![8192, 1024]⟩
abbrev S4x1x1024 : Shape := ⟨3, ![4, 1, 1024]⟩
abbrev S2048x1024 : Shape := ⟨2, ![2048, 1024]⟩
abbrev S8192x2048 : Shape := ⟨2, ![8192, 2048]⟩
abbrev S8192x2176 : Shape := ⟨2, ![8192, 2176]⟩
abbrev S256x1024 : Shape := ⟨2, ![256, 1024]⟩
abbrev S1x1x1024 : Shape := ⟨3, ![1, 1, 1024]⟩
abbrev S256x2048 : Shape := ⟨2, ![256, 2048]⟩
abbrev S1024 : Shape := ⟨1, ![1024]⟩
abbrev S1x1024 : Shape := ⟨2, ![1, 1024]⟩

abbrev nBuf : Space → Nat
  | .hbm => 10
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x1x1024, .f32⟩
  | .hbm, ⟨3, _⟩ => ⟨S2048x1024, .bf16⟩
  | .hbm, ⟨4, _⟩ => ⟨S8192x2048, .f32⟩
  | .hbm, ⟨5, _⟩ => ⟨S8192x2176, .f32⟩
  | .hbm, ⟨6, _⟩ => ⟨S8192x2048, .bf16⟩
  | .hbm, ⟨7, _⟩ => ⟨S8192x2048, .bf16⟩
  | .hbm, ⟨8, _⟩ => ⟨S8192x1024, .bf16⟩
  | .hbm, ⟨9, _⟩ => ⟨S4x1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x1024, .f32⟩
  | .local _ .vmem, ⟨5, _⟩ => ⟨S1x1x1024, .f32⟩
  | .local _ .vmem, ⟨6, _⟩ => ⟨S2048x1024, .bf16⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x1024, .bf16⟩
  | .local _ .vmem, ⟨16, _⟩ => ⟨S256x1024, .bf16⟩
  | .local _ .vmem, ⟨17, _⟩ => ⟨S1x1x1024, .f32⟩
  | .local _ .vmem, ⟨18, _⟩ => ⟨S1x1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c8_i32 : BitVec 32 := 8#32
  let c0_i32 : BitVec 32 := 0#32
  let v5 : BitVec 1 := Scalar.cmpi .eq c8_i32 c0_i32
  let c1_i32 : BitVec 32 := 1#32
  let v6 : BitVec 32 := Scalar.select v5 c1_i32 c8_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let v16 : BitVec 32 := Scalar.extui v15
  let c0_i32_7 : BitVec 32 := 0#32
  let v17 : BitVec 1 := Scalar.cmpi .ne v16 c0_i32_7
  v17

def k0_cond2 (i : grid0.Coords) : BitVec 1 :=
  let arg0 : BitVec 32 := BitVec.ofNat 32 (i 0).val
  let c8_i32_8 : BitVec 32 := 8#32
  let c0_i32_9 : BitVec 32 := 0#32
  let v18 : BitVec 1 := Scalar.cmpi .eq c8_i32_8 c0_i32_9
  let c1_i32_10 : BitVec 32 := 1#32
  let v19 : BitVec 32 := Scalar.select v18 c1_i32_10 c8_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c0_i32_14 : BitVec 32 := 0#32
  let v28 : BitVec 1 := Scalar.cmpi .ne v27 c0_i32_14
  let v29 : BitVec 32 := Scalar.extui v28
  let c0_i32_15 : BitVec 32 := 0#32
  let v30 : BitVec 1 := Scalar.cmpi .ne v29 c0_i32_15
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceFoxDoutIdeal.lean ====
abbrev S8192x1024 : Shape := ⟨2, ![8192, 1024]⟩
abbrev S4x1x1024 : Shape := ⟨3, ![4, 1, 1024]⟩
abbrev S2048x1024 : Shape := ⟨2, ![2048, 1024]⟩
abbrev S8192x2048 : Shape := ⟨2, ![8192, 2048]⟩
abbrev S8192x2176 : Shape := ⟨2, ![8192, 2176]⟩
abbrev S4x2048x1024 : Shape := ⟨3, ![4, 2048, 1024]⟩
abbrev S_ : Shape := ⟨0, ![]⟩
abbrev S4x1024 : Shape := ⟨2, ![4, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x1x1024, .f32⟩
  | .hbm, ⟨3, _⟩ => ⟨S2048x1024, .bf16⟩
  | .hbm, ⟨4, _⟩ => ⟨S8192x2048, .f32⟩
  | .hbm, ⟨5, _⟩ => ⟨S8192x2176, .f32⟩
  | .hbm, ⟨6, _⟩ => ⟨S8192x2048, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S8192x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S_, .f32⟩
  | .hbm, ⟨16, _⟩ => ⟨S4x1024, .f32⟩
  | .hbm, ⟨17, _⟩ => ⟨S4x1x1024, .f32⟩
  | .hbm, ⟨18, _⟩ => ⟨S8192x1024, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S2048x1024, .f32⟩
  | .hbm, ⟨34, _⟩ => ⟨S8192x1024, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .bf16⟩
  | .hbm, ⟨43, _⟩ => ⟨S8192x2048, .bf16⟩
  | .hbm, ⟨44, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_v12_2 : Ref sig .tc := ⟨.hbm, 26, rfl⟩
abbrev main_call0_cst_1 : Ref sig .tc := ⟨.hbm, 27, rfl⟩
abbrev main_call0_v6 : Ref sig .tc := ⟨.hbm, 28, rfl⟩
abbrev main_call0_v7 : Ref sig .tc := ⟨.hbm, 29, rfl⟩
abbrev main_v12_1 : Ref sig .tc := ⟨.hbm, 30, rfl⟩
abbrev main_v12_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]
-- ==== Proof.Words.lean ====
/- What the kernel computes in words: the number of key blocks the first loop visits, and the closed forms of the offsets of its loads and stores. -/
module

public import proofs.«01_k».proof.Proof.Gen.KernelIdeal.Loops
public import Idealize.ShloMosaic.Lib.VecWindow

@[expose] public section

set_option maxRecDepth 16384

namespace Cert.KernelIdeal.Gen

open Idealize.ShloMosaic Idealize.ShloMosaic.TcCoe Idealize.SL.Sem

/-- The clipped count as a word: at most twice the query block's number. -/
theorem clip_cases (i : grid0.Coords) (v : BitVec 32) :
    ∃ n : Fin 7, n.val ≤ 2 * (i 2).val ∧
      Scalar.minsi (Scalar.muli 2#32 (BitVec.ofNat 32 (i 2).val)) (Scalar.maxsi 0#32 v) = BitVec.ofNat 32 n.val := by
  have hi : (i 2).val < 4 := (i 2).isLt
  generalize (i 2).val = a at hi
  have h2 : Scalar.muli 2#32 (BitVec.ofNat 32 a) = BitVec.ofNat 32 (2 * a) := by
    obtain ⟨b, rfl⟩ : ∃ b : Fin 4, a = b.val := ⟨⟨a, hi⟩, rfl⟩
    clear hi
    revert b; decide
  rw [h2]
  obtain ⟨u, hu, hl⟩ : ∃ u : BitVec 32, Scalar.maxsi 0#32 v = u ∧ u.toNat < 2 ^ 31 := by
    refine ⟨_, rfl, ?_⟩
    unfold Scalar.maxsi IntOp.maxsi
    split
    · decide
    · rename_i h
      simp only [BitVec.slt, BitVec.toInt_eq_toNat_cond, BitVec.toNat_ofNat, decide_eq_true_eq] at h
      split at h <;> omega
  rw [hu]
  have hc : (BitVec.ofNat 32 (2 * a)).toNat = 2 * a := by rw [BitVec.toNat_ofNat]; omega
  by_cases hx : (BitVec.ofNat 32 (2 * a)).toNat < u.toNat
  · refine ⟨⟨2 * a, by omega⟩, le_refl _, ?_⟩
    unfold Scalar.minsi IntOp.minsi
    rw [if_pos]
    simp only [BitVec.slt, BitVec.toInt_eq_toNat_cond, decide_eq_true_eq]
    split <;> split <;> omega
  · refine ⟨⟨u.toNat, by omega⟩, by show u.toNat ≤ _; omega, ?_⟩
    unfold Scalar.minsi IntOp.minsi
    rw [if_neg]
    · simp
    · simp only [BitVec.slt, BitVec.toInt_eq_toNat_cond, decide_eq_true_eq]
      split <;> split <;> omega

/-- The number of key blocks the first loop visits at query block `i` when the count read is `v`: `v` clipped to `[0, 2 i]`. -/
def visited (i : grid0.Coords) (v : BitVec 32) : ℕ :=
  (Scalar.minsi (Scalar.muli 2#32 (BitVec.ofNat 32 (i 2).val)) (Scalar.maxsi 0#32 v)).toNat

theorem visited_le (i : grid0.Coords) (v : BitVec 32) : visited i v ≤ 2 * (i 2).val := by
  obtain ⟨n, hn, e⟩ := clip_cases i v
  unfold visited
  rw [e, BitVec.toNat_ofNat]
  have := n.isLt
  omega

/-- The side condition the body assumes of the count it reads holds of every word. -/
theorem chk_all (i : grid0.Coords) (v48 : BitVec 32) : k0_chk1 i v48 := by
  obtain ⟨n, hn, e⟩ := clip_cases i v48
  have hi : (i 2).val < 4 := (i 2).isLt
  unfold k0_chk1 k0_off1 k0_off2 k0_off3 k0_off4 k0_off5 k0_off6 k0_off7 k0_off8 k0_mult1 k0_mult2 k0_mult3 k0_mult4 k0_t1_loop k0_t2_loop
  dsimp only
  rw [e]
  clear e
  generalize (i 2).val = b at hi hn
  obtain ⟨a, rfl⟩ : ∃ a : Fin 4, b = a.val := ⟨⟨b, hi⟩, rfl⟩
  clear hi
  revert a n; decide +kernel

/-- The first loop makes as many trips as blocks are visited. -/
theorem trips1 (i : grid0.Coords) (v48 : BitVec 32) : (k0_t1_loop i v48).trips = visited i v48 := by
  obtain ⟨n, hn, e⟩ := clip_cases i v48
  have hi : (i 2).val < 4 := (i 2).isLt
  unfold k0_t1_loop visited
  dsimp only
  rw [e]
  clear e hn
  revert n; decide +kernel

/-- The second loop makes none. -/
theorem trips2 (i : grid0.Coords) (v48 : BitVec 32) : (k0_t2_loop i v48).trips = 0 := by
  obtain ⟨n, hn, e⟩ := clip_cases i v48
  unfold k0_t2_loop
  dsimp only
  rw [e]
  clear e hn
  revert n; decide +kernel

/-- The first block the first loop visits. -/
def firstBlk (i : grid0.Coords) (v : BitVec 32) : ℕ := 2 * (i 2).val - visited i v

theorem offs (i : grid0.Coords) (v48 : BitVec 32) (k : Fin (k0_t1_loop i v48).trips) :
    k0_off1 i v48 k = ![256 * (firstBlk i v48 + k.val), 0] ∧ k0_off2 i v48 k = ![firstBlk i v48 + k.val, 0, 0] ∧
    k0_off3 i v48 k = ![256 * (firstBlk i v48 + k.val), 64] ∧ k0_off4 i v48 k = ![firstBlk i v48 + k.val, 64, 0] ∧
    firstBlk i v48 + k.val < 8 := by
  revert k
  obtain ⟨n, hn, e⟩ := clip_cases i v48
  have hi : (i 2).val < 4 := (i 2).isLt
  unfold k0_off1 k0_off2 k0_off3 k0_off4 firstBlk visited k0_t1_loop
  dsimp only
  rw [e]
  clear e
  generalize (i 2).val = b at hi hn
  obtain ⟨a, rfl⟩ : ∃ a : Fin 4, b = a.val := ⟨⟨b, hi⟩, rfl⟩
  clear hi
  revert a n; decide +kernel

/-- The two diagonal blocks of a query tile: blocks `2 i` and `2 i + 1`. -/
theorem offs_diag (i : grid0.Coords) :
    k0_off9 i 0#32 = ![256 * (2 * (i 2).val), 0] ∧ k0_off10 i 0#32 = ![2 * (i 2).val, 0, 0] ∧
    k0_off11 i 0#32 = ![256 * (2 * (i 2).val), 64] ∧ k0_off12 i 0#32 = ![2 * (i 2).val, 64, 0] ∧
    k0_off9 i 1#32 = ![256 * (2 * (i 2).val + 1), 0] ∧ k0_off10 i 1#32 = ![2 * (i 2).val + 1, 0, 0] ∧
    k0_off11 i 1#32 = ![256 * (2 * (i 2).val + 1), 64] ∧ k0_off12 i 1#32 = ![2 * (i 2).val + 1, 64, 0] := by
  have hi : (i 2).val < 4 := (i 2).isLt
  unfold k0_off9 k0_off10 k0_off11 k0_off12
  dsimp only
  generalize (i 2).val = b at hi
  obtain ⟨a, rfl⟩ : ∃ a : Fin 4, b = a.val := ⟨⟨b, hi⟩, rfl⟩
  clear hi
  revert a; decide +kernel

end Cert.KernelIdeal.Gen
-- ==== Proof.Step.lean ====
/- One key block of the first loop as a function: the loads are tiles of the staged blocks, the stores put slabs into the two accumulators. -/
module

public import proofs.«01_k».proof.Proof.Words

@[expose] public section

set_option maxRecDepth 16384

noncomputable section

namespace Cert.KernelIdeal.Gen

open Idealize.ShloMosaic Idealize.ShloMosaic.TcCoe Idealize.SL.Sem

variable {F : FTy → Type} [FloatOps F]

/-- The kept sums and the gradient of the queries, of either head: kept sum, gradient sum, query gradient. -/
abbrev Carry (F : FTy → Type) : Type := FVec F S512x1 .f32 × FVec F S512x1 .f32 × FVec F S512x64 .f32 × FVec F S512x1 .f32 × FVec F S512x1 .f32 × FVec F S512x64 .f32

/-- An accumulator over the key blocks. -/
abbrev Scr (F : FTy → Type) : Type := Vec F S8x128x256 .f32

/-- Rows `r …` and columns `c …` of a staged block. -/
def tile (K : Vec F S2048x128 .bf16) (r c : ℕ) : Vec F S256x64 .bf16 :=
  fun y => K fun a => match a with
    | ⟨0, _⟩ => (Fin.ofNat 2048 (r + (y 0).val) : Fin 2048)
    | ⟨1, _⟩ => (Fin.ofNat 128 (c + (y 1).val) : Fin 128)

/-- Rows `r …` of slab `j` of an accumulator. -/
def slab (D : Scr F) (j r : ℕ) : Vec F S1x64x256 .f32 :=
  fun y => D fun a => match a with
    | ⟨0, _⟩ => (Fin.ofNat 8 (j + (y 0).val) : Fin 8)
    | ⟨1, _⟩ => (Fin.ofNat 128 (r + (y 1).val) : Fin 128)
    | ⟨2, _⟩ => (Fin.ofNat 256 (0 + (y 2).val) : Fin 256)

/-- The accumulator with `w` over rows `r …` of slab `j`. -/
def setSlab (D : Scr F) (j r : ℕ) (w : Vec F S1x64x256 .f32) : Scr F :=
  VecWindow.put (s := S8x128x256) D ![j, r, 0] S1x64x256.size w

omit [FloatOps F] in
theorem window_tile (K : Vec F S2048x128 .bf16) (r c : ℕ) (inb : ∀ a, (![r, c] : Fin 2 → ℕ) a + S256x64.size a ≤ S2048x128.size a) :
    VecWindow.window (s := S2048x128) K ![r, c] S256x64.size inb = tile K r c := by
  funext y
  refine congrArg K (funext fun a => Fin.ext ?_)
  have h0 : r + 256 ≤ 2048 := inb 0
  have h1 : c + 64 ≤ 128 := inb 1
  have y0 : (y 0).val < 256 := (y 0).isLt
  have y1 : (y 1).val < 64 := (y 1).isLt
  match a with
  | ⟨0, _⟩ => show r + 1 * (y 0).val = (r + (y 0).val) % 2048; rw [Nat.mod_eq_of_lt (by omega)]; omega
  | ⟨1, _⟩ => show c + 1 * (y 1).val = (c + (y 1).val) % 128; rw [Nat.mod_eq_of_lt (by omega)]; omega

omit [FloatOps F] in
theorem window_slab (D : Scr F) (j r : ℕ) (inb : ∀ a, (![j, r, 0] : Fin 3 → ℕ) a + S1x64x256.size a ≤ S8x128x256.size a) :
    VecWindow.window (s := S8x128x256) D ![j, r, 0] S1x64x256.size inb = slab D j r := by
  funext y
  refine congrArg D (funext fun a => Fin.ext ?_)
  have h0 : j + 1 ≤ 8 := inb 0
  have h1 : r + 64 ≤ 128 := inb 1
  have y0 : (y 0).val < 1 := (y 0).isLt
  have y1 : (y 1).val < 64 := (y 1).isLt
  have y2 : (y 2).val < 256 := (y 2).isLt
  match a with
  | ⟨0, _⟩ => show j + 1 * (y 0).val = (j + (y 0).val) % 8; rw [Nat.mod_eq_of_lt (by omega)]; omega
  | ⟨1, _⟩ => show r + 1 * (y 1).val = (r + (y 1).val) % 128; rw [Nat.mod_eq_of_lt (by omega)]; omega
  | ⟨2, _⟩ => show 0 + 1 * (y 2).val = (0 + (y 2).val) % 256; rw [Nat.mod_eq_of_lt (by omega)]; omega

/-- A load of a tile of a staged block. -/
theorem load_tile {sig' : RefSig} {κ : Kind} {sp : Space} (v : View sig' κ sp S2048x128 .bf16) (f : v.ty.Contents (Elt F)) {off : Fin 2 → ℕ} {r c : ℕ}
    (inb : ∀ a, off a + S256x64.size a ≤ S2048x128.size a) (h : off = ![r, c]) :
    v.readAt (Elt F) (Rect.unit (s := S2048x128) off S256x64.size inb).toLoadRect f = tile (v.read (Elt F) f) r c := by
  rw [View.readAt_unit v f inb h (h ▸ inb), window_tile]

/-- A load of a slab of an accumulator, of any contents. -/
theorem load_slab {sig' : RefSig} {κ : Kind} {sp : Space} (v : View sig' κ sp S8x128x256 .f32) (f : v.ty.Contents (Elt F)) {off : Fin 3 → ℕ} {j r : ℕ}
    (inb : ∀ a, off a + S1x64x256.size a ≤ S8x128x256.size a) (h : off = ![j, r, 0]) :
    v.readAt (Elt F) (Rect.unit (s := S8x128x256) off S1x64x256.size inb).toLoadRect f = slab (v.read (Elt F) f) j r := by
  rw [View.readAt_unit v f inb h (h ▸ inb), window_slab]

/-- A store of a slab over any list of earlier stores. -/
theorem store_slab {sig' : RefSig} {κ : Kind} {sp : Space} (v : View sig' κ sp S8x128x256 .f32) (f : v.ty.Contents (Elt F)) {off : Fin 3 → ℕ} {j r : ℕ}
    (inb : ∀ a, off a + S1x64x256.size a ≤ S8x128x256.size a) (w : Vec F S1x64x256 .f32) (L : List (View.Piece (Elt F) S8x128x256 .f32)) (h : off = ![j, r, 0]) :
    v.read (Elt F) (v.writes (Elt F) f (⟨Rect.unit (s := S8x128x256) off S1x64x256.size inb, w⟩ :: L))
      = setSlab (v.read (Elt F) (v.writes (Elt F) f L)) j r w :=
  View.read_writes_cons_put v f inb w L h

/-- One visit of key block `j`, both heads: what is carried on and the two accumulators after it. -/
def tripNext (v16 v20 : FVec F S256x256 .bf16) (v29 v32 : FVec F S128x512 .bf16) (v33 v34 v35 v36 : FVec F S512x64 .bf16) (v38 v40 : FVec F S512x1 .f32)
    (K V : Vec F S2048x128 .bf16) (j : ℕ) (acc : Carry F) (D E : Scr F) : Carry F × Scr F × Scr F :=
  let K0 := tile K (256 * j) 0
  let V0 := tile V (256 * j) 0
  let K1 := tile K (256 * j) 64
  let V1 := tile V (256 * j) 64
  let D1 := setSlab D j 0 (k0_pay15 (k0_pay13 v16 v20 v29 v33 v35 v38 acc.1 acc.2.1 K0 V0) (k0_pay14 (slab D j 0)))
  let E1 := setSlab E j 0 (k0_pay16 v32 (k0_pay10 v16 v33 v38 acc.1 K0) (slab E j 0))
  let v460 := k0_pay20 v34 K1
  let v461 := k0_pay21 v34 K1
  let v462 := k0_pay22 v34 K1
  ((k0_pay9 v33 acc.1 K0, k0_pay17 acc.2.1 (k0_pay11 v16 v33 v35 v38 acc.1 K0 V0), k0_pay18 acc.2.2.1 K0 (k0_pay12 v16 v20 v33 v35 v38 acc.1 acc.2.1 K0 V0),
      k0_pay23 acc.2.2.2.1 v462, k0_pay29 v16 v36 v40 acc.2.2.2.1 acc.2.2.2.2.1 V1 v460 v461 v462,
      k0_pay84 acc.2.2.2.2.2 K1 (k0_pay26 v16 v20 v36 v40 acc.2.2.2.1 acc.2.2.2.2.1 V1 v460 v461 v462)),
    setSlab D1 j 64 (k0_pay27 v16 v20 v29 v36 v40 acc.2.2.2.1 acc.2.2.2.2.1 V1 v460 v461 v462 (slab D1 j 64)),
    setSlab E1 j 64 (k0_pay28 v16 v32 v40 acc.2.2.2.1 v460 v461 v462 (slab E1 j 64)))

/-- The visits of the `n` key blocks from block `j0` on, left to right. -/
def tripsFrom (v16 v20 : FVec F S256x256 .bf16) (v29 v32 : FVec F S128x512 .bf16) (v33 v34 v35 v36 : FVec F S512x64 .bf16) (v38 v40 : FVec F S512x1 .f32)
    (K V : Vec F S2048x128 .bf16) (j0 : ℕ) (s : Carry F × Scr F × Scr F) : ℕ → Carry F × Scr F × Scr F
  | 0 => s
  | n + 1 => let p := tripsFrom v16 v20 v29 v32 v33 v34 v35 v36 v38 v40 K V j0 s n
             tripNext v16 v20 v29 v32 v33 v34 v35 v36 v38 v40 K V (j0 + n) p.1 p.2.1 p.2.2

end Cert.KernelIdeal.Gen
-- ==== Proof.State.lean ====
/- What the kernel's body computes at one grid point, as functions of the staged blocks: the first loop's visits, the two diagonal blocks, the tile of the queries' gradient and the blocks of the keys' and values' gradients. -/
module

public import proofs.«01_k».proof.Proof.Step

@[expose] public section

set_option maxRecDepth 16384

noncomputable section

namespace Cert.KernelIdeal.Gen

open Idealize.ShloMosaic Idealize.ShloMosaic.TcCoe Idealize.SL.Sem

variable {F : FTy → Type} [FloatOps F]

/-- The values a grid point computes once from its query tile `Q`, gradient tile `O` and totals `R`. -/
structure Pt (F : FTy → Type) where
  v7 : IVec S512x256 1
  v10 : IVec S512x256 1
  v16 : FVec F S256x256 .bf16
  v20 : FVec F S256x256 .bf16
  v29 : FVec F S128x512 .bf16
  v32 : FVec F S128x512 .bf16
  v33 : FVec F S512x64 .bf16
  v34 : FVec F S512x64 .bf16
  v35 : FVec F S512x64 .bf16
  v36 : FVec F S512x64 .bf16
  v38 : FVec F S512x1 .f32
  v40 : FVec F S512x1 .f32

/-- Column `c` of the totals' block. -/
def col (R : Vec F S1x1x512x3 .f32) (c : ℕ) : Vec F S1x1x512x1 .f32 :=
  fun y => R fun a => match a with
    | ⟨0, _⟩ => y 0
    | ⟨1, _⟩ => y 1
    | ⟨2, _⟩ => y 2
    | ⟨3, _⟩ => (Fin.ofNat 3 c : Fin 3)

/-- The values of a point from its staged blocks. -/
abbrev pt (Q O : Vec F S512x128 .bf16) (R : Vec F S1x1x512x3 .f32) : Pt F where
  v7 := k0_pay68
  v10 := k0_pay69
  v16 := k0_pay70
  v20 := k0_pay71
  v29 := k0_pay73 Q
  v32 := k0_pay74 O
  v33 := k0_pay75 Q
  v34 := k0_pay76 Q
  v35 := k0_pay77 O
  v36 := k0_pay78 O
  v38 := k0_pay79 (col R 0)
  v40 := k0_pay80 (col R 1)

/-- Two halves of 64 columns side by side. -/
def halves (a b : Vec F S512x64 .bf16) : Vec F S512x128 .bf16 :=
  fun y => if (y 1).val < 64
    then a fun x => match x with
      | ⟨0, _⟩ => y 0
      | ⟨1, _⟩ => (Fin.ofNat 64 (y 1).val : Fin 64)
    else b fun x => match x with
      | ⟨0, _⟩ => y 0
      | ⟨1, _⟩ => (Fin.ofNat 64 ((y 1).val - 64) : Fin 64)

/-- Slab `j` of an accumulator. -/
def slab8 (D : Scr F) (j : ℕ) : Vec F S1x128x256 .f32 :=
  fun y => D fun a => match a with
    | ⟨0, _⟩ => (Fin.ofNat 8 j : Fin 8)
    | ⟨1, _⟩ => y 1
    | ⟨2, _⟩ => y 2

/-- An accumulator written out: block `j` of 256 rows is slab `j` transposed. -/
def writeOut (D : Scr F) : Vec F S2048x128 .bf16 :=
  fun y => k0_pay54 (slab8 D ((y 0).val / 256)) fun a => match a with
    | ⟨0, _⟩ => (Fin.ofNat 256 ((y 0).val % 256) : Fin 256)
    | ⟨1, _⟩ => y 1

/-- Both diagonal blocks `j` and `j + 1`, both heads, after what was carried from the blocks before: the tile of the queries' gradient and the two accumulators. -/
def diag (p : Pt F) (K V : Vec F S2048x128 .bf16) (j : ℕ) (c : Carry F) (D G : Scr F) : Vec F S512x128 .bf16 × Scr F × Scr F :=
  let v67 := tile K (256 * j) 0
  let v69 := tile V (256 * j) 0
  let v70 := k0_pay86 p.v33 v67
  let v74 := k0_pay87 p.v33 v67
  let v75 : FVec F S512x256 .f32 := k0_pay88
  let D1 := setSlab D j 0 (k0_pay95 p.v7 p.v16 p.v20 p.v29 p.v35 p.v38 c.1 c.2.1 v69 v70 v74 v75 (slab D j 0))
  let v86 := k0_pay91 p.v7 c.1 v70 v74 v75
  let v95 := k0_pay92 p.v7 p.v16 p.v38 c.1 v70 v74 v75
  let v97 := k0_pay93 p.v7 p.v16 p.v35 p.v38 c.1 v69 v70 v74 v75
  let v108 := k0_pay94 p.v7 p.v16 p.v20 p.v35 p.v38 c.1 c.2.1 v69 v70 v74 v75
  let G1 := setSlab G j 0 (k0_pay96 p.v32 v95 (slab G j 0))
  let v132 := k0_pay97 c.2.1 v97
  let v134 := k0_pay98 c.2.2.1 v67 v108
  let v140 := tile K (256 * j) 64
  let v142 := tile V (256 * j) 64
  let v153 := k0_pay100 p.v34 v140
  let v159 := k0_pay102 p.v7 p.v34 c.2.2.2.1 v140
  let v160 := k0_pay103 p.v7 p.v34 p.v40 c.2.2.2.1 v140
  let v161 := k0_pay104 p.v7 p.v34 v140
  let z : FVec F S512x256 .f32 := constant S512x256 .f32 0x00000000#32
  let D2 := setSlab D1 j 64 (k0_pay108 p.v7 p.v16 p.v20 p.v29 p.v36 c.2.2.2.2.1 v142 v153 v160 v161 z (slab D1 j 64))
  let G2 := setSlab G1 j 64 (k0_pay109 p.v7 p.v16 p.v32 v153 v160 v161 z (slab G1 j 64))
  let v181 := k0_pay107 p.v7 p.v16 p.v20 p.v36 c.2.2.2.2.1 v142 v153 v160 v161 z
  let v204 := k0_pay110 p.v7 p.v16 p.v36 v142 v153 v160 v161 z
  let v216 := tile K (256 * (j + 1)) 0
  let v218 := tile V (256 * (j + 1)) 0
  let v205 := k0_pay111 c.2.2.2.2.1 v204
  let v207 := k0_pay112 c.2.2.2.2.2 v140 v181
  let v211 := k0_pay113 v132
  let v212 := k0_pay114 v134
  let v219 := k0_pay115 p.v10
  let v231 := k0_pay117 p.v33 v216
  let v247 := k0_pay118 p.v10 p.v16 p.v33 p.v38 v86 v216
  let v249 := k0_pay119 p.v35 v218
  let D3 := setSlab D2 (j + 1) 0 (k0_pay121 p.v20 p.v29 v211 v219 v231 v247 v249 (slab D2 (j + 1) 0))
  let G3 := setSlab G2 (j + 1) 0 (k0_pay122 p.v32 v247 (slab G2 (j + 1) 0))
  let v286 := k0_pay123 p.v20 v134 v211 v212 v216 v219 v231 v247 v249
  let v289 := k0_pay124 v159
  let v290 := k0_pay125 v205
  let v291 := k0_pay126 v207
  let v295 := tile K (256 * (j + 1)) 64
  let v297 := tile V (256 * (j + 1)) 64
  let v298 := k0_pay127 p.v10
  let v326 := k0_pay130 p.v10 p.v16 p.v34 p.v40 v289 v295
  let v337 := k0_pay131 p.v10 p.v16 p.v20 p.v34 p.v36 p.v40 v289 v290 v295 v297
  let v338 : FVec F S256x256 .f32 := k0_pay132
  let D4 := setSlab D3 (j + 1) 64 (k0_pay134 p.v29 v298 v337 v338 (slab D3 (j + 1) 64))
  let G4 := setSlab G3 (j + 1) 64 (k0_pay135 p.v32 v326 (slab G3 (j + 1) 64))
  (halves (k0_pay136 v286) (k0_pay137 v207 v291 v295 v298 v337 v338), D4, G4)

/-- What the loop carries at its entry. -/
def carry0 : Carry F := (k0_pay81, k0_pay81, k0_pay83, k0_pay81, k0_pay81, k0_pay83)

/-- How many blocks the totals' third column says were visited, as a word. -/
def word (R : Vec F S1x1x512x3 .f32) : BitVec 32 := Scalar.fptosi 32 (k0_pay82 (col R 2))

/-- The whole point: the visits the first loop makes and the two diagonal blocks. -/
def point (i : grid0.Coords) (Q O : Vec F S512x128 .bf16) (R : Vec F S1x1x512x3 .f32) (K V : Vec F S2048x128 .bf16) (D G : Scr F) : Vec F S512x128 .bf16 × Scr F × Scr F :=
  let p := pt Q O R
  let s := tripsFrom p.v16 p.v20 p.v29 p.v32 p.v33 p.v34 p.v35 p.v36 p.v38 p.v40 K V (firstBlk i (word R)) (carry0, D, G) (visited i (word R))
  diag p K V (2 * (i 2).val) s.1 s.2.1 s.2.2

omit [FloatOps F] in
theorem window_col (R : Vec F S1x1x512x3 .f32) (c : ℕ) (inb : ∀ a, (![0, 0, 0, c] : Fin 4 → ℕ) a + S1x1x512x1.size a ≤ S1x1x512x3.size a) :
    VecWindow.window (s := S1x1x512x3) R ![0, 0, 0, c] S1x1x512x1.size inb = col R c := by
  funext y
  refine congrArg R (funext fun a => Fin.ext ?_)
  have h3 : c + 1 ≤ 3 := inb 3
  have y3 : (y 3).val < 1 := (y 3).isLt
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
  | ⟨3, _⟩ => show c + 1 * (y 3).val = c % 3; rw [Nat.mod_eq_of_lt (by omega)]; omega

/-- A load of a column of the totals. -/
theorem load_col {sig' : RefSig} {κ : Kind} {sp : Space} (v : View sig' κ sp S1x1x512x3 .f32) (f : v.ty.Contents (Elt F)) (c : ℕ)
    (inb : ∀ a, (![0, 0, 0, c] : Fin 4 → ℕ) a + S1x1x512x1.size a ≤ S1x1x512x3.size a) :
    v.readAt (Elt F) (Rect.unit (s := S1x1x512x3) ![0, 0, 0, c] S1x1x512x1.size inb).toLoadRect f = col (v.read (Elt F) f) c := by
  rw [View.readAt_unit v f inb rfl inb, window_col]

/-- A load of a whole tile of queries or of output gradients. -/
theorem load_whole {sig' : RefSig} {κ : Kind} {sp : Space} (v : View sig' κ sp S512x128 .bf16) (f : v.ty.Contents (Elt F))
    (inb : ∀ a, (![0, 0] : Fin 2 → ℕ) a + S512x128.size a ≤ S512x128.size a) :
    v.readAt (Elt F) (Rect.unit (s := S512x128) ![0, 0] S512x128.size inb).toLoadRect f = v.read (Elt F) f := by
  rw [View.readAt_unit v f inb rfl inb]
  funext y
  refine congrArg (v.read (Elt F) f) (funext fun a => Fin.ext ?_)
  match a with
  | ⟨0, _⟩ => show 0 + 1 * (y 0).val = (y 0).val; omega
  | ⟨1, _⟩ => show 0 + 1 * (y 1).val = (y 1).val; omega

omit [FloatOps F] in
theorem window_slab8 (D : Scr F) (j : ℕ) (inb : ∀ a, (![j, 0, 0] : Fin 3 → ℕ) a + S1x128x256.size a ≤ S8x128x256.size a) :
    VecWindow.window (s := S8x128x256) D ![j, 0, 0] S1x128x256.size inb = slab8 D j := by
  funext y
  refine congrArg D (funext fun a => Fin.ext ?_)
  have h3 : j + 1 ≤ 8 := inb 0
  have y3 : (y 0).val < 1 := (y 0).isLt
  match a with
  | ⟨0, _⟩ => show j + 1 * (y 0).val = j % 8; rw [Nat.mod_eq_of_lt (by omega)]; omega
  | ⟨1, _⟩ => show 0 + 1 * (y 1).val = (y 1).val; omega
  | ⟨2, _⟩ => show 0 + 1 * (y 2).val = (y 2).val; omega

/-- A load of a whole slab of an accumulator. -/
theorem load_slab8 {sig' : RefSig} {κ : Kind} {sp : Space} (v : View sig' κ sp S8x128x256 .f32) (f : v.ty.Contents (Elt F)) (j : ℕ)
    (inb : ∀ a, (![j, 0, 0] : Fin 3 → ℕ) a + S1x128x256.size a ≤ S8x128x256.size a) :
    v.readAt (Elt F) (Rect.unit (s := S8x128x256) ![j, 0, 0] S1x128x256.size inb).toLoadRect f = slab8 (v.read (Elt F) f) j := by
  rw [View.readAt_unit v f inb rfl inb, window_slab8]

omit [FloatOps F] in
/-- The lower rows of a slab are not those a store in its upper rows writes. -/
theorem slab_row (D : Scr F) (j : ℕ) (w : Vec F S1x64x256 .f32) : slab (setSlab D j 0 w) j 64 = slab D j 64 := by
  funext y
  have y1 : (y 1).val < 64 := (y 1).isLt
  unfold slab setSlab VecWindow.put
  refine dif_neg fun h => ?_
  have h1 : (64 + (y 1).val) % 128 < 0 + 64 := (h 1).2
  omega

omit [FloatOps F] in
/-- The next slab is not one a store in this one writes. -/
theorem slab_next (D : Scr F) (j r r' : ℕ) (w : Vec F S1x64x256 .f32) : slab (setSlab D j r w) (j + 1) r' = slab D (j + 1) r' := by
  funext y
  have y0 : (y 0).val < 1 := (y 0).isLt
  unfold slab setSlab VecWindow.put
  refine dif_neg fun h => ?_
  have h0 : j ≤ (j + 1 + (y 0).val) % 8 ∧ (j + 1 + (y 0).val) % 8 < j + 1 := h 0
  omega

/-- A store over a whole accumulator. -/
theorem store_scr {sig' : RefSig} {κ : Kind} {sp : Space} (v : View sig' κ sp S8x128x256 .f32) (f : v.ty.Contents (Elt F)) (w : Scr F)
    (inb : ∀ a, (![0, 0, 0] : Fin 3 → ℕ) a + S8x128x256.size a ≤ S8x128x256.size a) :
    v.read (Elt F) (v.writes (Elt F) f [⟨Rect.unit (s := S8x128x256) ![0, 0, 0] S8x128x256.size inb, w⟩]) = w := by
  rw [View.read_writes_cons_put v f inb w [] rfl]
  funext y
  have h : ∀ a, (![0, 0, 0] : Fin 3 → ℕ) a ≤ (y a).val ∧ (y a).val < (![0, 0, 0] : Fin 3 → ℕ) a + S8x128x256.size a := fun a => by
    have := (y a).isLt
    match a with
    | ⟨0, _⟩ => exact ⟨Nat.zero_le _, by show (y 0).val < 0 + 8; exact lt_of_lt_of_eq (y 0).isLt rfl⟩
    | ⟨1, _⟩ => exact ⟨Nat.zero_le _, by show (y 1).val < 0 + 128; exact lt_of_lt_of_eq (y 1).isLt rfl⟩
    | ⟨2, _⟩ => exact ⟨Nat.zero_le _, by show (y 2).val < 0 + 256; exact lt_of_lt_of_eq (y 2).isLt rfl⟩
  unfold VecWindow.put
  rw [dif_pos h]
  refine congrArg w (funext fun a => Fin.ext ?_)
  match a with
  | ⟨0, _⟩ => show (y 0).val - 0 = _; rfl
  | ⟨1, _⟩ => show (y 1).val - 0 = _; rfl
  | ⟨2, _⟩ => show (y 2).val - 0 = _; rfl

/-- The two stores of a tile's halves. -/
theorem store_halves {sig' : RefSig} {κ : Kind} {sp : Space} (v : View sig' κ sp S512x128 .bf16) (f : v.ty.Contents (Elt F)) (a b : Vec F S512x64 .bf16)
    (inb : ∀ x, (![0, 0] : Fin 2 → ℕ) x + S512x64.size x ≤ S512x128.size x) (inb' : ∀ x, (![0, 64] : Fin 2 → ℕ) x + S512x64.size x ≤ S512x128.size x) :
    v.read (Elt F) (v.writes (Elt F) f [⟨Rect.unit (s := S512x128) ![0, 64] S512x64.size inb', b⟩, ⟨Rect.unit (s := S512x128) ![0, 0] S512x64.size inb, a⟩]) = halves a b := by
  rw [View.read_writes_cons_put v f inb' b _ rfl, View.read_writes_cons_put v f inb a [] rfl]
  funext y
  have y0 : (y 0).val < 512 := (y 0).isLt
  have y1 : (y 1).val < 128 := (y 1).isLt
  unfold VecWindow.put halves
  by_cases hy : (y 1).val < 64
  · rw [if_pos hy, dif_neg (fun h => by have : 64 ≤ (y 1).val := (h 1).1; omega), dif_pos (fun x => by
      match x with
      | ⟨0, _⟩ => exact ⟨Nat.zero_le _, by show (y 0).val < 0 + 512; omega⟩
      | ⟨1, _⟩ => exact ⟨Nat.zero_le _, by show (y 1).val < 0 + 64; omega⟩)]
    refine congrArg a (funext fun x => Fin.ext ?_)
    match x with
    | ⟨0, _⟩ => show (y 0).val - 0 = _; rfl
    | ⟨1, _⟩ => show (y 1).val - 0 = (y 1).val % 64; rw [Nat.mod_eq_of_lt hy]; rfl
  · rw [if_neg hy, dif_pos (fun x => by
      match x with
      | ⟨0, _⟩ => exact ⟨Nat.zero_le _, by show (y 0).val < 0 + 512; omega⟩
      | ⟨1, _⟩ => exact ⟨by show 64 ≤ (y 1).val; omega, by show (y 1).val < 64 + 64; omega⟩)]
    refine congrArg b (funext fun x => Fin.ext ?_)
    match x with
    | ⟨0, _⟩ => show (y 0).val - 0 = _; rfl
    | ⟨1, _⟩ => show (y 1).val - 64 = ((y 1).val - 64) % 64; rw [Nat.mod_eq_of_lt (by omega)]

omit [FloatOps F] in
/-- Rows `256 j …` put over a block, at an index. -/
theorem put_rows (x : Vec F S2048x128 .bf16) (j : ℕ) (w : Vec F S256x128 .bf16) (y : S2048x128.Idx) :
    VecWindow.put (s := S2048x128) x ![256 * j, 0] S256x128.size w y
      = if (y 0).val / 256 = j then w (fun a => match a with | ⟨0, _⟩ => (Fin.ofNat 256 ((y 0).val % 256) : Fin 256) | ⟨1, _⟩ => y 1) else x y := by
  have y1 : (y 1).val < 128 := (y 1).isLt
  unfold VecWindow.put
  by_cases hj : (y 0).val / 256 = j
  · rw [if_pos hj, dif_pos (fun a => by
      match a with
      | ⟨0, _⟩ => exact ⟨by show 256 * j ≤ (y 0).val; omega, by show (y 0).val < 256 * j + 256; omega⟩
      | ⟨1, _⟩ => exact ⟨Nat.zero_le _, by show (y 1).val < 0 + 128; omega⟩)]
    refine congrArg w (funext fun a => Fin.ext ?_)
    match a with
    | ⟨0, _⟩ => show (y 0).val - 256 * j = (y 0).val % 256 % 256; omega
    | ⟨1, _⟩ => show (y 1).val - 0 = _; rfl
  · rw [if_neg hj, dif_neg (fun h => by
      have h0 : 256 * j ≤ (y 0).val ∧ (y 0).val < 256 * j + 256 := h 0
      omega)]

/-! The transposed stores of the two accumulators are one function of the slab. -/

theorem pay55_eq : (k0_pay55 : Vec F S1x128x256 .f32 → FVec F S256x128 .bf16) = k0_pay54 := rfl
theorem pay56_eq : (k0_pay56 : Vec F S1x128x256 .f32 → FVec F S256x128 .bf16) = k0_pay54 := rfl
theorem pay57_eq : (k0_pay57 : Vec F S1x128x256 .f32 → FVec F S256x128 .bf16) = k0_pay54 := rfl
theorem pay58_eq : (k0_pay58 : Vec F S1x128x256 .f32 → FVec F S256x128 .bf16) = k0_pay54 := rfl
theorem pay61_eq : (k0_pay61 : Vec F S1x128x256 .f32 → FVec F S256x128 .bf16) = k0_pay54 := rfl
theorem pay62_eq : (k0_pay62 : Vec F S1x128x256 .f32 → FVec F S256x128 .bf16) = k0_pay54 := rfl
theorem pay63_eq : (k0_pay63 : Vec F S1x128x256 .f32 → FVec F S256x128 .bf16) = k0_pay54 := rfl
theorem pay64_eq : (k0_pay64 : Vec F S1x128x256 .f32 → FVec F S256x128 .bf16) = k0_pay54 := rfl
theorem pay65_eq : (k0_pay65 : Vec F S1x128x256 .f32 → FVec F S256x128 .bf16) = k0_pay54 := rfl
theorem pay1_eq : (k0_pay1 : Vec F S1x128x256 .f32 → FVec F S256x128 .bf16) = k0_pay54 := rfl
theorem pay2_eq : (k0_pay2 : Vec F S1x128x256 .f32 → FVec F S256x128 .bf16) = k0_pay54 := rfl
theorem pay3_eq : (k0_pay3 : Vec F S1x128x256 .f32 → FVec F S256x128 .bf16) = k0_pay54 := rfl
theorem pay4_eq : (k0_pay4 : Vec F S1x128x256 .f32 → FVec F S256x128 .bf16) = k0_pay54 := rfl
theorem pay5_eq : (k0_pay5 : Vec F S1x128x256 .f32 → FVec F S256x128 .bf16) = k0_pay54 := rfl
theorem pay60_eq (v : Vec F S1x128x256 .f32) : k0_pay60 (k0_pay59 v) = k0_pay54 v := rfl

/-- The eight stores of an accumulator's slabs, transposed. -/
theorem store_out {sig' : RefSig} {κ : Kind} {sp : Space} (v : View sig' κ sp S2048x128 .bf16) (f : v.ty.Contents (Elt F)) (D : Scr F)
    (i0 : ∀ x, (![0, 0] : Fin 2 → ℕ) x + S256x128.size x ≤ S2048x128.size x) (i1 : ∀ x, (![256, 0] : Fin 2 → ℕ) x + S256x128.size x ≤ S2048x128.size x)
    (i2 : ∀ x, (![512, 0] : Fin 2 → ℕ) x + S256x128.size x ≤ S2048x128.size x) (i3 : ∀ x, (![768, 0] : Fin 2 → ℕ) x + S256x128.size x ≤ S2048x128.size x)
    (i4 : ∀ x, (![1024, 0] : Fin 2 → ℕ) x + S256x128.size x ≤ S2048x128.size x) (i5 : ∀ x, (![1280, 0] : Fin 2 → ℕ) x + S256x128.size x ≤ S2048x128.size x)
    (i6 : ∀ x, (![1536, 0] : Fin 2 → ℕ) x + S256x128.size x ≤ S2048x128.size x) (i7 : ∀ x, (![1792, 0] : Fin 2 → ℕ) x + S256x128.size x ≤ S2048x128.size x) :
    v.read (Elt F) (v.writes (Elt F) f [⟨Rect.unit (s := S2048x128) ![1792, 0] S256x128.size i7, k0_pay54 (slab8 D 7)⟩, ⟨Rect.unit (s := S2048x128) ![1536, 0] S256x128.size i6, k0_pay54 (slab8 D 6)⟩,
      ⟨Rect.unit (s := S2048x128) ![1280, 0] S256x128.size i5, k0_pay54 (slab8 D 5)⟩, ⟨Rect.unit (s := S2048x128) ![1024, 0] S256x128.size i4, k0_pay54 (slab8 D 4)⟩,
      ⟨Rect.unit (s := S2048x128) ![768, 0] S256x128.size i3, k0_pay54 (slab8 D 3)⟩, ⟨Rect.unit (s := S2048x128) ![512, 0] S256x128.size i2, k0_pay54 (slab8 D 2)⟩,
      ⟨Rect.unit (s := S2048x128) ![256, 0] S256x128.size i1, k0_pay54 (slab8 D 1)⟩, ⟨Rect.unit (s := S2048x128) ![0, 0] S256x128.size i0, k0_pay54 (slab8 D 0)⟩]) = writeOut D := by
  rw [View.read_writes_cons_put v f i7 _ _ (off' := ![256 * 7, 0]) rfl, View.read_writes_cons_put v f i6 _ _ (off' := ![256 * 6, 0]) rfl,
    View.read_writes_cons_put v f i5 _ _ (off' := ![256 * 5, 0]) rfl, View.read_writes_cons_put v f i4 _ _ (off' := ![256 * 4, 0]) rfl,
    View.read_writes_cons_put v f i3 _ _ (off' := ![256 * 3, 0]) rfl, View.read_writes_cons_put v f i2 _ _ (off' := ![256 * 2, 0]) rfl,
    View.read_writes_cons_put v f i1 _ _ (off' := ![256 * 1, 0]) rfl, View.read_writes_cons_put v f i0 _ _ (off' := ![256 * 0, 0]) rfl]
  funext y
  have y0 : (y 0).val < 2048 := (y 0).isLt
  rw [put_rows _ 7, put_rows _ 6, put_rows _ 5, put_rows _ 4, put_rows _ 3, put_rows _ 2, put_rows _ 1, put_rows _ 0]
  unfold writeOut
  have hj : (y 0).val / 256 < 8 := by omega
  generalize (y 0).val / 256 = j at hj ⊢
  obtain ⟨j, rfl⟩ : ∃ b : Fin 8, j = b.val := ⟨⟨j, hj⟩, rfl⟩
  fin_cases j <;> rfl

end Cert.KernelIdeal.Gen
-- ==== Proof.Trip.lean ====
/- The first loop by its invariant: before trip `k` the carried values and the two accumulators are those of the first `k` visits. -/
module

public import proofs.«01_k».proof.Proof.Step

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem trip (𝒱 : Variants) (c : Dev nD) (bd : Option 𝒱.V) (E : Set ℕ) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x128 .bf16) (harg6 : arg6.IsWhole) (arg7 : Memref sig .tc .vmem S1x1x512x3 .f32) (harg7 : arg7.IsWhole) (arg8 : Memref sig .tc .vmem S512x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S8x128x256 .f32) (harg11 : arg11.IsWhole) (arg12 : Memref sig .tc .vmem S8x128x256 .f32) (harg12 : arg12.IsWhole) (arg2 : BitVec 32) (v16 : FVec F S256x256 .bf16) (v20 : FVec F S256x256 .bf16) (v29 : FVec F S128x512 .bf16) (v32 : FVec F S128x512 .bf16) (v33 : FVec F S512x64 .bf16) (v34 : FVec F S512x64 .bf16) (v35 : FVec F S512x64 .bf16) (v36 : FVec F S512x64 .bf16) (v38 : FVec F S512x1 .f32) (v39 : Vec F S1x1x512x1 .f32) (v48 : BitVec 32) (k0_hw1 : k0_chk1 i v48) (v53 : BitVec 32)
    (X4 : arg4.view.ty.Contents (Elt F)) (X5 : arg5.view.ty.Contents (Elt F)) (f : arg11.view.ty.Contents (Elt F)) (g : arg12.view.ty.Contents (Elt F)) (k : Fin (k0_t1_loop i v48).trips) (acc : Carry F) :
    (iprop((arg4.view.loc (c : Thread nD τ) ↦[arg4.view.set]{fullShare} X4) ∗ (arg5.view.loc (c : Thread nD τ) ↦[arg5.view.set]{fullShare} X5)
        ∗ (arg11.view.loc (c : Thread nD τ) ↦[arg11.view.set]{fullShare} f) ∗ (arg12.view.loc (c : Thread nD τ) ↦[arg12.view.set]{fullShare} g)) : sProp 𝕄G)
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg2 v16 v20 v29 v32 v33 v34 v35 v36 v38 v39 v48 k0_hw1 v53 k acc)
          (fun yld => iprop(⌜yld = (tripNext v16 v20 v29 v32 v33 v34 v35 v36 v38 (k0_pay80 v39) (arg4.view.read (Elt F) X4) (arg5.view.read (Elt F) X5) (firstBlk i v48 + k.val) acc (arg11.view.read (Elt F) f) (arg12.view.read (Elt F) g)).1⌝
            ∗ (arg4.view.loc (c : Thread nD τ) ↦[arg4.view.set]{fullShare} X4) ∗ (arg5.view.loc (c : Thread nD τ) ↦[arg5.view.set]{fullShare} X5)
            ∗ (arg11.view.loc (c : Thread nD τ) ↦[arg11.view.set]{fullShare} arg11.view.rep (tripNext v16 v20 v29 v32 v33 v34 v35 v36 v38 (k0_pay80 v39) (arg4.view.read (Elt F) X4) (arg5.view.read (Elt F) X5) (firstBlk i v48 + k.val) acc (arg11.view.read (Elt F) f) (arg12.view.read (Elt F) g)).2.1)
            ∗ (arg12.view.loc (c : Thread nD τ) ↦[arg12.view.set]{fullShare} arg12.view.rep (tripNext v16 v20 v29 v32 v33 v34 v35 v36 v38 (k0_pay80 v39) (arg4.view.read (Elt F) X4) (arg5.view.read (Elt F) X5) (firstBlk i v48 + k.val) acc (arg11.view.read (Elt F) f) (arg12.view.read (Elt F) g)).2.2))) := by
  obtain ⟨o1, o2, o3, o4, -⟩ := offs i v48 k
  obtain ⟨a0, a1, a2, a3, a4, a5⟩ := acc
  unfold k0_t1_body
  iintro ⟨HK, HV, HD, HG⟩
  sl_exec
  sl_step
  isplitr [HK HV HD HG]
  · ipureintro
    delta trip.sl.r_2 trip.sl.r_3 trip.sl.r_4 trip.sl.r_5 trip.sl.r_6 trip.sl.r_7 trip.sl.r_8 trip.sl.r_9 trip.sl.r_10 trip.sl.r_11 trip.sl.r_12 trip.sl.r_13 trip.sl.r_14 trip.sl.r_15 trip.sl.r_16 trip.sl.r_1 trip.sl.r
    simp only [load_tile _ _ _ o1, load_tile _ _ _ o3, tripNext]
  isplitl [HK]; · iexact HK
  isplitl [HV]; · iexact HV
  isplitl [HD]
  · iapply (pointsTo_rep_of_read _ _ _ _ _ ?_) $$ HD
    delta trip.sl.HD_1 trip.sl.r_2 trip.sl.r_3 trip.sl.r_4 trip.sl.r_5 trip.sl.r_6 trip.sl.r_7 trip.sl.r_8 trip.sl.r_9 trip.sl.r_10 trip.sl.r_11 trip.sl.r_12 trip.sl.r_13 trip.sl.r_14 trip.sl.r_15 trip.sl.r_16 trip.sl.r_1 trip.sl.r
    simp only [store_slab _ _ _ _ _ o4, store_slab _ _ _ _ _ o2, load_slab _ _ _ o4, load_slab _ _ _ o2, load_tile _ _ _ o1, load_tile _ _ _ o3, View.writes_nil, View.read_rep, tripNext]
  · iapply (pointsTo_rep_of_read _ _ _ _ _ ?_) $$ HG
    delta trip.sl.HG_1 trip.sl.r_2 trip.sl.r_3 trip.sl.r_4 trip.sl.r_5 trip.sl.r_6 trip.sl.r_7 trip.sl.r_8 trip.sl.r_9 trip.sl.r_10 trip.sl.r_11 trip.sl.r_12 trip.sl.r_13 trip.sl.r_14 trip.sl.r_15 trip.sl.r_16 trip.sl.r_1 trip.sl.r
    simp only [store_slab _ _ _ _ _ o4, store_slab _ _ _ _ _ o2, load_slab _ _ _ o4, load_slab _ _ _ o2, load_tile _ _ _ o1, load_tile _ _ _ o3, View.writes_nil, View.read_rep, tripNext]

/-- A buffer's contents before trip `k`: those it was entered with, and from the first trip on a block `D k`. -/
def heldAt {sp : Space} {s : Shape} {e : EltTy} (m : Memref sig .tc sp s e) (f : m.view.ty.Contents (Elt F)) (D : ℕ → s.Idx → Elt F e) : ℕ → m.view.ty.Contents (Elt F)
  | 0 => f
  | k + 1 => m.view.rep (D (k + 1))

theorem read_heldAt {sp : Space} {s : Shape} {e : EltTy} (m : Memref sig .tc sp s e) (f : m.view.ty.Contents (Elt F)) (D : ℕ → s.Idx → Elt F e)
    (h : D 0 = m.view.read (Elt F) f) (k : ℕ) : m.view.read (Elt F) (heldAt m f D k) = D k := by
  cases k with
  | zero => exact h.symm
  | succ k => exact View.read_rep m.view (D (k + 1))

set_option warn.classDefReducibility false in
/-- The first loop: before trip `k` the carried values and the two accumulators are those of the first `k` visits. -/
@[sl_loop] def loopTrips (𝒱 : Variants) (c : Dev nD) (bd : Option 𝒱.V) (E : Set ℕ) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x128 .bf16) (harg6 : arg6.IsWhole) (arg7 : Memref sig .tc .vmem S1x1x512x3 .f32) (harg7 : arg7.IsWhole) (arg8 : Memref sig .tc .vmem S512x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S8x128x256 .f32) (harg11 : arg11.IsWhole) (arg12 : Memref sig .tc .vmem S8x128x256 .f32) (harg12 : arg12.IsWhole) (arg2 : BitVec 32) (v16 : FVec F S256x256 .bf16) (v20 : FVec F S256x256 .bf16) (v29 : FVec F S128x512 .bf16) (v32 : FVec F S128x512 .bf16) (v33 : FVec F S512x64 .bf16) (v34 : FVec F S512x64 .bf16) (v35 : FVec F S512x64 .bf16) (v36 : FVec F S512x64 .bf16) (v38 : FVec F S512x1 .f32) (v39 : Vec F S1x1x512x1 .f32) (v48 : BitVec 32) (k0_hw1 : k0_chk1 i v48) (v53 : BitVec 32) (init : FVec F S512x1 .f32 × FVec F S512x1 .f32 × FVec F S512x64 .f32 × FVec F S512x1 .f32 × FVec F S512x1 .f32 × FVec F S512x64 .f32)
    (X4 : arg4.view.ty.Contents (Elt F)) (X5 : arg5.view.ty.Contents (Elt F)) (f : arg11.view.ty.Contents (Elt F)) (g : arg12.view.ty.Contents (Elt F)) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg2 v16 v20 v29 v32 v33 v34 v35 v36 v38 v39 v48 k0_hw1 v53 init where
  inv k acc := iprop(⌜acc = (tripsFrom v16 v20 v29 v32 v33 v34 v35 v36 v38 (k0_pay80 v39) (arg4.view.read (Elt F) X4) (arg5.view.read (Elt F) X5) (firstBlk i v48) (init, arg11.view.read (Elt F) f, arg12.view.read (Elt F) g) k).1⌝
    ∗ (arg4.view.loc (c : Thread nD τ) ↦[arg4.view.set]{fullShare} X4) ∗ (arg5.view.loc (c : Thread nD τ) ↦[arg5.view.set]{fullShare} X5)
    ∗ (arg11.view.loc (c : Thread nD τ) ↦[arg11.view.set]{fullShare} heldAt arg11 f (fun k => (tripsFrom v16 v20 v29 v32 v33 v34 v35 v36 v38 (k0_pay80 v39) (arg4.view.read (Elt F) X4) (arg5.view.read (Elt F) X5) (firstBlk i v48) (init, arg11.view.read (Elt F) f, arg12.view.read (Elt F) g) k).2.1) k)
    ∗ (arg12.view.loc (c : Thread nD τ) ↦[arg12.view.set]{fullShare} heldAt arg12 g (fun k => (tripsFrom v16 v20 v29 v32 v33 v34 v35 v36 v38 (k0_pay80 v39) (arg4.view.read (Elt F) X4) (arg5.view.read (Elt F) X5) (firstBlk i v48) (init, arg11.view.read (Elt F) f, arg12.view.read (Elt F) g) k).2.2) k))
  step k acc := by
    iintro ⟨%hacc, HK, HV, HD, HG⟩
    subst hacc
    iapply (wp_wand_r Idealize.ShloMosaic.frame (wpE (defs₀ (F := F)) 𝒱 (c : Thread nD τ) bd) E)
    isplitl [HK HV HD HG]
    · iapply (trip 𝒱 c bd E i arg3 harg3 arg4 harg4 arg5 harg5 arg6 harg6 arg7 harg7 arg8 harg8 arg9 harg9 arg10 harg10 arg11 harg11 arg12 harg12 arg2 v16 v20 v29 v32 v33 v34 v35 v36 v38 v39 v48 k0_hw1 v53 X4 X5 _ _ k _)
      isplitl [HK]; · iexact HK
      isplitl [HV]; · iexact HV
      isplitl [HD]; · iexact HD
      iexact HG
    · iintro %yld ⟨%hy, HK, HV, HD, HG⟩
      subst hy
      rw [read_heldAt arg11 f _ rfl, read_heldAt arg12 g _ rfl]
      isplitr
      · ipureintro; rfl
      isplitl [HK]; · iexact HK
      isplitl [HV]; · iexact HV
      isplitl [HD]; · iexact HD
      iexact HG

set_option warn.classDefReducibility false in
/-- The second loop makes no trips: its invariant keeps what is carried. -/
@[sl_loop] def loopNone (𝒱 : Variants) (c : Dev nD) (bd : Option 𝒱.V) (E : Set ℕ) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x128 .bf16) (harg6 : arg6.IsWhole) (arg7 : Memref sig .tc .vmem S1x1x512x3 .f32) (harg7 : arg7.IsWhole) (arg8 : Memref sig .tc .vmem S512x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S8x128x256 .f32) (harg11 : arg11.IsWhole) (arg12 : Memref sig .tc .vmem S8x128x256 .f32) (harg12 : arg12.IsWhole) (arg2 : BitVec 32) (v16 : FVec F S256x256 .bf16) (v20 : FVec F S256x256 .bf16) (v29 : FVec F S128x512 .bf16) (v32 : FVec F S128x512 .bf16) (v33 : FVec F S512x64 .bf16) (v34 : FVec F S512x64 .bf16) (v35 : FVec F S512x64 .bf16) (v36 : FVec F S512x64 .bf16) (v38 : FVec F S512x1 .f32) (v39 : Vec F S1x1x512x1 .f32) (v48 : BitVec 32) (k0_hw1 : k0_chk1 i v48) (v53 : BitVec 32) (v59 : BitVec 32) (init : FVec F S512x1 .f32 × FVec F S512x1 .f32 × FVec F S512x64 .f32 × FVec F S512x1 .f32 × FVec F S512x1 .f32 × FVec F S512x64 .f32) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 arg2 v16 v20 v29 v32 v33 v34 v35 v36 v38 v39 v48 k0_hw1 v53 v59 init where
  inv k acc := iprop(⌜acc = init⌝)
  step k acc := absurd (lt_of_lt_of_eq k.isLt (trips2 i v48)) (Nat.not_lt_zero _)

end Cert.KernelIdeal.Gen
-- ==== Proof.Body.lean ====
/- One grid point of the kernel: what its buffers hold after the body, from what they held before. -/
module

public import proofs.«01_k».proof.Proof.State
public import proofs.«01_k».proof.Proof.Trip

@[expose] public section

set_option maxRecDepth 16384
set_option maxHeartbeats 8000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- Contents found by cases on a decision, read. -/
theorem read_decide {sp : Space} {s : Shape} {e : EltTy} (v : View sig .tc sp s e) {p : Prop} (d : Decidable p) (f g : v.ty.Contents (Elt F)) :
    v.read (Elt F) (Decidable.rec (motive := fun _ => v.ty.Contents (Elt F)) (fun _ => f) (fun _ => g) d) = @ite _ p d (v.read (Elt F) g) (v.read (Elt F) f) := by
  cases d <;> rfl

theorem read_held11 (m : Memref sig .tc .vmem S8x128x256 .f32) (f : m.view.ty.Contents (Elt F)) (v16 v20 : FVec F S256x256 .bf16) (v29 v32 : FVec F S128x512 .bf16) (v33 v34 v35 v36 : FVec F S512x64 .bf16) (v38 v40 : FVec F S512x1 .f32)
    (K V : Vec F S2048x128 .bf16) (j0 : ℕ) (a : Carry F) (D G : Scr F) (n : ℕ) (h : m.view.read (Elt F) f = D) :
    m.view.read (Elt F) (heldAt m f (fun k => (tripsFrom v16 v20 v29 v32 v33 v34 v35 v36 v38 v40 K V j0 (a, D, G) k).2.1) n)
      = (tripsFrom v16 v20 v29 v32 v33 v34 v35 v36 v38 v40 K V j0 (a, D, G) n).2.1 := read_heldAt m f _ h.symm n

theorem read_held12 (m : Memref sig .tc .vmem S8x128x256 .f32) (f : m.view.ty.Contents (Elt F)) (v16 v20 : FVec F S256x256 .bf16) (v29 v32 : FVec F S128x512 .bf16) (v33 v34 v35 v36 : FVec F S512x64 .bf16) (v38 v40 : FVec F S512x1 .f32)
    (K V : Vec F S2048x128 .bf16) (j0 : ℕ) (a : Carry F) (D G : Scr F) (n : ℕ) (h : m.view.read (Elt F) f = G) :
    m.view.read (Elt F) (heldAt m f (fun k => (tripsFrom v16 v20 v29 v32 v33 v34 v35 v36 v38 v40 K V j0 (a, D, G) k).2.2) n)
      = (tripsFrom v16 v20 v29 v32 v33 v34 v35 v36 v38 v40 K V j0 (a, D, G) n).2.2 := read_heldAt m f _ h.symm n

theorem trips1' (i : grid0.Coords) (v48 : BitVec 32) :
    Scf.trips 0#32 (Scalar.addi 0#32 (Scalar.muli (Scalar.divsi (Scalar.subi (Scalar.minsi (Scalar.muli 2#32 (BitVec.ofNat 32 (i 2).val)) (Scalar.maxsi 0#32 v48)) 0#32) 1#32) 1#32)) 1#32 = visited i v48 := trips1 i v48

/-- The body's first conditional is taken at the first query tile. -/
theorem first_iff (i : grid0.Coords) : (Scalar.cmpi .ne (Scalar.extui (Scalar.cmpi .eq (BitVec.ofNat 32 (i 2).val) 0#32) : BitVec 32) 0#32 = 1#1) = ((i 2).val = 0) := by
  have hi : (i 2).val < 4 := (i 2).isLt
  generalize (i 2).val = b at hi
  obtain ⟨a, rfl⟩ : ∃ a : Fin 4, b = a.val := ⟨⟨b, hi⟩, rfl⟩
  clear hi
  revert a; decide +kernel

/-- Its second at the last. -/
theorem last_iff (i : grid0.Coords) : (k0_cond2 i = 1#1) = ((i 2).val = 3) := by
  have hi : (i 2).val < 4 := (i 2).isLt
  unfold k0_cond2
  dsimp only
  generalize (i 2).val = b at hi
  obtain ⟨a, rfl⟩ : ∃ a : Fin 4, b = a.val := ⟨⟨b, hi⟩, rfl⟩
  clear hi
  revert a; decide +kernel

theorem body_run (𝒱 : Variants) (c : Dev nD) (bd : Option 𝒱.V) (E : Set ℕ) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x128 .bf16) (harg6 : arg6.IsWhole) (arg7 : Memref sig .tc .vmem S1x1x512x3 .f32) (harg7 : arg7.IsWhole) (arg8 : Memref sig .tc .vmem S512x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S8x128x256 .f32) (harg11 : arg11.IsWhole) (arg12 : Memref sig .tc .vmem S8x128x256 .f32) (harg12 : arg12.IsWhole)
    (X3 : arg3.view.ty.Contents (Elt F)) (X4 : arg4.view.ty.Contents (Elt F)) (X5 : arg5.view.ty.Contents (Elt F)) (X6 : arg6.view.ty.Contents (Elt F)) (X7 : arg7.view.ty.Contents (Elt F)) (X8 : arg8.view.ty.Contents (Elt F))
    (X9 : arg9.view.ty.Contents (Elt F)) (X10 : arg10.view.ty.Contents (Elt F)) (f : arg11.view.ty.Contents (Elt F)) (g : arg12.view.ty.Contents (Elt F))
    (P : Vec F S512x128 .bf16 × Scr F × Scr F) (hP : P = point i (arg3.view.read (Elt F) X3) (arg6.view.read (Elt F) X6) (arg7.view.read (Elt F) X7) (arg4.view.read (Elt F) X4) (arg5.view.read (Elt F) X5) (if (i 2).val = 0 then k0_pay66 else arg11.view.read (Elt F) f) (if (i 2).val = 0 then k0_pay67 else arg12.view.read (Elt F) g)) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)
        ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
        ∗ (arg9.view.loc (c : Thread nD τ) ↦[arg9.view.set]{fullShare} X9) ∗ (arg10.view.loc (c : Thread nD τ) ↦[arg10.view.set]{fullShare} X10)
        ∗ (arg11.view.loc (c : Thread nD τ) ↦[arg11.view.set]{fullShare} f) ∗ (arg12.view.loc (c : Thread nD τ) ↦[arg12.view.set]{fullShare} g)) : sProp 𝕄G)
      ⊢ wp frame (wpE (defs₀ (F := F)) 𝒱 (c : Thread nD τ) bd) E (cc0_sb_dattn (F := F) i arg3 harg3 arg4 harg4 arg5 harg5 arg6 harg6 arg7 harg7 arg8 harg8 arg9 harg9 arg10 harg10 arg11 harg11 arg12 harg12)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)
            ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} arg8.view.rep P.1)
            ∗ (arg9.view.loc (c : Thread nD τ) ↦[arg9.view.set]{fullShare} arg9.view.rep (if (i 2).val = 3 then writeOut P.2.1 else arg9.view.read (Elt F) X9))
            ∗ (arg10.view.loc (c : Thread nD τ) ↦[arg10.view.set]{fullShare} arg10.view.rep (if (i 2).val = 3 then writeOut P.2.2 else arg10.view.read (Elt F) X10))
            ∗ (arg11.view.loc (c : Thread nD τ) ↦[arg11.view.set]{fullShare} arg11.view.rep P.2.1) ∗ (arg12.view.loc (c : Thread nD τ) ↦[arg12.view.set]{fullShare} arg12.view.rep P.2.2))) := by
  simp only [cc0_sb_dattn_eq_skeleton]; unfold cc0_sb_dattn_skel
  iintro ⟨H3, H4, H5, H6, H7, H8, H9, H10, H11, H12⟩
  sl_exec (disch := exact chk_all i _)
  sl_step
  obtain ⟨o9, o10, o11, o12, o9', o10', o11', o12'⟩ := offs_diag i
  isplitl [H3]; · iexact H3
  isplitl [H4]; · iexact H4
  isplitl [H5]; · iexact H5
  isplitl [H6]; · iexact H6
  isplitl [H7]; · iexact H7
  isplitl [H8]
  · iapply (pointsTo_rep_of_read _ _ _ _ _ ?_) $$ H8
    delta body_run.sl.H11_4 body_run.sl.H12_4 body_run.sl.H8_2 body_run.sl.cst_61 body_run.sl.r body_run.sl.r_1 body_run.sl.r_10 body_run.sl.r_11 body_run.sl.r_12 body_run.sl.r_13 body_run.sl.r_14 body_run.sl.r_15 body_run.sl.r_16 body_run.sl.r_17 body_run.sl.r_18 body_run.sl.r_19 body_run.sl.r_2 body_run.sl.r_20 body_run.sl.r_21 body_run.sl.r_22 body_run.sl.r_23 body_run.sl.r_24 body_run.sl.r_25 body_run.sl.r_26 body_run.sl.r_27 body_run.sl.r_28 body_run.sl.r_29 body_run.sl.r_3 body_run.sl.r_30 body_run.sl.r_31 body_run.sl.r_32 body_run.sl.r_33 body_run.sl.r_34 body_run.sl.r_35 body_run.sl.r_36 body_run.sl.r_37 body_run.sl.r_38 body_run.sl.r_39 body_run.sl.r_4 body_run.sl.r_40 body_run.sl.r_41 body_run.sl.r_42 body_run.sl.r_43 body_run.sl.r_44 body_run.sl.r_45 body_run.sl.r_46 body_run.sl.r_47 body_run.sl.r_48 body_run.sl.r_5 body_run.sl.r_6 body_run.sl.r_7 body_run.sl.r_8 body_run.sl.r_9 body_run.sl.v0 body_run.sl.v1 body_run.sl.v112 body_run.sl.v120 body_run.sl.v185 body_run.sl.v193 body_run.sl.v2 body_run.sl.v209 body_run.sl.v265 body_run.sl.v273 body_run.sl.v344 body_run.sl.v352 body_run.sl.v374 body_run.sl.v375 body_run.sl.v377 body_run.sl.v382 body_run.sl.v387 body_run.sl.v392 body_run.sl.v397 body_run.sl.v402 body_run.sl.v407 body_run.sl.v412 body_run.sl.v417 body_run.sl.v422 body_run.sl.v427 body_run.sl.v432 body_run.sl.v437 body_run.sl.v442 body_run.sl.v447 body_run.sl.v452 body_run.sl.v48 body_run.sl.v49 body_run.sl.v50 body_run.sl.v51 body_run.sl.v53 body_run.sl.v55 body_run.sl.v57 body_run.sl.v58 body_run.sl.v59 body_run.sl.v62 body_run.sl.v63
    simp only [read_decide, read_held11 arg11, read_held12 arg12, trips1', store_slab _ _ _ _ _ o10, store_slab _ _ _ _ _ o12, store_slab _ _ _ _ _ o10', store_slab _ _ _ _ _ o12', load_slab _ _ _ o10, load_slab _ _ _ o12, load_slab _ _ _ o10', load_slab _ _ _ o12', load_tile _ _ _ o9, load_tile _ _ _ o11, load_tile _ _ _ o9', load_tile _ _ _ o11', load_col _ _ _ inb_S1x1x512x3_S1x1x512x1_0_0_0_0, load_col _ _ _ inb_S1x1x512x3_S1x1x512x1_0_0_0_1, load_col _ _ _ inb_S1x1x512x3_S1x1x512x1_0_0_0_2, load_whole _ _ inb_S512x128_S512x128_0_0, store_scr _ _ _ inb_S8x128x256_S8x128x256_0_0_0, store_halves _ _ _ _ inb_S512x128_S512x64_0_0 inb_S512x128_S512x64_0_64, View.writes_nil, first_iff, hP, point, diag, word, carry0, slab_row, slab_next]
  isplitl [H9]
  · iapply (pointsTo_rep_of_read _ _ _ _ _ ?_) $$ H9
    simp only [last_iff]
    split
    · delta body_run.sl.H11_4 body_run.sl.H12_4 body_run.sl.H8_2 body_run.sl.cst_61 body_run.sl.r body_run.sl.r_1 body_run.sl.r_10 body_run.sl.r_11 body_run.sl.r_12 body_run.sl.r_13 body_run.sl.r_14 body_run.sl.r_15 body_run.sl.r_16 body_run.sl.r_17 body_run.sl.r_18 body_run.sl.r_19 body_run.sl.r_2 body_run.sl.r_20 body_run.sl.r_21 body_run.sl.r_22 body_run.sl.r_23 body_run.sl.r_24 body_run.sl.r_25 body_run.sl.r_26 body_run.sl.r_27 body_run.sl.r_28 body_run.sl.r_29 body_run.sl.r_3 body_run.sl.r_30 body_run.sl.r_31 body_run.sl.r_32 body_run.sl.r_33 body_run.sl.r_34 body_run.sl.r_35 body_run.sl.r_36 body_run.sl.r_37 body_run.sl.r_38 body_run.sl.r_39 body_run.sl.r_4 body_run.sl.r_40 body_run.sl.r_41 body_run.sl.r_42 body_run.sl.r_43 body_run.sl.r_44 body_run.sl.r_45 body_run.sl.r_46 body_run.sl.r_47 body_run.sl.r_48 body_run.sl.r_5 body_run.sl.r_6 body_run.sl.r_7 body_run.sl.r_8 body_run.sl.r_9 body_run.sl.v0 body_run.sl.v1 body_run.sl.v112 body_run.sl.v120 body_run.sl.v185 body_run.sl.v193 body_run.sl.v2 body_run.sl.v209 body_run.sl.v265 body_run.sl.v273 body_run.sl.v344 body_run.sl.v352 body_run.sl.v374 body_run.sl.v375 body_run.sl.v377 body_run.sl.v382 body_run.sl.v387 body_run.sl.v392 body_run.sl.v397 body_run.sl.v402 body_run.sl.v407 body_run.sl.v412 body_run.sl.v417 body_run.sl.v422 body_run.sl.v427 body_run.sl.v432 body_run.sl.v437 body_run.sl.v442 body_run.sl.v447 body_run.sl.v452 body_run.sl.v48 body_run.sl.v49 body_run.sl.v50 body_run.sl.v51 body_run.sl.v53 body_run.sl.v55 body_run.sl.v57 body_run.sl.v58 body_run.sl.v59 body_run.sl.v62 body_run.sl.v63
      simp only [pay55_eq, pay56_eq, pay57_eq, pay58_eq, pay60_eq, pay61_eq, pay62_eq, pay63_eq, pay64_eq, pay65_eq, pay1_eq, pay2_eq, pay3_eq, pay4_eq, pay5_eq, load_slab8 _ _ 0 inb_S8x128x256_S1x128x256_0_0_0, load_slab8 _ _ 1 inb_S8x128x256_S1x128x256_1_0_0, load_slab8 _ _ 2 inb_S8x128x256_S1x128x256_2_0_0, load_slab8 _ _ 3 inb_S8x128x256_S1x128x256_3_0_0, load_slab8 _ _ 4 inb_S8x128x256_S1x128x256_4_0_0, load_slab8 _ _ 5 inb_S8x128x256_S1x128x256_5_0_0, load_slab8 _ _ 6 inb_S8x128x256_S1x128x256_6_0_0, load_slab8 _ _ 7 inb_S8x128x256_S1x128x256_7_0_0, read_decide, read_held11 arg11, read_held12 arg12, trips1', store_slab _ _ _ _ _ o10, store_slab _ _ _ _ _ o12, store_slab _ _ _ _ _ o10', store_slab _ _ _ _ _ o12', load_slab _ _ _ o10, load_slab _ _ _ o12, load_slab _ _ _ o10', load_slab _ _ _ o12', load_tile _ _ _ o9, load_tile _ _ _ o11, load_tile _ _ _ o9', load_tile _ _ _ o11', load_col _ _ _ inb_S1x1x512x3_S1x1x512x1_0_0_0_0, load_col _ _ _ inb_S1x1x512x3_S1x1x512x1_0_0_0_1, load_col _ _ _ inb_S1x1x512x3_S1x1x512x1_0_0_0_2, load_whole _ _ inb_S512x128_S512x128_0_0, store_scr _ _ _ inb_S8x128x256_S8x128x256_0_0_0, store_halves _ _ _ _ inb_S512x128_S512x64_0_0 inb_S512x128_S512x64_0_64, View.writes_nil, first_iff, hP, point, diag, word, carry0, slab_row, slab_next]
      exact store_out arg9.view X9 _ _ _ _ _ _ _ _ _
    · rfl
  isplitl [H10]
  · iapply (pointsTo_rep_of_read _ _ _ _ _ ?_) $$ H10
    simp only [last_iff]
    split
    · delta body_run.sl.H11_4 body_run.sl.H12_4 body_run.sl.H8_2 body_run.sl.cst_61 body_run.sl.r body_run.sl.r_1 body_run.sl.r_10 body_run.sl.r_11 body_run.sl.r_12 body_run.sl.r_13 body_run.sl.r_14 body_run.sl.r_15 body_run.sl.r_16 body_run.sl.r_17 body_run.sl.r_18 body_run.sl.r_19 body_run.sl.r_2 body_run.sl.r_20 body_run.sl.r_21 body_run.sl.r_22 body_run.sl.r_23 body_run.sl.r_24 body_run.sl.r_25 body_run.sl.r_26 body_run.sl.r_27 body_run.sl.r_28 body_run.sl.r_29 body_run.sl.r_3 body_run.sl.r_30 body_run.sl.r_31 body_run.sl.r_32 body_run.sl.r_33 body_run.sl.r_34 body_run.sl.r_35 body_run.sl.r_36 body_run.sl.r_37 body_run.sl.r_38 body_run.sl.r_39 body_run.sl.r_4 body_run.sl.r_40 body_run.sl.r_41 body_run.sl.r_42 body_run.sl.r_43 body_run.sl.r_44 body_run.sl.r_45 body_run.sl.r_46 body_run.sl.r_47 body_run.sl.r_48 body_run.sl.r_5 body_run.sl.r_6 body_run.sl.r_7 body_run.sl.r_8 body_run.sl.r_9 body_run.sl.v0 body_run.sl.v1 body_run.sl.v112 body_run.sl.v120 body_run.sl.v185 body_run.sl.v193 body_run.sl.v2 body_run.sl.v209 body_run.sl.v265 body_run.sl.v273 body_run.sl.v344 body_run.sl.v352 body_run.sl.v374 body_run.sl.v375 body_run.sl.v377 body_run.sl.v382 body_run.sl.v387 body_run.sl.v392 body_run.sl.v397 body_run.sl.v402 body_run.sl.v407 body_run.sl.v412 body_run.sl.v417 body_run.sl.v422 body_run.sl.v427 body_run.sl.v432 body_run.sl.v437 body_run.sl.v442 body_run.sl.v447 body_run.sl.v452 body_run.sl.v48 body_run.sl.v49 body_run.sl.v50 body_run.sl.v51 body_run.sl.v53 body_run.sl.v55 body_run.sl.v57 body_run.sl.v58 body_run.sl.v59 body_run.sl.v62 body_run.sl.v63
      simp only [pay55_eq, pay56_eq, pay57_eq, pay58_eq, pay60_eq, pay61_eq, pay62_eq, pay63_eq, pay64_eq, pay65_eq, pay1_eq, pay2_eq, pay3_eq, pay4_eq, pay5_eq, load_slab8 _ _ 0 inb_S8x128x256_S1x128x256_0_0_0, load_slab8 _ _ 1 inb_S8x128x256_S1x128x256_1_0_0, load_slab8 _ _ 2 inb_S8x128x256_S1x128x256_2_0_0, load_slab8 _ _ 3 inb_S8x128x256_S1x128x256_3_0_0, load_slab8 _ _ 4 inb_S8x128x256_S1x128x256_4_0_0, load_slab8 _ _ 5 inb_S8x128x256_S1x128x256_5_0_0, load_slab8 _ _ 6 inb_S8x128x256_S1x128x256_6_0_0, load_slab8 _ _ 7 inb_S8x128x256_S1x128x256_7_0_0, read_decide, read_held11 arg11, read_held12 arg12, trips1', store_slab _ _ _ _ _ o10, store_slab _ _ _ _ _ o12, store_slab _ _ _ _ _ o10', store_slab _ _ _ _ _ o12', load_slab _ _ _ o10, load_slab _ _ _ o12, load_slab _ _ _ o10', load_slab _ _ _ o12', load_tile _ _ _ o9, load_tile _ _ _ o11, load_tile _ _ _ o9', load_tile _ _ _ o11', load_col _ _ _ inb_S1x1x512x3_S1x1x512x1_0_0_0_0, load_col _ _ _ inb_S1x1x512x3_S1x1x512x1_0_0_0_1, load_col _ _ _ inb_S1x1x512x3_S1x1x512x1_0_0_0_2, load_whole _ _ inb_S512x128_S512x128_0_0, store_scr _ _ _ inb_S8x128x256_S8x128x256_0_0_0, store_halves _ _ _ _ inb_S512x128_S512x64_0_0 inb_S512x128_S512x64_0_64, View.writes_nil, first_iff, hP, point, diag, word, carry0, slab_row, slab_next]
      exact store_out arg10.view X10 _ _ _ _ _ _ _ _ _
    · rfl
  isplitl [H11]
  · iapply (pointsTo_rep_of_read _ _ _ _ _ ?_) $$ H11
    delta body_run.sl.H11_4 body_run.sl.H12_4 body_run.sl.H8_2 body_run.sl.cst_61 body_run.sl.r body_run.sl.r_1 body_run.sl.r_10 body_run.sl.r_11 body_run.sl.r_12 body_run.sl.r_13 body_run.sl.r_14 body_run.sl.r_15 body_run.sl.r_16 body_run.sl.r_17 body_run.sl.r_18 body_run.sl.r_19 body_run.sl.r_2 body_run.sl.r_20 body_run.sl.r_21 body_run.sl.r_22 body_run.sl.r_23 body_run.sl.r_24 body_run.sl.r_25 body_run.sl.r_26 body_run.sl.r_27 body_run.sl.r_28 body_run.sl.r_29 body_run.sl.r_3 body_run.sl.r_30 body_run.sl.r_31 body_run.sl.r_32 body_run.sl.r_33 body_run.sl.r_34 body_run.sl.r_35 body_run.sl.r_36 body_run.sl.r_37 body_run.sl.r_38 body_run.sl.r_39 body_run.sl.r_4 body_run.sl.r_40 body_run.sl.r_41 body_run.sl.r_42 body_run.sl.r_43 body_run.sl.r_44 body_run.sl.r_45 body_run.sl.r_46 body_run.sl.r_47 body_run.sl.r_48 body_run.sl.r_5 body_run.sl.r_6 body_run.sl.r_7 body_run.sl.r_8 body_run.sl.r_9 body_run.sl.v0 body_run.sl.v1 body_run.sl.v112 body_run.sl.v120 body_run.sl.v185 body_run.sl.v193 body_run.sl.v2 body_run.sl.v209 body_run.sl.v265 body_run.sl.v273 body_run.sl.v344 body_run.sl.v352 body_run.sl.v374 body_run.sl.v375 body_run.sl.v377 body_run.sl.v382 body_run.sl.v387 body_run.sl.v392 body_run.sl.v397 body_run.sl.v402 body_run.sl.v407 body_run.sl.v412 body_run.sl.v417 body_run.sl.v422 body_run.sl.v427 body_run.sl.v432 body_run.sl.v437 body_run.sl.v442 body_run.sl.v447 body_run.sl.v452 body_run.sl.v48 body_run.sl.v49 body_run.sl.v50 body_run.sl.v51 body_run.sl.v53 body_run.sl.v55 body_run.sl.v57 body_run.sl.v58 body_run.sl.v59 body_run.sl.v62 body_run.sl.v63
    simp only [read_decide, read_held11 arg11, read_held12 arg12, trips1', store_slab _ _ _ _ _ o10, store_slab _ _ _ _ _ o12, store_slab _ _ _ _ _ o10', store_slab _ _ _ _ _ o12', load_slab _ _ _ o10, load_slab _ _ _ o12, load_slab _ _ _ o10', load_slab _ _ _ o12', load_tile _ _ _ o9, load_tile _ _ _ o11, load_tile _ _ _ o9', load_tile _ _ _ o11', load_col _ _ _ inb_S1x1x512x3_S1x1x512x1_0_0_0_0, load_col _ _ _ inb_S1x1x512x3_S1x1x512x1_0_0_0_1, load_col _ _ _ inb_S1x1x512x3_S1x1x512x1_0_0_0_2, load_whole _ _ inb_S512x128_S512x128_0_0, store_scr _ _ _ inb_S8x128x256_S8x128x256_0_0_0, store_halves _ _ _ _ inb_S512x128_S512x64_0_0 inb_S512x128_S512x64_0_64, View.writes_nil, first_iff, hP, point, diag, word, carry0, slab_row, slab_next]
  · iapply (pointsTo_rep_of_read _ _ _ _ _ ?_) $$ H12
    delta body_run.sl.H11_4 body_run.sl.H12_4 body_run.sl.H8_2 body_run.sl.cst_61 body_run.sl.r body_run.sl.r_1 body_run.sl.r_10 body_run.sl.r_11 body_run.sl.r_12 body_run.sl.r_13 body_run.sl.r_14 body_run.sl.r_15 body_run.sl.r_16 body_run.sl.r_17 body_run.sl.r_18 body_run.sl.r_19 body_run.sl.r_2 body_run.sl.r_20 body_run.sl.r_21 body_run.sl.r_22 body_run.sl.r_23 body_run.sl.r_24 body_run.sl.r_25 body_run.sl.r_26 body_run.sl.r_27 body_run.sl.r_28 body_run.sl.r_29 body_run.sl.r_3 body_run.sl.r_30 body_run.sl.r_31 body_run.sl.r_32 body_run.sl.r_33 body_run.sl.r_34 body_run.sl.r_35 body_run.sl.r_36 body_run.sl.r_37 body_run.sl.r_38 body_run.sl.r_39 body_run.sl.r_4 body_run.sl.r_40 body_run.sl.r_41 body_run.sl.r_42 body_run.sl.r_43 body_run.sl.r_44 body_run.sl.r_45 body_run.sl.r_46 body_run.sl.r_47 body_run.sl.r_48 body_run.sl.r_5 body_run.sl.r_6 body_run.sl.r_7 body_run.sl.r_8 body_run.sl.r_9 body_run.sl.v0 body_run.sl.v1 body_run.sl.v112 body_run.sl.v120 body_run.sl.v185 body_run.sl.v193 body_run.sl.v2 body_run.sl.v209 body_run.sl.v265 body_run.sl.v273 body_run.sl.v344 body_run.sl.v352 body_run.sl.v374 body_run.sl.v375 body_run.sl.v377 body_run.sl.v382 body_run.sl.v387 body_run.sl.v392 body_run.sl.v397 body_run.sl.v402 body_run.sl.v407 body_run.sl.v412 body_run.sl.v417 body_run.sl.v422 body_run.sl.v427 body_run.sl.v432 body_run.sl.v437 body_run.sl.v442 body_run.sl.v447 body_run.sl.v452 body_run.sl.v48 body_run.sl.v49 body_run.sl.v50 body_run.sl.v51 body_run.sl.v53 body_run.sl.v55 body_run.sl.v57 body_run.sl.v58 body_run.sl.v59 body_run.sl.v62 body_run.sl.v63
    simp only [read_decide, read_held11 arg11, read_held12 arg12, trips1', store_slab _ _ _ _ _ o10, store_slab _ _ _ _ _ o12, store_slab _ _ _ _ _ o10', store_slab _ _ _ _ _ o12', load_slab _ _ _ o10, load_slab _ _ _ o12, load_slab _ _ _ o10', load_slab _ _ _ o12', load_tile _ _ _ o9, load_tile _ _ _ o11, load_tile _ _ _ o9', load_tile _ _ _ o11', load_col _ _ _ inb_S1x1x512x3_S1x1x512x1_0_0_0_0, load_col _ _ _ inb_S1x1x512x3_S1x1x512x1_0_0_0_1, load_col _ _ _ inb_S1x1x512x3_S1x1x512x1_0_0_0_2, load_whole _ _ inb_S512x128_S512x128_0_0, store_scr _ _ _ inb_S8x128x256_S8x128x256_0_0_0, store_halves _ _ _ _ inb_S512x128_S512x64_0_0 inb_S512x128_S512x64_0_64, View.writes_nil, first_iff, hP, point, diag, word, carry0, slab_row, slab_next]

end Cert.KernelIdeal.Gen
-- ==== Proof.Owned.lean ====
/- One grid point of the kernel over owned blocks. -/
module

public import proofs.«01_k».proof.Proof.Body
public import Idealize.ShloMosaic.Lib.Pipeline.TableIdle

@[expose] public section

set_option maxRecDepth 16384
set_option maxHeartbeats 8000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The same with each block owned at what it holds. -/
theorem body_owned (𝒱 : Variants) (c : Dev nD) (bd : Option 𝒱.V) (E : Set ℕ) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x128 .bf16) (harg6 : arg6.IsWhole) (arg7 : Memref sig .tc .vmem S1x1x512x3 .f32) (harg7 : arg7.IsWhole) (arg8 : Memref sig .tc .vmem S512x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S8x128x256 .f32) (harg11 : arg11.IsWhole) (arg12 : Memref sig .tc .vmem S8x128x256 .f32) (harg12 : arg12.IsWhole)
    (X3 X6 X8 : Vec F S512x128 .bf16) (X4 X5 X9 X10 : Vec F S2048x128 .bf16) (X7 : Vec F S1x1x512x3 .f32) (f : arg11.view.ty.Contents (Elt F)) (g : arg12.view.ty.Contents (Elt F))
    (P : Vec F S512x128 .bf16 × Scr F × Scr F) (hP : P = point i X3 X6 X7 X4 X5 (if (i 2).val = 0 then k0_pay66 else arg11.view.read (Elt F) f) (if (i 2).val = 0 then k0_pay67 else arg12.view.read (Elt F) g)) :
    (iprop(owns (c : Thread nD τ) arg3 fullShare X3 ∗ owns (c : Thread nD τ) arg4 fullShare X4 ∗ owns (c : Thread nD τ) arg5 fullShare X5 ∗ owns (c : Thread nD τ) arg6 fullShare X6
        ∗ owns (c : Thread nD τ) arg7 fullShare X7 ∗ owns (c : Thread nD τ) arg8 fullShare X8 ∗ owns (c : Thread nD τ) arg9 fullShare X9 ∗ owns (c : Thread nD τ) arg10 fullShare X10
        ∗ (arg11.view.loc (c : Thread nD τ) ↦[arg11.view.set]{fullShare} f) ∗ (arg12.view.loc (c : Thread nD τ) ↦[arg12.view.set]{fullShare} g)) : sProp 𝕄G)
      ⊢ wp frame (wpE (defs₀ (F := F)) 𝒱 (c : Thread nD τ) bd) E (cc0_sb_dattn (F := F) i arg3 harg3 arg4 harg4 arg5 harg5 arg6 harg6 arg7 harg7 arg8 harg8 arg9 harg9 arg10 harg10 arg11 harg11 arg12 harg12)
          (fun _ => iprop(owns (c : Thread nD τ) arg3 fullShare X3 ∗ owns (c : Thread nD τ) arg4 fullShare X4 ∗ owns (c : Thread nD τ) arg5 fullShare X5 ∗ owns (c : Thread nD τ) arg6 fullShare X6
            ∗ owns (c : Thread nD τ) arg7 fullShare X7 ∗ owns (c : Thread nD τ) arg8 fullShare P.1
            ∗ owns (c : Thread nD τ) arg9 fullShare (if (i 2).val = 3 then writeOut P.2.1 else X9) ∗ owns (c : Thread nD τ) arg10 fullShare (if (i 2).val = 3 then writeOut P.2.2 else X10)
            ∗ (arg11.view.loc (c : Thread nD τ) ↦[arg11.view.set]{fullShare} arg11.view.rep P.2.1) ∗ (arg12.view.loc (c : Thread nD τ) ↦[arg12.view.set]{fullShare} arg12.view.rep P.2.2))) := by
  have h := body_run 𝒱 c bd E i arg3 harg3 arg4 harg4 arg5 harg5 arg6 harg6 arg7 harg7 arg8 harg8 arg9 harg9 arg10 harg10 arg11 harg11 arg12 harg12 (arg3.view.rep X3) (arg4.view.rep X4) (arg5.view.rep X5) (arg6.view.rep X6) (arg7.view.rep X7) (arg8.view.rep X8) (arg9.view.rep X9) (arg10.view.rep X10) f g P
    (by rw [hP, View.read_rep, View.read_rep, View.read_rep, View.read_rep, View.read_rep])
  rw [View.read_rep, View.read_rep] at h
  simp only [owns_eq_rep]
  exact h
-- ==== Proof.Data.lean ====
/- What every buffer of the kernel program holds before and after each grid point. -/
module

public import proofs.«01_k».proof.Proof.Owned
public import proofs.«01_k».proof.Proof.Gen.KernelIdeal.Frame

@[expose] public section

set_option maxRecDepth 16384
set_option maxHeartbeats 1000000

noncomputable section

namespace Cert.KernelIdeal.Gen

open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- No variant is tracked. -/
abbrev 𝒱₀ : Variants := Variants.none

/-- The query tile of a grid point is its number modulo four. -/
theorem coord2 : ∀ t : Fin cfg0.N, ((cfg0.grid.coords t) 2).val = t.val % 4 := by decide +kernel

/-- What point `t` computes from its blocks, the accumulators before it being `s`: reset at the first query tile of a head pair. -/
def pointAt (c : Dev nD) (t : Fin cfg0.N) (s : Scr F × Scr F) : Vec F S512x128 .bf16 × Scr F × Scr F :=
  point (cfg0.grid.coords t) (iblk m c 0 t) (iblk m c 3 t) (iblk m c 4 t) (iblk m c 1 t) (iblk m c 2 t)
    (if ((cfg0.grid.coords t) 2).val = 0 then k0_pay66 else s.1) (if ((cfg0.grid.coords t) 2).val = 0 then k0_pay67 else s.2)

/-- The accumulators before point `n`. -/
def accs (c : Dev nD) : ℕ → Scr F × Scr F
  | 0 => (k0_pay66, k0_pay67)
  | n + 1 => if h : n < cfg0.N then (pointAt m c ⟨n, h⟩ (accs c n)).2 else (k0_pay66, k0_pay67)

theorem accs_succ (c : Dev nD) (t : Fin cfg0.N) : accs m c (t.val + 1) = (pointAt m c t (accs m c t.val)).2 := by
  show (if h : t.val < cfg0.N then (pointAt m c ⟨t.val, h⟩ (accs m c t.val)).2 else _) = _
  rw [dif_pos t.isLt]

/-- What point `t` computes. -/
def out (c : Dev nD) (t : Fin cfg0.N) : Vec F S512x128 .bf16 × Scr F × Scr F := pointAt m c t (accs m c t.val)

/-- The invariant before point `n`: the two accumulators hold what the points of this head pair before it left, and the generator register is the core's. -/
def inv (c : Dev nD) (n : ℕ) (_ : n ≤ cfg0.N) : sProp 𝕄G :=
  iprop((∃ f : Buf (Elt F) ((c : Thread nD τ).loc cc0_scratch0), ⌜n % 4 ≠ 0 → (Memref.whole cc0_scratch0).view.read (Elt F) f = (accs m c n).1⌝ ∗ (((c : Thread nD τ).loc cc0_scratch0) ↦{fullShare} f))
    ∗ (∃ g : Buf (Elt F) ((c : Thread nD τ).loc cc0_scratch1), ⌜n % 4 ≠ 0 → (Memref.whole cc0_scratch1).view.read (Elt F) g = (accs m c n).2⌝ ∗ (((c : Thread nD τ).loc cc0_scratch1) ↦{fullShare} g))
    ∗ ∃ r, prngReg c r)

/-- The proof data: every input block in place, the query gradient's block at every point, the key and value gradients' blocks at a head pair's last point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (out m c t).1
    | ⟨6, _⟩ => writeOut (out m c t).2.1
    | ⟨7, _⟩ => writeOut (out m c t).2.2
    | ⟨_ + 8, h⟩ => absurd h (Nat.not_lt.2 (Nat.le_add_left _ _))
  Φ t := inv m c t.val (Nat.le_of_lt_succ t.isLt)
  q := Pipeline.shareOf spec0
  owed _ := 0

theorem Φ_at (c : Dev nD) (t : Fin cfg0.N) : (dats m 0 c).Φ t.castSucc = inv m c t.val (Nat.le_of_lt t.isLt) := by
  dsimp only [dats]; exact Pipeline.Dat.Φ_castSucc (inv m c) t

theorem defs₀_row (t : Fin cfg0.N) : defs₀ (F := F) .tc cfg0.body (cfg0.bodyArgs t (cfg0.slots t)) = bodyAt0 t := by
  unfold defs₀; rw [Defs.onTc_tc]

/-- What the body leaves in the staging buffer of the key or value gradients: their block at a head pair's last point, and elsewhere what it found. -/
def left (c : Dev nD) (w : Fin cfg0.W) (t : Fin cfg0.N) : sProp 𝕄G :=
  if t.val % 4 = 3 then owns (c : Thread nD τ) ((cfg0.win w).stage (cfg0.slots t w)) fullShare ((dats m 0 c).after w t)
  else iprop(∃ d, owns (c : Thread nD τ) ((cfg0.win w).stage (cfg0.slots t w)) fullShare ((dats m 0 c).before w t d))

end Cert.KernelIdeal.Gen

end
-- ==== Proof.Run.lean ====
/- The run of the kernel program: the body at each grid point, and the launch. -/
module

public import proofs.«01_k».proof.Proof.Data

@[expose] public section

set_option maxRecDepth 16384
set_option maxHeartbeats 1000000

noncomputable section

namespace Cert.KernelIdeal.Gen

open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The body at a point, from the invariant and the blocks it finds to the invariant and the blocks it leaves. -/
theorem sound_body (c : Dev nD) (t : Fin cfg0.N) :
    (iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d))
      ∗ (∃ d, owns (c : Thread nD τ) (st0_4 t) fullShare ((dats m 0 c).before 4 t d)) ∗ (∃ d, owns (c : Thread nD τ) (st0_5 t) fullShare ((dats m 0 c).before 5 t d))
      ∗ (∃ d, owns (c : Thread nD τ) (st0_6 t) fullShare ((dats m 0 c).before 6 t d)) ∗ (∃ d, owns (c : Thread nD τ) (st0_7 t) fullShare ((dats m 0 c).before 7 t d))) : sProp 𝕄G)
    ⊢ wp frame (wpE (defs₀ (F := F)) 𝒱₀ (c : Thread nD τ) none) Set.univ (bodyAt0 t)
      (fun _ => iprop((dats m 0 c).Φ t.succ ∗ (dats m 0 c).owesAt () t.succ
      ∗ owns (c : Thread nD τ) (st0_0 t) fullShare ((dats m 0 c).after 0 t) ∗ owns (c : Thread nD τ) (st0_1 t) fullShare ((dats m 0 c).after 1 t)
      ∗ owns (c : Thread nD τ) (st0_2 t) fullShare ((dats m 0 c).after 2 t) ∗ owns (c : Thread nD τ) (st0_3 t) fullShare ((dats m 0 c).after 3 t)
      ∗ owns (c : Thread nD τ) (st0_4 t) fullShare ((dats m 0 c).after 4 t) ∗ owns (c : Thread nD τ) (st0_5 t) fullShare ((dats m 0 c).after 5 t)
      ∗ left m c 6 t ∗ left m c 7 t)) := by
  have e : (dats m 0 c).Φ t.succ = inv m c (t.val + 1) t.isLt := by dsimp only [dats]; rfl
  rw [Φ_at, e]
  unfold inv
  iintro ⟨⟨⟨%f, %hf, HF⟩, ⟨%g, %hg, HG⟩, HR⟩, HO, ⟨%d0, H0⟩, ⟨%d1, H1⟩, ⟨%d2, H2⟩, ⟨%d3, H3⟩, ⟨%d4, H4⟩, ⟨%d5, H5⟩, ⟨%d6, H6⟩, ⟨%d7, H7⟩⟩
  rw [before0_0_of m (dats m 0 c) rfl (fun _ => rfl) t d0, before0_1_of m (dats m 0 c) rfl (fun _ => rfl) t d1, before0_2_of m (dats m 0 c) rfl (fun _ => rfl) t d2,
    before0_3_of m (dats m 0 c) rfl (fun _ => rfl) t d3, before0_4_of m (dats m 0 c) rfl (fun _ => rfl) t d4]
  have hc : ((cfg0.grid.coords t) 2).val = t.val % 4 := coord2 t
  have hP : out m c t = point (cfg0.grid.coords t) (iblk m c 0 t) (iblk m c 3 t) (iblk m c 4 t) (iblk m c 1 t) (iblk m c 2 t)
      (if ((cfg0.grid.coords t) 2).val = 0 then k0_pay66 else (Memref.whole cc0_scratch0).view.read (Elt F) f)
      (if ((cfg0.grid.coords t) 2).val = 0 then k0_pay67 else (Memref.whole cc0_scratch1).view.read (Elt F) g) := by
    unfold out pointAt
    by_cases h0 : t.val % 4 = 0
    · simp only [hc, if_pos h0]
    · simp only [hc, if_neg h0, hf h0, hg h0]
  iapply (wp_wand_r Idealize.ShloMosaic.frame (wpE (defs₀ (F := F)) 𝒱₀ (c : Thread nD τ) none) Set.univ)
  isplitl [H0 H1 H2 H3 H4 H5 H6 H7 HF HG]
  · iapply (body_owned 𝒱₀ c none Set.univ (cfg0.grid.coords t) _ _ _ _ _ _ _ _ _ _ _ _ _ _ _ _ (Memref.whole cc0_scratch0) (Memref.isWhole_whole _) (Memref.whole cc0_scratch1) (Memref.isWhole_whole _)
      _ _ _ _ _ _ _ _ f g (out m c t) hP)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HF]
    · rw [View.set_whole]; iexact HF
    · rw [View.set_whole]; iexact HG
  · iintro %_ ⟨H0, H1, H2, H3, H4, H5, H6, H7, HF, HG⟩
    isplitl [HF HG HR]
    · isplitl [HF]
      · iexists (Memref.whole cc0_scratch0).view.rep (out m c t).2.1
        isplitr
        · ipureintro; intro _; rw [View.read_rep, accs_succ]; rfl
        · rw [View.set_whole]; iexact HF
      isplitl [HG]
      · iexists (Memref.whole cc0_scratch1).view.rep (out m c t).2.2
        isplitr
        · ipureintro; intro _; rw [View.read_rep, accs_succ]; rfl
        · rw [View.set_whole]; iexact HG
      iexact HR
    isplitl [HO]; · iexact HO
    isplitl [H0]; · iexact H0
    isplitl [H1]; · iexact H1
    isplitl [H2]; · iexact H2
    isplitl [H3]; · iexact H3
    isplitl [H4]; · iexact H4
    isplitl [H5]; · iexact H5
    unfold left
    by_cases h3 : t.val % 4 = 3
    · rw [if_pos h3, if_pos h3, if_pos (hc.trans h3), if_pos (hc.trans h3)]
      isplitl [H6]; · iexact H6
      iexact H7
    · rw [if_neg h3, if_neg h3, if_neg (fun h => h3 (hc.symm.trans h)), if_neg (fun h => h3 (hc.symm.trans h))]
      isplitl [H6]
      · iexists d6; iexact H6
      · iexists d7; iexact H7

/-- The two gradients' windows are idle but at a head pair's last point, and flushed there. -/
theorem idle_iff : ∀ t : Fin cfg0.N, (cfg0.idle 6 (cfg0.grid.coords t) = decide (t.val % 4 ≠ 3)) ∧ (cfg0.idle 7 (cfg0.grid.coords t) = decide (t.val % 4 ≠ 3)) := fun t => by
  have h : (k0_cond2 (cfg0.grid.coords t) = 1#1) = (t.val % 4 = 3) := (last_iff _).trans (by rw [coord2 t])
  have e : (!(k0_cond2 (cfg0.grid.coords t) == 1#1)) = decide (t.val % 4 ≠ 3) := by
    by_cases h3 : t.val % 4 = 3
    · rw [h.mpr h3]; simp [h3]
    · have : ¬ k0_cond2 (cfg0.grid.coords t) = 1#1 := fun hh => h3 (h.mp hh)
      simp [h3, this]
  exact ⟨e, e⟩

end Cert.KernelIdeal.Gen

end
-- ==== Proof.Launched.lean ====
/- The launch of the kernel program. -/
module

public import proofs.«01_k».proof.Proof.Run

@[expose] public section

set_option maxRecDepth 16384
set_option maxHeartbeats 1000000

noncomputable section

namespace Cert.KernelIdeal.Gen

open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The body meets its obligation at every grid point. -/
theorem body_obligation (c : Dev nD) : BodyObligationLoose (dats m 0 c) (defs₀ (F := F)) 𝒱₀ () Set.univ := by
  intro t
  rw [bigSep_W0, bigSep_W0, defs₀_row]
  refine triple_restated (sound_body m c t) rfl .rfl fun _ => ?_
  obtain ⟨e6, e7⟩ := idle_iff t
  by_cases h3 : t.val % 4 = 3
  · have l6 : left m c 6 t = owns (c : Thread nD τ) (st0_6 t) fullShare ((dats m 0 c).after 6 t) := if_pos h3
    have l7 : left m c 7 t = owns (c : Thread nD τ) (st0_7 t) fullShare ((dats m 0 c).after 7 t) := if_pos h3
    rw [l6, l7]
    have i6 : idle0 6 (grid0.coords t) = false := e6.trans (by simp [h3])
    have i7 : idle0 7 (grid0.coords t) = false := e7.trans (by simp [h3])
    dsimp only
    rw [i6]
  · have l6 : left m c 6 t = iprop(∃ d, owns (c : Thread nD τ) (st0_6 t) fullShare ((dats m 0 c).before 6 t d)) := if_neg h3
    have l7 : left m c 7 t = iprop(∃ d, owns (c : Thread nD τ) (st0_7 t) fullShare ((dats m 0 c).before 7 t d)) := if_neg h3
    rw [l6, l7]
    have i6 : idle0 6 (grid0.coords t) = true := e6.trans (by simp [h3])
    have i7 : idle0 7 (grid0.coords t) = true := e7.trans (by simp [h3])
    have f6 : (win0 6).flush t = false := by
      refine Bool.eq_false_iff.mpr fun h => h3 ((flush0_6 t).mp h)
    have f7 : (win0 7).flush t = false := by
      refine Bool.eq_false_iff.mpr fun h => h3 ((flush0_7 t).mp h)
    dsimp only
    rw [i6, f6, f7]

/-- The launch's accumulators, at anything, are the invariant at the first point. -/
theorem enter (c : Dev nD) : (Pipeline.ΦA spec0 c : sProp 𝕄G) ⊢ (dats m 0 c).Φ 0 := by
  have e : (dats m 0 c).Φ 0 = inv m c 0 (Nat.zero_le _) := by dsimp only [dats]; rfl
  rw [e]
  unfold Pipeline.ΦA inv
  rw [scopedRest0_eq]
  iintro ⟨⟨⟨%f, HF⟩, ⟨%g, HG⟩⟩, HR⟩
  isplitl [HF]
  · iexists f
    isplitr
    · ipureintro; intro h; exact absurd rfl h
    · iexact HF
  isplitl [HG]
  · iexists g
    isplitr
    · ipureintro; intro h; exact absurd rfl h
    · iexact HG
  iexact HR

/-- After the last point the accumulators are given back at what they hold. -/
theorem leave (c : Dev nD) : (dats m 0 c).Φ (Fin.last cfg0.N) ⊢ (Pipeline.ΦA spec0 c : sProp 𝕄G) := by
  have e : (dats m 0 c).Φ (Fin.last cfg0.N) = inv m c cfg0.N le_rfl := by dsimp only [dats]; rfl
  rw [e]
  unfold Pipeline.ΦA inv
  rw [scopedRest0_eq]
  iintro ⟨⟨%f, -, HF⟩, ⟨%g, -, HG⟩, HR⟩
  isplitl [HF HG]
  · isplitl [HF]
    · iexists f; iexact HF
    · iexists g; iexact HG
  iexact HR

/-- The kernel program runs to the contents the proof data name, every counter at zero. -/
theorem run_main : θ_run defs (onTc (τ := τ) (main (F := F))) (s₀ m ρ) (fun r => Pipeline.FramePost cfgs (dats m) 0 (V m) r ∧ r.2.sem = (fun _ => 0)) :=
  Pipeline.θ_run_frame_track_shared cfgs (dats m) 0 launch₀0 defs₀ 𝒱₀ m ρ main (hbody := body_obligation m) (hq := fun _ _ _ => rfl) (howed := fun _ _ => rfl)
    (V := V m) (hmain := hmain m 𝒱₀) (hA := fun _ _ => rfl) (hin := enter m) (hout := leave m) (Q' := fun r => Pipeline.FramePost cfgs (dats m) 0 (V m) r ∧ r.2.sem = (fun _ => 0)) (hQ' := fun _ h => h)

/-- Its arguments end unchanged and every counter reads zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 2).trans (((dats m 0 c).arrAt_in 2 rfl _).trans (V_main_arg0 m c)),
      ((h.1 c).1 3).trans (((dats m 0 c).arrAt_in 3 rfl _).trans (V_main_arg1 m c))⟩, h.2⟩) (run_main m ρ)

end Cert.KernelIdeal.Gen

end
-- ==== Proof.SameText.lean ====
/- The kernel program and its idealization have the same text: their body tables and their @main are equal, so the run of
   the one is the run of the other. -/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

set_option maxRecDepth 100000
set_option maxHeartbeats 2000000

/-- The two kernel functions are one. -/
theorem body_same : @Cert.Kernel.cc0_sb_dattn Bits _ _ = @Cert.KernelIdeal.cc0_sb_dattn Bits _ _ := rfl

/-- The two tables of bodies are one. -/
theorem bodies_same : @Cert.Kernel.defs₀ Bits _ _ = @Cert.KernelIdeal.defs₀ Bits _ _ := by
  unfold Cert.Kernel.defs₀ Cert.KernelIdeal.defs₀
  refine congrArg Defs.onTc (funext fun l => funext fun a => ?_)
  obtain ⟨l, hl⟩ := l
  obtain rfl : l = 0 := by omega
  obtain ⟨t, s⟩ := a
  dsimp only
  rw [body_same]
  rfl

/-- The two programs' body tables are one. -/
theorem defs_same : @Cert.Kernel.defs Bits _ _ = @Cert.KernelIdeal.defs Bits _ _ :=
  congrArg (Pipeline.defs Cert.Kernel.pcfgs) bodies_same

/-- The two programs' @main are one. -/
theorem main_same : Cert.Kernel.main (F := Bits) = Cert.KernelIdeal.main (F := Bits) := rfl

end Cert.Proof

end
-- ==== Proof.Finite.lean ====
/- Arrays of finite extended reals are arrays of reals. -/
module

public import proofs.«01_k».proof.Pre_finite
public import Idealize.ShloMosaic.Lib.Pipeline.ValueKit

@[expose] public section

noncomputable section

namespace Cert.Pre_finite

open Idealize.ShloMosaic

/-- The shape relations the predicate states. -/
theorem facts : Facts := ⟨by decide, by decide⟩

/-- An extended real whose absolute value is below infinity is a real. -/
theorem coe_of_abs_lt (x : EReal) (h : max x (-x) < ⊤) : ((x.toReal : ℝ) : EReal) = x := by
  refine EReal.coe_toReal (fun e => ?_) (fun e => ?_)
  · rw [e] at h; simp at h
  · rw [e] at h; simp at h

theorem word_top : Ideal.ofBits .bf16 0x7F80#16 = ⊤ := by simp [Ideal.ofBits, Ideal.ieee]

/-- What the comparison with infinity says at an index. -/
theorem coe_of_bit {s : Shape} (x : FVec Ideal s .bf16) (h : S_.BroadcastsInDim s (![] : Fin 0 → Fin s.rank))
    (e : cmpf .olt (Host.absf x) (broadcastInDim s ![] h (constant (F := Ideal) S_ .bf16 0x7F80#16)) = fun _ => 1#1) (i : s.Idx) :
    (((x i : EReal).toReal : ℝ) : EReal) = x i := by
  refine coe_of_abs_lt _ ?_
  have h1 : BitVec.ofBool (decide (max (x i : EReal) (-(x i : EReal)) < Ideal.ofBits .bf16 0x7F80#16)) = 1#1 := congrFun e i
  rw [word_top] at h1
  by_contra hn
  rw [decide_eq_false hn] at h1
  exact absurd h1 (by decide)

/-- A two-dimensional array of reals, read with natural numbers. -/
def reals {n m : ℕ} (x : FVec Ideal ⟨2, ![n, m]⟩ .bf16) (r s : ℕ) : ℝ :=
  if h : r < n ∧ s < m then (x (ix2 (⟨r, h.1⟩ : Fin n) (⟨s, h.2⟩ : Fin m)) : EReal).toReal else 0

theorem reals_at {n m : ℕ} (x : FVec Ideal ⟨2, ![n, m]⟩ .bf16) (hx : ∀ i, (((x i : EReal).toReal : ℝ) : EReal) = x i) (r : Fin n) (s : Fin m) :
    x (ix2 r s) = ((reals x r.val s.val : ℝ) : EReal) := by
  unfold reals
  rw [dif_pos ⟨r.isLt, s.isLt⟩]
  exact (hx _).symm

end Cert.Pre_finite

end
-- ==== Proof.Ops.lean ====
/- The vector operations of the kernel on arrays of real numbers: each gives the array of real numbers one expects. -/
module

public import proofs.«01_k».proof.Proof.State
public import Idealize.ShloMosaic.Lib.Pointwise

@[expose] public section

set_option maxRecDepth 16384

noncomputable section

namespace Cert.KernelIdeal.Gen

open Idealize.ShloMosaic Idealize.ShloMosaic.TcCoe Idealize.SL.Sem

/-- A matrix of real numbers as an array of extended reals. -/
def up {n m : ℕ} {φ : FTy} (f : Fin n → Fin m → ℝ) : FVec Ideal ⟨2, ![n, m]⟩ φ := fun y => ((f (y 0) (y 1) : ℝ) : EReal)

/-- A vector of real numbers as an array of extended reals. -/
def upv {n : ℕ} {φ : FTy} (f : Fin n → ℝ) : FVec Ideal ⟨1, ![n]⟩ φ := fun y => ((f (y 0) : ℝ) : EReal)

/-- A stack of matrices of real numbers as an array of extended reals. -/
def ups {l n m : ℕ} {φ : FTy} (f : Fin l → Fin n → Fin m → ℝ) : FVec Ideal ⟨3, ![l, n, m]⟩ φ := fun y => ((f (y 0) (y 1) (y 2) : ℝ) : EReal)

/-- A mask as an array of bits. -/
def bits {n m : ℕ} (P : Fin n → Fin m → Bool) : IVec ⟨2, ![n, m]⟩ 1 := fun y => BitVec.ofBool (P (y 0) (y 1))

theorem up_ix {n m : ℕ} {φ : FTy} (f : Fin n → Fin m → ℝ) (i : Fin n) (j : Fin m) : up (φ := φ) f (ix2 i j) = ((f i j : ℝ) : EReal) := rfl
theorem upv_ix {n : ℕ} {φ : FTy} (f : Fin n → ℝ) (i : Fin n) : upv (φ := φ) f (ix1 i) = ((f i : ℝ) : EReal) := rfl
theorem ups_ix {l n m : ℕ} {φ : FTy} (f : Fin l → Fin n → Fin m → ℝ) (h : Fin l) (i : Fin n) (j : Fin m) : ups (φ := φ) f (ix3 h i j) = ((f h i j : ℝ) : EReal) := rfl
theorem bits_ix {n m : ℕ} (P : Fin n → Fin m → Bool) (i : Fin n) (j : Fin m) : bits P (ix2 i j) = BitVec.ofBool (P i j) := rfl

theorem coe_sum {ι : Type} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

section elementwise
variable {n m : ℕ} {φ : FTy} (f g : Fin n → Fin m → ℝ)

theorem up_add : addf (up (φ := φ) f) (up g) = up fun i j => f i j + g i j := rfl
theorem up_sub : subf (up (φ := φ) f) (up g) = up fun i j => f i j - g i j := rfl
theorem up_mul : mulf (up (φ := φ) f) (up g) = up fun i j => f i j * g i j := rfl
theorem up_exp : exp (up (φ := φ) f) = up fun i j => Real.exp (f i j) := rfl
theorem up_abs : absf (up (φ := φ) f) = up fun i j => |f i j| := by
  funext y
  show max ((f (y 0) (y 1) : ℝ) : EReal) (-((f (y 0) (y 1) : ℝ) : EReal)) = ((|f (y 0) (y 1)| : ℝ) : EReal)
  rw [← EReal.coe_neg, abs_eq_max_neg]
  exact (EReal.coe_strictMono.monotone.map_max).symm
theorem up_min : minimumf (up (φ := φ) f) (up g) = up fun i j => min (f i j) (g i j) := by
  funext y
  exact (EReal.coe_strictMono.monotone.map_min).symm
theorem up_log : log (up (φ := φ) fun i j => 1 + Real.exp (f i j)) = up fun i j => Real.log (1 + Real.exp (f i j)) := by
  funext y
  show (if 1 + Real.exp (f (y 0) (y 1)) ≤ 0 then ⊥ else ((Real.log (1 + Real.exp (f (y 0) (y 1))) : ℝ) : EReal)) = _
  exact if_neg (by have := Real.exp_pos (f (y 0) (y 1)); linarith)
theorem up_select (P : Fin n → Fin m → Bool) : select (bits P) (up (φ := φ) f) (up g) = up fun i j => if P i j then f i j else g i j := by
  funext y
  show Scalar.select (BitVec.ofBool (P (y 0) (y 1))) _ _ = _
  cases h : P (y 0) (y 1) <;> simp [up, h, Scalar.select]
theorem up_truncf (h : FTy.bits .bf16 < FTy.bits .f32) : truncf .bf16 (up (φ := .f32) f) h = up f := rfl
theorem up_extf (h : FTy.bits .bf16 < FTy.bits .f32) : extf .f32 (up (φ := .bf16) f) h = up f := rfl
end elementwise

theorem up_zero {n m : ℕ} : broadcast (⟨2, ![n, m]⟩ : Shape) (Scalar.ofBits (F := Ideal) .f32 0x00000000#32) = up (φ := .f32) fun _ _ => 0 := by
  funext y
  exact Ideal.ofBits_zero_f32
theorem up_one {n m : ℕ} : broadcast (⟨2, ![n, m]⟩ : Shape) (Scalar.ofBits (F := Ideal) .f32 0x3F800000#32) = up (φ := .f32) fun _ _ => 1 := by
  funext y
  exact Ideal.ofBits_one_f32
theorem up_const {n m : ℕ} : constant (F := Ideal) (⟨2, ![n, m]⟩ : Shape) .f32 0x00000000#32 = up fun _ _ => 0 := by
  funext y
  exact Ideal.ofBits_zero_f32

/-! The products. -/

theorem mm0 (f : Fin 512 → Fin 64 → ℝ) (g : Fin 256 → Fin 64 → ℝ) :
    matmul dot_S512x64_S256x64_S512x256_1_1_0_0_n_n none (up (φ := .bf16) f) (up (φ := .bf16) g) (up (φ := .f32) fun _ _ => 0) = up fun i j => ∑ k, f i k * g j k := by
  funext y; idx_vars y; pointwise [up_ix]; simp only [← EReal.coe_mul, coe_sum, EReal.coe_zero, zero_add]

theorem mm1 (f : Fin 512 → Fin 256 → ℝ) (g : Fin 256 → Fin 256 → ℝ) :
    matmul dot_S512x256_S256x256_S512x256_1_0_0_1_n_n none (up (φ := .bf16) f) (up (φ := .bf16) g) (up (φ := .f32) fun _ _ => 0) = up fun i j => ∑ k, f i k * g k j := by
  funext y; idx_vars y; pointwise [up_ix]; simp only [← EReal.coe_mul, coe_sum, EReal.coe_zero, zero_add]

theorem mm2 (f : Fin 512 → Fin 256 → ℝ) (g : Fin 256 → Fin 64 → ℝ) :
    matmul dot_S512x256_S256x64_S512x64_1_0_0_1_n_n none (up (φ := .bf16) f) (up (φ := .bf16) g) (up (φ := .f32) fun _ _ => 0) = up fun i j => ∑ k, f i k * g k j := by
  funext y; idx_vars y; pointwise [up_ix]; simp only [← EReal.coe_mul, coe_sum, EReal.coe_zero, zero_add]

theorem mm3 (f : Fin 64 → Fin 512 → ℝ) (g : Fin 512 → Fin 256 → ℝ) :
    matmul dot_S64x512_S512x256_S64x256_1_0_0_1_n_n none (up (φ := .bf16) f) (up (φ := .bf16) g) (up (φ := .f32) fun _ _ => 0) = up fun i j => ∑ k, f i k * g k j := by
  funext y; idx_vars y; pointwise [up_ix]; simp only [← EReal.coe_mul, coe_sum, EReal.coe_zero, zero_add]

theorem mm4 (f : Fin 256 → Fin 64 → ℝ) (g : Fin 256 → Fin 64 → ℝ) :
    matmul dot_S256x64_S256x64_S256x256_1_1_0_0_n_n none (up (φ := .bf16) f) (up (φ := .bf16) g) (up (φ := .f32) fun _ _ => 0) = up fun i j => ∑ k, f i k * g j k := by
  funext y; idx_vars y; pointwise [up_ix]; simp only [← EReal.coe_mul, coe_sum, EReal.coe_zero, zero_add]

theorem mm5 (f : Fin 256 → Fin 256 → ℝ) (g : Fin 256 → Fin 256 → ℝ) :
    matmul dot_S256x256_S256x256_S256x256_1_0_0_1_n_n none (up (φ := .bf16) f) (up (φ := .bf16) g) (up (φ := .f32) fun _ _ => 0) = up fun i j => ∑ k, f i k * g k j := by
  funext y; idx_vars y; pointwise [up_ix]; simp only [← EReal.coe_mul, coe_sum, EReal.coe_zero, zero_add]

theorem mm6 (f : Fin 64 → Fin 256 → ℝ) (g : Fin 256 → Fin 256 → ℝ) :
    matmul dot_S64x256_S256x256_S64x256_1_0_0_1_n_n none (up (φ := .bf16) f) (up (φ := .bf16) g) (up (φ := .f32) fun _ _ => 0) = up fun i j => ∑ k, f i k * g k j := by
  funext y; idx_vars y; pointwise [up_ix]; simp only [← EReal.coe_mul, coe_sum, EReal.coe_zero, zero_add]

theorem mm7 (f : Fin 256 → Fin 256 → ℝ) (g : Fin 256 → Fin 64 → ℝ) :
    matmul dot_S256x256_S256x64_S256x64_1_0_0_1_n_n none (up (φ := .bf16) f) (up (φ := .bf16) g) (up (φ := .f32) fun _ _ => 0) = up fun i j => ∑ k, f i k * g k j := by
  funext y; idx_vars y; pointwise [up_ix]; simp only [← EReal.coe_mul, coe_sum, EReal.coe_zero, zero_add]

/-! Row sums, columns and parts. -/

theorem rsum512 (f : Fin 512 → Fin 256 → ℝ) (axes : List (Fin 2)) (h : S512x256.Reduces axes S512) (e : axes = [1]) : FloatOps.reduceAdd (F := Ideal) axes h (up (φ := .f32) f) = upv (φ := .f32) fun i => ∑ j, f i j := by
  subst e
  funext y; idx_vars y; pointwise [up_ix, upv_ix]; simp only [coe_sum]

theorem scol512 (f : Fin 512 → ℝ) (h) : shapeCast S512x1 (upv (φ := .f32) f) h = up (φ := .f32) fun i _ => f i := by
  funext y; idx_vars y; pointwise [up_ix, upv_ix]

theorem bcol512 (f : Fin 512 → Fin 1 → ℝ) (h) : broadcastTo S512x256 (up (φ := .f32) f) h = up (φ := .f32) fun i _ => f i 0 := by
  funext y; idx_vars y; pointwise [up_ix]

theorem rsum256 (f : Fin 256 → Fin 256 → ℝ) (axes : List (Fin 2)) (h : S256x256.Reduces axes S256) (e : axes = [1]) : FloatOps.reduceAdd (F := Ideal) axes h (up (φ := .f32) f) = upv (φ := .f32) fun i => ∑ j, f i j := by
  subst e
  funext y; idx_vars y; pointwise [up_ix, upv_ix]; simp only [coe_sum]

theorem scol256 (f : Fin 256 → ℝ) (h) : shapeCast S256x1 (upv (φ := .f32) f) h = up (φ := .f32) fun i _ => f i := by
  funext y; idx_vars y; pointwise [up_ix, upv_ix]

theorem bcol256 (f : Fin 256 → Fin 1 → ℝ) (h) : broadcastTo S256x256 (up (φ := .f32) f) h = up (φ := .f32) fun i _ => f i 0 := by
  funext y; idx_vars y; pointwise [up_ix]

theorem part_t0 (f : Fin 128 → Fin 512 → ℝ) (h) : extractStridedSlice S64x512 ![0, 0] (up (φ := .bf16) f) h = up fun i j => f ⟨i.val, by omega⟩ j := by
  funext y; idx_vars y; pointwise [up_ix]

theorem part_t1 (f : Fin 128 → Fin 512 → ℝ) (h) : extractStridedSlice S64x512 ![64, 0] (up (φ := .bf16) f) h = up fun i j => f ⟨64 + i.val, by omega⟩ j := by
  funext y; idx_vars y; pointwise [up_ix]

theorem part_u0 (f : Fin 128 → Fin 512 → ℝ) (h) : extractStridedSlice S64x256 ![0, 256] (up (φ := .bf16) f) h = up fun i j => f ⟨i.val, by omega⟩ ⟨256 + j.val, by omega⟩ := by
  funext y; idx_vars y; pointwise [up_ix]

theorem part_u1 (f : Fin 128 → Fin 512 → ℝ) (h) : extractStridedSlice S64x256 ![64, 256] (up (φ := .bf16) f) h = up fun i j => f ⟨64 + i.val, by omega⟩ ⟨256 + j.val, by omega⟩ := by
  funext y; idx_vars y; pointwise [up_ix]

theorem part_h0 (f : Fin 512 → Fin 128 → ℝ) (h) : extractStridedSlice S512x64 ![0, 0] (up (φ := .bf16) f) h = up fun i j => f i ⟨j.val, by omega⟩ := by
  funext y; idx_vars y; pointwise [up_ix]

theorem part_h1 (f : Fin 512 → Fin 128 → ℝ) (h) : extractStridedSlice S512x64 ![0, 64] (up (φ := .bf16) f) h = up fun i j => f i ⟨64 + j.val, by omega⟩ := by
  funext y; idx_vars y; pointwise [up_ix]

theorem part_c (f : Fin 512 → Fin 1 → ℝ) (h) : extractStridedSlice S256x1 ![256, 0] (up (φ := .f32) f) h = up fun i j => f ⟨256 + i.val, by omega⟩ j := by
  funext y; idx_vars y; pointwise [up_ix]; all_goals exact congrArg (fun b => ((f _ b : ℝ) : EReal)) (Subsingleton.elim _ _)

theorem part_d (f : Fin 512 → Fin 64 → ℝ) (h) : extractStridedSlice S256x64 ![256, 0] (up (φ := .f32) f) h = up fun i j => f ⟨256 + i.val, by omega⟩ j := by
  funext y; idx_vars y; pointwise [up_ix]

theorem part_e (f : Fin 512 → Fin 64 → ℝ) (h) : extractStridedSlice S256x64 ![256, 0] (up (φ := .bf16) f) h = up fun i j => f ⟨256 + i.val, by omega⟩ j := by
  funext y; idx_vars y; pointwise [up_ix]

theorem part_f (f : Fin 512 → Fin 64 → ℝ) (h) : extractStridedSlice S256x64 ![0, 0] (up (φ := .f32) f) h = up fun i j => f ⟨i.val, by omega⟩ j := by
  funext y; idx_vars y; pointwise [up_ix]

theorem part_bits (P : Fin 512 → Fin 256 → Bool) (h) : extractStridedSlice S256x256 ![256, 0] (bits P) h = bits fun i j => P ⟨256 + i.val, by omega⟩ j := by
  funext y; idx_vars y; pointwise [bits_ix]

theorem tr_q (f : Fin 512 → Fin 128 → ℝ) (h) : transpose S128x512 [1, 0] (up (φ := .f32) f) h = up (φ := .f32) fun i j => f j i := by
  funext y; idx_vars y; pointwise [up_ix]

theorem tr_o (f : Fin 128 → Fin 256 → ℝ) (h) : transpose S256x128 [1, 0] (up (φ := .f32) f) h = up (φ := .f32) fun i j => f j i := by
  funext y; idx_vars y; pointwise [up_ix]

theorem cast_in (f : Fin 1 → Fin 64 → Fin 256 → ℝ) (h) : shapeCast S64x256 (ups (φ := .f32) f) h = up (φ := .f32) fun i j => f 0 i j := by
  funext y; idx_vars y; pointwise [up_ix, ups_ix]

theorem cast_out (f : Fin 64 → Fin 256 → ℝ) (h) : shapeCast S1x64x256 (up (φ := .f32) f) h = ups (φ := .f32) fun _ i j => f i j := by
  funext y; idx_vars y; pointwise [up_ix, ups_ix]

theorem cast_in8 (f : Fin 1 → Fin 128 → Fin 256 → ℝ) (h) : shapeCast S128x256 (ups (φ := .f32) f) h = up (φ := .f32) fun i j => f 0 i j := by
  funext y; idx_vars y; pointwise [up_ix, ups_ix]

theorem cat_rows (f g : Fin 256 → Fin 64 → ℝ) (h) :
    concatenate S512x64 0 [⟨S256x64, up (φ := .f32) f⟩, ⟨S256x64, up (φ := .f32) g⟩] h = up (φ := .f32) fun i j => if h : i.val < 256 then f ⟨i.val, h⟩ j else g ⟨i.val - 256, by omega⟩ j := by
  funext y; idx_vars y; pointwise [up_ix]; split <;> rfl

theorem up_eighth {n m : ℕ} : broadcast (⟨2, ![n, m]⟩ : Shape) (Scalar.ofBits (F := Ideal) .f32 0x3E000000#32) = up (φ := .f32) fun _ _ => 1 / 8 := by
  funext y
  show Ideal.ofBits .f32 0x3E000000#32 = (((1 / 8 : ℝ)) : EReal)
  simp [Ideal.ofBits, Ideal.ieee]
  rw [← EReal.coe_mul]; norm_num

theorem tile_up (f : Fin 2048 → Fin 128 → ℝ) (r c : ℕ) : tile (F := Ideal) (up (φ := .bf16) f) r c = up (φ := .bf16) fun i j => f (Fin.ofNat 2048 (r + i.val)) (Fin.ofNat 128 (c + j.val)) := rfl

theorem slab_up (f : Fin 8 → Fin 128 → Fin 256 → ℝ) (j r : ℕ) : slab (F := Ideal) (ups (φ := .f32) f) j r = ups (φ := .f32) fun a b c => f (Fin.ofNat 8 (j + a.val)) (Fin.ofNat 128 (r + b.val)) (Fin.ofNat 256 (0 + c.val)) := rfl

/-- The stores of a slab's half. -/
theorem setSlab_up (f : Fin 8 → Fin 128 → Fin 256 → ℝ) (g : Fin 1 → Fin 64 → Fin 256 → ℝ) (j r : ℕ) :
    setSlab (F := Ideal) (ups (φ := .f32) f) j r (ups (φ := .f32) g)
      = ups (φ := .f32) fun a b c => if a.val = j ∧ r ≤ b.val ∧ b.val < r + 64 then g 0 (Fin.ofNat 64 (b.val - r)) c else f a b c := by
  funext y
  have y2 : (y 2).val < 256 := (y 2).isLt
  unfold setSlab VecWindow.put
  by_cases h : (y 0).val = j ∧ r ≤ (y 1).val ∧ (y 1).val < r + 64
  · rw [dif_pos (fun a => by
      match a with
      | ⟨0, _⟩ => exact ⟨by show j ≤ (y 0).val; omega, by show (y 0).val < j + 1; omega⟩
      | ⟨1, _⟩ => exact ⟨h.2.1, h.2.2⟩
      | ⟨2, _⟩ => exact ⟨Nat.zero_le _, by show (y 2).val < 0 + 256; omega⟩)]
    show _ = (((if _ then _ else _ : ℝ)) : EReal)
    rw [if_pos h]
    unfold ups
    congr 1
    have e1 : (y 1).val - r < 64 := by omega
    refine congr (congr (congrArg g (Subsingleton.elim _ _)) (Fin.ext ?_)) (Fin.ext ?_)
    · show (y 1).val - r = ((y 1).val - r) % 64
      omega
    · rfl
  · rw [dif_neg (fun h' => h ⟨by have h0 : j ≤ (y 0).val ∧ (y 0).val < j + 1 := h' 0; omega, h' 1⟩)]
    show _ = (((if _ then _ else _ : ℝ)) : EReal)
    rw [if_neg h]
    rfl

end Cert.KernelIdeal.Gen
-- ==== Proof.Rows.lean ====
/- Stick-breaking attention's gradients over the real numbers: the sums of one query row, and what one block of keys adds to them. -/
module

public import Mathlib.Analysis.SpecialFunctions.Log.Basic
public import Mathlib.Algebra.BigOperators.Intervals
public import Mathlib.Algebra.BigOperators.Fin

@[expose] public section

noncomputable section

namespace Cert.Rows

/-! One block of 256 keys, for `n` query rows: `q` scaled queries, `k` keys, `P` which pairs count. -/

section block
variable {n : ℕ} (P : Fin n → Fin 256 → Bool) (q o : Fin n → Fin 64 → ℝ) (k v : Fin 256 → Fin 64 → ℝ) (lc gc rt : Fin n → Fin 1 → ℝ)
  (dq : Fin n → Fin 64 → ℝ) (u w : Fin 256 → Fin 256 → ℝ)

/-- The scores. -/
def bz (i : Fin n) (j : Fin 256) : ℝ := ∑ d, q i d * k j d
/-- The logarithm of the score's sigmoid. -/
def blb (i : Fin n) (j : Fin 256) : ℝ := min (bz q k i j) 0 - Real.log (1 + Real.exp (0 - |bz q k i j|))
/-- The logarithm of what a key leaves over. -/
def blk (i : Fin n) (j : Fin 256) : ℝ := if P i j then blb q k i j - bz q k i j else 0
/-- The kept sum after the block. -/
def blc (i : Fin n) (x : Fin 1) : ℝ := lc i x + ∑ j, blk P q k i j
/-- The attention weights. -/
def ba (i : Fin n) (j : Fin 256) : ℝ :=
  if P i j then Real.exp (blb q k i j + (rt i 0 - blc P q k lc i 0 + ∑ l, blk P q k i l * u l j)) else 0
/-- The gradient of the weights' logarithms. -/
def bde (i : Fin n) (j : Fin 256) : ℝ := ba P q k lc rt u i j * ∑ d, o i d * v j d
/-- The gradient of the scores. -/
def bdz (i : Fin n) (j : Fin 256) : ℝ :=
  if P i j then bde P q o k v lc rt u i j - Real.exp (blb q k i j) * (bde P q o k v lc rt u i j + (gc i 0 + ∑ l, bde P q o k v lc rt u i l * w l j)) else 0
/-- The gradient sum after the block. -/
def bgc (i : Fin n) (x : Fin 1) : ℝ := gc i x + ∑ j, bde P q o k v lc rt u i j
/-- The queries' gradient after the block. -/
def bdq (i : Fin n) (d : Fin 64) : ℝ := dq i d + ∑ j, bdz P q o k v lc gc rt u w i j * k j d
end block

/-- Every pair counts. -/
abbrev all {n : ℕ} : Fin n → Fin 256 → Bool := fun _ _ => true

/-! Whole rows: `t` a query row, `s` a key, of one head. -/

section rows
variable (Q K V O : ℕ → Fin 64 → ℝ)

def z (t s : ℕ) : ℝ := ∑ d, Q t d * K s d
def lb (t s : ℕ) : ℝ := min (z Q K t s) 0 - Real.log (1 + Real.exp (0 - |z Q K t s|))
def lk (t s : ℕ) : ℝ := if s < t then lb Q K t s - z Q K t s else 0
/-- The sum of the first `n` keys' logarithms. -/
def lc (t n : ℕ) : ℝ := ∑ s ∈ Finset.range n, lk Q K t s
def a (t s : ℕ) : ℝ := if s < t then Real.exp (lb Q K t s + (lc Q K t 2048 - lc Q K t (s + 1))) else 0
def de (t s : ℕ) : ℝ := a Q K t s * ∑ d, O t d * V s d
def gc (t n : ℕ) : ℝ := ∑ s ∈ Finset.range n, de Q K V O t s
def dz (t s : ℕ) : ℝ := if s < t then de Q K V O t s - Real.exp (lb Q K t s) * (de Q K V O t s + gc Q K V O t s) else 0
def dq (t n : ℕ) (d : Fin 64) : ℝ := ∑ s ∈ Finset.range n, dz Q K V O t s * K s d
/-- The keys' gradient from the first `n` query rows. -/
def dk (n s : ℕ) (d : Fin 64) : ℝ := ∑ t ∈ Finset.range n, Q t d * dz Q K V O t s
/-- The values' gradient from the first `n` query rows. -/
def dv (n s : ℕ) (d : Fin 64) : ℝ := ∑ t ∈ Finset.range n, O t d * a Q K t s

/-- A sum over a block is the difference of two sums from the first key on. -/
theorem sum_block (f : ℕ → ℝ) (m n : ℕ) : ∑ s ∈ Finset.range (m + n), f s = ∑ s ∈ Finset.range m, f s + ∑ j : Fin n, f (m + j.val) := by
  rw [Finset.sum_range_add, Fin.sum_univ_eq_sum_range (fun j => f (m + j))]

theorem sum_before (f : ℕ → ℝ) (m : ℕ) (j : Fin 256) :
    ∑ l : Fin 256, f (m + l.val) * (if l.val < j.val then 1 else 0) = ∑ s ∈ Finset.range (m + j.val), f s - ∑ s ∈ Finset.range m, f s := by
  rw [Finset.sum_range_add]
  simp only [mul_ite, mul_one, mul_zero]
  rw [Fin.sum_univ_eq_sum_range (fun l => if l < j.val then f (m + l) else 0), ← Finset.sum_filter]
  have : (Finset.range 256).filter (· < j.val) = Finset.range j.val := by
    ext l; have := j.isLt; simp only [Finset.mem_filter, Finset.mem_range]; omega
  rw [this]; ring

theorem sum_after (f : ℕ → ℝ) (m : ℕ) (j : Fin 256) :
    ∑ l : Fin 256, f (m + l.val) * (if j.val < l.val then 1 else 0) = ∑ s ∈ Finset.range (m + 256), f s - ∑ s ∈ Finset.range (m + j.val + 1), f s := by
  have h1 := sum_before f m j
  have h2 := sum_block f m 256
  have h3 : ∑ l : Fin 256, f (m + l.val) = ∑ l : Fin 256, f (m + l.val) * (if l.val < j.val then 1 else 0) + (f (m + j.val) + ∑ l : Fin 256, f (m + l.val) * (if j.val < l.val then 1 else 0)) := by
    have h4 : f (m + j.val) = ∑ l : Fin 256, if l = j then f (m + l.val) else 0 := by simp
    rw [h4, ← Finset.sum_add_distrib, ← Finset.sum_add_distrib]
    refine Finset.sum_congr rfl fun l _ => ?_
    rcases lt_trichotomy l.val j.val with h | h | h
    · have : l ≠ j := fun e => by rw [e] at h; omega
      simp [h, this, Nat.not_lt.2 h.le]
    · have : l = j := Fin.ext h
      simp [this]
    · have : l ≠ j := fun e => by rw [e] at h; omega
      simp [h, this, Nat.not_lt.2 h.le]
  rw [Finset.sum_range_succ f (m + j.val)]
  linarith

variable {n : ℕ} (t : Fin n → ℕ) (j0 : ℕ) (P : Fin n → Fin 256 → Bool) (hP : ∀ i j, P i j = decide (j0 + j.val < t i))
  (u w : Fin 256 → Fin 256 → ℝ) (hu : ∀ l j, u l j = if j.val < l.val then 1 else 0) (hw : ∀ l j, w l j = if l.val < j.val then 1 else 0)
  (q o : Fin n → Fin 64 → ℝ) (k v : Fin 256 → Fin 64 → ℝ) (l0 g0 rt : Fin n → Fin 1 → ℝ) (d0 : Fin n → Fin 64 → ℝ)
  (hq : ∀ i d, q i d = Q (t i) d) (ho : ∀ i d, o i d = O (t i) d) (hk : ∀ j d, k j d = K (j0 + j.val) d) (hv : ∀ j d, v j d = V (j0 + j.val) d)
  (hl : ∀ i x, l0 i x = lc Q K (t i) j0) (hg : ∀ i x, g0 i x = gc Q K V O (t i) j0) (hr : ∀ i x, rt i x = lc Q K (t i) 2048)
  (hd : ∀ i d, d0 i d = dq Q K V O (t i) j0 d)

include hq hk

theorem bz_eq (i : Fin n) (j : Fin 256) : bz q k i j = z Q K (t i) (j0 + j.val) := by
  unfold bz z
  simp only [hq, hk]

theorem blb_eq (i : Fin n) (j : Fin 256) : blb q k i j = lb Q K (t i) (j0 + j.val) := by
  unfold blb lb
  rw [bz_eq Q K t j0 q k hq hk]

include hP

theorem blk_eq (i : Fin n) (j : Fin 256) : blk P q k i j = lk Q K (t i) (j0 + j.val) := by
  unfold blk lk
  simp only [hP, decide_eq_true_eq, blb_eq Q K t j0 q k hq hk, bz_eq Q K t j0 q k hq hk]

include hl

theorem blc_eq (i : Fin n) (x : Fin 1) : blc P q k l0 i x = lc Q K (t i) (j0 + 256) := by
  unfold blc
  simp only [blk_eq Q K t j0 P hP q k hq hk, hl]
  exact (sum_block _ _ _).symm

include hr hu

theorem ba_eq (i : Fin n) (j : Fin 256) : ba P q k l0 rt u i j = a Q K (t i) (j0 + j.val) := by
  unfold ba a
  simp only [blk_eq Q K t j0 P hP q k hq hk, blc_eq Q K t j0 P hP q k l0 hq hk hl, hP, decide_eq_true_eq, hu, hr, blb_eq Q K t j0 q k hq hk]
  rw [sum_after (fun s => lk Q K (t i) s)]
  refine if_congr Iff.rfl ?_ rfl
  congr 1
  unfold lc
  ring

include ho hv

theorem bde_eq (i : Fin n) (j : Fin 256) : bde P q o k v l0 rt u i j = de Q K V O (t i) (j0 + j.val) := by
  unfold bde de
  rw [ba_eq Q K t j0 P hP u hu q k l0 rt hq hk hl hr]
  simp only [ho, hv]

include hg

theorem bgc_eq (i : Fin n) (x : Fin 1) : bgc P q o k v l0 g0 rt u i x = gc Q K V O (t i) (j0 + 256) := by
  unfold bgc
  simp only [bde_eq Q K V O t j0 P hP u hu q o k v l0 rt hq ho hk hv hl hr, hg]
  exact (sum_block _ _ _).symm

include hw

theorem bdz_eq (i : Fin n) (j : Fin 256) : bdz P q o k v l0 g0 rt u w i j = dz Q K V O (t i) (j0 + j.val) := by
  unfold bdz dz
  simp only [bde_eq Q K V O t j0 P hP u hu q o k v l0 rt hq ho hk hv hl hr, hw, hP, hg, decide_eq_true_eq, blb_eq Q K t j0 q k hq hk]
  rw [sum_before (fun s => de Q K V O (t i) s)]
  refine if_congr Iff.rfl ?_ rfl
  unfold gc
  congr 3
  ring

include hd

theorem bdq_eq (i : Fin n) (d : Fin 64) : bdq P q o k v l0 g0 rt d0 u w i d = dq Q K V O (t i) (j0 + 256) d := by
  unfold bdq
  simp only [bdz_eq Q K V O t j0 P hP u w hu hw q o k v l0 g0 rt hq ho hk hv hl hg hr, hd, hk]
  exact (sum_block (fun s => dz Q K V O (t i) s * K s d) j0 256).symm

end rows

end Cert.Rows

end
-- ==== Proof.TripVal.lean ====
/- One visit of a key block by the first loop, on arrays of real numbers. -/
module

public import proofs.«01_k».proof.Proof.Ops
public import proofs.«01_k».proof.Proof.Rows

@[expose] public section

set_option maxRecDepth 16384
set_option maxHeartbeats 4000000

noncomputable section

namespace Cert.KernelIdeal.Gen

open Idealize.ShloMosaic Idealize.ShloMosaic.TcCoe Idealize.SL.Sem Cert.Rows

section head0
variable (u w : Fin 256 → Fin 256 → ℝ) (qt ot : Fin 128 → Fin 512 → ℝ) (q o : Fin 512 → Fin 64 → ℝ) (rt lc gc : Fin 512 → Fin 1 → ℝ) (dq : Fin 512 → Fin 64 → ℝ)
  (k v : Fin 256 → Fin 64 → ℝ)

theorem pay6_up : k0_pay6 (F := Ideal) (up q) (up (φ := .bf16) k) = up (bz q k) := by
  simp only [k0_pay6, up_const, mm0]
  rfl
theorem pay7_up : k0_pay7 (F := Ideal) (up q) (up (φ := .bf16) k) = up (blb q k) := by
  simp only [k0_pay7, pay6_up, up_zero, up_one, up_add, up_sub, up_exp, up_abs, up_min, up_log]
  rfl
theorem pay8_up : k0_pay8 (F := Ideal) (up q) (up (φ := .bf16) k) = up (blk all q k) := by
  simp only [k0_pay8, pay7_up, pay6_up, up_sub]
  rfl
theorem pay9_up : k0_pay9 (F := Ideal) (up q) (up lc) (up (φ := .bf16) k) = up (blc all q k lc) := by
  simp only [k0_pay9, pay8_up, up_add, multiReductionOpen, rsum512, scol512]
  rfl
theorem pay10_up : k0_pay10 (F := Ideal) (up u) (up q) (up rt) (up lc) (up (φ := .bf16) k) = up (ba all q k lc rt u) := by
  simp only [k0_pay10, pay9_up, pay8_up, pay7_up, up_truncf, up_const, mm1, up_add, up_sub, up_exp, bcol512]
  rfl
theorem pay11_up : k0_pay11 (F := Ideal) (up u) (up q) (up o) (up rt) (up lc) (up (φ := .bf16) k) (up (φ := .bf16) v) = up (bde all q o k v lc rt u) := by
  simp only [k0_pay11, pay10_up, up_const, mm0, up_mul]
  rfl
theorem pay12_up : k0_pay12 (F := Ideal) (up u) (up w) (up q) (up o) (up rt) (up lc) (up gc) (up (φ := .bf16) k) (up (φ := .bf16) v) = up (bdz all q o k v lc gc rt u w) := by
  simp only [k0_pay12, pay11_up, pay7_up, up_truncf, up_const, mm1, up_add, up_sub, up_exp, up_mul, bcol512]
  rfl
theorem pay13_up : k0_pay13 (F := Ideal) (up u) (up w) (up qt) (up q) (up o) (up rt) (up lc) (up gc) (up (φ := .bf16) k) (up (φ := .bf16) v)
    = up fun d j => ∑ i, qt ⟨d.val, by omega⟩ i * bdz all q o k v lc gc rt u w i j := by
  simp only [k0_pay13, pay12_up, up_const, mm3, part_t0]
theorem pay17_up (e : Fin 512 → Fin 256 → ℝ) : k0_pay17 (F := Ideal) (up gc) (up e) = up fun i x => gc i x + ∑ j, e i j := by
  simp only [k0_pay17, up_add, multiReductionOpen, rsum512, scol512]
theorem pay18_up (e : Fin 512 → Fin 256 → ℝ) : k0_pay18 (F := Ideal) (up dq) (up (φ := .bf16) k) (up e) = up fun i d => dq i d + ∑ j, e i j * k j d := by
  simp only [k0_pay18, up_add, up_const, mm2]
theorem pay15_up (e : Fin 64 → Fin 256 → ℝ) (f : Fin 1 → Fin 64 → Fin 256 → ℝ) : k0_pay15 (F := Ideal) (up e) (k0_pay14 (ups (φ := .f32) f)) = ups (φ := .f32) fun _ d j => f 0 d j + e d j := by
  simp only [k0_pay15, k0_pay14, cast_in, cast_out, up_add]
theorem pay16_up (e : Fin 512 → Fin 256 → ℝ) (f : Fin 1 → Fin 64 → Fin 256 → ℝ) :
    k0_pay16 (F := Ideal) (up ot) (up e) (ups (φ := .f32) f) = ups (φ := .f32) fun _ d j => f 0 d j + ∑ i, ot ⟨d.val, by omega⟩ i * e i j := by
  simp only [k0_pay16, cast_in, cast_out, up_add, up_const, up_truncf, mm3, part_t0]

theorem pay19_up : k0_pay19 (F := Ideal) (up q) (up (φ := .bf16) k) = up (bz q k) := by
  simp only [k0_pay19, up_const, mm0]
  rfl
theorem pay20_up : k0_pay20 (F := Ideal) (up q) (up (φ := .bf16) k) = up (blb q k) := by
  simp only [k0_pay20, pay19_up, up_zero, up_one, up_add, up_sub, up_exp, up_abs, up_min, up_log]
  rfl
theorem pay21_up : k0_pay21 (F := Ideal) (up q) (up (φ := .bf16) k) = up (blk all q k) := by
  simp only [k0_pay21, pay20_up, pay19_up, up_sub]
  rfl
theorem pay22_up : k0_pay22 (F := Ideal) (up q) (up (φ := .bf16) k) = upv fun i => ∑ j, blk all q k i j := by
  simp only [k0_pay22, pay21_up, multiReductionOpen, rsum512]
theorem pay23_up : k0_pay23 (F := Ideal) (up lc) (upv fun i => ∑ j, blk all q k i j) = up (blc all q k lc) := by
  simp only [k0_pay23, up_add, scol512]
  rfl
theorem pay24_up : k0_pay24 (F := Ideal) (up u) (up rt) (up lc) (up (blb q k)) (up (blk all q k)) (upv fun i => ∑ j, blk all q k i j) = up (ba all q k lc rt u) := by
  simp only [k0_pay24, pay23_up, up_truncf, up_const, mm1, up_add, up_sub, up_exp, bcol512]
  rfl
theorem pay25_up : k0_pay25 (F := Ideal) (up u) (up o) (up rt) (up lc) (up (φ := .bf16) v) (up (blb q k)) (up (blk all q k)) (upv fun i => ∑ j, blk all q k i j)
    = up (bde all q o k v lc rt u) := by
  simp only [k0_pay25, pay24_up, up_const, mm0, up_mul]
  rfl
theorem pay26_up : k0_pay26 (F := Ideal) (up u) (up w) (up o) (up rt) (up lc) (up gc) (up (φ := .bf16) v) (up (blb q k)) (up (blk all q k)) (upv fun i => ∑ j, blk all q k i j)
    = up (bdz all q o k v lc gc rt u w) := by
  simp only [k0_pay26, pay25_up, up_truncf, up_const, mm1, up_add, up_sub, up_exp, up_mul, bcol512]
  rfl
theorem pay27_up (f : Fin 1 → Fin 64 → Fin 256 → ℝ) :
    k0_pay27 (F := Ideal) (up u) (up w) (up qt) (up o) (up rt) (up lc) (up gc) (up (φ := .bf16) v) (up (blb q k)) (up (blk all q k)) (upv fun i => ∑ j, blk all q k i j) (ups (φ := .f32) f)
      = ups (φ := .f32) fun _ d j => f 0 d j + ∑ i, qt ⟨64 + d.val, by omega⟩ i * bdz all q o k v lc gc rt u w i j := by
  simp only [k0_pay27, pay26_up, up_const, mm3, part_t1, cast_in, cast_out, up_add]
theorem pay28_up (f : Fin 1 → Fin 64 → Fin 256 → ℝ) :
    k0_pay28 (F := Ideal) (up u) (up ot) (up rt) (up lc) (up (blb q k)) (up (blk all q k)) (upv fun i => ∑ j, blk all q k i j) (ups (φ := .f32) f)
      = ups (φ := .f32) fun _ d j => f 0 d j + ∑ i, ot ⟨64 + d.val, by omega⟩ i * ba all q k lc rt u i j := by
  simp only [k0_pay28, pay24_up, up_const, up_truncf, mm3, part_t1, cast_in, cast_out, up_add]
theorem pay29_up : k0_pay29 (F := Ideal) (up u) (up o) (up rt) (up lc) (up gc) (up (φ := .bf16) v) (up (blb q k)) (up (blk all q k)) (upv fun i => ∑ j, blk all q k i j)
    = up (bgc all q o k v lc gc rt u) := by
  simp only [k0_pay29, pay25_up, up_add, multiReductionOpen, rsum512, scol512]
  rfl
theorem pay84_up (e : Fin 512 → Fin 256 → ℝ) : k0_pay84 (F := Ideal) (up dq) (up (φ := .bf16) k) (up e) = up fun i d => dq i d + ∑ j, e i j * k j d := by
  simp only [k0_pay84, up_add, up_const, mm2]
end head0

/-- The two halves of a slab, each with something added. -/
theorem put_pair (D : Fin 8 → Fin 128 → Fin 256 → ℝ) (j : ℕ) (hj : j < 8) (g0 g1 : Fin 64 → Fin 256 → ℝ) :
    setSlab (F := Ideal) (setSlab (F := Ideal) (ups (φ := .f32) D) j 0 (ups (φ := .f32) fun _ d c => D (Fin.ofNat 8 (j + (0 : Fin 1).val)) (Fin.ofNat 128 (0 + d.val)) (Fin.ofNat 256 (0 + c.val)) + g0 d c)) j 64
        (ups (φ := .f32) fun _ d c => D (Fin.ofNat 8 (j + (0 : Fin 1).val)) (Fin.ofNat 128 (64 + d.val)) (Fin.ofNat 256 (0 + c.val)) + g1 d c)
      = ups (φ := .f32) fun a b c => if a.val = j then D a b c + (if b.val < 64 then g0 (Fin.ofNat 64 b.val) c else g1 (Fin.ofNat 64 (b.val - 64)) c) else D a b c := by
  rw [setSlab_up, setSlab_up]
  refine congrArg ups (funext fun a => funext fun b => funext fun c => ?_)
  have hb := b.isLt
  have hc := c.isLt
  by_cases ha : a.val = j
  · have ea : (Fin.ofNat 8 (j + (0 : Fin 1).val)) = a := Fin.ext (by show (j + 0) % 8 = a.val; omega)
    have ec : Fin.ofNat 256 (0 + c.val) = c := Fin.ext (by show (0 + c.val) % 256 = c.val; omega)
    by_cases h : b.val < 64
    · have eb : Fin.ofNat 128 (0 + (Fin.ofNat 64 (b.val - 0)).val) = b := Fin.ext (by show (0 + (b.val - 0) % 64) % 128 = b.val; omega)
      rw [if_neg (by omega), if_pos ⟨ha, Nat.zero_le _, by omega⟩, if_pos ha, if_pos h, ea, eb, ec]; rfl
    · have eb : Fin.ofNat 128 (64 + (Fin.ofNat 64 (b.val - 64)).val) = b := Fin.ext (by show (64 + (b.val - 64) % 64) % 128 = b.val; omega)
      rw [if_pos ⟨ha, by omega, by omega⟩, if_pos ha, if_neg h, ea, eb, ec]
  · rw [if_neg (fun h => ha h.1), if_neg (fun h => ha h.1), if_neg ha]

theorem sum_pair (qt : Fin 128 → Fin 512 → ℝ) (x y : Fin 512 → Fin 256 → ℝ) (b : Fin 128) (c : Fin 256) :
    (if b.val < 64 then (fun (d : Fin 64) (c : Fin 256) => ∑ i, qt ⟨d.val, by omega⟩ i * x i c) (Fin.ofNat 64 b.val) c
      else (fun (d : Fin 64) (c : Fin 256) => ∑ i, qt ⟨64 + d.val, by omega⟩ i * y i c) (Fin.ofNat 64 (b.val - 64)) c)
      = ∑ i, qt b i * (if b.val < 64 then x i c else y i c) := by
  have hb := b.isLt
  by_cases h : b.val < 64
  · simp only [if_pos h]
    have : (⟨(Fin.ofNat 64 b.val).val, by omega⟩ : Fin 128) = b := Fin.ext (by show b.val % 64 = b.val; omega)
    rw [this]
  · simp only [if_neg h]
    have : (⟨64 + (Fin.ofNat 64 (b.val - 64)).val, by omega⟩ : Fin 128) = b := Fin.ext (by show 64 + (b.val - 64) % 64 = b.val; omega)
    rw [this]

/-- A visit of key block `j` on real numbers: what each head carries on, and the block's slab of either accumulator with the visit's products added. -/
theorem trip_up (u w : Fin 256 → Fin 256 → ℝ) (qt ot : Fin 128 → Fin 512 → ℝ) (q0 q1 o0 o1 : Fin 512 → Fin 64 → ℝ) (rt0 rt1 l0 l1 g0 g1 : Fin 512 → Fin 1 → ℝ)
    (d0 d1 : Fin 512 → Fin 64 → ℝ) (K V : Fin 2048 → Fin 128 → ℝ) (j : ℕ) (hj : j < 8) (D E : Fin 8 → Fin 128 → Fin 256 → ℝ)
    (k0 k1 v0 v1 : Fin 256 → Fin 64 → ℝ)
    (hk0 : k0 = fun i d => K (Fin.ofNat 2048 (256 * j + i.val)) (Fin.ofNat 128 (0 + d.val))) (hk1 : k1 = fun i d => K (Fin.ofNat 2048 (256 * j + i.val)) (Fin.ofNat 128 (64 + d.val)))
    (hv0 : v0 = fun i d => V (Fin.ofNat 2048 (256 * j + i.val)) (Fin.ofNat 128 (0 + d.val))) (hv1 : v1 = fun i d => V (Fin.ofNat 2048 (256 * j + i.val)) (Fin.ofNat 128 (64 + d.val))) :
    tripNext (F := Ideal) (up u) (up w) (up qt) (up ot) (up q0) (up q1) (up o0) (up o1) (up rt0) (up rt1) (up (φ := .bf16) K) (up (φ := .bf16) V) j
        (up l0, up g0, up d0, up l1, up g1, up d1) (ups (φ := .f32) D) (ups (φ := .f32) E)
      = ((up (blc all q0 k0 l0), up (bgc all q0 o0 k0 v0 l0 g0 rt0 u), up (bdq all q0 o0 k0 v0 l0 g0 rt0 d0 u w),
          up (blc all q1 k1 l1), up (bgc all q1 o1 k1 v1 l1 g1 rt1 u), up (bdq all q1 o1 k1 v1 l1 g1 rt1 d1 u w)),
        ups (φ := .f32) (fun a b c => if a.val = j then D a b c + ∑ i, qt b i * (if b.val < 64 then bdz all q0 o0 k0 v0 l0 g0 rt0 u w i c else bdz all q1 o1 k1 v1 l1 g1 rt1 u w i c) else D a b c),
        ups (φ := .f32) (fun a b c => if a.val = j then E a b c + ∑ i, ot b i * (if b.val < 64 then ba all q0 k0 l0 rt0 u i c else ba all q1 k1 l1 rt1 u i c) else E a b c)) := by
  unfold tripNext
  simp only [slab_row, tile_up, ← hk0, ← hk1, ← hv0, ← hv1, pay9_up, pay10_up, pay11_up, pay12_up, pay13_up, pay17_up, pay18_up, slab_up, pay15_up, pay16_up,
    pay20_up, pay21_up, pay22_up, pay23_up, pay26_up, pay27_up, pay28_up, pay29_up, pay84_up]
  refine Prod.ext rfl (Prod.ext ?_ ?_)
  · refine (put_pair D j hj (fun d c => ∑ i, qt ⟨d.val, by omega⟩ i * bdz all q0 o0 k0 v0 l0 g0 rt0 u w i c) (fun d c => ∑ i, qt ⟨64 + d.val, by omega⟩ i * bdz all q1 o1 k1 v1 l1 g1 rt1 u w i c)).trans ?_
    dsimp only
    refine congrArg ups (funext fun a => funext fun b => funext fun c => ?_)
    rw [← sum_pair qt]
  · refine (put_pair E j hj (fun d c => ∑ i, ot ⟨d.val, by omega⟩ i * ba all q0 k0 l0 rt0 u i c) (fun d c => ∑ i, ot ⟨64 + d.val, by omega⟩ i * ba all q1 k1 l1 rt1 u i c)).trans ?_
    dsimp only
    refine congrArg ups (funext fun a => funext fun b => funext fun c => ?_)
    rw [← sum_pair ot]

end Cert.KernelIdeal.Gen
-- ==== Proof.DiagVal.lean ====
/- The two diagonal blocks of a grid point on arrays of real numbers. -/
module

public import proofs.«01_k».proof.Proof.TripVal

@[expose] public section

set_option maxRecDepth 16384
set_option maxHeartbeats 4000000

noncomputable section

namespace Cert.KernelIdeal.Gen

open Idealize.ShloMosaic Idealize.ShloMosaic.TcCoe Idealize.SL.Sem Cert.Rows

section first
variable (P : Fin 512 → Fin 256 → Bool) (u w : Fin 256 → Fin 256 → ℝ) (qt ot : Fin 128 → Fin 512 → ℝ) (q o : Fin 512 → Fin 64 → ℝ) (rt lc gc : Fin 512 → Fin 1 → ℝ)
  (dq : Fin 512 → Fin 64 → ℝ) (k v : Fin 256 → Fin 64 → ℝ) (e : Fin 512 → Fin 256 → ℝ) (f : Fin 1 → Fin 64 → Fin 256 → ℝ)

theorem pay86_up : k0_pay86 (F := Ideal) (up q) (up (φ := .bf16) k) = up (bz q k) := by
  simp only [k0_pay86, up_const, mm0]
  rfl
theorem pay87_up : k0_pay87 (F := Ideal) (up q) (up (φ := .bf16) k) = up fun i j => Real.exp (0 - |bz q k i j|) := by
  simp only [k0_pay87, pay86_up, up_zero, up_sub, up_exp, up_abs]
theorem pay88_up : k0_pay88 (F := Ideal) = up fun _ _ => 0 := by
  simp only [k0_pay88, up_zero]
theorem pay89_up : k0_pay89 (F := Ideal) (up (bz q k)) (up fun i j => Real.exp (0 - |bz q k i j|)) (up fun _ _ => 0) = up (blb q k) := by
  simp only [k0_pay89, up_one, up_add, up_sub, up_min, up_log]
  rfl
theorem pay90_up : k0_pay90 (F := Ideal) (bits P) (up (bz q k)) (up fun i j => Real.exp (0 - |bz q k i j|)) (up fun _ _ => 0) = up (blk P q k) := by
  simp only [k0_pay90, pay89_up, up_zero, up_sub, up_select]
  rfl
theorem pay91_up : k0_pay91 (F := Ideal) (bits P) (up lc) (up (bz q k)) (up fun i j => Real.exp (0 - |bz q k i j|)) (up fun _ _ => 0) = up (blc P q k lc) := by
  simp only [k0_pay91, pay90_up, up_add, multiReductionOpen, rsum512, scol512]
  rfl
theorem pay92_up : k0_pay92 (F := Ideal) (bits P) (up u) (up rt) (up lc) (up (bz q k)) (up fun i j => Real.exp (0 - |bz q k i j|)) (up fun _ _ => 0) = up (ba P q k lc rt u) := by
  simp only [k0_pay92, pay91_up, pay90_up, pay89_up, up_zero, up_truncf, up_const, mm1, up_add, up_sub, up_exp, bcol512, up_select]
  rfl
theorem pay93_up : k0_pay93 (F := Ideal) (bits P) (up u) (up o) (up rt) (up lc) (up (φ := .bf16) v) (up (bz q k)) (up fun i j => Real.exp (0 - |bz q k i j|)) (up fun _ _ => 0)
    = up (bde P q o k v lc rt u) := by
  simp only [k0_pay93, pay92_up, up_const, mm0, up_mul]
  rfl
theorem pay94_up : k0_pay94 (F := Ideal) (bits P) (up u) (up w) (up o) (up rt) (up lc) (up gc) (up (φ := .bf16) v) (up (bz q k)) (up fun i j => Real.exp (0 - |bz q k i j|)) (up fun _ _ => 0)
    = up (bdz P q o k v lc gc rt u w) := by
  simp only [k0_pay94, pay93_up, pay89_up, up_zero, up_truncf, up_const, mm1, up_add, up_sub, up_exp, up_mul, bcol512, up_select]
  rfl
theorem pay95_up : k0_pay95 (F := Ideal) (bits P) (up u) (up w) (up qt) (up o) (up rt) (up lc) (up gc) (up (φ := .bf16) v) (up (bz q k)) (up fun i j => Real.exp (0 - |bz q k i j|)) (up fun _ _ => 0) (ups (φ := .f32) f)
    = ups (φ := .f32) fun _ d j => f 0 d j + ∑ i, qt ⟨d.val, by omega⟩ i * bdz P q o k v lc gc rt u w i j := by
  simp only [k0_pay95, pay94_up, up_const, mm3, part_t0, cast_in, cast_out, up_add]
theorem pay96_up : k0_pay96 (F := Ideal) (up ot) (up e) (ups (φ := .f32) f) = ups (φ := .f32) fun _ d j => f 0 d j + ∑ i, ot ⟨d.val, by omega⟩ i * e i j := by
  simp only [k0_pay96, cast_in, cast_out, up_add, up_const, up_truncf, mm3, part_t0]
theorem pay97_up : k0_pay97 (F := Ideal) (up gc) (up (bde P q o k v lc rt u)) = up (bgc P q o k v lc gc rt u) := by
  simp only [k0_pay97, up_add, multiReductionOpen, rsum512, scol512]
  rfl
theorem pay98_up : k0_pay98 (F := Ideal) (up dq) (up (φ := .bf16) k) (up (bdz P q o k v lc gc rt u w)) = up (bdq P q o k v lc gc rt dq u w) := by
  simp only [k0_pay98, up_add, up_const, mm2]
  rfl

theorem pay99_up : k0_pay99 (F := Ideal) (up q) (up (φ := .bf16) k) = up (bz q k) := by
  simp only [k0_pay99, up_const, mm0]
  rfl
theorem pay100_up : k0_pay100 (F := Ideal) (up q) (up (φ := .bf16) k) = up (blb q k) := by
  simp only [k0_pay100, pay99_up, up_zero, up_one, up_add, up_sub, up_exp, up_abs, up_min, up_log]
  rfl
theorem pay101_up : k0_pay101 (F := Ideal) (bits P) (up q) (up (φ := .bf16) k) = up (blk P q k) := by
  simp only [k0_pay101, pay100_up, pay99_up, up_zero, up_sub, up_select]
  rfl
theorem pay102_up : k0_pay102 (F := Ideal) (bits P) (up q) (up lc) (up (φ := .bf16) k) = up (blc P q k lc) := by
  simp only [k0_pay102, pay101_up, up_add, multiReductionOpen, rsum512, scol512]
  rfl
theorem pay103_up : k0_pay103 (F := Ideal) (bits P) (up q) (up rt) (up lc) (up (φ := .bf16) k) = up fun i x => rt i x - blc P q k lc i x := by
  simp only [k0_pay103, pay102_up, up_sub]
theorem pay104_up : k0_pay104 (F := Ideal) (bits P) (up q) (up (φ := .bf16) k) = up (blk P q k) := by
  simp only [k0_pay104, pay101_up, up_truncf]
theorem pay105_up : k0_pay105 (F := Ideal) (bits P) (up u) (up (blb q k)) (up fun i x => rt i x - blc P q k lc i x) (up (blk P q k)) (up fun _ _ => 0) = up (ba P q k lc rt u) := by
  simp only [k0_pay105, up_zero, mm1, up_add, up_exp, bcol512, up_select]
  rfl
theorem pay106_up : k0_pay106 (F := Ideal) (bits P) (up u) (up o) (up (φ := .bf16) v) (up (blb q k)) (up fun i x => rt i x - blc P q k lc i x) (up (blk P q k)) (up fun _ _ => 0)
    = up (bde P q o k v lc rt u) := by
  simp only [k0_pay106, pay105_up, up_const, mm0, up_mul]
  rfl
theorem pay107_up : k0_pay107 (F := Ideal) (bits P) (up u) (up w) (up o) (up gc) (up (φ := .bf16) v) (up (blb q k)) (up fun i x => rt i x - blc P q k lc i x) (up (blk P q k)) (up fun _ _ => 0)
    = up (bdz P q o k v lc gc rt u w) := by
  simp only [k0_pay107, pay106_up, up_zero, up_truncf, up_const, mm1, up_add, up_sub, up_exp, up_mul, bcol512, up_select]
  rfl
theorem pay108_up : k0_pay108 (F := Ideal) (bits P) (up u) (up w) (up qt) (up o) (up gc) (up (φ := .bf16) v) (up (blb q k)) (up fun i x => rt i x - blc P q k lc i x) (up (blk P q k)) (up fun _ _ => 0) (ups (φ := .f32) f)
    = ups (φ := .f32) fun _ d j => f 0 d j + ∑ i, qt ⟨64 + d.val, by omega⟩ i * bdz P q o k v lc gc rt u w i j := by
  simp only [k0_pay108, pay107_up, up_const, mm3, part_t1, cast_in, cast_out, up_add]
theorem pay109_up : k0_pay109 (F := Ideal) (bits P) (up u) (up ot) (up (blb q k)) (up fun i x => rt i x - blc P q k lc i x) (up (blk P q k)) (up fun _ _ => 0) (ups (φ := .f32) f)
    = ups (φ := .f32) fun _ d j => f 0 d j + ∑ i, ot ⟨64 + d.val, by omega⟩ i * ba P q k lc rt u i j := by
  simp only [k0_pay109, pay105_up, up_const, up_truncf, mm3, part_t1, cast_in, cast_out, up_add]
theorem pay110_up : k0_pay110 (F := Ideal) (bits P) (up u) (up o) (up (φ := .bf16) v) (up (blb q k)) (up fun i x => rt i x - blc P q k lc i x) (up (blk P q k)) (up fun _ _ => 0)
    = up fun i _ => ∑ j, bde P q o k v lc rt u i j := by
  simp only [k0_pay110, pay106_up, multiReductionOpen, rsum512, scol512]
theorem pay111_up : k0_pay111 (F := Ideal) (up gc) (up fun i _ => ∑ j, bde P q o k v lc rt u i j) = up (bgc P q o k v lc gc rt u) := by
  simp only [k0_pay111, up_add]
  rfl
theorem pay112_up : k0_pay112 (F := Ideal) (up dq) (up (φ := .bf16) k) (up (bdz P q o k v lc gc rt u w)) = up (bdq P q o k v lc gc rt dq u w) := by
  simp only [k0_pay112, up_add, up_const, mm2]
  rfl
end first

/-- The lower 256 rows. -/
def low {m : ℕ} {α : Type} (f : Fin 512 → Fin m → α) : Fin 256 → Fin m → α := fun i j => f ⟨256 + i.val, by omega⟩ j

/-- Two blocks of 256 rows, one over the other. -/
theorem cat_of {x y : FVec Ideal S256x64 .f32} {f g : Fin 256 → Fin 64 → ℝ} (hx : x = up f) (hy : y = up g) (h) :
    concatenate S512x64 0 [⟨S256x64, x⟩, ⟨S256x64, y⟩] h = up (φ := .f32) fun i j => if h : i.val < 256 then f ⟨i.val, h⟩ j else g ⟨i.val - 256, by omega⟩ j := by
  subst hx hy; exact cat_rows f g h

section second
variable (P : Fin 512 → Fin 256 → Bool) (M : Fin 256 → Fin 256 → Bool) (u w : Fin 256 → Fin 256 → ℝ) (qt ot : Fin 128 → Fin 512 → ℝ) (q o : Fin 512 → Fin 64 → ℝ) (rt lc gc : Fin 512 → Fin 1 → ℝ)
  (lcl gcl : Fin 256 → Fin 1 → ℝ) (dq : Fin 512 → Fin 64 → ℝ) (dql : Fin 256 → Fin 64 → ℝ) (k v : Fin 256 → Fin 64 → ℝ) (e x : Fin 256 → Fin 256 → ℝ) (f : Fin 1 → Fin 64 → Fin 256 → ℝ)

theorem pay113_up : k0_pay113 (F := Ideal) (up gc) = up (low gc) := by simp only [k0_pay113, part_c]; rfl
theorem pay114_up : k0_pay114 (F := Ideal) (up dq) = up (low dq) := by simp only [k0_pay114, part_d]; rfl
theorem pay115_up : k0_pay115 (bits P) = bits (low P) := by simp only [k0_pay115, part_bits]; rfl
theorem pay116_up : k0_pay116 (F := Ideal) (up q) (up (φ := .bf16) k) = up (bz (low q) k) := by
  simp only [k0_pay116, part_e, up_const, mm4]
  rfl
theorem pay117_up : k0_pay117 (F := Ideal) (up q) (up (φ := .bf16) k) = up (blb (low q) k) := by
  simp only [k0_pay117, pay116_up, up_zero, up_one, up_add, up_sub, up_exp, up_abs, up_min, up_log]
  rfl
theorem pay118_up : k0_pay118 (F := Ideal) (bits P) (up u) (up q) (up rt) (up lc) (up (φ := .bf16) k) = up (ba (low P) (low q) k (low lc) (low rt) u) := by
  simp only [k0_pay118, pay115_up, pay116_up, pay117_up, part_c, up_zero, up_add, up_sub, up_exp, up_select, multiReductionOpen, rsum256, scol256, bcol256, up_truncf, up_const, mm5]
  rfl
theorem pay119_up : k0_pay119 (F := Ideal) (up o) (up (φ := .bf16) v) = up fun i j => ∑ d, low o i d * v j d := by
  simp only [k0_pay119, part_e, up_const, mm4]
  rfl
theorem pay120_up : k0_pay120 (F := Ideal) (up w) (up (low gc)) (bits (low P)) (up (blb (low q) k)) (up (ba (low P) (low q) k (low lc) (low rt) u)) (up fun i j => ∑ d, low o i d * v j d)
    = up (bdz (low P) (low q) (low o) k v (low lc) (low gc) (low rt) u w) := by
  simp only [k0_pay120, up_zero, up_truncf, up_const, mm5, up_add, up_sub, up_exp, up_mul, bcol256, up_select]
  rfl
theorem pay121_up : k0_pay121 (F := Ideal) (up w) (up qt) (up (low gc)) (bits (low P)) (up (blb (low q) k)) (up (ba (low P) (low q) k (low lc) (low rt) u)) (up fun i j => ∑ d, low o i d * v j d) (ups (φ := .f32) f)
    = ups (φ := .f32) fun _ d j => f 0 d j + ∑ i : Fin 256, qt ⟨d.val, by omega⟩ ⟨256 + i.val, by omega⟩ * bdz (low P) (low q) (low o) k v (low lc) (low gc) (low rt) u w i j := by
  simp only [k0_pay121, pay120_up, up_const, mm6, part_u0, cast_in, cast_out, up_add]
theorem pay122_up : k0_pay122 (F := Ideal) (up ot) (up e) (ups (φ := .f32) f)
    = ups (φ := .f32) fun _ d j => f 0 d j + ∑ i : Fin 256, ot ⟨d.val, by omega⟩ ⟨256 + i.val, by omega⟩ * e i j := by
  simp only [k0_pay122, up_truncf, up_const, mm6, part_u0, cast_in, cast_out, up_add]
theorem pay123_up : k0_pay123 (F := Ideal) (up w) (up dq) (up (low gc)) (up (low dq)) (up (φ := .bf16) k) (bits (low P)) (up (blb (low q) k)) (up (ba (low P) (low q) k (low lc) (low rt) u)) (up fun i j => ∑ d, low o i d * v j d)
    = up fun i d => if h : i.val < 256 then dq ⟨i.val, by omega⟩ d else bdq (low P) (low q) (low o) k v (low lc) (low gc) (low rt) (low dq) u w ⟨i.val - 256, by omega⟩ d := by
  unfold k0_pay123
  dsimp only
  rw [cat_of (g := bdq (low P) (low q) (low o) k v (low lc) (low gc) (low rt) (low dq) u w) (part_f dq _) (by simp only [pay120_up, up_const, mm7, up_add]; rfl)]
theorem pay124_up : k0_pay124 (F := Ideal) (up lc) = up (low lc) := by simp only [k0_pay124, part_c]; rfl
theorem pay125_up : k0_pay125 (F := Ideal) (up gc) = up (low gc) := by simp only [k0_pay125, part_c]; rfl
theorem pay126_up : k0_pay126 (F := Ideal) (up dq) = up (low dq) := by simp only [k0_pay126, part_d]; rfl
theorem pay127_up : k0_pay127 (bits P) = bits (low P) := by simp only [k0_pay127, part_bits]; rfl
theorem pay128_up : k0_pay128 (F := Ideal) (up q) (up (φ := .bf16) k) = up (bz (low q) k) := by
  simp only [k0_pay128, part_e, up_const, mm4]
  rfl
theorem pay129_up : k0_pay129 (F := Ideal) (up q) (up (φ := .bf16) k) = up (blb (low q) k) := by
  simp only [k0_pay129, pay128_up, up_zero, up_one, up_add, up_sub, up_exp, up_abs, up_min, up_log]
  rfl
theorem pay130_up : k0_pay130 (F := Ideal) (bits P) (up u) (up q) (up rt) (up lcl) (up (φ := .bf16) k) = up (ba (low P) (low q) k lcl (low rt) u) := by
  simp only [k0_pay130, pay127_up, pay128_up, pay129_up, part_c, up_zero, up_add, up_sub, up_exp, up_select, multiReductionOpen, rsum256, scol256, bcol256, up_truncf, up_const, mm5]
  rfl
/-- The gradient of the scores before the mask. -/
def pre (i j : Fin 256) : ℝ := bde (low P) (low q) (low o) k v lcl (low rt) u i j - Real.exp (blb (low q) k i j) * (bde (low P) (low q) (low o) k v lcl (low rt) u i j + (gcl i 0 + ∑ l, bde (low P) (low q) (low o) k v lcl (low rt) u i l * w l j))
theorem pay131_up : k0_pay131 (F := Ideal) (bits P) (up u) (up w) (up q) (up o) (up rt) (up lcl) (up gcl) (up (φ := .bf16) k) (up (φ := .bf16) v) = up (pre P u w q o rt lcl gcl k v) := by
  simp only [k0_pay131, pay130_up, pay129_up, part_e, mm4, up_truncf, up_const, mm5, up_add, up_sub, up_exp, up_mul, bcol256]
  rfl
theorem pay132_up : k0_pay132 (F := Ideal) = up fun _ _ => 0 := by simp only [k0_pay132, up_zero]
theorem pay133_up : k0_pay133 (F := Ideal) (bits (low P)) (up (pre P u w q o rt lcl gcl k v)) (up fun _ _ => 0) = up (bdz (low P) (low q) (low o) k v lcl gcl (low rt) u w) := by
  simp only [k0_pay133, up_select, up_truncf]
  rfl
theorem pay134_up : k0_pay134 (F := Ideal) (up qt) (bits (low P)) (up (pre P u w q o rt lcl gcl k v)) (up fun _ _ => 0) (ups (φ := .f32) f)
    = ups (φ := .f32) fun _ d j => f 0 d j + ∑ i : Fin 256, qt ⟨64 + d.val, by omega⟩ ⟨256 + i.val, by omega⟩ * bdz (low P) (low q) (low o) k v lcl gcl (low rt) u w i j := by
  simp only [k0_pay134, pay133_up, up_const, mm6, part_u1, cast_in, cast_out, up_add]
theorem pay135_up : k0_pay135 (F := Ideal) (up ot) (up e) (ups (φ := .f32) f)
    = ups (φ := .f32) fun _ d j => f 0 d j + ∑ i : Fin 256, ot ⟨64 + d.val, by omega⟩ ⟨256 + i.val, by omega⟩ * e i j := by
  simp only [k0_pay135, up_truncf, up_const, mm6, part_u1, cast_in, cast_out, up_add]
theorem pay136_up : k0_pay136 (F := Ideal) (up dq) = up fun i d => dq i d * (1 / 8) := by
  simp only [k0_pay136, up_eighth, up_mul, up_truncf]
theorem pay137_up : k0_pay137 (F := Ideal) (up dq) (up dql) (up (φ := .bf16) k) (bits (low P)) (up (pre P u w q o rt lcl gcl k v)) (up fun _ _ => 0)
    = up fun i d => (if h : i.val < 256 then dq ⟨i.val, by omega⟩ d else bdq (low P) (low q) (low o) k v lcl gcl (low rt) dql u w ⟨i.val - 256, by omega⟩ d) * (1 / 8) := by
  unfold k0_pay137
  dsimp only
  rw [cat_of (g := bdq (low P) (low q) (low o) k v lcl gcl (low rt) dql u w) (part_f dq _) (by simp only [pay133_up, up_const, mm7, up_add]; rfl)]
  simp only [up_eighth, up_mul, up_truncf]
end second

theorem sum_pair_low (qt : Fin 128 → Fin 512 → ℝ) (x y : Fin 256 → Fin 256 → ℝ) (b : Fin 128) (c : Fin 256) :
    (if b.val < 64 then (fun (d : Fin 64) (c : Fin 256) => ∑ i : Fin 256, qt ⟨d.val, by omega⟩ ⟨256 + i.val, by omega⟩ * x i c) (Fin.ofNat 64 b.val) c
      else (fun (d : Fin 64) (c : Fin 256) => ∑ i : Fin 256, qt ⟨64 + d.val, by omega⟩ ⟨256 + i.val, by omega⟩ * y i c) (Fin.ofNat 64 (b.val - 64)) c)
      = ∑ i : Fin 256, qt b ⟨256 + i.val, by omega⟩ * (if b.val < 64 then x i c else y i c) := by
  have hb := b.isLt
  by_cases h : b.val < 64
  · simp only [if_pos h]
    have : (⟨(Fin.ofNat 64 b.val).val, by omega⟩ : Fin 128) = b := Fin.ext (by show b.val % 64 = b.val; omega)
    rw [this]
  · simp only [if_neg h]
    have : (⟨64 + (Fin.ofNat 64 (b.val - 64)).val, by omega⟩ : Fin 128) = b := Fin.ext (by show 64 + (b.val - 64) % 64 = b.val; omega)
    rw [this]

/-- Both diagonal blocks on real numbers: the tile of the queries' gradient, and the two slabs of either accumulator with the blocks' products added. -/
theorem diag_up (P R : Fin 512 → Fin 256 → Bool) (u w : Fin 256 → Fin 256 → ℝ) (qt ot : Fin 128 → Fin 512 → ℝ) (q0 q1 o0 o1 : Fin 512 → Fin 64 → ℝ) (rt0 rt1 l0 l1 g0 g1 : Fin 512 → Fin 1 → ℝ)
    (d0 d1 : Fin 512 → Fin 64 → ℝ) (K V : Fin 2048 → Fin 128 → ℝ) (j : ℕ) (hj : j + 1 < 8) (D E : Fin 8 → Fin 128 → Fin 256 → ℝ)
    (k0 k1 v0 v1 m0 m1 n0 n1 : Fin 256 → Fin 64 → ℝ)
    (hk0 : k0 = fun i d => K (Fin.ofNat 2048 (256 * j + i.val)) (Fin.ofNat 128 (0 + d.val))) (hk1 : k1 = fun i d => K (Fin.ofNat 2048 (256 * j + i.val)) (Fin.ofNat 128 (64 + d.val)))
    (hv0 : v0 = fun i d => V (Fin.ofNat 2048 (256 * j + i.val)) (Fin.ofNat 128 (0 + d.val))) (hv1 : v1 = fun i d => V (Fin.ofNat 2048 (256 * j + i.val)) (Fin.ofNat 128 (64 + d.val)))
    (hm0 : m0 = fun i d => K (Fin.ofNat 2048 (256 * (j + 1) + i.val)) (Fin.ofNat 128 (0 + d.val))) (hm1 : m1 = fun i d => K (Fin.ofNat 2048 (256 * (j + 1) + i.val)) (Fin.ofNat 128 (64 + d.val)))
    (hn0 : n0 = fun i d => V (Fin.ofNat 2048 (256 * (j + 1) + i.val)) (Fin.ofNat 128 (0 + d.val))) (hn1 : n1 = fun i d => V (Fin.ofNat 2048 (256 * (j + 1) + i.val)) (Fin.ofNat 128 (64 + d.val))) :
    diag (F := Ideal) ⟨bits P, bits R, up u, up w, up qt, up ot, up q0, up q1, up o0, up o1, up rt0, up rt1⟩ (up (φ := .bf16) K) (up (φ := .bf16) V) j
        (up l0, up g0, up d0, up l1, up g1, up d1) (ups (φ := .f32) D) (ups (φ := .f32) E)
      = (halves (up (φ := .bf16) fun i d => (if h : i.val < 256 then bdq P q0 o0 k0 v0 l0 g0 rt0 d0 u w ⟨i.val, by omega⟩ d
              else bdq (low R) (low q0) (low o0) m0 n0 (low (blc P q0 k0 l0)) (low (bgc P q0 o0 k0 v0 l0 g0 rt0 u)) (low rt0) (low (bdq P q0 o0 k0 v0 l0 g0 rt0 d0 u w)) u w ⟨i.val - 256, by omega⟩ d) * (1 / 8))
            (up (φ := .bf16) fun i d => (if h : i.val < 256 then bdq P q1 o1 k1 v1 l1 g1 rt1 d1 u w ⟨i.val, by omega⟩ d
              else bdq (low R) (low q1) (low o1) m1 n1 (low (blc P q1 k1 l1)) (low (bgc P q1 o1 k1 v1 l1 g1 rt1 u)) (low rt1) (low (bdq P q1 o1 k1 v1 l1 g1 rt1 d1 u w)) u w ⟨i.val - 256, by omega⟩ d) * (1 / 8)),
        ups (φ := .f32) (fun a b c =>
          if a.val = j + 1 then (if a.val = j then D a b c + ∑ i, qt b i * (if b.val < 64 then bdz P q0 o0 k0 v0 l0 g0 rt0 u w i c else bdz P q1 o1 k1 v1 l1 g1 rt1 u w i c) else D a b c)
            + ∑ i : Fin 256, qt b ⟨256 + i.val, by omega⟩ * (if b.val < 64 then bdz (low R) (low q0) (low o0) m0 n0 (low (blc P q0 k0 l0)) (low (bgc P q0 o0 k0 v0 l0 g0 rt0 u)) (low rt0) u w i c
              else bdz (low R) (low q1) (low o1) m1 n1 (low (blc P q1 k1 l1)) (low (bgc P q1 o1 k1 v1 l1 g1 rt1 u)) (low rt1) u w i c)
          else if a.val = j then D a b c + ∑ i, qt b i * (if b.val < 64 then bdz P q0 o0 k0 v0 l0 g0 rt0 u w i c else bdz P q1 o1 k1 v1 l1 g1 rt1 u w i c) else D a b c),
        ups (φ := .f32) (fun a b c =>
          if a.val = j + 1 then (if a.val = j then E a b c + ∑ i, ot b i * (if b.val < 64 then ba P q0 k0 l0 rt0 u i c else ba P q1 k1 l1 rt1 u i c) else E a b c)
            + ∑ i : Fin 256, ot b ⟨256 + i.val, by omega⟩ * (if b.val < 64 then ba (low R) (low q0) m0 (low (blc P q0 k0 l0)) (low rt0) u i c
              else ba (low R) (low q1) m1 (low (blc P q1 k1 l1)) (low rt1) u i c)
          else if a.val = j then E a b c + ∑ i, ot b i * (if b.val < 64 then ba P q0 k0 l0 rt0 u i c else ba P q1 k1 l1 rt1 u i c) else E a b c)) := by
  unfold diag
  dsimp only
  have hz : (constant S512x256 .f32 0x00000000#32 : FVec Ideal S512x256 .f32) = up fun _ _ => 0 := up_zero
  simp only [hz, slab_row, tile_up, ← hk0, ← hk1, ← hv0, ← hv1, ← hm0, ← hm1, ← hn0, ← hn1, pay86_up, pay87_up, pay88_up, pay91_up, pay92_up, pay93_up, pay94_up, pay95_up, pay96_up, pay97_up, pay98_up, slab_up,
    pay100_up, pay102_up, pay103_up, pay104_up, pay107_up, pay108_up, pay109_up, pay110_up, pay111_up, pay112_up, pay113_up, pay114_up, pay115_up, pay117_up, pay118_up, pay119_up, pay123_up,
    pay124_up, pay125_up, pay126_up, pay127_up, pay130_up, pay131_up, pay132_up, pay136_up, pay137_up]
  refine congrArg₂ Prod.mk rfl (congrArg₂ Prod.mk ?_ ?_)
  · rw [put_pair D j (by omega) (fun d c => ∑ i, qt ⟨d.val, by omega⟩ i * bdz P q0 o0 k0 v0 l0 g0 rt0 u w i c) (fun d c => ∑ i, qt ⟨64 + d.val, by omega⟩ i * bdz P q1 o1 k1 v1 l1 g1 rt1 u w i c)]
    simp only [slab_up, pay121_up, pay134_up, sum_pair qt]
    refine (put_pair _ (j + 1) hj (fun d c => ∑ i : Fin 256, qt ⟨d.val, by omega⟩ ⟨256 + i.val, by omega⟩ * bdz (low R) (low q0) (low o0) m0 n0 (low (blc P q0 k0 l0)) (low (bgc P q0 o0 k0 v0 l0 g0 rt0 u)) (low rt0) u w i c)
      (fun d c => ∑ i : Fin 256, qt ⟨64 + d.val, by omega⟩ ⟨256 + i.val, by omega⟩ * bdz (low R) (low q1) (low o1) m1 n1 (low (blc P q1 k1 l1)) (low (bgc P q1 o1 k1 v1 l1 g1 rt1 u)) (low rt1) u w i c)).trans ?_
    simp only [sum_pair_low qt]
  · rw [put_pair E j (by omega) (fun d c => ∑ i, ot ⟨d.val, by omega⟩ i * ba P q0 k0 l0 rt0 u i c) (fun d c => ∑ i, ot ⟨64 + d.val, by omega⟩ i * ba P q1 k1 l1 rt1 u i c)]
    simp only [slab_up, pay122_up, pay135_up, sum_pair ot]
    refine (put_pair _ (j + 1) hj (fun d c => ∑ i : Fin 256, ot ⟨d.val, by omega⟩ ⟨256 + i.val, by omega⟩ * ba (low R) (low q0) m0 (low (blc P q0 k0 l0)) (low rt0) u i c)
      (fun d c => ∑ i : Fin 256, ot ⟨64 + d.val, by omega⟩ ⟨256 + i.val, by omega⟩ * ba (low R) (low q1) m1 (low (blc P q1 k1 l1)) (low rt1) u i c)).trans ?_
    simp only [sum_pair_low ot]

end Cert.KernelIdeal.Gen
-- ==== Proof.Lanes.lean ====
/- Two heads side by side: lanes below 64 are the first head's, the others the second's. -/
module

public import proofs.«01_k».proof.Proof.Rows

@[expose] public section

noncomputable section

namespace Cert.Rows

/-- The first head's lanes. -/
def lo (f : ℕ → Fin 128 → ℝ) : ℕ → Fin 64 → ℝ := fun t d => f t (Fin.ofNat 128 (0 + d.val))
/-- The second head's lanes. -/
def hi (f : ℕ → Fin 128 → ℝ) : ℕ → Fin 64 → ℝ := fun t d => f t (Fin.ofNat 128 (64 + d.val))

section
variable (Q K V O : ℕ → Fin 64 → ℝ)

theorem dz_zero {t s : ℕ} (h : t ≤ s) : dz Q K V O t s = 0 := if_neg (by omega)
theorem a_zero {t s : ℕ} (h : t ≤ s) : a Q K t s = 0 := if_neg (by omega)

/-- Keys from the row on add nothing to the query's gradient. -/
theorem dq_top {t n : ℕ} (h : t ≤ n) (hn : n ≤ 2048) (d : Fin 64) : dq Q K V O t n d = dq Q K V O t 2048 d := by
  unfold dq
  refine Finset.sum_subset (Finset.range_mono hn) fun s _ hs => ?_
  rw [dz_zero Q K V O (by rw [Finset.mem_range] at hs; omega), zero_mul]

end

variable (A K V O : ℕ → Fin 128 → ℝ)

/-- The scores' gradient, at the head of lane `b`. -/
def DZ (t s : ℕ) (b : Fin 128) : ℝ := if b.val < 64 then dz (lo A) (lo K) (lo V) (lo O) t s else dz (hi A) (hi K) (hi V) (hi O) t s
/-- The attention weights, at the head of lane `b`. -/
def AA (t s : ℕ) (b : Fin 128) : ℝ := if b.val < 64 then a (lo A) (lo K) t s else a (hi A) (hi K) t s
/-- The queries' gradient, at lane `b`. -/
def DQ (t : ℕ) (b : Fin 128) : ℝ :=
  if b.val < 64 then dq (lo A) (lo K) (lo V) (lo O) t 2048 (Fin.ofNat 64 b.val) * (1 / 8) else dq (hi A) (hi K) (hi V) (hi O) t 2048 (Fin.ofNat 64 (b.val - 64)) * (1 / 8)
/-- The keys' gradient from the first `n` rows, at lane `b`. -/
def DK (n s : ℕ) (b : Fin 128) : ℝ := ∑ t ∈ Finset.range n, A t b * DZ A K V O t s b
/-- The values' gradient from the first `n` rows, at lane `b`. -/
def DV (n s : ℕ) (b : Fin 128) : ℝ := ∑ t ∈ Finset.range n, O t b * AA A K t s b

theorem DZ_zero {t s : ℕ} (h : t ≤ s) (b : Fin 128) : DZ A K V O t s b = 0 := by
  unfold DZ; split <;> exact dz_zero _ _ _ _ h
theorem AA_zero {t s : ℕ} (h : t ≤ s) (b : Fin 128) : AA A K t s b = 0 := by
  unfold AA; split <;> exact a_zero _ _ h

/-- The next 512 rows. -/
theorem DK_next (n s : ℕ) (b : Fin 128) : DK A K V O (n + 512) s b = DK A K V O n s b + ∑ i : Fin 512, A (n + i.val) b * DZ A K V O (n + i.val) s b :=
  sum_block _ n 512
theorem DV_next (n s : ℕ) (b : Fin 128) : DV A K O (n + 512) s b = DV A K O n s b + ∑ i : Fin 512, O (n + i.val) b * AA A K (n + i.val) s b :=
  sum_block _ n 512

/-- A sum over 512 rows of which the first 256 add nothing. -/
theorem sum_low (f : ℕ → ℝ) (h : ∀ i < 256, f i = 0) : ∑ i : Fin 512, f i.val = ∑ i : Fin 256, f (256 + i.val) := by
  have h1 := sum_block f 256 256
  rw [Finset.sum_eq_zero (fun i hi => h i (Finset.mem_range.1 hi)), zero_add] at h1
  rw [← h1, Fin.sum_univ_eq_sum_range f]

theorem DK_low (n s : ℕ) (b : Fin 128) (h : n + 255 ≤ s) : DK A K V O (n + 512) s b = DK A K V O n s b + ∑ i : Fin 256, A (n + 256 + i.val) b * DZ A K V O (n + 256 + i.val) s b := by
  rw [DK_next]
  congr 1
  refine (sum_low (fun i => A (n + i) b * DZ A K V O (n + i) s b) fun i hi => ?_).trans ?_
  · rw [DZ_zero _ _ _ _ (by omega), mul_zero]
  · simp only [Nat.add_assoc]
theorem DV_low (n s : ℕ) (b : Fin 128) (h : n + 255 ≤ s) : DV A K O (n + 512) s b = DV A K O n s b + ∑ i : Fin 256, O (n + 256 + i.val) b * AA A K (n + 256 + i.val) s b := by
  rw [DV_next]
  congr 1
  refine (sum_low (fun i => O (n + i) b * AA A K (n + i) s b) fun i hi => ?_).trans ?_
  · rw [AA_zero _ _ (by omega), mul_zero]
  · simp only [Nat.add_assoc]
theorem DK_none (n s : ℕ) (b : Fin 128) (h : n + 511 ≤ s) : DK A K V O (n + 512) s b = DK A K V O n s b := by
  rw [DK_next, Finset.sum_eq_zero (fun i _ => by rw [DZ_zero _ _ _ _ (by omega), mul_zero]), add_zero]
theorem DV_none (n s : ℕ) (b : Fin 128) (h : n + 511 ≤ s) : DV A K O (n + 512) s b = DV A K O n s b := by
  rw [DV_next, Finset.sum_eq_zero (fun i _ => by rw [AA_zero _ _ (by omega), mul_zero]), add_zero]

end Cert.Rows
-- ==== Proof.PointVal.lean ====
/- One grid point on arrays of real numbers: the tile of the queries' gradient is that of the rows' sums, and the accumulators gain the tile's rows. -/
module

public import proofs.«01_k».proof.Proof.DiagVal
public import proofs.«01_k».proof.Proof.Lanes

@[expose] public section

set_option maxRecDepth 16384
set_option maxHeartbeats 4000000

noncomputable section

namespace Cert.KernelIdeal.Gen

open Idealize.ShloMosaic Idealize.ShloMosaic.TcCoe Idealize.SL.Sem Cert.Rows

theorem slt_word (a b : ℕ) (ha : a < 1024) (hb : b < 1024) : BitVec.slt (BitVec.ofNat 32 a) (BitVec.ofNat 32 b) = decide (a < b) := by
  rw [BitVec.slt_eq_decide, BitVec.toInt_eq_toNat_of_lt (by rw [BitVec.toNat_ofNat]; omega), BitVec.toInt_eq_toNat_of_lt (by rw [BitVec.toNat_ofNat]; omega), BitVec.toNat_ofNat, BitVec.toNat_ofNat,
    Nat.mod_eq_of_lt (by omega), Nat.mod_eq_of_lt (by omega)]
  simp only [Nat.cast_lt]

theorem bit_val (b : Bool) : (((BitVec.setWidth 32 (BitVec.ofBool b)).toInt : ℝ) : EReal) = (((if b then 1 else 0 : ℝ)) : EReal) := by
  cases b <;> simp

theorem pay68_up : k0_pay68 = bits fun i j => decide (j.val < i.val) := by
  unfold k0_pay68
  funext y; idx_vars y; pointwise [bits_ix]
  show BitVec.ofBool (BitVec.slt (BitVec.ofNat 32 y1.val + 0#32) (BitVec.ofNat 32 y0.val)) = _
  rw [BitVec.add_zero, slt_word _ _ (by omega) (by omega)]
theorem pay69_up : k0_pay69 = bits fun i j => decide (j.val + 256 < i.val) := by
  unfold k0_pay69
  funext y; idx_vars y; pointwise [bits_ix]
  show BitVec.ofBool (BitVec.slt (BitVec.ofNat 32 y1.val + BitVec.ofNat 32 256) (BitVec.ofNat 32 y0.val)) = _
  rw [← BitVec.ofNat_add, slt_word _ _ (by omega) (by omega)]
theorem pay70_up : k0_pay70 (F := Ideal) = up fun l j => if j.val < l.val then 1 else 0 := by
  unfold k0_pay70
  funext y; idx_vars y; pointwise [up_ix]
  show (((BitVec.setWidth 32 (BitVec.ofBool (BitVec.slt (BitVec.ofNat 32 y1.val) (BitVec.ofNat 32 y0.val)))).toInt : ℝ) : EReal) = _
  rw [slt_word _ _ (by omega) (by omega), bit_val]
  simp only [decide_eq_true_eq]
theorem pay71_up : k0_pay71 (F := Ideal) = up fun l j => if l.val < j.val then 1 else 0 := by
  unfold k0_pay71
  funext y; idx_vars y; pointwise [up_ix]
  show (((BitVec.setWidth 32 (BitVec.ofBool (BitVec.slt (BitVec.ofNat 32 y0.val) (BitVec.ofNat 32 y1.val)))).toInt : ℝ) : EReal) = _
  rw [slt_word _ _ (by omega) (by omega), bit_val]
  simp only [decide_eq_true_eq]

theorem tr_q' (f : Fin 512 → Fin 128 → ℝ) (p : List (Fin 2)) (h : S512x128.Transposes p S128x512) (e : p = [1, 0]) : transpose S128x512 p (up (φ := .f32) f) h = up (φ := .f32) fun i j => f j i := by
  subst e; exact tr_q f h
theorem tr_o' (f : Fin 128 → Fin 256 → ℝ) (p : List (Fin 2)) (h : S128x256.Transposes p S256x128) (e : p = [1, 0]) : transpose S256x128 p (up (φ := .f32) f) h = up (φ := .f32) fun i j => f j i := by
  subst e; exact tr_o f h

section tile
variable (Q : Fin 512 → Fin 128 → ℝ)
theorem pay72_up : k0_pay72 (F := Ideal) (up (φ := .bf16) Q) = up fun i d => Q i d * (1 / 8) := by
  simp only [k0_pay72, up_extf, up_truncf, up_eighth, up_mul]
theorem pay73_up : k0_pay73 (F := Ideal) (up (φ := .bf16) Q) = up fun d i => Q i d * (1 / 8) := by
  simp only [k0_pay73, pay72_up, up_extf, up_truncf, tr_q']
theorem pay74_up : k0_pay74 (F := Ideal) (up (φ := .bf16) Q) = up fun d i => Q i d := by
  simp only [k0_pay74, up_extf, up_truncf, tr_q']
theorem pay75_up : k0_pay75 (F := Ideal) (up (φ := .bf16) Q) = up fun i d => Q i ⟨d.val, by omega⟩ * (1 / 8) := by
  simp only [k0_pay75, pay72_up, part_h0]
theorem pay76_up : k0_pay76 (F := Ideal) (up (φ := .bf16) Q) = up fun i d => Q i ⟨64 + d.val, by omega⟩ * (1 / 8) := by
  simp only [k0_pay76, pay72_up, part_h1]
theorem pay77_up : k0_pay77 (F := Ideal) (up (φ := .bf16) Q) = up fun i d => Q i ⟨d.val, by omega⟩ := by
  simp only [k0_pay77, part_h0]
theorem pay78_up : k0_pay78 (F := Ideal) (up (φ := .bf16) Q) = up fun i d => Q i ⟨64 + d.val, by omega⟩ := by
  simp only [k0_pay78, part_h1]
end tile

theorem pay81_up : k0_pay81 (F := Ideal) = up fun _ _ => 0 := by simp only [k0_pay81, up_zero]
theorem pay83_up : k0_pay83 (F := Ideal) = up fun _ _ => 0 := by simp only [k0_pay83, up_zero]
theorem pay66_up : k0_pay66 (F := Ideal) = ups (φ := .f32) fun _ _ _ => 0 := by
  unfold k0_pay66
  funext y; idx_vars y; pointwise [ups_ix]
  exact EReal.coe_zero.symm
theorem pay67_up : k0_pay67 (F := Ideal) = ups (φ := .f32) fun _ _ _ => 0 := pay66_up

/-- The totals' block: the two heads' totals and the number eight. -/
def totals (x y : Fin 512 → ℝ) : Vec Ideal S1x1x512x3 .f32 :=
  fun i => if (i 3).val = 0 then ((x (i 2) : ℝ) : EReal) else if (i 3).val = 1 then ((y (i 2) : ℝ) : EReal) else ((8 : ℝ) : EReal)

theorem pay79_up (x y : Fin 512 → ℝ) : k0_pay79 (F := Ideal) (col (totals x y) 0) = up fun i _ => x i := by
  unfold k0_pay79
  funext z; idx_vars z; pointwise [up_ix]
  rfl
theorem pay80_up (x y : Fin 512 → ℝ) : k0_pay80 (F := Ideal) (col (totals x y) 1) = up fun i _ => y i := by
  unfold k0_pay80
  funext z; idx_vars z; pointwise [up_ix]
  rfl

theorem fold_max_const {ι : Type} (s : List ι) (h : s ≠ []) (c : EReal) : s.foldl (fun acc _ => max acc c) ⊥ = c := by
  have h1 : ∀ s : List ι, s.foldl (fun acc _ => max acc c) c = c := fun s => by
    induction s with
    | nil => rfl
    | cons a s ih => rw [List.foldl_cons, max_self, ih]
  cases s with
  | nil => exact absurd rfl h
  | cons a s => rw [List.foldl_cons, bot_sup_eq, h1]

theorem word_eight (x y : Fin 512 → ℝ) : word (F := Ideal) (totals x y) = 8#32 := by
  unfold word k0_pay82
  dsimp only
  simp only [multiReductionOpen]
  have e : (shapeCast S1x512x1 (shapeCast S512x1 (col (F := Ideal) (totals x y) 2) shapeCasts_S1x1x512x1_S512x1) shapeCasts_S512x1_S1x512x1 : FVec Ideal S1x512x1 .f32) = fun _ => ((8 : ℝ) : EReal) := rfl
  have hm : reduceFold reduces_S1x512x1_S1 (FloatOps.maximumf (F := Ideal) (φ := .f32)) (FloatOps.ofBits (F := Ideal) .f32 0xFF800000#32) (fun _ => ((8 : ℝ) : EReal)) = fun _ => ((8 : ℝ) : EReal) := by
    funext j
    rw [reduceFold_eq_foldl_of_size_one _ (by decide)]
    have hb : FloatOps.ofBits (F := Ideal) .f32 0xFF800000#32 = (⊥ : EReal) := by
      show Ideal.ofBits .f32 0xFF800000#32 = _
      simp [Ideal.ofBits, Ideal.ieee]
    rw [hb]
    exact fold_max_const _ (fun h => absurd (congrArg List.length h) (by rw [List.length_map, List.length_finRange]; decide)) _
  rw [e, hm]
  show BitVec.ofInt 32 (Ideal.toIntClamped _ _ ((8 : ℝ) : EReal)) = _
  rw [Ideal.toIntClamped_coe, if_pos (by norm_num), show ⌊(8 : ℝ)⌋ = 8 from by exact_mod_cast Int.floor_natCast (R := ℝ) 8]
  decide

theorem visited_eight (i : grid0.Coords) : visited i 8#32 = 2 * (i 2).val := by
  unfold visited
  have h : (i 2).val < 4 := (i 2).isLt
  generalize (i 2).val = b at h
  obtain ⟨a, rfl⟩ : ∃ a : Fin 4, b = a.val := ⟨⟨b, h⟩, rfl⟩
  clear h; revert a; decide +kernel

theorem halves_up (f g : Fin 512 → Fin 64 → ℝ) : halves (F := Ideal) (up (φ := .bf16) f) (up (φ := .bf16) g)
    = up (φ := .bf16) fun i d => if d.val < 64 then f i (Fin.ofNat 64 d.val) else g i (Fin.ofNat 64 (d.val - 64)) := by
  funext y
  unfold halves up
  by_cases h : (y 1).val < 64
  · simp only [if_pos h]
  · simp only [if_neg h]

theorem writeOut_up (D : Fin 8 → Fin 128 → Fin 256 → ℝ) : writeOut (F := Ideal) (ups (φ := .f32) D)
    = up (φ := .bf16) fun s d => D (Fin.ofNat 8 (s.val / 256)) d (Fin.ofNat 256 (s.val % 256)) := by
  have h8 (j : ℕ) : slab8 (F := Ideal) (ups (φ := .f32) D) j = ups (φ := .f32) fun _ d c => D (Fin.ofNat 8 j) d c := rfl
  have h54 (g : Fin 1 → Fin 128 → Fin 256 → ℝ) : k0_pay54 (F := Ideal) (ups (φ := .f32) g) = up (φ := .bf16) fun c d => g 0 d c := by
    simp only [k0_pay54, cast_in8, tr_o', up_truncf]
  funext y
  unfold writeOut
  rw [h8, h54]
  rfl

/-! The first loop at query tile `b`. -/

section loop
variable (A K V O : ℕ → Fin 128 → ℝ) (b : ℕ)

/-- Which later keys are summed. -/
def after (l j : Fin 256) : ℝ := if j.val < l.val then 1 else 0
/-- Which earlier keys are summed. -/
def before (l j : Fin 256) : ℝ := if l.val < j.val then 1 else 0
/-- The tile's rows. -/
def rows (f : ℕ → Fin 128 → ℝ) (i : Fin 512) (d : Fin 128) : ℝ := f (512 * b + i.val) d
/-- All the rows. -/
def whole (f : ℕ → Fin 128 → ℝ) (s : Fin 2048) (d : Fin 128) : ℝ := f s.val d

/-- What the loop carries after `n` keys. -/
def carryAt (n : ℕ) : Carry Ideal :=
  (up fun i _ => lc (lo A) (lo K) (512 * b + i.val) n, up fun i _ => gc (lo A) (lo K) (lo V) (lo O) (512 * b + i.val) n, up fun i d => dq (lo A) (lo K) (lo V) (lo O) (512 * b + i.val) n d,
    up fun i _ => lc (hi A) (hi K) (512 * b + i.val) n, up fun i _ => gc (hi A) (hi K) (hi V) (hi O) (512 * b + i.val) n, up fun i d => dq (hi A) (hi K) (hi V) (hi O) (512 * b + i.val) n d)

/-- The keys' gradients with the tile's rows in the first `n` blocks. -/
def accK (n : ℕ) : Scr Ideal :=
  ups (φ := .f32) fun a d c => if a.val < n then DK A K V O (512 * b + 512) (256 * a.val + c.val) d else DK A K V O (512 * b) (256 * a.val + c.val) d
/-- The values' gradients with the tile's rows in the first `n` blocks. -/
def accV (n : ℕ) : Scr Ideal :=
  ups (φ := .f32) fun a d c => if a.val < n then DV A K O (512 * b + 512) (256 * a.val + c.val) d else DV A K O (512 * b) (256 * a.val + c.val) d

theorem whole_lo (f : ℕ → Fin 128 → ℝ) (s : ℕ) (hs : s < 2048) (d : Fin 64) : whole f (Fin.ofNat 2048 s) (Fin.ofNat 128 (0 + d.val)) = lo f s d := by
  show f (s % 2048) _ = f s _
  rw [Nat.mod_eq_of_lt hs]
theorem whole_hi (f : ℕ → Fin 128 → ℝ) (s : ℕ) (hs : s < 2048) (d : Fin 64) : whole f (Fin.ofNat 2048 s) (Fin.ofNat 128 (64 + d.val)) = hi f s d := by
  show f (s % 2048) _ = f s _
  rw [Nat.mod_eq_of_lt hs]

theorem trip_at (hb : b < 4) (n : ℕ) (hn : n < 2 * b) :
    tripNext (F := Ideal) (up after) (up before) (up fun d i => rows b A i d) (up fun d i => rows b O i d) (up fun i d => lo A (512 * b + i.val) d) (up fun i d => hi A (512 * b + i.val) d)
      (up fun i d => lo O (512 * b + i.val) d) (up fun i d => hi O (512 * b + i.val) d) (up fun i _ => lc (lo A) (lo K) (512 * b + i.val) 2048) (up fun i _ => lc (hi A) (hi K) (512 * b + i.val) 2048)
      (up (φ := .bf16) (whole K)) (up (φ := .bf16) (whole V)) n (carryAt A K V O b (256 * n)) (accK A K V O b n) (accV A K O b n)
    = (carryAt A K V O b (256 * n + 256), accK A K V O b (n + 1), accV A K O b (n + 1)) := by
  have hP : ∀ (i : Fin 512) (j : Fin 256), (all : Fin 512 → Fin 256 → Bool) i j = decide (256 * n + j.val < 512 * b + i.val) := fun i j => (decide_eq_true (by omega)).symm
  unfold carryAt accK accV
  rw [trip_up after before (fun d i => rows b A i d) (fun d i => rows b O i d) _ _ _ _ _ _ _ _ _ _ _ _ (whole K) (whole V) n (by omega) _ _ _ _ _ _ rfl rfl rfl rfl]
  have kl : ∀ (j : Fin 256) (d : Fin 64), whole K (Fin.ofNat 2048 (256 * n + j.val)) (Fin.ofNat 128 (0 + d.val)) = lo K (256 * n + j.val) d := fun j d => whole_lo K _ (by omega) d
  have kh : ∀ (j : Fin 256) (d : Fin 64), whole K (Fin.ofNat 2048 (256 * n + j.val)) (Fin.ofNat 128 (64 + d.val)) = hi K (256 * n + j.val) d := fun j d => whole_hi K _ (by omega) d
  have vl : ∀ (j : Fin 256) (d : Fin 64), whole V (Fin.ofNat 2048 (256 * n + j.val)) (Fin.ofNat 128 (0 + d.val)) = lo V (256 * n + j.val) d := fun j d => whole_lo V _ (by omega) d
  have vh : ∀ (j : Fin 256) (d : Fin 64), whole V (Fin.ofNat 2048 (256 * n + j.val)) (Fin.ofNat 128 (64 + d.val)) = hi V (256 * n + j.val) d := fun j d => whole_hi V _ (by omega) d
  refine congrArg₂ Prod.mk (congrArg₂ Prod.mk ?_ (congrArg₂ Prod.mk ?_ (congrArg₂ Prod.mk ?_ (congrArg₂ Prod.mk ?_ (congrArg₂ Prod.mk ?_ ?_))))) (congrArg₂ Prod.mk ?_ ?_)
  · exact congrArg up (funext fun i => funext fun x => blc_eq (lo A) (lo K) (fun i : Fin 512 => 512 * b + i.val) (256 * n) all hP _ _ _ (fun _ _ => rfl) kl (fun _ _ => rfl) i x)
  · exact congrArg up (funext fun i => funext fun x => bgc_eq (lo A) (lo K) (lo V) (lo O) (fun i : Fin 512 => 512 * b + i.val) (256 * n) all hP after (fun _ _ => rfl) _ _ _ _ _ _ _ (fun _ _ => rfl) (fun _ _ => rfl) kl vl (fun _ _ => rfl) (fun _ _ => rfl) (fun _ _ => rfl) i x)
  · exact congrArg up (funext fun i => funext fun x => bdq_eq (lo A) (lo K) (lo V) (lo O) (fun i : Fin 512 => 512 * b + i.val) (256 * n) all hP after before (fun _ _ => rfl) (fun _ _ => rfl) _ _ _ _ _ _ _ _ (fun _ _ => rfl) (fun _ _ => rfl) kl vl (fun _ _ => rfl) (fun _ _ => rfl) (fun _ _ => rfl) (fun _ _ => rfl) i x)
  · exact congrArg up (funext fun i => funext fun x => blc_eq (hi A) (hi K) (fun i : Fin 512 => 512 * b + i.val) (256 * n) all hP _ _ _ (fun _ _ => rfl) kh (fun _ _ => rfl) i x)
  · exact congrArg up (funext fun i => funext fun x => bgc_eq (hi A) (hi K) (hi V) (hi O) (fun i : Fin 512 => 512 * b + i.val) (256 * n) all hP after (fun _ _ => rfl) _ _ _ _ _ _ _ (fun _ _ => rfl) (fun _ _ => rfl) kh vh (fun _ _ => rfl) (fun _ _ => rfl) (fun _ _ => rfl) i x)
  · exact congrArg up (funext fun i => funext fun x => bdq_eq (hi A) (hi K) (hi V) (hi O) (fun i : Fin 512 => 512 * b + i.val) (256 * n) all hP after before (fun _ _ => rfl) (fun _ _ => rfl) _ _ _ _ _ _ _ _ (fun _ _ => rfl) (fun _ _ => rfl) kh vh (fun _ _ => rfl) (fun _ _ => rfl) (fun _ _ => rfl) (fun _ _ => rfl) i x)
  · refine congrArg ups (funext fun a => funext fun d => funext fun c => ?_)
    by_cases ha : a.val = n
    · rw [if_pos ha, if_neg (by omega), if_pos (by omega), DK_next, ha]
      refine congrArg (_ + ·) (Finset.sum_congr rfl fun i _ => congrArg (_ * ·) ?_)
      unfold DZ
      refine if_congr Iff.rfl ?_ ?_
      · exact bdz_eq (lo A) (lo K) (lo V) (lo O) (fun i : Fin 512 => 512 * b + i.val) (256 * n) all hP after before (fun _ _ => rfl) (fun _ _ => rfl) _ _ _ _ _ _ _ (fun _ _ => rfl) (fun _ _ => rfl) kl vl (fun _ _ => rfl) (fun _ _ => rfl) (fun _ _ => rfl) i c
      · exact bdz_eq (hi A) (hi K) (hi V) (hi O) (fun i : Fin 512 => 512 * b + i.val) (256 * n) all hP after before (fun _ _ => rfl) (fun _ _ => rfl) _ _ _ _ _ _ _ (fun _ _ => rfl) (fun _ _ => rfl) kh vh (fun _ _ => rfl) (fun _ _ => rfl) (fun _ _ => rfl) i c
    · rw [if_neg ha]
      exact if_congr (by omega) rfl rfl
  · refine congrArg ups (funext fun a => funext fun d => funext fun c => ?_)
    by_cases ha : a.val = n
    · rw [if_pos ha, if_neg (by omega), if_pos (by omega), DV_next, ha]
      refine congrArg (_ + ·) (Finset.sum_congr rfl fun i _ => congrArg (_ * ·) ?_)
      unfold AA
      refine if_congr Iff.rfl ?_ ?_
      · exact ba_eq (lo A) (lo K) (fun i : Fin 512 => 512 * b + i.val) (256 * n) all hP after (fun _ _ => rfl) _ _ _ _ (fun _ _ => rfl) kl (fun _ _ => rfl) (fun _ _ => rfl) i c
      · exact ba_eq (hi A) (hi K) (fun i : Fin 512 => 512 * b + i.val) (256 * n) all hP after (fun _ _ => rfl) _ _ _ _ (fun _ _ => rfl) kh (fun _ _ => rfl) (fun _ _ => rfl) i c
    · rw [if_neg ha]
      exact if_congr (by omega) rfl rfl

/-- The first loop visits the blocks before the tile's own. -/
theorem loop_up (hb : b < 4) (n : ℕ) (hn : n ≤ 2 * b) :
    tripsFrom (F := Ideal) (up after) (up before) (up fun d i => rows b A i d) (up fun d i => rows b O i d) (up fun i d => lo A (512 * b + i.val) d) (up fun i d => hi A (512 * b + i.val) d)
      (up fun i d => lo O (512 * b + i.val) d) (up fun i d => hi O (512 * b + i.val) d) (up fun i _ => lc (lo A) (lo K) (512 * b + i.val) 2048) (up fun i _ => lc (hi A) (hi K) (512 * b + i.val) 2048)
      (up (φ := .bf16) (whole K)) (up (φ := .bf16) (whole V)) 0 (carryAt A K V O b 0, accK A K V O b 0, accV A K O b 0) n
    = (carryAt A K V O b (256 * n), accK A K V O b n, accV A K O b n) := by
  induction n with
  | zero => rfl
  | succ n ih =>
    unfold tripsFrom
    rw [ih (by omega)]
    dsimp only
    rw [Nat.zero_add, trip_at A K V O b hb n (by omega)]
    rfl

/-- The diagonal blocks. -/
theorem diag_at (hb : b < 4) :
    diag (F := Ideal) ⟨bits fun i j => decide (j.val < i.val), bits fun i j => decide (j.val + 256 < i.val), up after, up before, up fun d i => rows b A i d, up fun d i => rows b O i d,
        up fun i d => lo A (512 * b + i.val) d, up fun i d => hi A (512 * b + i.val) d, up fun i d => lo O (512 * b + i.val) d, up fun i d => hi O (512 * b + i.val) d,
        up fun i _ => lc (lo A) (lo K) (512 * b + i.val) 2048, up fun i _ => lc (hi A) (hi K) (512 * b + i.val) 2048⟩
      (up (φ := .bf16) (whole K)) (up (φ := .bf16) (whole V)) (2 * b) (carryAt A K V O b (256 * (2 * b))) (accK A K V O b (2 * b)) (accV A K O b (2 * b))
    = (up (φ := .bf16) fun i d => DQ A K V O (512 * b + i.val) d, accK A K V O b 8, accV A K O b 8) := by
  have hP : ∀ (i : Fin 512) (j : Fin 256), (fun (i : Fin 512) (j : Fin 256) => decide (j.val < i.val)) i j = decide (512 * b + j.val < 512 * b + i.val) := fun i j => decide_eq_decide.2 (by omega)
  have hR : ∀ (i : Fin 256) (j : Fin 256), low (fun (i : Fin 512) (j : Fin 256) => decide (j.val + 256 < i.val)) i j = decide (512 * b + 256 + j.val < 512 * b + 256 + i.val) :=
    fun i j => decide_eq_decide.2 (by show j.val + 256 < 256 + i.val ↔ _; omega)
  have e0 : 256 * (2 * b) = 512 * b := by omega
  have e1 : 256 * (2 * b + 1) = 512 * b + 256 := by omega
  have et : ∀ i : Fin 256, 512 * b + (256 + i.val) = 512 * b + 256 + i.val := fun i => by omega
  unfold carryAt accK accV
  rw [e0, diag_up _ _ after before (fun d i => rows b A i d) (fun d i => rows b O i d) _ _ _ _ _ _ _ _ _ _ _ _ (whole K) (whole V) (2 * b) (by omega) _ _ _ _ _ _ _ _ _ _ rfl rfl rfl rfl rfl rfl rfl rfl, halves_up]
  have kl : ∀ (j : Fin 256) (d : Fin 64), whole K (Fin.ofNat 2048 (256 * (2 * b) + j.val)) (Fin.ofNat 128 (0 + d.val)) = lo K (512 * b + j.val) d := fun j d => by rw [e0]; exact whole_lo K _ (by omega) d
  have kh : ∀ (j : Fin 256) (d : Fin 64), whole K (Fin.ofNat 2048 (256 * (2 * b) + j.val)) (Fin.ofNat 128 (64 + d.val)) = hi K (512 * b + j.val) d := fun j d => by rw [e0]; exact whole_hi K _ (by omega) d
  have vl : ∀ (j : Fin 256) (d : Fin 64), whole V (Fin.ofNat 2048 (256 * (2 * b) + j.val)) (Fin.ofNat 128 (0 + d.val)) = lo V (512 * b + j.val) d := fun j d => by rw [e0]; exact whole_lo V _ (by omega) d
  have vh : ∀ (j : Fin 256) (d : Fin 64), whole V (Fin.ofNat 2048 (256 * (2 * b) + j.val)) (Fin.ofNat 128 (64 + d.val)) = hi V (512 * b + j.val) d := fun j d => by rw [e0]; exact whole_hi V _ (by omega) d
  have ml : ∀ (j : Fin 256) (d : Fin 64), whole K (Fin.ofNat 2048 (256 * (2 * b + 1) + j.val)) (Fin.ofNat 128 (0 + d.val)) = lo K (512 * b + 256 + j.val) d := fun j d => by rw [e1]; exact whole_lo K _ (by omega) d
  have mh : ∀ (j : Fin 256) (d : Fin 64), whole K (Fin.ofNat 2048 (256 * (2 * b + 1) + j.val)) (Fin.ofNat 128 (64 + d.val)) = hi K (512 * b + 256 + j.val) d := fun j d => by rw [e1]; exact whole_hi K _ (by omega) d
  have nl : ∀ (j : Fin 256) (d : Fin 64), whole V (Fin.ofNat 2048 (256 * (2 * b + 1) + j.val)) (Fin.ofNat 128 (0 + d.val)) = lo V (512 * b + 256 + j.val) d := fun j d => by rw [e1]; exact whole_lo V _ (by omega) d
  have nh : ∀ (j : Fin 256) (d : Fin 64), whole V (Fin.ofNat 2048 (256 * (2 * b + 1) + j.val)) (Fin.ofNat 128 (64 + d.val)) = hi V (512 * b + 256 + j.val) d := fun j d => by rw [e1]; exact whole_hi V _ (by omega) d
  have cl := fun i x => blc_eq (lo A) (lo K) (fun i : Fin 512 => 512 * b + i.val) (512 * b) (fun i j => decide (j.val < i.val)) hP _ _ _ (fun _ _ => rfl) kl (fun _ _ => rfl) i x
  have ch := fun i x => blc_eq (hi A) (hi K) (fun i : Fin 512 => 512 * b + i.val) (512 * b) (fun i j => decide (j.val < i.val)) hP _ _ _ (fun _ _ => rfl) kh (fun _ _ => rfl) i x
  have gl := fun i x => bgc_eq (lo A) (lo K) (lo V) (lo O) (fun i : Fin 512 => 512 * b + i.val) (512 * b) (fun i j => decide (j.val < i.val)) hP after (fun _ _ => rfl) _ _ _ _ _ _ _ (fun _ _ => rfl) (fun _ _ => rfl) kl vl (fun _ _ => rfl) (fun _ _ => rfl) (fun _ _ => rfl) i x
  have gh := fun i x => bgc_eq (hi A) (hi K) (hi V) (hi O) (fun i : Fin 512 => 512 * b + i.val) (512 * b) (fun i j => decide (j.val < i.val)) hP after (fun _ _ => rfl) _ _ _ _ _ _ _ (fun _ _ => rfl) (fun _ _ => rfl) kh vh (fun _ _ => rfl) (fun _ _ => rfl) (fun _ _ => rfl) i x
  have dl := fun i x => bdq_eq (lo A) (lo K) (lo V) (lo O) (fun i : Fin 512 => 512 * b + i.val) (512 * b) (fun i j => decide (j.val < i.val)) hP after before (fun _ _ => rfl) (fun _ _ => rfl) _ _ _ _ _ _ _ _ (fun _ _ => rfl) (fun _ _ => rfl) kl vl (fun _ _ => rfl) (fun _ _ => rfl) (fun _ _ => rfl) (fun _ _ => rfl) i x
  have dh := fun i x => bdq_eq (hi A) (hi K) (hi V) (hi O) (fun i : Fin 512 => 512 * b + i.val) (512 * b) (fun i j => decide (j.val < i.val)) hP after before (fun _ _ => rfl) (fun _ _ => rfl) _ _ _ _ _ _ _ _ (fun _ _ => rfl) (fun _ _ => rfl) kh vh (fun _ _ => rfl) (fun _ _ => rfl) (fun _ _ => rfl) (fun _ _ => rfl) i x
  have zl := fun i x => bdz_eq (lo A) (lo K) (lo V) (lo O) (fun i : Fin 512 => 512 * b + i.val) (512 * b) (fun i j => decide (j.val < i.val)) hP after before (fun _ _ => rfl) (fun _ _ => rfl) _ _ _ _ _ _ _ (fun _ _ => rfl) (fun _ _ => rfl) kl vl (fun _ _ => rfl) (fun _ _ => rfl) (fun _ _ => rfl) i x
  have zh := fun i x => bdz_eq (hi A) (hi K) (hi V) (hi O) (fun i : Fin 512 => 512 * b + i.val) (512 * b) (fun i j => decide (j.val < i.val)) hP after before (fun _ _ => rfl) (fun _ _ => rfl) _ _ _ _ _ _ _ (fun _ _ => rfl) (fun _ _ => rfl) kh vh (fun _ _ => rfl) (fun _ _ => rfl) (fun _ _ => rfl) i x
  have al := fun i x => ba_eq (lo A) (lo K) (fun i : Fin 512 => 512 * b + i.val) (512 * b) (fun i j => decide (j.val < i.val)) hP after (fun _ _ => rfl) _ _ _ _ (fun _ _ => rfl) kl (fun _ _ => rfl) (fun _ _ => rfl) i x
  have ah := fun i x => ba_eq (hi A) (hi K) (fun i : Fin 512 => 512 * b + i.val) (512 * b) (fun i j => decide (j.val < i.val)) hP after (fun _ _ => rfl) _ _ _ _ (fun _ _ => rfl) kh (fun _ _ => rfl) (fun _ _ => rfl) i x
  have Dl := fun i x => bdq_eq (lo A) (lo K) (lo V) (lo O) (fun i : Fin 256 => 512 * b + 256 + i.val) (512 * b + 256) _ hR after before (fun _ _ => rfl) (fun _ _ => rfl) _ _ _ _ _ _ _ _ (fun i d => congrArg (lo A · d) (et i)) (fun i d => congrArg (lo O · d) (et i)) ml nl (fun i x => (cl ⟨256 + i.val, by omega⟩ x).trans (by rw [et])) (fun i x => (gl ⟨256 + i.val, by omega⟩ x).trans (by rw [et])) (fun i _ => congrArg (lc (lo A) (lo K) · 2048) (et i)) (fun i d => (dl ⟨256 + i.val, by omega⟩ d).trans (by rw [et])) i x
  have Dh := fun i x => bdq_eq (hi A) (hi K) (hi V) (hi O) (fun i : Fin 256 => 512 * b + 256 + i.val) (512 * b + 256) _ hR after before (fun _ _ => rfl) (fun _ _ => rfl) _ _ _ _ _ _ _ _ (fun i d => congrArg (hi A · d) (et i)) (fun i d => congrArg (hi O · d) (et i)) mh nh (fun i x => (ch ⟨256 + i.val, by omega⟩ x).trans (by rw [et])) (fun i x => (gh ⟨256 + i.val, by omega⟩ x).trans (by rw [et])) (fun i _ => congrArg (lc (hi A) (hi K) · 2048) (et i)) (fun i d => (dh ⟨256 + i.val, by omega⟩ d).trans (by rw [et])) i x
  have Zl := fun i x => bdz_eq (lo A) (lo K) (lo V) (lo O) (fun i : Fin 256 => 512 * b + 256 + i.val) (512 * b + 256) _ hR after before (fun _ _ => rfl) (fun _ _ => rfl) _ _ _ _ _ _ _ (fun i d => congrArg (lo A · d) (et i)) (fun i d => congrArg (lo O · d) (et i)) ml nl (fun i x => (cl ⟨256 + i.val, by omega⟩ x).trans (by rw [et])) (fun i x => (gl ⟨256 + i.val, by omega⟩ x).trans (by rw [et])) (fun i _ => congrArg (lc (lo A) (lo K) · 2048) (et i)) i x
  have Zh := fun i x => bdz_eq (hi A) (hi K) (hi V) (hi O) (fun i : Fin 256 => 512 * b + 256 + i.val) (512 * b + 256) _ hR after before (fun _ _ => rfl) (fun _ _ => rfl) _ _ _ _ _ _ _ (fun i d => congrArg (hi A · d) (et i)) (fun i d => congrArg (hi O · d) (et i)) mh nh (fun i x => (ch ⟨256 + i.val, by omega⟩ x).trans (by rw [et])) (fun i x => (gh ⟨256 + i.val, by omega⟩ x).trans (by rw [et])) (fun i _ => congrArg (lc (hi A) (hi K) · 2048) (et i)) i x
  have Al := fun i x => ba_eq (lo A) (lo K) (fun i : Fin 256 => 512 * b + 256 + i.val) (512 * b + 256) _ hR after (fun _ _ => rfl) _ _ _ _ (fun i d => congrArg (lo A · d) (et i)) ml (fun i x => (cl ⟨256 + i.val, by omega⟩ x).trans (by rw [et])) (fun i _ => congrArg (lc (lo A) (lo K) · 2048) (et i)) i x
  have Ah := fun i x => ba_eq (hi A) (hi K) (fun i : Fin 256 => 512 * b + 256 + i.val) (512 * b + 256) _ hR after (fun _ _ => rfl) _ _ _ _ (fun i d => congrArg (hi A · d) (et i)) mh (fun i x => (ch ⟨256 + i.val, by omega⟩ x).trans (by rw [et])) (fun i _ => congrArg (lc (hi A) (hi K) · 2048) (et i)) i x
  refine congrArg₂ Prod.mk ?_ (congrArg₂ Prod.mk ?_ ?_)
  · refine congrArg up (funext fun i => funext fun d => ?_)
    unfold DQ
    refine if_congr Iff.rfl ?_ ?_
    · refine congrArg (· * (1 / 8 : ℝ)) ?_
      by_cases h : i.val < 256
      · rw [dif_pos h]
        exact (dl ⟨i.val, by omega⟩ _).trans (dq_top _ _ _ _ (by show 512 * b + i.val ≤ _; omega) (by omega) _)
      · rw [dif_neg h]
        refine (Dl ⟨i.val - 256, by omega⟩ _).trans ((dq_top _ _ _ _ (by show 512 * b + 256 + (i.val - 256) ≤ _; omega) (by omega) _).trans ?_)
        rw [show 512 * b + 256 + (⟨i.val - 256, by omega⟩ : Fin 256).val = 512 * b + i.val from by show 512 * b + 256 + (i.val - 256) = _; omega]
    · refine congrArg (· * (1 / 8 : ℝ)) ?_
      by_cases h : i.val < 256
      · rw [dif_pos h]
        exact (dh ⟨i.val, by omega⟩ _).trans (dq_top _ _ _ _ (by show 512 * b + i.val ≤ _; omega) (by omega) _)
      · rw [dif_neg h]
        refine (Dh ⟨i.val - 256, by omega⟩ _).trans ((dq_top _ _ _ _ (by show 512 * b + 256 + (i.val - 256) ≤ _; omega) (by omega) _).trans ?_)
        rw [show 512 * b + 256 + (⟨i.val - 256, by omega⟩ : Fin 256).val = 512 * b + i.val from by show 512 * b + 256 + (i.val - 256) = _; omega]
  · refine congrArg ups (funext fun a => funext fun d => funext fun c => ?_)
    rw [if_pos (show a.val < 8 from a.isLt)]
    by_cases h1 : a.val = 2 * b + 1
    · rw [if_pos h1, if_neg (by omega), if_neg (by omega), show 256 * a.val + c.val = 512 * b + 256 + c.val from by omega, DK_low _ _ _ _ _ _ _ (by omega)]
      refine congrArg (_ + ·) (Finset.sum_congr rfl fun i _ => congrArg₂ (· * ·) (congrArg (A · d) (et i)) ?_)
      unfold DZ
      exact if_congr Iff.rfl (Zl i c) (Zh i c)
    · rw [if_neg h1]
      by_cases h0 : a.val = 2 * b
      · rw [if_pos h0, if_neg (by omega), show 256 * a.val + c.val = 512 * b + c.val from by omega, DK_next]
        refine congrArg (_ + ·) (Finset.sum_congr rfl fun i _ => congrArg (_ * ·) ?_)
        unfold DZ
        exact if_congr Iff.rfl (zl i c) (zh i c)
      · rw [if_neg h0]
        by_cases h2 : a.val < 2 * b
        · rw [if_pos h2]
        · rw [if_neg h2, DK_none _ _ _ _ _ _ _ (by omega)]
  · refine congrArg ups (funext fun a => funext fun d => funext fun c => ?_)
    rw [if_pos (show a.val < 8 from a.isLt)]
    by_cases h1 : a.val = 2 * b + 1
    · rw [if_pos h1, if_neg (by omega), if_neg (by omega), show 256 * a.val + c.val = 512 * b + 256 + c.val from by omega, DV_low _ _ _ _ _ _ (by omega)]
      refine congrArg (_ + ·) (Finset.sum_congr rfl fun i _ => congrArg₂ (· * ·) (congrArg (O · d) (et i)) ?_)
      unfold AA
      exact if_congr Iff.rfl (Al i c) (Ah i c)
    · rw [if_neg h1]
      by_cases h0 : a.val = 2 * b
      · rw [if_pos h0, if_neg (by omega), show 256 * a.val + c.val = 512 * b + c.val from by omega, DV_next]
        refine congrArg (_ + ·) (Finset.sum_congr rfl fun i _ => congrArg (_ * ·) ?_)
        unfold AA
        exact if_congr Iff.rfl (al i c) (ah i c)
      · rw [if_neg h0]
        by_cases h2 : a.val < 2 * b
        · rw [if_pos h2]
        · rw [if_neg h2, DV_none _ _ _ _ _ _ (by omega)]

/-- A whole point at query tile `b`: the queries' gradient of its rows, and the accumulators with its rows. -/
theorem point_up (i : grid0.Coords) (h2 : (i 2).val = b) (q : ℕ → Fin 128 → ℝ) (hq : ∀ t d, q t d * (1 / 8) = A t d) :
    point (F := Ideal) i (up (φ := .bf16) (rows b q)) (up (φ := .bf16) (rows b O)) (totals (fun r => lc (lo A) (lo K) (512 * b + r.val) 2048) (fun r => lc (hi A) (hi K) (512 * b + r.val) 2048))
      (up (φ := .bf16) (whole K)) (up (φ := .bf16) (whole V)) (accK A K V O b 0) (accV A K O b 0)
    = (up (φ := .bf16) fun i d => DQ A K V O (512 * b + i.val) d, accK A K V O b 8, accV A K O b 8) := by
  have hb : b < 4 := h2 ▸ (i 2).isLt
  have e33 : k0_pay75 (F := Ideal) (up (φ := .bf16) (rows b q)) = up (φ := .bf16) fun i d => lo A (512 * b + i.val) d := by
    rw [pay75_up]
    refine congrArg up (funext fun i => funext fun d => (hq _ _).trans (congrArg (A _) (Fin.ext ?_)))
    show d.val = (0 + d.val) % 128; omega
  have e34 : k0_pay76 (F := Ideal) (up (φ := .bf16) (rows b q)) = up (φ := .bf16) fun i d => hi A (512 * b + i.val) d := by
    rw [pay76_up]
    refine congrArg up (funext fun i => funext fun d => (hq _ _).trans (congrArg (A _) (Fin.ext ?_)))
    show 64 + d.val = (64 + d.val) % 128; omega
  have e35 : k0_pay77 (F := Ideal) (up (φ := .bf16) (rows b O)) = up (φ := .bf16) fun i d => lo O (512 * b + i.val) d := by
    rw [pay77_up]
    refine congrArg up (funext fun i => funext fun d => congrArg (O _) (Fin.ext ?_))
    show d.val = (0 + d.val) % 128; omega
  have e36 : k0_pay78 (F := Ideal) (up (φ := .bf16) (rows b O)) = up (φ := .bf16) fun i d => hi O (512 * b + i.val) d := by
    rw [pay78_up]
    refine congrArg up (funext fun i => funext fun d => congrArg (O _) (Fin.ext ?_))
    show 64 + d.val = (64 + d.val) % 128; omega
  have e29 : k0_pay73 (F := Ideal) (up (φ := .bf16) (rows b q)) = up (φ := .bf16) fun d i => rows b A i d := by
    rw [pay73_up]
    exact congrArg up (funext fun d => funext fun i => hq _ _)
  have ec : (carry0 : Carry Ideal) = carryAt A K V O b 0 := by
    unfold carry0 carryAt
    rw [pay81_up, pay83_up]
    rfl
  unfold point pt firstBlk
  dsimp only
  rw [word_eight, visited_eight, h2, Nat.sub_self, e33, e34, e35, e36, e29, pay74_up, pay79_up, pay80_up, pay68_up, pay69_up, show k0_pay70 (F := Ideal) = up after from pay70_up, show k0_pay71 (F := Ideal) = up before from pay71_up, ec,
    loop_up A K V O b hb (2 * b) le_rfl]
  exact diag_at A K V O b hb

end loop

end Cert.KernelIdeal.Gen
-- ==== Proof.ArrayVal.lean ====
/- The arrays the grid leaves, at arguments whose entries are real numbers. -/
module

public import proofs.«01_k».proof.Proof.PointVal
public import proofs.«01_k».proof.Proof.Data
public import Idealize.ShloMosaic.Lib.Pipeline.ValueKit

@[expose] public section

set_option maxRecDepth 16384
set_option maxHeartbeats 1000000

noncomputable section

namespace Cert.Rows

variable (X Y : ℕ → ℕ → ℝ) (b p : ℕ)

/-- The queries of batch `b` and head pair `p`, out of the array of queries, keys and values. -/
def hq (t : ℕ) (d : Fin 128) : ℝ := X (2048 * b + t) (128 * p + d.val)
/-- The same queries times an eighth. -/
def hA (t : ℕ) (d : Fin 128) : ℝ := X (2048 * b + t) (128 * p + d.val) * (1 / 8)
/-- The keys of the pair. -/
def hK (t : ℕ) (d : Fin 128) : ℝ := X (2048 * b + t) (2048 + 128 * p + d.val)
/-- The values of the pair. -/
def hV (t : ℕ) (d : Fin 128) : ℝ := X (2048 * b + t) (4096 + 128 * p + d.val)
/-- The gradient of the pair's output. -/
def hO (t : ℕ) (d : Fin 128) : ℝ := Y (2048 * b + t) (128 * p + d.val)

end Cert.Rows

namespace Cert.KernelIdeal.Gen

open Idealize.ShloMosaic Idealize.ShloMosaic.TcCoe Idealize.ShloMosaic.Tactic Idealize.ShloMosaic.Pipeline
open Idealize.SL Idealize.SL.RA Idealize.SL.BI Idealize.SL.Sem
open Cert.Rows

/-- Where the windows' blocks lie, from a point's number: batch `t / 64`, head pair `t / 4 % 16`, query tile `t % 4`. -/
theorem places : ∀ t : Fin cfg0.N,
    win0_0.index t = ![t.val / 64 * 4 + t.val % 4, t.val / 4 % 16] ∧ win0_1.index t = ![t.val / 64, 16 + t.val / 4 % 16] ∧
    win0_2.index t = ![t.val / 64, 32 + t.val / 4 % 16] ∧ win0_3.index t = ![t.val / 64 * 4 + t.val % 4, t.val / 4 % 16] ∧
    win0_4.index t = ![t.val / 64, t.val / 4 % 16, t.val % 4, 0] ∧ win0_5.index t = ![t.val / 64 * 4 + t.val % 4, t.val / 4 % 16] ∧
    win0_6.index t = ![t.val / 64, t.val / 4 % 16] ∧ win0_7.index t = ![t.val / 64, t.val / 4 % 16] := by decide +kernel

variable (m : (ℓ : Loc nD τ sig) → Buf (Elt Ideal) ℓ) (c : Dev nD) (X Y : ℕ → ℕ → ℝ)

/-- The row totals as the grid reads them: of each row the two heads' totals and the number of 256-lane blocks of the keys. -/
def totalsOf : Vec Ideal S4x16x2048x3 .f32 := fun y =>
  if (y 3).val = 0 then ((lc (lo (hA X (y 0).val (y 1).val)) (lo (hK X (y 0).val (y 1).val)) (y 2).val 2048 : ℝ) : EReal)
  else if (y 3).val = 1 then ((lc (hi (hA X (y 0).val (y 1).val)) (hi (hK X (y 0).val (y 1).val)) (y 2).val 2048 : ℝ) : EReal)
  else ((8 : ℝ) : EReal)

variable (h0 : V m c main_arg0 = up (φ := .bf16) fun (r : Fin 8192) (s : Fin 6144) => X r.val s.val)
variable (h1 : V m c main_arg1 = up (φ := .bf16) fun (r : Fin 8192) (s : Fin 2048) => Y r.val s.val)
variable (h2 : V m c main_v25 = totalsOf X)

include h0 in
/-- The tile of queries at a point. -/
theorem blk_q (t : Fin cfg0.N) : iblk m c 0 t = up (φ := .bf16) (rows (t.val % 4) (hq X (t.val / 64) (t.val / 4 % 16))) := by
  funext y
  obtain ⟨e, -⟩ := places t
  blk_simp [iblk, e]
  show V m c main_arg0 _ = _
  rw [h0]
  show ((_ : ℝ) : EReal) = ((_ : ℝ) : EReal)
  refine congrArg (fun r : ℝ => (r : EReal)) (congrArg₂ _ ?_ ?_)
  · blk_simp [e]; omega
  · blk_simp [e]; omega

include h0 in
/-- The keys at a point. -/
theorem blk_k (t : Fin cfg0.N) : iblk m c 1 t = up (φ := .bf16) (whole (hK X (t.val / 64) (t.val / 4 % 16))) := by
  funext y
  obtain ⟨-, e, -⟩ := places t
  blk_simp [iblk, e]
  show V m c main_arg0 _ = _
  rw [h0]
  show ((_ : ℝ) : EReal) = ((_ : ℝ) : EReal)
  refine congrArg (fun r : ℝ => (r : EReal)) (congrArg₂ _ ?_ ?_)
  · blk_simp [e]; omega
  · blk_simp [e]; omega

include h0 in
/-- The values at a point. -/
theorem blk_v (t : Fin cfg0.N) : iblk m c 2 t = up (φ := .bf16) (whole (hV X (t.val / 64) (t.val / 4 % 16))) := by
  funext y
  obtain ⟨-, -, e, -⟩ := places t
  blk_simp [iblk, e]
  show V m c main_arg0 _ = _
  rw [h0]
  show ((_ : ℝ) : EReal) = ((_ : ℝ) : EReal)
  refine congrArg (fun r : ℝ => (r : EReal)) (congrArg₂ _ ?_ ?_)
  · blk_simp [e]; omega
  · blk_simp [e]; omega

include h1 in
/-- The tile of the output gradient at a point. -/
theorem blk_o (t : Fin cfg0.N) : iblk m c 3 t = up (φ := .bf16) (rows (t.val % 4) (hO Y (t.val / 64) (t.val / 4 % 16))) := by
  funext y
  obtain ⟨-, -, -, e, -⟩ := places t
  blk_simp [iblk, e]
  show V m c main_arg1 _ = _
  rw [h1]
  show ((_ : ℝ) : EReal) = ((_ : ℝ) : EReal)
  refine congrArg (fun r : ℝ => (r : EReal)) (congrArg₂ _ ?_ ?_)
  · blk_simp [e]; omega
  · blk_simp [e]; omega

include h2 in
/-- The rows' totals at a point. -/
theorem blk_t (t : Fin cfg0.N) : iblk m c 4 t =
    totals (fun r => lc (lo (hA X (t.val / 64) (t.val / 4 % 16))) (lo (hK X (t.val / 64) (t.val / 4 % 16))) (512 * (t.val % 4) + r.val) 2048)
      (fun r => lc (hi (hA X (t.val / 64) (t.val / 4 % 16))) (hi (hK X (t.val / 64) (t.val / 4 % 16))) (512 * (t.val % 4) + r.val) 2048) := by
  funext y
  obtain ⟨-, -, -, -, e, -⟩ := places t
  have y0 : (y 0).val < 1 := (y 0).isLt
  have y1 : (y 1).val < 1 := (y 1).isLt
  blk_simp [iblk, e]
  show V m c main_v25 _ = _
  rw [h2]
  have e0 : (((win0_4.blk t).view.emb y) 0).val = t.val / 64 := by blk_simp [e]
  have e1 : (((win0_4.blk t).view.emb y) 1).val = t.val / 4 % 16 := by blk_simp [e]
  have e2 : (((win0_4.blk t).view.emb y) 2).val = 512 * (t.val % 4) + (y 2).val := by blk_simp [e]; omega
  have e3 : (((win0_4.blk t).view.emb y) 3).val = (y 3).val := by blk_simp [e]
  show totalsOf X ((win0_4.blk t).view.emb y) = _
  unfold totalsOf
  rw [e0, e1, e2, e3]
  rfl

include h0 h1 h2 in
/-- What a point computes from accumulators that hold the earlier tiles' rows. -/
theorem point_at (t : Fin cfg0.N) (s : Scr Ideal × Scr Ideal)
    (hs : t.val % 4 ≠ 0 → s = (accK (hA X (t.val / 64) (t.val / 4 % 16)) (hK X (t.val / 64) (t.val / 4 % 16)) (hV X (t.val / 64) (t.val / 4 % 16)) (hO Y (t.val / 64) (t.val / 4 % 16)) (t.val % 4) 0, accV (hA X (t.val / 64) (t.val / 4 % 16)) (hK X (t.val / 64) (t.val / 4 % 16)) (hO Y (t.val / 64) (t.val / 4 % 16)) (t.val % 4) 0)) :
    pointAt m c t s = (up (φ := .bf16) fun i d => DQ (hA X (t.val / 64) (t.val / 4 % 16)) (hK X (t.val / 64) (t.val / 4 % 16)) (hV X (t.val / 64) (t.val / 4 % 16)) (hO Y (t.val / 64) (t.val / 4 % 16)) (512 * (t.val % 4) + i.val) d,
      accK (hA X (t.val / 64) (t.val / 4 % 16)) (hK X (t.val / 64) (t.val / 4 % 16)) (hV X (t.val / 64) (t.val / 4 % 16)) (hO Y (t.val / 64) (t.val / 4 % 16)) (t.val % 4) 8, accV (hA X (t.val / 64) (t.val / 4 % 16)) (hK X (t.val / 64) (t.val / 4 % 16)) (hO Y (t.val / 64) (t.val / 4 % 16)) (t.val % 4) 8) := by
  unfold pointAt
  rw [blk_q m c X h0, blk_k m c X h0, blk_v m c X h0, blk_o m c Y h1, blk_t m c X h2]
  have hc : ((cfg0.grid.coords t) 2).val = t.val % 4 := coord2 t
  rw [← point_up (hA X (t.val / 64) (t.val / 4 % 16)) (hK X (t.val / 64) (t.val / 4 % 16)) (hV X (t.val / 64) (t.val / 4 % 16)) (hO Y (t.val / 64) (t.val / 4 % 16)) (t.val % 4) (cfg0.grid.coords t) hc (hq X (t.val / 64) (t.val / 4 % 16)) (fun _ _ => rfl)]
  by_cases h : t.val % 4 = 0
  · rw [if_pos (hc.trans h), if_pos (hc.trans h), h, pay66_up, pay67_up]
    refine congrArg₂ _ ?_ ?_
    · unfold accK
      refine congrArg ups ?_
      funext a d k
      simp only [Nat.not_lt_zero, if_false, Nat.mul_zero, DK, Finset.range_zero, Finset.sum_empty]
    · unfold accV
      refine congrArg ups ?_
      funext a d k
      simp only [Nat.not_lt_zero, if_false, Nat.mul_zero, DV, Finset.range_zero, Finset.sum_empty]
  · rw [if_neg (by rw [hc]; exact h), if_neg (by rw [hc]; exact h), hs h]

include h0 h1 h2 in
/-- The accumulators before a point that is not its head pair's first hold the earlier tiles' rows. -/
theorem accs_at (n : ℕ) (hn : n < cfg0.N) (h : n % 4 ≠ 0) :
    accs m c n = (accK (hA X (n / 64) (n / 4 % 16)) (hK X (n / 64) (n / 4 % 16)) (hV X (n / 64) (n / 4 % 16)) (hO Y (n / 64) (n / 4 % 16)) (n % 4) 0,
      accV (hA X (n / 64) (n / 4 % 16)) (hK X (n / 64) (n / 4 % 16)) (hO Y (n / 64) (n / 4 % 16)) (n % 4) 0) := by
  induction n with
  | zero => exact absurd rfl h
  | succ n ih =>
    rw [accs_succ m c ⟨n, by omega⟩, point_at m c X Y h0 h1 h2 ⟨n, by omega⟩ (accs m c n) (fun h' => ih (by omega) h')]
    dsimp only
    rw [show (n + 1) / 64 = n / 64 from by omega, show (n + 1) / 4 % 16 = n / 4 % 16 from by omega, show (n + 1) % 4 = n % 4 + 1 from by omega]
    unfold accK accV
    have e : ∀ a : Fin 8, a.val < 8 := fun a => a.isLt
    simp only [e, Nat.not_lt_zero, if_true, if_false, show 512 * (n % 4 + 1) = 512 * (n % 4) + 512 from by omega]

include h0 h1 h2 in
/-- What a point computes. -/
theorem out_at (t : Fin cfg0.N) :
    out m c t = (up (φ := .bf16) fun i d => DQ (hA X (t.val / 64) (t.val / 4 % 16)) (hK X (t.val / 64) (t.val / 4 % 16)) (hV X (t.val / 64) (t.val / 4 % 16)) (hO Y (t.val / 64) (t.val / 4 % 16)) (512 * (t.val % 4) + i.val) d,
      accK (hA X (t.val / 64) (t.val / 4 % 16)) (hK X (t.val / 64) (t.val / 4 % 16)) (hV X (t.val / 64) (t.val / 4 % 16)) (hO Y (t.val / 64) (t.val / 4 % 16)) (t.val % 4) 8, accV (hA X (t.val / 64) (t.val / 4 % 16)) (hK X (t.val / 64) (t.val / 4 % 16)) (hO Y (t.val / 64) (t.val / 4 % 16)) (t.val % 4) 8) :=
  point_at m c X Y h0 h1 h2 t _ (accs_at m c X Y h0 h1 h2 t.val t.isLt)

/-- The queries' gradient at row `r` and column `s`. -/
def dqOf (r s : ℕ) : ℝ := DQ (hA X (r / 2048) (s / 128)) (hK X (r / 2048) (s / 128)) (hV X (r / 2048) (s / 128)) (hO Y (r / 2048) (s / 128)) (r % 2048) (Fin.ofNat 128 (s % 128))
/-- The keys' gradient at row `r` and column `s`. -/
def dkOf (r s : ℕ) : ℝ := DK (hA X (r / 2048) (s / 128)) (hK X (r / 2048) (s / 128)) (hV X (r / 2048) (s / 128)) (hO Y (r / 2048) (s / 128)) 2048 (r % 2048) (Fin.ofNat 128 (s % 128))
/-- The values' gradient at row `r` and column `s`. -/
def dvOf (r s : ℕ) : ℝ := DV (hA X (r / 2048) (s / 128)) (hK X (r / 2048) (s / 128)) (hO Y (r / 2048) (s / 128)) 2048 (r % 2048) (Fin.ofNat 128 (s % 128))

include h0 h1 h2 in
/-- The array of the queries' gradients that the grid leaves. -/
theorem arr_dq : (dats m 0 c).arrAt 5 cfg0.N = up (φ := .bf16) (fun (r : Fin 8192) (s : Fin 2048) => dqOf X Y r.val s.val) := by
  refine (dats m 0 c).arrAt_eq_of_covers 5 _ (by decide +kernel) fun t hf y => ?_
  obtain ⟨-, -, -, -, -, e, -⟩ := places t
  blk_simp
  show (out m c t).1 _ = up _ ((win0_5.blk t).view.emb y)
  rw [out_at m c X Y h0 h1 h2 t]
  have e0 : (((win0_5.blk t).view.emb y) 0).val = (t.val / 64 * 4 + t.val % 4) * 512 + (y 0).val := by blk_simp [e]
  have e1 : (((win0_5.blk t).view.emb y) 1).val = (t.val / 4 % 16) * 128 + (y 1).val := by blk_simp [e]
  have y0 : (y 0).val < 512 := (y 0).isLt
  have y1 : (y 1).val < 128 := (y 1).isLt
  show ((_ : ℝ) : EReal) = ((dqOf X Y _ _ : ℝ) : EReal)
  unfold dqOf
  rw [e0, e1, show ((t.val / 64 * 4 + t.val % 4) * 512 + (y 0).val) / 2048 = t.val / 64 from by omega, show ((t.val / 4 % 16) * 128 + (y 1).val) / 128 = t.val / 4 % 16 from by omega,
    show ((t.val / 64 * 4 + t.val % 4) * 512 + (y 0).val) % 2048 = 512 * (t.val % 4) + (y 0).val from by omega, show ((t.val / 4 % 16) * 128 + (y 1).val) % 128 = (y 1).val from by omega]
  exact congrArg (fun d : Fin 128 => ((DQ _ _ _ _ _ d : ℝ) : EReal)) (Fin.ext (Nat.mod_eq_of_lt y1).symm)

include h0 h1 h2 in
/-- The array of the keys' gradients that the grid leaves. -/
theorem arr_dk : (dats m 0 c).arrAt 6 cfg0.N = up (φ := .bf16) (fun (r : Fin 8192) (s : Fin 2048) => dkOf X Y r.val s.val) := by
  refine (dats m 0 c).arrAt_eq_of_covers 6 _ (by decide +kernel) fun t hf y => ?_
  have e : win0_6.index t = ![t.val / 64, t.val / 4 % 16] := (places t).2.2.2.2.2.2.1
  have h3 : t.val % 4 = 3 := (flush0_6 t).mp hf
  blk_simp
  show writeOut (out m c t).2.1 _ = up _ ((win0_6.blk t).view.emb y)
  rw [out_at m c X Y h0 h1 h2 t]
  have e0 : (((win0_6.blk t).view.emb y) 0).val = (t.val / 64) * 2048 + (y 0).val := by blk_simp [e]
  have e1 : (((win0_6.blk t).view.emb y) 1).val = (t.val / 4 % 16) * 128 + (y 1).val := by blk_simp [e]
  have y0 : (y 0).val < 2048 := (y 0).isLt
  have y1 : (y 1).val < 128 := (y 1).isLt
  dsimp only
  unfold accK
  rw [writeOut_up]
  show ((_ : ℝ) : EReal) = ((dkOf X Y _ _ : ℝ) : EReal)
  unfold dkOf
  rw [e0, e1, show ((t.val / 64) * 2048 + (y 0).val) / 2048 = t.val / 64 from by omega, show ((t.val / 4 % 16) * 128 + (y 1).val) / 128 = t.val / 4 % 16 from by omega,
    show ((t.val / 64) * 2048 + (y 0).val) % 2048 = (y 0).val from by omega, show ((t.val / 4 % 16) * 128 + (y 1).val) % 128 = (y 1).val from by omega, h3]
  refine congrArg (fun r : ℝ => (r : EReal)) ?_
  have a0 : (Fin.ofNat 8 ((y 0).val / 256)).val = (y 0).val / 256 := Nat.mod_eq_of_lt (by omega)
  have a1 : (Fin.ofNat 256 ((y 0).val % 256)).val = (y 0).val % 256 := Nat.mod_eq_of_lt (by omega)
  have a2 : Fin.ofNat 128 (y 1).val = y 1 := Fin.ext (Nat.mod_eq_of_lt y1)
  rw [a2]
  show (if _ then _ else _) = _
  rw [if_pos (by rw [a0]; omega), a0, a1, show 256 * ((y 0).val / 256) + (y 0).val % 256 = (y 0).val from by omega]

include h0 h1 h2 in
/-- The array of the values' gradients that the grid leaves. -/
theorem arr_dv : (dats m 0 c).arrAt 7 cfg0.N = up (φ := .bf16) (fun (r : Fin 8192) (s : Fin 2048) => dvOf X Y r.val s.val) := by
  refine (dats m 0 c).arrAt_eq_of_covers 7 _ (by decide +kernel) fun t hf y => ?_
  have e : win0_7.index t = ![t.val / 64, t.val / 4 % 16] := (places t).2.2.2.2.2.2.2
  have h3 : t.val % 4 = 3 := (flush0_7 t).mp hf
  blk_simp
  show writeOut (out m c t).2.2 _ = up _ ((win0_7.blk t).view.emb y)
  rw [out_at m c X Y h0 h1 h2 t]
  have e0 : (((win0_7.blk t).view.emb y) 0).val = (t.val / 64) * 2048 + (y 0).val := by blk_simp [e]
  have e1 : (((win0_7.blk t).view.emb y) 1).val = (t.val / 4 % 16) * 128 + (y 1).val := by blk_simp [e]
  have y0 : (y 0).val < 2048 := (y 0).isLt
  have y1 : (y 1).val < 128 := (y 1).isLt
  dsimp only
  unfold accV
  rw [writeOut_up]
  show ((_ : ℝ) : EReal) = ((dvOf X Y _ _ : ℝ) : EReal)
  unfold dvOf
  rw [e0, e1, show ((t.val / 64) * 2048 + (y 0).val) / 2048 = t.val / 64 from by omega, show ((t.val / 4 % 16) * 128 + (y 1).val) / 128 = t.val / 4 % 16 from by omega,
    show ((t.val / 64) * 2048 + (y 0).val) % 2048 = (y 0).val from by omega, show ((t.val / 4 % 16) * 128 + (y 1).val) % 128 = (y 1).val from by omega, h3]
  refine congrArg (fun r : ℝ => (r : EReal)) ?_
  have a0 : (Fin.ofNat 8 ((y 0).val / 256)).val = (y 0).val / 256 := Nat.mod_eq_of_lt (by omega)
  have a1 : (Fin.ofNat 256 ((y 0).val % 256)).val = (y 0).val % 256 := Nat.mod_eq_of_lt (by omega)
  have a2 : Fin.ofNat 128 (y 1).val = y 1 := Fin.ext (Nat.mod_eq_of_lt y1)
  rw [a2]
  show (if _ then _ else _) = _
  rw [if_pos (by rw [a0]; omega), a0, a1, show 256 * ((y 0).val / 256) + (y 0).val % 256 = (y 0).val from by omega]

end Cert.KernelIdeal.Gen

end
-- ==== Proof.Grids.lean ====
/- The host's operations on four-dimensional arrays of real numbers: each gives the array of real numbers one expects. -/
module

public import Idealize.ShloMosaic.Lib.Pointwise
public import Idealize.ShloMosaic.PureOps
public import Mathlib.Analysis.SpecialFunctions.Log.Basic
public import Mathlib.Algebra.BigOperators.Intervals

@[expose] public section

set_option maxRecDepth 16384

noncomputable section

namespace Cert.Grids

open Idealize.ShloMosaic

/-- A four-dimensional array of real numbers as an array of extended reals. -/
def up4 {a b c d : ℕ} {φ : FTy} (f : Fin a → Fin b → Fin c → Fin d → ℝ) : FVec Ideal ⟨4, ![a, b, c, d]⟩ φ := fun y => ((f (y 0) (y 1) (y 2) (y 3) : ℝ) : EReal)
/-- A four-dimensional mask as an array of bits. -/
def bits4 {a b c d : ℕ} (P : Fin a → Fin b → Fin c → Fin d → Bool) : IVec ⟨4, ![a, b, c, d]⟩ 1 := fun y => BitVec.ofBool (P (y 0) (y 1) (y 2) (y 3))

theorem up4_ix {a b c d : ℕ} {φ : FTy} (f : Fin a → Fin b → Fin c → Fin d → ℝ) (i : Fin a) (j : Fin b) (k : Fin c) (l : Fin d) :
    up4 (φ := φ) f (ix4 i j k l) = ((f i j k l : ℝ) : EReal) := rfl
theorem bits4_ix {a b c d : ℕ} (P : Fin a → Fin b → Fin c → Fin d → Bool) (i : Fin a) (j : Fin b) (k : Fin c) (l : Fin d) :
    bits4 P (ix4 i j k l) = BitVec.ofBool (P i j k l) := rfl

theorem sum_coe {ι : Type} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

/-- The softplus function. -/
def sp (x : ℝ) : ℝ := max x 0 + Real.log (1 + Real.exp (-|x|))

section elementwise
variable {a b c d : ℕ} {φ : FTy} (f g : Fin a → Fin b → Fin c → Fin d → ℝ)

theorem add4 : addf (up4 (φ := φ) f) (up4 g) = up4 fun i j k l => f i j k l + g i j k l := rfl
theorem sub4 : subf (up4 (φ := φ) f) (up4 g) = up4 fun i j k l => f i j k l - g i j k l := rfl
theorem mul4 : mulf (up4 (φ := φ) f) (up4 g) = up4 fun i j k l => f i j k l * g i j k l := rfl
theorem neg4 : Host.negf (up4 (φ := φ) f) = up4 fun i j k l => -f i j k l := rfl
theorem exp4 : Host.exp (up4 (φ := φ) f) = up4 fun i j k l => Real.exp (f i j k l) := rfl
theorem ext4 (h : FTy.bits .bf16 < FTy.bits .f32) : extf .f32 (up4 (φ := .bf16) f) h = up4 f := rfl
theorem select4 (P : Fin a → Fin b → Fin c → Fin d → Bool) : select (bits4 P) (up4 (φ := φ) f) (up4 g) = up4 fun i j k l => if P i j k l then f i j k l else g i j k l := by
  funext y
  show Scalar.select (BitVec.ofBool (P (y 0) (y 1) (y 2) (y 3))) _ _ = _
  cases h : P (y 0) (y 1) (y 2) (y 3) <;> simp [up4, h, Scalar.select]
theorem zero4 (h) : broadcastInDim (⟨4, ![a, b, c, d]⟩ : Shape) ![] h (constant (F := Ideal) (⟨0, ![]⟩ : Shape) .f32 0x00000000#32) = up4 (φ := .f32) fun _ _ _ _ => 0 := by
  funext y
  exact Ideal.ofBits_zero_f32
theorem top4 (h) : select (cmpf .oeq (up4 (φ := .f32) f) (broadcastInDim (⟨4, ![a, b, c, d]⟩ : Shape) ![] h (constant (F := Ideal) (⟨0, ![]⟩ : Shape) .f32 0x7F800000#32))) (up4 (φ := .f32) g) (up4 f) = up4 f := by
  funext y
  show Scalar.select (BitVec.ofBool (decide (((f (y 0) (y 1) (y 2) (y 3) : ℝ) : EReal) = Ideal.ofBits .f32 0x7F800000#32))) _ _ = _
  have e : Ideal.ofBits .f32 0x7F800000#32 = ⊤ := by simp [Ideal.ofBits, Ideal.ieee]
  rw [e, decide_eq_false (EReal.coe_ne_top _)]
  rfl
theorem eighth4 (h) : broadcastInDim (⟨4, ![a, b, c, d]⟩ : Shape) ![] h (constant (F := Ideal) (⟨0, ![]⟩ : Shape) .f32 0x3E000000#32) = up4 (φ := .f32) fun _ _ _ _ => 1 / 8 := by
  funext y
  show Ideal.ofBits .f32 0x3E000000#32 = ((1 / 8 : ℝ) : EReal)
  simp [Ideal.ofBits, Ideal.ieee]
  rw [← EReal.coe_mul]
  norm_num

/-- The softplus function as the host computes it. -/
theorem sp4 (h h' h'' h3) : (select (cmpf .une (subf (up4 (φ := .f32) f) (broadcastInDim (⟨4, ![a, b, c, d]⟩ : Shape) ![] h (constant (F := Ideal) (⟨0, ![]⟩ : Shape) .f32 0x00000000#32)))
      (subf (up4 (φ := .f32) f) (broadcastInDim (⟨4, ![a, b, c, d]⟩ : Shape) ![] h (constant (F := Ideal) (⟨0, ![]⟩ : Shape) .f32 0x00000000#32))))
    (addf (up4 (φ := .f32) f) (broadcastInDim (⟨4, ![a, b, c, d]⟩ : Shape) ![] h' (constant (F := Ideal) (⟨0, ![]⟩ : Shape) .f32 0x00000000#32)))
    (addf (maximumf (up4 (φ := .f32) f) (broadcastInDim (⟨4, ![a, b, c, d]⟩ : Shape) ![] h'' (constant (F := Ideal) (⟨0, ![]⟩ : Shape) .f32 0x00000000#32)))
      (Host.log1p (Host.exp (Host.negf (Host.absf (subf (up4 (φ := .f32) f) (broadcastInDim (⟨4, ![a, b, c, d]⟩ : Shape) ![] h3 (constant (F := Ideal) (⟨0, ![]⟩ : Shape) .f32 0x00000000#32)))))))))
    = up4 (φ := .f32) fun i j k l => sp (f i j k l) := by
  rw [zero4, sub4, add4]
  funext y
  show Scalar.select (BitVec.ofBool (decide (_ ≠ _))) _ _ = _
  rw [decide_eq_false (fun h => h rfl)]
  show max ((f (y 0) (y 1) (y 2) (y 3) : ℝ) : EReal) ((0 : ℝ) : EReal) + Ideal.log (1 + Ideal.exp (-max ((f (y 0) (y 1) (y 2) (y 3) - 0 : ℝ) : EReal) (-((f (y 0) (y 1) (y 2) (y 3) - 0 : ℝ) : EReal)))) = ((sp (f (y 0) (y 1) (y 2) (y 3)) : ℝ) : EReal)
  generalize f (y 0) (y 1) (y 2) (y 3) = x
  have e1 : max ((x - 0 : ℝ) : EReal) (-((x - 0 : ℝ) : EReal)) = ((|x| : ℝ) : EReal) := by
    rw [sub_zero, ← EReal.coe_neg, abs_eq_max_neg]
    exact (EReal.coe_strictMono.monotone.map_max).symm
  rw [e1, ← EReal.coe_neg]
  show _ + Ideal.log (1 + ((Real.exp (-|x|) : ℝ) : EReal)) = _
  rw [← EReal.coe_one, ← EReal.coe_add]
  show _ + (if 1 + Real.exp (-|x|) ≤ 0 then ⊥ else ((Real.log (1 + Real.exp (-|x|)) : ℝ) : EReal)) = _
  rw [if_neg (by have := Real.exp_pos (-|x|); linarith), ← EReal.coe_strictMono.monotone.map_max, ← EReal.coe_add]
  rfl
end elementwise

theorem slt_lt (a b : ℕ) (ha : a < 2048) (hb : b < 2048) : BitVec.slt (BitVec.ofNat 32 a) (BitVec.ofNat 32 b) = decide (a < b) := by
  rw [BitVec.slt_eq_decide, BitVec.toInt_eq_toNat_of_lt (by rw [BitVec.toNat_ofNat]; omega), BitVec.toInt_eq_toNat_of_lt (by rw [BitVec.toNat_ofNat]; omega), BitVec.toNat_ofNat, BitVec.toNat_ofNat,
    Nat.mod_eq_of_lt (by omega), Nat.mod_eq_of_lt (by omega)]
  simp only [Nat.cast_lt]

/-- The mask of the keys before each row. -/
theorem mask4 (h1 h2 h3 h4 h5) : broadcastInDim (⟨4, ![4, 32, 2048, 2048]⟩ : Shape) ![2, 3] h1 (cmpi .slt
      (broadcastInDim (⟨2, ![2048, 2048]⟩ : Shape) ![0, 1] h2 (broadcastInDim (⟨2, ![1, 2048]⟩ : Shape) ![1] h3 (iotaInDim (⟨1, ![2048]⟩ : Shape) 32 0)))
      (broadcastInDim (⟨2, ![2048, 2048]⟩ : Shape) ![0, 1] h4 (broadcastInDim (⟨2, ![2048, 1]⟩ : Shape) ![0] h5 (iotaInDim (⟨1, ![2048]⟩ : Shape) 32 0))))
    = bits4 fun _ _ (t : Fin 2048) (s : Fin 2048) => decide (s.val < t.val) := by
  funext y; idx_vars y; pointwise [bits4_ix]
  show BitVec.ofBool (BitVec.slt (BitVec.ofNat 32 y3.val) (BitVec.ofNat 32 y2.val)) = _
  rw [slt_lt _ _ y3.isLt y2.isLt]

/-! Sums along the last axis. -/

theorem tail_sum (F : ℕ → ℝ) (l n : ℕ) (hl : l ≤ n) : ∑ w ∈ Finset.range n, (if l + w < n then F (l + w) else 0) = ∑ s ∈ Finset.range n, F s - ∑ s ∈ Finset.range l, F s := by
  rw [← Finset.sum_Ico_eq_sub F hl, Finset.sum_Ico_eq_sum_range, ← Finset.sum_filter]
  refine Finset.sum_congr ?_ fun _ _ => rfl
  ext w
  simp only [Finset.mem_filter, Finset.mem_range]
  omega

theorem head_sum (F : ℕ → ℝ) (l n : ℕ) (hl : l ≤ n) : ∑ w ∈ Finset.range (n + 1), (if n ≤ l + w then F (l + w - n) else 0) = ∑ s ∈ Finset.range (l + 1), F s := by
  rw [← Finset.sum_range_reflect, ← Finset.sum_range_reflect F, ← Finset.sum_filter]
  have e : (Finset.range (n + 1)).filter (fun w => n ≤ l + (n + 1 - 1 - w)) = Finset.range (l + 1) := by
    ext w
    simp only [Finset.mem_filter, Finset.mem_range]
    omega
  rw [e]
  refine Finset.sum_congr rfl fun w hw => ?_
  rw [Finset.mem_range] at hw
  congr 1
  omega

theorem foldl_sum {ι : Type} (L : List ι) (g : ι → EReal) (v : EReal) : L.foldl (fun r n => r + g n) v = v + (L.map g).sum := by
  induction L generalizing v with
  | nil => simp
  | cons x L ih => rw [List.foldl_cons, ih, List.map_cons, List.sum_cons, add_assoc]

/-- A window along the last axis, as wide as the axis. -/
theorem window4 (f : Fin 4 → Fin 32 → Fin 2048 → ℕ → ℝ) (lo hi : ℕ) (init : (⟨0, ![]⟩ : Shape).Idx → EReal) (hinit : ∀ i, init i = 0) (h hu)
    (i : Fin 4) (j : Fin 32) (k l : Fin 2048) :
    Host.reduceWindowAdd (F := Ideal) (s := ⟨4, ![4, 32, 2048, 2048]⟩) (φ := .f32) (t := ⟨4, ![4, 32, 2048, 2048]⟩) (u := ⟨0, ![]⟩) ![1, 1, 1, 2048] ![1, 1, 1, 1] ![0, 0, 0, lo] ![0, 0, 0, hi]
      (up4 fun i j k (l : Fin 2048) => f i j k l.val) init h hu (ix4 i j k l)
    = ((∑ w ∈ Finset.range 2048, if lo ≤ l.val + w ∧ l.val + w - lo < 2048 then f i j k (l.val + w - lo) else 0 : ℝ) : EReal) := by
  show Ideal.hostReduceWindowAdd _ _ _ _ h _ _ _ = _
  unfold Ideal.hostReduceWindowAdd Host.reduceWindow
  dsimp only
  rw [foldl_sum, hinit, zero_add, ← Fin.sum_univ_def]
  have hb : Function.Bijective fun q : (⟨4, ![1, 1, 1, 2048]⟩ : Shape).Idx => (q 3 : Fin 2048) := by
    refine ⟨fun q q' e => ?_, fun w => ⟨ix4 (0 : Fin 1) (0 : Fin 1) (0 : Fin 1) w, rfl⟩⟩
    funext x
    match x with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact e
  rw [← sum_coe, ← Fin.sum_univ_eq_sum_range (fun w : ℕ => ((if lo ≤ l.val + w ∧ l.val + w - lo < 2048 then f i j k (l.val + w - lo) else 0 : ℝ) : EReal)) 2048]
  refine Eq.trans ?_ ((Equiv.sum_comp (Shape.rowMajor (⟨4, ![1, 1, 1, 2048]⟩ : Shape)).symm fun q => ((if lo ≤ l.val + (q 3).val ∧ l.val + (q 3).val - lo < 2048 then f i j k (l.val + (q 3).val - lo) else 0 : ℝ) : EReal)).trans
    (Fintype.sum_bijective _ hb _ _ (fun _ => rfl)))
  refine Finset.sum_congr rfl fun n _ => ?_
  let q : (⟨4, ![1, 1, 1, 2048]⟩ : Shape).Idx := (Shape.rowMajor (⟨4, ![1, 1, 1, 2048]⟩ : Shape)).symm n
  have q0 : (q 0).val = 0 := Nat.lt_one_iff.mp (q 0).isLt
  have q1 : (q 1).val = 0 := Nat.lt_one_iff.mp (q 1).isLt
  have q2 : (q 2).val = 0 := Nat.lt_one_iff.mp (q 2).isLt
  by_cases hin : lo ≤ l.val + (q 3).val ∧ l.val + (q 3).val - lo < 2048
  · refine Eq.trans ?_ (congrArg (fun r : ℝ => (r : EReal)) (if_pos hin).symm)
    have hc : ∀ x : Fin 4, (![0, 0, 0, lo] : Fin 4 → ℕ) x ≤ ((ix4 i j k l : (⟨4, ![4, 32, 2048, 2048]⟩ : Shape).Idx) x).val * (![1, 1, 1, 1] : Fin 4 → ℕ) x + (q x).val ∧
        ((ix4 i j k l : (⟨4, ![4, 32, 2048, 2048]⟩ : Shape).Idx) x).val * (![1, 1, 1, 1] : Fin 4 → ℕ) x + (q x).val - (![0, 0, 0, lo] : Fin 4 → ℕ) x < (![4, 32, 2048, 2048] : Fin 4 → ℕ) x := by
      intro x
      match x with
      | ⟨0, _⟩ => show 0 ≤ i.val * 1 + (q 0).val ∧ i.val * 1 + (q 0).val - 0 < 4; omega
      | ⟨1, _⟩ => show 0 ≤ j.val * 1 + (q 1).val ∧ j.val * 1 + (q 1).val - 0 < 32; omega
      | ⟨2, _⟩ => show 0 ≤ k.val * 1 + (q 2).val ∧ k.val * 1 + (q 2).val - 0 < 2048; omega
      | ⟨3, _⟩ => show lo ≤ l.val * 1 + (q 3).val ∧ l.val * 1 + (q 3).val - lo < 2048; omega
    refine (dif_pos hc).trans ?_
    refine congrArg (fun r : ℝ => (r : EReal)) ?_
    have e0 : (⟨i.val * 1 + (q 0).val - 0, by omega⟩ : Fin 4) = i := Fin.ext (by show i.val * 1 + (q 0).val - 0 = i.val; omega)
    have e1 : (⟨j.val * 1 + (q 1).val - 0, by omega⟩ : Fin 32) = j := Fin.ext (by show j.val * 1 + (q 1).val - 0 = j.val; omega)
    have e2 : (⟨k.val * 1 + (q 2).val - 0, by omega⟩ : Fin 2048) = k := Fin.ext (by show k.val * 1 + (q 2).val - 0 = k.val; omega)
    show f (⟨i.val * 1 + (q 0).val - 0, by omega⟩ : Fin 4) (⟨j.val * 1 + (q 1).val - 0, by omega⟩ : Fin 32) (⟨k.val * 1 + (q 2).val - 0, by omega⟩ : Fin 2048) (l.val * 1 + (q 3).val - lo) = _
    rw [e0, e1, e2, Nat.mul_one]
  · refine Eq.trans ?_ (congrArg (fun r : ℝ => (r : EReal)) (if_neg hin).symm)
    refine dif_neg fun hc => hin ?_
    have h3 := hc 3
    have h3' : lo ≤ l.val * 1 + (q 3).val ∧ l.val * 1 + (q 3).val - lo < 2048 := h3
    omega

/-- The sums from each place on. -/
theorem tails4 (f : Fin 4 → Fin 32 → Fin 2048 → ℕ → ℝ) (init : (⟨0, ![]⟩ : Shape).Idx → EReal) (hinit : ∀ i, init i = 0) (h hu) :
    Host.reduceWindowAdd (F := Ideal) (s := ⟨4, ![4, 32, 2048, 2048]⟩) (φ := .f32) (t := ⟨4, ![4, 32, 2048, 2048]⟩) (u := ⟨0, ![]⟩) ![1, 1, 1, 2048] ![1, 1, 1, 1] ![0, 0, 0, 0] ![0, 0, 0, 2047]
      (up4 fun i j k (l : Fin 2048) => f i j k l.val) init h hu
    = up4 fun i j k (l : Fin 2048) => ∑ s ∈ Finset.range 2048, f i j k s - ∑ s ∈ Finset.range l.val, f i j k s := by
  funext y; idx_vars y
  rw [window4 f 0 2047 init hinit h hu, up4_ix, ← tail_sum _ y3.val 2048 (by omega)]
  simp only [Nat.zero_le, true_and, Nat.sub_zero]

/-- The sums up to each place. -/
theorem heads4 (f : Fin 4 → Fin 32 → Fin 2048 → ℕ → ℝ) (init : (⟨0, ![]⟩ : Shape).Idx → EReal) (hinit : ∀ i, init i = 0) (h hu) :
    Host.reduceWindowAdd (F := Ideal) (s := ⟨4, ![4, 32, 2048, 2048]⟩) (φ := .f32) (t := ⟨4, ![4, 32, 2048, 2048]⟩) (u := ⟨0, ![]⟩) ![1, 1, 1, 2048] ![1, 1, 1, 1] ![0, 0, 0, 2047] ![0, 0, 0, 0]
      (up4 fun i j k (l : Fin 2048) => f i j k l.val) init h hu
    = up4 fun i j k (l : Fin 2048) => ∑ s ∈ Finset.range (l.val + 1), f i j k s := by
  funext y; idx_vars y
  rw [window4 f 2047 0 init hinit h hu, up4_ix, ← head_sum _ y3.val 2047 (by omega)]
  refine congrArg (fun r : ℝ => (r : EReal)) (Finset.sum_congr rfl fun w hw => ?_)
  rw [Finset.mem_range] at hw
  have e : y3.val + w - 2047 < 2048 := by omega
  simp only [e, and_true]

/-! The arrays' heads. -/

section heads
variable (X : ℕ → ℕ → ℝ)

/-- Head `h` of batch `b`, its columns from `o` on. -/
def head (o : ℕ) (b h t : ℕ) (d : Fin 64) : ℝ := X (2048 * b + t) (o + 64 * h + d.val)

/-- The heads of a group of columns. -/
theorem split4 (x : FVec Ideal ⟨2, ![8192, 2048]⟩ .bf16) (o : ℕ) (hx : ∀ (r : Fin 8192) (s : Fin 2048), x (ix2 r s) = ((X r.val (o + s.val) : ℝ) : EReal)) (h h') (p : List (Fin 4)) (h'' : (⟨4, ![4, 2048, 32, 64]⟩ : Shape).Transposes p ⟨4, ![4, 32, 2048, 64]⟩) (e : p = [0, 2, 1, 3]) :
    transpose (⟨4, ![4, 32, 2048, 64]⟩ : Shape) p (shapeCast (⟨4, ![4, 2048, 32, 64]⟩ : Shape) (extf (F := Ideal) .f32 x h) h') h'' =
    up4 (φ := .f32) fun (b : Fin 4) (h : Fin 32) (t : Fin 2048) d => head X o b.val h.val t.val d := by
  subst e
  funext y; idx_vars y; pointwise [up4_ix]
  rw [hx]
  unfold head
  refine congrArg (fun r : ℝ => (r : EReal)) (congrArg₂ X ?_ ?_)
  · show y0.val * 2048 + y2.val = 2048 * y0.val + y2.val; omega
  · show o + (y1.val * 64 + y3.val) = o + 64 * y1.val + y3.val; omega

theorem part4 (x : FVec Ideal ⟨2, ![8192, 6144]⟩ .bf16) (o : ℕ) (ho : o + 2048 ≤ 6144) (hx : ∀ (r : Fin 8192) (s : Fin 6144), x (ix2 r s) = ((X r.val s.val : ℝ) : EReal)) (h)
    (r : Fin 8192) (s : Fin 2048) : extractStridedSlice (⟨2, ![8192, 2048]⟩ : Shape) ![0, o] x h (ix2 r s) = ((X r.val (o + s.val) : ℝ) : EReal) := by
  pointwise
  exact hx _ _
end heads

end Cert.Grids

end
-- ==== Proof.Heads.lean ====
/- The pairs of heads the kernel reads and the single heads the reference reads are the same columns. -/
module

public import proofs.«01_k».proof.Proof.ArrayVal
public import proofs.«01_k».proof.Proof.Grids

@[expose] public section

set_option maxRecDepth 16384

noncomputable section

namespace Cert.Rows

open Cert.Grids

variable (X Y : ℕ → ℕ → ℝ)

/-- A head's queries, scaled. -/
def rA (b h t : ℕ) (d : Fin 64) : ℝ := head X 0 b h t d * (1 / 8)

/-- The softplus again, less the number. -/
theorem lb_sub (x : ℝ) : min x 0 - Real.log (1 + Real.exp (0 - |x|)) - x = -sp x := by
  unfold sp
  rw [zero_sub]
  have e : min x 0 - x = -max x 0 := by
    rcases le_total x 0 with h | h
    · rw [min_eq_left h, max_eq_right h]; ring
    · rw [min_eq_right h, max_eq_left h]; ring
  linarith

theorem lane (o : ℕ) (d : Fin 64) (h : o ≤ 64) : (Fin.ofNat 128 (o + d.val)).val = o + d.val := Nat.mod_eq_of_lt (by omega)

theorem lo_hA (b p : ℕ) : lo (hA X b p) = rA X b (2 * p) := by
  funext t d
  unfold lo hA rA head
  rw [lane 0 d (by omega)]
  exact congrArg (fun n => X (2048 * b + t) n * (1 / 8)) (by omega)
theorem hi_hA (b p : ℕ) : hi (hA X b p) = rA X b (2 * p + 1) := by
  funext t d
  unfold hi hA rA head
  rw [lane 64 d (by omega)]
  exact congrArg (fun n => X (2048 * b + t) n * (1 / 8)) (by omega)
theorem lo_hK (b p : ℕ) : lo (hK X b p) = head X 2048 b (2 * p) := by
  funext t d
  unfold lo hK head
  rw [lane 0 d (by omega)]
  exact congrArg (X (2048 * b + t)) (by omega)
theorem hi_hK (b p : ℕ) : hi (hK X b p) = head X 2048 b (2 * p + 1) := by
  funext t d
  unfold hi hK head
  rw [lane 64 d (by omega)]
  exact congrArg (X (2048 * b + t)) (by omega)
theorem lo_hV (b p : ℕ) : lo (hV X b p) = head X 4096 b (2 * p) := by
  funext t d
  unfold lo hV head
  rw [lane 0 d (by omega)]
  exact congrArg (X (2048 * b + t)) (by omega)
theorem hi_hV (b p : ℕ) : hi (hV X b p) = head X 4096 b (2 * p + 1) := by
  funext t d
  unfold hi hV head
  rw [lane 64 d (by omega)]
  exact congrArg (X (2048 * b + t)) (by omega)
theorem lo_hO (b p : ℕ) : lo (hO Y b p) = head Y 0 b (2 * p) := by
  funext t d
  unfold lo hO head
  rw [lane 0 d (by omega)]
  exact congrArg (Y (2048 * b + t)) (by omega)
theorem hi_hO (b p : ℕ) : hi (hO Y b p) = head Y 0 b (2 * p + 1) := by
  funext t d
  unfold hi hO head
  rw [lane 64 d (by omega)]
  exact congrArg (Y (2048 * b + t)) (by omega)

theorem lane_col (s : ℕ) : (Fin.ofNat 128 (s % 128)).val = s % 128 := Nat.mod_eq_of_lt (by omega)

variable (b h t s : ℕ)

/-- The gradient of one head's scores. -/
def rDZ : ℝ := dz (rA X b h) (head X 2048 b h) (head X 4096 b h) (head Y 0 b h) t s
/-- One head's attention weights. -/
def rW : ℝ := a (rA X b h) (head X 2048 b h) t s

theorem DZ_col : DZ (hA X b (s / 128)) (hK X b (s / 128)) (hV X b (s / 128)) (hO Y b (s / 128)) t h (Fin.ofNat 128 (s % 128)) = rDZ X Y b (s / 64) t h := by
  unfold DZ rDZ
  rw [lane_col, lo_hA, lo_hK, lo_hV, lo_hO, hi_hA, hi_hK, hi_hV, hi_hO]
  by_cases hs : s % 128 < 64
  · rw [if_pos hs, show s / 64 = 2 * (s / 128) from by omega]
  · rw [if_neg hs, show s / 64 = 2 * (s / 128) + 1 from by omega]

theorem AA_col : AA (hA X b (s / 128)) (hK X b (s / 128)) t h (Fin.ofNat 128 (s % 128)) = rW X b (s / 64) t h := by
  unfold AA rW
  rw [lane_col, lo_hA, lo_hK, hi_hA, hi_hK]
  by_cases hs : s % 128 < 64
  · rw [if_pos hs, show s / 64 = 2 * (s / 128) from by omega]
  · rw [if_neg hs, show s / 64 = 2 * (s / 128) + 1 from by omega]

theorem hA_col : hA X b (s / 128) t (Fin.ofNat 128 (s % 128)) = rA X b (s / 64) t (Fin.ofNat 64 (s % 64)) := by
  unfold hA rA head
  rw [lane_col, show (Fin.ofNat 64 (s % 64)).val = s % 64 from Nat.mod_eq_of_lt (by omega)]
  exact congrArg (fun n => X (2048 * b + t) n * (1 / 8)) (by omega)

theorem hO_col : hO Y b (s / 128) t (Fin.ofNat 128 (s % 128)) = head Y 0 b (s / 64) t (Fin.ofNat 64 (s % 64)) := by
  unfold hO head
  rw [lane_col, show (Fin.ofNat 64 (s % 64)).val = s % 64 from Nat.mod_eq_of_lt (by omega)]
  exact congrArg (Y (2048 * b + t)) (by omega)

end Cert.Rows

namespace Cert.KernelIdeal.Gen

open Cert.Rows Cert.Grids

variable (X Y : ℕ → ℕ → ℝ)

/-- The keys' gradient, head by head. -/
theorem dkOf_head (r s : ℕ) : dkOf X Y r s = ∑ t ∈ Finset.range 2048, rA X (r / 2048) (s / 64) t (Fin.ofNat 64 (s % 64)) * rDZ X Y (r / 2048) (s / 64) t (r % 2048) := by
  unfold dkOf DK
  exact Finset.sum_congr rfl fun t _ => by rw [DZ_col, hA_col]

/-- The values' gradient, head by head. -/
theorem dvOf_head (r s : ℕ) : dvOf X Y r s = ∑ t ∈ Finset.range 2048, head Y 0 (r / 2048) (s / 64) t (Fin.ofNat 64 (s % 64)) * rW X (r / 2048) (s / 64) t (r % 2048) := by
  unfold dvOf DV
  exact Finset.sum_congr rfl fun t _ => by rw [AA_col, hO_col]

/-- The queries' gradient, head by head. -/
theorem dqOf_head (r s : ℕ) : dqOf X Y r s =
    (∑ l ∈ Finset.range 2048, rDZ X Y (r / 2048) (s / 64) (r % 2048) l * head X 2048 (r / 2048) (s / 64) l (Fin.ofNat 64 (s % 64))) * (1 / 8) := by
  unfold dqOf DQ dq rDZ
  rw [lane_col, lo_hA, lo_hK, lo_hV, lo_hO, hi_hA, hi_hK, hi_hV, hi_hO]
  by_cases hs : s % 128 < 64
  · rw [if_pos hs, show s / 64 = 2 * (s / 128) from by omega, show s % 128 = s % 64 from by omega]
  · rw [if_neg hs, show s / 64 = 2 * (s / 128) + 1 from by omega, show s % 128 - 64 = s % 64 from by omega]

end Cert.KernelIdeal.Gen

end
-- ==== Proof.HostVal.lean ====
/- What the host puts before the grid, on arrays of real numbers: the row totals of the two heads of each pair, and eight. -/
module

public import proofs.«01_k».proof.Proof.Heads
public import Idealize.ShloMosaic.Lib.Tactic.CleanTypes

@[expose] public section

set_option maxRecDepth 16384
set_option maxHeartbeats 1000000

noncomputable section

namespace Cert.KernelIdeal.Gen

open Idealize.ShloMosaic Idealize.ShloMosaic.TcCoe Idealize.ShloMosaic.Tactic Idealize.ShloMosaic.Pipeline
open Idealize.SL Idealize.SL.RA Idealize.SL.BI Idealize.SL.Sem
open Cert.Rows Cert.Grids

theorem dotHost (f g : Fin 4 → Fin 32 → Fin 2048 → Fin 64 → ℝ) :
    Host.dotGeneral (F := Ideal) dot_S4x32x2048x64_S4x32x2048x64_S4x32x2048x2048_3_3_2_2_01_01 none (up4 (φ := .f32) f) (up4 (φ := .f32) g) = up4 (φ := .f32) fun b h t s => ∑ d, f b h t d * g b h s d := by
  funext y; idx_vars y; pointwise [up4_ix]; simp only [← EReal.coe_mul, sum_coe, EReal.coe_zero, zero_add]

/-- The heads out of 2048 columns of the array. -/
def headsOf (y : FVec Ideal S8192x2048 .bf16) : FVec Ideal S4x32x2048x64 .f32 :=
  transpose S4x32x2048x64 [0, 2, 1, 3] (shapeCast S4x2048x32x64 (extf .f32 y bitsLt_bf16_f32) shapeCasts_S8192x2048_S4x2048x32x64) transposes_S4x2048x32x64_S4x32x2048x64_0_2_1_3

/-- The scores the host takes the softplus of. -/
def hostScores (x : FVec Ideal S8192x6144 .bf16) : FVec Ideal S4x32x2048x2048 .f32 :=
  Host.negf (Host.negf (mulf (Host.dotGeneral dot_S4x32x2048x64_S4x32x2048x64_S4x32x2048x2048_3_3_2_2_01_01 none
    (headsOf (extractStridedSlice S8192x2048 ![0, 0] x slices_S8192x6144_S8192x2048_0_0))
    (headsOf (extractStridedSlice S8192x2048 ![0, 2048] x slices_S8192x6144_S8192x2048_0_2048)))
    (broadcastInDim S4x32x2048x2048 ![] bcast_S_S4x32x2048x2048 (constant S_ .f32 0x3E000000#32))))

def zeros : FVec Ideal S4x32x2048x2048 .f32 := broadcastInDim S4x32x2048x2048 ![] bcast_S_S4x32x2048x2048 (constant S_ .f32 0x00000000#32)

/-- The host's softplus. -/
def hostSoftplus (z : FVec Ideal S4x32x2048x2048 .f32) : FVec Ideal S4x32x2048x2048 .f32 :=
  select (cmpf .une (subf z zeros) (subf z zeros)) (addf z zeros) (addf (maximumf z zeros) (Host.log1p (Host.exp (Host.negf (Host.absf (subf z zeros))))))

/-- What each key leaves over, in logarithms, masked. -/
def hostKeep (x : FVec Ideal S8192x6144 .bf16) : FVec Ideal S4x32x2048x2048 .f32 :=
  select (broadcastInDim S4x32x2048x2048 ![2, 3] bcast_S2048x2048_S4x32x2048x2048_2_3 (cmpi .slt
      (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0)))))
    (Host.negf (hostSoftplus (hostScores x))) zeros

/-- The rows' totals over all keys, the two heads of a pair together. -/
def hostPairs (x : FVec Ideal S8192x6144 .bf16) : FVec Ideal S4x16x2048x2 .f32 :=
  transpose S4x16x2048x2 [0, 1, 3, 2] (shapeCast S4x16x2x2048 (Host.reduceAdd (hostKeep x) (constant S_ .f32 0x00000000#32) reducesTo_S4x32x2048x2048_S4x32x2048_d3 h_S_) shapeCasts_S4x32x2048_S4x16x2x2048) transposes_S4x16x2x2048_S4x16x2048x2_0_1_3_2

/-- The array the host hands to the grid. -/
def hostTotals (x : FVec Ideal S8192x6144 .bf16) : FVec Ideal S4x16x2048x3 .f32 :=
  concatenate S4x16x2048x3 3 [⟨S4x16x2048x2, hostPairs x⟩, ⟨S4x16x2048x1, broadcastInDim S4x16x2048x1 ![] bcast_S_S4x16x2048x1 (constant S_ .f32 0x41000000#32)⟩]
    concatenates_S4x16x2048x2_S4x16x2048x1_S4x16x2048x3_d3

section
variable (m : (ℓ : Loc nD τ sig) → Buf (Elt Ideal) ℓ) (c : Dev nD)
theorem V_main_v25 : V m c main_v25 = hostTotals (m (c, Proc.devRef .tc main_arg0)) := by
  unfold V
  simp only [hostOps0, hostOps0_1, hostOps0_2, hostOps0_3, hostOps0_4, List.flatten_cons, List.flatten_nil, List.append_nil, List.cons_append, List.nil_append]
  entry_read
  clean_types
  rfl
end

variable (X : ℕ → ℕ → ℝ) (x : FVec Ideal S8192x6144 .bf16) (hx : ∀ (r : Fin 8192) (s : Fin 6144), x (ix2 r s) = ((X r.val s.val : ℝ) : EReal))

include hx in
theorem hostScores_up : hostScores x = up4 (φ := .f32) fun (b : Fin 4) (h : Fin 32) (t : Fin 2048) (s : Fin 2048) => z (rA X b.val h.val) (head X 2048 b.val h.val) t.val s.val := by
  unfold hostScores headsOf
  rw [split4 X _ 0 (part4 X _ 0 (by omega) hx _) _ _ _ _ rfl, split4 X _ 2048 (part4 X _ 2048 (by omega) hx _) _ _ _ _ rfl, dotHost, eighth4, mul4, neg4, neg4]
  refine congrArg up4 ?_
  funext b h t s
  rw [neg_neg, Finset.sum_mul]
  exact Finset.sum_congr rfl fun d _ => by unfold rA; ring

include hx in
theorem hostKeep_up : hostKeep x = up4 (φ := .f32) fun (b : Fin 4) (h : Fin 32) (t : Fin 2048) (s : Fin 2048) => lk (rA X b.val h.val) (head X 2048 b.val h.val) t.val s.val := by
  unfold hostKeep hostSoftplus zeros
  rw [mask4, hostScores_up X x hx, sp4, neg4, zero4, select4]
  refine congrArg up4 ?_
  funext b h t s
  unfold lk lb
  rw [lb_sub]
  simp only [decide_eq_true_eq]

include hx in
theorem hostPairs_at (b : Fin 4) (p : Fin 16) (t : Fin 2048) (e : Fin 2) :
    hostPairs x (ix4 b p t e) = ((lc (rA X b.val (2 * p.val + e.val)) (head X 2048 b.val (2 * p.val + e.val)) t.val 2048 : ℝ) : EReal) := by
  unfold hostPairs
  rw [hostKeep_up X x hx]
  pointwise [up4_ix]
  rw [sum_coe, show p.val * 2 + e.val = 2 * p.val + e.val from by omega]
  refine congrArg (fun r : ℝ => (r : EReal)) ?_
  unfold lc
  rw [← Fin.sum_univ_eq_sum_range (fun s : ℕ => lk (rA X b.val (2 * p.val + e.val)) (head X 2048 b.val (2 * p.val + e.val)) t.val s) 2048]

include hx in
theorem hostTotals_eq : hostTotals x = totalsOf X := by
  unfold hostTotals
  funext y; idx_vars y
  pointwise
  show _ = if y3.val = 0 then _ else if y3.val = 1 then _ else _
  have e8 : Ideal.ofBits .f32 0x41000000#32 = ((8 : ℝ) : EReal) := by
    simp [Ideal.ofBits, Ideal.ieee]
    rw [← EReal.coe_mul]
    norm_num
  match y3 with
  | ⟨0, h⟩ =>
    rw [dif_pos (show 0 < 2 from by decide), if_pos (show 0 = 0 from rfl), hostPairs_at X x hx, lo_hA, lo_hK]
    rfl
  | ⟨1, h⟩ =>
    rw [dif_pos (show 1 < 2 from by decide), if_neg (show ¬1 = 0 from by decide), if_pos (show 1 = 1 from rfl), hostPairs_at X x hx, hi_hA, hi_hK]
    rfl
  | ⟨2, h⟩ =>
    rw [dif_neg (show ¬2 < 2 from by decide), if_neg (show ¬2 = 0 from by decide), if_neg (show ¬2 = 1 from by decide), e8]

end Cert.KernelIdeal.Gen

end
-- ==== Proof.KernelVal.lean ====
/- The three arrays the idealized kernel leaves, on arrays of real numbers. -/
module

public import proofs.«01_k».proof.Proof.HostVal
public import proofs.«01_k».proof.Proof.Launched

@[expose] public section

set_option maxRecDepth 16384

noncomputable section

namespace Cert.KernelIdeal.Gen

open Idealize.ShloMosaic Idealize.ShloMosaic.TcCoe Idealize.ShloMosaic.Tactic Idealize.ShloMosaic.Pipeline
open Idealize.SL Idealize.SL.RA Idealize.SL.BI Idealize.SL.Sem

variable (m : (ℓ : Loc nD τ sig) → Buf (Elt Ideal) ℓ) (ρ : Dev nD → PrngReg) (X Y : Dev nD → ℕ → ℕ → ℝ)
variable (hx : ∀ (c : Dev nD) (r : Fin 8192) (s : Fin 6144), (m ((c.tc : Thread nD τ).loc main_arg0) : FVec Ideal S8192x6144 .bf16) (ix2 r s) = ((X c r.val s.val : ℝ) : EReal))
variable (hy : ∀ (c : Dev nD) (r : Fin 8192) (s : Fin 2048), (m ((c.tc : Thread nD τ).loc main_arg1) : FVec Ideal S8192x2048 .bf16) (ix2 r s) = ((Y c r.val s.val : ℝ) : EReal))

/-- An array of reals, from its entries. -/
theorem up_of {n k : ℕ} (x : FVec Ideal ⟨2, ![n, k]⟩ .bf16) (f : Fin n → Fin k → ℝ) (h : ∀ r s, x (ix2 r s) = ((f r s : ℝ) : EReal)) : x = up (φ := .bf16) f := by
  funext y
  have e : y = ix2 (y 0) (y 1) := by funext i; match i with | ⟨0, _⟩ => rfl | ⟨1, _⟩ => rfl
  rw [e]; exact h _ _

include hx hy in
/-- The idealized kernel ends with the gradients of the queries, the keys and the values in its three results, and its arguments as they were. -/
theorem value_main : θ_run defs (onTc (τ := τ) (main (F := Ideal))) ⟨m, fun _ => 0, ρ⟩ (fun r => ∀ c : Dev nD,
      r.2.mem ((c.tc : Thread nD τ).loc main_v26_0) = up (φ := .bf16) (fun (i : Fin 8192) (j : Fin 2048) => dqOf (X c) (Y c) i.val j.val)
      ∧ r.2.mem ((c.tc : Thread nD τ).loc main_v26_1) = up (φ := .bf16) (fun (i : Fin 8192) (j : Fin 2048) => dkOf (X c) (Y c) i.val j.val)
      ∧ r.2.mem ((c.tc : Thread nD τ).loc main_v26_2) = up (φ := .bf16) (fun (i : Fin 8192) (j : Fin 2048) => dvOf (X c) (Y c) i.val j.val)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main m ρ)
  have h0 : V m c main_arg0 = up (φ := .bf16) fun (r : Fin 8192) (s : Fin 6144) => X c r.val s.val := (V_main_arg0 m c).trans (up_of _ _ (hx c))
  have h1 : V m c main_arg1 = up (φ := .bf16) fun (r : Fin 8192) (s : Fin 2048) => Y c r.val s.val := (V_main_arg1 m c).trans (up_of _ _ (hy c))
  have h2 : V m c main_v25 = totalsOf (X c) := (V_main_v25 m c).trans (hostTotals_eq (X c) _ (hx c))
  exact ⟨((h.1 c).1 5).trans (arr_dq m c (X c) (Y c) h0 h1 h2), ((h.1 c).1 6).trans (arr_dk m c (X c) (Y c) h0 h1 h2), ((h.1 c).1 7).trans (arr_dv m c (X c) (Y c) h0 h1 h2),
    ((h.1 c).1 2).trans (((dats m 0 c).arrAt_in 2 rfl _).trans (V_main_arg0 m c)), ((h.1 c).1 3).trans (((dats m 0 c).arrAt_in 3 rfl _).trans (V_main_arg1 m c))⟩

end Cert.KernelIdeal.Gen

end
-- ==== Proof.RefVal.lean ====
/- The reference's values on arrays of real numbers: the gradients of each head's queries, keys and values. -/
module

public import proofs.«01_k».proof.Proof.Heads
public import proofs.«01_k».proof.Proof.Gen.ReferenceIdeal.Run

@[expose] public section

set_option maxRecDepth 16384
set_option maxHeartbeats 1000000

noncomputable section

namespace Cert.Rows

open Cert.Grids

theorem lb_sp (x : ℝ) : min x 0 - Real.log (1 + Real.exp (0 - |x|)) = -sp (-x) := by
  unfold sp
  rw [abs_neg, zero_sub, neg_add, max_comm, ← neg_zero, ← neg_zero (G := ℝ), max_neg_neg, neg_neg]
  rw [neg_zero, min_comm]
  ring
/-- A sigmoid and that of the opposite number add up to one. -/
theorem exp_lb (x : ℝ) : Real.exp (-sp x) = 1 - Real.exp (-sp (-x)) := by
  have h : ∀ y : ℝ, Real.exp (-sp y) = 1 / (1 + Real.exp y) := by
    intro y
    unfold sp
    have p : 0 < 1 + Real.exp (-|y|) := by have := Real.exp_pos (-|y|); linarith
    rw [neg_add, Real.exp_add, Real.exp_neg (Real.log _), Real.exp_log p, ← one_div, Real.exp_neg]
    have py := Real.exp_pos y
    rcases le_total y 0 with h | h
    · rw [max_eq_right h, abs_of_nonpos h, neg_neg, Real.exp_zero]; ring
    · rw [max_eq_left h, abs_of_nonneg h, Real.exp_neg]
      field_simp
      ring
  rw [h, h, Real.exp_neg]
  have px := Real.exp_pos x
  field_simp
  ring

end Cert.Rows

namespace Cert.ReferenceIdeal.Value

open Cert.ReferenceIdeal Cert.ReferenceIdeal.Gen Idealize.ShloMosaic Idealize.ShloMosaic.TcCoe Idealize.SL.Sem Idealize.ShloMosaic.StableHlo
open Cert.Grids Cert.Rows

variable (V0 : Valuation τ sig (Elt Ideal)) (X Y : ℕ → ℕ → ℝ)

variable (hx : ∀ (r : Fin 8192) (s : Fin 6144), (V0 (Proc.devRef .tc main_arg0) : FVec Ideal S8192x6144 .bf16) (ix2 r s) = ((X r.val s.val : ℝ) : EReal))
variable (hy : ∀ (r : Fin 8192) (s : Fin 2048), (V0 (Proc.devRef .tc main_arg1) : FVec Ideal S8192x2048 .bf16) (ix2 r s) = ((Y r.val s.val : ℝ) : EReal))

include hx in
theorem v7_up : res_main_v7 V0 = up4 (φ := .f32) fun (b : Fin 4) (h : Fin 32) (t : Fin 2048) d => head X 0 b.val h.val t.val d := by
  unfold res_main_v7
  exact split4 X _ 0 (part4 X _ 0 (by omega) hx _) _ _ _ _ rfl
include hx in
theorem v9_up : res_main_v9 V0 = up4 (φ := .f32) fun (b : Fin 4) (h : Fin 32) (t : Fin 2048) d => head X 2048 b.val h.val t.val d := by
  unfold res_main_v9
  exact split4 X _ 2048 (part4 X _ 2048 (by omega) hx _) _ _ _ _ rfl
include hx in
theorem v11_up : res_main_v11 V0 = up4 (φ := .f32) fun (b : Fin 4) (h : Fin 32) (t : Fin 2048) d => head X 4096 b.val h.val t.val d := by
  unfold res_main_v11
  exact split4 X _ 4096 (part4 X _ 4096 (by omega) hx _) _ _ _ _ rfl
include hy in
theorem v36_up : res_main_v36 V0 = up4 (φ := .f32) fun (b : Fin 4) (h : Fin 32) (t : Fin 2048) d => head Y 0 b.val h.val t.val d := by
  unfold res_main_v36
  exact split4 Y _ 0 (fun r s => (hy r s).trans (by rw [Nat.zero_add])) _ _ _ _ rfl

theorem dotA (f g : Fin 4 → Fin 32 → Fin 2048 → Fin 64 → ℝ) :
    Host.dotGeneral (F := Ideal) dot_S4x32x2048x64_S4x32x2048x64_S4x32x2048x2048_3_3_2_2_01_01 none (up4 (φ := .f32) f) (up4 (φ := .f32) g) = up4 (φ := .f32) fun b h t s => ∑ d, f b h t d * g b h s d := by
  funext y; idx_vars y; pointwise [up4_ix]; simp only [← EReal.coe_mul, sum_coe, EReal.coe_zero, zero_add]

theorem dotB (f : Fin 4 → Fin 32 → Fin 2048 → Fin 2048 → ℝ) (g : Fin 4 → Fin 32 → Fin 2048 → Fin 64 → ℝ) :
    Host.dotGeneral (F := Ideal) dot_S4x32x2048x2048_S4x32x2048x64_S4x32x2048x64_3_2_2_3_01_01 none (up4 (φ := .f32) f) (up4 (φ := .f32) g) = up4 (φ := .f32) fun b h t d => ∑ s, f b h t s * g b h s d := by
  funext y; idx_vars y; pointwise [up4_ix]; simp only [← EReal.coe_mul, sum_coe, EReal.coe_zero, zero_add]

theorem dotC (f : Fin 4 → Fin 32 → Fin 2048 → Fin 2048 → ℝ) (g : Fin 4 → Fin 32 → Fin 2048 → Fin 64 → ℝ) :
    Host.dotGeneral (F := Ideal) dot_S4x32x2048x2048_S4x32x2048x64_S4x32x2048x64_2_2_3_3_01_01 none (up4 (φ := .f32) f) (up4 (φ := .f32) g) = up4 (φ := .f32) fun b h s d => ∑ t, f b h t s * g b h t d := by
  funext y; idx_vars y; pointwise [up4_ix]; simp only [← EReal.coe_mul, sum_coe, EReal.coe_zero, zero_add]

theorem dotD (g : Fin 4 → Fin 32 → Fin 2048 → Fin 2048 → ℝ) (f : Fin 4 → Fin 32 → Fin 2048 → Fin 64 → ℝ) :
    Host.dotGeneral (F := Ideal) dot_S4x32x2048x64_S4x32x2048x2048_S4x32x64x2048_2_2_3_3_01_01 none (up4 (φ := .f32) f) (up4 (φ := .f32) g) = up4 (φ := .f32) fun b h d s => ∑ t, f b h t d * g b h t s := by
  funext y; idx_vars y; pointwise [up4_ix]; simp only [← EReal.coe_mul, sum_coe, EReal.coe_zero, zero_add]

include hx in
/-- The scores. -/
theorem v14_up : res_main_v14 V0 = up4 (φ := .f32) fun (b : Fin 4) (h : Fin 32) (t : Fin 2048) (s : Fin 2048) => z (rA X b.val h.val) (head X 2048 b.val h.val) t.val s.val := by
  unfold res_main_v14
  rw [v7_up V0 X hx, v9_up V0 X hx, dotA, eighth4, mul4]
  refine congrArg up4 ?_
  funext b h t s
  rw [Finset.sum_mul]
  exact Finset.sum_congr rfl fun d _ => by unfold rA; ring

theorem mask_up : broadcastInDim S4x32x2048x2048 ![2, 3] bcast_S2048x2048_S4x32x2048x2048_2_3 (res_main_v21 V0) = bits4 fun _ _ (t : Fin 2048) (s : Fin 2048) => decide (s.val < t.val) := by
  unfold res_main_v21
  exact mask4 _ _ _ _ _

include hx in
/-- The softplus of the scores' opposites. -/
theorem sn_up : res_main_call0_v1_0 V0 = up4 (φ := .f32) fun (b : Fin 4) (h : Fin 32) (t : Fin 2048) (s : Fin 2048) => sp (-z (rA X b.val h.val) (head X 2048 b.val h.val) t.val s.val) := by
  unfold res_main_call0_v1_0 res_main_call0_call0_v3 res_main_call0_v0 res_main_call0_call0_cst
  rw [v14_up V0 X hx, neg4]
  exact sp4 _ _ _ _ _
include hx in
/-- The softplus of the scores. -/
theorem sz_up : res_main_call1_v1_0 V0 = up4 (φ := .f32) fun (b : Fin 4) (h : Fin 32) (t : Fin 2048) (s : Fin 2048) => sp (z (rA X b.val h.val) (head X 2048 b.val h.val) t.val s.val) := by
  unfold res_main_call1_v1_0 res_main_call1_call0_v3 res_main_call1_v0 res_main_call1_call0_cst
  rw [v14_up V0 X hx, neg4, neg4]
  simp only [neg_neg]
  exact sp4 _ _ _ _ _

include hx in
/-- What each key leaves over, in logarithms. -/
theorem v25_up : res_main_v25_0 V0 = up4 (φ := .f32) fun (b : Fin 4) (h : Fin 32) (t : Fin 2048) (s : Fin 2048) => lk (rA X b.val h.val) (head X 2048 b.val h.val) t.val s.val := by
  unfold res_main_v25_0 res_main_v25_1
  rw [mask_up, sz_up V0 X hx, neg4]
  show select _ _ (broadcastInDim S4x32x2048x2048 ![] _ (constant S_ .f32 0x00000000#32)) = _
  rw [zero4, select4]
  refine congrArg up4 ?_
  funext b h t s
  unfold lk lb
  rw [lb_sub]
  simp only [decide_eq_true_eq]

theorem init_zero (i : S_.Idx) : broadcastInDim S_ ![] bcast_S_S_ (constant (F := Ideal) S_ .f32 0x00000000#32) i = 0 := Ideal.ofBits_zero_f32

include hx in
/-- The weights, unmasked. -/
theorem v29_up : res_main_v29 V0 = up4 (φ := .f32) fun (b : Fin 4) (h : Fin 32) (t : Fin 2048) (s : Fin 2048) =>
    Real.exp (lb (rA X b.val h.val) (head X 2048 b.val h.val) t.val s.val + (lc (rA X b.val h.val) (head X 2048 b.val h.val) t.val 2048 - lc (rA X b.val h.val) (head X 2048 b.val h.val) t.val (s.val + 1))) := by
  unfold res_main_v29
  rw [v25_up V0 X hx, sn_up V0 X hx, neg4, tails4 (fun b h t s => lk (rA X b.val h.val) (head X 2048 b.val h.val) t.val s) _ init_zero, sub4, add4, exp4]
  refine congrArg up4 ?_
  funext b h t s
  unfold lc lb
  rw [lb_sp, Finset.sum_range_succ _ s.val, sub_add_eq_sub_sub]

include hx in
/-- The weights. -/
theorem v30_up : res_main_v30_0 V0 = up4 (φ := .f32) fun (b : Fin 4) (h : Fin 32) (t : Fin 2048) (s : Fin 2048) => a (rA X b.val h.val) (head X 2048 b.val h.val) t.val s.val := by
  unfold res_main_v30_0 res_main_v30_1
  rw [mask_up, v29_up V0 X hx]
  show select _ _ (broadcastInDim S4x32x2048x2048 ![] _ (constant S_ .f32 0x00000000#32)) = _
  rw [zero4, select4]
  refine congrArg up4 ?_
  funext b h t s
  unfold a
  simp only [decide_eq_true_eq]

include hx hy in
/-- The gradient of the weights' logarithms. -/
theorem v41_up : res_main_v41 V0 = up4 (φ := .f32) fun (b : Fin 4) (h : Fin 32) (t : Fin 2048) (s : Fin 2048) =>
    de (rA X b.val h.val) (head X 2048 b.val h.val) (head X 4096 b.val h.val) (head Y 0 b.val h.val) t.val s.val := by
  unfold res_main_v41 res_main_v30_1
  rw [mask_up, v29_up V0 X hx, v36_up V0 Y hy, v11_up V0 X hx, dotA, zero4, select4, mul4]
  refine congrArg up4 ?_
  funext b h t s
  unfold de a
  simp only [decide_eq_true_eq]
  split <;> ring

include hx hy in
/-- The gradient of the scores, times an eighth. -/
theorem v51_up : res_main_v51 V0 = up4 (φ := .f32) fun (b : Fin 4) (h : Fin 32) (t : Fin 2048) (s : Fin 2048) =>
    dz (rA X b.val h.val) (head X 2048 b.val h.val) (head X 4096 b.val h.val) (head Y 0 b.val h.val) t.val s.val * (1 / 8) := by
  unfold res_main_v51 res_main_v25_1 res_main_call1_v0 res_main_call0_v0
  rw [mask_up, v41_up V0 X Y hx hy, heads4 (fun b h t s => de (rA X b.val h.val) (head X 2048 b.val h.val) (head X 4096 b.val h.val) (head Y 0 b.val h.val) t.val s) _ init_zero,
    sn_up V0 X hx, sz_up V0 X hx, v14_up V0 X hx]
  rw [zero4, eighth4]
  simp only [neg4]
  rw [top4, top4, top4, top4]
  simp only [neg4, add4, sub4, exp4, mul4, select4]
  refine congrArg up4 ?_
  funext b h t s
  unfold dz gc
  rw [Finset.sum_range_succ]
  have e := lb_sp (z (rA X b.val h.val) (head X 2048 b.val h.val) t.val s.val)
  have e' := lb_sub (z (rA X b.val h.val) (head X 2048 b.val h.val) t.val s.val)
  have p := exp_lb (z (rA X b.val h.val) (head X 2048 b.val h.val) t.val s.val)
  have e1 : lb (rA X b.val h.val) (head X 2048 b.val h.val) t.val s.val = -sp (-z (rA X b.val h.val) (head X 2048 b.val h.val) t.val s.val) := e
  have e2 : - -z (rA X b.val h.val) (head X 2048 b.val h.val) t.val s.val - sp (z (rA X b.val h.val) (head X 2048 b.val h.val) t.val s.val) = -sp (-z (rA X b.val h.val) (head X 2048 b.val h.val) t.val s.val) := by linarith
  have e3 : -z (rA X b.val h.val) (head X 2048 b.val h.val) t.val s.val - sp (-z (rA X b.val h.val) (head X 2048 b.val h.val) t.val s.val) = -sp (z (rA X b.val h.val) (head X 2048 b.val h.val) t.val s.val) := by linarith
  rw [e1, e2, e3, p]
  simp only [decide_eq_true_eq]
  split
  · ring
  · next hn =>
    unfold de a
    rw [if_neg hn]
    ring

/-- The heads put side by side again, as one array of rows and columns. -/
theorem merge4 (f : Fin 4 → Fin 32 → Fin 2048 → Fin 64 → ℝ) (g : ℕ → ℕ → ℝ)
    (hg : ∀ (r : Fin 8192) (s : Fin 2048), f (Fin.ofNat 4 (r.val / 2048)) (Fin.ofNat 32 (s.val / 64)) (Fin.ofNat 2048 (r.val % 2048)) (Fin.ofNat 64 (s.val % 64)) = g r.val s.val)
    (h h') (p : List (Fin 4)) (h'' : S4x32x2048x64.Transposes p S4x2048x32x64) (e : p = [0, 2, 1, 3]) :
    truncf (F := Ideal) .bf16 (shapeCast S8192x2048 (transpose S4x2048x32x64 p (up4 (φ := .f32) f) h'') h') h
      = Cert.KernelIdeal.Gen.up (φ := .bf16) fun (r : Fin 8192) (s : Fin 2048) => g r.val s.val := by
  subst e
  funext y; idx_vars y; pointwise [up4_ix]
  show _ = ((g y0.val y1.val : ℝ) : EReal)
  rw [← hg]
  refine congrArg (fun r : ℝ => (r : EReal)) ?_
  have e0 : (⟨y0.val / 2048, by omega⟩ : Fin 4) = Fin.ofNat 4 (y0.val / 2048) := Fin.ext (Nat.mod_eq_of_lt (by omega)).symm
  have e1 : (⟨y1.val / 64, by omega⟩ : Fin 32) = Fin.ofNat 32 (y1.val / 64) := Fin.ext (Nat.mod_eq_of_lt (by omega)).symm
  have e2 : (⟨y0.val % 2048, by omega⟩ : Fin 2048) = Fin.ofNat 2048 (y0.val % 2048) := Fin.ext (Nat.mod_eq_of_lt (by omega)).symm
  have e3 : (⟨y1.val % 64, by omega⟩ : Fin 64) = Fin.ofNat 64 (y1.val % 64) := Fin.ext (Nat.mod_eq_of_lt (by omega)).symm
  exact (congrArg (fun q => f q _ _ _) e0).trans ((congrArg (fun q => f _ q _ _) e1).trans ((congrArg (fun q => f _ _ q _) e2).trans (congrArg (fun q => f _ _ _ q) e3)))

theorem val4 (r : Fin 8192) : (Fin.ofNat 4 (r.val / 2048)).val = r.val / 2048 := Nat.mod_eq_of_lt (by omega)
theorem val32 (s : Fin 2048) : (Fin.ofNat 32 (s.val / 64)).val = s.val / 64 := Nat.mod_eq_of_lt (by omega)
theorem val2048 (r : Fin 8192) : (Fin.ofNat 2048 (r.val % 2048)).val = r.val % 2048 := Nat.mod_eq_of_lt (by omega)

open Cert.KernelIdeal.Gen (up dqOf dkOf dvOf dqOf_head dkOf_head dvOf_head)

include hx hy in
/-- The reference's gradient of the queries. -/
theorem ref_dq (h h' h'') : truncf (F := Ideal) .bf16 (shapeCast S8192x2048 (transpose S4x2048x32x64 [0, 2, 1, 3] (Host.dotGeneral (φ₁ := .f32) (φ₂ := .f32) dot_S4x32x2048x2048_S4x32x2048x64_S4x32x2048x64_3_2_2_3_01_01 none (res_main_v51 V0) (res_main_v9 V0)) h'') h') h
    = up (φ := .bf16) fun (r : Fin 8192) (s : Fin 2048) => dqOf X Y r.val s.val := by
  rw [v51_up V0 X Y hx hy, v9_up V0 X hx, dotB]
  refine merge4 _ (dqOf X Y) (fun r s => ?_) _ _ _ _ rfl
  rw [dqOf_head, Finset.sum_mul, ← Fin.sum_univ_eq_sum_range (fun l : ℕ => rDZ X Y (r.val / 2048) (s.val / 64) (r.val % 2048) l * head X 2048 (r.val / 2048) (s.val / 64) l (Fin.ofNat 64 (s.val % 64)) * (1 / 8)) 2048]
  refine Finset.sum_congr rfl fun l _ => ?_
  rw [val4, val32, val2048]
  unfold rDZ
  ring

include hx hy in
/-- The reference's gradient of the keys. -/
theorem ref_dk (h h' h'') : truncf (F := Ideal) .bf16 (shapeCast S8192x2048 (transpose S4x2048x32x64 [0, 2, 1, 3] (Host.dotGeneral (φ₁ := .f32) (φ₂ := .f32) dot_S4x32x2048x2048_S4x32x2048x64_S4x32x2048x64_2_2_3_3_01_01 none (res_main_v51 V0) (res_main_v7 V0)) h'') h') h
    = up (φ := .bf16) fun (r : Fin 8192) (s : Fin 2048) => dkOf X Y r.val s.val := by
  rw [v51_up V0 X Y hx hy, v7_up V0 X hx, dotC]
  refine merge4 _ (dkOf X Y) (fun r s => ?_) _ _ _ _ rfl
  rw [dkOf_head, ← Fin.sum_univ_eq_sum_range (fun t : ℕ => rA X (r.val / 2048) (s.val / 64) t (Fin.ofNat 64 (s.val % 64)) * rDZ X Y (r.val / 2048) (s.val / 64) t (r.val % 2048)) 2048]
  refine Finset.sum_congr rfl fun l _ => ?_
  rw [val4, val32, val2048]
  unfold rDZ rA
  ring

theorem swap4 (f : Fin 4 → Fin 32 → Fin 64 → Fin 2048 → ℝ) (p : List (Fin 4)) (h : S4x32x64x2048.Transposes p S4x32x2048x64) (e : p = [0, 1, 3, 2]) :
    transpose S4x32x2048x64 p (up4 (φ := .f32) f) h = up4 (φ := .f32) fun i j k l => f i j l k := by
  subst e
  funext y; idx_vars y; pointwise [up4_ix]

include hx hy in
/-- The reference's gradient of the values. -/
theorem ref_dv (h h' h'' h3) : truncf (F := Ideal) .bf16 (shapeCast S8192x2048 (transpose S4x2048x32x64 [0, 2, 1, 3] (transpose S4x32x2048x64 [0, 1, 3, 2] (Host.dotGeneral (φ₁ := .f32) (φ₂ := .f32) dot_S4x32x2048x64_S4x32x2048x2048_S4x32x64x2048_2_2_3_3_01_01 none (res_main_v36 V0) (res_main_v30_0 V0)) h3) h'') h') h
    = up (φ := .bf16) fun (r : Fin 8192) (s : Fin 2048) => dvOf X Y r.val s.val := by
  rw [v36_up V0 Y hy, v30_up V0 X hx, dotD, swap4 _ _ _ rfl]
  refine merge4 _ (dvOf X Y) (fun r s => ?_) _ _ _ _ rfl
  rw [dvOf_head, ← Fin.sum_univ_eq_sum_range (fun t : ℕ => head Y 0 (r.val / 2048) (s.val / 64) t (Fin.ofNat 64 (s.val % 64)) * rW X (r.val / 2048) (s.val / 64) t (r.val % 2048)) 2048]
  refine Finset.sum_congr rfl fun l _ => ?_
  rw [val4, val32, val2048]
  rfl

end Cert.ReferenceIdeal.Value

end
-- ==== Proof.Contract.lean ====
/- The product of a transposed array with another, its rows summed one block after the other. -/
module

public import Idealize.ShloMosaic.Lib.Pointwise
public import Idealize.ShloMosaic.PureOps
public import Mathlib.Algebra.BigOperators.Intervals

@[expose] public section

set_option maxRecDepth 16384

noncomputable section

namespace Cert.Contract

open Idealize.ShloMosaic

/-- Column `p` of `A` times column `q` of `B`, summed over the first `n` rows. -/
def part (A B : ℕ → ℕ → EReal) (n p q : ℕ) : EReal := ∑ r ∈ Finset.range n, A r p * B r q

/-- The rows of one block are their sum over the block. -/
theorem part_add (A B : ℕ → ℕ → EReal) (n k p q : ℕ) :
    part A B (n + k) p q = part A B n p q + ∑ r : Fin k, A (n + r.val) p * B (n + r.val) q := by
  unfold part
  rw [Finset.sum_range_add, Finset.sum_range fun r => A (n + r) p * B (n + r) q]

/-- All the rows. -/
theorem part_all (A B : ℕ → ℕ → EReal) (k p q : ℕ) : part A B k p q = ∑ r : Fin k, A r.val p * B r.val q := by
  unfold part
  exact Finset.sum_range _

/-- The first block's rows alone. -/
theorem part_first (A B : ℕ → ℕ → EReal) (k p q : ℕ) :
    part A B (0 + k) p q = ∑ r : Fin k, A (0 + r.val) p * B (0 + r.val) q := by
  rw [part_add]
  unfold part
  rw [Finset.range_zero, Finset.sum_empty, zero_add]

/-- An accumulator that is set to a block's product when its number is a multiple of eight, and added to otherwise, holds
    the products of the blocks so far. -/
theorem accumulated (A B : ℕ → ℕ → EReal) (N p : ℕ) (q : ℕ → ℕ) (s u : ∀ n, n < N → EReal)
    (hu : ∀ n h, u n h = ∑ r : Fin 1024, A (1024 * (n % 8) + r.val) p * B (1024 * (n % 8) + r.val) (q (n / 8)))
    (first : ∀ n h, n % 8 = 0 → s n h = u n h)
    (later : ∀ n h, ¬n % 8 = 0 → s n h = s (n - 1) (by omega) + u n h) (n : ℕ) (h : n < N) :
    s n h = part A B (1024 * (n % 8) + 1024) p (q (n / 8)) := by
  induction n with
  | zero => exact (first 0 h rfl).trans ((hu 0 h).trans (part_first A B 1024 p _).symm)
  | succ n ih =>
    by_cases h0 : (n + 1) % 8 = 0
    · refine (first _ h h0).trans ((hu _ h).trans ?_)
      rw [h0]
      exact (part_first A B 1024 p _).symm
    · refine (later _ h h0).trans ((congrArg₂ (fun a b : EReal => a + b) (ih (by omega)) (hu _ h)).trans ?_)
      rw [show 1024 * (n % 8) + 1024 = 1024 * ((n + 1) % 8) from by omega, show n / 8 = (n + 1) / 8 from by omega]
      exact (part_add A B _ 1024 p _).symm

/-- The entries of an array by their numbers, zero outside of it. -/
def entries {n k : ℕ} {φ : FTy} (x : FVec Ideal ⟨2, ![n, k]⟩ φ) (r s : ℕ) : EReal :=
  if h : r < n ∧ s < k then x (ix2 ⟨r, h.1⟩ ⟨s, h.2⟩) else 0

theorem entries_at {n k : ℕ} {φ : FTy} (x : FVec Ideal ⟨2, ![n, k]⟩ φ) (r : Fin n) (s : Fin k) : entries x r.val s.val = x (ix2 r s) :=
  dif_pos ⟨r.isLt, s.isLt⟩

/-- An array's entry is the one its numbers name. -/
theorem entries_ix {n k : ℕ} {φ : FTy} (x : FVec Ideal ⟨2, ![n, k]⟩ φ) (y : (⟨2, ![n, k]⟩ : Shape).Idx) : x y = entries x (y 0).val (y 1).val := by
  refine (congrArg x ?_).trans (entries_at x (y 0) (y 1)).symm
  funext a
  match a with
  | ⟨0, _⟩ => rfl
  | ⟨1, _⟩ => rfl

end Cert.Contract

end
-- ==== Proof.DwinVal.lean ====
/- The in-projection weights' gradient: what the grid leaves and what the reference computes. -/
module

public import proofs.«01_k».proof.Proof.Contract
public import proofs.«01_k».proof.Proof.Gen.KernelDwinIdeal.Value
public import proofs.«01_k».proof.Proof.Gen.ReferenceDwinIdeal.Run
public import Idealize.ShloMosaic.Lib.Pipeline.ValueKit

@[expose] public section

set_option maxRecDepth 16384
set_option maxHeartbeats 1000000

noncomputable section

namespace Cert.KernelDwinIdeal.Value

open Cert.KernelDwinIdeal Cert.KernelDwinIdeal.Gen Idealize.ShloMosaic Idealize.ShloMosaic.TcCoe Idealize.ShloMosaic.Tactic Idealize.SL.Sem
open Cert.Contract

theorem hz : (![0, 0] : Fin 2 → Nat) = fun _ => 0 := funext fun a => by fin_cases a <;> rfl

/-- The product of two blocks. -/
theorem pay1_at (x : Vec Ideal S1024x1024 .bf16) (y : Vec Ideal S1024x1024 .bf16) (i : Fin 1024) (j : Fin 1024) :
    k0_pay1 x y (ix2 i j) = ∑ r : Fin 1024, (x (ix2 r i) * y (ix2 r j) : EReal) := by
  unfold k0_pay1
  pointwise [Ideal.ofBits_zero_f32]

section cases
variable (c : Dev nD) (i : grid0.Coords) (a2 : Memref sig .tc .vmem S1024x1024 .bf16) (h2 : a2.IsWhole) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)

/-- The first step leaves the blocks' product. -/
theorem scr_A (c0 c1 c2) (x0 x1 : Vec Ideal S1024x1024 .bf16) : sout0_A_0 c i a2 h2 a3 h3 a4 h4 a5 h5 c0 c1 c2 x0 x1 = k0_pay1 x0 x1 := by
  unfold sout0_A_0
  rw [View.read_writes_eq_canon _ _ _ (scover0_A_0 c i a2 h2 a3 h3 a4 h4 a5 h5 c0 c1 c2 x0 x1)]
  unfold kernelRun0_A
  dsimp only
  sl_unfold_words
  rw [View.canon_unit_zero hz]
  unfold k0_pay2
  simp only [View.readAt_eq_ld, h2.read_unread, h3.read_unread, View.ld_unit_zero (S := S1024x1024) hz, shapeCast_self]

/-- A later step adds the blocks' product. -/
theorem scr_B (c0 c1 c2) (x0 x1 : Vec Ideal S1024x1024 .bf16) (s : Vec Ideal S1024x1024 .f32) :
    sout0_B_0 c i a2 h2 a3 h3 a4 h4 a5 h5 c0 c1 c2 x0 x1 s = addf s (k0_pay1 x0 x1) := by
  unfold sout0_B_0
  rw [View.read_writes_eq_canon _ _ _ (scover0_B_0 c i a2 h2 a3 h3 a4 h4 a5 h5 c0 c1 c2 x0 x1 s)]
  unfold kernelRun0_B
  dsimp only
  sl_unfold_words
  rw [View.canon_unit_zero hz]
  unfold k0_pay3
  simp only [View.readAt_eq_ld, h2.read_unread, h3.read_unread, h5.read_unread, View.ld_unit_zero (S := S1024x1024) hz, shapeCast_self]

/-- The last step adds the blocks' product. -/
theorem scr_C (c0 c1 c2) (x0 x1 : Vec Ideal S1024x1024 .bf16) (s : Vec Ideal S1024x1024 .f32) :
    sout0_C_0 c i a2 h2 a3 h3 a4 h4 a5 h5 c0 c1 c2 x0 x1 s = addf s (k0_pay1 x0 x1) := by
  unfold sout0_C_0
  rw [View.read_writes_eq_canon _ _ _ (scover0_C_0 c i a2 h2 a3 h3 a4 h4 a5 h5 c0 c1 c2 x0 x1 s)]
  unfold kernelRun0_C
  dsimp only
  sl_unfold_words
  rw [View.canon_unit_zero hz]
  unfold k0_pay3
  simp only [View.readAt_eq_ld, h2.read_unread, h3.read_unread, h5.read_unread, View.ld_unit_zero (S := S1024x1024) hz, shapeCast_self]

/-- The last step writes the accumulated product out. -/
theorem out_C (c0 c1 c2) (x0 x1 : Vec Ideal S1024x1024 .bf16) (s : Vec Ideal S1024x1024 .f32) :
    out0_C_2 c i a2 h2 a3 h3 a4 h4 a5 h5 c0 c1 c2 x0 x1 s = truncf .bf16 (addf s (k0_pay1 x0 x1)) bitsLt_bf16_f32 := by
  unfold out0_C_2
  rw [View.read_writes_eq_canon _ _ _ (cover0_C_2 c i a2 h2 a3 h3 a4 h4 a5 h5 c0 c1 c2 x0 x1 s)]
  unfold kernelRun0_C
  dsimp only
  sl_unfold_words
  rw [View.canon_unit_zero hz, View.readCov_unit_zero (S := S1024x1024) _ hz]
  unfold k0_pay4 k0_pay3
  simp only [View.readAt_eq_ld, h2.read_unread, h3.read_unread, h5.read_unread, View.ld_unit_zero (S := S1024x1024) hz, shapeCast_self]

end cases

/-- Where the windows' blocks lie, from a point's number: column tile `t / 8`, block of rows `t % 8`. -/
theorem places : ∀ t : Fin cfg0.N, win0_0.index t = ![t.val % 8, 0] ∧ win0_1.index t = ![t.val % 8, t.val / 8] ∧
    win0_2.index t = ![0, t.val / 8] := by decide +kernel

variable (m : (ℓ : Loc nD τ sig) → Buf (Elt Ideal) ℓ) (c : Dev nD)

/-- The entries of the first argument. -/
abbrev A : ℕ → ℕ → EReal := entries (n := 8192) (k := 1024) (φ := .bf16) (m ((c : Thread nD τ).loc main_arg0))
/-- The entries of the second argument. -/
abbrev B : ℕ → ℕ → EReal := entries (n := 8192) (k := 2048) (φ := .bf16) (m ((c : Thread nD τ).loc main_arg1))

/-- The first argument's block at a point. -/
theorem blk_a (t : Fin cfg0.N) (r i : Fin 1024) : iblk m c 0 t (ix2 r i) = A m c (1024 * (t.val % 8) + r.val) i.val := by
  obtain ⟨e, -⟩ := places t
  blk_simp [iblk, e]
  refine (entries_ix (n := 8192) (k := 1024) (φ := .bf16) (m ((c : Thread nD τ).loc main_arg0)) ((win0_0.blk t).view.emb (ix2 r i))).trans ?_
  refine congrArg₂ (A m c) ?_ ?_
  · blk_simp [e]; show _ + r.val = _; omega
  · blk_simp [e]

/-- The second argument's block at a point. -/
theorem blk_b (t : Fin cfg0.N) (r j : Fin 1024) : iblk m c 1 t (ix2 r j) = B m c (1024 * (t.val % 8) + r.val) (1024 * (t.val / 8) + j.val) := by
  obtain ⟨-, e, -⟩ := places t
  blk_simp [iblk, e]
  refine (entries_ix (n := 8192) (k := 2048) (φ := .bf16) (m ((c : Thread nD τ).loc main_arg1)) ((win0_1.blk t).view.emb (ix2 r j))).trans ?_
  refine congrArg₂ (B m c) ?_ ?_
  · blk_simp [e]; show _ + r.val = _; omega
  · blk_simp [e]; show _ + j.val = _; omega

/-- A point's product of blocks. -/
theorem prod_at (t : Fin cfg0.N) (i j : Fin 1024) :
    k0_pay1 (iblk m c 0 t) (iblk m c 1 t) (ix2 i j) = ∑ r : Fin 1024, A m c (1024 * (t.val % 8) + r.val) i.val * B m c (1024 * (t.val % 8) + r.val) (1024 * (t.val / 8) + j.val) := by
  refine (pay1_at _ _ i j).trans (Finset.sum_congr rfl fun r _ => ?_)
  rw [blk_a, blk_b]

/-- After a point the accumulator holds the products of the rows so far. -/
theorem scr_at (t : Fin cfg0.N) (i j : Fin 1024) :
    (outsAt0 m c t.val t.isLt).2 (ix2 i j) = part (A m c) (B m c) (1024 * (t.val % 8) + 1024) i.val (1024 * (t.val / 8) + j.val) := by
  refine accumulated (A m c) (B m c) cfg0.N i.val (fun k => 1024 * k + j.val) (fun n h => (outsAt0 m c n h).2 (ix2 i j))
    (fun n h => k0_pay1 (iblk m c 0 ⟨n, h⟩) (iblk m c 1 ⟨n, h⟩) (ix2 i j)) (fun n h => prod_at m c ⟨n, h⟩ i j) (fun n h h0 => ?_) (fun n h h0 => ?_) t.val t.isLt
  · rw [outsAt0_A m c ⟨n, h⟩ h0 (by dsimp only; omega) (by dsimp only; omega)]
    dsimp only
    rw [scr_A]
  · by_cases h7 : n % 8 = 7
    · rw [outsAt0_C m c ⟨n, h⟩ h0 (by dsimp only; omega) h7]
      dsimp only
      rw [scr_C]
      rfl
    · rw [outsAt0_B m c ⟨n, h⟩ h0 (by dsimp only; omega) h7]
      dsimp only
      rw [scr_B]
      rfl

/-- The last point of a column tile writes the products of all rows out. -/
theorem out_at (t : Fin cfg0.N) (h7 : t.val % 8 = 7) (y : S1024x1024.Idx) :
    (outsAt0 m c t.val t.isLt).1 y = part (A m c) (B m c) 8192 (y 0).val (1024 * (t.val / 8) + (y 1).val) := by
  have h : (outsAt0 m c t.val t.isLt).1 y = (outsAt0 m c t.val t.isLt).2 y := by
    rw [outsAt0_C m c t (by omega) (by omega) h7]
    dsimp only
    rw [out_C, scr_C]
    rfl
  have e : y = ix2 (y 0) (y 1) := funext fun a => match a with | ⟨0, _⟩ => rfl | ⟨1, _⟩ => rfl
  refine h.trans ((congrArg (outsAt0 m c t.val t.isLt).2 e).trans ((scr_at m c t (y 0) (y 1)).trans ?_))
  rw [h7]

/-- What the grid leaves: the first argument's columns times the second's, summed over all rows. -/
def product : FVec Ideal S1024x2048 .bf16 := fun y => part (A m c) (B m c) 8192 (y 0).val (y 1).val

/-- The array the grid leaves. -/
theorem arr : G2 m c = product m c := by
  rw [← final2]
  refine (dats m 0 c).arrAt_eq_of_covers 2 _ (by decide +kernel) fun t hf y => ?_
  obtain ⟨-, -, e⟩ := places t
  have h7 : t.val % 8 = 7 := (flush0_2 t).mp hf
  blk_simp
  show (outsAt0 m c t.val t.isLt).1 _ = product m c ((win0_2.blk t).view.emb y)
  refine (out_at m c t h7 _).trans ?_
  have e0 : (((win0_2.blk t).view.emb y) 0).val = (y 0).val := by blk_simp [e]
  have e1 : (((win0_2.blk t).view.emb y) 1).val = 1024 * (t.val / 8) + (y 1).val := by blk_simp [e]; omega
  unfold product
  rw [e0, e1]

end Cert.KernelDwinIdeal.Value

namespace Cert.ReferenceDwinIdeal.Value

open Cert.ReferenceDwinIdeal Cert.ReferenceDwinIdeal.Gen Idealize.ShloMosaic Idealize.ShloMosaic.TcCoe
open Cert.Contract

/-- The reference's result: the same products over all rows. -/
theorem ref (x : FVec Ideal S8192x1024 .bf16) (y : FVec Ideal S8192x2048 .bf16) (h1 h2 h3 h4) :
    (truncf .bf16 (transpose S1024x2048 [1, 0] (Host.dotGeneral (φ₁ := .f32) (φ₂ := .f32) dot_S8192x2048_S8192x1024_S2048x1024_0_0_1_1_n_n none (extf .f32 y h1) (extf .f32 x h2)) h3) h4 : FVec Ideal S1024x2048 .bf16)
      = fun z => part (entries x) (entries y) 8192 (z 0).val (z 1).val := by
  funext z
  idx_vars z
  rw [part_all]
  pointwise
  refine Finset.sum_congr rfl fun r _ => ?_
  rw [mul_comm]
  exact congrArg₂ (fun a b : EReal => a * b) (entries_at x r _).symm (entries_at y r _).symm

end Cert.ReferenceDwinIdeal.Value

end
-- ==== Proof.DwoutVal.lean ====
/- The out-projection weights' gradient: what the grid leaves and what the reference computes. -/
module

public import proofs.«01_k».proof.Proof.Contract
public import proofs.«01_k».proof.Proof.Gen.KernelDwoutIdeal.Value
public import proofs.«01_k».proof.Proof.Gen.ReferenceDwoutIdeal.Run
public import Idealize.ShloMosaic.Lib.Pipeline.ValueKit

@[expose] public section

set_option maxRecDepth 16384
set_option maxHeartbeats 1000000

noncomputable section

namespace Cert.KernelDwoutIdeal.Value

open Cert.KernelDwoutIdeal Cert.KernelDwoutIdeal.Gen Idealize.ShloMosaic Idealize.ShloMosaic.TcCoe Idealize.ShloMosaic.Tactic Idealize.SL.Sem
open Cert.Contract

theorem hz : (![0, 0] : Fin 2 → Nat) = fun _ => 0 := funext fun a => by fin_cases a <;> rfl

/-- The product of two blocks. -/
theorem pay1_at (x : Vec Ideal S1024x2048 .bf16) (y : Vec Ideal S1024x1024 .bf16) (i : Fin 2048) (j : Fin 1024) :
    k0_pay1 x y (ix2 i j) = ∑ r : Fin 1024, (x (ix2 r i) * y (ix2 r j) : EReal) := by
  unfold k0_pay1
  pointwise [Ideal.ofBits_zero_f32]

section cases
variable (c : Dev nD) (i : grid0.Coords) (a2 : Memref sig .tc .vmem S1024x2048 .bf16) (h2 : a2.IsWhole) (a3 : Memref sig .tc .vmem S1024x1024 .bf16) (h3 : a3.IsWhole)
  (a4 : Memref sig .tc .vmem S2048x1024 .bf16) (h4 : a4.IsWhole) (a5 : Memref sig .tc .vmem S2048x1024 .f32) (h5 : a5.IsWhole)

/-- The first step leaves the blocks' product. -/
theorem scr_A (c0 c1 c2) (x0 : Vec Ideal S1024x2048 .bf16) (x1 : Vec Ideal S1024x1024 .bf16) : sout0_A_0 c i a2 h2 a3 h3 a4 h4 a5 h5 c0 c1 c2 x0 x1 = k0_pay1 x0 x1 := by
  unfold sout0_A_0
  rw [View.read_writes_eq_canon _ _ _ (scover0_A_0 c i a2 h2 a3 h3 a4 h4 a5 h5 c0 c1 c2 x0 x1)]
  unfold kernelRun0_A
  dsimp only
  sl_unfold_words
  rw [View.canon_unit_zero hz]
  unfold k0_pay2
  simp only [View.readAt_eq_ld, h2.read_unread, h3.read_unread, View.ld_unit_zero (S := S1024x2048) hz, View.ld_unit_zero (S := S1024x1024) hz, shapeCast_self]

/-- A later step adds the blocks' product. -/
theorem scr_B (c0 c1 c2) (x0 : Vec Ideal S1024x2048 .bf16) (x1 : Vec Ideal S1024x1024 .bf16) (s : Vec Ideal S2048x1024 .f32) :
    sout0_B_0 c i a2 h2 a3 h3 a4 h4 a5 h5 c0 c1 c2 x0 x1 s = addf s (k0_pay1 x0 x1) := by
  unfold sout0_B_0
  rw [View.read_writes_eq_canon _ _ _ (scover0_B_0 c i a2 h2 a3 h3 a4 h4 a5 h5 c0 c1 c2 x0 x1 s)]
  unfold kernelRun0_B
  dsimp only
  sl_unfold_words
  rw [View.canon_unit_zero hz]
  unfold k0_pay3
  simp only [View.readAt_eq_ld, h2.read_unread, h3.read_unread, h5.read_unread, View.ld_unit_zero (S := S1024x2048) hz, View.ld_unit_zero (S := S1024x1024) hz, View.ld_unit_zero (S := S2048x1024) hz, shapeCast_self]

/-- The last step adds the blocks' product. -/
theorem scr_C (c0 c1 c2) (x0 : Vec Ideal S1024x2048 .bf16) (x1 : Vec Ideal S1024x1024 .bf16) (s : Vec Ideal S2048x1024 .f32) :
    sout0_C_0 c i a2 h2 a3 h3 a4 h4 a5 h5 c0 c1 c2 x0 x1 s = addf s (k0_pay1 x0 x1) := by
  unfold sout0_C_0
  rw [View.read_writes_eq_canon _ _ _ (scover0_C_0 c i a2 h2 a3 h3 a4 h4 a5 h5 c0 c1 c2 x0 x1 s)]
  unfold kernelRun0_C
  dsimp only
  sl_unfold_words
  rw [View.canon_unit_zero hz]
  unfold k0_pay3
  simp only [View.readAt_eq_ld, h2.read_unread, h3.read_unread, h5.read_unread, View.ld_unit_zero (S := S1024x2048) hz, View.ld_unit_zero (S := S1024x1024) hz, View.ld_unit_zero (S := S2048x1024) hz, shapeCast_self]

/-- The last step writes the accumulated product out. -/
theorem out_C (c0 c1 c2) (x0 : Vec Ideal S1024x2048 .bf16) (x1 : Vec Ideal S1024x1024 .bf16) (s : Vec Ideal S2048x1024 .f32) :
    out0_C_2 c i a2 h2 a3 h3 a4 h4 a5 h5 c0 c1 c2 x0 x1 s = truncf .bf16 (addf s (k0_pay1 x0 x1)) bitsLt_bf16_f32 := by
  unfold out0_C_2
  rw [View.read_writes_eq_canon _ _ _ (cover0_C_2 c i a2 h2 a3 h3 a4 h4 a5 h5 c0 c1 c2 x0 x1 s)]
  unfold kernelRun0_C
  dsimp only
  sl_unfold_words
  rw [View.canon_unit_zero hz, View.readCov_unit_zero (S := S2048x1024) _ hz]
  unfold k0_pay4 k0_pay3
  simp only [View.readAt_eq_ld, h2.read_unread, h3.read_unread, h5.read_unread, View.ld_unit_zero (S := S1024x2048) hz, View.ld_unit_zero (S := S1024x1024) hz, View.ld_unit_zero (S := S2048x1024) hz, shapeCast_self]

end cases

/-- Where the windows' blocks lie, from a point's number: block of rows `t % 8`, and the one column tile. -/
theorem places : ∀ t : Fin cfg0.N, win0_0.index t = ![t.val % 8, 0] ∧ win0_1.index t = ![t.val % 8, t.val / 8] ∧
    win0_2.index t = ![0, t.val / 8] := by decide +kernel

variable (m : (ℓ : Loc nD τ sig) → Buf (Elt Ideal) ℓ) (c : Dev nD)

/-- The entries of the first argument. -/
abbrev A : ℕ → ℕ → EReal := entries (n := 8192) (k := 2048) (φ := .bf16) (m ((c : Thread nD τ).loc main_arg0))
/-- The entries of the second argument. -/
abbrev B : ℕ → ℕ → EReal := entries (n := 8192) (k := 1024) (φ := .bf16) (m ((c : Thread nD τ).loc main_arg1))

/-- The first argument's block at a point. -/
theorem blk_a (t : Fin cfg0.N) (r : Fin 1024) (i : Fin 2048) : iblk m c 0 t (ix2 r i) = A m c (1024 * (t.val % 8) + r.val) i.val := by
  obtain ⟨e, -⟩ := places t
  blk_simp [iblk, e]
  refine (entries_ix (n := 8192) (k := 2048) (φ := .bf16) (m ((c : Thread nD τ).loc main_arg0)) ((win0_0.blk t).view.emb (ix2 r i))).trans ?_
  refine congrArg₂ (A m c) ?_ ?_
  · blk_simp [e]; show _ + r.val = _; omega
  · blk_simp [e]

/-- The second argument's block at a point. -/
theorem blk_b (t : Fin cfg0.N) (r j : Fin 1024) : iblk m c 1 t (ix2 r j) = B m c (1024 * (t.val % 8) + r.val) (1024 * (t.val / 8) + j.val) := by
  obtain ⟨-, e, -⟩ := places t
  blk_simp [iblk, e]
  refine (entries_ix (n := 8192) (k := 1024) (φ := .bf16) (m ((c : Thread nD τ).loc main_arg1)) ((win0_1.blk t).view.emb (ix2 r j))).trans ?_
  refine congrArg₂ (B m c) ?_ ?_
  · blk_simp [e]; show _ + r.val = _; omega
  · blk_simp [e]; show _ + j.val = _; omega

/-- A point's product of blocks. -/
theorem prod_at (t : Fin cfg0.N) (i : Fin 2048) (j : Fin 1024) :
    k0_pay1 (iblk m c 0 t) (iblk m c 1 t) (ix2 i j) = ∑ r : Fin 1024, A m c (1024 * (t.val % 8) + r.val) i.val * B m c (1024 * (t.val % 8) + r.val) (1024 * (t.val / 8) + j.val) := by
  refine (pay1_at _ _ i j).trans (Finset.sum_congr rfl fun r _ => ?_)
  rw [blk_a, blk_b]

/-- After a point the accumulator holds the products of the rows so far. -/
theorem scr_at (t : Fin cfg0.N) (i : Fin 2048) (j : Fin 1024) :
    (outsAt0 m c t.val t.isLt).2 (ix2 i j) = part (A m c) (B m c) (1024 * (t.val % 8) + 1024) i.val (1024 * (t.val / 8) + j.val) := by
  refine accumulated (A m c) (B m c) cfg0.N i.val (fun k => 1024 * k + j.val) (fun n h => (outsAt0 m c n h).2 (ix2 i j))
    (fun n h => k0_pay1 (iblk m c 0 ⟨n, h⟩) (iblk m c 1 ⟨n, h⟩) (ix2 i j)) (fun n h => prod_at m c ⟨n, h⟩ i j) (fun n h h0 => ?_) (fun n h h0 => ?_) t.val t.isLt
  · rw [outsAt0_A m c ⟨n, h⟩ h0 (by have := lt_of_lt_of_eq h N_0; dsimp only; omega) (by dsimp only; omega)]
    dsimp only
    rw [scr_A]
  · by_cases h7 : n % 8 = 7
    · rw [outsAt0_C m c ⟨n, h⟩ h0 (by dsimp only; omega) h7]
      dsimp only
      rw [scr_C]
      rfl
    · rw [outsAt0_B m c ⟨n, h⟩ h0 (by dsimp only; omega) h7]
      dsimp only
      rw [scr_B]
      rfl

/-- The last point of a column tile writes the products of all rows out. -/
theorem out_at (t : Fin cfg0.N) (h7 : t.val % 8 = 7) (y : S2048x1024.Idx) :
    (outsAt0 m c t.val t.isLt).1 y = part (A m c) (B m c) 8192 (y 0).val (1024 * (t.val / 8) + (y 1).val) := by
  have h : (outsAt0 m c t.val t.isLt).1 y = (outsAt0 m c t.val t.isLt).2 y := by
    rw [outsAt0_C m c t (by omega) (by omega) h7]
    dsimp only
    rw [out_C, scr_C]
    rfl
  have e : y = ix2 (y 0) (y 1) := funext fun a => match a with | ⟨0, _⟩ => rfl | ⟨1, _⟩ => rfl
  refine h.trans ((congrArg (outsAt0 m c t.val t.isLt).2 e).trans ((scr_at m c t (y 0) (y 1)).trans ?_))
  rw [h7]

/-- What the grid leaves: the first argument's columns times the second's, summed over all rows. -/
def product : FVec Ideal S2048x1024 .bf16 := fun y => part (A m c) (B m c) 8192 (y 0).val (y 1).val

/-- The array the grid leaves. -/
theorem arr : G2 m c = product m c := by
  rw [← final2]
  refine (dats m 0 c).arrAt_eq_of_covers 2 _ (by decide +kernel) fun t hf y => ?_
  obtain ⟨-, -, e⟩ := places t
  have h7 : t.val % 8 = 7 := (flush0_2 t).mp hf
  blk_simp
  show (outsAt0 m c t.val t.isLt).1 _ = product m c ((win0_2.blk t).view.emb y)
  refine (out_at m c t h7 _).trans ?_
  have e0 : (((win0_2.blk t).view.emb y) 0).val = (y 0).val := by blk_simp [e]
  have e1 : (((win0_2.blk t).view.emb y) 1).val = 1024 * (t.val / 8) + (y 1).val := by blk_simp [e]; omega
  unfold product
  rw [e0, e1]

end Cert.KernelDwoutIdeal.Value

namespace Cert.ReferenceDwoutIdeal.Value

open Cert.ReferenceDwoutIdeal Cert.ReferenceDwoutIdeal.Gen Idealize.ShloMosaic Idealize.ShloMosaic.TcCoe
open Cert.Contract

/-- The reference's result: the same products over all rows. -/
theorem ref (x : FVec Ideal S8192x2048 .bf16) (y : FVec Ideal S8192x1024 .bf16) (h1 h2 h3 h4) :
    (truncf .bf16 (transpose S2048x1024 [1, 0] (Host.dotGeneral (φ₁ := .f32) (φ₂ := .f32) dot_S8192x1024_S8192x2048_S1024x2048_0_0_1_1_n_n none (extf .f32 y h1) (extf .f32 x h2)) h3) h4 : FVec Ideal S2048x1024 .bf16)
      = fun z => part (entries x) (entries y) 8192 (z 0).val (z 1).val := by
  funext z
  idx_vars z
  rw [part_all]
  pointwise
  refine Finset.sum_congr rfl fun r _ => ?_
  rw [mul_comm]
  exact congrArg₂ (fun a b : EReal => a * b) (entries_at x r _).symm (entries_at y r _).symm

end Cert.ReferenceDwoutIdeal.Value

end
-- ==== Proof.Layers.lean ====
/- The entrywise text of the gated projection and of the modulated normalization, over arrays given by their numbers. -/
module

public import proofs.«01_k».proof.Proof.Contract

@[expose] public section

set_option maxRecDepth 16384

noncomputable section

namespace Cert.Layers

open Idealize.ShloMosaic

/-- The entries of an array of one row per sequence, by their numbers, zero outside of it. -/
def rows {n k : ℕ} {φ : FTy} (x : FVec Ideal ⟨3, ![n, 1, k]⟩ φ) (r s : ℕ) : EReal :=
  if h : r < n ∧ s < k then x (ix3 ⟨r, h.1⟩ 0 ⟨s, h.2⟩) else 0

theorem rows_at {n k : ℕ} {φ : FTy} (x : FVec Ideal ⟨3, ![n, 1, k]⟩ φ) (r : Fin n) (s : Fin k) : rows x r.val s.val = x (ix3 r 0 s) :=
  dif_pos ⟨r.isLt, s.isLt⟩

/-- An array's entry is the one its numbers name. -/
theorem rows_ix {n k : ℕ} {φ : FTy} (x : FVec Ideal ⟨3, ![n, 1, k]⟩ φ) (y : (⟨3, ![n, 1, k]⟩ : Shape).Idx) : x y = rows x (y 0).val (y 2).val := by
  refine (congrArg x ?_).trans (rows_at x (y 0) (y 2)).symm
  funext a
  match a with
  | ⟨0, _⟩ => rfl
  | ⟨1, _⟩ => exact Subsingleton.elim (α := Fin 1) _ _
  | ⟨2, _⟩ => rfl

/-- The logistic function. -/
def sigma (z : EReal) : EReal := Ideal.div 1 (1 + Ideal.exp (-z))

/-- The attention's output times the gate's sigmoid-weighted value. -/
def gated (O Z : ℕ → ℕ → EReal) (r k : ℕ) : EReal := O r k * (Z r k * sigma (Z r k))

/-- A row of one array times a column of another, over `n` entries. -/
def prod (n : ℕ) (A B : ℕ → ℕ → EReal) (r j : ℕ) : EReal := ∑ k : Fin n, A r k.val * B k.val j

/-- The residual stream after a branch scaled by its sequence's gate, 2048 rows to a sequence. -/
def joined (X Y G : ℕ → ℕ → EReal) (r j : ℕ) : EReal := X r j + G (r / 2048) j * Y r j

/-- A row's mean square plus the small constant, 1024 entries to a row. -/
def var (X : ℕ → ℕ → EReal) (r : ℕ) : EReal :=
  Ideal.div (∑ k : Fin 1024, X r k.val * X r k.val) (Ideal.ofBits .f32 0x44800000#32) + Ideal.ofBits .f32 0x358637BD#32

/-- The normalized row, scaled by the weights and modulated by its sequence's scale and shift. -/
def modulated (X G SC SH : ℕ → ℕ → EReal) (r j : ℕ) : EReal :=
  X r j * Ideal.rsqrt (var X r) * G 0 j * (1 + SC (r / 2048) j) + SH (r / 2048) j

/-- The cotangent of the norm's output: four row blocks times the weights' four column blocks, 2048 columns each. -/
def back (Q K V Z W : ℕ → ℕ → EReal) (r j : ℕ) : EReal :=
  ∑ k : Fin 2048, Q r k.val * W j k.val + ∑ k : Fin 2048, K r k.val * W j (2048 + k.val)
    + ∑ k : Fin 2048, V r k.val * W j (4096 + k.val) + ∑ k : Fin 2048, Z r k.val * W j (6144 + k.val)

/-- The four row blocks side by side. -/
def beside (Q K V Z : ℕ → ℕ → EReal) (r p : ℕ) : EReal :=
  if p < 2048 then Q r p else if p < 4096 then K r (p - 2048) else if p < 6144 then V r (p - 4096) else Z r (p - 6144)

/-- The blocks side by side times all the weights' columns are the four products' sum. -/
theorem sum_beside (Q K V Z W : ℕ → ℕ → EReal) (r j : ℕ) :
    ∑ p : Fin 8192, beside Q K V Z r p.val * W j p.val = back Q K V Z W r j := by
  unfold back
  rw [← Finset.sum_range fun p => beside Q K V Z r p * W j p, show 8192 = 2048 + 2048 + 2048 + 2048 from rfl, Finset.sum_range_add, Finset.sum_range_add, Finset.sum_range_add]
  simp only [Finset.sum_range]
  refine congrArg₂ (fun a b : EReal => a + b) (congrArg₂ (fun a b : EReal => a + b) (congrArg₂ (fun a b : EReal => a + b) ?_ ?_) ?_) ?_ <;>
    refine Finset.sum_congr rfl fun k _ => ?_ <;> unfold beside
  · rw [if_pos k.isLt]
  · rw [if_neg (by omega), if_pos (by omega), show 2048 + k.val - 2048 = k.val from by omega]
  · rw [if_neg (by omega), if_neg (by omega), if_pos (by omega), show 2048 + 2048 + k.val - 4096 = k.val from by omega]
  · rw [if_neg (by omega), if_neg (by omega), if_neg (by omega), show 2048 + 2048 + 2048 + k.val - 6144 = k.val from by omega]

/-- The normalized entry. -/
def normed (X : ℕ → ℕ → EReal) (r j : ℕ) : EReal := X r j * Ideal.rsqrt (var X r)

/-- The cotangent of the normalized entry. -/
def scaled (D G SC : ℕ → ℕ → EReal) (r j : ℕ) : EReal := D r j * (G 0 j * (1 + SC (r / 2048) j))

/-- The gradient by the norm's input, added to the stream's. -/
def inward (D G SC X DX : ℕ → ℕ → EReal) (r j : ℕ) : EReal :=
  DX r j + Ideal.rsqrt (var X r) * (scaled D G SC r j - normed X r j * Ideal.div (∑ k : Fin 1024, scaled D G SC r k.val * normed X r k.val) (Ideal.ofBits .f32 0x44800000#32))

/-- A column's entries, summed over a sequence's first `n` rows. -/
def down (f : ℕ → EReal) (b n : ℕ) : EReal := ∑ i ∈ Finset.range n, f (2048 * b + i)

/-- An accumulator that is set to a block's sum when its number is a multiple of `q`, and added to otherwise, holds the
    sum of the sequence's blocks so far; a sequence is `q` blocks of `k` rows. -/
theorem down_at (k q : ℕ) (hk : k * q = 2048) (f : ℕ → EReal) (N : ℕ) (s u : ∀ n, n < N → EReal) (hu : ∀ n h, u n h = ∑ i : Fin k, f (k * n + i.val))
    (first : ∀ n h, n % q = 0 → s n h = u n h) (later : ∀ n h, ¬n % q = 0 → s n h = s (n - 1) (by omega) + u n h) (n : ℕ) (h : n < N) :
    s n h = down f (n / q) (k * (n % q) + k) := by
  have step : ∀ n, down f (n / q) (k * (n % q) + k) = down f (n / q) (k * (n % q)) + ∑ i : Fin k, f (k * n + i.val) := by
    intro n
    unfold down
    rw [Finset.sum_range_add, Finset.sum_range fun i => f (2048 * (n / q) + (k * (n % q) + i))]
    refine congrArg (fun z : EReal => _ + z) (Finset.sum_congr rfl fun i _ => congrArg f ?_)
    have e : k * n = k * q * (n / q) + k * (n % q) := by rw [mul_assoc, ← mul_add, Nat.div_add_mod]
    rw [e, hk, add_assoc]
  have zero : ∀ n, n % q = 0 → down f (n / q) (k * (n % q) + k) = ∑ i : Fin k, f (k * n + i.val) := by
    intro n h0
    rw [step, h0]
    unfold down
    rw [Nat.mul_zero, Finset.range_zero, Finset.sum_empty, zero_add]
  induction n with
  | zero => exact (first 0 h (Nat.zero_mod q)).trans ((hu 0 h).trans (zero 0 (Nat.zero_mod q)).symm)
  | succ n ih =>
    by_cases h0 : (n + 1) % q = 0
    · exact (first _ h h0).trans ((hu _ h).trans (zero _ h0).symm)
    · refine (later _ h h0).trans ((congrArg₂ (fun a b : EReal => a + b) (ih (by omega)) (hu _ h)).trans ?_)
      have e1 : n / q = (n + 1) / q := (Nat.succ_div_of_not_dvd fun d => h0 (Nat.mod_eq_zero_of_dvd d)).symm
      have e2 : n % q + 1 = (n + 1) % q := by
        have a := Nat.div_add_mod n q
        have b := Nat.div_add_mod (n + 1) q
        rw [← e1] at b
        omega
      rw [step (n + 1), ← e1, ← e2, show k * (n % q + 1) = k * (n % q) + k from Nat.mul_succ _ _]

end Cert.Layers

end
-- ==== Proof.ZVal.lean ====
/- The modulated normalization times the gate's part of the in-projection: what the grid leaves and what the reference computes. -/
module

public import proofs.«01_k».proof.Proof.Layers
public import proofs.«01_k».proof.Proof.Gen.KernelZIdeal.Value
public import proofs.«01_k».proof.Proof.Gen.ReferenceZIdeal.Run
public import Idealize.ShloMosaic.Lib.Pipeline.ValueKit

@[expose] public section

set_option maxRecDepth 16384
set_option maxHeartbeats 1000000

noncomputable section

namespace Cert.KernelZIdeal.Value

open Cert.KernelZIdeal Cert.KernelZIdeal.Gen Idealize.ShloMosaic Idealize.ShloMosaic.TcCoe Idealize.ShloMosaic.Tactic Idealize.SL.Sem
open Cert.Contract Cert.Layers

theorem hz : (![0, 0] : Fin 2 → Nat) = fun _ => 0 := funext fun a => by fin_cases a <;> rfl
theorem hz3 : (![0, 0, 0] : Fin 3 → Nat) = fun _ => 0 := funext fun a => by fin_cases a <;> rfl

/-- The modulated block. -/
theorem pay1_at (x : Vec Ideal S512x1024 .f32) (g : Vec Ideal S1x1024 .f32) (sc sh : Vec Ideal S1x1x1024 .f32) (i : Fin 512) (j : Fin 1024) :
    k0_pay1 x g sc sh (ix2 i j) = (x (ix2 i j) * Ideal.rsqrt (Ideal.div (∑ k : Fin 1024, x (ix2 i k) * x (ix2 i k)) (Ideal.ofBits .f32 0x44800000#32) + Ideal.ofBits .f32 0x358637BD#32)
      * g (ix2 0 j) * (1 + sc (ix3 0 0 j)) + sh (ix3 0 0 j) : EReal) := by
  unfold k0_pay1
  pointwise [Ideal.ofBits_zero_f32]

/-- The modulated block times the weights. -/
theorem pay2_at (h : Vec Ideal S512x1024 .bf16) (w : Vec Ideal S1024x2048 .bf16) (i : Fin 512) (j : Fin 2048) :
    k0_pay2 h w (ix2 i j) = ∑ r : Fin 1024, (h (ix2 i r) * w (ix2 r j) : EReal) := by
  unfold k0_pay2
  pointwise [Ideal.ofBits_zero_f32]

/-- Where the windows' blocks lie, from a point's number, 4 points to a sequence. -/
theorem places : ∀ t : Fin cfg0.N, win0_0.index t = ![t.val, 0] ∧ win0_1.index t = ![0, 0] ∧ win0_2.index t = ![t.val / 4, 0, 0] ∧
    win0_3.index t = ![t.val / 4, 0, 0] ∧ win0_4.index t = ![0, 3] ∧ win0_5.index t = ![t.val, 0] := by decide +kernel

section out
variable (c : Dev nD) (i : grid0.Coords) (a2 : Memref sig .tc .vmem S512x1024 .f32) (h2 : a2.IsWhole) (a3 : Memref sig .tc .vmem S1x1024 .f32) (h3 : a3.IsWhole) (a4 : Memref sig .tc .vmem S1x1x1024 .f32) (h4 : a4.IsWhole) (a5 : Memref sig .tc .vmem S1x1x1024 .f32) (h5 : a5.IsWhole) (a6 : Memref sig .tc .vmem S1024x2048 .bf16) (h6 : a6.IsWhole) (a7 : Memref sig .tc .vmem S512x2048 .f32) (h7 : a7.IsWhole) (a8 : Memref sig .tc .vmem S512x1024 .bf16) (h8 : a8.IsWhole)

/-- A point writes the modulated block times the weights. -/
theorem out_5 (hc0) (x0 : Vec Ideal S512x1024 .f32) (x1 : Vec Ideal S1x1024 .f32) (x2 x3 : Vec Ideal S1x1x1024 .f32) (x4 : Vec Ideal S1024x2048 .bf16) :
    out0_A_5 c i a2 h2 a3 h3 a4 h4 a5 h5 a6 h6 a7 h7 a8 h8 hc0 x0 x1 x2 x3 x4 = k0_pay2 (k0_pay1 x0 x1 x2 x3) x4 := by
  unfold out0_A_5
  rw [View.read_writes_eq_canon _ _ _ (cover0_A_5 c i a2 h2 a3 h3 a4 h4 a5 h5 a6 h6 a7 h7 a8 h8 hc0 x0 x1 x2 x3 x4)]
  unfold kernelRun0_A
  dsimp only
  sl_unfold_words
  rw [View.canon_unit_zero hz, View.readCov_unit_zero (S := S512x1024) _ hz]
  simp only [View.readAt_eq_ld, h2.read_unread, h3.read_unread, h4.read_unread, h5.read_unread, h6.read_unread, View.ld_unit_zero (S := S512x1024) hz, View.ld_unit_zero (S := S1024x2048) hz, View.ld_unit_zero (S := S1x1024) hz, View.ld_unit_zero (S := S1x1x1024) hz3, shapeCast_self]

end out

variable (m : (ℓ : Loc nD τ sig) → Buf (Elt Ideal) ℓ) (c : Dev nD)

/-- The arguments' entries. -/
abbrev X : ℕ → ℕ → EReal := entries (n := 8192) (k := 1024) (φ := .f32) (m ((c : Thread nD τ).loc main_arg0))
abbrev G : ℕ → ℕ → EReal := entries (n := 1) (k := 1024) (φ := .f32) (m ((c : Thread nD τ).loc main_arg1))
abbrev SC : ℕ → ℕ → EReal := rows (n := 4) (k := 1024) (φ := .f32) (m ((c : Thread nD τ).loc main_arg2))
abbrev SH : ℕ → ℕ → EReal := rows (n := 4) (k := 1024) (φ := .f32) (m ((c : Thread nD τ).loc main_arg3))
abbrev W : ℕ → ℕ → EReal := entries (n := 1024) (k := 8192) (φ := .bf16) (m ((c : Thread nD τ).loc main_arg4))

theorem blk_x (t : Fin cfg0.N) (i : Fin 512) (j : Fin 1024) : iblk m c 0 t (ix2 i j) = X m c (512 * t.val + i.val) j.val := by
  obtain ⟨e, -⟩ := places t
  blk_simp [iblk, e]
  refine (entries_ix (n := 8192) (k := 1024) (φ := .f32) (m ((c : Thread nD τ).loc main_arg0)) ((win0_0.blk t).view.emb (ix2 i j))).trans ?_
  refine congrArg₂ (X m c) ?_ ?_
  · blk_simp [e]; show _ + i.val = _; omega
  · blk_simp [e]

theorem blk_g (t : Fin cfg0.N) (j : Fin 1024) : iblk m c 1 t (ix2 0 j) = G m c 0 j.val := by
  obtain ⟨-, e, -⟩ := places t
  blk_simp [iblk, e]
  refine (entries_ix (n := 1) (k := 1024) (φ := .f32) (m ((c : Thread nD τ).loc main_arg1)) ((win0_1.blk t).view.emb (ix2 0 j))).trans ?_
  refine congrArg₂ (G m c) ?_ ?_
  · blk_simp [e]; rfl
  · blk_simp [e]

theorem blk_sc (t : Fin cfg0.N) (j : Fin 1024) : iblk m c 2 t (ix3 0 0 j) = SC m c (t.val / 4) j.val := by
  obtain ⟨-, -, e, -⟩ := places t
  blk_simp [iblk, e]
  refine (rows_ix (n := 4) (k := 1024) (φ := .f32) (m ((c : Thread nD τ).loc main_arg2)) ((win0_2.blk t).view.emb (ix3 0 0 j))).trans ?_
  refine congrArg₂ (SC m c) ?_ ?_
  · blk_simp [e]; exact Nat.add_zero _
  · blk_simp [e]

theorem blk_sh (t : Fin cfg0.N) (j : Fin 1024) : iblk m c 3 t (ix3 0 0 j) = SH m c (t.val / 4) j.val := by
  obtain ⟨-, -, -, e, -⟩ := places t
  blk_simp [iblk, e]
  refine (rows_ix (n := 4) (k := 1024) (φ := .f32) (m ((c : Thread nD τ).loc main_arg3)) ((win0_3.blk t).view.emb (ix3 0 0 j))).trans ?_
  refine congrArg₂ (SH m c) ?_ ?_
  · blk_simp [e]; exact Nat.add_zero _
  · blk_simp [e]

theorem blk_w (t : Fin cfg0.N) (i : Fin 1024) (j : Fin 2048) : iblk m c 4 t (ix2 i j) = W m c i.val (6144 + j.val) := by
  obtain ⟨-, -, -, -, e, -⟩ := places t
  blk_simp [iblk, e]
  refine (entries_ix (n := 1024) (k := 8192) (φ := .bf16) (m ((c : Thread nD τ).loc main_arg4)) ((win0_4.blk t).view.emb (ix2 i j))).trans ?_
  refine congrArg₂ (W m c) ?_ ?_
  · blk_simp [e]
  · blk_simp [e]

theorem h_at (t : Fin cfg0.N) (i : Fin 512) (j : Fin 1024) :
    k0_pay1 (iblk m c 0 t) (iblk m c 1 t) (iblk m c 2 t) (iblk m c 3 t) (ix2 i j) = modulated (X m c) (G m c) (SC m c) (SH m c) (512 * t.val + i.val) j.val := by
  rw [pay1_at, blk_x, blk_g, blk_sc, blk_sh]
  unfold modulated var
  rw [show (512 * t.val + i.val) / 2048 = t.val / 4 from by omega]
  simp only [blk_x]

theorem z_at (t : Fin cfg0.N) (i : Fin 512) (j : Fin 2048) :
    k0_pay2 (k0_pay1 (iblk m c 0 t) (iblk m c 1 t) (iblk m c 2 t) (iblk m c 3 t)) (iblk m c 4 t) (ix2 i j)
      = prod 1024 (modulated (X m c) (G m c) (SC m c) (SH m c)) (W m c) (512 * t.val + i.val) (6144 + j.val) := by
  refine (pay2_at _ _ i j).trans (Finset.sum_congr rfl fun r _ => ?_)
  rw [h_at, blk_w]

/-- The modulated rows times the weights' last 2048 columns. -/
def z : FVec Ideal S8192x2048 .f32 := fun y => prod 1024 (modulated (X m c) (G m c) (SC m c) (SH m c)) (W m c) (y 0).val (6144 + (y 1).val)

theorem eta {n k : ℕ} (y : (⟨2, ![n, k]⟩ : Shape).Idx) : y = ix2 (y 0) (y 1) := funext fun a => match a with | ⟨0, _⟩ => rfl | ⟨1, _⟩ => rfl

/-- The array the grid leaves. -/
theorem arr : (dats m 0 c).arrAt 5 cfg0.N = z m c := by
  refine (dats m 0 c).arrAt_eq_of_covers 5 _ (by decide +kernel) fun t hf y => ?_
  obtain ⟨-, -, -, -, -, e⟩ := places t
  blk_simp
  rw [after0_5]
  unfold outsAt0
  rw [out_5]
  refine (congrArg (k0_pay2 (k0_pay1 (iblk m c 0 t) (iblk m c 1 t) (iblk m c 2 t) (iblk m c 3 t)) (iblk m c 4 t)) (eta (n := 512) (k := 2048) y)).trans ((z_at m c t (y 0) (y 1)).trans ?_)
  have e0 : (((win0_5.blk t).view.emb y) 0).val = 512 * t.val + (y 0).val := by blk_simp [e]; omega
  have e1 : (((win0_5.blk t).view.emb y) 1).val = (y 1).val := by blk_simp [e]
  show _ = z m c ((win0_5.blk t).view.emb y)
  unfold z
  rw [e0, e1]

end Cert.KernelZIdeal.Value

namespace Cert.ReferenceZIdeal.Value

open Cert.ReferenceZIdeal Cert.ReferenceZIdeal.Gen Idealize.ShloMosaic Idealize.ShloMosaic.TcCoe
open Cert.Contract Cert.Layers

/-- The reference's modulated rows. -/
abbrev mod (x : FVec Ideal S8192x1024 .f32) (g : FVec Ideal S1x1024 .f32) (sc sh : FVec Ideal S4x1x1024 .f32) : FVec Ideal S8192x1024 .f32 :=
  shapeCast S8192x1024 (addf (mulf (mulf (mulf (shapeCast S4x2048x1024 x shapeCasts_S8192x1024_S4x2048x1024) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast S4x2048x1024 x shapeCasts_S8192x1024_S4x2048x1024) (shapeCast S4x2048x1024 x shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast S1024 g shapeCasts_S1x1024_S1024)))) (broadcastInDim S4x2048x1024 ![0, 1, 2] bcast_S4x1x1024_S4x2048x1024_0_1_2 (addf (broadcastInDim S4x1x1024 ![] bcast_S_S4x1x1024 (constant S_ .f32 0x3F800000#32)) sc))) (broadcastInDim S4x2048x1024 ![0, 1, 2] bcast_S4x1x1024_S4x2048x1024_0_1_2 sh)) shapeCasts_S4x2048x1024_S8192x1024

theorem mod_ix (x : FVec Ideal S8192x1024 .f32) (g : FVec Ideal S1x1024 .f32) (sc sh : FVec Ideal S4x1x1024 .f32) (i : Fin 8192) (j : Fin 1024) :
    mod x g sc sh (ix2 i j) = (x (ix2 i j) * Ideal.rsqrt (Ideal.div (∑ k : Fin 1024, x (ix2 i k) * x (ix2 i k)) (Ideal.ofBits .f32 0x44800000#32) + Ideal.ofBits .f32 0x358637BD#32)
      * g (ix2 0 j) * (1 + sc (ix3 ⟨i.val / 2048, by omega⟩ 0 j)) + sh (ix3 ⟨i.val / 2048, by omega⟩ 0 j) : EReal) := by
  unfold mod
  pointwise

theorem mod_at (x : FVec Ideal S8192x1024 .f32) (g : FVec Ideal S1x1024 .f32) (sc sh : FVec Ideal S4x1x1024 .f32) (i : Fin 8192) (j : Fin 1024) :
    mod x g sc sh (ix2 i j) = modulated (entries x) (entries g) (rows sc) (rows sh) i.val j.val := by
  refine (mod_ix x g sc sh i j).trans ?_
  unfold modulated var
  simp only [entries_at]
  rw [← rows_at sc, ← rows_at sh, ← entries_at g]
  rfl

/-- The product's last 2048 columns. -/
theorem dot_at (a : FVec Ideal S8192x1024 .f32) (w : FVec Ideal S1024x8192 .bf16) (i : Fin 8192) (j : Fin 2048) :
    (extractStridedSlice S8192x2048 ![0, 6144] (Host.dotGeneral (φ₁ := .f32) (φ₂ := .f32) dot_S8192x1024_S1024x8192_S8192x8192_1_0_0_1_n_n none a (extf .f32 w bitsLt_bf16_f32)) slices_S8192x8192_S8192x2048_0_6144 : FVec Ideal S8192x2048 .f32) (ix2 i j) = ∑ k : Fin 1024, (a (ix2 i k) * w (ix2 k ⟨6144 + j.val, by omega⟩) : EReal) := by
  pointwise

/-- The reference's result. -/
theorem ref (x : FVec Ideal S8192x1024 .f32) (g : FVec Ideal S1x1024 .f32) (sc sh : FVec Ideal S4x1x1024 .f32) (w : FVec Ideal S1024x8192 .bf16) :
    (extractStridedSlice S8192x2048 ![0, 6144] (Host.dotGeneral (φ₁ := .f32) (φ₂ := .f32) dot_S8192x1024_S1024x8192_S8192x8192_1_0_0_1_n_n none (mod x g sc sh) (extf .f32 w bitsLt_bf16_f32)) slices_S8192x8192_S8192x2048_0_6144 : FVec Ideal S8192x2048 .f32)
      = fun v => prod 1024 (modulated (entries x) (entries g) (rows sc) (rows sh)) (entries w) (v 0).val (6144 + (v 1).val) := by
  funext v
  idx_vars v
  refine (dot_at _ _ _ _).trans (Finset.sum_congr rfl fun k _ => ?_)
  rw [mod_at]
  exact congrArg (fun b : EReal => _ * b) (entries_at w k ⟨6144 + _, _⟩).symm

end Cert.ReferenceZIdeal.Value

end
-- ==== Proof.OutVal.lean ====
/- The gated out-projection with its residual: what the grid leaves and what the reference computes. -/
module

public import proofs.«01_k».proof.Proof.Layers
public import proofs.«01_k».proof.Proof.Gen.KernelOutIdeal.Value
public import proofs.«01_k».proof.Proof.Gen.ReferenceOutIdeal.Run
public import Idealize.ShloMosaic.Lib.Pipeline.ValueKit

@[expose] public section

set_option maxRecDepth 16384
set_option maxHeartbeats 1000000

noncomputable section

namespace Cert.KernelOutIdeal.Value

open Cert.KernelOutIdeal Cert.KernelOutIdeal.Gen Idealize.ShloMosaic Idealize.ShloMosaic.TcCoe Idealize.ShloMosaic.Tactic Idealize.SL.Sem
open Cert.Contract Cert.Layers

theorem hz : (![0, 0] : Fin 2 → Nat) = fun _ => 0 := funext fun a => by fin_cases a <;> rfl
theorem hz3 : (![0, 0, 0] : Fin 3 → Nat) = fun _ => 0 := funext fun a => by fin_cases a <;> rfl

/-- The gated block. -/
theorem pay1_at (z o : Vec Ideal S256x2048 .f32) (i : Fin 256) (j : Fin 2048) :
    k0_pay1 z o (ix2 i j) = (o (ix2 i j) * (z (ix2 i j) * sigma (z (ix2 i j))) : EReal) := by
  unfold k0_pay1 sigma
  pointwise [Ideal.ofBits_zero_f32, zero_sub]

/-- The gated block times the weights. -/
theorem pay2_at (z o : Vec Ideal S256x2048 .f32) (w : Vec Ideal S2048x1024 .bf16) (i : Fin 256) (j : Fin 1024) :
    k0_pay2 z o w (ix2 i j) = ∑ r : Fin 2048, (k0_pay1 z o (ix2 i r) * w (ix2 r j) : EReal) := by
  unfold k0_pay2
  pointwise [Ideal.ofBits_zero_f32]

/-- The residual block plus the gate's row times the product. -/
theorem pay3_at (z o : Vec Ideal S256x2048 .f32) (w : Vec Ideal S2048x1024 .bf16) (x : Vec Ideal S256x1024 .f32) (g : Vec Ideal S1x1x1024 .f32) (i : Fin 256) (j : Fin 1024) :
    k0_pay3 z o w x g (ix2 i j) = (x (ix2 i j) + g (ix3 0 0 j) * k0_pay2 z o w (ix2 i j) : EReal) := by
  unfold k0_pay3
  pointwise

section block
variable {O Z W X G : ℕ → ℕ → EReal} {t : ℕ} {x0 x1 : Vec Ideal S256x2048 .f32} {x2 : Vec Ideal S2048x1024 .bf16} {x3 : Vec Ideal S256x1024 .f32} {x4 : Vec Ideal S1x1x1024 .f32}

/-- What the stored values are, from the blocks' entries at the point `t`. -/
theorem u_of (h0 : ∀ i k, x0 (ix2 i k) = O (256 * t + i.val) k.val) (h1 : ∀ i k, x1 (ix2 i k) = Z (256 * t + i.val) k.val) (i : Fin 256) (j : Fin 2048) :
    k0_pay1 x1 x0 (ix2 i j) = gated O Z (256 * t + i.val) j.val := by
  rw [pay1_at, h0, h1]
  rfl

theorem y_of (h0 : ∀ i k, x0 (ix2 i k) = O (256 * t + i.val) k.val) (h1 : ∀ i k, x1 (ix2 i k) = Z (256 * t + i.val) k.val) (h2 : ∀ k j, x2 (ix2 k j) = W k.val j.val) (i : Fin 256) (j : Fin 1024) :
    k0_pay2 x1 x0 x2 (ix2 i j) = prod 2048 (gated O Z) W (256 * t + i.val) j.val := by
  refine (pay2_at _ _ _ i j).trans (Finset.sum_congr rfl fun r _ => ?_)
  rw [u_of h0 h1, h2]

theorem xn_of (h0 : ∀ i k, x0 (ix2 i k) = O (256 * t + i.val) k.val) (h1 : ∀ i k, x1 (ix2 i k) = Z (256 * t + i.val) k.val) (h2 : ∀ k j, x2 (ix2 k j) = W k.val j.val)
    (h3 : ∀ i j, x3 (ix2 i j) = X (256 * t + i.val) j.val) (h4 : ∀ j, x4 (ix3 0 0 j) = G (t / 8) j.val) (i : Fin 256) (j : Fin 1024) :
    k0_pay3 x1 x0 x2 x3 x4 (ix2 i j) = joined X (prod 2048 (gated O Z) W) G (256 * t + i.val) j.val := by
  rw [pay3_at, y_of h0 h1 h2, h3, h4]
  unfold joined
  rw [show (256 * t + i.val) / 2048 = t / 8 from by omega]

end block

/-- Where the windows' blocks lie, from a point's number. -/
theorem places : ∀ t : Fin cfg0.N, win0_0.index t = ![t.val, 0] ∧ win0_1.index t = ![t.val, 0] ∧ win0_2.index t = ![0, 0] ∧
    win0_3.index t = ![t.val, 0] ∧ win0_4.index t = ![t.val / 8, 0, 0] ∧ win0_5.index t = ![t.val, 0] ∧ win0_6.index t = ![t.val, 0] ∧ win0_7.index t = ![t.val, 0] := by decide +kernel

variable (m : (ℓ : Loc nD τ sig) → Buf (Elt Ideal) ℓ) (c : Dev nD)

/-- The arguments' entries. -/
abbrev O : ℕ → ℕ → EReal := entries (n := 8192) (k := 2048) (φ := .f32) (m ((c : Thread nD τ).loc main_arg0))
abbrev Z : ℕ → ℕ → EReal := entries (n := 8192) (k := 2048) (φ := .f32) (m ((c : Thread nD τ).loc main_arg1))
abbrev W : ℕ → ℕ → EReal := entries (n := 2048) (k := 1024) (φ := .bf16) (m ((c : Thread nD τ).loc main_arg2))
abbrev X : ℕ → ℕ → EReal := entries (n := 8192) (k := 1024) (φ := .f32) (m ((c : Thread nD τ).loc main_arg3))
abbrev G : ℕ → ℕ → EReal := rows (n := 4) (k := 1024) (φ := .f32) (m ((c : Thread nD τ).loc main_arg4))

theorem blk_o (t : Fin cfg0.N) (i : Fin 256) (j : Fin 2048) : iblk m c 0 t (ix2 i j) = O m c (256 * t.val + i.val) j.val := by
  obtain ⟨e, -⟩ := places t
  blk_simp [iblk, e]
  refine (entries_ix (n := 8192) (k := 2048) (φ := .f32) (m ((c : Thread nD τ).loc main_arg0)) ((win0_0.blk t).view.emb (ix2 i j))).trans ?_
  refine congrArg₂ (O m c) ?_ ?_
  · blk_simp [e]; show _ + i.val = _; omega
  · blk_simp [e]

theorem blk_z (t : Fin cfg0.N) (i : Fin 256) (j : Fin 2048) : iblk m c 1 t (ix2 i j) = Z m c (256 * t.val + i.val) j.val := by
  obtain ⟨-, e, -⟩ := places t
  blk_simp [iblk, e]
  refine (entries_ix (n := 8192) (k := 2048) (φ := .f32) (m ((c : Thread nD τ).loc main_arg1)) ((win0_1.blk t).view.emb (ix2 i j))).trans ?_
  refine congrArg₂ (Z m c) ?_ ?_
  · blk_simp [e]; show _ + i.val = _; omega
  · blk_simp [e]

theorem blk_w (t : Fin cfg0.N) (i : Fin 2048) (j : Fin 1024) : iblk m c 2 t (ix2 i j) = W m c i.val j.val := by
  obtain ⟨-, -, e, -⟩ := places t
  blk_simp [iblk, e]
  refine (entries_ix (n := 2048) (k := 1024) (φ := .bf16) (m ((c : Thread nD τ).loc main_arg2)) ((win0_2.blk t).view.emb (ix2 i j))).trans ?_
  refine congrArg₂ (W m c) ?_ ?_
  · blk_simp [e]
  · blk_simp [e]

theorem blk_x (t : Fin cfg0.N) (i : Fin 256) (j : Fin 1024) : iblk m c 3 t (ix2 i j) = X m c (256 * t.val + i.val) j.val := by
  obtain ⟨-, -, -, e, -⟩ := places t
  blk_simp [iblk, e]
  refine (entries_ix (n := 8192) (k := 1024) (φ := .f32) (m ((c : Thread nD τ).loc main_arg3)) ((win0_3.blk t).view.emb (ix2 i j))).trans ?_
  refine congrArg₂ (X m c) ?_ ?_
  · blk_simp [e]; show _ + i.val = _; omega
  · blk_simp [e]

theorem blk_g (t : Fin cfg0.N) (j : Fin 1024) : iblk m c 4 t (ix3 0 0 j) = G m c (t.val / 8) j.val := by
  obtain ⟨-, -, -, -, e, -⟩ := places t
  blk_simp [iblk, e]
  refine (rows_ix (n := 4) (k := 1024) (φ := .f32) (m ((c : Thread nD τ).loc main_arg4)) ((win0_4.blk t).view.emb (ix3 0 0 j))).trans ?_
  refine congrArg₂ (G m c) ?_ ?_
  · blk_simp [e]; exact Nat.add_zero _
  · blk_simp [e]

/-- The gated rows, their product with the weights, and the stream after the branch. -/
def u : FVec Ideal S8192x2048 .bf16 := fun y => gated (O m c) (Z m c) (y 0).val (y 1).val
/-- The gated rows times the weights. -/
def y : FVec Ideal S8192x1024 .f32 := fun y => prod 2048 (gated (O m c) (Z m c)) (W m c) (y 0).val (y 1).val
/-- The residual stream after the branch. -/
def xn : FVec Ideal S8192x1024 .f32 := fun y => joined (X m c) (prod 2048 (gated (O m c) (Z m c)) (W m c)) (G m c) (y 0).val (y 1).val

theorem u_at (t : Fin cfg0.N) (i : Fin 256) (j : Fin 2048) :
    k0_pay1 (iblk m c 1 t) (iblk m c 0 t) (ix2 i j) = gated (O m c) (Z m c) (256 * t.val + i.val) j.val :=
  u_of (blk_o m c t) (blk_z m c t) i j

theorem y_at (t : Fin cfg0.N) (i : Fin 256) (j : Fin 1024) :
    k0_pay2 (iblk m c 1 t) (iblk m c 0 t) (iblk m c 2 t) (ix2 i j) = prod 2048 (gated (O m c) (Z m c)) (W m c) (256 * t.val + i.val) j.val :=
  y_of (blk_o m c t) (blk_z m c t) (blk_w m c t) i j

theorem xn_at (t : Fin cfg0.N) (i : Fin 256) (j : Fin 1024) :
    k0_pay3 (iblk m c 1 t) (iblk m c 0 t) (iblk m c 2 t) (iblk m c 3 t) (iblk m c 4 t) (ix2 i j)
      = joined (X m c) (prod 2048 (gated (O m c) (Z m c)) (W m c)) (G m c) (256 * t.val + i.val) j.val :=
  xn_of (blk_o m c t) (blk_z m c t) (blk_w m c t) (blk_x m c t) (blk_g m c t) i j

theorem eta {n k : ℕ} (y : (⟨2, ![n, k]⟩ : Shape).Idx) : y = ix2 (y 0) (y 1) := funext fun a => match a with | ⟨0, _⟩ => rfl | ⟨1, _⟩ => rfl

theorem out_7 (x0 x1 : Vec Ideal S256x2048 .f32) (x2 : Vec Ideal S2048x1024 .bf16) (x3 : Vec Ideal S256x1024 .f32) (x4 : Vec Ideal S1x1x1024 .f32) :
    out0_7 x0 x1 x2 x3 x4 = k0_pay1 x1 x0 := by
  unfold out0_7
  rw [View.canon_unit_zero hz]
  simp only [View.ld_unit_zero (S := S256x2048) hz]

theorem out_6 (x0 x1 : Vec Ideal S256x2048 .f32) (x2 : Vec Ideal S2048x1024 .bf16) (x3 : Vec Ideal S256x1024 .f32) (x4 : Vec Ideal S1x1x1024 .f32) :
    out0_6 x0 x1 x2 x3 x4 = k0_pay2 x1 x0 x2 := by
  unfold out0_6
  rw [View.canon_unit_zero hz]
  simp only [View.ld_unit_zero (S := S256x2048) hz, View.ld_unit_zero (S := S2048x1024) hz]

theorem out_5 (x0 x1 : Vec Ideal S256x2048 .f32) (x2 : Vec Ideal S2048x1024 .bf16) (x3 : Vec Ideal S256x1024 .f32) (x4 : Vec Ideal S1x1x1024 .f32) :
    out0_5 x0 x1 x2 x3 x4 = k0_pay3 x1 x0 x2 x3 x4 := by
  unfold out0_5
  rw [View.canon_unit_zero hz]
  simp only [View.ld_unit_zero (S := S256x2048) hz, View.ld_unit_zero (S := S2048x1024) hz, View.ld_unit_zero (S := S256x1024) hz, View.ld_unit_zero (S := S1x1x1024) hz3]

/-- The arrays the grid leaves. -/
theorem arr_u : (dats m 0 c).arrAt 7 cfg0.N = u m c := by
  refine (dats m 0 c).arrAt_eq_of_covers 7 _ (by decide +kernel) fun t hf y => ?_
  obtain ⟨-, -, -, -, -, -, -, e⟩ := places t
  blk_simp
  rw [after0_7, out_7]
  refine (congrArg (k0_pay1 (iblk m c 1 t) (iblk m c 0 t)) (eta (n := 256) (k := 2048) y)).trans ((u_at m c t (y 0) (y 1)).trans ?_)
  have e0 : (((win0_7.blk t).view.emb y) 0).val = 256 * t.val + (y 0).val := by blk_simp [e]; omega
  have e1 : (((win0_7.blk t).view.emb y) 1).val = (y 1).val := by blk_simp [e]
  show _ = u m c ((win0_7.blk t).view.emb y)
  unfold u
  rw [e0, e1]

theorem arr_y : (dats m 0 c).arrAt 6 cfg0.N = Value.y m c := by
  refine (dats m 0 c).arrAt_eq_of_covers 6 _ (by decide +kernel) fun t hf y => ?_
  obtain ⟨-, -, -, -, -, -, e, -⟩ := places t
  blk_simp
  rw [after0_6, out_6]
  refine (congrArg (k0_pay2 (iblk m c 1 t) (iblk m c 0 t) (iblk m c 2 t)) (eta (n := 256) (k := 1024) y)).trans ((y_at m c t (y 0) (y 1)).trans ?_)
  have e0 : (((win0_6.blk t).view.emb y) 0).val = 256 * t.val + (y 0).val := by blk_simp [e]; omega
  have e1 : (((win0_6.blk t).view.emb y) 1).val = (y 1).val := by blk_simp [e]
  show _ = Value.y m c ((win0_6.blk t).view.emb y)
  unfold Value.y
  rw [e0, e1]

theorem arr_xn : (dats m 0 c).arrAt 5 cfg0.N = xn m c := by
  refine (dats m 0 c).arrAt_eq_of_covers 5 _ (by decide +kernel) fun t hf y => ?_
  obtain ⟨-, -, -, -, -, e, -⟩ := places t
  blk_simp
  rw [after0_5, out_5]
  refine (congrArg (k0_pay3 (iblk m c 1 t) (iblk m c 0 t) (iblk m c 2 t) (iblk m c 3 t) (iblk m c 4 t)) (eta (n := 256) (k := 1024) y)).trans ((xn_at m c t (y 0) (y 1)).trans ?_)
  have e0 : (((win0_5.blk t).view.emb y) 0).val = 256 * t.val + (y 0).val := by blk_simp [e]; omega
  have e1 : (((win0_5.blk t).view.emb y) 1).val = (y 1).val := by blk_simp [e]
  show _ = xn m c ((win0_5.blk t).view.emb y)
  unfold xn
  rw [e0, e1]

end Cert.KernelOutIdeal.Value

namespace Cert.ReferenceOutIdeal.Value

open Cert.ReferenceOutIdeal Cert.ReferenceOutIdeal.Gen Idealize.ShloMosaic Idealize.ShloMosaic.TcCoe
open Cert.Contract Cert.Layers

/-- The reference's gated rows. -/
abbrev gate (o z : FVec Ideal S8192x2048 .f32) : FVec Ideal S8192x2048 .f32 :=
  mulf o (mulf z (Host.divf (broadcastInDim S8192x2048 ![] bcast_S_S8192x2048 (constant S_ .f32 0x3F800000#32)) (addf (broadcastInDim S8192x2048 ![] bcast_S_S8192x2048 (constant S_ .f32 0x3F800000#32)) (Host.exp (Host.negf z)))))

theorem gate_at (o z : FVec Ideal S8192x2048 .f32) (i : Fin 8192) (j : Fin 2048) : gate o z (ix2 i j) = gated (entries o) (entries z) i.val j.val := by
  unfold gate gated sigma
  rw [entries_at o i j, entries_at z i j]
  pointwise

/-- The reference's product with the weights. -/
abbrev proj (o z : FVec Ideal S8192x2048 .f32) (w : FVec Ideal S2048x1024 .bf16) : FVec Ideal S8192x1024 .f32 :=
  Host.dotGeneral (φ₁ := .f32) (φ₂ := .f32) dot_S8192x2048_S2048x1024_S8192x1024_1_0_0_1_n_n none (gate o z) (extf .f32 w bitsLt_bf16_f32)

theorem dot_at (a : FVec Ideal S8192x2048 .f32) (w : FVec Ideal S2048x1024 .bf16) (i : Fin 8192) (j : Fin 1024) :
    (Host.dotGeneral (φ₁ := .f32) (φ₂ := .f32) dot_S8192x2048_S2048x1024_S8192x1024_1_0_0_1_n_n none a (extf .f32 w bitsLt_bf16_f32) : FVec Ideal S8192x1024 .f32) (ix2 i j) = ∑ k : Fin 2048, (a (ix2 i k) * w (ix2 k j) : EReal) := by
  pointwise

theorem proj_at (o z : FVec Ideal S8192x2048 .f32) (w : FVec Ideal S2048x1024 .bf16) (i : Fin 8192) (j : Fin 1024) :
    proj o z w (ix2 i j) = prod 2048 (gated (entries o) (entries z)) (entries w) i.val j.val := by
  refine (dot_at _ _ i j).trans (Finset.sum_congr rfl fun k _ => ?_)
  rw [gate_at, entries_at w k j]

theorem ref_u (o z : FVec Ideal S8192x2048 .f32) :
    (truncf .bf16 (gate o z) bitsLt_bf16_f32 : FVec Ideal S8192x2048 .bf16) = fun v => gated (entries o) (entries z) (v 0).val (v 1).val := by
  funext v
  idx_vars v
  exact gate_at o z _ _

theorem ref_y (o z : FVec Ideal S8192x2048 .f32) (w : FVec Ideal S2048x1024 .bf16) :
    proj o z w = fun v => prod 2048 (gated (entries o) (entries z)) (entries w) (v 0).val (v 1).val := by
  funext v
  idx_vars v
  exact proj_at o z w _ _

theorem join_at (x a : FVec Ideal S8192x1024 .f32) (g : FVec Ideal S4x1x1024 .f32) (i : Fin 8192) (j : Fin 1024) :
    (shapeCast S8192x1024 (addf (shapeCast S4x2048x1024 x shapeCasts_S8192x1024_S4x2048x1024) (mulf (broadcastInDim S4x2048x1024 ![0, 1, 2] bcast_S4x1x1024_S4x2048x1024_0_1_2 g) (shapeCast S4x2048x1024 a shapeCasts_S8192x1024_S4x2048x1024))) shapeCasts_S4x2048x1024_S8192x1024 : FVec Ideal S8192x1024 .f32) (ix2 i j)
      = (x (ix2 i j) + g (ix3 ⟨i.val / 2048, by omega⟩ 0 j) * a (ix2 i j) : EReal) := by
  pointwise

theorem ref_xn (o z : FVec Ideal S8192x2048 .f32) (w : FVec Ideal S2048x1024 .bf16) (x : FVec Ideal S8192x1024 .f32) (g : FVec Ideal S4x1x1024 .f32) :
    (shapeCast S8192x1024 (addf (shapeCast S4x2048x1024 x shapeCasts_S8192x1024_S4x2048x1024) (mulf (broadcastInDim S4x2048x1024 ![0, 1, 2] bcast_S4x1x1024_S4x2048x1024_0_1_2 g) (shapeCast S4x2048x1024 (proj o z w) shapeCasts_S8192x1024_S4x2048x1024))) shapeCasts_S4x2048x1024_S8192x1024 : FVec Ideal S8192x1024 .f32)
      = fun v => joined (entries x) (prod 2048 (gated (entries o) (entries z)) (entries w)) (rows g) (v 0).val (v 1).val := by
  funext v
  idx_vars v
  refine (join_at _ _ _ _ _).trans ?_
  rw [proj_at]
  exact congrArg₂ (fun a b : EReal => a + b * _) (entries_at x _ _).symm (rows_at g ⟨_, _⟩ _).symm

end Cert.ReferenceOutIdeal.Value

end
-- ==== Proof.DhVal.lean ====
/- The gradients through the in-projection and the modulated normalization: what the grid leaves. -/
module

public import proofs.«01_k».proof.Proof.Layers
public import proofs.«01_k».proof.Proof.Gen.KernelDhIdeal.Value
public import Idealize.ShloMosaic.Lib.Pipeline.ValueKit

@[expose] public section

set_option maxRecDepth 16384
set_option maxHeartbeats 1000000

noncomputable section

namespace Cert.KernelDhIdeal.Value

open Cert.KernelDhIdeal Cert.KernelDhIdeal.Gen Idealize.ShloMosaic Idealize.ShloMosaic.TcCoe Idealize.ShloMosaic.Tactic Idealize.SL.Sem
open Cert.Contract Cert.Layers

theorem hz : (![0, 0] : Fin 2 → Nat) = fun _ => 0 := funext fun a => by fin_cases a <;> rfl
theorem hz3 : (![0, 0, 0] : Fin 3 → Nat) = fun _ => 0 := funext fun a => by fin_cases a <;> rfl

/-- A row slab of the transposed weights, 2048 rows. -/
def slab (x : Vec Ideal S8192x1024 .bf16) (b : Fin 4) : Vec Ideal S2048x1024 .bf16 := fun y => x (ix2 (n0 := 8192) (n1 := 1024) ⟨2048 * b.val + (y 0).val, by have h : (y 0).val < 2048 := (y 0).isLt; omega⟩ (y 1))

section loads
variable (x : Vec Ideal S8192x1024 .bf16)
theorem ld_0 (inb) : View.ld x (Rect.unit (s := S8192x1024) ![0, 0] ![2048, 1024] inb) = slab x 0 :=
  funext fun y => View.ld_unit_apply_of x _ _ _ y _ fun a => match a with | ⟨0, _⟩ => rfl | ⟨1, _⟩ => (Nat.zero_add _).symm
theorem ld_1 (inb) : View.ld x (Rect.unit (s := S8192x1024) ![2048, 0] ![2048, 1024] inb) = slab x 1 :=
  funext fun y => View.ld_unit_apply_of x _ _ _ y _ fun a => match a with | ⟨0, _⟩ => rfl | ⟨1, _⟩ => (Nat.zero_add _).symm
theorem ld_2 (inb) : View.ld x (Rect.unit (s := S8192x1024) ![4096, 0] ![2048, 1024] inb) = slab x 2 :=
  funext fun y => View.ld_unit_apply_of x _ _ _ y _ fun a => match a with | ⟨0, _⟩ => rfl | ⟨1, _⟩ => (Nat.zero_add _).symm
theorem ld_3 (inb) : View.ld x (Rect.unit (s := S8192x1024) ![6144, 0] ![2048, 1024] inb) = slab x 3 :=
  funext fun y => View.ld_unit_apply_of x _ _ _ y _ fun a => match a with | ⟨0, _⟩ => rfl | ⟨1, _⟩ => (Nat.zero_add _).symm
end loads

/-- The norm's output's cotangent, of a block of rows. -/
abbrev dhb (x0 x1 x2 x3 : Vec Ideal S512x2048 .bf16) (x4 : Vec Ideal S8192x1024 .bf16) : Vec Ideal S512x1024 .f32 :=
  k0_pay3 x0 (slab x4 0) x1 (slab x4 1) x2 (slab x4 2) x3 (slab x4 3)

/-- The four products, added up. -/
theorem pay3_at (q k v z : Vec Ideal S512x2048 .bf16) (a b d e : Vec Ideal S2048x1024 .bf16) (i : Fin 512) (j : Fin 1024) :
    k0_pay3 q a k b v d z e (ix2 i j) = (∑ r : Fin 2048, (q (ix2 i r) * a (ix2 r j)) + ∑ r : Fin 2048, (k (ix2 i r) * b (ix2 r j)) + ∑ r : Fin 2048, (v (ix2 i r) * d (ix2 r j)) + ∑ r : Fin 2048, (z (ix2 i r) * e (ix2 r j)) : EReal) := by
  unfold k0_pay3
  pointwise [Ideal.ofBits_zero_f32]

/-- A row's reciprocal root mean square. -/
theorem pay4_at (x : Vec Ideal S512x1024 .f32) (i : Fin 512) :
    k0_pay4 x (ix2 i 0) = (Ideal.rsqrt (Ideal.div (∑ k : Fin 1024, x (ix2 i k) * x (ix2 i k)) (Ideal.ofBits .f32 0x44800000#32) + Ideal.ofBits .f32 0x358637BD#32) : EReal) := by
  unfold k0_pay4
  pointwise [Ideal.ofBits_zero_f32]

/-- The normalized block. -/
theorem pay5_at (x : Vec Ideal S512x1024 .f32) (i : Fin 512) (j : Fin 1024) : k0_pay5 x (ix2 i j) = (x (ix2 i j) * k0_pay4 x (ix2 i 0) : EReal) := by
  unfold k0_pay5
  pointwise

/-- The gradient of a block of rows. -/
theorem pay6_at (d : Vec Ideal S512x1024 .f32) (r : Vec Ideal S512x1 .f32) (n : Vec Ideal S512x1024 .f32) (g : Vec Ideal S1x1024 .f32) (sc : Vec Ideal S1x1x1024 .f32) (o : Vec Ideal S512x1024 .f32) (i : Fin 512) (j : Fin 1024) :
    k0_pay6 d r n g sc o (ix2 i j) = (o (ix2 i j) + r (ix2 i 0) * (d (ix2 i j) * (g (ix2 0 j) * (1 + sc (ix3 0 0 j)))
      - n (ix2 i j) * Ideal.div (∑ k : Fin 1024, d (ix2 i k) * (g (ix2 0 k) * (1 + sc (ix3 0 0 k))) * n (ix2 i k)) (Ideal.ofBits .f32 0x44800000#32)) : EReal) := by
  unfold k0_pay6
  pointwise [Ideal.ofBits_zero_f32]

/-- A block's column sums for the factor. -/
theorem pay7_at (d n : Vec Ideal S512x1024 .f32) (j : Fin 1024) : k0_pay7 (F := Ideal) d n (ix2 0 j) = ∑ i : Fin 512, (d (ix2 i j) * n (ix2 i j) : EReal) := by
  unfold k0_pay7
  pointwise [Ideal.ofBits_zero_f32]

/-- A block's column sums for the shift. -/
theorem pay8_at (d : Vec Ideal S512x1024 .f32) (j : Fin 1024) : k0_pay8 (F := Ideal) d (ix2 0 j) = ∑ i : Fin 512, (d (ix2 i j) : EReal) := by
  unfold k0_pay8
  pointwise [Ideal.ofBits_zero_f32]

theorem pay9_at (d n : Vec Ideal S512x1024 .f32) (j : Fin 1024) : k0_pay9 (F := Ideal) d n (ix3 0 0 j) = k0_pay7 (F := Ideal) d n (ix2 0 j) := by
  unfold k0_pay9
  pointwise

theorem pay10_at (d : Vec Ideal S512x1024 .f32) (j : Fin 1024) : k0_pay10 (F := Ideal) d (ix3 0 0 j) = k0_pay8 (F := Ideal) d (ix2 0 j) := by
  unfold k0_pay10
  pointwise

theorem pay1_at (v : Vec Ideal S1x1024 .f32) (p : Vec Ideal S1x1x1024 .f32) (j : Fin 1024) : k0_pay1 v p (ix3 0 0 j) = (p (ix3 0 0 j) + v (ix2 0 j) : EReal) := by
  unfold k0_pay1
  pointwise

theorem pay2_at (v : Vec Ideal S1x1024 .f32) (p : Vec Ideal S1x1x1024 .f32) (j : Fin 1024) : k0_pay2 v p (ix3 0 0 j) = (p (ix3 0 0 j) + v (ix2 0 j) : EReal) := by
  unfold k0_pay2
  pointwise

/-- Where the windows' blocks lie, from a point's number, 4 points to a sequence. -/
theorem places : ∀ t : Fin cfg0.N, win0_0.index t = ![t.val, 0] ∧ win0_1.index t = ![t.val, 0] ∧ win0_2.index t = ![t.val, 0] ∧ win0_3.index t = ![t.val, 0] ∧
    win0_4.index t = ![0, 0] ∧ win0_5.index t = ![t.val, 0] ∧ win0_6.index t = ![0, 0] ∧ win0_7.index t = ![t.val / 4, 0, 0] ∧ win0_8.index t = ![t.val, 0] ∧
    win0_9.index t = ![t.val, 0] ∧ win0_10.index t = ![t.val / 4, 0, 0] ∧ win0_11.index t = ![t.val / 4, 0, 0] := by decide +kernel

section out
variable (c : Dev nD) (i : grid0.Coords) (a1 : Memref sig .tc .vmem S512x2048 .bf16) (h1 : a1.IsWhole) (a2 : Memref sig .tc .vmem S512x2048 .bf16) (h2 : a2.IsWhole) (a3 : Memref sig .tc .vmem S512x2048 .bf16) (h3 : a3.IsWhole) (a4 : Memref sig .tc .vmem S512x2048 .bf16) (h4 : a4.IsWhole) (a5 : Memref sig .tc .vmem S8192x1024 .bf16) (h5 : a5.IsWhole) (a6 : Memref sig .tc .vmem S512x1024 .f32) (h6 : a6.IsWhole) (a7 : Memref sig .tc .vmem S1x1024 .f32) (h7 : a7.IsWhole) (a8 : Memref sig .tc .vmem S1x1x1024 .f32) (h8 : a8.IsWhole) (a9 : Memref sig .tc .vmem S512x1024 .f32) (h9 : a9.IsWhole) (a10 : Memref sig .tc .vmem S512x1024 .f32) (h10 : a10.IsWhole) (a11 : Memref sig .tc .vmem S1x1x1024 .f32) (h11 : a11.IsWhole) (a12 : Memref sig .tc .vmem S1x1x1024 .f32) (h12 : a12.IsWhole)

/-- A sequence's first block: the gradient. -/
theorem out_A_9 (hc0) (hc1) (x0 x1 x2 x3 : Vec Ideal S512x2048 .bf16) (x4 : Vec Ideal S8192x1024 .bf16) (x5 : Vec Ideal S512x1024 .f32) (x6 : Vec Ideal S1x1024 .f32) (x7 : Vec Ideal S1x1x1024 .f32) (x8 : Vec Ideal S512x1024 .f32) :
    out0_A_9 c i a1 h1 a2 h2 a3 h3 a4 h4 a5 h5 a6 h6 a7 h7 a8 h8 a9 h9 a10 h10 a11 h11 a12 h12 hc0 hc1 x0 x1 x2 x3 x4 x5 x6 x7 x8 = k0_pay6 (dhb x0 x1 x2 x3 x4) (k0_pay4 x5) (k0_pay5 x5) x6 x7 x8 := by
  unfold out0_A_9
  rw [View.read_writes_eq_canon _ _ _ (cover0_A_9 c i a1 h1 a2 h2 a3 h3 a4 h4 a5 h5 a6 h6 a7 h7 a8 h8 a9 h9 a10 h10 a11 h11 a12 h12 hc0 hc1 x0 x1 x2 x3 x4 x5 x6 x7 x8)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h11.read_unread, h12.read_unread, View.ld_unit_zero (S := S512x2048) hz, View.ld_unit_zero (S := S512x1024) hz, View.ld_unit_zero (S := S1x1024) hz, View.ld_unit_zero (S := S1x1x1024) hz3, shapeCast_self]
  rw [ld_0, ld_1, ld_2, ld_3]

/-- A sequence's first block: the factor's column sums. -/
theorem out_A_10 (hc0) (hc1) (x0 x1 x2 x3 : Vec Ideal S512x2048 .bf16) (x4 : Vec Ideal S8192x1024 .bf16) (x5 : Vec Ideal S512x1024 .f32) (x6 : Vec Ideal S1x1024 .f32) (x7 : Vec Ideal S1x1x1024 .f32) (x8 : Vec Ideal S512x1024 .f32) :
    out0_A_10 c i a1 h1 a2 h2 a3 h3 a4 h4 a5 h5 a6 h6 a7 h7 a8 h8 a9 h9 a10 h10 a11 h11 a12 h12 hc0 hc1 x0 x1 x2 x3 x4 x5 x6 x7 x8 = k0_pay9 (F := Ideal) (dhb x0 x1 x2 x3 x4) (k0_pay5 x5) := by
  unfold out0_A_10
  rw [View.read_writes_eq_canon _ _ _ (cover0_A_10 c i a1 h1 a2 h2 a3 h3 a4 h4 a5 h5 a6 h6 a7 h7 a8 h8 a9 h9 a10 h10 a11 h11 a12 h12 hc0 hc1 x0 x1 x2 x3 x4 x5 x6 x7 x8)]
  unfold kernelRun0_A
  dsimp only
  sl_unfold_words
  rw [View.canon_unit_zero hz3]
  simp only [View.readAt_eq_ld, h1.read_unread, h2.read_unread, h3.read_unread, h4.read_unread, h5.read_unread, h6.read_unread, h7.read_unread, h8.read_unread, h9.read_unread, h11.read_unread, h12.read_unread, View.ld_unit_zero (S := S512x2048) hz, View.ld_unit_zero (S := S512x1024) hz, View.ld_unit_zero (S := S1x1024) hz, View.ld_unit_zero (S := S1x1x1024) hz3, shapeCast_self]
  rw [ld_0, ld_1, ld_2, ld_3]

/-- A sequence's first block: the shift's column sums. -/
theorem out_A_11 (hc0) (hc1) (x0 x1 x2 x3 : Vec Ideal S512x2048 .bf16) (x4 : Vec Ideal S8192x1024 .bf16) (x5 : Vec Ideal S512x1024 .f32) (x6 : Vec Ideal S1x1024 .f32) (x7 : Vec Ideal S1x1x1024 .f32) (x8 : Vec Ideal S512x1024 .f32) :
    out0_A_11 c i a1 h1 a2 h2 a3 h3 a4 h4 a5 h5 a6 h6 a7 h7 a8 h8 a9 h9 a10 h10 a11 h11 a12 h12 hc0 hc1 x0 x1 x2 x3 x4 x5 x6 x7 x8 = k0_pay10 (F := Ideal) (dhb x0 x1 x2 x3 x4) := by
  unfold out0_A_11
  rw [View.read_writes_eq_canon _ _ _ (cover0_A_11 c i a1 h1 a2 h2 a3 h3 a4 h4 a5 h5 a6 h6 a7 h7 a8 h8 a9 h9 a10 h10 a11 h11 a12 h12 hc0 hc1 x0 x1 x2 x3 x4 x5 x6 x7 x8)]
  unfold kernelRun0_A
  dsimp only
  sl_unfold_words
  rw [View.canon_unit_zero hz3]
  simp only [View.readAt_eq_ld, h1.read_unread, h2.read_unread, h3.read_unread, h4.read_unread, h5.read_unread, h6.read_unread, h7.read_unread, h8.read_unread, h9.read_unread, h11.read_unread, h12.read_unread, View.ld_unit_zero (S := S512x2048) hz, View.ld_unit_zero (S := S512x1024) hz, View.ld_unit_zero (S := S1x1024) hz, View.ld_unit_zero (S := S1x1x1024) hz3, shapeCast_self]
  rw [ld_0, ld_1, ld_2, ld_3]

/-- A later block: the gradient. -/
theorem out_B_9 (hc0) (hc1) (x0 x1 x2 x3 : Vec Ideal S512x2048 .bf16) (x4 : Vec Ideal S8192x1024 .bf16) (x5 : Vec Ideal S512x1024 .f32) (x6 : Vec Ideal S1x1024 .f32) (x7 : Vec Ideal S1x1x1024 .f32) (x8 : Vec Ideal S512x1024 .f32) (xo10 xo11 : Vec Ideal S1x1x1024 .f32) :
    out0_B_9 c i a1 h1 a2 h2 a3 h3 a4 h4 a5 h5 a6 h6 a7 h7 a8 h8 a9 h9 a10 h10 a11 h11 a12 h12 hc0 hc1 x0 x1 x2 x3 x4 x5 x6 x7 x8 xo10 xo11 = k0_pay6 (dhb x0 x1 x2 x3 x4) (k0_pay4 x5) (k0_pay5 x5) x6 x7 x8 := by
  unfold out0_B_9
  rw [View.read_writes_eq_canon _ _ _ (cover0_B_9 c i a1 h1 a2 h2 a3 h3 a4 h4 a5 h5 a6 h6 a7 h7 a8 h8 a9 h9 a10 h10 a11 h11 a12 h12 hc0 hc1 x0 x1 x2 x3 x4 x5 x6 x7 x8 xo10 xo11)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h11.read_unread, h12.read_unread, View.ld_unit_zero (S := S512x2048) hz, View.ld_unit_zero (S := S512x1024) hz, View.ld_unit_zero (S := S1x1024) hz, View.ld_unit_zero (S := S1x1x1024) hz3, shapeCast_self]
  rw [ld_0, ld_1, ld_2, ld_3]

/-- A later block: the factor's column sums are added. -/
theorem out_B_10 (hc0) (hc1) (x0 x1 x2 x3 : Vec Ideal S512x2048 .bf16) (x4 : Vec Ideal S8192x1024 .bf16) (x5 : Vec Ideal S512x1024 .f32) (x6 : Vec Ideal S1x1024 .f32) (x7 : Vec Ideal S1x1x1024 .f32) (x8 : Vec Ideal S512x1024 .f32) (xo10 xo11 : Vec Ideal S1x1x1024 .f32) :
    out0_B_10 c i a1 h1 a2 h2 a3 h3 a4 h4 a5 h5 a6 h6 a7 h7 a8 h8 a9 h9 a10 h10 a11 h11 a12 h12 hc0 hc1 x0 x1 x2 x3 x4 x5 x6 x7 x8 xo10 xo11 = k0_pay1 (k0_pay7 (dhb x0 x1 x2 x3 x4) (k0_pay5 x5)) xo10 := by
  unfold out0_B_10
  rw [View.read_writes_eq_canon _ _ _ (cover0_B_10 c i a1 h1 a2 h2 a3 h3 a4 h4 a5 h5 a6 h6 a7 h7 a8 h8 a9 h9 a10 h10 a11 h11 a12 h12 hc0 hc1 x0 x1 x2 x3 x4 x5 x6 x7 x8 xo10 xo11)]
  unfold kernelRun0_B
  dsimp only
  sl_unfold_words
  rw [View.canon_unit_zero hz3]
  simp only [View.readAt_eq_ld, h1.read_unread, h2.read_unread, h3.read_unread, h4.read_unread, h5.read_unread, h6.read_unread, h7.read_unread, h8.read_unread, h9.read_unread, h11.read_unread, h12.read_unread, View.ld_unit_zero (S := S512x2048) hz, View.ld_unit_zero (S := S512x1024) hz, View.ld_unit_zero (S := S1x1024) hz, View.ld_unit_zero (S := S1x1x1024) hz3, shapeCast_self]
  rw [ld_0, ld_1, ld_2, ld_3]

/-- A later block: the shift's column sums are added. -/
theorem out_B_11 (hc0) (hc1) (x0 x1 x2 x3 : Vec Ideal S512x2048 .bf16) (x4 : Vec Ideal S8192x1024 .bf16) (x5 : Vec Ideal S512x1024 .f32) (x6 : Vec Ideal S1x1024 .f32) (x7 : Vec Ideal S1x1x1024 .f32) (x8 : Vec Ideal S512x1024 .f32) (xo10 xo11 : Vec Ideal S1x1x1024 .f32) :
    out0_B_11 c i a1 h1 a2 h2 a3 h3 a4 h4 a5 h5 a6 h6 a7 h7 a8 h8 a9 h9 a10 h10 a11 h11 a12 h12 hc0 hc1 x0 x1 x2 x3 x4 x5 x6 x7 x8 xo10 xo11 = k0_pay2 (k0_pay8 (F := Ideal) (dhb x0 x1 x2 x3 x4)) xo11 := by
  unfold out0_B_11
  rw [View.read_writes_eq_canon _ _ _ (cover0_B_11 c i a1 h1 a2 h2 a3 h3 a4 h4 a5 h5 a6 h6 a7 h7 a8 h8 a9 h9 a10 h10 a11 h11 a12 h12 hc0 hc1 x0 x1 x2 x3 x4 x5 x6 x7 x8 xo10 xo11)]
  unfold kernelRun0_B
  dsimp only
  sl_unfold_words
  rw [View.canon_unit_zero hz3]
  simp only [View.readAt_eq_ld, h1.read_unread, h2.read_unread, h3.read_unread, h4.read_unread, h5.read_unread, h6.read_unread, h7.read_unread, h8.read_unread, h9.read_unread, h11.read_unread, h12.read_unread, View.ld_unit_zero (S := S512x2048) hz, View.ld_unit_zero (S := S512x1024) hz, View.ld_unit_zero (S := S1x1024) hz, View.ld_unit_zero (S := S1x1x1024) hz3, shapeCast_self]
  rw [ld_0, ld_1, ld_2, ld_3]

end out

variable (m : (ℓ : Loc nD τ sig) → Buf (Elt Ideal) ℓ) (c : Dev nD)

/-- The arguments' entries. -/
abbrev Q : ℕ → ℕ → EReal := entries (n := 8192) (k := 2048) (φ := .bf16) (m ((c : Thread nD τ).loc main_arg0))
abbrev K : ℕ → ℕ → EReal := entries (n := 8192) (k := 2048) (φ := .bf16) (m ((c : Thread nD τ).loc main_arg1))
abbrev Vv : ℕ → ℕ → EReal := entries (n := 8192) (k := 2048) (φ := .bf16) (m ((c : Thread nD τ).loc main_arg2))
abbrev Z : ℕ → ℕ → EReal := entries (n := 8192) (k := 2048) (φ := .bf16) (m ((c : Thread nD τ).loc main_arg3))
abbrev W : ℕ → ℕ → EReal := entries (n := 1024) (k := 8192) (φ := .bf16) (m ((c : Thread nD τ).loc main_arg4))
abbrev X : ℕ → ℕ → EReal := entries (n := 8192) (k := 1024) (φ := .f32) (m ((c : Thread nD τ).loc main_arg5))
abbrev G : ℕ → ℕ → EReal := entries (n := 1) (k := 1024) (φ := .f32) (m ((c : Thread nD τ).loc main_arg6))
abbrev SC : ℕ → ℕ → EReal := rows (n := 4) (k := 1024) (φ := .f32) (m ((c : Thread nD τ).loc main_arg7))
abbrev DX : ℕ → ℕ → EReal := entries (n := 8192) (k := 1024) (φ := .f32) (m ((c : Thread nD τ).loc main_arg8))

/-- The host's transpose of the weights. -/
theorem host_w (r : Fin 8192) (s : Fin 1024) : V m c main_v0 (ix2 r s) = W m c s.val r.val := by
  refine Eq.trans ?_ (entries_at (n := 1024) (k := 8192) (φ := .bf16) (m ((c : Thread nD τ).loc main_arg4)) s r).symm
  have e : V m c main_v0 = transpose S8192x1024 [1, 0] (m (c, Proc.devRef .tc main_arg4)) transposes_S1024x8192_S8192x1024_1_0 := by
    unfold V
    simp only [hostOps0]
    entry_read
    rfl
  rw [e]
  pointwise

theorem blk_Q (t : Fin cfg0.N) (i : Fin 512) (j : Fin 2048) : iblk m c 0 t (ix2 i j) = Q m c (512 * t.val + i.val) j.val := by
  obtain ⟨e, -⟩ := places t
  blk_simp [iblk, e]
  refine (entries_ix (n := 8192) (k := 2048) (φ := .bf16) (m ((c : Thread nD τ).loc main_arg0)) ((win0_0.blk t).view.emb (ix2 i j))).trans ?_
  refine congrArg₂ (Q m c) ?_ ?_
  · blk_simp [e]; show _ + i.val = _; omega
  · blk_simp [e]

theorem blk_K (t : Fin cfg0.N) (i : Fin 512) (j : Fin 2048) : iblk m c 1 t (ix2 i j) = K m c (512 * t.val + i.val) j.val := by
  obtain ⟨-, e, -⟩ := places t
  blk_simp [iblk, e]
  refine (entries_ix (n := 8192) (k := 2048) (φ := .bf16) (m ((c : Thread nD τ).loc main_arg1)) ((win0_1.blk t).view.emb (ix2 i j))).trans ?_
  refine congrArg₂ (K m c) ?_ ?_
  · blk_simp [e]; show _ + i.val = _; omega
  · blk_simp [e]

theorem blk_Vv (t : Fin cfg0.N) (i : Fin 512) (j : Fin 2048) : iblk m c 2 t (ix2 i j) = Vv m c (512 * t.val + i.val) j.val := by
  obtain ⟨-, -, e, -⟩ := places t
  blk_simp [iblk, e]
  refine (entries_ix (n := 8192) (k := 2048) (φ := .bf16) (m ((c : Thread nD τ).loc main_arg2)) ((win0_2.blk t).view.emb (ix2 i j))).trans ?_
  refine congrArg₂ (Vv m c) ?_ ?_
  · blk_simp [e]; show _ + i.val = _; omega
  · blk_simp [e]

theorem blk_Z (t : Fin cfg0.N) (i : Fin 512) (j : Fin 2048) : iblk m c 3 t (ix2 i j) = Z m c (512 * t.val + i.val) j.val := by
  obtain ⟨-, -, -, e, -⟩ := places t
  blk_simp [iblk, e]
  refine (entries_ix (n := 8192) (k := 2048) (φ := .bf16) (m ((c : Thread nD τ).loc main_arg3)) ((win0_3.blk t).view.emb (ix2 i j))).trans ?_
  refine congrArg₂ (Z m c) ?_ ?_
  · blk_simp [e]; show _ + i.val = _; omega
  · blk_simp [e]

theorem blk_X (t : Fin cfg0.N) (i : Fin 512) (j : Fin 1024) : iblk m c 5 t (ix2 i j) = X m c (512 * t.val + i.val) j.val := by
  obtain ⟨-, -, -, -, -, e, -⟩ := places t
  blk_simp [iblk, e]
  refine (entries_ix (n := 8192) (k := 1024) (φ := .f32) (m ((c : Thread nD τ).loc main_arg5)) ((win0_5.blk t).view.emb (ix2 i j))).trans ?_
  refine congrArg₂ (X m c) ?_ ?_
  · blk_simp [e]; show _ + i.val = _; omega
  · blk_simp [e]

theorem blk_DX (t : Fin cfg0.N) (i : Fin 512) (j : Fin 1024) : iblk m c 8 t (ix2 i j) = DX m c (512 * t.val + i.val) j.val := by
  obtain ⟨-, -, -, -, -, -, -, -, e, -⟩ := places t
  blk_simp [iblk, e]
  refine (entries_ix (n := 8192) (k := 1024) (φ := .f32) (m ((c : Thread nD τ).loc main_arg8)) ((win0_8.blk t).view.emb (ix2 i j))).trans ?_
  refine congrArg₂ (DX m c) ?_ ?_
  · blk_simp [e]; show _ + i.val = _; omega
  · blk_simp [e]

theorem blk_G (t : Fin cfg0.N) (j : Fin 1024) : iblk m c 6 t (ix2 0 j) = G m c 0 j.val := by
  obtain ⟨-, -, -, -, -, -, e, -⟩ := places t
  blk_simp [iblk, e]
  refine (entries_ix (n := 1) (k := 1024) (φ := .f32) (m ((c : Thread nD τ).loc main_arg6)) ((win0_6.blk t).view.emb (ix2 0 j))).trans ?_
  refine congrArg₂ (G m c) ?_ ?_
  · blk_simp [e]; rfl
  · blk_simp [e]

theorem blk_SC (t : Fin cfg0.N) (j : Fin 1024) : iblk m c 7 t (ix3 0 0 j) = SC m c (t.val / 4) j.val := by
  obtain ⟨-, -, -, -, -, -, -, e, -⟩ := places t
  blk_simp [iblk, e]
  refine (rows_ix (n := 4) (k := 1024) (φ := .f32) (m ((c : Thread nD τ).loc main_arg7)) ((win0_7.blk t).view.emb (ix3 0 0 j))).trans ?_
  refine congrArg₂ (SC m c) ?_ ?_
  · blk_simp [e]; exact Nat.add_zero _
  · blk_simp [e]

theorem blk_W (t : Fin cfg0.N) (i : Fin 8192) (j : Fin 1024) : iblk m c 4 t (ix2 i j) = W m c j.val i.val := by
  obtain ⟨-, -, -, -, e, -⟩ := places t
  blk_simp [iblk, e]
  refine Eq.trans ?_ (host_w m c i j)
  refine congrArg (V m c main_v0) ?_
  funext a
  match a with
  | ⟨0, _⟩ => exact Fin.ext (by blk_simp [e])
  | ⟨1, _⟩ => exact Fin.ext (by blk_simp [e])

/-- The rows' cotangents, and the point's block of them. -/
abbrev D : ℕ → ℕ → EReal := back (Q m c) (K m c) (Vv m c) (Z m c) (W m c)
abbrev db (t : Fin cfg0.N) : Vec Ideal S512x1024 .f32 := dhb (iblk m c 0 t) (iblk m c 1 t) (iblk m c 2 t) (iblk m c 3 t) (iblk m c 4 t)

theorem slab_at (t : Fin cfg0.N) (b : Fin 4) (r : Fin 2048) (j : Fin 1024) : slab (iblk m c 4 t) b (ix2 r j) = W m c j.val (2048 * b.val + r.val) :=
  blk_W m c t ⟨2048 * b.val + r.val, by omega⟩ j

/-- The cotangents' block at a point. -/
theorem d_at (t : Fin cfg0.N) (i : Fin 512) (j : Fin 1024) : db m c t (ix2 i j) = D m c (512 * t.val + i.val) j.val := by
  refine (pay3_at _ _ _ _ _ _ _ _ i j).trans ?_
  unfold D back
  refine congrArg₂ (fun a b : EReal => a + b) (congrArg₂ (fun a b : EReal => a + b) (congrArg₂ (fun a b : EReal => a + b) ?_ ?_) ?_) ?_ <;>
    refine Finset.sum_congr rfl fun r _ => ?_ <;> rw [slab_at]
  · rw [blk_Q, show 2048 * ((0 : Fin 4) : ℕ) + r.val = r.val from by simp]
  · rw [blk_K]; rfl
  · rw [blk_Vv]; rfl
  · rw [blk_Z]; rfl

theorem r_at (t : Fin cfg0.N) (i : Fin 512) : k0_pay4 (iblk m c 5 t) (ix2 i 0) = Ideal.rsqrt (var (X m c) (512 * t.val + i.val)) := by
  refine (pay4_at _ i).trans ?_
  unfold var
  simp only [blk_X]

theorem n_at (t : Fin cfg0.N) (i : Fin 512) (j : Fin 1024) : k0_pay5 (iblk m c 5 t) (ix2 i j) = normed (X m c) (512 * t.val + i.val) j.val := by
  refine (pay5_at _ i j).trans ?_
  rw [r_at, blk_X]
  rfl

/-- The gradient's block at a point. -/
theorem dx_at (t : Fin cfg0.N) (i : Fin 512) (j : Fin 1024) :
    k0_pay6 (db m c t) (k0_pay4 (iblk m c 5 t)) (k0_pay5 (iblk m c 5 t)) (iblk m c 6 t) (iblk m c 7 t) (iblk m c 8 t) (ix2 i j)
      = inward (D m c) (G m c) (SC m c) (X m c) (DX m c) (512 * t.val + i.val) j.val := by
  refine (pay6_at _ _ _ _ _ _ i j).trans ?_
  unfold inward scaled
  rw [show (512 * t.val + i.val) / 2048 = t.val / 4 from by omega]
  simp only [d_at, n_at, r_at, blk_G, blk_SC, blk_DX]

theorem p_at (t : Fin cfg0.N) (j : Fin 1024) :
    k0_pay7 (F := Ideal) (db m c t) (k0_pay5 (iblk m c 5 t)) (ix2 0 j) = ∑ i : Fin 512, (D m c (512 * t.val + i.val) j.val * normed (X m c) (512 * t.val + i.val) j.val : EReal) := by
  refine (pay7_at _ _ j).trans (Finset.sum_congr rfl fun i _ => ?_)
  rw [d_at, n_at]

theorem s_at (t : Fin cfg0.N) (j : Fin 1024) : k0_pay8 (F := Ideal) (db m c t) (ix2 0 j) = ∑ i : Fin 512, (D m c (512 * t.val + i.val) j.val : EReal) := by
  refine (pay8_at _ j).trans (Finset.sum_congr rfl fun i _ => ?_)
  rw [d_at]

/-- What a sequence's first point leaves. -/
theorem outs_A (t : Fin cfg0.N) (h : t.val % 4 = 0) : outsAt0 m c t.val t.isLt
    = (k0_pay6 (db m c t) (k0_pay4 (iblk m c 5 t)) (k0_pay5 (iblk m c 5 t)) (iblk m c 6 t) (iblk m c 7 t) (iblk m c 8 t), k0_pay9 (F := Ideal) (db m c t) (k0_pay5 (iblk m c 5 t)), k0_pay10 (F := Ideal) (db m c t)) := by
  rw [outsAt0_A m c t h (not_not.mpr h), out_A_9, out_A_10, out_A_11]

/-- What a later point leaves. -/
theorem outs_B (t : Fin cfg0.N) (h : ¬t.val % 4 = 0) : outsAt0 m c t.val t.isLt
    = (k0_pay6 (db m c t) (k0_pay4 (iblk m c 5 t)) (k0_pay5 (iblk m c 5 t)) (iblk m c 6 t) (iblk m c 7 t) (iblk m c 8 t),
      k0_pay1 (k0_pay7 (F := Ideal) (db m c t) (k0_pay5 (iblk m c 5 t))) (outsAt0 m c (t.val - 1) (Nat.lt_of_le_of_lt (Nat.sub_le _ _) t.isLt)).2.1,
      k0_pay2 (k0_pay8 (F := Ideal) (db m c t)) (outsAt0 m c (t.val - 1) (Nat.lt_of_le_of_lt (Nat.sub_le _ _) t.isLt)).2.2) := by
  rw [outsAt0_B m c t h h, out_B_9, out_B_10, out_B_11]

/-- What a point leaves for the gradient. -/
theorem outs_dx (t : Fin cfg0.N) : (outsAt0 m c t.val t.isLt).1
    = k0_pay6 (db m c t) (k0_pay4 (iblk m c 5 t)) (k0_pay5 (iblk m c 5 t)) (iblk m c 6 t) (iblk m c 7 t) (iblk m c 8 t) := by
  by_cases h : t.val % 4 = 0
  · rw [outs_A m c t h]
  · rw [outs_B m c t h]

theorem outs_dx_at (t : Fin cfg0.N) (i : Fin 512) (j : Fin 1024) :
    (outsAt0 m c t.val t.isLt).1 (ix2 i j) = inward (D m c) (G m c) (SC m c) (X m c) (DX m c) (512 * t.val + i.val) j.val := by
  rw [outs_dx]
  exact dx_at m c t i j

theorem first_p (t : Fin cfg0.N) (h : t.val % 4 = 0) (j : Fin 1024) : (outsAt0 m c t.val t.isLt).2.1 (ix3 0 0 j) = k0_pay7 (F := Ideal) (db m c t) (k0_pay5 (iblk m c 5 t)) (ix2 0 j) := by
  rw [outs_A m c t h]
  dsimp only
  rw [pay9_at]
theorem first_s (t : Fin cfg0.N) (h : t.val % 4 = 0) (j : Fin 1024) : (outsAt0 m c t.val t.isLt).2.2 (ix3 0 0 j) = k0_pay8 (F := Ideal) (db m c t) (ix2 0 j) := by
  rw [outs_A m c t h]
  dsimp only
  rw [pay10_at]
theorem later_p (t : Fin cfg0.N) (h : ¬t.val % 4 = 0) (j : Fin 1024) : (outsAt0 m c t.val t.isLt).2.1 (ix3 0 0 j)
    = ((outsAt0 m c (t.val - 1) (Nat.lt_of_le_of_lt (Nat.sub_le _ _) t.isLt)).2.1 (ix3 0 0 j) + k0_pay7 (F := Ideal) (db m c t) (k0_pay5 (iblk m c 5 t)) (ix2 0 j) : EReal) := by
  rw [outs_B m c t h]
  dsimp only
  rw [pay1_at]
theorem later_s (t : Fin cfg0.N) (h : ¬t.val % 4 = 0) (j : Fin 1024) : (outsAt0 m c t.val t.isLt).2.2 (ix3 0 0 j)
    = ((outsAt0 m c (t.val - 1) (Nat.lt_of_le_of_lt (Nat.sub_le _ _) t.isLt)).2.2 (ix3 0 0 j) + k0_pay8 (F := Ideal) (db m c t) (ix2 0 j) : EReal) := by
  rw [outs_B m c t h]
  dsimp only
  rw [pay2_at]

/-- The factor's column sums after a point. -/
theorem outs_p (n : ℕ) (h : n < cfg0.N) (j : Fin 1024) : (outsAt0 m c n h).2.1 (ix3 0 0 j)
    = down (fun r => D m c r j.val * normed (X m c) r j.val) (n / 4) (512 * (n % 4) + 512) :=
  down_at 512 4 rfl (fun r => D m c r j.val * normed (X m c) r j.val) cfg0.N (fun n h => (outsAt0 m c n h).2.1 (ix3 0 0 j)) (fun n h => k0_pay7 (F := Ideal) (db m c ⟨n, h⟩) (k0_pay5 (iblk m c 5 ⟨n, h⟩)) (ix2 0 j))
    (fun n h => p_at m c ⟨n, h⟩ j) (fun n h h0 => first_p m c ⟨n, h⟩ h0 j) (fun n h h0 => later_p m c ⟨n, h⟩ h0 j) n h

/-- The shift's column sums after a point. -/
theorem outs_s (n : ℕ) (h : n < cfg0.N) (j : Fin 1024) : (outsAt0 m c n h).2.2 (ix3 0 0 j)
    = down (fun r => D m c r j.val) (n / 4) (512 * (n % 4) + 512) :=
  down_at 512 4 rfl (fun r => D m c r j.val) cfg0.N (fun n h => (outsAt0 m c n h).2.2 (ix3 0 0 j)) (fun n h => k0_pay8 (F := Ideal) (db m c ⟨n, h⟩) (ix2 0 j))
    (fun n h => s_at m c ⟨n, h⟩ j) (fun n h h0 => first_s m c ⟨n, h⟩ h0 j) (fun n h h0 => later_s m c ⟨n, h⟩ h0 j) n h

/-- The three results: the gradient by the norm's input added to the stream's, and each sequence's column sums. -/
def dx : FVec Ideal S8192x1024 .f32 := fun y => inward (D m c) (G m c) (SC m c) (X m c) (DX m c) (y 0).val (y 1).val
def psum : FVec Ideal S4x1x1024 .f32 := fun y => down (fun r => D m c r (y 2).val * normed (X m c) r (y 2).val) (y 0).val 2048
def ssum : FVec Ideal S4x1x1024 .f32 := fun y => down (fun r => D m c r (y 2).val) (y 0).val 2048

theorem eta {n k : ℕ} (y : (⟨2, ![n, k]⟩ : Shape).Idx) : y = ix2 (y 0) (y 1) := funext fun a => match a with | ⟨0, _⟩ => rfl | ⟨1, _⟩ => rfl
theorem eta3 {k : ℕ} (y : (⟨3, ![1, 1, k]⟩ : Shape).Idx) : y = ix3 0 0 (y 2) := funext fun a => match a with
  | ⟨0, _⟩ => Subsingleton.elim (α := Fin 1) _ _ | ⟨1, _⟩ => Subsingleton.elim (α := Fin 1) _ _ | ⟨2, _⟩ => rfl

/-- The array of gradients the grid leaves. -/
theorem arr_dx : (dats m 0 c).arrAt 9 cfg0.N = dx m c := by
  refine (dats m 0 c).arrAt_eq_of_covers 9 _ (by decide +kernel) fun t hf y => ?_
  obtain ⟨-, -, -, -, -, -, -, -, -, e, -⟩ := places t
  blk_simp
  rw [after0_9]
  refine (congrArg (outsAt0 m c t.val t.isLt).1 (eta (n := 512) (k := 1024) y)).trans ((outs_dx_at m c t (y 0) (y 1)).trans ?_)
  have e0 : (((win0_9.blk t).view.emb y) 0).val = 512 * t.val + (y 0).val := by blk_simp [e]; omega
  have e1 : (((win0_9.blk t).view.emb y) 1).val = (y 1).val := by blk_simp [e]
  show _ = dx m c ((win0_9.blk t).view.emb y)
  unfold dx
  rw [e0, e1]

/-- The column sums are written out at a sequence's last point. -/
theorem last10 : ∀ t : Fin cfg0.N, (cfg0.win 10).flush t = true → t.val % 4 = 3 := by decide +kernel
theorem last11 : ∀ t : Fin cfg0.N, (cfg0.win 11).flush t = true → t.val % 4 = 3 := by decide +kernel

/-- The factor's array of sums the grid leaves. -/
theorem arr_p : (dats m 0 c).arrAt 10 cfg0.N = psum m c := by
  refine (dats m 0 c).arrAt_eq_of_covers 10 _ (by decide +kernel) fun t hf y => ?_
  have h3 := last10 t hf
  obtain ⟨-, -, -, -, -, -, -, -, -, -, e, -⟩ := places t
  blk_simp
  rw [after0_10]
  refine (congrArg (outsAt0 m c t.val t.isLt).2.1 (eta3 (k := 1024) y)).trans ((outs_p m c t.val t.isLt (y 2)).trans ?_)
  have e0 : (((win0_10.blk t).view.emb y) 0).val = t.val / 4 := by blk_simp [e]
  have e1 : (((win0_10.blk t).view.emb y) 2).val = (y 2).val := by blk_simp [e]
  show _ = psum m c ((win0_10.blk t).view.emb y)
  unfold psum
  rw [e0, e1, h3]

/-- The shift's array of sums the grid leaves. -/
theorem arr_s : (dats m 0 c).arrAt 11 cfg0.N = ssum m c := by
  refine (dats m 0 c).arrAt_eq_of_covers 11 _ (by decide +kernel) fun t hf y => ?_
  have h3 := last11 t hf
  obtain ⟨-, -, -, -, -, -, -, -, -, -, -, e⟩ := places t
  blk_simp
  rw [after0_11]
  refine (congrArg (outsAt0 m c t.val t.isLt).2.2 (eta3 (k := 1024) y)).trans ((outs_s m c t.val t.isLt (y 2)).trans ?_)
  have e0 : (((win0_11.blk t).view.emb y) 0).val = t.val / 4 := by blk_simp [e]
  have e1 : (((win0_11.blk t).view.emb y) 2).val = (y 2).val := by blk_simp [e]
  show _ = ssum m c ((win0_11.blk t).view.emb y)
  unfold ssum
  rw [e0, e1, h3]

end Cert.KernelDhIdeal.Value

end
-- ==== Proof.NormGrad.lean ====
/- The gradient of a row's normalization, the closed form and the chain rule's form, over the extended reals. -/
module

public import Idealize.ShloMosaic.Lib.IdealHost
public import Idealize.ShloMosaic.Lib.Pointwise

@[expose] public section

noncomputable section

namespace Cert.NormGrad

open Idealize.ShloMosaic

theorem word_1024 : Ideal.ofBits .f32 0x44800000#32 = ((1024 : ℝ) : EReal) := by
  simp [Ideal.ofBits, Ideal.ieee, -EReal.coe_mul, -EReal.coe_neg]
  norm_num
theorem word_half : Ideal.ofBits .f32 0xBF000000#32 = ((-(1 / 2) : ℝ) : EReal) := by
  simp [Ideal.ofBits, Ideal.ieee, -EReal.coe_mul, -EReal.coe_neg]
  norm_num
theorem word_small : ∃ e : ℝ, 0 < e ∧ Ideal.ofBits .f32 0x358637BD#32 = (e : EReal) := by
  refine ⟨(2 ^ 23 + 407485) * (2 : ℝ) ^ ((107 : ℤ) - 127 - 23), by positivity, ?_⟩
  simp [Ideal.ofBits, Ideal.ieee, -EReal.coe_mul, -EReal.coe_neg]
  norm_num

/-- Division by a nonzero real multiplies by its inverse. -/
theorem div_coe (x : EReal) {k : ℝ} (hk : k ≠ 0) : Ideal.div x (k : EReal) = x * ((k⁻¹ : ℝ) : EReal) := by
  unfold Ideal.div
  rw [if_neg (by exact_mod_cast hk), EReal.coe_inv]

/-- A square is not negative. -/
theorem sq_nonneg (x : EReal) : 0 ≤ x * x := by
  induction x with
  | bot => rw [EReal.bot_mul_bot]; exact le_top
  | top => rw [EReal.top_mul_top]; exact le_top
  | coe r => rw [← EReal.coe_mul]; exact_mod_cast mul_self_nonneg r

/-- A nonnegative real factor comes out of a sum. -/
theorem sum_mul_coe {n : ℕ} (f : Fin n → EReal) {r : ℝ} (hr : 0 ≤ r) : ∑ k, f k * (r : EReal) = (∑ k, f k) * (r : EReal) := by
  have key : ∀ s : Finset (Fin n), ∑ k ∈ s, f k * (r : EReal) = (∑ k ∈ s, f k) * (r : EReal) := by
    intro s
    induction s using Finset.induction_on with
    | empty => simp
    | insert a s ha ih =>
      rw [Finset.sum_insert ha, Finset.sum_insert ha, ih]
      exact (EReal.right_distrib_of_nonneg_of_ne_top (by exact_mod_cast hr) (EReal.coe_ne_top r) _ _).symm
  exact key _

/-- Twice an extended real. -/
theorem add_self (x : EReal) : x + x = x * ((2 : ℝ) : EReal) := by
  induction x with
  | bot => rw [EReal.bot_mul_coe_of_pos (by norm_num)]; rfl
  | top => rw [EReal.top_mul_coe_of_pos (by norm_num)]; rfl
  | coe r => rw [← EReal.coe_add, ← EReal.coe_mul]; congr 1; ring

/-- A row's mean square plus a positive constant is infinite, or positive and real with every entry real. -/
theorem var_cases {n : ℕ} (x : Fin n → EReal) {k e : ℝ} (hk : 0 < k) (he : 0 < e) :
    Ideal.div (∑ i, x i * x i) (k : EReal) + (e : EReal) = ⊤ ∨
      ∃ w : ℝ, 0 < w ∧ Ideal.div (∑ i, x i * x i) (k : EReal) + (e : EReal) = (w : EReal) ∧ ∀ i, ∃ a : ℝ, x i = (a : EReal) := by
  have h0 : 0 ≤ ∑ i, x i * x i := Finset.sum_nonneg fun i _ => sq_nonneg _
  rw [div_coe _ hk.ne']
  by_cases ht : ∑ i, x i * x i = ⊤
  · left
    rw [ht, EReal.top_mul_coe_of_pos (by positivity)]
    rfl
  · right
    have hb : ∑ i, x i * x i ≠ ⊥ := fun h => absurd (h ▸ h0) (by simp)
    obtain ⟨s, hs⟩ : ∃ s : ℝ, ∑ i, x i * x i = (s : EReal) := ⟨_, (EReal.coe_toReal ht hb).symm⟩
    have hs0 : 0 ≤ s := by rw [hs] at h0; exact_mod_cast h0
    refine ⟨s * k⁻¹ + e, by positivity, by rw [hs, ← EReal.coe_mul, ← EReal.coe_add], fun i => ?_⟩
    have hle : x i * x i ≤ ∑ i, x i * x i := Finset.single_le_sum (f := fun i => x i * x i) (fun i _ => sq_nonneg _) (Finset.mem_univ i)
    have hlt : x i * x i ≠ ⊤ := fun h => ht (top_le_iff.mp (h ▸ hle))
    generalize x i = z at hlt
    induction z with
    | bot => exact absurd EReal.bot_mul_bot hlt
    | top => exact absurd EReal.top_mul_top hlt
    | coe r => exact ⟨r, rfl⟩

/-- The reciprocal root of a positive real. -/
theorem rsqrt_coe {w : ℝ} (hw : 0 < w) : Ideal.rsqrt (w : EReal) = (((Real.sqrt w)⁻¹ : ℝ) : EReal) := by
  show (if w < 0 then (⊥ : EReal) else if w = 0 then ⊤ else (((Real.sqrt w)⁻¹ : ℝ) : EReal)) = _
  rw [if_neg hw.not_gt, if_neg hw.ne']

/-- The closed form of the row's gradient is the chain rule's, through the root and the mean square, at any entries and any
    cotangent. -/
theorem grad_row {n : ℕ} (x d : Fin n → EReal) {k e : ℝ} (hk : 0 < k) (he : 0 < e) (j : Fin n) (v : EReal)
    (hv : v = Ideal.div (∑ i, x i * x i) (k : EReal) + (e : EReal)) (t : EReal)
    (ht : t = Ideal.div ((∑ i, x i * d i) * (((-(1 / 2) : ℝ) : EReal) * Ideal.div (Ideal.rsqrt v) v)) (k : EReal)) :
    Ideal.rsqrt v * (d j - x j * Ideal.rsqrt v * Ideal.div (∑ i, d i * (x i * Ideal.rsqrt v)) (k : EReal))
      = d j * Ideal.rsqrt v + x j * t + t * x j := by
  subst ht
  rw [div_coe _ hk.ne', div_coe _ hk.ne']
  rcases var_cases x hk he with h | ⟨w, hw, h, hx⟩
  · rw [← hv] at h
    rw [h]
    have h0 : Ideal.rsqrt (⊤ : EReal) = 0 := rfl
    have h1 : Ideal.div (0 : EReal) ⊤ = 0 := by unfold Ideal.div; rw [if_neg (by simp), zero_mul]
    rw [h0, h1]
    simp
  · rw [← hv] at h
    have hρ : 0 < (Real.sqrt w)⁻¹ := inv_pos.mpr (Real.sqrt_pos.mpr hw)
    have hww : w⁻¹ = (Real.sqrt w)⁻¹ * (Real.sqrt w)⁻¹ := by rw [← mul_inv, Real.mul_self_sqrt hw.le]
    rw [h, rsqrt_coe hw, div_coe _ hw.ne', hww]
    generalize (Real.sqrt w)⁻¹ = ρ at hρ
    have hS : ∑ i, d i * (x i * (ρ : EReal)) = (∑ i, x i * d i) * (ρ : EReal) := by
      rw [← sum_mul_coe _ hρ.le]
      exact Finset.sum_congr rfl fun i _ => by rw [← mul_assoc, mul_comm (d i)]
    rw [hS]
    obtain ⟨a, ha⟩ := hx j
    rw [ha]
    generalize ∑ i, x i * d i = S
    rw [sub_eq_add_neg, EReal.left_distrib_of_nonneg_of_ne_top (by exact_mod_cast hρ.le) (EReal.coe_ne_top ρ), add_assoc,
      mul_comm (d j), mul_comm _ (a : EReal), add_self]
    refine congrArg (fun z : EReal => (ρ : EReal) * d j + z) ?_
    have e1 : (ρ : EReal) * -((a : EReal) * (ρ : EReal) * (S * (ρ : EReal) * ((k⁻¹ : ℝ) : EReal))) = S * ((-(ρ * a * ρ * ρ * k⁻¹) : ℝ) : EReal) := by
      rw [EReal.coe_neg, EReal.coe_mul, EReal.coe_mul, EReal.coe_mul, EReal.coe_mul, mul_neg, mul_neg]
      refine congrArg Neg.neg ?_
      ac_rfl
    have e2 : (a : EReal) * (S * (((-(1 / 2) : ℝ) : EReal) * ((ρ : EReal) * ((ρ * ρ : ℝ) : EReal))) * ((k⁻¹ : ℝ) : EReal)) * ((2 : ℝ) : EReal)
        = S * ((a * (-(1 / 2) * (ρ * (ρ * ρ))) * k⁻¹ * 2 : ℝ) : EReal) := by
      simp only [EReal.coe_mul]
      ac_rfl
    rw [e1, e2]
    refine congrArg (fun z : ℝ => S * (z : EReal)) ?_
    ring

end Cert.NormGrad

end
-- ==== Proof.DhRef.lean ====
/- The gradients through the in-projection and the modulated normalization: what the reference computes. -/
module

public import proofs.«01_k».proof.Proof.Layers
public import proofs.«01_k».proof.Proof.NormGrad
public import proofs.«01_k».proof.Proof.Gen.ReferenceDhIdeal.Run
public import Idealize.ShloMosaic.Lib.Pointwise

@[expose] public section

set_option maxRecDepth 16384
set_option maxHeartbeats 1000000

noncomputable section

namespace Cert.ReferenceDhIdeal.Value

open Cert.ReferenceDhIdeal Cert.ReferenceDhIdeal.Gen Idealize.ShloMosaic Idealize.ShloMosaic.TcCoe
open Cert.Contract Cert.Layers Cert.NormGrad

/-- The four cotangents side by side. -/
abbrev side (q k v z : FVec Ideal S8192x2048 .bf16) : FVec Ideal S8192x8192 .bf16 :=
  (concatenate S8192x8192 1 [⟨S8192x2048, (q : (⟨S8192x2048, .bf16⟩ : BufTy).Contents (Elt Ideal))⟩, ⟨S8192x2048, (k : (⟨S8192x2048, .bf16⟩ : BufTy).Contents (Elt Ideal))⟩, ⟨S8192x2048, (v : (⟨S8192x2048, .bf16⟩ : BufTy).Contents (Elt Ideal))⟩, ⟨S8192x2048, (z : (⟨S8192x2048, .bf16⟩ : BufTy).Contents (Elt Ideal))⟩] concatenates_S8192x2048_S8192x2048_S8192x2048_S8192x2048_S8192x8192_d1 : (⟨S8192x8192, .bf16⟩ : BufTy).Contents (Elt Ideal))

theorem side_at (q k v z : FVec Ideal S8192x2048 .bf16) (i : Fin 8192) (p : Fin 8192) :
    side q k v z (ix2 i p) = beside (entries q) (entries k) (entries v) (entries z) i.val p.val := by
  unfold side beside
  pointwise
  by_cases h1 : p.val < 2048
  · rw [dif_pos h1, if_pos h1]; exact (entries_at q i ⟨p.val, _⟩).symm
  rw [dif_neg h1, if_neg h1]
  by_cases h2 : p.val < 4096
  · rw [dif_pos (by omega), if_pos h2]; exact (entries_at k i ⟨p.val - 2048, _⟩).symm
  rw [dif_neg (by omega), if_neg h2]
  by_cases h3 : p.val < 6144
  · rw [dif_pos (by omega), if_pos h3]; exact (entries_at v i ⟨p.val - 2048 - 2048, _⟩).symm.trans (congrArg (entries v i.val) (by show p.val - 2048 - 2048 = _; omega))
  rw [dif_neg (by omega), if_neg h3]
  exact (entries_at z i ⟨p.val - 2048 - 2048 - 2048, by omega⟩).symm.trans (congrArg (entries z i.val) (by show p.val - 2048 - 2048 - 2048 = _; omega))

/-- The norm's output's cotangent. -/
abbrev dh (q k v z : FVec Ideal S8192x2048 .bf16) (w : FVec Ideal S1024x8192 .bf16) : FVec Ideal S8192x1024 .f32 :=
  Host.dotGeneral (φ₁ := .f32) (φ₂ := .f32) dot_S8192x8192_S1024x8192_S8192x1024_1_1_0_0_n_n none (extf .f32 (side q k v z) bitsLt_bf16_f32) (extf .f32 w bitsLt_bf16_f32)

theorem dot_at (a : FVec Ideal S8192x8192 .bf16) (w : FVec Ideal S1024x8192 .bf16) (i : Fin 8192) (j : Fin 1024) :
    (Host.dotGeneral (φ₁ := .f32) (φ₂ := .f32) dot_S8192x8192_S1024x8192_S8192x1024_1_1_0_0_n_n none (extf .f32 a bitsLt_bf16_f32) (extf .f32 w bitsLt_bf16_f32) : FVec Ideal S8192x1024 .f32) (ix2 i j) = ∑ p : Fin 8192, (a (ix2 i p) * w (ix2 j p) : EReal) := by
  pointwise

theorem dh_at (q k v z : FVec Ideal S8192x2048 .bf16) (w : FVec Ideal S1024x8192 .bf16) (i : Fin 8192) (j : Fin 1024) :
    dh q k v z w (ix2 i j) = back (entries q) (entries k) (entries v) (entries z) (entries w) i.val j.val := by
  refine (dot_at _ _ i j).trans ((Finset.sum_congr rfl fun p _ => ?_).trans (sum_beside _ _ _ _ _ _ _))
  rw [side_at, entries_at w j p]

/-- A row's mean square plus the small constant. -/
abbrev vr (x : FVec Ideal S8192x1024 .f32) : FVec Ideal S4x2048x1 .f32 :=
  addf (Host.divf (broadcastInDim S4x2048x1 ![0, 1] bcast_S4x2048_S4x2048x1_0_1 (Host.reduceAdd (mulf (shapeCast S4x2048x1024 x shapeCasts_S8192x1024_S4x2048x1024) (shapeCast S4x2048x1024 x shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32))

/-- The normalized rows. -/
abbrev xhat (x : FVec Ideal S8192x1024 .f32) : FVec Ideal S4x2048x1024 .f32 :=
  mulf (shapeCast S4x2048x1024 x shapeCasts_S8192x1024_S4x2048x1024) (broadcastInDim S4x2048x1024 ![0, 1, 2] bcast_S4x2048x1_S4x2048x1024_0_1_2 (Host.rsqrt (vr x)))

theorem split_ix (b : Fin 4) (i : Fin 2048) (h : b.val * 2048 + i.val < 8192) : (⟨b.val * 2048 + i.val, h⟩ : Fin 8192) = ⟨2048 * b.val + i.val, by omega⟩ :=
  Fin.ext (by show b.val * 2048 + i.val = 2048 * b.val + i.val; omega)

/-- The sum over a sequence's rows of an array. -/
theorem sum_at (a : FVec Ideal S4x2048x1024 .f32) (b : Fin 4) (j : Fin 1024) :
    (shapeCast S4x1x1024 (Host.reduceAdd a (constant S_ .f32 0x00000000#32) reducesTo_S4x2048x1024_S4x1024_d1 h_S_) shapeCasts_S4x1024_S4x1x1024 : FVec Ideal S4x1x1024 .f32) (ix3 b 0 j) = ∑ i : Fin 2048, (a (ix3 b i j) : EReal) := by
  pointwise

theorem split_at (a : FVec Ideal S8192x1024 .f32) (b : Fin 4) (i : Fin 2048) (j : Fin 1024) :
    (shapeCast S4x2048x1024 a shapeCasts_S8192x1024_S4x2048x1024 : FVec Ideal S4x2048x1024 .f32) (ix3 b i j) = a (ix2 ⟨2048 * b.val + i.val, by omega⟩ j) := by
  pointwise
  rw [split_ix]

theorem xhat_ix (x : FVec Ideal S8192x1024 .f32) (b : Fin 4) (i : Fin 2048) (j : Fin 1024) :
    xhat x (ix3 b i j) = (x (ix2 ⟨2048 * b.val + i.val, by omega⟩ j) * Ideal.rsqrt (Ideal.div (∑ k : Fin 1024, x (ix2 ⟨2048 * b.val + i.val, by omega⟩ k) * x (ix2 ⟨2048 * b.val + i.val, by omega⟩ k)) (Ideal.ofBits .f32 0x44800000#32) + Ideal.ofBits .f32 0x358637BD#32) : EReal) := by
  unfold xhat vr
  pointwise
  simp only [split_ix]

theorem xhat_at (x : FVec Ideal S8192x1024 .f32) (b : Fin 4) (i : Fin 2048) (j : Fin 1024) :
    xhat x (ix3 b i j) = normed (entries x) (2048 * b.val + i.val) j.val := by
  refine (xhat_ix x b i j).trans ?_
  unfold normed var
  simp only [← entries_at x]

/-- The factor of the normalized rows. -/
abbrev fac (g : FVec Ideal S1x1024 .f32) (sc : FVec Ideal S4x1x1024 .f32) : FVec Ideal S4x2048x1024 .f32 :=
  broadcastInDim S4x2048x1024 ![0, 1, 2] bcast_S4x1x1024_S4x2048x1024_0_1_2 (mulf (broadcastInDim S4x1x1024 ![0, 1, 2] bcast_S1x1x1024_S4x1x1024_0_1_2 (broadcastInDim S1x1x1024 ![1, 2] bcast_S1x1024_S1x1x1024_1_2 g)) (addf (broadcastInDim S4x1x1024 ![] bcast_S_S4x1x1024 (constant S_ .f32 0x3F800000#32)) sc))

/-- The gradient by the mean square's row, spread over the row. -/
abbrev tt (x d : FVec Ideal S8192x1024 .f32) (g : FVec Ideal S1x1024 .f32) (sc : FVec Ideal S4x1x1024 .f32) : FVec Ideal S4x2048x1024 .f32 :=
  broadcastInDim S4x2048x1024 ![0, 1] bcast_S4x2048_S4x2048x1024_0_1 (Host.reduceAdd (Host.divf (mulf (shapeCast S4x2048x1 (Host.reduceAdd (mulf (shapeCast S4x2048x1024 x shapeCasts_S8192x1024_S4x2048x1024) (mulf (shapeCast S4x2048x1024 d shapeCasts_S8192x1024_S4x2048x1024) (fac g sc))) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (Host.rsqrt (vr x)) (vr x)))) (broadcastInDim S4x2048x1 ![] bcast_S_S4x2048x1 (constant S_ .f32 0x44800000#32))) (constant S_ .f32 0x00000000#32) reducesTo_S4x2048x1_S4x2048_d2 h_S_)

/-- The gradient by the norm's input, added to the stream's. -/
abbrev dx (x d : FVec Ideal S8192x1024 .f32) (g : FVec Ideal S1x1024 .f32) (sc : FVec Ideal S4x1x1024 .f32) (dxo : FVec Ideal S8192x1024 .f32) : FVec Ideal S8192x1024 .f32 :=
  addf dxo (shapeCast S8192x1024 (addf (addf (mulf (mulf (shapeCast S4x2048x1024 d shapeCasts_S8192x1024_S4x2048x1024) (fac g sc)) (broadcastInDim S4x2048x1024 ![0, 1, 2] bcast_S4x2048x1_S4x2048x1024_0_1_2 (Host.rsqrt (vr x)))) (mulf (shapeCast S4x2048x1024 x shapeCasts_S8192x1024_S4x2048x1024) (tt x d g sc))) (mulf (tt x d g sc) (shapeCast S4x2048x1024 x shapeCasts_S8192x1024_S4x2048x1024))) shapeCasts_S4x2048x1024_S8192x1024)

theorem dx_ix (x d : FVec Ideal S8192x1024 .f32) (g : FVec Ideal S1x1024 .f32) (sc : FVec Ideal S4x1x1024 .f32) (dxo : FVec Ideal S8192x1024 .f32) (i : Fin 8192) (j : Fin 1024)
    (V T : EReal) (hV : V = Ideal.div (∑ k : Fin 1024, x (ix2 i k) * x (ix2 i k)) (Ideal.ofBits .f32 0x44800000#32) + Ideal.ofBits .f32 0x358637BD#32)
    (hT : T = Ideal.div ((∑ k : Fin 1024, x (ix2 i k) * (d (ix2 i k) * (g (ix2 0 k) * (1 + sc (ix3 ⟨i.val / 2048, by omega⟩ 0 k))))) * (Ideal.ofBits .f32 0xBF000000#32 * Ideal.div (Ideal.rsqrt V) V)) (Ideal.ofBits .f32 0x44800000#32)) :
    dx x d g sc dxo (ix2 i j) = (dxo (ix2 i j) + (d (ix2 i j) * (g (ix2 0 j) * (1 + sc (ix3 ⟨i.val / 2048, by omega⟩ 0 j))) * Ideal.rsqrt V + x (ix2 i j) * T + T * x (ix2 i j)) : EReal) := by
  subst hT hV
  unfold dx tt fac vr
  pointwise
  simp only [Fin.sum_univ_one]

theorem dx_at (x d : FVec Ideal S8192x1024 .f32) (g : FVec Ideal S1x1024 .f32) (sc : FVec Ideal S4x1x1024 .f32) (dxo : FVec Ideal S8192x1024 .f32) (D : ℕ → ℕ → EReal)
    (hd : ∀ (i : Fin 8192) (j : Fin 1024), d (ix2 i j) = D i.val j.val) (i : Fin 8192) (j : Fin 1024) :
    dx x d g sc dxo (ix2 i j) = inward D (entries g) (rows sc) (entries x) (entries dxo) i.val j.val := by
  refine (dx_ix x d g sc dxo i j _ _ rfl rfl).trans ?_
  have hs : ∀ k : Fin 1024, d (ix2 i k) * (g (ix2 0 k) * (1 + sc (ix3 ⟨i.val / 2048, by omega⟩ 0 k))) = scaled D (entries g) (rows sc) i.val k.val := by
    intro k
    unfold scaled
    rw [hd, ← entries_at g, ← rows_at sc]
    rfl
  simp only [hs, ← entries_at x, ← entries_at dxo]
  unfold inward normed
  refine congrArg (fun z : EReal => _ + z) ?_
  obtain ⟨e, he, hw⟩ := word_small
  refine (grad_row (fun k : Fin 1024 => entries x i.val k.val) (fun k : Fin 1024 => scaled D (entries g) (rows sc) i.val k.val) (k := 1024) (e := e) (by norm_num) he j (var (entries x) i.val) ?_ _ ?_).symm.trans ?_
  · unfold var
    rw [hw, word_1024]
  · rw [word_half, word_1024]
    unfold var
    rw [word_1024]
  · rw [word_1024]

theorem res_eq (m : (ℓ : Loc nD τ sig) → Buf (Elt Ideal) ℓ) (c : Dev nD) : res_main_v53 m c
    = dx (m ((c.tc : Thread nD τ).loc main_arg5)) (dh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      (m ((c.tc : Thread nD τ).loc main_arg6)) (m ((c.tc : Thread nD τ).loc main_arg7)) (m ((c.tc : Thread nD τ).loc main_arg8)) := by
  unfold res_main_v53
  rfl

/-- The reference's three results. -/
theorem ref_dx (q k v z : FVec Ideal S8192x2048 .bf16) (w : FVec Ideal S1024x8192 .bf16) (x : FVec Ideal S8192x1024 .f32) (g : FVec Ideal S1x1024 .f32) (sc : FVec Ideal S4x1x1024 .f32) (dxo : FVec Ideal S8192x1024 .f32) :
    dx x (dh q k v z w) g sc dxo = fun y => inward (back (entries q) (entries k) (entries v) (entries z) (entries w)) (entries g) (rows sc) (entries x) (entries dxo) (y 0).val (y 1).val := by
  funext y
  idx_vars y
  exact dx_at x _ g sc dxo _ (dh_at q k v z w) _ _

theorem ref_p (q k v z : FVec Ideal S8192x2048 .bf16) (w : FVec Ideal S1024x8192 .bf16) (x : FVec Ideal S8192x1024 .f32) :
    (shapeCast S4x1x1024 (Host.reduceAdd (mulf (xhat x) (shapeCast S4x2048x1024 (dh q k v z w) shapeCasts_S8192x1024_S4x2048x1024)) (constant S_ .f32 0x00000000#32) reducesTo_S4x2048x1024_S4x1024_d1 h_S_) shapeCasts_S4x1024_S4x1x1024 : FVec Ideal S4x1x1024 .f32)
      = fun y => down (fun r => back (entries q) (entries k) (entries v) (entries z) (entries w) r (y 2).val * normed (entries x) r (y 2).val) (y 0).val 2048 := by
  funext y
  idx_vars y
  refine (congrArg _ (congrArg₂ (fun a b => ix3 a b _) rfl (Subsingleton.elim (α := Fin 1) _ 0))).trans ((sum_at _ _ _).trans ?_)
  unfold down
  rw [Finset.sum_range]
  refine Finset.sum_congr rfl fun i _ => ?_
  refine (congrArg₂ (fun a b : EReal => a * b) (xhat_at x _ i _) ((split_at _ _ i _).trans (dh_at q k v z w _ _))).trans (mul_comm _ _)

theorem ref_s (q k v z : FVec Ideal S8192x2048 .bf16) (w : FVec Ideal S1024x8192 .bf16) :
    (shapeCast S4x1x1024 (Host.reduceAdd (shapeCast S4x2048x1024 (dh q k v z w) shapeCasts_S8192x1024_S4x2048x1024) (constant S_ .f32 0x00000000#32) reducesTo_S4x2048x1024_S4x1024_d1 h_S_) shapeCasts_S4x1024_S4x1x1024 : FVec Ideal S4x1x1024 .f32)
      = fun y => down (fun r => back (entries q) (entries k) (entries v) (entries z) (entries w) r (y 2).val) (y 0).val 2048 := by
  funext y
  idx_vars y
  refine (congrArg _ (congrArg₂ (fun a b => ix3 a b _) rfl (Subsingleton.elim (α := Fin 1) _ 0))).trans ((sum_at _ _ _).trans ?_)
  unfold down
  rw [Finset.sum_range]
  exact Finset.sum_congr rfl fun i _ => (split_at _ _ i _).trans (dh_at q k v z w _ _)

end Cert.ReferenceDhIdeal.Value

end
-- ==== Proof.GateGrad.lean ====
/- The gradients of the gated out-projection, over arrays given by their numbers, and the gradient of the gate's function. -/
module

public import proofs.«01_k».proof.Proof.Layers

@[expose] public section

set_option maxRecDepth 16384

noncomputable section

namespace Cert.GateGrad

open Idealize.ShloMosaic Cert.Contract Cert.Layers

/-- The first 2048 of an array's 2176 columns. -/
abbrev front (z : FVec Ideal ⟨2, ![8192, 2176]⟩ .f32) : FVec Ideal ⟨2, ![8192, 2048]⟩ .f32 := extractStridedSlice ⟨2, ![8192, 2048]⟩ ![0, 0] z (by decide)

theorem front_ix (z : FVec Ideal ⟨2, ![8192, 2176]⟩ .f32) (i : Fin 8192) (k : Fin 2048) : front z (ix2 i k) = z (ix2 i ⟨k.val, by omega⟩) := by
  unfold front
  pointwise

theorem front_at (z : FVec Ideal ⟨2, ![8192, 2176]⟩ .f32) (r k : ℕ) (hk : k < 2048) : entries (front z) r k = entries z r k := by
  by_cases hr : r < 8192
  · exact (entries_at (front z) ⟨r, hr⟩ ⟨k, hk⟩).trans ((front_ix z ⟨r, hr⟩ ⟨k, hk⟩).trans (entries_at z ⟨r, hr⟩ ⟨k, by omega⟩).symm)
  · unfold entries
    rw [dif_neg fun h => hr h.1, dif_neg fun h => hr h.1]

/-- The product's cotangent: the stream's, scaled by its sequence's gate. -/
def branch (DX G : ℕ → ℕ → EReal) (r j : ℕ) : EReal := DX r j * G (r / 2048) j

/-- The gated rows' cotangent, through the weights. -/
def through (DX G W : ℕ → ℕ → EReal) (r k : ℕ) : EReal := ∑ j : Fin 1024, branch DX G r j.val * W k j.val

/-- The gradient by the attention's output. -/
def byOut (DX G W Z : ℕ → ℕ → EReal) (r k : ℕ) : EReal := through DX G W r k * (Z r k * sigma (Z r k))

/-- The gradient by the gate's argument. -/
def byGate (DX G W O Z : ℕ → ℕ → EReal) (r k : ℕ) : EReal :=
  through DX G W r k * O r k * (sigma (Z r k) * (1 + Z r k * (1 - sigma (Z r k))))

/-- The logistic function of a real is a real. -/
theorem sigma_coe (z : ℝ) : sigma (z : EReal) = (((1 + Real.exp (-z))⁻¹ : ℝ) : EReal) := by
  unfold sigma
  rw [← EReal.coe_neg]
  show Ideal.div 1 (1 + ((Real.exp (-z) : ℝ) : EReal)) = _
  rw [← EReal.coe_one, ← EReal.coe_add]
  unfold Ideal.div
  rw [if_neg (by exact_mod_cast (by have := Real.exp_pos (-z); linarith : (1 + Real.exp (-z) : ℝ) ≠ 0)), EReal.coe_inv, EReal.coe_one, one_mul]

theorem sigma_top : sigma ⊤ = 1 := by
  unfold sigma
  rw [EReal.neg_top]
  show Ideal.div 1 (1 + 0) = 1
  rw [add_zero]
  unfold Ideal.div
  rw [if_neg one_ne_zero, one_mul, ← EReal.coe_one, ← EReal.coe_inv, inv_one]

theorem sigma_bot : sigma ⊥ = 0 := by
  unfold sigma
  rw [EReal.neg_bot]
  show Ideal.div 1 (1 + ⊤) = 0
  rw [EReal.add_top_of_ne_bot (by decide)]
  unfold Ideal.div
  rw [if_neg (by decide), one_mul, EReal.inv_top]

/-- For a real cotangent the two terms of the gradient of `z * sigma z` are its closed form. -/
theorem silu_grad (c : ℝ) (z : EReal) :
    (c : EReal) * sigma z + z * (c : EReal) * (sigma z * (1 - sigma z)) = (c : EReal) * (sigma z * (1 + z * (1 - sigma z))) := by
  induction z with
  | bot => rw [sigma_bot, mul_zero, zero_mul, mul_zero, zero_mul, mul_zero, add_zero]
  | top =>
    have e : (1 : EReal) - 1 = 0 := by rw [← EReal.coe_one, ← EReal.coe_sub, sub_self]; rfl
    rw [sigma_top, e, mul_zero, mul_zero, mul_zero, add_zero, add_zero, mul_one, mul_one, mul_one]
  | coe z =>
    rw [sigma_coe, ← EReal.coe_one]
    simp only [← EReal.coe_mul, ← EReal.coe_sub, ← EReal.coe_add]
    congr 1
    ring

/-- An extended real that is a real. -/
def IsReal (x : EReal) : Prop := ∃ a : ℝ, x = (a : EReal)

theorem IsReal.mul {x y : EReal} : IsReal x → IsReal y → IsReal (x * y) := fun ⟨a, ha⟩ ⟨b, hb⟩ => ⟨a * b, by rw [ha, hb, EReal.coe_mul]⟩

theorem IsReal.sum {n : ℕ} {f : Fin n → EReal} (h : ∀ i, IsReal (f i)) : IsReal (∑ i, f i) :=
  Finset.sum_induction f IsReal (fun _ _ ⟨a, ha⟩ ⟨b, hb⟩ => ⟨a + b, by rw [ha, hb, EReal.coe_add]⟩) ⟨0, EReal.coe_zero.symm⟩ fun i _ => h i

theorem entries_real {n k : ℕ} {φ : FTy} {x : FVec Ideal ⟨2, ![n, k]⟩ φ} (h : ∀ i, IsReal (x i)) (r s : ℕ) : IsReal (entries x r s) := by
  unfold entries
  split
  · exact h _
  · exact ⟨0, EReal.coe_zero.symm⟩

theorem rows_real {n k : ℕ} {φ : FTy} {x : FVec Ideal ⟨3, ![n, 1, k]⟩ φ} (h : ∀ i, IsReal (x i)) (r s : ℕ) : IsReal (rows x r s) := by
  unfold rows
  split
  · exact h _
  · exact ⟨0, EReal.coe_zero.symm⟩

/-- On real arguments the gradient by the gate's argument is the sum of the two terms. -/
theorem byGate_eq {DX G W O : ℕ → ℕ → EReal} (hd : ∀ r s, IsReal (DX r s)) (hg : ∀ r s, IsReal (G r s)) (hw : ∀ r s, IsReal (W r s)) (ho : ∀ r s, IsReal (O r s)) (Z : ℕ → ℕ → EReal) (r k : ℕ) :
    O r k * through DX G W r k * sigma (Z r k) + Z r k * (O r k * through DX G W r k) * (sigma (Z r k) * (1 - sigma (Z r k))) = byGate DX G W O Z r k := by
  obtain ⟨c, hc⟩ : IsReal (O r k * through DX G W r k) := (ho r k).mul (IsReal.sum fun j => ((hd r j.val).mul (hg _ _)).mul (hw _ _))
  unfold byGate
  rw [mul_comm (through DX G W r k), hc]
  exact silu_grad c _

end Cert.GateGrad

end
-- ==== Proof.FiniteBranch.lean ====
/- What finite arguments of the out-projection's backward are. -/
module

public import proofs.«01_k».proof.Pre_finite_branch
public import proofs.«01_k».proof.Pre_finite_fox_branch
public import proofs.«01_k».proof.Proof.Finite
public import proofs.«01_k».proof.Proof.GateGrad

@[expose] public section

noncomputable section

namespace Cert.Pre_finite_branch

open Idealize.ShloMosaic Cert.GateGrad

/-- The shape relations the predicate states. -/
theorem facts : Facts := ⟨by decide, by decide, by decide, by decide⟩

theorem word_top : Ideal.ofBits .f32 0x7F800000#32 = ⊤ := by simp [Ideal.ofBits, Ideal.ieee]

/-- What the comparison with infinity says at an index, for the wider type. -/
theorem real_of_bit {s : Shape} (x : FVec Ideal s .f32) (h : S_.BroadcastsInDim s (![] : Fin 0 → Fin s.rank))
    (e : cmpf .olt (Host.absf x) (broadcastInDim s ![] h (constant (F := Ideal) S_ .f32 0x7F800000#32)) = fun _ => 1#1) (i : s.Idx) : IsReal (x i : EReal) := by
  refine ⟨(x i : EReal).toReal, (Cert.Pre_finite.coe_of_abs_lt _ ?_).symm⟩
  have h1 : BitVec.ofBool (decide (max (x i : EReal) (-(x i : EReal)) < Ideal.ofBits .f32 0x7F800000#32)) = 1#1 := congrFun e i
  rw [word_top] at h1
  by_contra hn
  rw [decide_eq_false hn] at h1
  exact absurd h1 (by decide)

end Cert.Pre_finite_branch

/-- The shape relations that the predicate at the wider `z` states. -/
theorem Cert.Pre_finite_fox_branch.facts : Cert.Pre_finite_fox_branch.Facts := ⟨by decide, by decide, by decide, by decide⟩

end
-- ==== Proof.DoutVal.lean ====
/- The backward of the gated out-projection: what the grid leaves. -/
module

public import proofs.«01_k».proof.Proof.GateGrad
public import proofs.«01_k».proof.Proof.Gen.KernelDoutIdeal.Value
public import Idealize.ShloMosaic.Lib.Pipeline.ValueKit

@[expose] public section

set_option maxRecDepth 16384
set_option maxHeartbeats 1000000

noncomputable section

namespace Cert.KernelDoutIdeal.Value

open Cert.KernelDoutIdeal Cert.KernelDoutIdeal.Gen Idealize.ShloMosaic Idealize.ShloMosaic.TcCoe Idealize.ShloMosaic.Tactic Idealize.SL.Sem
open Cert.Contract Cert.Layers Cert.GateGrad

theorem hz : (![0, 0] : Fin 2 → Nat) = fun _ => 0 := funext fun a => by fin_cases a <;> rfl
theorem hz3 : (![0, 0, 0] : Fin 3 → Nat) = fun _ => 0 := funext fun a => by fin_cases a <;> rfl

/-- The gate's row. -/
theorem pay9_at (g : Vec Ideal S1x1x1024 .f32) (j : Fin 1024) : k0_pay9 (F := Ideal) g (ix2 0 j) = g (ix3 0 0 j) := by
  unfold k0_pay9
  pointwise

/-- The product's cotangent, of a block of rows. -/
theorem pay1_at (x : Vec Ideal S256x1024 .f32) (g : Vec Ideal S1x1024 .f32) (i : Fin 256) (j : Fin 1024) :
    k0_pay1 (F := Ideal) x g (ix2 i j) = (x (ix2 i j) * g (ix2 0 j) : EReal) := by
  unfold k0_pay1
  pointwise

/-- The gated rows' cotangent. -/
theorem pay2_at (x : Vec Ideal S256x1024 .f32) (g : Vec Ideal S1x1024 .f32) (w : Vec Ideal S2048x1024 .bf16) (i : Fin 256) (k : Fin 2048) :
    k0_pay2 (F := Ideal) x g w (ix2 i k) = ∑ j : Fin 1024, (k0_pay1 (F := Ideal) x g (ix2 i j) * w (ix2 k j) : EReal) := by
  unfold k0_pay2
  pointwise [Ideal.ofBits_zero_f32]

/-- The gate's logistic function. -/
theorem pay3_at (z : Vec Ideal S256x2048 .f32) (i : Fin 256) (k : Fin 2048) : k0_pay3 (F := Ideal) z (ix2 i k) = sigma (z (ix2 i k)) := by
  unfold k0_pay3 sigma
  pointwise [Ideal.ofBits_zero_f32, zero_sub]

theorem pay4_at (x : Vec Ideal S256x1024 .f32) (g : Vec Ideal S1x1024 .f32) (w : Vec Ideal S2048x1024 .bf16) (z : Vec Ideal S256x2048 .f32) (i : Fin 256) (k : Fin 2048) :
    k0_pay4 (F := Ideal) x g w z (ix2 i k) = (k0_pay2 (F := Ideal) x g w (ix2 i k) * (z (ix2 i k) * k0_pay3 (F := Ideal) z (ix2 i k)) : EReal) := by
  unfold k0_pay4
  pointwise

theorem pay5_at (x : Vec Ideal S256x1024 .f32) (g : Vec Ideal S1x1024 .f32) (w : Vec Ideal S2048x1024 .bf16) (z o : Vec Ideal S256x2048 .f32) (i : Fin 256) (k : Fin 2048) :
    k0_pay5 (F := Ideal) x g w z o (ix2 i k) = (k0_pay2 (F := Ideal) x g w (ix2 i k) * o (ix2 i k) * (k0_pay3 (F := Ideal) z (ix2 i k) * (1 + z (ix2 i k) * (1 - k0_pay3 (F := Ideal) z (ix2 i k)))) : EReal) := by
  unfold k0_pay5
  pointwise

/-- A block's column sums for the gate. -/
theorem pay6_at (x y : Vec Ideal S256x1024 .f32) (j : Fin 1024) : k0_pay6 (F := Ideal) x y (ix2 0 j) = ∑ i : Fin 256, (x (ix2 i j) * y (ix2 i j) : EReal) := by
  unfold k0_pay6
  pointwise [Ideal.ofBits_zero_f32]

theorem pay7_at (x y : Vec Ideal S256x1024 .f32) (j : Fin 1024) : k0_pay7 (F := Ideal) x y (ix3 0 0 j) = k0_pay6 (F := Ideal) x y (ix2 0 j) := by
  unfold k0_pay7
  pointwise

theorem pay8_at (x y : Vec Ideal S256x1024 .f32) (p : Vec Ideal S1x1x1024 .f32) (j : Fin 1024) : k0_pay8 (F := Ideal) x y p (ix3 0 0 j) = (p (ix3 0 0 j) + k0_pay6 (F := Ideal) x y (ix2 0 j) : EReal) := by
  unfold k0_pay8
  pointwise

section block
variable {DX Y G W O Z : ℕ → ℕ → EReal} {t : ℕ} {x0 x1 : Vec Ideal S256x1024 .f32} {x2 : Vec Ideal S1x1x1024 .f32} {x3 : Vec Ideal S2048x1024 .bf16} {x4 x5 : Vec Ideal S256x2048 .f32}

/-- What the stored values are, from the blocks' entries at the point `t`. -/
theorem branch_of (h0 : ∀ i j, x0 (ix2 i j) = DX (256 * t + i.val) j.val) (h2 : ∀ j, x2 (ix3 0 0 j) = G (t / 8) j.val) (i : Fin 256) (j : Fin 1024) :
    k0_pay1 (F := Ideal) x0 (k0_pay9 (F := Ideal) x2) (ix2 i j) = branch DX G (256 * t + i.val) j.val := by
  refine (pay1_at _ _ i j).trans ?_
  unfold branch
  rw [pay9_at, h0, h2, show (256 * t + i.val) / 2048 = t / 8 from by omega]

theorem through_of (h0 : ∀ i j, x0 (ix2 i j) = DX (256 * t + i.val) j.val) (h2 : ∀ j, x2 (ix3 0 0 j) = G (t / 8) j.val) (h3 : ∀ k j, x3 (ix2 k j) = W k.val j.val) (i : Fin 256) (k : Fin 2048) :
    k0_pay2 (F := Ideal) x0 (k0_pay9 (F := Ideal) x2) x3 (ix2 i k) = through DX G W (256 * t + i.val) k.val := by
  refine (pay2_at _ _ _ i k).trans (Finset.sum_congr rfl fun j _ => ?_)
  rw [branch_of h0 h2, h3]

theorem byOut_of (h0 : ∀ i j, x0 (ix2 i j) = DX (256 * t + i.val) j.val) (h2 : ∀ j, x2 (ix3 0 0 j) = G (t / 8) j.val) (h3 : ∀ k j, x3 (ix2 k j) = W k.val j.val)
    (h5 : ∀ i k, x5 (ix2 i k) = Z (256 * t + i.val) k.val) (i : Fin 256) (k : Fin 2048) :
    k0_pay4 (F := Ideal) x0 (k0_pay9 (F := Ideal) x2) x3 x5 (ix2 i k) = byOut DX G W Z (256 * t + i.val) k.val := by
  refine (pay4_at _ _ _ _ i k).trans ?_
  unfold byOut
  rw [through_of h0 h2 h3, pay3_at, h5]

theorem byGate_of (h0 : ∀ i j, x0 (ix2 i j) = DX (256 * t + i.val) j.val) (h2 : ∀ j, x2 (ix3 0 0 j) = G (t / 8) j.val) (h3 : ∀ k j, x3 (ix2 k j) = W k.val j.val)
    (h5 : ∀ i k, x5 (ix2 i k) = Z (256 * t + i.val) k.val) (h4 : ∀ i k, x4 (ix2 i k) = O (256 * t + i.val) k.val) (i : Fin 256) (k : Fin 2048) :
    k0_pay5 (F := Ideal) x0 (k0_pay9 (F := Ideal) x2) x3 x5 x4 (ix2 i k) = byGate DX G W O Z (256 * t + i.val) k.val := by
  refine (pay5_at _ _ _ _ _ i k).trans ?_
  unfold byGate
  rw [through_of h0 h2 h3, pay3_at, h5, h4]

theorem sum_of (h0 : ∀ i j, x0 (ix2 i j) = DX (256 * t + i.val) j.val) (h1 : ∀ i j, x1 (ix2 i j) = Y (256 * t + i.val) j.val) (j : Fin 1024) :
    k0_pay6 (F := Ideal) x0 x1 (ix2 0 j) = ∑ i : Fin 256, (DX (256 * t + i.val) j.val * Y (256 * t + i.val) j.val : EReal) := by
  refine (pay6_at _ _ j).trans (Finset.sum_congr rfl fun i _ => ?_)
  rw [h0, h1]

end block

/-- Where the windows' blocks lie, from a point's number, 8 points to a sequence. -/
theorem places : ∀ t : Fin cfg0.N, win0_0.index t = ![t.val, 0] ∧ win0_1.index t = ![t.val, 0] ∧ win0_2.index t = ![t.val / 8, 0, 0] ∧ win0_3.index t = ![0, 0] ∧
    win0_4.index t = ![t.val, 0] ∧ win0_5.index t = ![t.val, 0] ∧ win0_6.index t = ![t.val, 0] ∧ win0_7.index t = ![t.val, 0] ∧ win0_8.index t = ![t.val, 0] ∧ win0_9.index t = ![t.val / 8, 0, 0] := by decide +kernel

section out
variable (c : Dev nD) (i : grid0.Coords) (a1 : Memref sig .tc .vmem S256x1024 .f32) (h1 : a1.IsWhole) (a2 : Memref sig .tc .vmem S256x1024 .f32) (h2 : a2.IsWhole) (a3 : Memref sig .tc .vmem S1x1x1024 .f32) (h3 : a3.IsWhole) (a4 : Memref sig .tc .vmem S2048x1024 .bf16) (h4 : a4.IsWhole) (a5 : Memref sig .tc .vmem S256x2048 .f32) (h5 : a5.IsWhole) (a6 : Memref sig .tc .vmem S256x2048 .f32) (h6 : a6.IsWhole) (a7 : Memref sig .tc .vmem S256x2048 .bf16) (h7 : a7.IsWhole) (a8 : Memref sig .tc .vmem S256x2048 .bf16) (h8 : a8.IsWhole) (a9 : Memref sig .tc .vmem S256x1024 .bf16) (h9 : a9.IsWhole) (a10 : Memref sig .tc .vmem S1x1x1024 .f32) (h10 : a10.IsWhole)

/-- A sequence's first block: the gradient by the attention's output. -/
theorem out_A_6 (hc0) (hc1) (x0 x1 : Vec Ideal S256x1024 .f32) (x2 : Vec Ideal S1x1x1024 .f32) (x3 : Vec Ideal S2048x1024 .bf16) (x4 x5 : Vec Ideal S256x2048 .f32) :
    out0_A_6 c i a1 h1 a2 h2 a3 h3 a4 h4 a5 h5 a6 h6 a7 h7 a8 h8 a9 h9 a10 h10 hc0 hc1 x0 x1 x2 x3 x4 x5 = k0_pay4 x0 (k0_pay9 x2) x3 x5 := by
  unfold out0_A_6
  rw [View.read_writes_eq_canon _ _ _ (cover0_A_6 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h10.read_unread, View.ld_unit_zero (S := S256x2048) hz, View.ld_unit_zero (S := S256x1024) hz, View.ld_unit_zero (S := S2048x1024) hz, View.ld_unit_zero (S := S1x1x1024) hz3, shapeCast_self]

/-- A sequence's first block: the gradient by the gate's argument. -/
theorem out_A_7 (hc0) (hc1) (x0 x1 : Vec Ideal S256x1024 .f32) (x2 : Vec Ideal S1x1x1024 .f32) (x3 : Vec Ideal S2048x1024 .bf16) (x4 x5 : Vec Ideal S256x2048 .f32) :
    out0_A_7 c i a1 h1 a2 h2 a3 h3 a4 h4 a5 h5 a6 h6 a7 h7 a8 h8 a9 h9 a10 h10 hc0 hc1 x0 x1 x2 x3 x4 x5 = k0_pay5 x0 (k0_pay9 x2) x3 x5 x4 := by
  unfold out0_A_7
  rw [View.read_writes_eq_canon _ _ _ (cover0_A_7 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h10.read_unread, View.ld_unit_zero (S := S256x2048) hz, View.ld_unit_zero (S := S256x1024) hz, View.ld_unit_zero (S := S2048x1024) hz, View.ld_unit_zero (S := S1x1x1024) hz3, shapeCast_self]

/-- A sequence's first block: the product's cotangent. -/
theorem out_A_8 (hc0) (hc1) (x0 x1 : Vec Ideal S256x1024 .f32) (x2 : Vec Ideal S1x1x1024 .f32) (x3 : Vec Ideal S2048x1024 .bf16) (x4 x5 : Vec Ideal S256x2048 .f32) :
    out0_A_8 c i a1 h1 a2 h2 a3 h3 a4 h4 a5 h5 a6 h6 a7 h7 a8 h8 a9 h9 a10 h10 hc0 hc1 x0 x1 x2 x3 x4 x5 = k0_pay1 (F := Ideal) x0 (k0_pay9 x2) := by
  unfold out0_A_8
  rw [View.read_writes_eq_canon _ _ _ (cover0_A_8 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h10.read_unread, View.ld_unit_zero (S := S256x2048) hz, View.ld_unit_zero (S := S256x1024) hz, View.ld_unit_zero (S := S2048x1024) hz, View.ld_unit_zero (S := S1x1x1024) hz3, shapeCast_self]

/-- A sequence's first block: the gate's column sums. -/
theorem out_A_9 (hc0) (hc1) (x0 x1 : Vec Ideal S256x1024 .f32) (x2 : Vec Ideal S1x1x1024 .f32) (x3 : Vec Ideal S2048x1024 .bf16) (x4 x5 : Vec Ideal S256x2048 .f32) :
    out0_A_9 c i a1 h1 a2 h2 a3 h3 a4 h4 a5 h5 a6 h6 a7 h7 a8 h8 a9 h9 a10 h10 hc0 hc1 x0 x1 x2 x3 x4 x5 = k0_pay7 (F := Ideal) x0 x1 := by
  unfold out0_A_9
  rw [View.read_writes_eq_canon _ _ _ (cover0_A_9 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz3]
  simp only [View.readAt_eq_ld, h1.read_unread, h2.read_unread, h3.read_unread, h4.read_unread, h5.read_unread, h6.read_unread, h10.read_unread, View.ld_unit_zero (S := S256x2048) hz, View.ld_unit_zero (S := S256x1024) hz, View.ld_unit_zero (S := S2048x1024) hz, View.ld_unit_zero (S := S1x1x1024) hz3, shapeCast_self]

/-- A later block: the gradient by the attention's output. -/
theorem out_B_6 (hc0) (hc1) (x0 x1 : Vec Ideal S256x1024 .f32) (x2 : Vec Ideal S1x1x1024 .f32) (x3 : Vec Ideal S2048x1024 .bf16) (x4 x5 : Vec Ideal S256x2048 .f32) (xo : Vec Ideal S1x1x1024 .f32) :
    out0_B_6 c i a1 h1 a2 h2 a3 h3 a4 h4 a5 h5 a6 h6 a7 h7 a8 h8 a9 h9 a10 h10 hc0 hc1 x0 x1 x2 x3 x4 x5 xo = k0_pay4 x0 (k0_pay9 x2) x3 x5 := by
  unfold out0_B_6
  rw [View.read_writes_eq_canon _ _ _ (cover0_B_6 c i a1 h1 a2 h2 a3 h3 a4 h4 a5 h5 a6 h6 a7 h7 a8 h8 a9 h9 a10 h10 hc0 hc1 x0 x1 x2 x3 x4 x5 xo)]
  unfold kernelRun0_B
  dsimp only
  sl_unfold_words
  rw [View.canon_unit_zero hz]
  simp only [View.readAt_eq_ld, h1.read_unread, h2.read_unread, h3.read_unread, h4.read_unread, h5.read_unread, h6.read_unread, h10.read_unread, View.ld_unit_zero (S := S256x2048) hz, View.ld_unit_zero (S := S256x1024) hz, View.ld_unit_zero (S := S2048x1024) hz, View.ld_unit_zero (S := S1x1x1024) hz3, shapeCast_self]

/-- A later block: the gradient by the gate's argument. -/
theorem out_B_7 (hc0) (hc1) (x0 x1 : Vec Ideal S256x1024 .f32) (x2 : Vec Ideal S1x1x1024 .f32) (x3 : Vec Ideal S2048x1024 .bf16) (x4 x5 : Vec Ideal S256x2048 .f32) (xo : Vec Ideal S1x1x1024 .f32) :
    out0_B_7 c i a1 h1 a2 h2 a3 h3 a4 h4 a5 h5 a6 h6 a7 h7 a8 h8 a9 h9 a10 h10 hc0 hc1 x0 x1 x2 x3 x4 x5 xo = k0_pay5 x0 (k0_pay9 x2) x3 x5 x4 := by
  unfold out0_B_7
  rw [View.read_writes_eq_canon _ _ _ (cover0_B_7 c i a1 h1 a2 h2 a3 h3 a4 h4 a5 h5 a6 h6 a7 h7 a8 h8 a9 h9 a10 h10 hc0 hc1 x0 x1 x2 x3 x4 x5 xo)]
  unfold kernelRun0_B
  dsimp only
  sl_unfold_words
  rw [View.canon_unit_zero hz]
  simp only [View.readAt_eq_ld, h1.read_unread, h2.read_unread, h3.read_unread, h4.read_unread, h5.read_unread, h6.read_unread, h10.read_unread, View.ld_unit_zero (S := S256x2048) hz, View.ld_unit_zero (S := S256x1024) hz, View.ld_unit_zero (S := S2048x1024) hz, View.ld_unit_zero (S := S1x1x1024) hz3, shapeCast_self]

/-- A later block: the product's cotangent. -/
theorem out_B_8 (hc0) (hc1) (x0 x1 : Vec Ideal S256x1024 .f32) (x2 : Vec Ideal S1x1x1024 .f32) (x3 : Vec Ideal S2048x1024 .bf16) (x4 x5 : Vec Ideal S256x2048 .f32) (xo : Vec Ideal S1x1x1024 .f32) :
    out0_B_8 c i a1 h1 a2 h2 a3 h3 a4 h4 a5 h5 a6 h6 a7 h7 a8 h8 a9 h9 a10 h10 hc0 hc1 x0 x1 x2 x3 x4 x5 xo = k0_pay1 (F := Ideal) x0 (k0_pay9 x2) := by
  unfold out0_B_8
  rw [View.read_writes_eq_canon _ _ _ (cover0_B_8 c i a1 h1 a2 h2 a3 h3 a4 h4 a5 h5 a6 h6 a7 h7 a8 h8 a9 h9 a10 h10 hc0 hc1 x0 x1 x2 x3 x4 x5 xo)]
  unfold kernelRun0_B
  dsimp only
  sl_unfold_words
  rw [View.canon_unit_zero hz]
  simp only [View.readAt_eq_ld, h1.read_unread, h2.read_unread, h3.read_unread, h4.read_unread, h5.read_unread, h6.read_unread, h10.read_unread, View.ld_unit_zero (S := S256x2048) hz, View.ld_unit_zero (S := S256x1024) hz, View.ld_unit_zero (S := S2048x1024) hz, View.ld_unit_zero (S := S1x1x1024) hz3, shapeCast_self]

/-- A later block: the gate's column sums are added. -/
theorem out_B_9 (hc0) (hc1) (x0 x1 : Vec Ideal S256x1024 .f32) (x2 : Vec Ideal S1x1x1024 .f32) (x3 : Vec Ideal S2048x1024 .bf16) (x4 x5 : Vec Ideal S256x2048 .f32) (xo : Vec Ideal S1x1x1024 .f32) :
    out0_B_9 c i a1 h1 a2 h2 a3 h3 a4 h4 a5 h5 a6 h6 a7 h7 a8 h8 a9 h9 a10 h10 hc0 hc1 x0 x1 x2 x3 x4 x5 xo = k0_pay8 x0 x1 xo := by
  unfold out0_B_9
  rw [View.read_writes_eq_canon _ _ _ (cover0_B_9 c i a1 h1 a2 h2 a3 h3 a4 h4 a5 h5 a6 h6 a7 h7 a8 h8 a9 h9 a10 h10 hc0 hc1 x0 x1 x2 x3 x4 x5 xo)]
  unfold kernelRun0_B
  dsimp only
  sl_unfold_words
  rw [View.canon_unit_zero hz3]
  simp only [View.readAt_eq_ld, h1.read_unread, h2.read_unread, h3.read_unread, h4.read_unread, h5.read_unread, h6.read_unread, h10.read_unread, View.ld_unit_zero (S := S256x2048) hz, View.ld_unit_zero (S := S256x1024) hz, View.ld_unit_zero (S := S2048x1024) hz, View.ld_unit_zero (S := S1x1x1024) hz3, shapeCast_self]

end out

variable (m : (ℓ : Loc nD τ sig) → Buf (Elt Ideal) ℓ) (c : Dev nD)

/-- The arguments' entries. -/
abbrev DX : ℕ → ℕ → EReal := entries (n := 8192) (k := 1024) (φ := .f32) (m ((c : Thread nD τ).loc main_arg0))
abbrev Y : ℕ → ℕ → EReal := entries (n := 8192) (k := 1024) (φ := .f32) (m ((c : Thread nD τ).loc main_arg1))
abbrev G : ℕ → ℕ → EReal := rows (n := 4) (k := 1024) (φ := .f32) (m ((c : Thread nD τ).loc main_arg2))
abbrev W : ℕ → ℕ → EReal := entries (n := 2048) (k := 1024) (φ := .bf16) (m ((c : Thread nD τ).loc main_arg3))
abbrev O : ℕ → ℕ → EReal := entries (n := 8192) (k := 2048) (φ := .f32) (m ((c : Thread nD τ).loc main_arg4))
abbrev Z : ℕ → ℕ → EReal := entries (n := 8192) (k := 2048) (φ := .f32) (m ((c : Thread nD τ).loc main_arg5))

theorem blk_DX (t : Fin cfg0.N) (i : Fin 256) (j : Fin 1024) : iblk m c 0 t (ix2 i j) = DX m c (256 * t.val + i.val) j.val := by
  obtain ⟨e, -⟩ := places t
  blk_simp [iblk, e]
  refine (entries_ix (n := 8192) (k := 1024) (φ := .f32) (m ((c : Thread nD τ).loc main_arg0)) ((win0_0.blk t).view.emb (ix2 i j))).trans ?_
  refine congrArg₂ (DX m c) ?_ ?_
  · blk_simp [e]; show _ + i.val = _; omega
  · blk_simp [e]

theorem blk_Y (t : Fin cfg0.N) (i : Fin 256) (j : Fin 1024) : iblk m c 1 t (ix2 i j) = Y m c (256 * t.val + i.val) j.val := by
  obtain ⟨-, e, -⟩ := places t
  blk_simp [iblk, e]
  refine (entries_ix (n := 8192) (k := 1024) (φ := .f32) (m ((c : Thread nD τ).loc main_arg1)) ((win0_1.blk t).view.emb (ix2 i j))).trans ?_
  refine congrArg₂ (Y m c) ?_ ?_
  · blk_simp [e]; show _ + i.val = _; omega
  · blk_simp [e]

theorem blk_W (t : Fin cfg0.N) (i : Fin 2048) (j : Fin 1024) : iblk m c 3 t (ix2 i j) = W m c i.val j.val := by
  obtain ⟨-, -, -, e, -⟩ := places t
  blk_simp [iblk, e]
  refine (entries_ix (n := 2048) (k := 1024) (φ := .bf16) (m ((c : Thread nD τ).loc main_arg3)) ((win0_3.blk t).view.emb (ix2 i j))).trans ?_
  refine congrArg₂ (W m c) ?_ ?_
  · blk_simp [e]
  · blk_simp [e]

theorem blk_O (t : Fin cfg0.N) (i : Fin 256) (j : Fin 2048) : iblk m c 4 t (ix2 i j) = O m c (256 * t.val + i.val) j.val := by
  obtain ⟨-, -, -, -, e, -⟩ := places t
  blk_simp [iblk, e]
  refine (entries_ix (n := 8192) (k := 2048) (φ := .f32) (m ((c : Thread nD τ).loc main_arg4)) ((win0_4.blk t).view.emb (ix2 i j))).trans ?_
  refine congrArg₂ (O m c) ?_ ?_
  · blk_simp [e]; show _ + i.val = _; omega
  · blk_simp [e]

theorem blk_Z (t : Fin cfg0.N) (i : Fin 256) (j : Fin 2048) : iblk m c 5 t (ix2 i j) = Z m c (256 * t.val + i.val) j.val := by
  obtain ⟨-, -, -, -, -, e, -⟩ := places t
  blk_simp [iblk, e]
  refine (entries_ix (n := 8192) (k := 2048) (φ := .f32) (m ((c : Thread nD τ).loc main_arg5)) ((win0_5.blk t).view.emb (ix2 i j))).trans ?_
  refine congrArg₂ (Z m c) ?_ ?_
  · blk_simp [e]; show _ + i.val = _; omega
  · blk_simp [e]

theorem blk_G (t : Fin cfg0.N) (j : Fin 1024) : iblk m c 2 t (ix3 0 0 j) = G m c (t.val / 8) j.val := by
  obtain ⟨-, -, e, -⟩ := places t
  blk_simp [iblk, e]
  refine (rows_ix (n := 4) (k := 1024) (φ := .f32) (m ((c : Thread nD τ).loc main_arg2)) ((win0_2.blk t).view.emb (ix3 0 0 j))).trans ?_
  refine congrArg₂ (G m c) ?_ ?_
  · blk_simp [e]; exact Nat.add_zero _
  · blk_simp [e]

theorem branch_at (t : Fin cfg0.N) (i : Fin 256) (j : Fin 1024) :
    k0_pay1 (F := Ideal) (iblk m c 0 t) (k0_pay9 (F := Ideal) (iblk m c 2 t)) (ix2 i j) = branch (DX m c) (G m c) (256 * t.val + i.val) j.val :=
  branch_of (blk_DX m c t) (blk_G m c t) i j

theorem byOut_at (t : Fin cfg0.N) (i : Fin 256) (k : Fin 2048) :
    k0_pay4 (F := Ideal) (iblk m c 0 t) (k0_pay9 (F := Ideal) (iblk m c 2 t)) (iblk m c 3 t) (iblk m c 5 t) (ix2 i k) = byOut (DX m c) (G m c) (W m c) (Z m c) (256 * t.val + i.val) k.val :=
  byOut_of (blk_DX m c t) (blk_G m c t) (blk_W m c t) (blk_Z m c t) i k

theorem byGate_at (t : Fin cfg0.N) (i : Fin 256) (k : Fin 2048) :
    k0_pay5 (F := Ideal) (iblk m c 0 t) (k0_pay9 (F := Ideal) (iblk m c 2 t)) (iblk m c 3 t) (iblk m c 5 t) (iblk m c 4 t) (ix2 i k) = byGate (DX m c) (G m c) (W m c) (O m c) (Z m c) (256 * t.val + i.val) k.val :=
  byGate_of (blk_DX m c t) (blk_G m c t) (blk_W m c t) (blk_Z m c t) (blk_O m c t) i k

theorem sum_at (t : Fin cfg0.N) (j : Fin 1024) :
    k0_pay6 (F := Ideal) (iblk m c 0 t) (iblk m c 1 t) (ix2 0 j) = ∑ i : Fin 256, (DX m c (256 * t.val + i.val) j.val * Y m c (256 * t.val + i.val) j.val : EReal) :=
  sum_of (blk_DX m c t) (blk_Y m c t) j

/-- What a sequence's first point leaves. -/
theorem outs_A (t : Fin cfg0.N) (h : t.val % 8 = 0) : outsAt0 m c t.val t.isLt
    = (k0_pay4 (F := Ideal) (iblk m c 0 t) (k0_pay9 (F := Ideal) (iblk m c 2 t)) (iblk m c 3 t) (iblk m c 5 t), k0_pay5 (F := Ideal) (iblk m c 0 t) (k0_pay9 (F := Ideal) (iblk m c 2 t)) (iblk m c 3 t) (iblk m c 5 t) (iblk m c 4 t),
      k0_pay1 (F := Ideal) (iblk m c 0 t) (k0_pay9 (F := Ideal) (iblk m c 2 t)), k0_pay7 (F := Ideal) (iblk m c 0 t) (iblk m c 1 t)) := by
  rw [outsAt0_A m c t h (not_not.mpr h), out_A_6, out_A_7, out_A_8, out_A_9]

/-- What a later point leaves. -/
theorem outs_B (t : Fin cfg0.N) (h : ¬t.val % 8 = 0) : outsAt0 m c t.val t.isLt
    = (k0_pay4 (F := Ideal) (iblk m c 0 t) (k0_pay9 (F := Ideal) (iblk m c 2 t)) (iblk m c 3 t) (iblk m c 5 t), k0_pay5 (F := Ideal) (iblk m c 0 t) (k0_pay9 (F := Ideal) (iblk m c 2 t)) (iblk m c 3 t) (iblk m c 5 t) (iblk m c 4 t),
      k0_pay1 (F := Ideal) (iblk m c 0 t) (k0_pay9 (F := Ideal) (iblk m c 2 t)), k0_pay8 (F := Ideal) (iblk m c 0 t) (iblk m c 1 t) (outsAt0 m c (t.val - 1) (Nat.lt_of_le_of_lt (Nat.sub_le _ _) t.isLt)).2.2.2) := by
  rw [outsAt0_B m c t h h, out_B_6, out_B_7, out_B_8, out_B_9]

/-- What a point leaves, entry by entry. -/
theorem outs_dO (t : Fin cfg0.N) (i : Fin 256) (k : Fin 2048) : (outsAt0 m c t.val t.isLt).1 (ix2 i k) = byOut (DX m c) (G m c) (W m c) (Z m c) (256 * t.val + i.val) k.val := by
  rw [← byOut_at]
  by_cases h : t.val % 8 = 0
  · rw [outs_A m c t h]
  · rw [outs_B m c t h]

theorem outs_dZ (t : Fin cfg0.N) (i : Fin 256) (k : Fin 2048) : (outsAt0 m c t.val t.isLt).2.1 (ix2 i k) = byGate (DX m c) (G m c) (W m c) (O m c) (Z m c) (256 * t.val + i.val) k.val := by
  rw [← byGate_at]
  by_cases h : t.val % 8 = 0
  · rw [outs_A m c t h]
  · rw [outs_B m c t h]

theorem outs_dY (t : Fin cfg0.N) (i : Fin 256) (j : Fin 1024) : (outsAt0 m c t.val t.isLt).2.2.1 (ix2 i j) = branch (DX m c) (G m c) (256 * t.val + i.val) j.val := by
  rw [← branch_at]
  by_cases h : t.val % 8 = 0
  · rw [outs_A m c t h]
  · rw [outs_B m c t h]

theorem first_sum (t : Fin cfg0.N) (h : t.val % 8 = 0) (j : Fin 1024) : (outsAt0 m c t.val t.isLt).2.2.2 (ix3 0 0 j) = k0_pay6 (F := Ideal) (iblk m c 0 t) (iblk m c 1 t) (ix2 0 j) := by
  rw [outs_A m c t h]
  dsimp only
  rw [pay7_at]
theorem later_sum (t : Fin cfg0.N) (h : ¬t.val % 8 = 0) (j : Fin 1024) : (outsAt0 m c t.val t.isLt).2.2.2 (ix3 0 0 j)
    = ((outsAt0 m c (t.val - 1) (Nat.lt_of_le_of_lt (Nat.sub_le _ _) t.isLt)).2.2.2 (ix3 0 0 j) + k0_pay6 (F := Ideal) (iblk m c 0 t) (iblk m c 1 t) (ix2 0 j) : EReal) := by
  rw [outs_B m c t h]
  dsimp only
  rw [pay8_at]

/-- The gate's column sums after a point. -/
theorem outs_sum (n : ℕ) (h : n < cfg0.N) (j : Fin 1024) : (outsAt0 m c n h).2.2.2 (ix3 0 0 j)
    = down (fun r => DX m c r j.val * Y m c r j.val) (n / 8) (256 * (n % 8) + 256) :=
  down_at 256 8 rfl (fun r => DX m c r j.val * Y m c r j.val) cfg0.N (fun n h => (outsAt0 m c n h).2.2.2 (ix3 0 0 j)) (fun n h => k0_pay6 (F := Ideal) (iblk m c 0 ⟨n, h⟩) (iblk m c 1 ⟨n, h⟩) (ix2 0 j))
    (fun n h => sum_at m c ⟨n, h⟩ j) (fun n h h0 => first_sum m c ⟨n, h⟩ h0 j) (fun n h h0 => later_sum m c ⟨n, h⟩ h0 j) n h

/-- The four results: the gradients by the attention's output, by the gate's argument, by the product, and each sequence's
    column sums for the gate. -/
def dO : FVec Ideal S8192x2048 .bf16 := fun y => byOut (DX m c) (G m c) (W m c) (Z m c) (y 0).val (y 1).val
def dZ : FVec Ideal S8192x2048 .bf16 := fun y => byGate (DX m c) (G m c) (W m c) (O m c) (Z m c) (y 0).val (y 1).val
def dY : FVec Ideal S8192x1024 .bf16 := fun y => branch (DX m c) (G m c) (y 0).val (y 1).val
def gsum : FVec Ideal S4x1x1024 .f32 := fun y => down (fun r => DX m c r (y 2).val * Y m c r (y 2).val) (y 0).val 2048

theorem eta {n k : ℕ} (y : (⟨2, ![n, k]⟩ : Shape).Idx) : y = ix2 (y 0) (y 1) := funext fun a => match a with | ⟨0, _⟩ => rfl | ⟨1, _⟩ => rfl
theorem eta3 {k : ℕ} (y : (⟨3, ![1, 1, k]⟩ : Shape).Idx) : y = ix3 0 0 (y 2) := funext fun a => match a with
  | ⟨0, _⟩ => Subsingleton.elim (α := Fin 1) _ _ | ⟨1, _⟩ => Subsingleton.elim (α := Fin 1) _ _ | ⟨2, _⟩ => rfl

/-- The arrays the grid leaves. -/
theorem arr_dO : (dats m 0 c).arrAt 6 cfg0.N = dO m c := by
  refine (dats m 0 c).arrAt_eq_of_covers 6 _ (by decide +kernel) fun t hf y => ?_
  obtain ⟨-, -, -, -, -, -, e, -⟩ := places t
  blk_simp
  rw [after0_6]
  refine (congrArg (outsAt0 m c t.val t.isLt).1 (eta (n := 256) (k := 2048) y)).trans ((outs_dO m c t (y 0) (y 1)).trans ?_)
  have e0 : (((win0_6.blk t).view.emb y) 0).val = 256 * t.val + (y 0).val := by blk_simp [e]; omega
  have e1 : (((win0_6.blk t).view.emb y) 1).val = (y 1).val := by blk_simp [e]
  show _ = dO m c ((win0_6.blk t).view.emb y)
  unfold dO
  rw [e0, e1]

theorem arr_dZ : (dats m 0 c).arrAt 7 cfg0.N = dZ m c := by
  refine (dats m 0 c).arrAt_eq_of_covers 7 _ (by decide +kernel) fun t hf y => ?_
  obtain ⟨-, -, -, -, -, -, -, e, -⟩ := places t
  blk_simp
  rw [after0_7]
  refine (congrArg (outsAt0 m c t.val t.isLt).2.1 (eta (n := 256) (k := 2048) y)).trans ((outs_dZ m c t (y 0) (y 1)).trans ?_)
  have e0 : (((win0_7.blk t).view.emb y) 0).val = 256 * t.val + (y 0).val := by blk_simp [e]; omega
  have e1 : (((win0_7.blk t).view.emb y) 1).val = (y 1).val := by blk_simp [e]
  show _ = dZ m c ((win0_7.blk t).view.emb y)
  unfold dZ
  rw [e0, e1]

theorem arr_dY : (dats m 0 c).arrAt 8 cfg0.N = dY m c := by
  refine (dats m 0 c).arrAt_eq_of_covers 8 _ (by decide +kernel) fun t hf y => ?_
  obtain ⟨-, -, -, -, -, -, -, -, e, -⟩ := places t
  blk_simp
  rw [after0_8]
  refine (congrArg (outsAt0 m c t.val t.isLt).2.2.1 (eta (n := 256) (k := 1024) y)).trans ((outs_dY m c t (y 0) (y 1)).trans ?_)
  have e0 : (((win0_8.blk t).view.emb y) 0).val = 256 * t.val + (y 0).val := by blk_simp [e]; omega
  have e1 : (((win0_8.blk t).view.emb y) 1).val = (y 1).val := by blk_simp [e]
  show _ = dY m c ((win0_8.blk t).view.emb y)
  unfold dY
  rw [e0, e1]

/-- The column sums are written out at a sequence's last point. -/
theorem last9 : ∀ t : Fin cfg0.N, (cfg0.win 9).flush t = true → t.val % 8 = 7 := by decide +kernel

/-- The gate's array of sums the grid leaves. -/
theorem arr_sum : (dats m 0 c).arrAt 9 cfg0.N = gsum m c := by
  refine (dats m 0 c).arrAt_eq_of_covers 9 _ (by decide +kernel) fun t hf y => ?_
  have h7 := last9 t hf
  obtain ⟨-, -, -, -, -, -, -, -, -, e⟩ := places t
  blk_simp
  rw [after0_9]
  refine (congrArg (outsAt0 m c t.val t.isLt).2.2.2 (eta3 (k := 1024) y)).trans ((outs_sum m c t.val t.isLt (y 2)).trans ?_)
  have e0 : (((win0_9.blk t).view.emb y) 0).val = t.val / 8 := by blk_simp [e]
  have e1 : (((win0_9.blk t).view.emb y) 2).val = (y 2).val := by blk_simp [e]
  show _ = gsum m c ((win0_9.blk t).view.emb y)
  unfold gsum
  rw [e0, e1, h7]

end Cert.KernelDoutIdeal.Value

end
-- ==== Proof.DoutRef.lean ====
/- The backward of the gated out-projection: what the reference computes. -/
module

public import proofs.«01_k».proof.Proof.GateGrad
public import proofs.«01_k».proof.Proof.Gen.ReferenceDoutIdeal.Run
public import Idealize.ShloMosaic.Lib.Pointwise

@[expose] public section

set_option maxRecDepth 16384
set_option maxHeartbeats 1000000

noncomputable section

namespace Cert.ReferenceDoutIdeal.Value

open Cert.ReferenceDoutIdeal Cert.ReferenceDoutIdeal.Gen Idealize.ShloMosaic Idealize.ShloMosaic.TcCoe
open Cert.Contract Cert.Layers Cert.GateGrad

/-- The product's cotangent. -/
abbrev dy (x : FVec Ideal S8192x1024 .f32) (g : FVec Ideal S4x1x1024 .f32) : FVec Ideal S8192x1024 .f32 :=
  shapeCast S8192x1024 (mulf (broadcastInDim S4x2048x1024 ![0, 1, 2] bcast_S4x1x1024_S4x2048x1024_0_1_2 g) (shapeCast S4x2048x1024 x shapeCasts_S8192x1024_S4x2048x1024)) shapeCasts_S4x2048x1024_S8192x1024

theorem dy_ix (x : FVec Ideal S8192x1024 .f32) (g : FVec Ideal S4x1x1024 .f32) (i : Fin 8192) (j : Fin 1024) :
    dy x g (ix2 i j) = (g (ix3 ⟨i.val / 2048, by omega⟩ 0 j) * x (ix2 i j) : EReal) := by
  unfold dy
  pointwise

theorem dy_at (x : FVec Ideal S8192x1024 .f32) (g : FVec Ideal S4x1x1024 .f32) (i : Fin 8192) (j : Fin 1024) :
    dy x g (ix2 i j) = branch (entries x) (rows g) i.val j.val := by
  refine (dy_ix x g i j).trans ((mul_comm _ _).trans ?_)
  exact congrArg₂ (fun a b : EReal => a * b) (entries_at x i j).symm (rows_at g ⟨_, _⟩ j).symm

/-- The gated rows' cotangent. -/
abbrev du (x : FVec Ideal S8192x1024 .f32) (g : FVec Ideal S4x1x1024 .f32) (w : FVec Ideal S2048x1024 .bf16) : FVec Ideal S8192x2048 .f32 :=
  Host.dotGeneral (φ₁ := .f32) (φ₂ := .f32) dot_S8192x1024_S2048x1024_S8192x2048_1_1_0_0_n_n none (dy x g) (extf .f32 w bitsLt_bf16_f32)

theorem dot_at (a : FVec Ideal S8192x1024 .f32) (w : FVec Ideal S2048x1024 .bf16) (i : Fin 8192) (k : Fin 2048) :
    (Host.dotGeneral (φ₁ := .f32) (φ₂ := .f32) dot_S8192x1024_S2048x1024_S8192x2048_1_1_0_0_n_n none a (extf .f32 w bitsLt_bf16_f32) : FVec Ideal S8192x2048 .f32) (ix2 i k) = ∑ j : Fin 1024, (a (ix2 i j) * w (ix2 k j) : EReal) := by
  pointwise

theorem du_at (x : FVec Ideal S8192x1024 .f32) (g : FVec Ideal S4x1x1024 .f32) (w : FVec Ideal S2048x1024 .bf16) (i : Fin 8192) (k : Fin 2048) :
    du x g w (ix2 i k) = through (entries x) (rows g) (entries w) i.val k.val := by
  refine (dot_at _ _ i k).trans (Finset.sum_congr rfl fun j _ => ?_)
  rw [dy_at, entries_at w k j]

/-- The gate's logistic function. -/
abbrev sg (z : FVec Ideal S8192x2048 .f32) : FVec Ideal S8192x2048 .f32 :=
  Host.divf (broadcastInDim S8192x2048 ![] bcast_S_S8192x2048 (constant S_ .f32 0x3F800000#32)) (addf (broadcastInDim S8192x2048 ![] bcast_S_S8192x2048 (constant S_ .f32 0x3F800000#32)) (Host.exp (Host.negf z)))

theorem sg_at (z : FVec Ideal S8192x2048 .f32) (i : Fin 8192) (k : Fin 2048) : sg z (ix2 i k) = sigma (entries z i.val k.val) := by
  unfold sg sigma
  rw [entries_at z i k]
  pointwise

/-- The four results, from the cotangents. -/
theorem ref_do (x : FVec Ideal S8192x1024 .f32) (g : FVec Ideal S4x1x1024 .f32) (w : FVec Ideal S2048x1024 .bf16) (z : FVec Ideal S8192x2048 .f32) :
    (truncf .bf16 (mulf (du x g w) (mulf z (sg z))) bitsLt_bf16_f32 : FVec Ideal S8192x2048 .bf16)
      = fun v => byOut (entries x) (rows g) (entries w) (entries z) (v 0).val (v 1).val := by
  funext v
  idx_vars v
  exact congrArg₂ (fun a b : EReal => a * b) (du_at x g w _ _) (congrArg₂ (fun a b : EReal => a * b) (entries_at z _ _).symm (sg_at z _ _))

theorem one_at (i : S8192x2048.Idx) : (broadcastInDim S8192x2048 ![] bcast_S_S8192x2048 (constant S_ .f32 0x3F800000#32) : FVec Ideal S8192x2048 .f32) i = (1 : EReal) := by
  idx_vars i
  pointwise

theorem ref_dz (x : FVec Ideal S8192x1024 .f32) (g : FVec Ideal S4x1x1024 .f32) (w : FVec Ideal S2048x1024 .bf16) (o z : FVec Ideal S8192x2048 .f32)
    (hx : ∀ i, IsReal (x i)) (hg : ∀ i, IsReal (g i)) (hw : ∀ i, IsReal (w i)) (ho : ∀ i, IsReal (o i)) :
    (truncf .bf16 (addf (mulf (mulf o (du x g w)) (sg z)) (mulf (mulf z (mulf o (du x g w))) (mulf (sg z) (subf (broadcastInDim S8192x2048 ![] bcast_S_S8192x2048 (constant S_ .f32 0x3F800000#32)) (sg z))))) bitsLt_bf16_f32 : FVec Ideal S8192x2048 .bf16)
      = fun v => byGate (entries x) (rows g) (entries w) (entries o) (entries z) (v 0).val (v 1).val := by
  funext v
  idx_vars v
  refine Eq.trans ?_ (byGate_eq (entries_real hx) (rows_real hg) (entries_real hw) (entries_real ho) (entries z) _ _)
  show ((o _ * du x g w _) * sg z _ + (z _ * (o _ * du x g w _)) * (sg z _ * ((broadcastInDim S8192x2048 ![] bcast_S_S8192x2048 (constant S_ .f32 0x3F800000#32) : FVec Ideal S8192x2048 .f32) _ - sg z _)) : EReal) = _
  rw [one_at, du_at, sg_at, ← entries_at o, ← entries_at z]

theorem ref_dy (x : FVec Ideal S8192x1024 .f32) (g : FVec Ideal S4x1x1024 .f32) :
    (truncf .bf16 (dy x g) bitsLt_bf16_f32 : FVec Ideal S8192x1024 .bf16) = fun v => branch (entries x) (rows g) (v 0).val (v 1).val := by
  funext v
  idx_vars v
  exact dy_at x g _ _

theorem split_ix (b : Fin 4) (i : Fin 2048) (h : b.val * 2048 + i.val < 8192) : (⟨b.val * 2048 + i.val, h⟩ : Fin 8192) = ⟨2048 * b.val + i.val, by omega⟩ :=
  Fin.ext (by show b.val * 2048 + i.val = 2048 * b.val + i.val; omega)

theorem sum_at (x y : FVec Ideal S8192x1024 .f32) (b : Fin 4) (j : Fin 1024) :
    (shapeCast S4x1x1024 (Host.reduceAdd (mulf (shapeCast S4x2048x1024 x shapeCasts_S8192x1024_S4x2048x1024) (shapeCast S4x2048x1024 y shapeCasts_S8192x1024_S4x2048x1024)) (constant S_ .f32 0x00000000#32) reducesTo_S4x2048x1024_S4x1024_d1 h_S_) shapeCasts_S4x1024_S4x1x1024 : FVec Ideal S4x1x1024 .f32) (ix3 b 0 j)
      = ∑ i : Fin 2048, (x (ix2 ⟨2048 * b.val + i.val, by omega⟩ j) * y (ix2 ⟨2048 * b.val + i.val, by omega⟩ j) : EReal) := by
  pointwise
  simp only [split_ix]

theorem ref_sum (x y : FVec Ideal S8192x1024 .f32) :
    (shapeCast S4x1x1024 (Host.reduceAdd (mulf (shapeCast S4x2048x1024 x shapeCasts_S8192x1024_S4x2048x1024) (shapeCast S4x2048x1024 y shapeCasts_S8192x1024_S4x2048x1024)) (constant S_ .f32 0x00000000#32) reducesTo_S4x2048x1024_S4x1024_d1 h_S_) shapeCasts_S4x1024_S4x1x1024 : FVec Ideal S4x1x1024 .f32)
      = fun v => down (fun r => entries x r (v 2).val * entries y r (v 2).val) (v 0).val 2048 := by
  funext v
  idx_vars v
  refine (congrArg _ (congrArg₂ (fun a b => ix3 a b _) rfl (Subsingleton.elim (α := Fin 1) _ 0))).trans ((sum_at _ _ _ _).trans ?_)
  unfold down
  rw [Finset.sum_range]
  exact Finset.sum_congr rfl fun i _ => congrArg₂ (fun a b : EReal => a * b) (entries_at x _ _).symm (entries_at y _ _).symm

end Cert.ReferenceDoutIdeal.Value

end
-- ==== Proof.FoxOutVal.lean ====
/- The gated out-projection where the gate's columns are the first of a wider array: what the grid leaves. -/
module

public import proofs.«01_k».proof.Proof.OutVal
public import proofs.«01_k».proof.Proof.GateGrad
public import proofs.«01_k».proof.Proof.Gen.KernelFoxOutIdeal.Value
public import Idealize.ShloMosaic.Lib.Pipeline.ValueKit

@[expose] public section

set_option maxRecDepth 16384
set_option maxHeartbeats 1000000

noncomputable section

namespace Cert.KernelFoxOutIdeal.Value

open Cert.KernelFoxOutIdeal Cert.KernelFoxOutIdeal.Gen Idealize.ShloMosaic Idealize.ShloMosaic.TcCoe Idealize.ShloMosaic.Tactic Idealize.SL.Sem
open Cert.Contract Cert.Layers Cert.GateGrad
open Cert.KernelOutIdeal.Value (hz hz3 eta)

/-- Where the windows' blocks lie, from a point's number. -/
theorem places : ∀ t : Fin cfg0.N, win0_0.index t = ![t.val, 0] ∧ win0_1.index t = ![t.val, 0] ∧ win0_2.index t = ![0, 0] ∧
    win0_3.index t = ![t.val, 0] ∧ win0_4.index t = ![t.val / 8, 0, 0] ∧ win0_5.index t = ![t.val, 0] ∧ win0_6.index t = ![t.val, 0] ∧ win0_7.index t = ![t.val, 0] := by decide +kernel

variable (m : (ℓ : Loc nD τ sig) → Buf (Elt Ideal) ℓ) (c : Dev nD)

/-- The arguments' entries. -/
abbrev O : ℕ → ℕ → EReal := entries (n := 8192) (k := 2048) (φ := .f32) (m ((c : Thread nD τ).loc main_arg0))
abbrev Z : ℕ → ℕ → EReal := entries (n := 8192) (k := 2048) (φ := .f32) (front (m ((c : Thread nD τ).loc main_arg1)))
abbrev W : ℕ → ℕ → EReal := entries (n := 2048) (k := 1024) (φ := .bf16) (m ((c : Thread nD τ).loc main_arg2))
abbrev X : ℕ → ℕ → EReal := entries (n := 8192) (k := 1024) (φ := .f32) (m ((c : Thread nD τ).loc main_arg3))
abbrev G : ℕ → ℕ → EReal := rows (n := 4) (k := 1024) (φ := .f32) (m ((c : Thread nD τ).loc main_arg4))

theorem blk_o (t : Fin cfg0.N) (i : Fin 256) (j : Fin 2048) : iblk m c 0 t (ix2 i j) = O m c (256 * t.val + i.val) j.val := by
  obtain ⟨e, -⟩ := places t
  blk_simp [iblk, e]
  refine (entries_ix (n := 8192) (k := 2048) (φ := .f32) (m ((c : Thread nD τ).loc main_arg0)) ((win0_0.blk t).view.emb (ix2 i j))).trans ?_
  refine congrArg₂ (O m c) ?_ ?_
  · blk_simp [e]; show _ + i.val = _; omega
  · blk_simp [e]

/-- The window of the wider array holds the block's rows of its first columns. -/
theorem blk_z (t : Fin cfg0.N) (i : Fin 256) (j : Fin 2048) : X0_1 m c t (ix2 i j) = Z m c (256 * t.val + i.val) j.val := by
  refine Eq.trans ?_ (front_at (m ((c : Thread nD τ).loc main_arg1)) _ _ j.isLt).symm
  obtain ⟨-, e, -⟩ := places t
  unfold X0_1 Pipeline.Window.fill
  rw [dif_pos (moved0_1 t (ix2 i j))]
  have at_y : ∀ y : ((cfg0.win 1).xblock (cfg0.grid.coords t)).Idx, (y 0).val = i.val → (y 1).val = j.val →
      iblk m c 1 t y = entries (n := 8192) (k := 2176) (φ := .f32) (m ((c : Thread nD τ).loc main_arg1)) (256 * t.val + i.val) j.val := by
    intro y h0 h1
    blk_simp [iblk, e]
    refine (entries_ix (n := 8192) (k := 2176) (φ := .f32) (m ((c : Thread nD τ).loc main_arg1)) ((win0_1.blk t).view.emb y)).trans ?_
    refine congrArg₂ (entries (n := 8192) (k := 2176) (φ := .f32) (m ((c : Thread nD τ).loc main_arg1))) ?_ ?_
    · refine (Pipeline.Window.rect_emb_val win0_1 t y 0).trans ?_
      rw [e, h0]; show t.val * 256 + i.val = _; omega
    · refine (Pipeline.Window.rect_emb_val win0_1 t y 1).trans ?_
      rw [e, h1]; show 0 * 2048 + j.val = _; omega
  exact at_y _ rfl rfl

theorem blk_w (t : Fin cfg0.N) (i : Fin 2048) (j : Fin 1024) : iblk m c 2 t (ix2 i j) = W m c i.val j.val := by
  obtain ⟨-, -, e, -⟩ := places t
  blk_simp [iblk, e]
  refine (entries_ix (n := 2048) (k := 1024) (φ := .bf16) (m ((c : Thread nD τ).loc main_arg2)) ((win0_2.blk t).view.emb (ix2 i j))).trans ?_
  refine congrArg₂ (W m c) ?_ ?_
  · blk_simp [e]
  · blk_simp [e]

theorem blk_x (t : Fin cfg0.N) (i : Fin 256) (j : Fin 1024) : iblk m c 3 t (ix2 i j) = X m c (256 * t.val + i.val) j.val := by
  obtain ⟨-, -, -, e, -⟩ := places t
  blk_simp [iblk, e]
  refine (entries_ix (n := 8192) (k := 1024) (φ := .f32) (m ((c : Thread nD τ).loc main_arg3)) ((win0_3.blk t).view.emb (ix2 i j))).trans ?_
  refine congrArg₂ (X m c) ?_ ?_
  · blk_simp [e]; show _ + i.val = _; omega
  · blk_simp [e]

theorem blk_g (t : Fin cfg0.N) (j : Fin 1024) : iblk m c 4 t (ix3 0 0 j) = G m c (t.val / 8) j.val := by
  obtain ⟨-, -, -, -, e, -⟩ := places t
  blk_simp [iblk, e]
  refine (rows_ix (n := 4) (k := 1024) (φ := .f32) (m ((c : Thread nD τ).loc main_arg4)) ((win0_4.blk t).view.emb (ix3 0 0 j))).trans ?_
  refine congrArg₂ (G m c) ?_ ?_
  · blk_simp [e]; exact Nat.add_zero _
  · blk_simp [e]

/-- The gated rows, their product with the weights, and the stream after the branch. -/
def u : FVec Ideal S8192x2048 .bf16 := fun y => gated (O m c) (Z m c) (y 0).val (y 1).val
/-- The gated rows times the weights. -/
def y : FVec Ideal S8192x1024 .f32 := fun y => prod 2048 (gated (O m c) (Z m c)) (W m c) (y 0).val (y 1).val
/-- The residual stream after the branch. -/
def xn : FVec Ideal S8192x1024 .f32 := fun y => joined (X m c) (prod 2048 (gated (O m c) (Z m c)) (W m c)) (G m c) (y 0).val (y 1).val

theorem u_at (t : Fin cfg0.N) (i : Fin 256) (j : Fin 2048) :
    k0_pay1 (X0_1 m c t) (iblk m c 0 t) (ix2 i j) = gated (O m c) (Z m c) (256 * t.val + i.val) j.val :=
  Cert.KernelOutIdeal.Value.u_of (blk_o m c t) (blk_z m c t) i j

theorem y_at (t : Fin cfg0.N) (i : Fin 256) (j : Fin 1024) :
    k0_pay2 (X0_1 m c t) (iblk m c 0 t) (iblk m c 2 t) (ix2 i j) = prod 2048 (gated (O m c) (Z m c)) (W m c) (256 * t.val + i.val) j.val :=
  Cert.KernelOutIdeal.Value.y_of (blk_o m c t) (blk_z m c t) (blk_w m c t) i j

theorem xn_at (t : Fin cfg0.N) (i : Fin 256) (j : Fin 1024) :
    k0_pay3 (X0_1 m c t) (iblk m c 0 t) (iblk m c 2 t) (iblk m c 3 t) (iblk m c 4 t) (ix2 i j)
      = joined (X m c) (prod 2048 (gated (O m c) (Z m c)) (W m c)) (G m c) (256 * t.val + i.val) j.val :=
  Cert.KernelOutIdeal.Value.xn_of (blk_o m c t) (blk_z m c t) (blk_w m c t) (blk_x m c t) (blk_g m c t) i j

theorem out_7 (c : Dev nD) (i : grid0.Coords) (a1 : Memref sig .tc .vmem S256x2048 .f32) (h1 : a1.IsWhole) (a2 : Memref sig .tc .vmem S256x2048 .f32) (h2 : a2.IsWhole) (a3 : Memref sig .tc .vmem S2048x1024 .bf16) (h3 : a3.IsWhole) (a4 : Memref sig .tc .vmem S256x1024 .f32) (h4 : a4.IsWhole) (a5 : Memref sig .tc .vmem S1x1x1024 .f32) (h5 : a5.IsWhole) (a6 : Memref sig .tc .vmem S256x1024 .f32) (h6 : a6.IsWhole) (a7 : Memref sig .tc .vmem S256x1024 .f32) (h7 : a7.IsWhole) (a8 : Memref sig .tc .vmem S256x2048 .bf16) (h8 : a8.IsWhole)
    (x0 : Vec Ideal S256x2048 .f32) (x1 : Vec Ideal S256x2048 .f32) (x2 : Vec Ideal S2048x1024 .bf16) (x3 : Vec Ideal S256x1024 .f32) (x4 : Vec Ideal S1x1x1024 .f32) :
    out0_A_7 (F := Ideal) c i a1 h1 a2 h2 a3 h3 a4 h4 a5 h5 a6 h6 a7 h7 a8 h8 x0 x1 x2 x3 x4 = k0_pay1 x1 x0 := by
  unfold out0_A_7
  rw [View.read_writes_eq_canon _ _ _ (cover0_A_7 c i a1 h1 a2 h2 a3 h3 a4 h4 a5 h5 a6 h6 a7 h7 a8 h8 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S256x2048) hz, View.ld_unit_zero (S := S2048x1024) hz,
    View.ld_unit_zero (S := S256x1024) hz, View.ld_unit_zero (S := S1x1x1024) hz3]

theorem out_6 (c : Dev nD) (i : grid0.Coords) (a1 : Memref sig .tc .vmem S256x2048 .f32) (h1 : a1.IsWhole) (a2 : Memref sig .tc .vmem S256x2048 .f32) (h2 : a2.IsWhole) (a3 : Memref sig .tc .vmem S2048x1024 .bf16) (h3 : a3.IsWhole) (a4 : Memref sig .tc .vmem S256x1024 .f32) (h4 : a4.IsWhole) (a5 : Memref sig .tc .vmem S1x1x1024 .f32) (h5 : a5.IsWhole) (a6 : Memref sig .tc .vmem S256x1024 .f32) (h6 : a6.IsWhole) (a7 : Memref sig .tc .vmem S256x1024 .f32) (h7 : a7.IsWhole) (a8 : Memref sig .tc .vmem S256x2048 .bf16) (h8 : a8.IsWhole)
    (x0 : Vec Ideal S256x2048 .f32) (x1 : Vec Ideal S256x2048 .f32) (x2 : Vec Ideal S2048x1024 .bf16) (x3 : Vec Ideal S256x1024 .f32) (x4 : Vec Ideal S1x1x1024 .f32) :
    out0_A_6 (F := Ideal) c i a1 h1 a2 h2 a3 h3 a4 h4 a5 h5 a6 h6 a7 h7 a8 h8 x0 x1 x2 x3 x4 = k0_pay2 x1 x0 x2 := by
  unfold out0_A_6
  rw [View.read_writes_eq_canon _ _ _ (cover0_A_6 c i a1 h1 a2 h2 a3 h3 a4 h4 a5 h5 a6 h6 a7 h7 a8 h8 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S256x2048) hz, View.ld_unit_zero (S := S2048x1024) hz,
    View.ld_unit_zero (S := S256x1024) hz, View.ld_unit_zero (S := S1x1x1024) hz3]

theorem out_5 (c : Dev nD) (i : grid0.Coords) (a1 : Memref sig .tc .vmem S256x2048 .f32) (h1 : a1.IsWhole) (a2 : Memref sig .tc .vmem S256x2048 .f32) (h2 : a2.IsWhole) (a3 : Memref sig .tc .vmem S2048x1024 .bf16) (h3 : a3.IsWhole) (a4 : Memref sig .tc .vmem S256x1024 .f32) (h4 : a4.IsWhole) (a5 : Memref sig .tc .vmem S1x1x1024 .f32) (h5 : a5.IsWhole) (a6 : Memref sig .tc .vmem S256x1024 .f32) (h6 : a6.IsWhole) (a7 : Memref sig .tc .vmem S256x1024 .f32) (h7 : a7.IsWhole) (a8 : Memref sig .tc .vmem S256x2048 .bf16) (h8 : a8.IsWhole)
    (x0 : Vec Ideal S256x2048 .f32) (x1 : Vec Ideal S256x2048 .f32) (x2 : Vec Ideal S2048x1024 .bf16) (x3 : Vec Ideal S256x1024 .f32) (x4 : Vec Ideal S1x1x1024 .f32) :
    out0_A_5 (F := Ideal) c i a1 h1 a2 h2 a3 h3 a4 h4 a5 h5 a6 h6 a7 h7 a8 h8 x0 x1 x2 x3 x4 = k0_pay3 x1 x0 x2 x3 x4 := by
  unfold out0_A_5
  rw [View.read_writes_eq_canon _ _ _ (cover0_A_5 c i a1 h1 a2 h2 a3 h3 a4 h4 a5 h5 a6 h6 a7 h7 a8 h8 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S256x2048) hz, View.ld_unit_zero (S := S2048x1024) hz,
    View.ld_unit_zero (S := S256x1024) hz, View.ld_unit_zero (S := S1x1x1024) hz3]

/-- What a point leaves. -/
theorem outs (t : Fin cfg0.N) : outsAt0 m c t
    = (k0_pay3 (F := Ideal) (X0_1 m c t) (iblk m c 0 t) (iblk m c 2 t) (iblk m c 3 t) (iblk m c 4 t), k0_pay2 (F := Ideal) (X0_1 m c t) (iblk m c 0 t) (iblk m c 2 t),
      k0_pay1 (F := Ideal) (X0_1 m c t) (iblk m c 0 t)) := by
  unfold outsAt0
  rw [out_5, out_6, out_7]

/-- The arrays the grid leaves. -/
theorem arr_u : (dats m 0 c).arrAt 7 cfg0.N = u m c := by
  refine (dats m 0 c).arrAt_eq_of_covers 7 _ (by decide +kernel) fun t hf y => ?_
  obtain ⟨-, -, -, -, -, -, -, e⟩ := places t
  blk_simp
  rw [after0_7, outs]
  refine (congrArg (k0_pay1 (X0_1 m c t) (iblk m c 0 t)) (eta (n := 256) (k := 2048) y)).trans ((u_at m c t (y 0) (y 1)).trans ?_)
  have e0 : (((win0_7.blk t).view.emb y) 0).val = 256 * t.val + (y 0).val := by blk_simp [e]; omega
  have e1 : (((win0_7.blk t).view.emb y) 1).val = (y 1).val := by blk_simp [e]
  show _ = u m c ((win0_7.blk t).view.emb y)
  unfold u
  rw [e0, e1]

theorem arr_y : (dats m 0 c).arrAt 6 cfg0.N = Value.y m c := by
  refine (dats m 0 c).arrAt_eq_of_covers 6 _ (by decide +kernel) fun t hf y => ?_
  obtain ⟨-, -, -, -, -, -, e, -⟩ := places t
  blk_simp
  rw [after0_6, outs]
  refine (congrArg (k0_pay2 (X0_1 m c t) (iblk m c 0 t) (iblk m c 2 t)) (eta (n := 256) (k := 1024) y)).trans ((y_at m c t (y 0) (y 1)).trans ?_)
  have e0 : (((win0_6.blk t).view.emb y) 0).val = 256 * t.val + (y 0).val := by blk_simp [e]; omega
  have e1 : (((win0_6.blk t).view.emb y) 1).val = (y 1).val := by blk_simp [e]
  show _ = Value.y m c ((win0_6.blk t).view.emb y)
  unfold Value.y
  rw [e0, e1]

theorem arr_xn : (dats m 0 c).arrAt 5 cfg0.N = xn m c := by
  refine (dats m 0 c).arrAt_eq_of_covers 5 _ (by decide +kernel) fun t hf y => ?_
  obtain ⟨-, -, -, -, -, e, -⟩ := places t
  blk_simp
  rw [after0_5, outs]
  refine (congrArg (k0_pay3 (X0_1 m c t) (iblk m c 0 t) (iblk m c 2 t) (iblk m c 3 t) (iblk m c 4 t)) (eta (n := 256) (k := 1024) y)).trans ((xn_at m c t (y 0) (y 1)).trans ?_)
  have e0 : (((win0_5.blk t).view.emb y) 0).val = 256 * t.val + (y 0).val := by blk_simp [e]; omega
  have e1 : (((win0_5.blk t).view.emb y) 1).val = (y 1).val := by blk_simp [e]
  show _ = xn m c ((win0_5.blk t).view.emb y)
  unfold xn
  rw [e0, e1]

end Cert.KernelFoxOutIdeal.Value

end
-- ==== Proof.FoxDoutVal.lean ====
/- The backward of the gated out-projection where the gate's columns are the first of a wider array: what the grid leaves. -/
module

public import proofs.«01_k».proof.Proof.DoutVal
public import proofs.«01_k».proof.Proof.Gen.KernelFoxDoutIdeal.Value
public import Idealize.ShloMosaic.Lib.Pipeline.ValueKit

@[expose] public section

set_option maxRecDepth 16384
set_option maxHeartbeats 1000000

noncomputable section

namespace Cert.KernelFoxDoutIdeal.Value

open Cert.KernelFoxDoutIdeal Cert.KernelFoxDoutIdeal.Gen Idealize.ShloMosaic Idealize.ShloMosaic.TcCoe Idealize.ShloMosaic.Tactic Idealize.SL.Sem
open Cert.Contract Cert.Layers Cert.GateGrad
open Cert.KernelDoutIdeal.Value (hz hz3 eta eta3)

/-- Where the windows' blocks lie, from a point's number, 8 points to a sequence. -/
theorem places : ∀ t : Fin cfg0.N, win0_0.index t = ![t.val, 0] ∧ win0_1.index t = ![t.val, 0] ∧ win0_2.index t = ![t.val / 8, 0, 0] ∧ win0_3.index t = ![0, 0] ∧
    win0_4.index t = ![t.val, 0] ∧ win0_5.index t = ![t.val, 0] ∧ win0_6.index t = ![t.val, 0] ∧ win0_7.index t = ![t.val, 0] ∧ win0_8.index t = ![t.val, 0] ∧ win0_9.index t = ![t.val / 8, 0, 0] := by decide +kernel

section out
variable (c : Dev nD) (i : grid0.Coords) (a1 : Memref sig .tc .vmem S256x1024 .f32) (h1 : a1.IsWhole) (a2 : Memref sig .tc .vmem S256x1024 .f32) (h2 : a2.IsWhole) (a3 : Memref sig .tc .vmem S1x1x1024 .f32) (h3 : a3.IsWhole) (a4 : Memref sig .tc .vmem S2048x1024 .bf16) (h4 : a4.IsWhole) (a5 : Memref sig .tc .vmem S256x2048 .f32) (h5 : a5.IsWhole) (a6 : Memref sig .tc .vmem S256x2048 .f32) (h6 : a6.IsWhole) (a7 : Memref sig .tc .vmem S256x2048 .bf16) (h7 : a7.IsWhole) (a8 : Memref sig .tc .vmem S256x2048 .bf16) (h8 : a8.IsWhole) (a9 : Memref sig .tc .vmem S256x1024 .bf16) (h9 : a9.IsWhole) (a10 : Memref sig .tc .vmem S1x1x1024 .f32) (h10 : a10.IsWhole)

/-- A sequence's first block: the gradient by the attention's output. -/
theorem out_A_6 (hc0) (hc1) (x0 x1 : Vec Ideal S256x1024 .f32) (x2 : Vec Ideal S1x1x1024 .f32) (x3 : Vec Ideal S2048x1024 .bf16) (x4 x5 : Vec Ideal S256x2048 .f32) :
    out0_A_6 c i a1 h1 a2 h2 a3 h3 a4 h4 a5 h5 a6 h6 a7 h7 a8 h8 a9 h9 a10 h10 hc0 hc1 x0 x1 x2 x3 x4 x5 = k0_pay4 x0 (k0_pay9 x2) x3 x5 := by
  unfold out0_A_6
  rw [View.read_writes_eq_canon _ _ _ (cover0_A_6 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h10.read_unread, View.ld_unit_zero (S := S256x2048) hz, View.ld_unit_zero (S := S256x1024) hz, View.ld_unit_zero (S := S2048x1024) hz, View.ld_unit_zero (S := S1x1x1024) hz3, shapeCast_self]

/-- A sequence's first block: the gradient by the gate's argument. -/
theorem out_A_7 (hc0) (hc1) (x0 x1 : Vec Ideal S256x1024 .f32) (x2 : Vec Ideal S1x1x1024 .f32) (x3 : Vec Ideal S2048x1024 .bf16) (x4 x5 : Vec Ideal S256x2048 .f32) :
    out0_A_7 c i a1 h1 a2 h2 a3 h3 a4 h4 a5 h5 a6 h6 a7 h7 a8 h8 a9 h9 a10 h10 hc0 hc1 x0 x1 x2 x3 x4 x5 = k0_pay5 x0 (k0_pay9 x2) x3 x5 x4 := by
  unfold out0_A_7
  rw [View.read_writes_eq_canon _ _ _ (cover0_A_7 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h10.read_unread, View.ld_unit_zero (S := S256x2048) hz, View.ld_unit_zero (S := S256x1024) hz, View.ld_unit_zero (S := S2048x1024) hz, View.ld_unit_zero (S := S1x1x1024) hz3, shapeCast_self]

/-- A sequence's first block: the product's cotangent. -/
theorem out_A_8 (hc0) (hc1) (x0 x1 : Vec Ideal S256x1024 .f32) (x2 : Vec Ideal S1x1x1024 .f32) (x3 : Vec Ideal S2048x1024 .bf16) (x4 x5 : Vec Ideal S256x2048 .f32) :
    out0_A_8 c i a1 h1 a2 h2 a3 h3 a4 h4 a5 h5 a6 h6 a7 h7 a8 h8 a9 h9 a10 h10 hc0 hc1 x0 x1 x2 x3 x4 x5 = k0_pay1 (F := Ideal) x0 (k0_pay9 x2) := by
  unfold out0_A_8
  rw [View.read_writes_eq_canon _ _ _ (cover0_A_8 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h10.read_unread, View.ld_unit_zero (S := S256x2048) hz, View.ld_unit_zero (S := S256x1024) hz, View.ld_unit_zero (S := S2048x1024) hz, View.ld_unit_zero (S := S1x1x1024) hz3, shapeCast_self]

/-- A sequence's first block: the gate's column sums. -/
theorem out_A_9 (hc0) (hc1) (x0 x1 : Vec Ideal S256x1024 .f32) (x2 : Vec Ideal S1x1x1024 .f32) (x3 : Vec Ideal S2048x1024 .bf16) (x4 x5 : Vec Ideal S256x2048 .f32) :
    out0_A_9 c i a1 h1 a2 h2 a3 h3 a4 h4 a5 h5 a6 h6 a7 h7 a8 h8 a9 h9 a10 h10 hc0 hc1 x0 x1 x2 x3 x4 x5 = k0_pay7 (F := Ideal) x0 x1 := by
  unfold out0_A_9
  rw [View.read_writes_eq_canon _ _ _ (cover0_A_9 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz3]
  simp only [View.readAt_eq_ld, h1.read_unread, h2.read_unread, h3.read_unread, h4.read_unread, h5.read_unread, h6.read_unread, h10.read_unread, View.ld_unit_zero (S := S256x2048) hz, View.ld_unit_zero (S := S256x1024) hz, View.ld_unit_zero (S := S2048x1024) hz, View.ld_unit_zero (S := S1x1x1024) hz3, shapeCast_self]

/-- A later block: the gradient by the attention's output. -/
theorem out_B_6 (hc0) (hc1) (x0 x1 : Vec Ideal S256x1024 .f32) (x2 : Vec Ideal S1x1x1024 .f32) (x3 : Vec Ideal S2048x1024 .bf16) (x4 x5 : Vec Ideal S256x2048 .f32) (xo : Vec Ideal S1x1x1024 .f32) :
    out0_B_6 c i a1 h1 a2 h2 a3 h3 a4 h4 a5 h5 a6 h6 a7 h7 a8 h8 a9 h9 a10 h10 hc0 hc1 x0 x1 x2 x3 x4 x5 xo = k0_pay4 x0 (k0_pay9 x2) x3 x5 := by
  unfold out0_B_6
  rw [View.read_writes_eq_canon _ _ _ (cover0_B_6 c i a1 h1 a2 h2 a3 h3 a4 h4 a5 h5 a6 h6 a7 h7 a8 h8 a9 h9 a10 h10 hc0 hc1 x0 x1 x2 x3 x4 x5 xo)]
  unfold kernelRun0_B
  dsimp only
  sl_unfold_words
  rw [View.canon_unit_zero hz]
  simp only [View.readAt_eq_ld, h1.read_unread, h2.read_unread, h3.read_unread, h4.read_unread, h5.read_unread, h6.read_unread, h10.read_unread, View.ld_unit_zero (S := S256x2048) hz, View.ld_unit_zero (S := S256x1024) hz, View.ld_unit_zero (S := S2048x1024) hz, View.ld_unit_zero (S := S1x1x1024) hz3, shapeCast_self]

/-- A later block: the gradient by the gate's argument. -/
theorem out_B_7 (hc0) (hc1) (x0 x1 : Vec Ideal S256x1024 .f32) (x2 : Vec Ideal S1x1x1024 .f32) (x3 : Vec Ideal S2048x1024 .bf16) (x4 x5 : Vec Ideal S256x2048 .f32) (xo : Vec Ideal S1x1x1024 .f32) :
    out0_B_7 c i a1 h1 a2 h2 a3 h3 a4 h4 a5 h5 a6 h6 a7 h7 a8 h8 a9 h9 a10 h10 hc0 hc1 x0 x1 x2 x3 x4 x5 xo = k0_pay5 x0 (k0_pay9 x2) x3 x5 x4 := by
  unfold out0_B_7
  rw [View.read_writes_eq_canon _ _ _ (cover0_B_7 c i a1 h1 a2 h2 a3 h3 a4 h4 a5 h5 a6 h6 a7 h7 a8 h8 a9 h9 a10 h10 hc0 hc1 x0 x1 x2 x3 x4 x5 xo)]
  unfold kernelRun0_B
  dsimp only
  sl_unfold_words
  rw [View.canon_unit_zero hz]
  simp only [View.readAt_eq_ld, h1.read_unread, h2.read_unread, h3.read_unread, h4.read_unread, h5.read_unread, h6.read_unread, h10.read_unread, View.ld_unit_zero (S := S256x2048) hz, View.ld_unit_zero (S := S256x1024) hz, View.ld_unit_zero (S := S2048x1024) hz, View.ld_unit_zero (S := S1x1x1024) hz3, shapeCast_self]

/-- A later block: the product's cotangent. -/
theorem out_B_8 (hc0) (hc1) (x0 x1 : Vec Ideal S256x1024 .f32) (x2 : Vec Ideal S1x1x1024 .f32) (x3 : Vec Ideal S2048x1024 .bf16) (x4 x5 : Vec Ideal S256x2048 .f32) (xo : Vec Ideal S1x1x1024 .f32) :
    out0_B_8 c i a1 h1 a2 h2 a3 h3 a4 h4 a5 h5 a6 h6 a7 h7 a8 h8 a9 h9 a10 h10 hc0 hc1 x0 x1 x2 x3 x4 x5 xo = k0_pay1 (F := Ideal) x0 (k0_pay9 x2) := by
  unfold out0_B_8
  rw [View.read_writes_eq_canon _ _ _ (cover0_B_8 c i a1 h1 a2 h2 a3 h3 a4 h4 a5 h5 a6 h6 a7 h7 a8 h8 a9 h9 a10 h10 hc0 hc1 x0 x1 x2 x3 x4 x5 xo)]
  unfold kernelRun0_B
  dsimp only
  sl_unfold_words
  rw [View.canon_unit_zero hz]
  simp only [View.readAt_eq_ld, h1.read_unread, h2.read_unread, h3.read_unread, h4.read_unread, h5.read_unread, h6.read_unread, h10.read_unread, View.ld_unit_zero (S := S256x2048) hz, View.ld_unit_zero (S := S256x1024) hz, View.ld_unit_zero (S := S2048x1024) hz, View.ld_unit_zero (S := S1x1x1024) hz3, shapeCast_self]

/-- A later block: the gate's column sums are added. -/
theorem out_B_9 (hc0) (hc1) (x0 x1 : Vec Ideal S256x1024 .f32) (x2 : Vec Ideal S1x1x1024 .f32) (x3 : Vec Ideal S2048x1024 .bf16) (x4 x5 : Vec Ideal S256x2048 .f32) (xo : Vec Ideal S1x1x1024 .f32) :
    out0_B_9 c i a1 h1 a2 h2 a3 h3 a4 h4 a5 h5 a6 h6 a7 h7 a8 h8 a9 h9 a10 h10 hc0 hc1 x0 x1 x2 x3 x4 x5 xo = k0_pay8 x0 x1 xo := by
  unfold out0_B_9
  rw [View.read_writes_eq_canon _ _ _ (cover0_B_9 c i a1 h1 a2 h2 a3 h3 a4 h4 a5 h5 a6 h6 a7 h7 a8 h8 a9 h9 a10 h10 hc0 hc1 x0 x1 x2 x3 x4 x5 xo)]
  unfold kernelRun0_B
  dsimp only
  sl_unfold_words
  rw [View.canon_unit_zero hz3]
  simp only [View.readAt_eq_ld, h1.read_unread, h2.read_unread, h3.read_unread, h4.read_unread, h5.read_unread, h6.read_unread, h10.read_unread, View.ld_unit_zero (S := S256x2048) hz, View.ld_unit_zero (S := S256x1024) hz, View.ld_unit_zero (S := S2048x1024) hz, View.ld_unit_zero (S := S1x1x1024) hz3, shapeCast_self]

end out

variable (m : (ℓ : Loc nD τ sig) → Buf (Elt Ideal) ℓ) (c : Dev nD)

/-- The arguments' entries. -/
abbrev DX : ℕ → ℕ → EReal := entries (n := 8192) (k := 1024) (φ := .f32) (m ((c : Thread nD τ).loc main_arg0))
abbrev Y : ℕ → ℕ → EReal := entries (n := 8192) (k := 1024) (φ := .f32) (m ((c : Thread nD τ).loc main_arg1))
abbrev G : ℕ → ℕ → EReal := rows (n := 4) (k := 1024) (φ := .f32) (m ((c : Thread nD τ).loc main_arg2))
abbrev W : ℕ → ℕ → EReal := entries (n := 2048) (k := 1024) (φ := .bf16) (m ((c : Thread nD τ).loc main_arg3))
abbrev O : ℕ → ℕ → EReal := entries (n := 8192) (k := 2048) (φ := .f32) (m ((c : Thread nD τ).loc main_arg4))
abbrev Z : ℕ → ℕ → EReal := entries (n := 8192) (k := 2048) (φ := .f32) (front (m ((c : Thread nD τ).loc main_arg5)))

theorem blk_DX (t : Fin cfg0.N) (i : Fin 256) (j : Fin 1024) : iblk m c 0 t (ix2 i j) = DX m c (256 * t.val + i.val) j.val := by
  obtain ⟨e, -⟩ := places t
  blk_simp [iblk, e]
  refine (entries_ix (n := 8192) (k := 1024) (φ := .f32) (m ((c : Thread nD τ).loc main_arg0)) ((win0_0.blk t).view.emb (ix2 i j))).trans ?_
  refine congrArg₂ (DX m c) ?_ ?_
  · blk_simp [e]; show _ + i.val = _; omega
  · blk_simp [e]

theorem blk_Y (t : Fin cfg0.N) (i : Fin 256) (j : Fin 1024) : iblk m c 1 t (ix2 i j) = Y m c (256 * t.val + i.val) j.val := by
  obtain ⟨-, e, -⟩ := places t
  blk_simp [iblk, e]
  refine (entries_ix (n := 8192) (k := 1024) (φ := .f32) (m ((c : Thread nD τ).loc main_arg1)) ((win0_1.blk t).view.emb (ix2 i j))).trans ?_
  refine congrArg₂ (Y m c) ?_ ?_
  · blk_simp [e]; show _ + i.val = _; omega
  · blk_simp [e]

theorem blk_W (t : Fin cfg0.N) (i : Fin 2048) (j : Fin 1024) : iblk m c 3 t (ix2 i j) = W m c i.val j.val := by
  obtain ⟨-, -, -, e, -⟩ := places t
  blk_simp [iblk, e]
  refine (entries_ix (n := 2048) (k := 1024) (φ := .bf16) (m ((c : Thread nD τ).loc main_arg3)) ((win0_3.blk t).view.emb (ix2 i j))).trans ?_
  refine congrArg₂ (W m c) ?_ ?_
  · blk_simp [e]
  · blk_simp [e]

theorem blk_O (t : Fin cfg0.N) (i : Fin 256) (j : Fin 2048) : iblk m c 4 t (ix2 i j) = O m c (256 * t.val + i.val) j.val := by
  obtain ⟨-, -, -, -, e, -⟩ := places t
  blk_simp [iblk, e]
  refine (entries_ix (n := 8192) (k := 2048) (φ := .f32) (m ((c : Thread nD τ).loc main_arg4)) ((win0_4.blk t).view.emb (ix2 i j))).trans ?_
  refine congrArg₂ (O m c) ?_ ?_
  · blk_simp [e]; show _ + i.val = _; omega
  · blk_simp [e]

/-- The window of the wider array holds the block's rows of its first columns. -/
theorem blk_Z (t : Fin cfg0.N) (i : Fin 256) (j : Fin 2048) : X0_5 m c t (ix2 i j) = Z m c (256 * t.val + i.val) j.val := by
  refine Eq.trans ?_ (front_at (m ((c : Thread nD τ).loc main_arg5)) _ _ j.isLt).symm
  obtain ⟨-, -, -, -, -, e, -⟩ := places t
  unfold X0_5 Pipeline.Window.fill
  rw [dif_pos (moved0_5 t (ix2 i j))]
  have at_y : ∀ y : ((cfg0.win 5).xblock (cfg0.grid.coords t)).Idx, (y 0).val = i.val → (y 1).val = j.val →
      iblk m c 5 t y = entries (n := 8192) (k := 2176) (φ := .f32) (m ((c : Thread nD τ).loc main_arg5)) (256 * t.val + i.val) j.val := by
    intro y h0 h1
    blk_simp [iblk, e]
    refine (entries_ix (n := 8192) (k := 2176) (φ := .f32) (m ((c : Thread nD τ).loc main_arg5)) ((win0_5.blk t).view.emb y)).trans ?_
    refine congrArg₂ (entries (n := 8192) (k := 2176) (φ := .f32) (m ((c : Thread nD τ).loc main_arg5))) ?_ ?_
    · refine (Pipeline.Window.rect_emb_val win0_5 t y 0).trans ?_
      rw [e, h0]; show t.val * 256 + i.val = _; omega
    · refine (Pipeline.Window.rect_emb_val win0_5 t y 1).trans ?_
      rw [e, h1]; show 0 * 2048 + j.val = _; omega
  exact at_y _ rfl rfl

theorem blk_G (t : Fin cfg0.N) (j : Fin 1024) : iblk m c 2 t (ix3 0 0 j) = G m c (t.val / 8) j.val := by
  obtain ⟨-, -, e, -⟩ := places t
  blk_simp [iblk, e]
  refine (rows_ix (n := 4) (k := 1024) (φ := .f32) (m ((c : Thread nD τ).loc main_arg2)) ((win0_2.blk t).view.emb (ix3 0 0 j))).trans ?_
  refine congrArg₂ (G m c) ?_ ?_
  · blk_simp [e]; exact Nat.add_zero _
  · blk_simp [e]

theorem branch_at (t : Fin cfg0.N) (i : Fin 256) (j : Fin 1024) :
    k0_pay1 (F := Ideal) (iblk m c 0 t) (k0_pay9 (F := Ideal) (iblk m c 2 t)) (ix2 i j) = branch (DX m c) (G m c) (256 * t.val + i.val) j.val :=
  Cert.KernelDoutIdeal.Value.branch_of (blk_DX m c t) (blk_G m c t) i j

theorem byOut_at (t : Fin cfg0.N) (i : Fin 256) (k : Fin 2048) :
    k0_pay4 (F := Ideal) (iblk m c 0 t) (k0_pay9 (F := Ideal) (iblk m c 2 t)) (iblk m c 3 t) (X0_5 m c t) (ix2 i k) = byOut (DX m c) (G m c) (W m c) (Z m c) (256 * t.val + i.val) k.val :=
  Cert.KernelDoutIdeal.Value.byOut_of (blk_DX m c t) (blk_G m c t) (blk_W m c t) (blk_Z m c t) i k

theorem byGate_at (t : Fin cfg0.N) (i : Fin 256) (k : Fin 2048) :
    k0_pay5 (F := Ideal) (iblk m c 0 t) (k0_pay9 (F := Ideal) (iblk m c 2 t)) (iblk m c 3 t) (X0_5 m c t) (iblk m c 4 t) (ix2 i k) = byGate (DX m c) (G m c) (W m c) (O m c) (Z m c) (256 * t.val + i.val) k.val :=
  Cert.KernelDoutIdeal.Value.byGate_of (blk_DX m c t) (blk_G m c t) (blk_W m c t) (blk_Z m c t) (blk_O m c t) i k

theorem sum_at (t : Fin cfg0.N) (j : Fin 1024) :
    k0_pay6 (F := Ideal) (iblk m c 0 t) (iblk m c 1 t) (ix2 0 j) = ∑ i : Fin 256, (DX m c (256 * t.val + i.val) j.val * Y m c (256 * t.val + i.val) j.val : EReal) :=
  Cert.KernelDoutIdeal.Value.sum_of (blk_DX m c t) (blk_Y m c t) j

/-- What a sequence's first point leaves. -/
theorem outs_A (t : Fin cfg0.N) (h : t.val % 8 = 0) : outsAt0 m c t.val t.isLt
    = (k0_pay4 (F := Ideal) (iblk m c 0 t) (k0_pay9 (F := Ideal) (iblk m c 2 t)) (iblk m c 3 t) (X0_5 m c t), k0_pay5 (F := Ideal) (iblk m c 0 t) (k0_pay9 (F := Ideal) (iblk m c 2 t)) (iblk m c 3 t) (X0_5 m c t) (iblk m c 4 t),
      k0_pay1 (F := Ideal) (iblk m c 0 t) (k0_pay9 (F := Ideal) (iblk m c 2 t)), k0_pay7 (F := Ideal) (iblk m c 0 t) (iblk m c 1 t)) := by
  rw [outsAt0_A m c t h (not_not.mpr h), out_A_6, out_A_7, out_A_8, out_A_9]

/-- What a later point leaves. -/
theorem outs_B (t : Fin cfg0.N) (h : ¬t.val % 8 = 0) : outsAt0 m c t.val t.isLt
    = (k0_pay4 (F := Ideal) (iblk m c 0 t) (k0_pay9 (F := Ideal) (iblk m c 2 t)) (iblk m c 3 t) (X0_5 m c t), k0_pay5 (F := Ideal) (iblk m c 0 t) (k0_pay9 (F := Ideal) (iblk m c 2 t)) (iblk m c 3 t) (X0_5 m c t) (iblk m c 4 t),
      k0_pay1 (F := Ideal) (iblk m c 0 t) (k0_pay9 (F := Ideal) (iblk m c 2 t)), k0_pay8 (F := Ideal) (iblk m c 0 t) (iblk m c 1 t) (outsAt0 m c (t.val - 1) (Nat.lt_of_le_of_lt (Nat.sub_le _ _) t.isLt)).2.2.2) := by
  rw [outsAt0_B m c t h h, out_B_6, out_B_7, out_B_8, out_B_9]

/-- What a point leaves, entry by entry. -/
theorem outs_dO (t : Fin cfg0.N) (i : Fin 256) (k : Fin 2048) : (outsAt0 m c t.val t.isLt).1 (ix2 i k) = byOut (DX m c) (G m c) (W m c) (Z m c) (256 * t.val + i.val) k.val := by
  rw [← byOut_at]
  by_cases h : t.val % 8 = 0
  · rw [outs_A m c t h]
  · rw [outs_B m c t h]

theorem outs_dZ (t : Fin cfg0.N) (i : Fin 256) (k : Fin 2048) : (outsAt0 m c t.val t.isLt).2.1 (ix2 i k) = byGate (DX m c) (G m c) (W m c) (O m c) (Z m c) (256 * t.val + i.val) k.val := by
  rw [← byGate_at]
  by_cases h : t.val % 8 = 0
  · rw [outs_A m c t h]
  · rw [outs_B m c t h]

theorem outs_dY (t : Fin cfg0.N) (i : Fin 256) (j : Fin 1024) : (outsAt0 m c t.val t.isLt).2.2.1 (ix2 i j) = branch (DX m c) (G m c) (256 * t.val + i.val) j.val := by
  rw [← branch_at]
  by_cases h : t.val % 8 = 0
  · rw [outs_A m c t h]
  · rw [outs_B m c t h]

theorem first_sum (t : Fin cfg0.N) (h : t.val % 8 = 0) (j : Fin 1024) : (outsAt0 m c t.val t.isLt).2.2.2 (ix3 0 0 j) = k0_pay6 (F := Ideal) (iblk m c 0 t) (iblk m c 1 t) (ix2 0 j) := by
  rw [outs_A m c t h]
  exact Cert.KernelDoutIdeal.Value.pay7_at _ _ j
theorem later_sum (t : Fin cfg0.N) (h : ¬t.val % 8 = 0) (j : Fin 1024) : (outsAt0 m c t.val t.isLt).2.2.2 (ix3 0 0 j)
    = ((outsAt0 m c (t.val - 1) (Nat.lt_of_le_of_lt (Nat.sub_le _ _) t.isLt)).2.2.2 (ix3 0 0 j) + k0_pay6 (F := Ideal) (iblk m c 0 t) (iblk m c 1 t) (ix2 0 j) : EReal) := by
  rw [outs_B m c t h]
  exact Cert.KernelDoutIdeal.Value.pay8_at _ _ _ j

/-- The gate's column sums after a point. -/
theorem outs_sum (n : ℕ) (h : n < cfg0.N) (j : Fin 1024) : (outsAt0 m c n h).2.2.2 (ix3 0 0 j)
    = down (fun r => DX m c r j.val * Y m c r j.val) (n / 8) (256 * (n % 8) + 256) :=
  down_at 256 8 rfl (fun r => DX m c r j.val * Y m c r j.val) cfg0.N (fun n h => (outsAt0 m c n h).2.2.2 (ix3 0 0 j)) (fun n h => k0_pay6 (F := Ideal) (iblk m c 0 ⟨n, h⟩) (iblk m c 1 ⟨n, h⟩) (ix2 0 j))
    (fun n h => sum_at m c ⟨n, h⟩ j) (fun n h h0 => first_sum m c ⟨n, h⟩ h0 j) (fun n h h0 => later_sum m c ⟨n, h⟩ h0 j) n h

/-- The four results: the gradients by the attention's output, by the gate's argument, by the product, and each sequence's
    column sums for the gate. -/
def dO : FVec Ideal S8192x2048 .bf16 := fun y => byOut (DX m c) (G m c) (W m c) (Z m c) (y 0).val (y 1).val
def dZ : FVec Ideal S8192x2048 .bf16 := fun y => byGate (DX m c) (G m c) (W m c) (O m c) (Z m c) (y 0).val (y 1).val
def dY : FVec Ideal S8192x1024 .bf16 := fun y => branch (DX m c) (G m c) (y 0).val (y 1).val
def gsum : FVec Ideal S4x1x1024 .f32 := fun y => down (fun r => DX m c r (y 2).val * Y m c r (y 2).val) (y 0).val 2048

/-- The arrays the grid leaves. -/
theorem arr_dO : (dats m 0 c).arrAt 6 cfg0.N = dO m c := by
  refine (dats m 0 c).arrAt_eq_of_covers 6 _ (by decide +kernel) fun t hf y => ?_
  obtain ⟨-, -, -, -, -, -, e, -⟩ := places t
  blk_simp
  rw [after0_6]
  refine (congrArg (outsAt0 m c t.val t.isLt).1 (eta (n := 256) (k := 2048) y)).trans ((outs_dO m c t (y 0) (y 1)).trans ?_)
  have e0 : (((win0_6.blk t).view.emb y) 0).val = 256 * t.val + (y 0).val := by blk_simp [e]; omega
  have e1 : (((win0_6.blk t).view.emb y) 1).val = (y 1).val := by blk_simp [e]
  show _ = dO m c ((win0_6.blk t).view.emb y)
  unfold dO
  rw [e0, e1]

theorem arr_dZ : (dats m 0 c).arrAt 7 cfg0.N = dZ m c := by
  refine (dats m 0 c).arrAt_eq_of_covers 7 _ (by decide +kernel) fun t hf y => ?_
  obtain ⟨-, -, -, -, -, -, -, e, -⟩ := places t
  blk_simp
  rw [after0_7]
  refine (congrArg (outsAt0 m c t.val t.isLt).2.1 (eta (n := 256) (k := 2048) y)).trans ((outs_dZ m c t (y 0) (y 1)).trans ?_)
  have e0 : (((win0_7.blk t).view.emb y) 0).val = 256 * t.val + (y 0).val := by blk_simp [e]; omega
  have e1 : (((win0_7.blk t).view.emb y) 1).val = (y 1).val := by blk_simp [e]
  show _ = dZ m c ((win0_7.blk t).view.emb y)
  unfold dZ
  rw [e0, e1]

theorem arr_dY : (dats m 0 c).arrAt 8 cfg0.N = dY m c := by
  refine (dats m 0 c).arrAt_eq_of_covers 8 _ (by decide +kernel) fun t hf y => ?_
  obtain ⟨-, -, -, -, -, -, -, -, e, -⟩ := places t
  blk_simp
  rw [after0_8]
  refine (congrArg (outsAt0 m c t.val t.isLt).2.2.1 (eta (n := 256) (k := 1024) y)).trans ((outs_dY m c t (y 0) (y 1)).trans ?_)
  have e0 : (((win0_8.blk t).view.emb y) 0).val = 256 * t.val + (y 0).val := by blk_simp [e]; omega
  have e1 : (((win0_8.blk t).view.emb y) 1).val = (y 1).val := by blk_simp [e]
  show _ = dY m c ((win0_8.blk t).view.emb y)
  unfold dY
  rw [e0, e1]

/-- The column sums are written out at a sequence's last point. -/
theorem last9 : ∀ t : Fin cfg0.N, (cfg0.win 9).flush t = true → t.val % 8 = 7 := by decide +kernel

/-- The gate's array of sums the grid leaves. -/
theorem arr_sum : (dats m 0 c).arrAt 9 cfg0.N = gsum m c := by
  refine (dats m 0 c).arrAt_eq_of_covers 9 _ (by decide +kernel) fun t hf y => ?_
  have h7 := last9 t hf
  obtain ⟨-, -, -, -, -, -, -, -, -, e⟩ := places t
  blk_simp
  rw [after0_9]
  refine (congrArg (outsAt0 m c t.val t.isLt).2.2.2 (eta3 (k := 1024) y)).trans ((outs_sum m c t.val t.isLt (y 2)).trans ?_)
  have e0 : (((win0_9.blk t).view.emb y) 0).val = t.val / 8 := by blk_simp [e]
  have e1 : (((win0_9.blk t).view.emb y) 2).val = (y 2).val := by blk_simp [e]
  show _ = gsum m c ((win0_9.blk t).view.emb y)
  unfold gsum
  rw [e0, e1, h7]

end Cert.KernelFoxDoutIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelDwin
public import proofs.«01_k».proof.Proof.Gen.KernelDwin.Skeleton
public import proofs.«01_k».proof.Proof.Gen.KernelDwin.Launch
public import proofs.«01_k».proof.Proof.Gen.KernelDwin.Points
public import proofs.«01_k».proof.Proof.Gen.KernelDwin.Frame
public import proofs.«01_k».proof.Proof.Gen.KernelDwinIdeal
public import proofs.«01_k».proof.Proof.Gen.KernelDwinIdeal.Skeleton
public import proofs.«01_k».proof.Proof.Gen.KernelDwinIdeal.Launch
public import proofs.«01_k».proof.Proof.Gen.KernelDwinIdeal.Points
public import proofs.«01_k».proof.Proof.Gen.KernelDwinIdeal.Frame
public import proofs.«01_k».proof.Proof.Gen.KernelDwinIdeal.Value
public import proofs.«01_k».proof.Proof.Gen.KernelDwout
public import proofs.«01_k».proof.Proof.Gen.KernelDwout.Skeleton
public import proofs.«01_k».proof.Proof.Gen.KernelDwout.Launch
public import proofs.«01_k».proof.Proof.Gen.KernelDwout.Points
public import proofs.«01_k».proof.Proof.Gen.KernelDwout.Frame
public import proofs.«01_k».proof.Proof.Gen.KernelDwoutIdeal
public import proofs.«01_k».proof.Proof.Gen.KernelDwoutIdeal.Skeleton
public import proofs.«01_k».proof.Proof.Gen.KernelDwoutIdeal.Launch
public import proofs.«01_k».proof.Proof.Gen.KernelDwoutIdeal.Points
public import proofs.«01_k».proof.Proof.Gen.KernelDwoutIdeal.Frame
public import proofs.«01_k».proof.Proof.Gen.KernelDwoutIdeal.Value
public import proofs.«01_k».proof.Proof.Gen.ReferenceDwinIdeal
public import proofs.«01_k».proof.Proof.Gen.ReferenceDwinIdeal.Run
public import proofs.«01_k».proof.Proof.Gen.ReferenceDwoutIdeal
public import proofs.«01_k».proof.Proof.Gen.ReferenceDwoutIdeal.Run
public import proofs.«01_k».proof.Proof.Gen.KernelDh
public import proofs.«01_k».proof.Proof.Gen.KernelDh.Skeleton
public import proofs.«01_k».proof.Proof.Gen.KernelDh.Launch
public import proofs.«01_k».proof.Proof.Gen.KernelDh.Points
public import proofs.«01_k».proof.Proof.Gen.KernelDh.Frame
public import proofs.«01_k».proof.Proof.Gen.KernelDhIdeal
public import proofs.«01_k».proof.Proof.Gen.KernelDhIdeal.Skeleton
public import proofs.«01_k».proof.Proof.Gen.KernelDhIdeal.Launch
public import proofs.«01_k».proof.Proof.Gen.KernelDhIdeal.Points
public import proofs.«01_k».proof.Proof.Gen.KernelDhIdeal.Frame
public import proofs.«01_k».proof.Proof.Gen.KernelDhIdeal.Value
public import proofs.«01_k».proof.Proof.Gen.ReferenceDhIdeal
public import proofs.«01_k».proof.Proof.Gen.ReferenceDhIdeal.Run
public import proofs.«01_k».proof.Proof.Gen.KernelZ
public import proofs.«01_k».proof.Proof.Gen.KernelZ.Skeleton
public import proofs.«01_k».proof.Proof.Gen.KernelZ.Launch
public import proofs.«01_k».proof.Proof.Gen.KernelZ.Points
public import proofs.«01_k».proof.Proof.Gen.KernelZ.Frame
public import proofs.«01_k».proof.Proof.Gen.KernelZIdeal
public import proofs.«01_k».proof.Proof.Gen.KernelZIdeal.Skeleton
public import proofs.«01_k».proof.Proof.Gen.KernelZIdeal.Launch
public import proofs.«01_k».proof.Proof.Gen.KernelZIdeal.Points
public import proofs.«01_k».proof.Proof.Gen.KernelZIdeal.Frame
public import proofs.«01_k».proof.Proof.Gen.KernelZIdeal.Value
public import proofs.«01_k».proof.Proof.Gen.ReferenceZIdeal
public import proofs.«01_k».proof.Proof.Gen.ReferenceZIdeal.Run
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.KernelDout
public import proofs.«01_k».proof.Proof.Gen.KernelDout.Skeleton
public import proofs.«01_k».proof.Proof.Gen.KernelDout.Launch
public import proofs.«01_k».proof.Proof.Gen.KernelDout.Points
public import proofs.«01_k».proof.Proof.Gen.KernelDout.Frame
public import proofs.«01_k».proof.Proof.Gen.KernelDoutIdeal
public import proofs.«01_k».proof.Proof.Gen.KernelDoutIdeal.Skeleton
public import proofs.«01_k».proof.Proof.Gen.KernelDoutIdeal.Launch
public import proofs.«01_k».proof.Proof.Gen.KernelDoutIdeal.Points
public import proofs.«01_k».proof.Proof.Gen.KernelDoutIdeal.Frame
public import proofs.«01_k».proof.Proof.Gen.KernelDoutIdeal.Value
public import proofs.«01_k».proof.Proof.Gen.ReferenceDoutIdeal
public import proofs.«01_k».proof.Proof.Gen.ReferenceDoutIdeal.Run
public import proofs.«01_k».proof.Proof.Gen.KernelFoxOut
public import proofs.«01_k».proof.Proof.Gen.KernelFoxOut.Skeleton
public import proofs.«01_k».proof.Proof.Gen.KernelFoxOut.Launch
public import proofs.«01_k».proof.Proof.Gen.KernelFoxOut.Points
public import proofs.«01_k».proof.Proof.Gen.KernelFoxOut.Frame
public import proofs.«01_k».proof.Proof.Gen.KernelFoxOutIdeal
public import proofs.«01_k».proof.Proof.Gen.KernelFoxOutIdeal.Skeleton
public import proofs.«01_k».proof.Proof.Gen.KernelFoxOutIdeal.Launch
public import proofs.«01_k».proof.Proof.Gen.KernelFoxOutIdeal.Points
public import proofs.«01_k».proof.Proof.Gen.KernelFoxOutIdeal.Frame
public import proofs.«01_k».proof.Proof.Gen.KernelFoxOutIdeal.Value
public import proofs.«01_k».proof.Proof.Gen.ReferenceFoxOutIdeal
public import proofs.«01_k».proof.Proof.Gen.ReferenceFoxOutIdeal.Run
public import proofs.«01_k».proof.Proof.Gen.KernelFoxDout
public import proofs.«01_k».proof.Proof.Gen.KernelFoxDout.Skeleton
public import proofs.«01_k».proof.Proof.Gen.KernelFoxDout.Launch
public import proofs.«01_k».proof.Proof.Gen.KernelFoxDout.Points
public import proofs.«01_k».proof.Proof.Gen.KernelFoxDout.Frame
public import proofs.«01_k».proof.Proof.Gen.KernelFoxDoutIdeal
public import proofs.«01_k».proof.Proof.Gen.KernelFoxDoutIdeal.Skeleton
public import proofs.«01_k».proof.Proof.Gen.KernelFoxDoutIdeal.Launch
public import proofs.«01_k».proof.Proof.Gen.KernelFoxDoutIdeal.Points
public import proofs.«01_k».proof.Proof.Gen.KernelFoxDoutIdeal.Frame
public import proofs.«01_k».proof.Proof.Gen.KernelFoxDoutIdeal.Value
public import proofs.«01_k».proof.Proof.Gen.ReferenceFoxDoutIdeal
public import proofs.«01_k».proof.Proof.Gen.ReferenceFoxDoutIdeal.Run
public import proofs.«01_k».proof.Proof.Launched
public import proofs.«01_k».proof.Proof.SameText
public import proofs.«01_k».proof.Proof.Finite
public import proofs.«01_k».proof.Proof.KernelVal
public import proofs.«01_k».proof.Proof.RefVal
public import proofs.«01_k».proof.Proof.DwinVal
public import proofs.«01_k».proof.Proof.DwoutVal
public import proofs.«01_k».proof.Proof.ZVal
public import proofs.«01_k».proof.Proof.OutVal
public import proofs.«01_k».proof.Proof.DhVal
public import proofs.«01_k».proof.Proof.DhRef
public import proofs.«01_k».proof.Proof.FiniteBranch
public import proofs.«01_k».proof.Proof.DoutVal
public import proofs.«01_k».proof.Proof.DoutRef
public import proofs.«01_k».proof.Proof.FoxOutVal
public import proofs.«01_k».proof.Proof.FoxDoutVal
public import Idealize.ShloMosaic.Adequacy
public import Idealize.ShloMosaic.Init

@[expose] public section

noncomputable section

namespace Cert.Proof

open Idealize.ShloMosaic Idealize.SL.Sem Cert.Kernel

set_option maxRecDepth 16384

/-- The kernel program runs, its arguments end unchanged and every counter reads zero: the one run, at the words, carried
    over to the program of the same text. -/
theorem frame_kernel : Cert.quiescent_Kernel := by
  intro m ρ _
  have h := Cert.KernelIdeal.Gen.frame_main (F := Bits) m ρ
  have e := congrArg₂ (fun d p => θ_run d (onTc (τ := Cert.Kernel.τ) p) ⟨m, fun _ => 0, ρ⟩) defs_same main_same
  rw [e]
  exact h

/-- The idealized program runs, its arguments end unchanged and every counter reads zero. -/
theorem frame_kernel_ideal : Cert.quiescent_KernelIdeal := fun m ρ _ => Cert.KernelIdeal.Gen.frame_main (F := Ideal) m ρ

/-- The reference runs and its arguments end unchanged; it declares no semaphore. -/
theorem frame_reference : Cert.quiescent_ReferenceIdeal := by
  intro m ρ _
  exact (θ_run Cert.ReferenceIdeal.defs _ _).mono (fun r h => ⟨fun c => ⟨(h c).2.2.2.1, (h c).2.2.2.2⟩, sem_eq_zero_of_no_sems (by decide) r.2⟩)
    (Cert.ReferenceIdeal.Value.run (F := Ideal) m ρ)

/-- On finite arguments the idealized kernel and the reference end with equal results. -/
theorem algebraic : Cert.algebraic_KernelIdeal_ReferenceIdeal_pre_finite (hPre_finite := Cert.Pre_finite.facts) := by
  intro m g m' g' hf hm
  let X : Dev Cert.KernelIdeal.nD → ℕ → ℕ → ℝ := fun c => Cert.Pre_finite.reals (n := 8192) (m := 6144) (m ((c.tc : Thread Cert.KernelIdeal.nD Cert.KernelIdeal.τ).loc Cert.KernelIdeal.main_arg0))
  let Y : Dev Cert.KernelIdeal.nD → ℕ → ℕ → ℝ := fun c => Cert.Pre_finite.reals (n := 8192) (m := 2048) (m ((c.tc : Thread Cert.KernelIdeal.nD Cert.KernelIdeal.τ).loc Cert.KernelIdeal.main_arg1))
  have hx := fun c => Cert.Pre_finite.reals_at (n := 8192) (m := 6144) _ (Cert.Pre_finite.coe_of_bit (s := ⟨2, ![8192, 6144]⟩) _ _ (hf c).1)
  have hy := fun c => Cert.Pre_finite.reals_at (n := 8192) (m := 2048) _ (Cert.Pre_finite.coe_of_bit (s := ⟨2, ![8192, 2048]⟩) _ _ (hf c).2)
  refine ⟨_, _, _, Cert.KernelIdeal.Gen.value_main m g X Y hx hy, ?_⟩
  refine (θ_run Cert.ReferenceIdeal.defs _ _).mono (fun r h c => ?_) (Cert.ReferenceIdeal.Value.run (F := Ideal) m' g')
  have hx' : ∀ (r : Fin 8192) (s : Fin 6144), (StableHlo.launchContents m' c (Proc.devRef .tc Cert.ReferenceIdeal.main_arg0) : FVec Ideal Cert.ReferenceIdeal.S8192x6144 .bf16) (ix2 r s) = ((X c r.val s.val : ℝ) : EReal) :=
    fun r s => (congrFun (hm c).1 (ix2 r s)).trans (hx c r s)
  have hy' : ∀ (r : Fin 8192) (s : Fin 2048), (StableHlo.launchContents m' c (Proc.devRef .tc Cert.ReferenceIdeal.main_arg1) : FVec Ideal Cert.ReferenceIdeal.S8192x2048 .bf16) (ix2 r s) = ((Y c r.val s.val : ℝ) : EReal) :=
    fun r s => (congrFun (hm c).2 (ix2 r s)).trans (hy c r s)
  exact ⟨(h c).1.trans (Cert.ReferenceIdeal.Value.ref_dq _ (X c) (Y c) hx' hy' _ _ _), (h c).2.1.trans (Cert.ReferenceIdeal.Value.ref_dk _ (X c) (Y c) hx' hy' _ _ _),
    (h c).2.2.1.trans (Cert.ReferenceIdeal.Value.ref_dv _ (X c) (Y c) hx' hy' _ _ _ _), (h c).2.2.2.1, (h c).2.2.2.2⟩

/-- The reference of the in-projection weights' gradient runs and its arguments end unchanged; it declares no semaphore. -/
theorem frame_reference_dwin : Cert.quiescent_ReferenceDwinIdeal := by
  intro m ρ _
  exact (θ_run Cert.ReferenceDwinIdeal.defs _ _).mono (fun r h => ⟨fun c => (h c).2, sem_eq_zero_of_no_sems (by decide) r.2⟩)
    (Cert.ReferenceDwinIdeal.Value.run (F := Ideal) m ρ)

/-- The idealized kernel and the reference end with equal gradients of the in-projection weights, whatever the arguments. -/
theorem algebraic_dwin : Cert.algebraic_KernelDwinIdeal_ReferenceDwinIdeal := by
  intro m g m' g' _ hm
  refine ⟨fun c => Cert.KernelDwinIdeal.Value.product m c, (θ_run Cert.KernelDwinIdeal.defs _ _).mono (fun r h c => ?_) (Cert.KernelDwinIdeal.Value.run (F := Ideal) m g),
    (θ_run Cert.ReferenceDwinIdeal.defs _ _).mono (fun r h c => ?_) (Cert.ReferenceDwinIdeal.Value.run (F := Ideal) m' g')⟩
  · exact ⟨(h c).1.trans (Cert.KernelDwinIdeal.Value.arr m c), (h c).2⟩
  · refine ⟨(h c).1.trans ?_, (h c).2⟩
    rw [(hm c).1, (hm c).2]
    exact Cert.ReferenceDwinIdeal.Value.ref _ _ _ _ _ _

/-- The reference of the out-projection weights' gradient runs and its arguments end unchanged; it declares no semaphore. -/
theorem frame_reference_dwout : Cert.quiescent_ReferenceDwoutIdeal := by
  intro m ρ _
  exact (θ_run Cert.ReferenceDwoutIdeal.defs _ _).mono (fun r h => ⟨fun c => (h c).2, sem_eq_zero_of_no_sems (by decide) r.2⟩)
    (Cert.ReferenceDwoutIdeal.Value.run (F := Ideal) m ρ)

/-- The idealized kernel and the reference end with equal gradients of the out-projection weights, whatever the arguments. -/
theorem algebraic_dwout : Cert.algebraic_KernelDwoutIdeal_ReferenceDwoutIdeal := by
  intro m g m' g' _ hm
  refine ⟨fun c => Cert.KernelDwoutIdeal.Value.product m c, (θ_run Cert.KernelDwoutIdeal.defs _ _).mono (fun r h c => ?_) (Cert.KernelDwoutIdeal.Value.run (F := Ideal) m g),
    (θ_run Cert.ReferenceDwoutIdeal.defs _ _).mono (fun r h c => ?_) (Cert.ReferenceDwoutIdeal.Value.run (F := Ideal) m' g')⟩
  · exact ⟨(h c).1.trans (Cert.KernelDwoutIdeal.Value.arr m c), (h c).2⟩
  · refine ⟨(h c).1.trans ?_, (h c).2⟩
    rw [(hm c).1, (hm c).2]
    exact Cert.ReferenceDwoutIdeal.Value.ref _ _ _ _ _ _

/-- The reference of the modulated normalization times the gate's weights runs and its arguments end unchanged; it declares no
    semaphore. -/
theorem frame_reference_z : Cert.quiescent_ReferenceZIdeal := by
  intro m ρ _
  exact (θ_run Cert.ReferenceZIdeal.defs _ _).mono (fun r h => ⟨fun c => (h c).2, sem_eq_zero_of_no_sems (by decide) r.2⟩)
    (Cert.ReferenceZIdeal.Value.run (F := Ideal) m ρ)

/-- The idealized kernel and the reference end with equal products of the modulated rows and the gate's weights, whatever the
    arguments. -/
theorem algebraic_z : Cert.algebraic_KernelZIdeal_ReferenceZIdeal := by
  intro m g m' g' _ hm
  refine ⟨fun c => Cert.KernelZIdeal.Value.z m c, (θ_run Cert.KernelZIdeal.defs _ _).mono (fun r h c => ?_) (Cert.KernelZIdeal.Value.run_blocks (F := Ideal) m g),
    (θ_run Cert.ReferenceZIdeal.defs _ _).mono (fun r h c => ?_) (Cert.ReferenceZIdeal.Value.run (F := Ideal) m' g')⟩
  · exact ⟨(h c).1.trans (Cert.KernelZIdeal.Value.arr m c), (h c).2⟩
  · refine ⟨(h c).1.trans ?_, (h c).2⟩
    rw [(hm c).1, (hm c).2.1, (hm c).2.2.1, (hm c).2.2.2.1, (hm c).2.2.2.2]
    exact Cert.ReferenceZIdeal.Value.ref _ _ _ _ _

/-- The reference of the gated out-projection runs and its arguments end unchanged; it declares no semaphore. -/
theorem frame_reference_out : Cert.quiescent_ReferenceOutIdeal := by
  intro m ρ _
  exact (θ_run Cert.ReferenceOutIdeal.defs _ _).mono (fun r h => ⟨fun c => (h c).2.2.2, sem_eq_zero_of_no_sems (by decide) r.2⟩)
    (Cert.ReferenceOutIdeal.Value.run (F := Ideal) m ρ)

/-- The idealized kernel and the reference end with equal residual streams, products and gated rows, whatever the arguments. -/
theorem algebraic_out : Cert.algebraic_KernelOutIdeal_ReferenceOutIdeal := by
  intro m g m' g' _ hm
  refine ⟨fun c => Cert.KernelOutIdeal.Value.xn m c, fun c => Cert.KernelOutIdeal.Value.y m c, fun c => Cert.KernelOutIdeal.Value.u m c,
    (θ_run Cert.KernelOutIdeal.defs _ _).mono (fun r h c => ?_) (Cert.KernelOutIdeal.Value.run_blocks (F := Ideal) m g),
    (θ_run Cert.ReferenceOutIdeal.defs _ _).mono (fun r h c => ?_) (Cert.ReferenceOutIdeal.Value.run (F := Ideal) m' g')⟩
  · exact ⟨(h c).1.trans (Cert.KernelOutIdeal.Value.arr_xn m c), (h c).2.1.trans (Cert.KernelOutIdeal.Value.arr_y m c), (h c).2.2.1.trans (Cert.KernelOutIdeal.Value.arr_u m c), (h c).2.2.2⟩
  · refine ⟨(h c).1.trans ?_, (h c).2.1.trans ?_, (h c).2.2.1.trans ?_, (h c).2.2.2⟩
    · rw [(hm c).1, (hm c).2.1, (hm c).2.2.1, (hm c).2.2.2.1, (hm c).2.2.2.2]
      exact Cert.ReferenceOutIdeal.Value.ref_xn _ _ _ _ _
    · rw [(hm c).1, (hm c).2.1, (hm c).2.2.1]
      exact Cert.ReferenceOutIdeal.Value.ref_y _ _ _
    · rw [(hm c).1, (hm c).2.1]
      exact Cert.ReferenceOutIdeal.Value.ref_u _ _

/-- The reference of the gradients through the in-projection and the norm runs and its arguments end unchanged; it declares no
    semaphore. -/
theorem frame_reference_dh : Cert.quiescent_ReferenceDhIdeal := by
  intro m ρ _
  exact (θ_run Cert.ReferenceDhIdeal.defs _ _).mono (fun r h => ⟨fun c => (h c).2.2.2, sem_eq_zero_of_no_sems (by decide) r.2⟩)
    (Cert.ReferenceDhIdeal.Value.run (F := Ideal) m ρ)

/-- The idealized kernel and the reference end with equal gradients by the norm's input, by its factor and by its shift, whatever
    the arguments. -/
theorem algebraic_dh : Cert.algebraic_KernelDhIdeal_ReferenceDhIdeal := by
  intro m g m' g' _ hm
  refine ⟨fun c => Cert.KernelDhIdeal.Value.dx m c, fun c => Cert.KernelDhIdeal.Value.psum m c, fun c => Cert.KernelDhIdeal.Value.ssum m c,
    (θ_run Cert.KernelDhIdeal.defs _ _).mono (fun r h c => ?_) (Cert.KernelDhIdeal.Value.run_blocks (F := Ideal) m g),
    (θ_run Cert.ReferenceDhIdeal.defs _ _).mono (fun r h c => ?_) (Cert.ReferenceDhIdeal.Value.run (F := Ideal) m' g')⟩
  · exact ⟨(h c).1.trans (Cert.KernelDhIdeal.Value.arr_dx m c), (h c).2.1.trans (Cert.KernelDhIdeal.Value.arr_p m c), (h c).2.2.1.trans (Cert.KernelDhIdeal.Value.arr_s m c), (h c).2.2.2⟩
  · refine ⟨(h c).1.trans ((Cert.ReferenceDhIdeal.Value.res_eq m' c).trans ?_), (h c).2.1.trans ?_, (h c).2.2.1.trans ?_, (h c).2.2.2⟩
    · rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2]
      exact Cert.ReferenceDhIdeal.Value.ref_dx _ _ _ _ _ _ _ _ _
    · rw [(hm c).1, (hm c).2.1, (hm c).2.2.1, (hm c).2.2.2.1, (hm c).2.2.2.2.1, (hm c).2.2.2.2.2.1]
      exact Cert.ReferenceDhIdeal.Value.ref_p _ _ _ _ _ _
    · rw [(hm c).1, (hm c).2.1, (hm c).2.2.1, (hm c).2.2.2.1, (hm c).2.2.2.2.1]
      exact Cert.ReferenceDhIdeal.Value.ref_s _ _ _ _ _

theorem frame_reference_dout : Cert.quiescent_ReferenceDoutIdeal := by
  intro m ρ _
  exact (θ_run Cert.ReferenceDoutIdeal.defs _ _).mono (fun r h => ⟨fun c => (h c).2.2.2.2, sem_eq_zero_of_no_sems (by decide) r.2⟩)
    (Cert.ReferenceDoutIdeal.Value.run (F := Ideal) m ρ)

/-- On finite `dxo`, gates, weights and `o` the idealized kernel and the reference end with equal gradients by the attention's output,
    by the gate's argument and by the product, and with equal sums for the gates. -/
theorem algebraic_dout : Cert.algebraic_KernelDoutIdeal_ReferenceDoutIdeal_pre_finite_branch (hPre_finite_branch := Cert.Pre_finite_branch.facts) := by
  intro m g m' g' hf hm
  refine ⟨fun c => Cert.KernelDoutIdeal.Value.dO m c, fun c => Cert.KernelDoutIdeal.Value.dZ m c, fun c => Cert.KernelDoutIdeal.Value.dY m c, fun c => Cert.KernelDoutIdeal.Value.gsum m c,
    (θ_run Cert.KernelDoutIdeal.defs _ _).mono (fun r h c => ?_) (Cert.KernelDoutIdeal.Value.run_blocks (F := Ideal) m g),
    (θ_run Cert.ReferenceDoutIdeal.defs _ _).mono (fun r h c => ?_) (Cert.ReferenceDoutIdeal.Value.run (F := Ideal) m' g')⟩
  · exact ⟨(h c).1.trans (Cert.KernelDoutIdeal.Value.arr_dO m c), (h c).2.1.trans (Cert.KernelDoutIdeal.Value.arr_dZ m c), (h c).2.2.1.trans (Cert.KernelDoutIdeal.Value.arr_dY m c), (h c).2.2.2.1.trans (Cert.KernelDoutIdeal.Value.arr_sum m c), (h c).2.2.2.2⟩
  · refine ⟨(h c).1.trans ?_, (h c).2.1.trans ?_, (h c).2.2.1.trans ?_, (h c).2.2.2.1.trans ?_, (h c).2.2.2.2⟩
    · rw [(hm c).1, (hm c).2.2.1, (hm c).2.2.2.1, (hm c).2.2.2.2.2]
      exact Cert.ReferenceDoutIdeal.Value.ref_do _ _ _ _
    · rw [(hm c).1, (hm c).2.2.1, (hm c).2.2.2.1, (hm c).2.2.2.2.1, (hm c).2.2.2.2.2]
      exact Cert.ReferenceDoutIdeal.Value.ref_dz _ _ _ _ _ (Cert.Pre_finite_branch.real_of_bit _ _ (hf c).1) (Cert.Pre_finite_branch.real_of_bit _ _ (hf c).2.1)
        (fun i => ⟨_, (Cert.Pre_finite.coe_of_bit _ _ (hf c).2.2.1 i).symm⟩) (Cert.Pre_finite_branch.real_of_bit _ _ (hf c).2.2.2)
    · rw [(hm c).1, (hm c).2.2.1]
      exact Cert.ReferenceDoutIdeal.Value.ref_dy _ _
    · rw [(hm c).1, (hm c).2.1]
      exact Cert.ReferenceDoutIdeal.Value.ref_sum _ _

theorem frame_reference_fox_out : Cert.quiescent_ReferenceFoxOutIdeal := by
  intro m ρ _
  exact (θ_run Cert.ReferenceFoxOutIdeal.defs _ _).mono (fun r h => ⟨fun c => (h c).2.2.2, sem_eq_zero_of_no_sems (by decide) r.2⟩)
    (Cert.ReferenceFoxOutIdeal.Value.run (F := Ideal) m ρ)

/-- Where the gate's columns are the first of a wider array, the idealized kernel and the reference end with equal residual streams,
    products and gated rows, whatever the arguments. -/
theorem algebraic_fox_out : Cert.algebraic_KernelFoxOutIdeal_ReferenceFoxOutIdeal := by
  intro m g m' g' _ hm
  refine ⟨fun c => Cert.KernelFoxOutIdeal.Value.xn m c, fun c => Cert.KernelFoxOutIdeal.Value.y m c, fun c => Cert.KernelFoxOutIdeal.Value.u m c,
    (θ_run Cert.KernelFoxOutIdeal.defs _ _).mono (fun r h c => ?_) (Cert.KernelFoxOutIdeal.Value.run_blocks (F := Ideal) m g),
    (θ_run Cert.ReferenceFoxOutIdeal.defs _ _).mono (fun r h c => ?_) (Cert.ReferenceFoxOutIdeal.Value.run (F := Ideal) m' g')⟩
  · exact ⟨(h c).1.trans (Cert.KernelFoxOutIdeal.Value.arr_xn m c), (h c).2.1.trans (Cert.KernelFoxOutIdeal.Value.arr_y m c), (h c).2.2.1.trans (Cert.KernelFoxOutIdeal.Value.arr_u m c), (h c).2.2.2⟩
  · refine ⟨(h c).1.trans ?_, (h c).2.1.trans ?_, (h c).2.2.1.trans ?_, (h c).2.2.2⟩
    · rw [(hm c).1, (hm c).2.1, (hm c).2.2.1, (hm c).2.2.2.1, (hm c).2.2.2.2]
      exact Cert.ReferenceOutIdeal.Value.ref_xn _ _ _ _ _
    · rw [(hm c).1, (hm c).2.1, (hm c).2.2.1]
      exact Cert.ReferenceOutIdeal.Value.ref_y _ _ _
    · rw [(hm c).1, (hm c).2.1]
      exact Cert.ReferenceOutIdeal.Value.ref_u _ _

theorem frame_reference_fox_dout : Cert.quiescent_ReferenceFoxDoutIdeal := by
  intro m ρ _
  exact (θ_run Cert.ReferenceFoxDoutIdeal.defs _ _).mono (fun r h => ⟨fun c => (h c).2.2.2.2, sem_eq_zero_of_no_sems (by decide) r.2⟩)
    (Cert.ReferenceFoxDoutIdeal.Value.run (F := Ideal) m ρ)

/-- The same of the backward, on finite `dxo`, gates, weights and `o`. -/
theorem algebraic_fox_dout : Cert.algebraic_KernelFoxDoutIdeal_ReferenceFoxDoutIdeal_pre_finite_fox_branch (hPre_finite_fox_branch := Cert.Pre_finite_fox_branch.facts) := by
  intro m g m' g' hf hm
  refine ⟨fun c => Cert.KernelFoxDoutIdeal.Value.dO m c, fun c => Cert.KernelFoxDoutIdeal.Value.dZ m c, fun c => Cert.KernelFoxDoutIdeal.Value.dY m c, fun c => Cert.KernelFoxDoutIdeal.Value.gsum m c,
    (θ_run Cert.KernelFoxDoutIdeal.defs _ _).mono (fun r h c => ?_) (Cert.KernelFoxDoutIdeal.Value.run_blocks (F := Ideal) m g),
    (θ_run Cert.ReferenceFoxDoutIdeal.defs _ _).mono (fun r h c => ?_) (Cert.ReferenceFoxDoutIdeal.Value.run (F := Ideal) m' g')⟩
  · exact ⟨(h c).1.trans (Cert.KernelFoxDoutIdeal.Value.arr_dO m c), (h c).2.1.trans (Cert.KernelFoxDoutIdeal.Value.arr_dZ m c), (h c).2.2.1.trans (Cert.KernelFoxDoutIdeal.Value.arr_dY m c), (h c).2.2.2.1.trans (Cert.KernelFoxDoutIdeal.Value.arr_sum m c), (h c).2.2.2.2⟩
  · refine ⟨(h c).1.trans ?_, (h c).2.1.trans ?_, (h c).2.2.1.trans ?_, (h c).2.2.2.1.trans ?_, (h c).2.2.2.2⟩
    · rw [(hm c).1, (hm c).2.2.1, (hm c).2.2.2.1, (hm c).2.2.2.2.2]
      exact Cert.ReferenceDoutIdeal.Value.ref_do _ _ _ _
    · rw [(hm c).1, (hm c).2.2.1, (hm c).2.2.2.1, (hm c).2.2.2.2.1, (hm c).2.2.2.2.2]
      exact Cert.ReferenceDoutIdeal.Value.ref_dz _ _ _ _ _ (Cert.Pre_finite_branch.real_of_bit _ _ (hf c).1) (Cert.Pre_finite_branch.real_of_bit _ _ (hf c).2.1)
        (fun i => ⟨_, (Cert.Pre_finite.coe_of_bit _ _ (hf c).2.2.1 i).symm⟩) (Cert.Pre_finite_branch.real_of_bit _ _ (hf c).2.2.2)
    · rw [(hm c).1, (hm c).2.2.1]
      exact Cert.ReferenceDoutIdeal.Value.ref_dy _ _
    · rw [(hm c).1, (hm c).2.1]
      exact Cert.ReferenceDoutIdeal.Value.ref_sum _ _

theorem claim : Cert.Claim := ⟨Cert.Kernel.Gen.facts, Cert.KernelIdeal.Gen.facts, Cert.ReferenceIdeal.Gen.facts, Cert.KernelDwin.Gen.facts, Cert.KernelDwinIdeal.Gen.facts,
  Cert.ReferenceDwinIdeal.Gen.facts, Cert.KernelDwout.Gen.facts, Cert.KernelDwoutIdeal.Gen.facts, Cert.ReferenceDwoutIdeal.Gen.facts,
  Cert.KernelZ.Gen.facts, Cert.KernelZIdeal.Gen.facts, Cert.ReferenceZIdeal.Gen.facts,
  Cert.KernelOut.Gen.facts, Cert.KernelOutIdeal.Gen.facts, Cert.ReferenceOutIdeal.Gen.facts,
  Cert.KernelDh.Gen.facts, Cert.KernelDhIdeal.Gen.facts, Cert.ReferenceDhIdeal.Gen.facts,
  Cert.KernelDout.Gen.facts, Cert.KernelDoutIdeal.Gen.facts, Cert.ReferenceDoutIdeal.Gen.facts,
  Cert.KernelFoxOut.Gen.facts, Cert.KernelFoxOutIdeal.Gen.facts, Cert.ReferenceFoxOutIdeal.Gen.facts, Cert.KernelFoxDout.Gen.facts, Cert.KernelFoxDoutIdeal.Gen.facts, Cert.ReferenceFoxDoutIdeal.Gen.facts, Cert.Pre_finite.facts, Cert.Pre_finite_branch.facts, Cert.Pre_finite_fox_branch.facts,
  frame_kernel, frame_kernel_ideal, fun m g _ => frame_kernel_ideal m g trivial, frame_reference, fun m g _ => frame_reference m g trivial,
  fun m g _ => Cert.KernelDwin.Gen.frame m g, fun m g _ => Cert.KernelDwinIdeal.Gen.frame m g, frame_reference_dwin,
  fun m g _ => Cert.KernelDwout.Gen.frame m g, fun m g _ => Cert.KernelDwoutIdeal.Gen.frame m g, frame_reference_dwout,
  fun m g _ => Cert.KernelZ.Gen.frame m g, fun m g _ => Cert.KernelZIdeal.Gen.frame m g, frame_reference_z,
  fun m g _ => Cert.KernelOut.Gen.frame m g, fun m g _ => Cert.KernelOutIdeal.Gen.frame m g, frame_reference_out,
  fun m g _ => Cert.KernelDh.Gen.frame m g, fun m g _ => Cert.KernelDhIdeal.Gen.frame m g, frame_reference_dh,
  fun m g _ => Cert.KernelDout.Gen.frame m g, fun m g _ => Cert.KernelDoutIdeal.Gen.frame m g, fun m g _ => Cert.KernelDoutIdeal.Gen.frame m g,
  frame_reference_dout, fun m g _ => frame_reference_dout m g trivial,
  fun m g _ => Cert.KernelFoxOut.Gen.frame m g, fun m g _ => Cert.KernelFoxOutIdeal.Gen.frame m g, frame_reference_fox_out,
  fun m g _ => Cert.KernelFoxDout.Gen.frame m g, fun m g _ => Cert.KernelFoxDoutIdeal.Gen.frame m g, fun m g _ => Cert.KernelFoxDoutIdeal.Gen.frame m g,
  frame_reference_fox_dout, fun m g _ => frame_reference_fox_dout m g trivial,
  trivial, algebraic, trivial, algebraic_dwin, trivial, algebraic_dwout,
  trivial, algebraic_z, trivial, algebraic_out, trivial, algebraic_dh, trivial, algebraic_dout,
  trivial, algebraic_fox_out, trivial, algebraic_fox_dout⟩

end Cert.Proof

end
